-- ==== Defs.lean ====
def Pre_Kernel [hPre_codes_ok : Cert.Pre_codes_ok.Facts] (m : (ℓ : Loc Cert.Kernel.nD Cert.Kernel.τ Cert.Kernel.sig) → Buf (Elt Bits) ℓ) : Prop :=
  ∀ c : Dev Cert.Kernel.nD,
    (Cert.Pre_codes_ok.fn (F := Bits) (m ((c.tc : Thread Cert.Kernel.nD Cert.Kernel.τ).loc Cert.Kernel.main_arg0))) = (fun _ => 1#1)

def Pre_KernelIdeal [hPre_codes_ok : Cert.Pre_codes_ok.Facts] (m : (ℓ : Loc Cert.KernelIdeal.nD Cert.KernelIdeal.τ Cert.KernelIdeal.sig) → Buf (Elt Ideal) ℓ) : Prop :=
  ∀ c : Dev Cert.KernelIdeal.nD,
    (Cert.Pre_codes_ok.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codes_ok [hPre_codes_ok : Cert.Pre_codes_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codes_ok.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_codes_ok : Cert.Pre_codes_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_codes_ok : Cert.Pre_codes_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_codes_ok [hReferenceIdeal : Cert.ReferenceIdeal.Facts] [hPre_codes_ok : Cert.Pre_codes_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codes_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_codes_ok : Cert.Pre_codes_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_codes_ok : Cert.Pre_codes_ok.Facts),
    quiescent_Kernel (hKernel := hKernel) (hPre_codes_ok := hPre_codes_ok)
    ∧ quiescent_KernelIdeal (hKernelIdeal := hKernelIdeal) (hPre_codes_ok := hPre_codes_ok)
    ∧ quiescent_ReferenceIdeal (hReferenceIdeal := hReferenceIdeal)
    ∧ quiescent_ReferenceIdeal_pre_codes_ok (hReferenceIdeal := hReferenceIdeal) (hPre_codes_ok := hPre_codes_ok)
    ∧ preserves_Kernel_KernelIdeal
    ∧ algebraic_KernelIdeal_ReferenceIdeal (hKernelIdeal := hKernelIdeal) (hReferenceIdeal := hReferenceIdeal) (hPre_codes_ok := hPre_codes_ok)
-- ==== Pre_codes_ok.lean ====
abbrev S8294400 : Shape := ⟨1, ![8294400]⟩
abbrev S259200 : Shape := ⟨1, ![259200]⟩
abbrev S_ : Shape := ⟨0, ![]⟩

class Facts : Prop where
  slices_S8294400_S259200_8035200 : S8294400.Slices ![8035200] S259200
  bcast_S_S259200 : S_.BroadcastsInDim S259200 (![] : Fin 0 → Fin S259200.rank)
  natLt_1_32 : 1 < 32
  reducesTo_S259200_S_d0 : S259200.ReducesTo [0] S_
  h_S_ : 0 < S_.numel
  bcast_S_S8294400 : S_.BroadcastsInDim S8294400 (![] : Fin 0 → Fin S8294400.rank)

variable [Facts]

def fn {F : FTy → Type} [FloatOps F] (main_arg0 : IVec S8294400 32) : IVec S8294400 1 :=
  let main_v0 : IVec S259200 32 := (extractStridedSlice S259200 ![8035200] · slices_S8294400_S259200_8035200) main_arg0
  let main_c : IVec S_ 32 := constantI S_ 32 16#32
  let main_v1 : IVec S259200 32 := broadcastInDim S259200 ![] bcast_S_S259200 main_c
  let main_v2 : IVec S259200 32 := Host.shrsi main_v0 main_v1
  let main_c_0 : IVec S_ 32 := constantI S_ 32 31#32
  let main_v3 : IVec S259200 32 := broadcastInDim S259200 ![] bcast_S_S259200 main_c_0
  let main_v4 : IVec S259200 32 := andi main_v2 main_v3
  let main_c_1 : IVec S_ 32 := constantI S_ 32 31#32
  let main_v5 : IVec S259200 32 := broadcastInDim S259200 ![] bcast_S_S259200 main_c_1
  let main_v6 : IVec S259200 1 := cmpi .eq main_v4 main_v5
  let main_v7 : IVec S259200 32 := (extui 32 · natLt_1_32) main_v6
  let main_c_2 : IVec S_ 32 := constantI S_ 32 0#32
  let main_v8 : IVec S_ 32 := (fun x v => Host.reduce IntOp.addi x v reducesTo_S259200_S_d0 h_S_) main_v7 main_c_2
  let main_c_3 : IVec S_ 32 := constantI S_ 32 0#32
  let main_v9 : IVec S8294400 32 := broadcastInDim S8294400 ![] bcast_S_S8294400 main_c_3
  let main_v10 : IVec S8294400 1 := cmpi .sge main_arg0 main_v9
  let main_c_4 : IVec S_ 32 := constantI S_ 32 1639972864#32
  let main_v11 : IVec S8294400 32 := broadcastInDim S8294400 ![] bcast_S_S8294400 main_c_4
  let main_v12 : IVec S8294400 1 := cmpi .slt main_arg0 main_v11
  let main_v13 : IVec S8294400 1 := andi main_v10 main_v12
  let main_c_5 : IVec S_ 32 := constantI S_ 32 259072#32
  let main_v14 : IVec S_ 1 := cmpi .sle main_v8 main_c_5
  let main_v15 : IVec S8294400 1 := broadcastInDim S8294400 ![] bcast_S_S8294400 main_v14
  let main_v16 : IVec S8294400 1 := andi main_v13 main_v15
  main_v16
-- ==== Kernel.lean ====
abbrev S8294400 : Shape := ⟨1, ![8294400]⟩
abbrev S265420800 : Shape := ⟨1, ![265420800]⟩
abbrev S32x32 : Shape := ⟨2, ![32, 32]⟩
abbrev S3200 : Shape := ⟨1, ![3200]⟩
abbrev S25x128 : Shape := ⟨2, ![25, 128]⟩
abbrev S32 : Shape := ⟨1, ![32]⟩
abbrev S_ : Shape := ⟨0, ![]⟩
abbrev S16 : Shape := ⟨1, ![16]⟩
abbrev S1x16 : Shape := ⟨2, ![1, 16]⟩
abbrev S128 : Shape := ⟨1, ![128]⟩
abbrev S1x128 : Shape := ⟨2, ![1, 128]⟩
abbrev S1x32 : Shape := ⟨2, ![1, 32]⟩
abbrev S32x16 : Shape := ⟨2, ![32, 16]⟩
abbrev S265453568 : Shape := ⟨1, ![265453568]⟩
abbrev S64 : Shape := ⟨1, ![64]⟩
abbrev S800 : Shape := ⟨1, ![800]⟩
abbrev S1024 : Shape := ⟨1, ![1024]⟩
abbrev S8x128 : Shape := ⟨2, ![8, 128]⟩
abbrev S512 : Shape := ⟨1, ![512]⟩
abbrev S65536 : Shape := ⟨1, ![65536]⟩
abbrev S1 : Shape := ⟨1, ![1]⟩
abbrev S1x1 : Shape := ⟨2, ![1, 1]⟩

abbrev nBuf : Table → Nat
  | .hbm => 16
  | .local .scVector .vmem => 13
  | _ => 0

abbrev bufTy : (tb : Table) → Fin (nBuf tb) → BufTy
  | .hbm, ⟨0, _⟩ => ⟨S8294400, .i32⟩
  | .hbm, ⟨1, _⟩ => ⟨S265420800, .i32⟩
  | .hbm, ⟨2, _⟩ => ⟨S32x32, .i32⟩
  | .hbm, ⟨3, _⟩ => ⟨S32x16, .f32⟩
  | .hbm, ⟨4, _⟩ => ⟨S265453568, .i32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x1, .f32⟩
  | .local .scVector .vmem, ⟨0, _⟩ => ⟨S3200, .i32⟩
  | .local .scVector .vmem, ⟨1, _⟩ => ⟨S25x128, .i32⟩
  | .local .scVector .vmem, ⟨2, _⟩ => ⟨S32, .i32⟩
  | .local .scVector .vmem, ⟨3, _⟩ => ⟨S32x32, .i32⟩
  | .local .scVector .vmem, ⟨4, _⟩ => ⟨S64, .i32⟩
  | .local .scVector .vmem, ⟨5, _⟩ => ⟨S800, .i32⟩
  | .local .scVector .vmem, ⟨6, _⟩ => ⟨S800, .i32⟩
  | .local .scVector .vmem, ⟨7, _⟩ => ⟨S800, .i32⟩
  | .local .scVector .vmem, ⟨8, _⟩ => ⟨S1024, .i32⟩
  | .local .scVector .vmem, ⟨9, _⟩ => ⟨S8x128, .i32⟩
  | .local .scVector .vmem, ⟨10, _⟩ => ⟨S512, .i32⟩
  | .local .scVector .vmem, ⟨11, _⟩ => ⟨S65536, .i32⟩
  | .local .scVector .vmem, ⟨12, _⟩ => ⟨S16, .f32⟩
  | _, _ => ⟨S8294400, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_arg0_scv : Ref sig .scVector := ⟨.hbm, 0, rfl⟩
abbrev main_v0_0_scv : Ref sig .scVector := ⟨.hbm, 1, rfl⟩
abbrev main_v0_1_scv : Ref sig .scVector := ⟨.hbm, 2, rfl⟩
abbrev main_v1_0_scv : Ref sig .scVector := ⟨.hbm, 3, rfl⟩
abbrev main_v1_1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc1_scratch3 : Ref sig .scVector := ⟨.vmem, 6, rfl⟩
abbrev cc1_scratch4 : Ref sig .scVector := ⟨.vmem, 7, rfl⟩
abbrev cc1_scratch5 : Ref sig .scVector := ⟨.vmem, 8, rfl⟩
abbrev cc1_scratch6 : Ref sig .scVector := ⟨.vmem, 9, rfl⟩
abbrev cc1_scratch7 : Ref sig .scVector := ⟨.vmem, 10, rfl⟩
abbrev cc1_scratch8 : Ref sig .scVector := ⟨.vmem, 11, rfl⟩
abbrev cc1_scratch9 : Ref sig .scVector := ⟨.vmem, 12, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c81_i32 : BitVec 32 := 81#32
  let v7 : BitVec 32 := Scalar.addi c0_i32_2 c81_i32
  let c1_i32 : BitVec 32 := 1#32
  ⟨c0_i32_2, v7, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c259200_i32 : BitVec 32 := 259200#32
  let v8 : BitVec 32 := Scalar.muli v1 c259200_i32
  let c0_i32_2 : BitVec 32 := 0#32
  let c1_i32 : BitVec 32 := 1#32
  let arg9 : BitVec 32 := Scf.iv c0_i32_2 c1_i32 k0_t1
  let c3200_i32 : BitVec 32 := 3200#32
  let v9 : BitVec 32 := Scalar.muli arg9 c3200_i32
  let v10 : BitVec 32 := Scalar.addi v8 v9
  ![v10.toNat]
@[reducible] def k0_t2_loop : Scf.Loop 32 :=
  let c0_i32_5 : BitVec 32 := 0#32
  let c8_i32 : BitVec 32 := 8#32
  let v11 : BitVec 32 := Scalar.addi c0_i32_5 c8_i32
  let c1_i32_6 : BitVec 32 := 1#32
  ⟨c0_i32_5, v11, c1_i32_6⟩
def k0_off2 (k0_t2 : Fin k0_t2_loop.trips) : Fin 1 → Nat :=
  let c0_i32_284 : BitVec 32 := 0#32
  let c0_i32_5 : BitVec 32 := 0#32
  let c1_i32_6 : BitVec 32 := 1#32
  let arg10 : BitVec 32 := Scf.iv c0_i32_5 c1_i32_6 k0_t2
  let c16_i32_283 : BitVec 32 := 16#32
  let v236 : BitVec 32 := Scalar.muli arg10 c16_i32_283
  let v237 : BitVec 32 := Scalar.addi c0_i32_284 v236
  let v238 : Index := Scalar.indexCast v237
  ![v238.toNat]
def k0_off3 (k0_t2 : Fin k0_t2_loop.trips) : Fin 2 → Nat :=
  let c0_i32_289 : BitVec 32 := 0#32
  let v255 : Index := Scalar.indexCast c0_i32_289
  let c0_i32_5 : BitVec 32 := 0#32
  let c1_i32_6 : BitVec 32 := 1#32
  let arg10 : BitVec 32 := Scf.iv c0_i32_5 c1_i32_6 k0_t2
  let c16_i32_288 : BitVec 32 := 16#32
  let v254 : BitVec 32 := Scalar.muli arg10 c16_i32_288
  let v256 : Index := Scalar.indexCast v254
  ![0, v256.toNat]

def k0_chk1 (v243 : IVec S16 32) : Prop :=
  (∀ a x, ((![v243] : Fin 1 → IVec S16 32) a x).toNat < S32.size a) ∧
  (∀ a x, ((![v243] : Fin 1 → IVec S16 32) a x).toNat < S32.size a)
theorem k0_idx1_inb : ∀ (v243 : IVec S16 32) (k0_hw1 : k0_chk1 v243), ∀ a x, ((![v243] : Fin 1 → IVec S16 32) a x).toNat < S32.size a := fun v243 k0_hw1 => k0_hw1.1
theorem k0_idx2_inb : ∀ (v243 : IVec S16 32) (k0_hw1 : k0_chk1 v243), ∀ a x, ((![v243] : Fin 1 → IVec S16 32) a x).toNat < S32.size a := fun v243 k0_hw1 => k0_hw1.2
@[reducible] def k0_t3_loop : Scf.Loop 32 :=
  let c0_i32_9 : BitVec 32 := 0#32
  let c8_i32_10 : BitVec 32 := 8#32
  let v12 : BitVec 32 := Scalar.addi c0_i32_9 c8_i32_10
  let c1_i32_11 : BitVec 32 := 1#32
  ⟨c0_i32_9, v12, c1_i32_11⟩
def k0_off4 (k0_t3 : Fin k0_t3_loop.trips) : Fin 1 → Nat :=
  let c128_i32_284 : BitVec 32 := 128#32
  let c0_i32_9 : BitVec 32 := 0#32
  let c1_i32_11 : BitVec 32 := 1#32
  let arg10 : BitVec 32 := Scf.iv c0_i32_9 c1_i32_11 k0_t3
  let c16_i32_283 : BitVec 32 := 16#32
  let v236 : BitVec 32 := Scalar.muli arg10 c16_i32_283
  let v237 : BitVec 32 := Scalar.addi c128_i32_284 v236
  let v238 : Index := Scalar.indexCast v237
  ![v238.toNat]
def k0_off5 (k0_t3 : Fin k0_t3_loop.trips) : Fin 2 → Nat :=
  let c1_i32_289 : BitVec 32 := 1#32
  let v255 : Index := Scalar.indexCast c1_i32_289
  let c0_i32_9 : BitVec 32 := 0#32
  let c1_i32_11 : BitVec 32 := 1#32
  let arg10 : BitVec 32 := Scf.iv c0_i32_9 c1_i32_11 k0_t3
  let c16_i32_288 : BitVec 32 := 16#32
  let v254 : BitVec 32 := Scalar.muli arg10 c16_i32_288
  let v256 : Index := Scalar.indexCast v254
  ![1, v256.toNat]

def k0_chk2 (v243 : IVec S16 32) : Prop :=
  (∀ a x, ((![v243] : Fin 1 → IVec S16 32) a x).toNat < S32.size a) ∧
  (∀ a x, ((![v243] : Fin 1 → IVec S16 32) a x).toNat < S32.size a)
theorem k0_idx3_inb : ∀ (v243 : IVec S16 32) (k0_hw2 : k0_chk2 v243), ∀ a x, ((![v243] : Fin 1 → IVec S16 32) a x).toNat < S32.size a := fun v243 k0_hw2 => k0_hw2.1
theorem k0_idx4_inb : ∀ (v243 : IVec S16 32) (k0_hw2 : k0_chk2 v243), ∀ a x, ((![v243] : Fin 1 → IVec S16 32) a x).toNat < S32.size a := fun v243 k0_hw2 => k0_hw2.2
@[reducible] def k0_t4_loop : Scf.Loop 32 :=
  let c0_i32_14 : BitVec 32 := 0#32
  let c8_i32_15 : BitVec 32 := 8#32
  let v13 : BitVec 32 := Scalar.addi c0_i32_14 c8_i32_15
  let c1_i32_16 : BitVec 32 := 1#32
  ⟨c0_i32_14, v13, c1_i32_16⟩
def k0_off6 (k0_t4 : Fin k0_t4_loop.trips) : Fin 1 → Nat :=
  let c256_i32_284 : BitVec 32 := 256#32
  let c0_i32_14 : BitVec 32 := 0#32
  let c1_i32_16 : BitVec 32 := 1#32
  let arg10 : BitVec 32 := Scf.iv c0_i32_14 c1_i32_16 k0_t4
  let c16_i32_283 : BitVec 32 := 16#32
  let v236 : BitVec 32 := Scalar.muli arg10 c16_i32_283
  let v237 : BitVec 32 := Scalar.addi c256_i32_284 v236
  let v238 : Index := Scalar.indexCast v237
  ![v238.toNat]
def k0_off7 (k0_t4 : Fin k0_t4_loop.trips) : Fin 2 → Nat :=
  let c2_i32_289 : BitVec 32 := 2#32
  let v255 : Index := Scalar.indexCast c2_i32_289
  let c0_i32_14 : BitVec 32 := 0#32
  let c1_i32_16 : BitVec 32 := 1#32
  let arg10 : BitVec 32 := Scf.iv c0_i32_14 c1_i32_16 k0_t4
  let c16_i32_288 : BitVec 32 := 16#32
  let v254 : BitVec 32 := Scalar.muli arg10 c16_i32_288
  let v256 : Index := Scalar.indexCast v254
  ![2, v256.toNat]

def k0_chk3 (v243 : IVec S16 32) : Prop :=
  (∀ a x, ((![v243] : Fin 1 → IVec S16 32) a x).toNat < S32.size a) ∧
  (∀ a x, ((![v243] : Fin 1 → IVec S16 32) a x).toNat < S32.size a)
theorem k0_idx5_inb : ∀ (v243 : IVec S16 32) (k0_hw3 : k0_chk3 v243), ∀ a x, ((![v243] : Fin 1 → IVec S16 32) a x).toNat < S32.size a := fun v243 k0_hw3 => k0_hw3.1
theorem k0_idx6_inb : ∀ (v243 : IVec S16 32) (k0_hw3 : k0_chk3 v243), ∀ a x, ((![v243] : Fin 1 → IVec S16 32) a x).toNat < S32.size a := fun v243 k0_hw3 => k0_hw3.2
@[reducible] def k0_t5_loop : Scf.Loop 32 :=
  let c0_i32_19 : BitVec 32 := 0#32
  let c8_i32_20 : BitVec 32 := 8#32
  let v14 : BitVec 32 := Scalar.addi c0_i32_19 c8_i32_20
  let c1_i32_21 : BitVec 32 := 1#32
  ⟨c0_i32_19, v14, c1_i32_21⟩
def k0_off8 (k0_t5 : Fin k0_t5_loop.trips) : Fin 1 → Nat :=
  let c384_i32_284 : BitVec 32 := 384#32
  let c0_i32_19 : BitVec 32 := 0#32
  let c1_i32_21 : BitVec 32 := 1#32
  let arg10 : BitVec 32 := Scf.iv c0_i32_19 c1_i32_21 k0_t5
  let c16_i32_283 : BitVec 32 := 16#32
  let v236 : BitVec 32 := Scalar.muli arg10 c16_i32_283
  let v237 : BitVec 32 := Scalar.addi c384_i32_284 v236
  let v238 : Index := Scalar.indexCast v237
  ![v238.toNat]
def k0_off9 (k0_t5 : Fin k0_t5_loop.trips) : Fin 2 → Nat :=
  let c3_i32_289 : BitVec 32 := 3#32
  let v255 : Index := Scalar.indexCast c3_i32_289
  let c0_i32_19 : BitVec 32 := 0#32
  let c1_i32_21 : BitVec 32 := 1#32
  let arg10 : BitVec 32 := Scf.iv c0_i32_19 c1_i32_21 k0_t5
  let c16_i32_288 : BitVec 32 := 16#32
  let v254 : BitVec 32 := Scalar.muli arg10 c16_i32_288
  let v256 : Index := Scalar.indexCast v254
  ![3, v256.toNat]

def k0_chk4 (v243 : IVec S16 32) : Prop :=
  (∀ a x, ((![v243] : Fin 1 → IVec S16 32) a x).toNat < S32.size a) ∧
  (∀ a x, ((![v243] : Fin 1 → IVec S16 32) a x).toNat < S32.size a)
theorem k0_idx7_inb : ∀ (v243 : IVec S16 32) (k0_hw4 : k0_chk4 v243), ∀ a x, ((![v243] : Fin 1 → IVec S16 32) a x).toNat < S32.size a := fun v243 k0_hw4 => k0_hw4.1
theorem k0_idx8_inb : ∀ (v243 : IVec S16 32) (k0_hw4 : k0_chk4 v243), ∀ a x, ((![v243] : Fin 1 → IVec S16 32) a x).toNat < S32.size a := fun v243 k0_hw4 => k0_hw4.2
@[reducible] def k0_t6_loop : Scf.Loop 32 :=
  let c0_i32_24 : BitVec 32 := 0#32
  let c8_i32_25 : BitVec 32 := 8#32
  let v15 : BitVec 32 := Scalar.addi c0_i32_24 c8_i32_25
  let c1_i32_26 : BitVec 32 := 1#32
  ⟨c0_i32_24, v15, c1_i32_26⟩
def k0_off10 (k0_t6 : Fin k0_t6_loop.trips) : Fin 1 → Nat :=
  let c512_i32_284 : BitVec 32 := 512#32
  let c0_i32_24 : BitVec 32 := 0#32
  let c1_i32_26 : BitVec 32 := 1#32
  let arg10 : BitVec 32 := Scf.iv c0_i32_24 c1_i32_26 k0_t6
  let c16_i32_283 : BitVec 32 := 16#32
  let v236 : BitVec 32 := Scalar.muli arg10 c16_i32_283
  let v237 : BitVec 32 := Scalar.addi c512_i32_284 v236
  let v238 : Index := Scalar.indexCast v237
  ![v238.toNat]
def k0_off11 (k0_t6 : Fin k0_t6_loop.trips) : Fin 2 → Nat :=
  let c4_i32_289 : BitVec 32 := 4#32
  let v255 : Index := Scalar.indexCast c4_i32_289
  let c0_i32_24 : BitVec 32 := 0#32
  let c1_i32_26 : BitVec 32 := 1#32
  let arg10 : BitVec 32 := Scf.iv c0_i32_24 c1_i32_26 k0_t6
  let c16_i32_288 : BitVec 32 := 16#32
  let v254 : BitVec 32 := Scalar.muli arg10 c16_i32_288
  let v256 : Index := Scalar.indexCast v254
  ![4, v256.toNat]

def k0_chk5 (v243 : IVec S16 32) : Prop :=
  (∀ a x, ((![v243] : Fin 1 → IVec S16 32) a x).toNat < S32.size a) ∧
  (∀ a x, ((![v243] : Fin 1 → IVec S16 32) a x).toNat < S32.size a)
theorem k0_idx9_inb : ∀ (v243 : IVec S16 32) (k0_hw5 : k0_chk5 v243), ∀ a x, ((![v243] : Fin 1 → IVec S16 32) a x).toNat < S32.size a := fun v243 k0_hw5 => k0_hw5.1
theorem k0_idx10_inb : ∀ (v243 : IVec S16 32) (k0_hw5 : k0_chk5 v243), ∀ a x, ((![v243] : Fin 1 → IVec S16 32) a x).toNat < S32.size a := fun v243 k0_hw5 => k0_hw5.2
@[reducible] def k0_t7_loop : Scf.Loop 32 :=
  let c0_i32_29 : BitVec 32 := 0#32
  let c8_i32_30 : BitVec 32 := 8#32
  let v16 : BitVec 32 := Scalar.addi c0_i32_29 c8_i32_30
  let c1_i32_31 : BitVec 32 := 1#32
  ⟨c0_i32_29, v16, c1_i32_31⟩
def k0_off12 (k0_t7 : Fin k0_t7_loop.trips) : Fin 1 → Nat :=
  let c640_i32_284 : BitVec 32 := 640#32
  let c0_i32_29 : BitVec 32 := 0#32
  let c1_i32_31 : BitVec 32 := 1#32
  let arg10 : BitVec 32 := Scf.iv c0_i32_29 c1_i32_31 k0_t7
  let c16_i32_283 : BitVec 32 := 16#32
  let v236 : BitVec 32 := Scalar.muli arg10 c16_i32_283
  let v237 : BitVec 32 := Scalar.addi c640_i32_284 v236
  let v238 : Index := Scalar.indexCast v237
  ![v238.toNat]
def k0_off13 (k0_t7 : Fin k0_t7_loop.trips) : Fin 2 → Nat :=
  let c5_i32_289 : BitVec 32 := 5#32
  let v255 : Index := Scalar.indexCast c5_i32_289
  let c0_i32_29 : BitVec 32 := 0#32
  let c1_i32_31 : BitVec 32 := 1#32
  let arg10 : BitVec 32 := Scf.iv c0_i32_29 c1_i32_31 k0_t7
  let c16_i32_288 : BitVec 32 := 16#32
  let v254 : BitVec 32 := Scalar.muli arg10 c16_i32_288
  let v256 : Index := Scalar.indexCast v254
  ![5, v256.toNat]

def k0_chk6 (v243 : IVec S16 32) : Prop :=
  (∀ a x, ((![v243] : Fin 1 → IVec S16 32) a x).toNat < S32.size a) ∧
  (∀ a x, ((![v243] : Fin 1 → IVec S16 32) a x).toNat < S32.size a)
theorem k0_idx11_inb : ∀ (v243 : IVec S16 32) (k0_hw6 : k0_chk6 v243), ∀ a x, ((![v243] : Fin 1 → IVec S16 32) a x).toNat < S32.size a := fun v243 k0_hw6 => k0_hw6.1
theorem k0_idx12_inb : ∀ (v243 : IVec S16 32) (k0_hw6 : k0_chk6 v243), ∀ a x, ((![v243] : Fin 1 → IVec S16 32) a x).toNat < S32.size a := fun v243 k0_hw6 => k0_hw6.2
@[reducible] def k0_t8_loop : Scf.Loop 32 :=
  let c0_i32_34 : BitVec 32 := 0#32
  let c8_i32_35 : BitVec 32 := 8#32
  let v17 : BitVec 32 := Scalar.addi c0_i32_34 c8_i32_35
  let c1_i32_36 : BitVec 32 := 1#32
  ⟨c0_i32_34, v17, c1_i32_36⟩
def k0_off14 (k0_t8 : Fin k0_t8_loop.trips) : Fin 1 → Nat :=
  let c768_i32_284 : BitVec 32 := 768#32
  let c0_i32_34 : BitVec 32 := 0#32
  let c1_i32_36 : BitVec 32 := 1#32
  let arg10 : BitVec 32 := Scf.iv c0_i32_34 c1_i32_36 k0_t8
  let c16_i32_283 : BitVec 32 := 16#32
  let v236 : BitVec 32 := Scalar.muli arg10 c16_i32_283
  let v237 : BitVec 32 := Scalar.addi c768_i32_284 v236
  let v238 : Index := Scalar.indexCast v237
  ![v238.toNat]
def k0_off15 (k0_t8 : Fin k0_t8_loop.trips) : Fin 2 → Nat :=
  let c6_i32_289 : BitVec 32 := 6#32
  let v255 : Index := Scalar.indexCast c6_i32_289
  let c0_i32_34 : BitVec 32 := 0#32
  let c1_i32_36 : BitVec 32 := 1#32
  let arg10 : BitVec 32 := Scf.iv c0_i32_34 c1_i32_36 k0_t8
  let c16_i32_288 : BitVec 32 := 16#32
  let v254 : BitVec 32 := Scalar.muli arg10 c16_i32_288
  let v256 : Index := Scalar.indexCast v254
  ![6, v256.toNat]

def k0_chk7 (v243 : IVec S16 32) : Prop :=
  (∀ a x, ((![v243] : Fin 1 → IVec S16 32) a x).toNat < S32.size a) ∧
  (∀ a x, ((![v243] : Fin 1 → IVec S16 32) a x).toNat < S32.size a)
theorem k0_idx13_inb : ∀ (v243 : IVec S16 32) (k0_hw7 : k0_chk7 v243), ∀ a x, ((![v243] : Fin 1 → IVec S16 32) a x).toNat < S32.size a := fun v243 k0_hw7 => k0_hw7.1
theorem k0_idx14_inb : ∀ (v243 : IVec S16 32) (k0_hw7 : k0_chk7 v243), ∀ a x, ((![v243] : Fin 1 → IVec S16 32) a x).toNat < S32.size a := fun v243 k0_hw7 => k0_hw7.2
@[reducible] def k0_t9_loop : Scf.Loop 32 :=
  let c0_i32_39 : BitVec 32 := 0#32
  let c8_i32_40 : BitVec 32 := 8#32
  let v18 : BitVec 32 := Scalar.addi c0_i32_39 c8_i32_40
  let c1_i32_41 : BitVec 32 := 1#32
  ⟨c0_i32_39, v18, c1_i32_41⟩
def k0_off16 (k0_t9 : Fin k0_t9_loop.trips) : Fin 1 → Nat :=
  let c896_i32_284 : BitVec 32 := 896#32
  let c0_i32_39 : BitVec 32 := 0#32
  let c1_i32_41 : BitVec 32 := 1#32
  let arg10 : BitVec 32 := Scf.iv c0_i32_39 c1_i32_41 k0_t9
  let c16_i32_283 : BitVec 32 := 16#32
  let v236 : BitVec 32 := Scalar.muli arg10 c16_i32_283
  let v237 : BitVec 32 := Scalar.addi c896_i32_284 v236
  let v238 : Index := Scalar.indexCast v237
  ![v238.toNat]
def k0_off17 (k0_t9 : Fin k0_t9_loop.trips) : Fin 2 → Nat :=
  let c7_i32_289 : BitVec 32 := 7#32
  let v255 : Index := Scalar.indexCast c7_i32_289
  let c0_i32_39 : BitVec 32 := 0#32
  let c1_i32_41 : BitVec 32 := 1#32
  let arg10 : BitVec 32 := Scf.iv c0_i32_39 c1_i32_41 k0_t9
  let c16_i32_288 : BitVec 32 := 16#32
  let v254 : BitVec 32 := Scalar.muli arg10 c16_i32_288
  let v256 : Index := Scalar.indexCast v254
  ![7, v256.toNat]

def k0_chk8 (v243 : IVec S16 32) : Prop :=
  (∀ a x, ((![v243] : Fin 1 → IVec S16 32) a x).toNat < S32.size a) ∧
  (∀ a x, ((![v243] : Fin 1 → IVec S16 32) a x).toNat < S32.size a)
theorem k0_idx15_inb : ∀ (v243 : IVec S16 32) (k0_hw8 : k0_chk8 v243), ∀ a x, ((![v243] : Fin 1 → IVec S16 32) a x).toNat < S32.size a := fun v243 k0_hw8 => k0_hw8.1
theorem k0_idx16_inb : ∀ (v243 : IVec S16 32) (k0_hw8 : k0_chk8 v243), ∀ a x, ((![v243] : Fin 1 → IVec S16 32) a x).toNat < S32.size a := fun v243 k0_hw8 => k0_hw8.2
@[reducible] def k0_t10_loop : Scf.Loop 32 :=
  let c0_i32_44 : BitVec 32 := 0#32
  let c8_i32_45 : BitVec 32 := 8#32
  let v19 : BitVec 32 := Scalar.addi c0_i32_44 c8_i32_45
  let c1_i32_46 : BitVec 32 := 1#32
  ⟨c0_i32_44, v19, c1_i32_46⟩
def k0_off18 (k0_t10 : Fin k0_t10_loop.trips) : Fin 1 → Nat :=
  let c1024_i32_284 : BitVec 32 := 1024#32
  let c0_i32_44 : BitVec 32 := 0#32
  let c1_i32_46 : BitVec 32 := 1#32
  let arg10 : BitVec 32 := Scf.iv c0_i32_44 c1_i32_46 k0_t10
  let c16_i32_283 : BitVec 32 := 16#32
  let v236 : BitVec 32 := Scalar.muli arg10 c16_i32_283
  let v237 : BitVec 32 := Scalar.addi c1024_i32_284 v236
  let v238 : Index := Scalar.indexCast v237
  ![v238.toNat]
def k0_off19 (k0_t10 : Fin k0_t10_loop.trips) : Fin 2 → Nat :=
  let c8_i32_289 : BitVec 32 := 8#32
  let v255 : Index := Scalar.indexCast c8_i32_289
  let c0_i32_44 : BitVec 32 := 0#32
  let c1_i32_46 : BitVec 32 := 1#32
  let arg10 : BitVec 32 := Scf.iv c0_i32_44 c1_i32_46 k0_t10
  let c16_i32_288 : BitVec 32 := 16#32
  let v254 : BitVec 32 := Scalar.muli arg10 c16_i32_288
  let v256 : Index := Scalar.indexCast v254
  ![8, v256.toNat]

def k0_chk9 (v243 : IVec S16 32) : Prop :=
  (∀ a x, ((![v243] : Fin 1 → IVec S16 32) a x).toNat < S32.size a) ∧
  (∀ a x, ((![v243] : Fin 1 → IVec S16 32) a x).toNat < S32.size a)
theorem k0_idx17_inb : ∀ (v243 : IVec S16 32) (k0_hw9 : k0_chk9 v243), ∀ a x, ((![v243] : Fin 1 → IVec S16 32) a x).toNat < S32.size a := fun v243 k0_hw9 => k0_hw9.1
theorem k0_idx18_inb : ∀ (v243 : IVec S16 32) (k0_hw9 : k0_chk9 v243), ∀ a x, ((![v243] : Fin 1 → IVec S16 32) a x).toNat < S32.size a := fun v243 k0_hw9 => k0_hw9.2
@[reducible] def k0_t11_loop : Scf.Loop 32 :=
  let c0_i32_49 : BitVec 32 := 0#32
  let c8_i32_50 : BitVec 32 := 8#32
  let v20 : BitVec 32 := Scalar.addi c0_i32_49 c8_i32_50
  let c1_i32_51 : BitVec 32 := 1#32
  ⟨c0_i32_49, v20, c1_i32_51⟩
def k0_off20 (k0_t11 : Fin k0_t11_loop.trips) : Fin 1 → Nat :=
  let c1152_i32_284 : BitVec 32 := 1152#32
  let c0_i32_49 : BitVec 32 := 0#32
  let c1_i32_51 : BitVec 32 := 1#32
  let arg10 : BitVec 32 := Scf.iv c0_i32_49 c1_i32_51 k0_t11
  let c16_i32_283 : BitVec 32 := 16#32
  let v236 : BitVec 32 := Scalar.muli arg10 c16_i32_283
  let v237 : BitVec 32 := Scalar.addi c1152_i32_284 v236
  let v238 : Index := Scalar.indexCast v237
  ![v238.toNat]
def k0_off21 (k0_t11 : Fin k0_t11_loop.trips) : Fin 2 → Nat :=
  let c9_i32_289 : BitVec 32 := 9#32
  let v255 : Index := Scalar.indexCast c9_i32_289
  let c0_i32_49 : BitVec 32 := 0#32
  let c1_i32_51 : BitVec 32 := 1#32
  let arg10 : BitVec 32 := Scf.iv c0_i32_49 c1_i32_51 k0_t11
  let c16_i32_288 : BitVec 32 := 16#32
  let v254 : BitVec 32 := Scalar.muli arg10 c16_i32_288
  let v256 : Index := Scalar.indexCast v254
  ![9, v256.toNat]

def k0_chk10 (v243 : IVec S16 32) : Prop :=
  (∀ a x, ((![v243] : Fin 1 → IVec S16 32) a x).toNat < S32.size a) ∧
  (∀ a x, ((![v243] : Fin 1 → IVec S16 32) a x).toNat < S32.size a)
theorem k0_idx19_inb : ∀ (v243 : IVec S16 32) (k0_hw10 : k0_chk10 v243), ∀ a x, ((![v243] : Fin 1 → IVec S16 32) a x).toNat < S32.size a := fun v243 k0_hw10 => k0_hw10.1
theorem k0_idx20_inb : ∀ (v243 : IVec S16 32) (k0_hw10 : k0_chk10 v243), ∀ a x, ((![v243] : Fin 1 → IVec S16 32) a x).toNat < S32.size a := fun v243 k0_hw10 => k0_hw10.2
@[reducible] def k0_t12_loop : Scf.Loop 32 :=
  let c0_i32_54 : BitVec 32 := 0#32
  let c8_i32_55 : BitVec 32 := 8#32
  let v21 : BitVec 32 := Scalar.addi c0_i32_54 c8_i32_55
  let c1_i32_56 : BitVec 32 := 1#32
  ⟨c0_i32_54, v21, c1_i32_56⟩
def k0_off22 (k0_t12 : Fin k0_t12_loop.trips) : Fin 1 → Nat :=
  let c1280_i32_284 : BitVec 32 := 1280#32
  let c0_i32_54 : BitVec 32 := 0#32
  let c1_i32_56 : BitVec 32 := 1#32
  let arg10 : BitVec 32 := Scf.iv c0_i32_54 c1_i32_56 k0_t12
  let c16_i32_283 : BitVec 32 := 16#32
  let v236 : BitVec 32 := Scalar.muli arg10 c16_i32_283
  let v237 : BitVec 32 := Scalar.addi c1280_i32_284 v236
  let v238 : Index := Scalar.indexCast v237
  ![v238.toNat]
def k0_off23 (k0_t12 : Fin k0_t12_loop.trips) : Fin 2 → Nat :=
  let c10_i32_289 : BitVec 32 := 10#32
  let v255 : Index := Scalar.indexCast c10_i32_289
  let c0_i32_54 : BitVec 32 := 0#32
  let c1_i32_56 : BitVec 32 := 1#32
  let arg10 : BitVec 32 := Scf.iv c0_i32_54 c1_i32_56 k0_t12
  let c16_i32_288 : BitVec 32 := 16#32
  let v254 : BitVec 32 := Scalar.muli arg10 c16_i32_288
  let v256 : Index := Scalar.indexCast v254
  ![10, v256.toNat]

def k0_chk11 (v243 : IVec S16 32) : Prop :=
  (∀ a x, ((![v243] : Fin 1 → IVec S16 32) a x).toNat < S32.size a) ∧
  (∀ a x, ((![v243] : Fin 1 → IVec S16 32) a x).toNat < S32.size a)
theorem k0_idx21_inb : ∀ (v243 : IVec S16 32) (k0_hw11 : k0_chk11 v243), ∀ a x, ((![v243] : Fin 1 → IVec S16 32) a x).toNat < S32.size a := fun v243 k0_hw11 => k0_hw11.1
theorem k0_idx22_inb : ∀ (v243 : IVec S16 32) (k0_hw11 : k0_chk11 v243), ∀ a x, ((![v243] : Fin 1 → IVec S16 32) a x).toNat < S32.size a := fun v243 k0_hw11 => k0_hw11.2
@[reducible] def k0_t13_loop : Scf.Loop 32 :=
  let c0_i32_59 : BitVec 32 := 0#32
  let c8_i32_60 : BitVec 32 := 8#32
  let v22 : BitVec 32 := Scalar.addi c0_i32_59 c8_i32_60
  let c1_i32_61 : BitVec 32 := 1#32
  ⟨c0_i32_59, v22, c1_i32_61⟩
def k0_off24 (k0_t13 : Fin k0_t13_loop.trips) : Fin 1 → Nat :=
  let c1408_i32_284 : BitVec 32 := 1408#32
  let c0_i32_59 : BitVec 32 := 0#32
  let c1_i32_61 : BitVec 32 := 1#32
  let arg10 : BitVec 32 := Scf.iv c0_i32_59 c1_i32_61 k0_t13
  let c16_i32_283 : BitVec 32 := 16#32
  let v236 : BitVec 32 := Scalar.muli arg10 c16_i32_283
  let v237 : BitVec 32 := Scalar.addi c1408_i32_284 v236
  let v238 : Index := Scalar.indexCast v237
  ![v238.toNat]
def k0_off25 (k0_t13 : Fin k0_t13_loop.trips) : Fin 2 → Nat :=
  let c11_i32_289 : BitVec 32 := 11#32
  let v255 : Index := Scalar.indexCast c11_i32_289
  let c0_i32_59 : BitVec 32 := 0#32
  let c1_i32_61 : BitVec 32 := 1#32
  let arg10 : BitVec 32 := Scf.iv c0_i32_59 c1_i32_61 k0_t13
  let c16_i32_288 : BitVec 32 := 16#32
  let v254 : BitVec 32 := Scalar.muli arg10 c16_i32_288
  let v256 : Index := Scalar.indexCast v254
  ![11, v256.toNat]

def k0_chk12 (v243 : IVec S16 32) : Prop :=
  (∀ a x, ((![v243] : Fin 1 → IVec S16 32) a x).toNat < S32.size a) ∧
  (∀ a x, ((![v243] : Fin 1 → IVec S16 32) a x).toNat < S32.size a)
theorem k0_idx23_inb : ∀ (v243 : IVec S16 32) (k0_hw12 : k0_chk12 v243), ∀ a x, ((![v243] : Fin 1 → IVec S16 32) a x).toNat < S32.size a := fun v243 k0_hw12 => k0_hw12.1
theorem k0_idx24_inb : ∀ (v243 : IVec S16 32) (k0_hw12 : k0_chk12 v243), ∀ a x, ((![v243] : Fin 1 → IVec S16 32) a x).toNat < S32.size a := fun v243 k0_hw12 => k0_hw12.2
@[reducible] def k0_t14_loop : Scf.Loop 32 :=
  let c0_i32_64 : BitVec 32 := 0#32
  let c8_i32_65 : BitVec 32 := 8#32
  let v23 : BitVec 32 := Scalar.addi c0_i32_64 c8_i32_65
  let c1_i32_66 : BitVec 32 := 1#32
  ⟨c0_i32_64, v23, c1_i32_66⟩
def k0_off26 (k0_t14 : Fin k0_t14_loop.trips) : Fin 1 → Nat :=
  let c1536_i32_284 : BitVec 32 := 1536#32
  let c0_i32_64 : BitVec 32 := 0#32
  let c1_i32_66 : BitVec 32 := 1#32
  let arg10 : BitVec 32 := Scf.iv c0_i32_64 c1_i32_66 k0_t14
  let c16_i32_283 : BitVec 32 := 16#32
  let v236 : BitVec 32 := Scalar.muli arg10 c16_i32_283
  let v237 : BitVec 32 := Scalar.addi c1536_i32_284 v236
  let v238 : Index := Scalar.indexCast v237
  ![v238.toNat]
def k0_off27 (k0_t14 : Fin k0_t14_loop.trips) : Fin 2 → Nat :=
  let c12_i32_289 : BitVec 32 := 12#32
  let v255 : Index := Scalar.indexCast c12_i32_289
  let c0_i32_64 : BitVec 32 := 0#32
  let c1_i32_66 : BitVec 32 := 1#32
  let arg10 : BitVec 32 := Scf.iv c0_i32_64 c1_i32_66 k0_t14
  let c16_i32_288 : BitVec 32 := 16#32
  let v254 : BitVec 32 := Scalar.muli arg10 c16_i32_288
  let v256 : Index := Scalar.indexCast v254
  ![12, v256.toNat]

def k0_chk13 (v243 : IVec S16 32) : Prop :=
  (∀ a x, ((![v243] : Fin 1 → IVec S16 32) a x).toNat < S32.size a) ∧
  (∀ a x, ((![v243] : Fin 1 → IVec S16 32) a x).toNat < S32.size a)
theorem k0_idx25_inb : ∀ (v243 : IVec S16 32) (k0_hw13 : k0_chk13 v243), ∀ a x, ((![v243] : Fin 1 → IVec S16 32) a x).toNat < S32.size a := fun v243 k0_hw13 => k0_hw13.1
theorem k0_idx26_inb : ∀ (v243 : IVec S16 32) (k0_hw13 : k0_chk13 v243), ∀ a x, ((![v243] : Fin 1 → IVec S16 32) a x).toNat < S32.size a := fun v243 k0_hw13 => k0_hw13.2
@[reducible] def k0_t15_loop : Scf.Loop 32 :=
  let c0_i32_69 : BitVec 32 := 0#32
  let c8_i32_70 : BitVec 32 := 8#32
  let v24 : BitVec 32 := Scalar.addi c0_i32_69 c8_i32_70
  let c1_i32_71 : BitVec 32 := 1#32
  ⟨c0_i32_69, v24, c1_i32_71⟩
def k0_off28 (k0_t15 : Fin k0_t15_loop.trips) : Fin 1 → Nat :=
  let c1664_i32_284 : BitVec 32 := 1664#32
  let c0_i32_69 : BitVec 32 := 0#32
  let c1_i32_71 : BitVec 32 := 1#32
  let arg10 : BitVec 32 := Scf.iv c0_i32_69 c1_i32_71 k0_t15
  let c16_i32_283 : BitVec 32 := 16#32
  let v236 : BitVec 32 := Scalar.muli arg10 c16_i32_283
  let v237 : BitVec 32 := Scalar.addi c1664_i32_284 v236
  let v238 : Index := Scalar.indexCast v237
  ![v238.toNat]
def k0_off29 (k0_t15 : Fin k0_t15_loop.trips) : Fin 2 → Nat :=
  let c13_i32_289 : BitVec 32 := 13#32
  let v255 : Index := Scalar.indexCast c13_i32_289
  let c0_i32_69 : BitVec 32 := 0#32
  let c1_i32_71 : BitVec 32 := 1#32
  let arg10 : BitVec 32 := Scf.iv c0_i32_69 c1_i32_71 k0_t15
  let c16_i32_288 : BitVec 32 := 16#32
  let v254 : BitVec 32 := Scalar.muli arg10 c16_i32_288
  let v256 : Index := Scalar.indexCast v254
  ![13, v256.toNat]

def k0_chk14 (v243 : IVec S16 32) : Prop :=
  (∀ a x, ((![v243] : Fin 1 → IVec S16 32) a x).toNat < S32.size a) ∧
  (∀ a x, ((![v243] : Fin 1 → IVec S16 32) a x).toNat < S32.size a)
theorem k0_idx27_inb : ∀ (v243 : IVec S16 32) (k0_hw14 : k0_chk14 v243), ∀ a x, ((![v243] : Fin 1 → IVec S16 32) a x).toNat < S32.size a := fun v243 k0_hw14 => k0_hw14.1
theorem k0_idx28_inb : ∀ (v243 : IVec S16 32) (k0_hw14 : k0_chk14 v243), ∀ a x, ((![v243] : Fin 1 → IVec S16 32) a x).toNat < S32.size a := fun v243 k0_hw14 => k0_hw14.2
@[reducible] def k0_t16_loop : Scf.Loop 32 :=
  let c0_i32_74 : BitVec 32 := 0#32
  let c8_i32_75 : BitVec 32 := 8#32
  let v25 : BitVec 32 := Scalar.addi c0_i32_74 c8_i32_75
  let c1_i32_76 : BitVec 32 := 1#32
  ⟨c0_i32_74, v25, c1_i32_76⟩
def k0_off30 (k0_t16 : Fin k0_t16_loop.trips) : Fin 1 → Nat :=
  let c1792_i32_284 : BitVec 32 := 1792#32
  let c0_i32_74 : BitVec 32 := 0#32
  let c1_i32_76 : BitVec 32 := 1#32
  let arg10 : BitVec 32 := Scf.iv c0_i32_74 c1_i32_76 k0_t16
  let c16_i32_283 : BitVec 32 := 16#32
  let v236 : BitVec 32 := Scalar.muli arg10 c16_i32_283
  let v237 : BitVec 32 := Scalar.addi c1792_i32_284 v236
  let v238 : Index := Scalar.indexCast v237
  ![v238.toNat]
def k0_off31 (k0_t16 : Fin k0_t16_loop.trips) : Fin 2 → Nat :=
  let c14_i32_289 : BitVec 32 := 14#32
  let v255 : Index := Scalar.indexCast c14_i32_289
  let c0_i32_74 : BitVec 32 := 0#32
  let c1_i32_76 : BitVec 32 := 1#32
  let arg10 : BitVec 32 := Scf.iv c0_i32_74 c1_i32_76 k0_t16
  let c16_i32_288 : BitVec 32 := 16#32
  let v254 : BitVec 32 := Scalar.muli arg10 c16_i32_288
  let v256 : Index := Scalar.indexCast v254
  ![14, v256.toNat]

def k0_chk15 (v243 : IVec S16 32) : Prop :=
  (∀ a x, ((![v243] : Fin 1 → IVec S16 32) a x).toNat < S32.size a) ∧
  (∀ a x, ((![v243] : Fin 1 → IVec S16 32) a x).toNat < S32.size a)
theorem k0_idx29_inb : ∀ (v243 : IVec S16 32) (k0_hw15 : k0_chk15 v243), ∀ a x, ((![v243] : Fin 1 → IVec S16 32) a x).toNat < S32.size a := fun v243 k0_hw15 => k0_hw15.1
theorem k0_idx30_inb : ∀ (v243 : IVec S16 32) (k0_hw15 : k0_chk15 v243), ∀ a x, ((![v243] : Fin 1 → IVec S16 32) a x).toNat < S32.size a := fun v243 k0_hw15 => k0_hw15.2
@[reducible] def k0_t17_loop : Scf.Loop 32 :=
  let c0_i32_79 : BitVec 32 := 0#32
  let c8_i32_80 : BitVec 32 := 8#32
  let v26 : BitVec 32 := Scalar.addi c0_i32_79 c8_i32_80
  let c1_i32_81 : BitVec 32 := 1#32
  ⟨c0_i32_79, v26, c1_i32_81⟩
def k0_off32 (k0_t17 : Fin k0_t17_loop.trips) : Fin 1 → Nat :=
  let c1920_i32_284 : BitVec 32 := 1920#32
  let c0_i32_79 : BitVec 32 := 0#32
  let c1_i32_81 : BitVec 32 := 1#32
  let arg10 : BitVec 32 := Scf.iv c0_i32_79 c1_i32_81 k0_t17
  let c16_i32_283 : BitVec 32 := 16#32
  let v236 : BitVec 32 := Scalar.muli arg10 c16_i32_283
  let v237 : BitVec 32 := Scalar.addi c1920_i32_284 v236
  let v238 : Index := Scalar.indexCast v237
  ![v238.toNat]
def k0_off33 (k0_t17 : Fin k0_t17_loop.trips) : Fin 2 → Nat :=
  let c15_i32_289 : BitVec 32 := 15#32
  let v255 : Index := Scalar.indexCast c15_i32_289
  let c0_i32_79 : BitVec 32 := 0#32
  let c1_i32_81 : BitVec 32 := 1#32
  let arg10 : BitVec 32 := Scf.iv c0_i32_79 c1_i32_81 k0_t17
  let c16_i32_288 : BitVec 32 := 16#32
  let v254 : BitVec 32 := Scalar.muli arg10 c16_i32_288
  let v256 : Index := Scalar.indexCast v254
  ![15, v256.toNat]

def k0_chk16 (v243 : IVec S16 32) : Prop :=
  (∀ a x, ((![v243] : Fin 1 → IVec S16 32) a x).toNat < S32.size a) ∧
  (∀ a x, ((![v243] : Fin 1 → IVec S16 32) a x).toNat < S32.size a)
theorem k0_idx31_inb : ∀ (v243 : IVec S16 32) (k0_hw16 : k0_chk16 v243), ∀ a x, ((![v243] : Fin 1 → IVec S16 32) a x).toNat < S32.size a := fun v243 k0_hw16 => k0_hw16.1
theorem k0_idx32_inb : ∀ (v243 : IVec S16 32) (k0_hw16 : k0_chk16 v243), ∀ a x, ((![v243] : Fin 1 → IVec S16 32) a x).toNat < S32.size a := fun v243 k0_hw16 => k0_hw16.2
@[reducible] def k0_t18_loop : Scf.Loop 32 :=
  let c0_i32_84 : BitVec 32 := 0#32
  let c8_i32_85 : BitVec 32 := 8#32
  let v27 : BitVec 32 := Scalar.addi c0_i32_84 c8_i32_85
  let c1_i32_86 : BitVec 32 := 1#32
  ⟨c0_i32_84, v27, c1_i32_86⟩
def k0_off34 (k0_t18 : Fin k0_t18_loop.trips) : Fin 1 → Nat :=
  let c2048_i32_284 : BitVec 32 := 2048#32
  let c0_i32_84 : BitVec 32 := 0#32
  let c1_i32_86 : BitVec 32 := 1#32
  let arg10 : BitVec 32 := Scf.iv c0_i32_84 c1_i32_86 k0_t18
  let c16_i32_283 : BitVec 32 := 16#32
  let v236 : BitVec 32 := Scalar.muli arg10 c16_i32_283
  let v237 : BitVec 32 := Scalar.addi c2048_i32_284 v236
  let v238 : Index := Scalar.indexCast v237
  ![v238.toNat]
def k0_off35 (k0_t18 : Fin k0_t18_loop.trips) : Fin 2 → Nat :=
  let c16_i32_289 : BitVec 32 := 16#32
  let v255 : Index := Scalar.indexCast c16_i32_289
  let c0_i32_84 : BitVec 32 := 0#32
  let c1_i32_86 : BitVec 32 := 1#32
  let arg10 : BitVec 32 := Scf.iv c0_i32_84 c1_i32_86 k0_t18
  let c16_i32_288 : BitVec 32 := 16#32
  let v254 : BitVec 32 := Scalar.muli arg10 c16_i32_288
  let v256 : Index := Scalar.indexCast v254
  ![16, v256.toNat]

def k0_chk17 (v243 : IVec S16 32) : Prop :=
  (∀ a x, ((![v243] : Fin 1 → IVec S16 32) a x).toNat < S32.size a) ∧
  (∀ a x, ((![v243] : Fin 1 → IVec S16 32) a x).toNat < S32.size a)
theorem k0_idx33_inb : ∀ (v243 : IVec S16 32) (k0_hw17 : k0_chk17 v243), ∀ a x, ((![v243] : Fin 1 → IVec S16 32) a x).toNat < S32.size a := fun v243 k0_hw17 => k0_hw17.1
theorem k0_idx34_inb : ∀ (v243 : IVec S16 32) (k0_hw17 : k0_chk17 v243), ∀ a x, ((![v243] : Fin 1 → IVec S16 32) a x).toNat < S32.size a := fun v243 k0_hw17 => k0_hw17.2
@[reducible] def k0_t19_loop : Scf.Loop 32 :=
  let c0_i32_89 : BitVec 32 := 0#32
  let c8_i32_90 : BitVec 32 := 8#32
  let v28 : BitVec 32 := Scalar.addi c0_i32_89 c8_i32_90
  let c1_i32_91 : BitVec 32 := 1#32
  ⟨c0_i32_89, v28, c1_i32_91⟩
def k0_off36 (k0_t19 : Fin k0_t19_loop.trips) : Fin 1 → Nat :=
  let c2176_i32_284 : BitVec 32 := 2176#32
  let c0_i32_89 : BitVec 32 := 0#32
  let c1_i32_91 : BitVec 32 := 1#32
  let arg10 : BitVec 32 := Scf.iv c0_i32_89 c1_i32_91 k0_t19
  let c16_i32_283 : BitVec 32 := 16#32
  let v236 : BitVec 32 := Scalar.muli arg10 c16_i32_283
  let v237 : BitVec 32 := Scalar.addi c2176_i32_284 v236
  let v238 : Index := Scalar.indexCast v237
  ![v238.toNat]
def k0_off37 (k0_t19 : Fin k0_t19_loop.trips) : Fin 2 → Nat :=
  let c17_i32_289 : BitVec 32 := 17#32
  let v255 : Index := Scalar.indexCast c17_i32_289
  let c0_i32_89 : BitVec 32 := 0#32
  let c1_i32_91 : BitVec 32 := 1#32
  let arg10 : BitVec 32 := Scf.iv c0_i32_89 c1_i32_91 k0_t19
  let c16_i32_288 : BitVec 32 := 16#32
  let v254 : BitVec 32 := Scalar.muli arg10 c16_i32_288
  let v256 : Index := Scalar.indexCast v254
  ![17, v256.toNat]

def k0_chk18 (v243 : IVec S16 32) : Prop :=
  (∀ a x, ((![v243] : Fin 1 → IVec S16 32) a x).toNat < S32.size a) ∧
  (∀ a x, ((![v243] : Fin 1 → IVec S16 32) a x).toNat < S32.size a)
theorem k0_idx35_inb : ∀ (v243 : IVec S16 32) (k0_hw18 : k0_chk18 v243), ∀ a x, ((![v243] : Fin 1 → IVec S16 32) a x).toNat < S32.size a := fun v243 k0_hw18 => k0_hw18.1
theorem k0_idx36_inb : ∀ (v243 : IVec S16 32) (k0_hw18 : k0_chk18 v243), ∀ a x, ((![v243] : Fin 1 → IVec S16 32) a x).toNat < S32.size a := fun v243 k0_hw18 => k0_hw18.2
@[reducible] def k0_t20_loop : Scf.Loop 32 :=
  let c0_i32_94 : BitVec 32 := 0#32
  let c8_i32_95 : BitVec 32 := 8#32
  let v29 : BitVec 32 := Scalar.addi c0_i32_94 c8_i32_95
  let c1_i32_96 : BitVec 32 := 1#32
  ⟨c0_i32_94, v29, c1_i32_96⟩
def k0_off38 (k0_t20 : Fin k0_t20_loop.trips) : Fin 1 → Nat :=
  let c2304_i32_284 : BitVec 32 := 2304#32
  let c0_i32_94 : BitVec 32 := 0#32
  let c1_i32_96 : BitVec 32 := 1#32
  let arg10 : BitVec 32 := Scf.iv c0_i32_94 c1_i32_96 k0_t20
  let c16_i32_283 : BitVec 32 := 16#32
  let v236 : BitVec 32 := Scalar.muli arg10 c16_i32_283
  let v237 : BitVec 32 := Scalar.addi c2304_i32_284 v236
  let v238 : Index := Scalar.indexCast v237
  ![v238.toNat]
def k0_off39 (k0_t20 : Fin k0_t20_loop.trips) : Fin 2 → Nat :=
  let c18_i32_289 : BitVec 32 := 18#32
  let v255 : Index := Scalar.indexCast c18_i32_289
  let c0_i32_94 : BitVec 32 := 0#32
  let c1_i32_96 : BitVec 32 := 1#32
  let arg10 : BitVec 32 := Scf.iv c0_i32_94 c1_i32_96 k0_t20
  let c16_i32_288 : BitVec 32 := 16#32
  let v254 : BitVec 32 := Scalar.muli arg10 c16_i32_288
  let v256 : Index := Scalar.indexCast v254
  ![18, v256.toNat]

def k0_chk19 (v243 : IVec S16 32) : Prop :=
  (∀ a x, ((![v243] : Fin 1 → IVec S16 32) a x).toNat < S32.size a) ∧
  (∀ a x, ((![v243] : Fin 1 → IVec S16 32) a x).toNat < S32.size a)
theorem k0_idx37_inb : ∀ (v243 : IVec S16 32) (k0_hw19 : k0_chk19 v243), ∀ a x, ((![v243] : Fin 1 → IVec S16 32) a x).toNat < S32.size a := fun v243 k0_hw19 => k0_hw19.1
theorem k0_idx38_inb : ∀ (v243 : IVec S16 32) (k0_hw19 : k0_chk19 v243), ∀ a x, ((![v243] : Fin 1 → IVec S16 32) a x).toNat < S32.size a := fun v243 k0_hw19 => k0_hw19.2
@[reducible] def k0_t21_loop : Scf.Loop 32 :=
  let c0_i32_99 : BitVec 32 := 0#32
  let c8_i32_100 : BitVec 32 := 8#32
  let v30 : BitVec 32 := Scalar.addi c0_i32_99 c8_i32_100
  let c1_i32_101 : BitVec 32 := 1#32
  ⟨c0_i32_99, v30, c1_i32_101⟩
def k0_off40 (k0_t21 : Fin k0_t21_loop.trips) : Fin 1 → Nat :=
  let c2432_i32_284 : BitVec 32 := 2432#32
  let c0_i32_99 : BitVec 32 := 0#32
  let c1_i32_101 : BitVec 32 := 1#32
  let arg10 : BitVec 32 := Scf.iv c0_i32_99 c1_i32_101 k0_t21
  let c16_i32_283 : BitVec 32 := 16#32
  let v236 : BitVec 32 := Scalar.muli arg10 c16_i32_283
  let v237 : BitVec 32 := Scalar.addi c2432_i32_284 v236
  let v238 : Index := Scalar.indexCast v237
  ![v238.toNat]
def k0_off41 (k0_t21 : Fin k0_t21_loop.trips) : Fin 2 → Nat :=
  let c19_i32_289 : BitVec 32 := 19#32
  let v255 : Index := Scalar.indexCast c19_i32_289
  let c0_i32_99 : BitVec 32 := 0#32
  let c1_i32_101 : BitVec 32 := 1#32
  let arg10 : BitVec 32 := Scf.iv c0_i32_99 c1_i32_101 k0_t21
  let c16_i32_288 : BitVec 32 := 16#32
  let v254 : BitVec 32 := Scalar.muli arg10 c16_i32_288
  let v256 : Index := Scalar.indexCast v254
  ![19, v256.toNat]

def k0_chk20 (v243 : IVec S16 32) : Prop :=
  (∀ a x, ((![v243] : Fin 1 → IVec S16 32) a x).toNat < S32.size a) ∧
  (∀ a x, ((![v243] : Fin 1 → IVec S16 32) a x).toNat < S32.size a)
theorem k0_idx39_inb : ∀ (v243 : IVec S16 32) (k0_hw20 : k0_chk20 v243), ∀ a x, ((![v243] : Fin 1 → IVec S16 32) a x).toNat < S32.size a := fun v243 k0_hw20 => k0_hw20.1
theorem k0_idx40_inb : ∀ (v243 : IVec S16 32) (k0_hw20 : k0_chk20 v243), ∀ a x, ((![v243] : Fin 1 → IVec S16 32) a x).toNat < S32.size a := fun v243 k0_hw20 => k0_hw20.2
@[reducible] def k0_t22_loop : Scf.Loop 32 :=
  let c0_i32_104 : BitVec 32 := 0#32
  let c8_i32_105 : BitVec 32 := 8#32
  let v31 : BitVec 32 := Scalar.addi c0_i32_104 c8_i32_105
  let c1_i32_106 : BitVec 32 := 1#32
  ⟨c0_i32_104, v31, c1_i32_106⟩
def k0_off42 (k0_t22 : Fin k0_t22_loop.trips) : Fin 1 → Nat :=
  let c2560_i32_284 : BitVec 32 := 2560#32
  let c0_i32_104 : BitVec 32 := 0#32
  let c1_i32_106 : BitVec 32 := 1#32
  let arg10 : BitVec 32 := Scf.iv c0_i32_104 c1_i32_106 k0_t22
  let c16_i32_283 : BitVec 32 := 16#32
  let v236 : BitVec 32 := Scalar.muli arg10 c16_i32_283
  let v237 : BitVec 32 := Scalar.addi c2560_i32_284 v236
  let v238 : Index := Scalar.indexCast v237
  ![v238.toNat]
def k0_off43 (k0_t22 : Fin k0_t22_loop.trips) : Fin 2 → Nat :=
  let c20_i32_289 : BitVec 32 := 20#32
  let v255 : Index := Scalar.indexCast c20_i32_289
  let c0_i32_104 : BitVec 32 := 0#32
  let c1_i32_106 : BitVec 32 := 1#32
  let arg10 : BitVec 32 := Scf.iv c0_i32_104 c1_i32_106 k0_t22
  let c16_i32_288 : BitVec 32 := 16#32
  let v254 : BitVec 32 := Scalar.muli arg10 c16_i32_288
  let v256 : Index := Scalar.indexCast v254
  ![20, v256.toNat]

def k0_chk21 (v243 : IVec S16 32) : Prop :=
  (∀ a x, ((![v243] : Fin 1 → IVec S16 32) a x).toNat < S32.size a) ∧
  (∀ a x, ((![v243] : Fin 1 → IVec S16 32) a x).toNat < S32.size a)
theorem k0_idx41_inb : ∀ (v243 : IVec S16 32) (k0_hw21 : k0_chk21 v243), ∀ a x, ((![v243] : Fin 1 → IVec S16 32) a x).toNat < S32.size a := fun v243 k0_hw21 => k0_hw21.1
theorem k0_idx42_inb : ∀ (v243 : IVec S16 32) (k0_hw21 : k0_chk21 v243), ∀ a x, ((![v243] : Fin 1 → IVec S16 32) a x).toNat < S32.size a := fun v243 k0_hw21 => k0_hw21.2
@[reducible] def k0_t23_loop : Scf.Loop 32 :=
  let c0_i32_109 : BitVec 32 := 0#32
  let c8_i32_110 : BitVec 32 := 8#32
  let v32 : BitVec 32 := Scalar.addi c0_i32_109 c8_i32_110
  let c1_i32_111 : BitVec 32 := 1#32
  ⟨c0_i32_109, v32, c1_i32_111⟩
def k0_off44 (k0_t23 : Fin k0_t23_loop.trips) : Fin 1 → Nat :=
  let c2688_i32_284 : BitVec 32 := 2688#32
  let c0_i32_109 : BitVec 32 := 0#32
  let c1_i32_111 : BitVec 32 := 1#32
  let arg10 : BitVec 32 := Scf.iv c0_i32_109 c1_i32_111 k0_t23
  let c16_i32_283 : BitVec 32 := 16#32
  let v236 : BitVec 32 := Scalar.muli arg10 c16_i32_283
  let v237 : BitVec 32 := Scalar.addi c2688_i32_284 v236
  let v238 : Index := Scalar.indexCast v237
  ![v238.toNat]
def k0_off45 (k0_t23 : Fin k0_t23_loop.trips) : Fin 2 → Nat :=
  let c21_i32_289 : BitVec 32 := 21#32
  let v255 : Index := Scalar.indexCast c21_i32_289
  let c0_i32_109 : BitVec 32 := 0#32
  let c1_i32_111 : BitVec 32 := 1#32
  let arg10 : BitVec 32 := Scf.iv c0_i32_109 c1_i32_111 k0_t23
  let c16_i32_288 : BitVec 32 := 16#32
  let v254 : BitVec 32 := Scalar.muli arg10 c16_i32_288
  let v256 : Index := Scalar.indexCast v254
  ![21, v256.toNat]

def k0_chk22 (v243 : IVec S16 32) : Prop :=
  (∀ a x, ((![v243] : Fin 1 → IVec S16 32) a x).toNat < S32.size a) ∧
  (∀ a x, ((![v243] : Fin 1 → IVec S16 32) a x).toNat < S32.size a)
theorem k0_idx43_inb : ∀ (v243 : IVec S16 32) (k0_hw22 : k0_chk22 v243), ∀ a x, ((![v243] : Fin 1 → IVec S16 32) a x).toNat < S32.size a := fun v243 k0_hw22 => k0_hw22.1
theorem k0_idx44_inb : ∀ (v243 : IVec S16 32) (k0_hw22 : k0_chk22 v243), ∀ a x, ((![v243] : Fin 1 → IVec S16 32) a x).toNat < S32.size a := fun v243 k0_hw22 => k0_hw22.2
@[reducible] def k0_t24_loop : Scf.Loop 32 :=
  let c0_i32_114 : BitVec 32 := 0#32
  let c8_i32_115 : BitVec 32 := 8#32
  let v33 : BitVec 32 := Scalar.addi c0_i32_114 c8_i32_115
  let c1_i32_116 : BitVec 32 := 1#32
  ⟨c0_i32_114, v33, c1_i32_116⟩
def k0_off46 (k0_t24 : Fin k0_t24_loop.trips) : Fin 1 → Nat :=
  let c2816_i32_284 : BitVec 32 := 2816#32
  let c0_i32_114 : BitVec 32 := 0#32
  let c1_i32_116 : BitVec 32 := 1#32
  let arg10 : BitVec 32 := Scf.iv c0_i32_114 c1_i32_116 k0_t24
  let c16_i32_283 : BitVec 32 := 16#32
  let v236 : BitVec 32 := Scalar.muli arg10 c16_i32_283
  let v237 : BitVec 32 := Scalar.addi c2816_i32_284 v236
  let v238 : Index := Scalar.indexCast v237
  ![v238.toNat]
def k0_off47 (k0_t24 : Fin k0_t24_loop.trips) : Fin 2 → Nat :=
  let c22_i32_289 : BitVec 32 := 22#32
  let v255 : Index := Scalar.indexCast c22_i32_289
  let c0_i32_114 : BitVec 32 := 0#32
  let c1_i32_116 : BitVec 32 := 1#32
  let arg10 : BitVec 32 := Scf.iv c0_i32_114 c1_i32_116 k0_t24
  let c16_i32_288 : BitVec 32 := 16#32
  let v254 : BitVec 32 := Scalar.muli arg10 c16_i32_288
  let v256 : Index := Scalar.indexCast v254
  ![22, v256.toNat]

def k0_chk23 (v243 : IVec S16 32) : Prop :=
  (∀ a x, ((![v243] : Fin 1 → IVec S16 32) a x).toNat < S32.size a) ∧
  (∀ a x, ((![v243] : Fin 1 → IVec S16 32) a x).toNat < S32.size a)
theorem k0_idx45_inb : ∀ (v243 : IVec S16 32) (k0_hw23 : k0_chk23 v243), ∀ a x, ((![v243] : Fin 1 → IVec S16 32) a x).toNat < S32.size a := fun v243 k0_hw23 => k0_hw23.1
theorem k0_idx46_inb : ∀ (v243 : IVec S16 32) (k0_hw23 : k0_chk23 v243), ∀ a x, ((![v243] : Fin 1 → IVec S16 32) a x).toNat < S32.size a := fun v243 k0_hw23 => k0_hw23.2
@[reducible] def k0_t25_loop : Scf.Loop 32 :=
  let c0_i32_119 : BitVec 32 := 0#32
  let c8_i32_120 : BitVec 32 := 8#32
  let v34 : BitVec 32 := Scalar.addi c0_i32_119 c8_i32_120
  let c1_i32_121 : BitVec 32 := 1#32
  ⟨c0_i32_119, v34, c1_i32_121⟩
def k0_off48 (k0_t25 : Fin k0_t25_loop.trips) : Fin 1 → Nat :=
  let c2944_i32_284 : BitVec 32 := 2944#32
  let c0_i32_119 : BitVec 32 := 0#32
  let c1_i32_121 : BitVec 32 := 1#32
  let arg10 : BitVec 32 := Scf.iv c0_i32_119 c1_i32_121 k0_t25
  let c16_i32_283 : BitVec 32 := 16#32
  let v236 : BitVec 32 := Scalar.muli arg10 c16_i32_283
  let v237 : BitVec 32 := Scalar.addi c2944_i32_284 v236
  let v238 : Index := Scalar.indexCast v237
  ![v238.toNat]
def k0_off49 (k0_t25 : Fin k0_t25_loop.trips) : Fin 2 → Nat :=
  let c23_i32_289 : BitVec 32 := 23#32
  let v255 : Index := Scalar.indexCast c23_i32_289
  let c0_i32_119 : BitVec 32 := 0#32
  let c1_i32_121 : BitVec 32 := 1#32
  let arg10 : BitVec 32 := Scf.iv c0_i32_119 c1_i32_121 k0_t25
  let c16_i32_288 : BitVec 32 := 16#32
  let v254 : BitVec 32 := Scalar.muli arg10 c16_i32_288
  let v256 : Index := Scalar.indexCast v254
  ![23, v256.toNat]

def k0_chk24 (v243 : IVec S16 32) : Prop :=
  (∀ a x, ((![v243] : Fin 1 → IVec S16 32) a x).toNat < S32.size a) ∧
  (∀ a x, ((![v243] : Fin 1 → IVec S16 32) a x).toNat < S32.size a)
theorem k0_idx47_inb : ∀ (v243 : IVec S16 32) (k0_hw24 : k0_chk24 v243), ∀ a x, ((![v243] : Fin 1 → IVec S16 32) a x).toNat < S32.size a := fun v243 k0_hw24 => k0_hw24.1
theorem k0_idx48_inb : ∀ (v243 : IVec S16 32) (k0_hw24 : k0_chk24 v243), ∀ a x, ((![v243] : Fin 1 → IVec S16 32) a x).toNat < S32.size a := fun v243 k0_hw24 => k0_hw24.2
@[reducible] def k0_t26_loop : Scf.Loop 32 :=
  let c0_i32_124 : BitVec 32 := 0#32
  let c8_i32_125 : BitVec 32 := 8#32
  let v35 : BitVec 32 := Scalar.addi c0_i32_124 c8_i32_125
  let c1_i32_126 : BitVec 32 := 1#32
  ⟨c0_i32_124, v35, c1_i32_126⟩
def k0_off50 (k0_t26 : Fin k0_t26_loop.trips) : Fin 1 → Nat :=
  let c3072_i32_284 : BitVec 32 := 3072#32
  let c0_i32_124 : BitVec 32 := 0#32
  let c1_i32_126 : BitVec 32 := 1#32
  let arg10 : BitVec 32 := Scf.iv c0_i32_124 c1_i32_126 k0_t26
  let c16_i32_283 : BitVec 32 := 16#32
  let v236 : BitVec 32 := Scalar.muli arg10 c16_i32_283
  let v237 : BitVec 32 := Scalar.addi c3072_i32_284 v236
  let v238 : Index := Scalar.indexCast v237
  ![v238.toNat]
def k0_off51 (k0_t26 : Fin k0_t26_loop.trips) : Fin 2 → Nat :=
  let c24_i32_289 : BitVec 32 := 24#32
  let v255 : Index := Scalar.indexCast c24_i32_289
  let c0_i32_124 : BitVec 32 := 0#32
  let c1_i32_126 : BitVec 32 := 1#32
  let arg10 : BitVec 32 := Scf.iv c0_i32_124 c1_i32_126 k0_t26
  let c16_i32_288 : BitVec 32 := 16#32
  let v254 : BitVec 32 := Scalar.muli arg10 c16_i32_288
  let v256 : Index := Scalar.indexCast v254
  ![24, v256.toNat]

def k0_chk25 (v243 : IVec S16 32) : Prop :=
  (∀ a x, ((![v243] : Fin 1 → IVec S16 32) a x).toNat < S32.size a) ∧
  (∀ a x, ((![v243] : Fin 1 → IVec S16 32) a x).toNat < S32.size a)
theorem k0_idx49_inb : ∀ (v243 : IVec S16 32) (k0_hw25 : k0_chk25 v243), ∀ a x, ((![v243] : Fin 1 → IVec S16 32) a x).toNat < S32.size a := fun v243 k0_hw25 => k0_hw25.1
theorem k0_idx50_inb : ∀ (v243 : IVec S16 32) (k0_hw25 : k0_chk25 v243), ∀ a x, ((![v243] : Fin 1 → IVec S16 32) a x).toNat < S32.size a := fun v243 k0_hw25 => k0_hw25.2
def k0_off52 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r1 : BitVec 32 := 0#32
  ![v1.toNat, 0]
abbrev grid1 : Pipeline.Grid := ⟨2, ![2, 16], ![false, false]⟩

@[reducible] def k1_t1_loop : Scf.Loop 32 :=
  let c0_i32_1 : BitVec 32 := 0#32
  let c50_i32 : BitVec 32 := 50#32
  let v5 : BitVec 32 := Scalar.addi c0_i32_1 c50_i32
  let c1_i32 : BitVec 32 := 1#32
  ⟨c0_i32_1, v5, c1_i32⟩
def k1_off1 (k1_t1 : Fin k1_t1_loop.trips) : Fin 1 → Nat :=
  let c0_i32_1 : BitVec 32 := 0#32
  let c1_i32 : BitVec 32 := 1#32
  let arg17 : BitVec 32 := Scf.iv c0_i32_1 c1_i32 k1_t1
  let c16_i32_28 : BitVec 32 := 16#32
  let v25 : BitVec 32 := Scalar.muli arg17 c16_i32_28
  let v26 : Index := Scalar.indexCast v25
  ![v26.toNat]
@[reducible] def k1_t2_loop : Scf.Loop 32 :=
  let c0_i32_4 : BitVec 32 := 0#32
  let c4096_i32 : BitVec 32 := 4096#32
  let v6 : BitVec 32 := Scalar.addi c0_i32_4 c4096_i32
  let c1_i32_5 : BitVec 32 := 1#32
  ⟨c0_i32_4, v6, c1_i32_5⟩
def k1_off2 (k1_t2 : Fin k1_t2_loop.trips) : Fin 1 → Nat :=
  let c0_i32_4 : BitVec 32 := 0#32
  let c1_i32_5 : BitVec 32 := 1#32
  let arg17 : BitVec 32 := Scf.iv c0_i32_4 c1_i32_5 k1_t2
  let c16_i32_28 : BitVec 32 := 16#32
  let v25 : BitVec 32 := Scalar.muli arg17 c16_i32_28
  let v26 : Index := Scalar.indexCast v25
  ![v26.toNat]

def k1_chk1 (v11 : IVec S16 32) (v13 : IVec S16 32) : Prop :=
  (∀ a x, ((![v13, v11] : Fin 2 → IVec S16 32) a x).toNat < S32x32.size a)
theorem k1_idx1_inb : ∀ (v11 : IVec S16 32) (v13 : IVec S16 32) (k1_hw1 : k1_chk1 v11 v13), ∀ a x, ((![v13, v11] : Fin 2 → IVec S16 32) a x).toNat < S32x32.size a := fun v11 v13 k1_hw1 => k1_hw1

def k1_chk2 (v11 : IVec S16 32) (v17 : IVec S16 32) : Prop :=
  (∀ a x, ((![v17, v11] : Fin 2 → IVec S16 32) a x).toNat < S32x32.size a)
theorem k1_idx2_inb : ∀ (v11 : IVec S16 32) (v17 : IVec S16 32) (k1_hw2 : k1_chk2 v11 v17), ∀ a x, ((![v17, v11] : Fin 2 → IVec S16 32) a x).toNat < S32x32.size a := fun v11 v17 k1_hw2 => k1_hw2
@[reducible] def k1_t3_loop : Scf.Loop 32 :=
  let c0_i32_11 : BitVec 32 := 0#32
  let c32_i32 : BitVec 32 := 32#32
  let v20 : BitVec 32 := Scalar.addi c0_i32_11 c32_i32
  let c1_i32_12 : BitVec 32 := 1#32
  ⟨c0_i32_11, v20, c1_i32_12⟩
def k1_off3 (k1_t3 : Fin k1_t3_loop.trips) : Fin 1 → Nat :=
  let c0_i32_11 : BitVec 32 := 0#32
  let c1_i32_12 : BitVec 32 := 1#32
  let arg17 : BitVec 32 := Scf.iv c0_i32_11 c1_i32_12 k1_t3
  let v25 : Index := Scalar.indexCast arg17
  ![v25.toNat]
@[reducible] def k1_t4_loop (v28 : BitVec 32) : Scf.Loop 32 :=
  let c0_i32_30 : BitVec 32 := 0#32
  let c1023_i32 : BitVec 32 := 1023#32
  let v32 : BitVec 32 := Scalar.addi v28 c1023_i32
  let c10_i32 : BitVec 32 := 10#32
  let v33 : BitVec 32 := Scalar.shrsi v32 c10_i32
  let v34 : BitVec 32 := Scalar.subi v33 c0_i32_30
  let c1_i32_31 : BitVec 32 := 1#32
  let v36 : BitVec 32 := Scalar.divsi v34 c1_i32_31
  let v37 : BitVec 32 := Scalar.muli v36 c1_i32_31
  let v38 : BitVec 32 := Scalar.addi c0_i32_30 v37
  let c1_i32_32 : BitVec 32 := 1#32
  ⟨c0_i32_30, v38, c1_i32_32⟩

def k1_off4 (i : grid1.Coords) (k1_t3 : Fin k1_t3_loop.trips) (v28 : BitVec 32) (k1_t4 : Fin (k1_t4_loop v28).trips) : Fin 1 → Nat :=
  let c0_i32_11 : BitVec 32 := 0#32
  let c1_i32_12 : BitVec 32 := 1#32
  let arg17 : BitVec 32 := Scf.iv c0_i32_11 c1_i32_12 k1_t3
  let c32_i32_28 : BitVec 32 := 32#32
  let v29 : BitVec 32 := Scalar.muli arg17 c32_i32_28
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v30 : BitVec 32 := Scalar.addi v29 v1
  let c259200_i32 : BitVec 32 := 259200#32
  let v31 : BitVec 32 := Scalar.muli v30 c259200_i32
  let c0_i32_30 : BitVec 32 := 0#32
  let c1_i32_32 : BitVec 32 := 1#32
  let arg18 : BitVec 32 := Scf.iv c0_i32_30 c1_i32_32 k1_t4
  let c1024_i32 : BitVec 32 := 1024#32
  let v39 : BitVec 32 := Scalar.muli arg18 c1024_i32
  let v40 : BitVec 32 := Scalar.addi v31 v39
  ![v40.toNat]
@[reducible] def k1_t5_loop : Scf.Loop 32 :=
  let c0_i32_35 : BitVec 32 := 0#32
  let c64_i32 : BitVec 32 := 64#32
  let v41 : BitVec 32 := Scalar.addi c0_i32_35 c64_i32
  let c1_i32_36 : BitVec 32 := 1#32
  ⟨c0_i32_35, v41, c1_i32_36⟩
def k1_off5 (k1_t5 : Fin k1_t5_loop.trips) : Fin 1 → Nat :=
  let c0_i32_35 : BitVec 32 := 0#32
  let c1_i32_36 : BitVec 32 := 1#32
  let arg19 : BitVec 32 := Scf.iv c0_i32_35 c1_i32_36 k1_t5
  let c16_i32_38 : BitVec 32 := 16#32
  let v42 : BitVec 32 := Scalar.muli arg19 c16_i32_38
  let v43 : Index := Scalar.indexCast v42
  ![v43.toNat]

def k1_chk4 (v55 : IVec S16 32) : Prop :=
  (∀ a x, ((![v55] : Fin 1 → IVec S16 32) a x).toNat < S800.size a) ∧
  (∀ a x, ((![v55] : Fin 1 → IVec S16 32) a x).toNat < S800.size a)
theorem k1_idx3_inb : ∀ (v55 : IVec S16 32) (k1_hw4 : k1_chk4 v55), ∀ a x, ((![v55] : Fin 1 → IVec S16 32) a x).toNat < S800.size a := fun v55 k1_hw4 => k1_hw4.1
theorem k1_idx4_inb : ∀ (v55 : IVec S16 32) (k1_hw4 : k1_chk4 v55), ∀ a x, ((![v55] : Fin 1 → IVec S16 32) a x).toNat < S800.size a := fun v55 k1_hw4 => k1_hw4.2
@[reducible] def k1_t6_loop (v28 : BitVec 32) : Scf.Loop 32 :=
  let c0_i32_30 : BitVec 32 := 0#32
  let c1023_i32 : BitVec 32 := 1023#32
  let v32 : BitVec 32 := Scalar.addi v28 c1023_i32
  let c10_i32 : BitVec 32 := 10#32
  let v33 : BitVec 32 := Scalar.shrsi v32 c10_i32
  let v34 : BitVec 32 := Scalar.subi v33 c0_i32_30
  let c1_i32_31 : BitVec 32 := 1#32
  let v36 : BitVec 32 := Scalar.divsi v34 c1_i32_31
  let v37 : BitVec 32 := Scalar.muli v36 c1_i32_31
  let v38 : BitVec 32 := Scalar.addi c0_i32_30 v37
  let v35 : BitVec 32 := Scalar.addi c0_i32_30 v34
  let c1_i32_33 : BitVec 32 := 1#32
  ⟨v38, v35, c1_i32_33⟩
def k1_off6 (i : grid1.Coords) (k1_t3 : Fin k1_t3_loop.trips) (v28 : BitVec 32) (k1_t6 : Fin (k1_t6_loop v28).trips) : Fin 1 → Nat :=
  let c0_i32_11 : BitVec 32 := 0#32
  let c1_i32_12 : BitVec 32 := 1#32
  let arg17 : BitVec 32 := Scf.iv c0_i32_11 c1_i32_12 k1_t3
  let c32_i32_28 : BitVec 32 := 32#32
  let v29 : BitVec 32 := Scalar.muli arg17 c32_i32_28
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v30 : BitVec 32 := Scalar.addi v29 v1
  let c259200_i32 : BitVec 32 := 259200#32
  let v31 : BitVec 32 := Scalar.muli v30 c259200_i32
  let c0_i32_30 : BitVec 32 := 0#32
  let c1023_i32 : BitVec 32 := 1023#32
  let v32 : BitVec 32 := Scalar.addi v28 c1023_i32
  let c10_i32 : BitVec 32 := 10#32
  let v33 : BitVec 32 := Scalar.shrsi v32 c10_i32
  let v34 : BitVec 32 := Scalar.subi v33 c0_i32_30
  let c1_i32_31 : BitVec 32 := 1#32
  let v36 : BitVec 32 := Scalar.divsi v34 c1_i32_31
  let v37 : BitVec 32 := Scalar.muli v36 c1_i32_31
  let v38 : BitVec 32 := Scalar.addi c0_i32_30 v37
  let c1_i32_33 : BitVec 32 := 1#32
  let arg18 : BitVec 32 := Scf.iv v38 c1_i32_33 k1_t6
  let c1024_i32 : BitVec 32 := 1024#32
  let v39 : BitVec 32 := Scalar.muli arg18 c1024_i32
  let v40 : BitVec 32 := Scalar.addi v31 v39
  ![v40.toNat]

def k1_chk3 (i : grid1.Coords) (k1_t3 : Fin k1_t3_loop.trips) (v28 : BitVec 32) : Prop :=
  ((k1_t4_loop v28).OK) ∧
  (∀ k1_t4 : Fin (k1_t4_loop v28).trips, ∀ a, (k1_off4 i k1_t3 v28 k1_t4) a + S1024.size a ≤ S265420800.size a) ∧
  ((k1_t6_loop v28).OK) ∧
  (∀ k1_t6 : Fin (k1_t6_loop v28).trips, ∀ a, (k1_off6 i k1_t3 v28 k1_t6) a + S1024.size a ≤ S265420800.size a)
theorem k1_t4_ok : ∀ (i : grid1.Coords) (k1_t3 : Fin k1_t3_loop.trips) (v28 : BitVec 32) (k1_hw3 : k1_chk3 i k1_t3 v28), (k1_t4_loop v28).OK := fun i k1_t3 v28 k1_hw3 => k1_hw3.1
theorem k1_off4_inb : ∀ (i : grid1.Coords) (k1_t3 : Fin k1_t3_loop.trips) (v28 : BitVec 32) (k1_hw3 : k1_chk3 i k1_t3 v28) (k1_t4 : Fin (k1_t4_loop v28).trips), ∀ a, (k1_off4 i k1_t3 v28 k1_t4) a + S1024.size a ≤ S265420800.size a := fun i k1_t3 v28 k1_hw3 k1_t4 => k1_hw3.2.1 k1_t4
theorem k1_t6_ok : ∀ (i : grid1.Coords) (k1_t3 : Fin k1_t3_loop.trips) (v28 : BitVec 32) (k1_hw3 : k1_chk3 i k1_t3 v28), (k1_t6_loop v28).OK := fun i k1_t3 v28 k1_hw3 => k1_hw3.2.2.1
theorem k1_off6_inb : ∀ (i : grid1.Coords) (k1_t3 : Fin k1_t3_loop.trips) (v28 : BitVec 32) (k1_hw3 : k1_chk3 i k1_t3 v28) (k1_t6 : Fin (k1_t6_loop v28).trips), ∀ a, (k1_off6 i k1_t3 v28 k1_t6) a + S1024.size a ≤ S265420800.size a := fun i k1_t3 v28 k1_hw3 k1_t6 => k1_hw3.2.2.2 k1_t6

@[reducible] def k1_t7_loop : Scf.Loop 32 :=
  let c0_i32_35 : BitVec 32 := 0#32
  let c64_i32 : BitVec 32 := 64#32
  let v41 : BitVec 32 := Scalar.addi c0_i32_35 c64_i32
  let c1_i32_36 : BitVec 32 := 1#32
  ⟨c0_i32_35, v41, c1_i32_36⟩
def k1_off7 (k1_t7 : Fin k1_t7_loop.trips) : Fin 1 → Nat :=
  let c0_i32_35 : BitVec 32 := 0#32
  let c1_i32_36 : BitVec 32 := 1#32
  let arg19 : BitVec 32 := Scf.iv c0_i32_35 c1_i32_36 k1_t7
  let c16_i32_38 : BitVec 32 := 16#32
  let v42 : BitVec 32 := Scalar.muli arg19 c16_i32_38
  let v43 : Index := Scalar.indexCast v42
  ![v43.toNat]

def k1_chk5 (v55 : IVec S16 32) : Prop :=
  (∀ a x, ((![v55] : Fin 1 → IVec S16 32) a x).toNat < S800.size a) ∧
  (∀ a x, ((![v55] : Fin 1 → IVec S16 32) a x).toNat < S800.size a)
theorem k1_idx5_inb : ∀ (v55 : IVec S16 32) (k1_hw5 : k1_chk5 v55), ∀ a x, ((![v55] : Fin 1 → IVec S16 32) a x).toNat < S800.size a := fun v55 k1_hw5 => k1_hw5.1
theorem k1_idx6_inb : ∀ (v55 : IVec S16 32) (k1_hw5 : k1_chk5 v55), ∀ a x, ((![v55] : Fin 1 → IVec S16 32) a x).toNat < S800.size a := fun v55 k1_hw5 => k1_hw5.2
@[reducible] def k1_t8_loop : Scf.Loop 32 :=
  let c0_i32_15 : BitVec 32 := 0#32
  let c50_i32_16 : BitVec 32 := 50#32
  let v21 : BitVec 32 := Scalar.addi c0_i32_15 c50_i32_16
  let c1_i32_17 : BitVec 32 := 1#32
  ⟨c0_i32_15, v21, c1_i32_17⟩
def k1_off8 (k1_t8 : Fin k1_t8_loop.trips) : Fin 1 → Nat :=
  let c0_i32_15 : BitVec 32 := 0#32
  let c1_i32_17 : BitVec 32 := 1#32
  let arg17 : BitVec 32 := Scf.iv c0_i32_15 c1_i32_17 k1_t8
  let c16_i32_28 : BitVec 32 := 16#32
  let v25 : BitVec 32 := Scalar.muli arg17 c16_i32_28
  let v26 : Index := Scalar.indexCast v25
  ![v26.toNat]
@[reducible] def k1_t9_loop : Scf.Loop 32 :=
  let c0_i32_20 : BitVec 32 := 0#32
  let c32_i32_21 : BitVec 32 := 32#32
  let v23 : BitVec 32 := Scalar.addi c0_i32_20 c32_i32_21
  let c1_i32_22 : BitVec 32 := 1#32
  ⟨c0_i32_20, v23, c1_i32_22⟩
def k1_off9 (k1_t9 : Fin k1_t9_loop.trips) : Fin 1 → Nat :=
  let c0_i32_20 : BitVec 32 := 0#32
  let c1_i32_22 : BitVec 32 := 1#32
  let arg17 : BitVec 32 := Scf.iv c0_i32_20 c1_i32_22 k1_t9
  let v25 : Index := Scalar.indexCast arg17
  ![v25.toNat]
@[reducible] def k1_t10_loop (v28 : BitVec 32) : Scf.Loop 32 :=
  let c0_i32_30 : BitVec 32 := 0#32
  let c1023_i32 : BitVec 32 := 1023#32
  let v32 : BitVec 32 := Scalar.addi v28 c1023_i32
  let c10_i32 : BitVec 32 := 10#32
  let v33 : BitVec 32 := Scalar.shrsi v32 c10_i32
  let v34 : BitVec 32 := Scalar.subi v33 c0_i32_30
  let c1_i32_31 : BitVec 32 := 1#32
  let v36 : BitVec 32 := Scalar.divsi v34 c1_i32_31
  let v37 : BitVec 32 := Scalar.muli v36 c1_i32_31
  let v38 : BitVec 32 := Scalar.addi c0_i32_30 v37
  let c1_i32_32 : BitVec 32 := 1#32
  ⟨c0_i32_30, v38, c1_i32_32⟩

def k1_off10 (i : grid1.Coords) (k1_t9 : Fin k1_t9_loop.trips) (v28 : BitVec 32) (k1_t10 : Fin (k1_t10_loop v28).trips) : Fin 1 → Nat :=
  let c0_i32_20 : BitVec 32 := 0#32
  let c1_i32_22 : BitVec 32 := 1#32
  let arg17 : BitVec 32 := Scf.iv c0_i32_20 c1_i32_22 k1_t9
  let c32_i32_28 : BitVec 32 := 32#32
  let v29 : BitVec 32 := Scalar.muli arg17 c32_i32_28
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v30 : BitVec 32 := Scalar.addi v29 v1
  let c259200_i32 : BitVec 32 := 259200#32
  let v31 : BitVec 32 := Scalar.muli v30 c259200_i32
  let c0_i32_30 : BitVec 32 := 0#32
  let c1_i32_32 : BitVec 32 := 1#32
  let arg18 : BitVec 32 := Scf.iv c0_i32_30 c1_i32_32 k1_t10
  let c1024_i32 : BitVec 32 := 1024#32
  let v39 : BitVec 32 := Scalar.muli arg18 c1024_i32
  let v40 : BitVec 32 := Scalar.addi v31 v39
  ![v40.toNat]
@[reducible] def k1_t11_loop : Scf.Loop 32 :=
  let c0_i32_35 : BitVec 32 := 0#32
  let c8_i32 : BitVec 32 := 8#32
  let v41 : BitVec 32 := Scalar.addi c0_i32_35 c8_i32
  let c1_i32_36 : BitVec 32 := 1#32
  ⟨c0_i32_35, v41, c1_i32_36⟩
def k1_off11 (k1_t11 : Fin k1_t11_loop.trips) : Fin 1 → Nat :=
  let c0_i32_126 : BitVec 32 := 0#32
  let c0_i32_35 : BitVec 32 := 0#32
  let c1_i32_36 : BitVec 32 := 1#32
  let arg19 : BitVec 32 := Scf.iv c0_i32_35 c1_i32_36 k1_t11
  let c16_i32_125 : BitVec 32 := 16#32
  let v113 : BitVec 32 := Scalar.muli arg19 c16_i32_125
  let v114 : BitVec 32 := Scalar.addi c0_i32_126 v113
  let v115 : Index := Scalar.indexCast v114
  ![v115.toNat]
def k1_off12 (k1_t11 : Fin k1_t11_loop.trips) : Fin 2 → Nat :=
  let c0_i32_133 : BitVec 32 := 0#32
  let v140 : Index := Scalar.indexCast c0_i32_133
  let c0_i32_35 : BitVec 32 := 0#32
  let c1_i32_36 : BitVec 32 := 1#32
  let arg19 : BitVec 32 := Scf.iv c0_i32_35 c1_i32_36 k1_t11
  let c16_i32_132 : BitVec 32 := 16#32
  let v139 : BitVec 32 := Scalar.muli arg19 c16_i32_132
  let v141 : Index := Scalar.indexCast v139
  ![0, v141.toNat]

def k1_chk7 (v128 : IVec S16 32) : Prop :=
  (∀ a x, ((![v128] : Fin 1 → IVec S16 32) a x).toNat < S800.size a) ∧
  (∀ a x, ((![v128] : Fin 1 → IVec S16 32) a x).toNat < S800.size a)
theorem k1_idx7_inb : ∀ (v128 : IVec S16 32) (k1_hw7 : k1_chk7 v128), ∀ a x, ((![v128] : Fin 1 → IVec S16 32) a x).toNat < S800.size a := fun v128 k1_hw7 => k1_hw7.1
theorem k1_idx8_inb : ∀ (v128 : IVec S16 32) (k1_hw7 : k1_chk7 v128), ∀ a x, ((![v128] : Fin 1 → IVec S16 32) a x).toNat < S800.size a := fun v128 k1_hw7 => k1_hw7.2
@[reducible] def k1_t12_loop : Scf.Loop 32 :=
  let c0_i32_39 : BitVec 32 := 0#32
  let c8_i32_40 : BitVec 32 := 8#32
  let v42 : BitVec 32 := Scalar.addi c0_i32_39 c8_i32_40
  let c1_i32_41 : BitVec 32 := 1#32
  ⟨c0_i32_39, v42, c1_i32_41⟩
def k1_off13 (k1_t12 : Fin k1_t12_loop.trips) : Fin 1 → Nat :=
  let c128_i32_126 : BitVec 32 := 128#32
  let c0_i32_39 : BitVec 32 := 0#32
  let c1_i32_41 : BitVec 32 := 1#32
  let arg19 : BitVec 32 := Scf.iv c0_i32_39 c1_i32_41 k1_t12
  let c16_i32_125 : BitVec 32 := 16#32
  let v113 : BitVec 32 := Scalar.muli arg19 c16_i32_125
  let v114 : BitVec 32 := Scalar.addi c128_i32_126 v113
  let v115 : Index := Scalar.indexCast v114
  ![v115.toNat]
def k1_off14 (k1_t12 : Fin k1_t12_loop.trips) : Fin 2 → Nat :=
  let c1_i32_133 : BitVec 32 := 1#32
  let v140 : Index := Scalar.indexCast c1_i32_133
  let c0_i32_39 : BitVec 32 := 0#32
  let c1_i32_41 : BitVec 32 := 1#32
  let arg19 : BitVec 32 := Scf.iv c0_i32_39 c1_i32_41 k1_t12
  let c16_i32_132 : BitVec 32 := 16#32
  let v139 : BitVec 32 := Scalar.muli arg19 c16_i32_132
  let v141 : Index := Scalar.indexCast v139
  ![1, v141.toNat]

def k1_chk8 (v128 : IVec S16 32) : Prop :=
  (∀ a x, ((![v128] : Fin 1 → IVec S16 32) a x).toNat < S800.size a) ∧
  (∀ a x, ((![v128] : Fin 1 → IVec S16 32) a x).toNat < S800.size a)
theorem k1_idx9_inb : ∀ (v128 : IVec S16 32) (k1_hw8 : k1_chk8 v128), ∀ a x, ((![v128] : Fin 1 → IVec S16 32) a x).toNat < S800.size a := fun v128 k1_hw8 => k1_hw8.1
theorem k1_idx10_inb : ∀ (v128 : IVec S16 32) (k1_hw8 : k1_chk8 v128), ∀ a x, ((![v128] : Fin 1 → IVec S16 32) a x).toNat < S800.size a := fun v128 k1_hw8 => k1_hw8.2
@[reducible] def k1_t13_loop : Scf.Loop 32 :=
  let c0_i32_44 : BitVec 32 := 0#32
  let c8_i32_45 : BitVec 32 := 8#32
  let v43 : BitVec 32 := Scalar.addi c0_i32_44 c8_i32_45
  let c1_i32_46 : BitVec 32 := 1#32
  ⟨c0_i32_44, v43, c1_i32_46⟩
def k1_off15 (k1_t13 : Fin k1_t13_loop.trips) : Fin 1 → Nat :=
  let c256_i32_126 : BitVec 32 := 256#32
  let c0_i32_44 : BitVec 32 := 0#32
  let c1_i32_46 : BitVec 32 := 1#32
  let arg19 : BitVec 32 := Scf.iv c0_i32_44 c1_i32_46 k1_t13
  let c16_i32_125 : BitVec 32 := 16#32
  let v113 : BitVec 32 := Scalar.muli arg19 c16_i32_125
  let v114 : BitVec 32 := Scalar.addi c256_i32_126 v113
  let v115 : Index := Scalar.indexCast v114
  ![v115.toNat]
def k1_off16 (k1_t13 : Fin k1_t13_loop.trips) : Fin 2 → Nat :=
  let c2_i32_133 : BitVec 32 := 2#32
  let v140 : Index := Scalar.indexCast c2_i32_133
  let c0_i32_44 : BitVec 32 := 0#32
  let c1_i32_46 : BitVec 32 := 1#32
  let arg19 : BitVec 32 := Scf.iv c0_i32_44 c1_i32_46 k1_t13
  let c16_i32_132 : BitVec 32 := 16#32
  let v139 : BitVec 32 := Scalar.muli arg19 c16_i32_132
  let v141 : Index := Scalar.indexCast v139
  ![2, v141.toNat]

def k1_chk9 (v128 : IVec S16 32) : Prop :=
  (∀ a x, ((![v128] : Fin 1 → IVec S16 32) a x).toNat < S800.size a) ∧
  (∀ a x, ((![v128] : Fin 1 → IVec S16 32) a x).toNat < S800.size a)
theorem k1_idx11_inb : ∀ (v128 : IVec S16 32) (k1_hw9 : k1_chk9 v128), ∀ a x, ((![v128] : Fin 1 → IVec S16 32) a x).toNat < S800.size a := fun v128 k1_hw9 => k1_hw9.1
theorem k1_idx12_inb : ∀ (v128 : IVec S16 32) (k1_hw9 : k1_chk9 v128), ∀ a x, ((![v128] : Fin 1 → IVec S16 32) a x).toNat < S800.size a := fun v128 k1_hw9 => k1_hw9.2
@[reducible] def k1_t14_loop : Scf.Loop 32 :=
  let c0_i32_49 : BitVec 32 := 0#32
  let c8_i32_50 : BitVec 32 := 8#32
  let v44 : BitVec 32 := Scalar.addi c0_i32_49 c8_i32_50
  let c1_i32_51 : BitVec 32 := 1#32
  ⟨c0_i32_49, v44, c1_i32_51⟩
def k1_off17 (k1_t14 : Fin k1_t14_loop.trips) : Fin 1 → Nat :=
  let c384_i32_126 : BitVec 32 := 384#32
  let c0_i32_49 : BitVec 32 := 0#32
  let c1_i32_51 : BitVec 32 := 1#32
  let arg19 : BitVec 32 := Scf.iv c0_i32_49 c1_i32_51 k1_t14
  let c16_i32_125 : BitVec 32 := 16#32
  let v113 : BitVec 32 := Scalar.muli arg19 c16_i32_125
  let v114 : BitVec 32 := Scalar.addi c384_i32_126 v113
  let v115 : Index := Scalar.indexCast v114
  ![v115.toNat]
def k1_off18 (k1_t14 : Fin k1_t14_loop.trips) : Fin 2 → Nat :=
  let c3_i32_133 : BitVec 32 := 3#32
  let v140 : Index := Scalar.indexCast c3_i32_133
  let c0_i32_49 : BitVec 32 := 0#32
  let c1_i32_51 : BitVec 32 := 1#32
  let arg19 : BitVec 32 := Scf.iv c0_i32_49 c1_i32_51 k1_t14
  let c16_i32_132 : BitVec 32 := 16#32
  let v139 : BitVec 32 := Scalar.muli arg19 c16_i32_132
  let v141 : Index := Scalar.indexCast v139
  ![3, v141.toNat]

def k1_chk10 (v128 : IVec S16 32) : Prop :=
  (∀ a x, ((![v128] : Fin 1 → IVec S16 32) a x).toNat < S800.size a) ∧
  (∀ a x, ((![v128] : Fin 1 → IVec S16 32) a x).toNat < S800.size a)
theorem k1_idx13_inb : ∀ (v128 : IVec S16 32) (k1_hw10 : k1_chk10 v128), ∀ a x, ((![v128] : Fin 1 → IVec S16 32) a x).toNat < S800.size a := fun v128 k1_hw10 => k1_hw10.1
theorem k1_idx14_inb : ∀ (v128 : IVec S16 32) (k1_hw10 : k1_chk10 v128), ∀ a x, ((![v128] : Fin 1 → IVec S16 32) a x).toNat < S800.size a := fun v128 k1_hw10 => k1_hw10.2
@[reducible] def k1_t15_loop : Scf.Loop 32 :=
  let c0_i32_54 : BitVec 32 := 0#32
  let c8_i32_55 : BitVec 32 := 8#32
  let v45 : BitVec 32 := Scalar.addi c0_i32_54 c8_i32_55
  let c1_i32_56 : BitVec 32 := 1#32
  ⟨c0_i32_54, v45, c1_i32_56⟩
def k1_off19 (k1_t15 : Fin k1_t15_loop.trips) : Fin 1 → Nat :=
  let c512_i32_126 : BitVec 32 := 512#32
  let c0_i32_54 : BitVec 32 := 0#32
  let c1_i32_56 : BitVec 32 := 1#32
  let arg19 : BitVec 32 := Scf.iv c0_i32_54 c1_i32_56 k1_t15
  let c16_i32_125 : BitVec 32 := 16#32
  let v113 : BitVec 32 := Scalar.muli arg19 c16_i32_125
  let v114 : BitVec 32 := Scalar.addi c512_i32_126 v113
  let v115 : Index := Scalar.indexCast v114
  ![v115.toNat]
def k1_off20 (k1_t15 : Fin k1_t15_loop.trips) : Fin 2 → Nat :=
  let c4_i32_133 : BitVec 32 := 4#32
  let v140 : Index := Scalar.indexCast c4_i32_133
  let c0_i32_54 : BitVec 32 := 0#32
  let c1_i32_56 : BitVec 32 := 1#32
  let arg19 : BitVec 32 := Scf.iv c0_i32_54 c1_i32_56 k1_t15
  let c16_i32_132 : BitVec 32 := 16#32
  let v139 : BitVec 32 := Scalar.muli arg19 c16_i32_132
  let v141 : Index := Scalar.indexCast v139
  ![4, v141.toNat]

def k1_chk11 (v128 : IVec S16 32) : Prop :=
  (∀ a x, ((![v128] : Fin 1 → IVec S16 32) a x).toNat < S800.size a) ∧
  (∀ a x, ((![v128] : Fin 1 → IVec S16 32) a x).toNat < S800.size a)
theorem k1_idx15_inb : ∀ (v128 : IVec S16 32) (k1_hw11 : k1_chk11 v128), ∀ a x, ((![v128] : Fin 1 → IVec S16 32) a x).toNat < S800.size a := fun v128 k1_hw11 => k1_hw11.1
theorem k1_idx16_inb : ∀ (v128 : IVec S16 32) (k1_hw11 : k1_chk11 v128), ∀ a x, ((![v128] : Fin 1 → IVec S16 32) a x).toNat < S800.size a := fun v128 k1_hw11 => k1_hw11.2
@[reducible] def k1_t16_loop : Scf.Loop 32 :=
  let c0_i32_59 : BitVec 32 := 0#32
  let c8_i32_60 : BitVec 32 := 8#32
  let v46 : BitVec 32 := Scalar.addi c0_i32_59 c8_i32_60
  let c1_i32_61 : BitVec 32 := 1#32
  ⟨c0_i32_59, v46, c1_i32_61⟩
def k1_off21 (k1_t16 : Fin k1_t16_loop.trips) : Fin 1 → Nat :=
  let c640_i32_126 : BitVec 32 := 640#32
  let c0_i32_59 : BitVec 32 := 0#32
  let c1_i32_61 : BitVec 32 := 1#32
  let arg19 : BitVec 32 := Scf.iv c0_i32_59 c1_i32_61 k1_t16
  let c16_i32_125 : BitVec 32 := 16#32
  let v113 : BitVec 32 := Scalar.muli arg19 c16_i32_125
  let v114 : BitVec 32 := Scalar.addi c640_i32_126 v113
  let v115 : Index := Scalar.indexCast v114
  ![v115.toNat]
def k1_off22 (k1_t16 : Fin k1_t16_loop.trips) : Fin 2 → Nat :=
  let c5_i32_133 : BitVec 32 := 5#32
  let v140 : Index := Scalar.indexCast c5_i32_133
  let c0_i32_59 : BitVec 32 := 0#32
  let c1_i32_61 : BitVec 32 := 1#32
  let arg19 : BitVec 32 := Scf.iv c0_i32_59 c1_i32_61 k1_t16
  let c16_i32_132 : BitVec 32 := 16#32
  let v139 : BitVec 32 := Scalar.muli arg19 c16_i32_132
  let v141 : Index := Scalar.indexCast v139
  ![5, v141.toNat]

def k1_chk12 (v128 : IVec S16 32) : Prop :=
  (∀ a x, ((![v128] : Fin 1 → IVec S16 32) a x).toNat < S800.size a) ∧
  (∀ a x, ((![v128] : Fin 1 → IVec S16 32) a x).toNat < S800.size a)
theorem k1_idx17_inb : ∀ (v128 : IVec S16 32) (k1_hw12 : k1_chk12 v128), ∀ a x, ((![v128] : Fin 1 → IVec S16 32) a x).toNat < S800.size a := fun v128 k1_hw12 => k1_hw12.1
theorem k1_idx18_inb : ∀ (v128 : IVec S16 32) (k1_hw12 : k1_chk12 v128), ∀ a x, ((![v128] : Fin 1 → IVec S16 32) a x).toNat < S800.size a := fun v128 k1_hw12 => k1_hw12.2
@[reducible] def k1_t17_loop : Scf.Loop 32 :=
  let c0_i32_64 : BitVec 32 := 0#32
  let c8_i32_65 : BitVec 32 := 8#32
  let v47 : BitVec 32 := Scalar.addi c0_i32_64 c8_i32_65
  let c1_i32_66 : BitVec 32 := 1#32
  ⟨c0_i32_64, v47, c1_i32_66⟩
def k1_off23 (k1_t17 : Fin k1_t17_loop.trips) : Fin 1 → Nat :=
  let c768_i32_126 : BitVec 32 := 768#32
  let c0_i32_64 : BitVec 32 := 0#32
  let c1_i32_66 : BitVec 32 := 1#32
  let arg19 : BitVec 32 := Scf.iv c0_i32_64 c1_i32_66 k1_t17
  let c16_i32_125 : BitVec 32 := 16#32
  let v113 : BitVec 32 := Scalar.muli arg19 c16_i32_125
  let v114 : BitVec 32 := Scalar.addi c768_i32_126 v113
  let v115 : Index := Scalar.indexCast v114
  ![v115.toNat]
def k1_off24 (k1_t17 : Fin k1_t17_loop.trips) : Fin 2 → Nat :=
  let c6_i32_133 : BitVec 32 := 6#32
  let v140 : Index := Scalar.indexCast c6_i32_133
  let c0_i32_64 : BitVec 32 := 0#32
  let c1_i32_66 : BitVec 32 := 1#32
  let arg19 : BitVec 32 := Scf.iv c0_i32_64 c1_i32_66 k1_t17
  let c16_i32_132 : BitVec 32 := 16#32
  let v139 : BitVec 32 := Scalar.muli arg19 c16_i32_132
  let v141 : Index := Scalar.indexCast v139
  ![6, v141.toNat]

def k1_chk13 (v128 : IVec S16 32) : Prop :=
  (∀ a x, ((![v128] : Fin 1 → IVec S16 32) a x).toNat < S800.size a) ∧
  (∀ a x, ((![v128] : Fin 1 → IVec S16 32) a x).toNat < S800.size a)
theorem k1_idx19_inb : ∀ (v128 : IVec S16 32) (k1_hw13 : k1_chk13 v128), ∀ a x, ((![v128] : Fin 1 → IVec S16 32) a x).toNat < S800.size a := fun v128 k1_hw13 => k1_hw13.1
theorem k1_idx20_inb : ∀ (v128 : IVec S16 32) (k1_hw13 : k1_chk13 v128), ∀ a x, ((![v128] : Fin 1 → IVec S16 32) a x).toNat < S800.size a := fun v128 k1_hw13 => k1_hw13.2
@[reducible] def k1_t18_loop : Scf.Loop 32 :=
  let c0_i32_69 : BitVec 32 := 0#32
  let c8_i32_70 : BitVec 32 := 8#32
  let v48 : BitVec 32 := Scalar.addi c0_i32_69 c8_i32_70
  let c1_i32_71 : BitVec 32 := 1#32
  ⟨c0_i32_69, v48, c1_i32_71⟩
def k1_off25 (k1_t18 : Fin k1_t18_loop.trips) : Fin 1 → Nat :=
  let c896_i32_126 : BitVec 32 := 896#32
  let c0_i32_69 : BitVec 32 := 0#32
  let c1_i32_71 : BitVec 32 := 1#32
  let arg19 : BitVec 32 := Scf.iv c0_i32_69 c1_i32_71 k1_t18
  let c16_i32_125 : BitVec 32 := 16#32
  let v113 : BitVec 32 := Scalar.muli arg19 c16_i32_125
  let v114 : BitVec 32 := Scalar.addi c896_i32_126 v113
  let v115 : Index := Scalar.indexCast v114
  ![v115.toNat]
def k1_off26 (k1_t18 : Fin k1_t18_loop.trips) : Fin 2 → Nat :=
  let c7_i32_133 : BitVec 32 := 7#32
  let v140 : Index := Scalar.indexCast c7_i32_133
  let c0_i32_69 : BitVec 32 := 0#32
  let c1_i32_71 : BitVec 32 := 1#32
  let arg19 : BitVec 32 := Scf.iv c0_i32_69 c1_i32_71 k1_t18
  let c16_i32_132 : BitVec 32 := 16#32
  let v139 : BitVec 32 := Scalar.muli arg19 c16_i32_132
  let v141 : Index := Scalar.indexCast v139
  ![7, v141.toNat]

def k1_chk14 (v128 : IVec S16 32) : Prop :=
  (∀ a x, ((![v128] : Fin 1 → IVec S16 32) a x).toNat < S800.size a) ∧
  (∀ a x, ((![v128] : Fin 1 → IVec S16 32) a x).toNat < S800.size a)
theorem k1_idx21_inb : ∀ (v128 : IVec S16 32) (k1_hw14 : k1_chk14 v128), ∀ a x, ((![v128] : Fin 1 → IVec S16 32) a x).toNat < S800.size a := fun v128 k1_hw14 => k1_hw14.1
theorem k1_idx22_inb : ∀ (v128 : IVec S16 32) (k1_hw14 : k1_chk14 v128), ∀ a x, ((![v128] : Fin 1 → IVec S16 32) a x).toNat < S800.size a := fun v128 k1_hw14 => k1_hw14.2
@[reducible] def k1_t19_loop (v28 : BitVec 32) : Scf.Loop 32 :=
  let c0_i32_30 : BitVec 32 := 0#32
  let c1023_i32 : BitVec 32 := 1023#32
  let v32 : BitVec 32 := Scalar.addi v28 c1023_i32
  let c10_i32 : BitVec 32 := 10#32
  let v33 : BitVec 32 := Scalar.shrsi v32 c10_i32
  let v34 : BitVec 32 := Scalar.subi v33 c0_i32_30
  let c1_i32_31 : BitVec 32 := 1#32
  let v36 : BitVec 32 := Scalar.divsi v34 c1_i32_31
  let v37 : BitVec 32 := Scalar.muli v36 c1_i32_31
  let v38 : BitVec 32 := Scalar.addi c0_i32_30 v37
  let v35 : BitVec 32 := Scalar.addi c0_i32_30 v34
  let c1_i32_33 : BitVec 32 := 1#32
  ⟨v38, v35, c1_i32_33⟩
def k1_off27 (i : grid1.Coords) (k1_t9 : Fin k1_t9_loop.trips) (v28 : BitVec 32) (k1_t19 : Fin (k1_t19_loop v28).trips) : Fin 1 → Nat :=
  let c0_i32_20 : BitVec 32 := 0#32
  let c1_i32_22 : BitVec 32 := 1#32
  let arg17 : BitVec 32 := Scf.iv c0_i32_20 c1_i32_22 k1_t9
  let c32_i32_28 : BitVec 32 := 32#32
  let v29 : BitVec 32 := Scalar.muli arg17 c32_i32_28
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v30 : BitVec 32 := Scalar.addi v29 v1
  let c259200_i32 : BitVec 32 := 259200#32
  let v31 : BitVec 32 := Scalar.muli v30 c259200_i32
  let c0_i32_30 : BitVec 32 := 0#32
  let c1023_i32 : BitVec 32 := 1023#32
  let v32 : BitVec 32 := Scalar.addi v28 c1023_i32
  let c10_i32 : BitVec 32 := 10#32
  let v33 : BitVec 32 := Scalar.shrsi v32 c10_i32
  let v34 : BitVec 32 := Scalar.subi v33 c0_i32_30
  let c1_i32_31 : BitVec 32 := 1#32
  let v36 : BitVec 32 := Scalar.divsi v34 c1_i32_31
  let v37 : BitVec 32 := Scalar.muli v36 c1_i32_31
  let v38 : BitVec 32 := Scalar.addi c0_i32_30 v37
  let c1_i32_33 : BitVec 32 := 1#32
  let arg18 : BitVec 32 := Scf.iv v38 c1_i32_33 k1_t19
  let c1024_i32 : BitVec 32 := 1024#32
  let v39 : BitVec 32 := Scalar.muli arg18 c1024_i32
  let v40 : BitVec 32 := Scalar.addi v31 v39
  ![v40.toNat]

def k1_chk6 (i : grid1.Coords) (k1_t9 : Fin k1_t9_loop.trips) (v28 : BitVec 32) : Prop :=
  ((k1_t10_loop v28).OK) ∧
  (∀ k1_t10 : Fin (k1_t10_loop v28).trips, ∀ a, (k1_off10 i k1_t9 v28 k1_t10) a + S1024.size a ≤ S265420800.size a) ∧
  ((k1_t19_loop v28).OK) ∧
  (∀ k1_t19 : Fin (k1_t19_loop v28).trips, ∀ a, (k1_off27 i k1_t9 v28 k1_t19) a + S1024.size a ≤ S265420800.size a)
theorem k1_t10_ok : ∀ (i : grid1.Coords) (k1_t9 : Fin k1_t9_loop.trips) (v28 : BitVec 32) (k1_hw6 : k1_chk6 i k1_t9 v28), (k1_t10_loop v28).OK := fun i k1_t9 v28 k1_hw6 => k1_hw6.1
theorem k1_off10_inb : ∀ (i : grid1.Coords) (k1_t9 : Fin k1_t9_loop.trips) (v28 : BitVec 32) (k1_hw6 : k1_chk6 i k1_t9 v28) (k1_t10 : Fin (k1_t10_loop v28).trips), ∀ a, (k1_off10 i k1_t9 v28 k1_t10) a + S1024.size a ≤ S265420800.size a := fun i k1_t9 v28 k1_hw6 k1_t10 => k1_hw6.2.1 k1_t10
theorem k1_t19_ok : ∀ (i : grid1.Coords) (k1_t9 : Fin k1_t9_loop.trips) (v28 : BitVec 32) (k1_hw6 : k1_chk6 i k1_t9 v28), (k1_t19_loop v28).OK := fun i k1_t9 v28 k1_hw6 => k1_hw6.2.2.1
theorem k1_off27_inb : ∀ (i : grid1.Coords) (k1_t9 : Fin k1_t9_loop.trips) (v28 : BitVec 32) (k1_hw6 : k1_chk6 i k1_t9 v28) (k1_t19 : Fin (k1_t19_loop v28).trips), ∀ a, (k1_off27 i k1_t9 v28 k1_t19) a + S1024.size a ≤ S265420800.size a := fun i k1_t9 v28 k1_hw6 k1_t19 => k1_hw6.2.2.2 k1_t19

@[reducible] def k1_t20_loop : Scf.Loop 32 :=
  let c0_i32_35 : BitVec 32 := 0#32
  let c8_i32 : BitVec 32 := 8#32
  let v41 : BitVec 32 := Scalar.addi c0_i32_35 c8_i32
  let c1_i32_36 : BitVec 32 := 1#32
  ⟨c0_i32_35, v41, c1_i32_36⟩
def k1_off28 (k1_t20 : Fin k1_t20_loop.trips) : Fin 1 → Nat :=
  let c0_i32_126 : BitVec 32 := 0#32
  let c0_i32_35 : BitVec 32 := 0#32
  let c1_i32_36 : BitVec 32 := 1#32
  let arg19 : BitVec 32 := Scf.iv c0_i32_35 c1_i32_36 k1_t20
  let c16_i32_125 : BitVec 32 := 16#32
  let v113 : BitVec 32 := Scalar.muli arg19 c16_i32_125
  let v114 : BitVec 32 := Scalar.addi c0_i32_126 v113
  let v115 : Index := Scalar.indexCast v114
  ![v115.toNat]
def k1_off29 (k1_t20 : Fin k1_t20_loop.trips) : Fin 2 → Nat :=
  let c0_i32_133 : BitVec 32 := 0#32
  let v140 : Index := Scalar.indexCast c0_i32_133
  let c0_i32_35 : BitVec 32 := 0#32
  let c1_i32_36 : BitVec 32 := 1#32
  let arg19 : BitVec 32 := Scf.iv c0_i32_35 c1_i32_36 k1_t20
  let c16_i32_132 : BitVec 32 := 16#32
  let v139 : BitVec 32 := Scalar.muli arg19 c16_i32_132
  let v141 : Index := Scalar.indexCast v139
  ![0, v141.toNat]

def k1_chk15 (v128 : IVec S16 32) : Prop :=
  (∀ a x, ((![v128] : Fin 1 → IVec S16 32) a x).toNat < S800.size a) ∧
  (∀ a x, ((![v128] : Fin 1 → IVec S16 32) a x).toNat < S800.size a)
theorem k1_idx23_inb : ∀ (v128 : IVec S16 32) (k1_hw15 : k1_chk15 v128), ∀ a x, ((![v128] : Fin 1 → IVec S16 32) a x).toNat < S800.size a := fun v128 k1_hw15 => k1_hw15.1
theorem k1_idx24_inb : ∀ (v128 : IVec S16 32) (k1_hw15 : k1_chk15 v128), ∀ a x, ((![v128] : Fin 1 → IVec S16 32) a x).toNat < S800.size a := fun v128 k1_hw15 => k1_hw15.2
@[reducible] def k1_t21_loop : Scf.Loop 32 :=
  let c0_i32_39 : BitVec 32 := 0#32
  let c8_i32_40 : BitVec 32 := 8#32
  let v42 : BitVec 32 := Scalar.addi c0_i32_39 c8_i32_40
  let c1_i32_41 : BitVec 32 := 1#32
  ⟨c0_i32_39, v42, c1_i32_41⟩
def k1_off30 (k1_t21 : Fin k1_t21_loop.trips) : Fin 1 → Nat :=
  let c128_i32_126 : BitVec 32 := 128#32
  let c0_i32_39 : BitVec 32 := 0#32
  let c1_i32_41 : BitVec 32 := 1#32
  let arg19 : BitVec 32 := Scf.iv c0_i32_39 c1_i32_41 k1_t21
  let c16_i32_125 : BitVec 32 := 16#32
  let v113 : BitVec 32 := Scalar.muli arg19 c16_i32_125
  let v114 : BitVec 32 := Scalar.addi c128_i32_126 v113
  let v115 : Index := Scalar.indexCast v114
  ![v115.toNat]
def k1_off31 (k1_t21 : Fin k1_t21_loop.trips) : Fin 2 → Nat :=
  let c1_i32_133 : BitVec 32 := 1#32
  let v140 : Index := Scalar.indexCast c1_i32_133
  let c0_i32_39 : BitVec 32 := 0#32
  let c1_i32_41 : BitVec 32 := 1#32
  let arg19 : BitVec 32 := Scf.iv c0_i32_39 c1_i32_41 k1_t21
  let c16_i32_132 : BitVec 32 := 16#32
  let v139 : BitVec 32 := Scalar.muli arg19 c16_i32_132
  let v141 : Index := Scalar.indexCast v139
  ![1, v141.toNat]

def k1_chk16 (v128 : IVec S16 32) : Prop :=
  (∀ a x, ((![v128] : Fin 1 → IVec S16 32) a x).toNat < S800.size a) ∧
  (∀ a x, ((![v128] : Fin 1 → IVec S16 32) a x).toNat < S800.size a)
theorem k1_idx25_inb : ∀ (v128 : IVec S16 32) (k1_hw16 : k1_chk16 v128), ∀ a x, ((![v128] : Fin 1 → IVec S16 32) a x).toNat < S800.size a := fun v128 k1_hw16 => k1_hw16.1
theorem k1_idx26_inb : ∀ (v128 : IVec S16 32) (k1_hw16 : k1_chk16 v128), ∀ a x, ((![v128] : Fin 1 → IVec S16 32) a x).toNat < S800.size a := fun v128 k1_hw16 => k1_hw16.2
@[reducible] def k1_t22_loop : Scf.Loop 32 :=
  let c0_i32_44 : BitVec 32 := 0#32
  let c8_i32_45 : BitVec 32 := 8#32
  let v43 : BitVec 32 := Scalar.addi c0_i32_44 c8_i32_45
  let c1_i32_46 : BitVec 32 := 1#32
  ⟨c0_i32_44, v43, c1_i32_46⟩
def k1_off32 (k1_t22 : Fin k1_t22_loop.trips) : Fin 1 → Nat :=
  let c256_i32_126 : BitVec 32 := 256#32
  let c0_i32_44 : BitVec 32 := 0#32
  let c1_i32_46 : BitVec 32 := 1#32
  let arg19 : BitVec 32 := Scf.iv c0_i32_44 c1_i32_46 k1_t22
  let c16_i32_125 : BitVec 32 := 16#32
  let v113 : BitVec 32 := Scalar.muli arg19 c16_i32_125
  let v114 : BitVec 32 := Scalar.addi c256_i32_126 v113
  let v115 : Index := Scalar.indexCast v114
  ![v115.toNat]
def k1_off33 (k1_t22 : Fin k1_t22_loop.trips) : Fin 2 → Nat :=
  let c2_i32_133 : BitVec 32 := 2#32
  let v140 : Index := Scalar.indexCast c2_i32_133
  let c0_i32_44 : BitVec 32 := 0#32
  let c1_i32_46 : BitVec 32 := 1#32
  let arg19 : BitVec 32 := Scf.iv c0_i32_44 c1_i32_46 k1_t22
  let c16_i32_132 : BitVec 32 := 16#32
  let v139 : BitVec 32 := Scalar.muli arg19 c16_i32_132
  let v141 : Index := Scalar.indexCast v139
  ![2, v141.toNat]

def k1_chk17 (v128 : IVec S16 32) : Prop :=
  (∀ a x, ((![v128] : Fin 1 → IVec S16 32) a x).toNat < S800.size a) ∧
  (∀ a x, ((![v128] : Fin 1 → IVec S16 32) a x).toNat < S800.size a)
theorem k1_idx27_inb : ∀ (v128 : IVec S16 32) (k1_hw17 : k1_chk17 v128), ∀ a x, ((![v128] : Fin 1 → IVec S16 32) a x).toNat < S800.size a := fun v128 k1_hw17 => k1_hw17.1
theorem k1_idx28_inb : ∀ (v128 : IVec S16 32) (k1_hw17 : k1_chk17 v128), ∀ a x, ((![v128] : Fin 1 → IVec S16 32) a x).toNat < S800.size a := fun v128 k1_hw17 => k1_hw17.2
@[reducible] def k1_t23_loop : Scf.Loop 32 :=
  let c0_i32_49 : BitVec 32 := 0#32
  let c8_i32_50 : BitVec 32 := 8#32
  let v44 : BitVec 32 := Scalar.addi c0_i32_49 c8_i32_50
  let c1_i32_51 : BitVec 32 := 1#32
  ⟨c0_i32_49, v44, c1_i32_51⟩
def k1_off34 (k1_t23 : Fin k1_t23_loop.trips) : Fin 1 → Nat :=
  let c384_i32_126 : BitVec 32 := 384#32
  let c0_i32_49 : BitVec 32 := 0#32
  let c1_i32_51 : BitVec 32 := 1#32
  let arg19 : BitVec 32 := Scf.iv c0_i32_49 c1_i32_51 k1_t23
  let c16_i32_125 : BitVec 32 := 16#32
  let v113 : BitVec 32 := Scalar.muli arg19 c16_i32_125
  let v114 : BitVec 32 := Scalar.addi c384_i32_126 v113
  let v115 : Index := Scalar.indexCast v114
  ![v115.toNat]
def k1_off35 (k1_t23 : Fin k1_t23_loop.trips) : Fin 2 → Nat :=
  let c3_i32_133 : BitVec 32 := 3#32
  let v140 : Index := Scalar.indexCast c3_i32_133
  let c0_i32_49 : BitVec 32 := 0#32
  let c1_i32_51 : BitVec 32 := 1#32
  let arg19 : BitVec 32 := Scf.iv c0_i32_49 c1_i32_51 k1_t23
  let c16_i32_132 : BitVec 32 := 16#32
  let v139 : BitVec 32 := Scalar.muli arg19 c16_i32_132
  let v141 : Index := Scalar.indexCast v139
  ![3, v141.toNat]

def k1_chk18 (v128 : IVec S16 32) : Prop :=
  (∀ a x, ((![v128] : Fin 1 → IVec S16 32) a x).toNat < S800.size a) ∧
  (∀ a x, ((![v128] : Fin 1 → IVec S16 32) a x).toNat < S800.size a)
theorem k1_idx29_inb : ∀ (v128 : IVec S16 32) (k1_hw18 : k1_chk18 v128), ∀ a x, ((![v128] : Fin 1 → IVec S16 32) a x).toNat < S800.size a := fun v128 k1_hw18 => k1_hw18.1
theorem k1_idx30_inb : ∀ (v128 : IVec S16 32) (k1_hw18 : k1_chk18 v128), ∀ a x, ((![v128] : Fin 1 → IVec S16 32) a x).toNat < S800.size a := fun v128 k1_hw18 => k1_hw18.2
@[reducible] def k1_t24_loop : Scf.Loop 32 :=
  let c0_i32_54 : BitVec 32 := 0#32
  let c8_i32_55 : BitVec 32 := 8#32
  let v45 : BitVec 32 := Scalar.addi c0_i32_54 c8_i32_55
  let c1_i32_56 : BitVec 32 := 1#32
  ⟨c0_i32_54, v45, c1_i32_56⟩
def k1_off36 (k1_t24 : Fin k1_t24_loop.trips) : Fin 1 → Nat :=
  let c512_i32_126 : BitVec 32 := 512#32
  let c0_i32_54 : BitVec 32 := 0#32
  let c1_i32_56 : BitVec 32 := 1#32
  let arg19 : BitVec 32 := Scf.iv c0_i32_54 c1_i32_56 k1_t24
  let c16_i32_125 : BitVec 32 := 16#32
  let v113 : BitVec 32 := Scalar.muli arg19 c16_i32_125
  let v114 : BitVec 32 := Scalar.addi c512_i32_126 v113
  let v115 : Index := Scalar.indexCast v114
  ![v115.toNat]
def k1_off37 (k1_t24 : Fin k1_t24_loop.trips) : Fin 2 → Nat :=
  let c4_i32_133 : BitVec 32 := 4#32
  let v140 : Index := Scalar.indexCast c4_i32_133
  let c0_i32_54 : BitVec 32 := 0#32
  let c1_i32_56 : BitVec 32 := 1#32
  let arg19 : BitVec 32 := Scf.iv c0_i32_54 c1_i32_56 k1_t24
  let c16_i32_132 : BitVec 32 := 16#32
  let v139 : BitVec 32 := Scalar.muli arg19 c16_i32_132
  let v141 : Index := Scalar.indexCast v139
  ![4, v141.toNat]

def k1_chk19 (v128 : IVec S16 32) : Prop :=
  (∀ a x, ((![v128] : Fin 1 → IVec S16 32) a x).toNat < S800.size a) ∧
  (∀ a x, ((![v128] : Fin 1 → IVec S16 32) a x).toNat < S800.size a)
theorem k1_idx31_inb : ∀ (v128 : IVec S16 32) (k1_hw19 : k1_chk19 v128), ∀ a x, ((![v128] : Fin 1 → IVec S16 32) a x).toNat < S800.size a := fun v128 k1_hw19 => k1_hw19.1
theorem k1_idx32_inb : ∀ (v128 : IVec S16 32) (k1_hw19 : k1_chk19 v128), ∀ a x, ((![v128] : Fin 1 → IVec S16 32) a x).toNat < S800.size a := fun v128 k1_hw19 => k1_hw19.2
@[reducible] def k1_t25_loop : Scf.Loop 32 :=
  let c0_i32_59 : BitVec 32 := 0#32
  let c8_i32_60 : BitVec 32 := 8#32
  let v46 : BitVec 32 := Scalar.addi c0_i32_59 c8_i32_60
  let c1_i32_61 : BitVec 32 := 1#32
  ⟨c0_i32_59, v46, c1_i32_61⟩
def k1_off38 (k1_t25 : Fin k1_t25_loop.trips) : Fin 1 → Nat :=
  let c640_i32_126 : BitVec 32 := 640#32
  let c0_i32_59 : BitVec 32 := 0#32
  let c1_i32_61 : BitVec 32 := 1#32
  let arg19 : BitVec 32 := Scf.iv c0_i32_59 c1_i32_61 k1_t25
  let c16_i32_125 : BitVec 32 := 16#32
  let v113 : BitVec 32 := Scalar.muli arg19 c16_i32_125
  let v114 : BitVec 32 := Scalar.addi c640_i32_126 v113
  let v115 : Index := Scalar.indexCast v114
  ![v115.toNat]
def k1_off39 (k1_t25 : Fin k1_t25_loop.trips) : Fin 2 → Nat :=
  let c5_i32_133 : BitVec 32 := 5#32
  let v140 : Index := Scalar.indexCast c5_i32_133
  let c0_i32_59 : BitVec 32 := 0#32
  let c1_i32_61 : BitVec 32 := 1#32
  let arg19 : BitVec 32 := Scf.iv c0_i32_59 c1_i32_61 k1_t25
  let c16_i32_132 : BitVec 32 := 16#32
  let v139 : BitVec 32 := Scalar.muli arg19 c16_i32_132
  let v141 : Index := Scalar.indexCast v139
  ![5, v141.toNat]

def k1_chk20 (v128 : IVec S16 32) : Prop :=
  (∀ a x, ((![v128] : Fin 1 → IVec S16 32) a x).toNat < S800.size a) ∧
  (∀ a x, ((![v128] : Fin 1 → IVec S16 32) a x).toNat < S800.size a)
theorem k1_idx33_inb : ∀ (v128 : IVec S16 32) (k1_hw20 : k1_chk20 v128), ∀ a x, ((![v128] : Fin 1 → IVec S16 32) a x).toNat < S800.size a := fun v128 k1_hw20 => k1_hw20.1
theorem k1_idx34_inb : ∀ (v128 : IVec S16 32) (k1_hw20 : k1_chk20 v128), ∀ a x, ((![v128] : Fin 1 → IVec S16 32) a x).toNat < S800.size a := fun v128 k1_hw20 => k1_hw20.2
@[reducible] def k1_t26_loop : Scf.Loop 32 :=
  let c0_i32_64 : BitVec 32 := 0#32
  let c8_i32_65 : BitVec 32 := 8#32
  let v47 : BitVec 32 := Scalar.addi c0_i32_64 c8_i32_65
  let c1_i32_66 : BitVec 32 := 1#32
  ⟨c0_i32_64, v47, c1_i32_66⟩
def k1_off40 (k1_t26 : Fin k1_t26_loop.trips) : Fin 1 → Nat :=
  let c768_i32_126 : BitVec 32 := 768#32
  let c0_i32_64 : BitVec 32 := 0#32
  let c1_i32_66 : BitVec 32 := 1#32
  let arg19 : BitVec 32 := Scf.iv c0_i32_64 c1_i32_66 k1_t26
  let c16_i32_125 : BitVec 32 := 16#32
  let v113 : BitVec 32 := Scalar.muli arg19 c16_i32_125
  let v114 : BitVec 32 := Scalar.addi c768_i32_126 v113
  let v115 : Index := Scalar.indexCast v114
  ![v115.toNat]
def k1_off41 (k1_t26 : Fin k1_t26_loop.trips) : Fin 2 → Nat :=
  let c6_i32_133 : BitVec 32 := 6#32
  let v140 : Index := Scalar.indexCast c6_i32_133
  let c0_i32_64 : BitVec 32 := 0#32
  let c1_i32_66 : BitVec 32 := 1#32
  let arg19 : BitVec 32 := Scf.iv c0_i32_64 c1_i32_66 k1_t26
  let c16_i32_132 : BitVec 32 := 16#32
  let v139 : BitVec 32 := Scalar.muli arg19 c16_i32_132
  let v141 : Index := Scalar.indexCast v139
  ![6, v141.toNat]

def k1_chk21 (v128 : IVec S16 32) : Prop :=
  (∀ a x, ((![v128] : Fin 1 → IVec S16 32) a x).toNat < S800.size a) ∧
  (∀ a x, ((![v128] : Fin 1 → IVec S16 32) a x).toNat < S800.size a)
theorem k1_idx35_inb : ∀ (v128 : IVec S16 32) (k1_hw21 : k1_chk21 v128), ∀ a x, ((![v128] : Fin 1 → IVec S16 32) a x).toNat < S800.size a := fun v128 k1_hw21 => k1_hw21.1
theorem k1_idx36_inb : ∀ (v128 : IVec S16 32) (k1_hw21 : k1_chk21 v128), ∀ a x, ((![v128] : Fin 1 → IVec S16 32) a x).toNat < S800.size a := fun v128 k1_hw21 => k1_hw21.2
@[reducible] def k1_t27_loop : Scf.Loop 32 :=
  let c0_i32_69 : BitVec 32 := 0#32
  let c8_i32_70 : BitVec 32 := 8#32
  let v48 : BitVec 32 := Scalar.addi c0_i32_69 c8_i32_70
  let c1_i32_71 : BitVec 32 := 1#32
  ⟨c0_i32_69, v48, c1_i32_71⟩
def k1_off42 (k1_t27 : Fin k1_t27_loop.trips) : Fin 1 → Nat :=
  let c896_i32_126 : BitVec 32 := 896#32
  let c0_i32_69 : BitVec 32 := 0#32
  let c1_i32_71 : BitVec 32 := 1#32
  let arg19 : BitVec 32 := Scf.iv c0_i32_69 c1_i32_71 k1_t27
  let c16_i32_125 : BitVec 32 := 16#32
  let v113 : BitVec 32 := Scalar.muli arg19 c16_i32_125
  let v114 : BitVec 32 := Scalar.addi c896_i32_126 v113
  let v115 : Index := Scalar.indexCast v114
  ![v115.toNat]
def k1_off43 (k1_t27 : Fin k1_t27_loop.trips) : Fin 2 → Nat :=
  let c7_i32_133 : BitVec 32 := 7#32
  let v140 : Index := Scalar.indexCast c7_i32_133
  let c0_i32_69 : BitVec 32 := 0#32
  let c1_i32_71 : BitVec 32 := 1#32
  let arg19 : BitVec 32 := Scf.iv c0_i32_69 c1_i32_71 k1_t27
  let c16_i32_132 : BitVec 32 := 16#32
  let v139 : BitVec 32 := Scalar.muli arg19 c16_i32_132
  let v141 : Index := Scalar.indexCast v139
  ![7, v141.toNat]

def k1_chk22 (v128 : IVec S16 32) : Prop :=
  (∀ a x, ((![v128] : Fin 1 → IVec S16 32) a x).toNat < S800.size a) ∧
  (∀ a x, ((![v128] : Fin 1 → IVec S16 32) a x).toNat < S800.size a)
theorem k1_idx37_inb : ∀ (v128 : IVec S16 32) (k1_hw22 : k1_chk22 v128), ∀ a x, ((![v128] : Fin 1 → IVec S16 32) a x).toNat < S800.size a := fun v128 k1_hw22 => k1_hw22.1
theorem k1_idx38_inb : ∀ (v128 : IVec S16 32) (k1_hw22 : k1_chk22 v128), ∀ a x, ((![v128] : Fin 1 → IVec S16 32) a x).toNat < S800.size a := fun v128 k1_hw22 => k1_hw22.2
@[reducible] def k1_t28_loop : Scf.Loop 32 :=
  let c0_i32_25 : BitVec 32 := 0#32
  let c782_i32 : BitVec 32 := 782#32
  let v24 : BitVec 32 := Scalar.addi c0_i32_25 c782_i32
  let c1_i32_26 : BitVec 32 := 1#32
  ⟨c0_i32_25, v24, c1_i32_26⟩
def k1_off44 (k1_t28 : Fin k1_t28_loop.trips) : Fin 1 → Nat :=
  let c0_i32_25 : BitVec 32 := 0#32
  let c1_i32_26 : BitVec 32 := 1#32
  let arg17 : BitVec 32 := Scf.iv c0_i32_25 c1_i32_26 k1_t28
  let v25 : Index := Scalar.indexCast arg17
  ![v25.toNat]
def k1_off45 (k1_t28 : Fin k1_t28_loop.trips) : Fin 1 → Nat :=
  let c0_i32_25 : BitVec 32 := 0#32
  let c1_i32_26 : BitVec 32 := 1#32
  let arg17 : BitVec 32 := Scf.iv c0_i32_25 c1_i32_26 k1_t28
  let c1_i32_28 : BitVec 32 := 1#32
  let v29 : BitVec 32 := Scalar.addi arg17 c1_i32_28
  let v30 : Index := Scalar.indexCast v29
  ![v30.toNat]
def k1_mult1 (v28 : BitVec 32) : BitVec 32 :=
  let c_m8_i32 : BitVec 32 := 4294967288#32
  let v34 : BitVec 32 := Scalar.andi v28 c_m8_i32
  v34

def k1_chk23 (v28 : BitVec 32) : Prop :=
  (8 ∣ (k1_mult1 v28).toNat)
theorem k1_mult1_dvd : ∀ (v28 : BitVec 32) (k1_hw23 : k1_chk23 v28), 8 ∣ (k1_mult1 v28).toNat := fun v28 k1_hw23 => k1_hw23

def k1_off46 (i : grid1.Coords) (v28 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8295424_i32 : BitVec 32 := 8295424#32
  let v4 : BitVec 32 := Scalar.muli v1 c8295424_i32
  let c_m8_i32 : BitVec 32 := 4294967288#32
  let v34 : BitVec 32 := Scalar.andi v28 c_m8_i32
  let v35 : BitVec 32 := v34
  let v41 : BitVec 32 := Scalar.addi v4 v35
  ![v41.toNat]
def k1_cond1 (v28 : BitVec 32) (v33 : BitVec 32) : BitVec 1 :=
  let c_m8_i32 : BitVec 32 := 4294967288#32
  let v34 : BitVec 32 := Scalar.andi v28 c_m8_i32
  let v35 : BitVec 32 := v34
  let v36 : BitVec 32 := Scalar.subi v33 v35
  let c512_i32 : BitVec 32 := 512#32
  let v37 : BitVec 1 := Scalar.cmpi .sle v36 c512_i32
  let v38 : BitVec 32 := Scalar.extui v37
  let c0_i32_30 : BitVec 32 := 0#32
  let v39 : BitVec 1 := Scalar.cmpi .ne v38 c0_i32_30
  v39

@[reducible] def k1_t29_loop (v28 : BitVec 32) (v33 : BitVec 32) : Scf.Loop 32 :=
  let c0_i32_32 : BitVec 32 := 0#32
  let c_m8_i32 : BitVec 32 := 4294967288#32
  let v34 : BitVec 32 := Scalar.andi v28 c_m8_i32
  let v35 : BitVec 32 := v34
  let v36 : BitVec 32 := Scalar.subi v33 v35
  let c15_i32 : BitVec 32 := 15#32
  let v42 : BitVec 32 := Scalar.addi v36 c15_i32
  let c4_i32 : BitVec 32 := 4#32
  let v43 : BitVec 32 := Scalar.shrsi v42 c4_i32
  let v44 : BitVec 32 := Scalar.subi v43 c0_i32_32
  let c1_i32_33 : BitVec 32 := 1#32
  let v46 : BitVec 32 := Scalar.divsi v44 c1_i32_33
  let v47 : BitVec 32 := Scalar.muli v46 c1_i32_33
  let v48 : BitVec 32 := Scalar.addi c0_i32_32 v47
  let c1_i32_34 : BitVec 32 := 1#32
  ⟨c0_i32_32, v48, c1_i32_34⟩
def k1_off47 (v28 : BitVec 32) (v33 : BitVec 32) (k1_t29 : Fin (k1_t29_loop v28 v33).trips) : Fin 1 → Nat :=
  let c0_i32_32 : BitVec 32 := 0#32
  let c1_i32_34 : BitVec 32 := 1#32
  let arg18 : BitVec 32 := Scf.iv c0_i32_32 c1_i32_34 k1_t29
  let c16_i32_47 : BitVec 32 := 16#32
  let v59 : BitVec 32 := Scalar.muli arg18 c16_i32_47
  let v60 : Index := Scalar.indexCast v59
  ![v60.toNat]

def k1_chk25 (v28 : BitVec 32) (v33 : BitVec 32) (v72 : IVec S16 32) : Prop :=
  (∀ (k1_h1 : k1_cond1 v28 v33 = 1#1), ∀ a x, ((![v72] : Fin 1 → IVec S16 32) a x).toNat < S65536.size a) ∧
  (∀ (k1_h1 : k1_cond1 v28 v33 = 1#1), ∀ a x, ((![v72] : Fin 1 → IVec S16 32) a x).toNat < S65536.size a)
theorem k1_idx39_inb : ∀ (v28 : BitVec 32) (v33 : BitVec 32) (v72 : IVec S16 32) (k1_hw25 : k1_chk25 v28 v33 v72), ∀ (k1_h1 : k1_cond1 v28 v33 = 1#1), ∀ a x, ((![v72] : Fin 1 → IVec S16 32) a x).toNat < S65536.size a := fun v28 v33 v72 k1_hw25 k1_h1 => k1_hw25.1 k1_h1
theorem k1_idx40_inb : ∀ (v28 : BitVec 32) (v33 : BitVec 32) (v72 : IVec S16 32) (k1_hw25 : k1_chk25 v28 v33 v72), ∀ (k1_h1 : k1_cond1 v28 v33 = 1#1), ∀ a x, ((![v72] : Fin 1 → IVec S16 32) a x).toNat < S65536.size a := fun v28 v33 v72 k1_hw25 k1_h1 => k1_hw25.2 k1_h1
@[reducible] def k1_t30_loop (v28 : BitVec 32) (v33 : BitVec 32) : Scf.Loop 32 :=
  let c0_i32_32 : BitVec 32 := 0#32
  let c_m8_i32 : BitVec 32 := 4294967288#32
  let v34 : BitVec 32 := Scalar.andi v28 c_m8_i32
  let v35 : BitVec 32 := v34
  let v36 : BitVec 32 := Scalar.subi v33 v35
  let c15_i32 : BitVec 32 := 15#32
  let v42 : BitVec 32 := Scalar.addi v36 c15_i32
  let c4_i32 : BitVec 32 := 4#32
  let v43 : BitVec 32 := Scalar.shrsi v42 c4_i32
  let v44 : BitVec 32 := Scalar.subi v43 c0_i32_32
  let c1_i32_33 : BitVec 32 := 1#32
  let v46 : BitVec 32 := Scalar.divsi v44 c1_i32_33
  let v47 : BitVec 32 := Scalar.muli v46 c1_i32_33
  let v48 : BitVec 32 := Scalar.addi c0_i32_32 v47
  let v45 : BitVec 32 := Scalar.addi c0_i32_32 v44
  let c1_i32_35 : BitVec 32 := 1#32
  ⟨v48, v45, c1_i32_35⟩
def k1_off48 (v28 : BitVec 32) (v33 : BitVec 32) (k1_t30 : Fin (k1_t30_loop v28 v33).trips) : Fin 1 → Nat :=
  let c0_i32_32 : BitVec 32 := 0#32
  let c_m8_i32 : BitVec 32 := 4294967288#32
  let v34 : BitVec 32 := Scalar.andi v28 c_m8_i32
  let v35 : BitVec 32 := v34
  let v36 : BitVec 32 := Scalar.subi v33 v35
  let c15_i32 : BitVec 32 := 15#32
  let v42 : BitVec 32 := Scalar.addi v36 c15_i32
  let c4_i32 : BitVec 32 := 4#32
  let v43 : BitVec 32 := Scalar.shrsi v42 c4_i32
  let v44 : BitVec 32 := Scalar.subi v43 c0_i32_32
  let c1_i32_33 : BitVec 32 := 1#32
  let v46 : BitVec 32 := Scalar.divsi v44 c1_i32_33
  let v47 : BitVec 32 := Scalar.muli v46 c1_i32_33
  let v48 : BitVec 32 := Scalar.addi c0_i32_32 v47
  let c1_i32_35 : BitVec 32 := 1#32
  let arg18 : BitVec 32 := Scf.iv v48 c1_i32_35 k1_t30
  let c16_i32_47 : BitVec 32 := 16#32
  let v59 : BitVec 32 := Scalar.muli arg18 c16_i32_47
  let v60 : Index := Scalar.indexCast v59
  ![v60.toNat]

def k1_chk26 (v28 : BitVec 32) (v33 : BitVec 32) (v72 : IVec S16 32) : Prop :=
  (∀ (k1_h1 : k1_cond1 v28 v33 = 1#1), ∀ a x, ((![v72] : Fin 1 → IVec S16 32) a x).toNat < S65536.size a) ∧
  (∀ (k1_h1 : k1_cond1 v28 v33 = 1#1), ∀ a x, ((![v72] : Fin 1 → IVec S16 32) a x).toNat < S65536.size a)
theorem k1_idx41_inb : ∀ (v28 : BitVec 32) (v33 : BitVec 32) (v72 : IVec S16 32) (k1_hw26 : k1_chk26 v28 v33 v72), ∀ (k1_h1 : k1_cond1 v28 v33 = 1#1), ∀ a x, ((![v72] : Fin 1 → IVec S16 32) a x).toNat < S65536.size a := fun v28 v33 v72 k1_hw26 k1_h1 => k1_hw26.1 k1_h1
theorem k1_idx42_inb : ∀ (v28 : BitVec 32) (v33 : BitVec 32) (v72 : IVec S16 32) (k1_hw26 : k1_chk26 v28 v33 v72), ∀ (k1_h1 : k1_cond1 v28 v33 = 1#1), ∀ a x, ((![v72] : Fin 1 → IVec S16 32) a x).toNat < S65536.size a := fun v28 v33 v72 k1_hw26 k1_h1 => k1_hw26.2 k1_h1
@[reducible] def k1_t31_loop (v28 : BitVec 32) (v33 : BitVec 32) : Scf.Loop 32 :=
  let c0_i32_37 : BitVec 32 := 0#32
  let c_m8_i32 : BitVec 32 := 4294967288#32
  let v34 : BitVec 32 := Scalar.andi v28 c_m8_i32
  let v35 : BitVec 32 := v34
  let v36 : BitVec 32 := Scalar.subi v33 v35
  let c15_i32 : BitVec 32 := 15#32
  let v42 : BitVec 32 := Scalar.addi v36 c15_i32
  let c4_i32 : BitVec 32 := 4#32
  let v43 : BitVec 32 := Scalar.shrsi v42 c4_i32
  let v49 : BitVec 32 := Scalar.subi v43 c0_i32_37
  let c1_i32_38 : BitVec 32 := 1#32
  let v51 : BitVec 32 := Scalar.divsi v49 c1_i32_38
  let v52 : BitVec 32 := Scalar.muli v51 c1_i32_38
  let v53 : BitVec 32 := Scalar.addi c0_i32_37 v52
  let c1_i32_39 : BitVec 32 := 1#32
  ⟨c0_i32_37, v53, c1_i32_39⟩
def k1_off49 (v28 : BitVec 32) (v33 : BitVec 32) (k1_t31 : Fin (k1_t31_loop v28 v33).trips) : Fin 1 → Nat :=
  let c0_i32_37 : BitVec 32 := 0#32
  let c1_i32_39 : BitVec 32 := 1#32
  let arg18 : BitVec 32 := Scf.iv c0_i32_37 c1_i32_39 k1_t31
  let c16_i32_47 : BitVec 32 := 16#32
  let v59 : BitVec 32 := Scalar.muli arg18 c16_i32_47
  let v60 : Index := Scalar.indexCast v59
  ![v60.toNat]

def k1_chk27 (v28 : BitVec 32) (v33 : BitVec 32) (v72 : IVec S16 32) : Prop :=
  (∀ (k1_h1 : k1_cond1 v28 v33 = 1#1), ∀ a x, ((![v72] : Fin 1 → IVec S16 32) a x).toNat < S65536.size a)
theorem k1_idx43_inb : ∀ (v28 : BitVec 32) (v33 : BitVec 32) (v72 : IVec S16 32) (k1_hw27 : k1_chk27 v28 v33 v72), ∀ (k1_h1 : k1_cond1 v28 v33 = 1#1), ∀ a x, ((![v72] : Fin 1 → IVec S16 32) a x).toNat < S65536.size a := fun v28 v33 v72 k1_hw27 k1_h1 => k1_hw27 k1_h1
@[reducible] def k1_t32_loop (v28 : BitVec 32) (v33 : BitVec 32) : Scf.Loop 32 :=
  let c0_i32_37 : BitVec 32 := 0#32
  let c_m8_i32 : BitVec 32 := 4294967288#32
  let v34 : BitVec 32 := Scalar.andi v28 c_m8_i32
  let v35 : BitVec 32 := v34
  let v36 : BitVec 32 := Scalar.subi v33 v35
  let c15_i32 : BitVec 32 := 15#32
  let v42 : BitVec 32 := Scalar.addi v36 c15_i32
  let c4_i32 : BitVec 32 := 4#32
  let v43 : BitVec 32 := Scalar.shrsi v42 c4_i32
  let v49 : BitVec 32 := Scalar.subi v43 c0_i32_37
  let c1_i32_38 : BitVec 32 := 1#32
  let v51 : BitVec 32 := Scalar.divsi v49 c1_i32_38
  let v52 : BitVec 32 := Scalar.muli v51 c1_i32_38
  let v53 : BitVec 32 := Scalar.addi c0_i32_37 v52
  let v50 : BitVec 32 := Scalar.addi c0_i32_37 v49
  let c1_i32_40 : BitVec 32 := 1#32
  ⟨v53, v50, c1_i32_40⟩
def k1_off50 (v28 : BitVec 32) (v33 : BitVec 32) (k1_t32 : Fin (k1_t32_loop v28 v33).trips) : Fin 1 → Nat :=
  let c0_i32_37 : BitVec 32 := 0#32
  let c_m8_i32 : BitVec 32 := 4294967288#32
  let v34 : BitVec 32 := Scalar.andi v28 c_m8_i32
  let v35 : BitVec 32 := v34
  let v36 : BitVec 32 := Scalar.subi v33 v35
  let c15_i32 : BitVec 32 := 15#32
  let v42 : BitVec 32 := Scalar.addi v36 c15_i32
  let c4_i32 : BitVec 32 := 4#32
  let v43 : BitVec 32 := Scalar.shrsi v42 c4_i32
  let v49 : BitVec 32 := Scalar.subi v43 c0_i32_37
  let c1_i32_38 : BitVec 32 := 1#32
  let v51 : BitVec 32 := Scalar.divsi v49 c1_i32_38
  let v52 : BitVec 32 := Scalar.muli v51 c1_i32_38
  let v53 : BitVec 32 := Scalar.addi c0_i32_37 v52
  let c1_i32_40 : BitVec 32 := 1#32
  let arg18 : BitVec 32 := Scf.iv v53 c1_i32_40 k1_t32
  let c16_i32_47 : BitVec 32 := 16#32
  let v59 : BitVec 32 := Scalar.muli arg18 c16_i32_47
  let v60 : Index := Scalar.indexCast v59
  ![v60.toNat]

def k1_chk28 (v28 : BitVec 32) (v33 : BitVec 32) (v72 : IVec S16 32) : Prop :=
  (∀ (k1_h1 : k1_cond1 v28 v33 = 1#1), ∀ a x, ((![v72] : Fin 1 → IVec S16 32) a x).toNat < S65536.size a)
theorem k1_idx44_inb : ∀ (v28 : BitVec 32) (v33 : BitVec 32) (v72 : IVec S16 32) (k1_hw28 : k1_chk28 v28 v33 v72), ∀ (k1_h1 : k1_cond1 v28 v33 = 1#1), ∀ a x, ((![v72] : Fin 1 → IVec S16 32) a x).toNat < S65536.size a := fun v28 v33 v72 k1_hw28 k1_h1 => k1_hw28 k1_h1
@[reducible] def k1_t33_loop (v28 : BitVec 32) (v33 : BitVec 32) : Scf.Loop 32 :=
  let c0_i32_42 : BitVec 32 := 0#32
  let c_m8_i32 : BitVec 32 := 4294967288#32
  let v34 : BitVec 32 := Scalar.andi v28 c_m8_i32
  let v35 : BitVec 32 := v34
  let v36 : BitVec 32 := Scalar.subi v33 v35
  let c15_i32 : BitVec 32 := 15#32
  let v42 : BitVec 32 := Scalar.addi v36 c15_i32
  let c4_i32 : BitVec 32 := 4#32
  let v43 : BitVec 32 := Scalar.shrsi v42 c4_i32
  let v54 : BitVec 32 := Scalar.subi v43 c0_i32_42
  let c1_i32_43 : BitVec 32 := 1#32
  let v56 : BitVec 32 := Scalar.divsi v54 c1_i32_43
  let v57 : BitVec 32 := Scalar.muli v56 c1_i32_43
  let v58 : BitVec 32 := Scalar.addi c0_i32_42 v57
  let c1_i32_44 : BitVec 32 := 1#32
  ⟨c0_i32_42, v58, c1_i32_44⟩
def k1_off51 (v28 : BitVec 32) (v33 : BitVec 32) (k1_t33 : Fin (k1_t33_loop v28 v33).trips) : Fin 1 → Nat :=
  let c0_i32_42 : BitVec 32 := 0#32
  let c1_i32_44 : BitVec 32 := 1#32
  let arg18 : BitVec 32 := Scf.iv c0_i32_42 c1_i32_44 k1_t33
  let c16_i32_47 : BitVec 32 := 16#32
  let v59 : BitVec 32 := Scalar.muli arg18 c16_i32_47
  let v60 : Index := Scalar.indexCast v59
  ![v60.toNat]

def k1_chk29 (v28 : BitVec 32) (v33 : BitVec 32) (v72 : IVec S16 32) : Prop :=
  (∀ (k1_h1 : k1_cond1 v28 v33 = 1#1), ∀ a x, ((![v72] : Fin 1 → IVec S16 32) a x).toNat < S65536.size a)
theorem k1_idx45_inb : ∀ (v28 : BitVec 32) (v33 : BitVec 32) (v72 : IVec S16 32) (k1_hw29 : k1_chk29 v28 v33 v72), ∀ (k1_h1 : k1_cond1 v28 v33 = 1#1), ∀ a x, ((![v72] : Fin 1 → IVec S16 32) a x).toNat < S65536.size a := fun v28 v33 v72 k1_hw29 k1_h1 => k1_hw29 k1_h1
@[reducible] def k1_t34_loop (v28 : BitVec 32) (v33 : BitVec 32) : Scf.Loop 32 :=
  let c0_i32_42 : BitVec 32 := 0#32
  let c_m8_i32 : BitVec 32 := 4294967288#32
  let v34 : BitVec 32 := Scalar.andi v28 c_m8_i32
  let v35 : BitVec 32 := v34
  let v36 : BitVec 32 := Scalar.subi v33 v35
  let c15_i32 : BitVec 32 := 15#32
  let v42 : BitVec 32 := Scalar.addi v36 c15_i32
  let c4_i32 : BitVec 32 := 4#32
  let v43 : BitVec 32 := Scalar.shrsi v42 c4_i32
  let v54 : BitVec 32 := Scalar.subi v43 c0_i32_42
  let c1_i32_43 : BitVec 32 := 1#32
  let v56 : BitVec 32 := Scalar.divsi v54 c1_i32_43
  let v57 : BitVec 32 := Scalar.muli v56 c1_i32_43
  let v58 : BitVec 32 := Scalar.addi c0_i32_42 v57
  let v55 : BitVec 32 := Scalar.addi c0_i32_42 v54
  let c1_i32_45 : BitVec 32 := 1#32
  ⟨v58, v55, c1_i32_45⟩
def k1_off52 (v28 : BitVec 32) (v33 : BitVec 32) (k1_t34 : Fin (k1_t34_loop v28 v33).trips) : Fin 1 → Nat :=
  let c0_i32_42 : BitVec 32 := 0#32
  let c_m8_i32 : BitVec 32 := 4294967288#32
  let v34 : BitVec 32 := Scalar.andi v28 c_m8_i32
  let v35 : BitVec 32 := v34
  let v36 : BitVec 32 := Scalar.subi v33 v35
  let c15_i32 : BitVec 32 := 15#32
  let v42 : BitVec 32 := Scalar.addi v36 c15_i32
  let c4_i32 : BitVec 32 := 4#32
  let v43 : BitVec 32 := Scalar.shrsi v42 c4_i32
  let v54 : BitVec 32 := Scalar.subi v43 c0_i32_42
  let c1_i32_43 : BitVec 32 := 1#32
  let v56 : BitVec 32 := Scalar.divsi v54 c1_i32_43
  let v57 : BitVec 32 := Scalar.muli v56 c1_i32_43
  let v58 : BitVec 32 := Scalar.addi c0_i32_42 v57
  let c1_i32_45 : BitVec 32 := 1#32
  let arg18 : BitVec 32 := Scf.iv v58 c1_i32_45 k1_t34
  let c16_i32_47 : BitVec 32 := 16#32
  let v59 : BitVec 32 := Scalar.muli arg18 c16_i32_47
  let v60 : Index := Scalar.indexCast v59
  ![v60.toNat]

def k1_chk30 (v28 : BitVec 32) (v33 : BitVec 32) (v72 : IVec S16 32) : Prop :=
  (∀ (k1_h1 : k1_cond1 v28 v33 = 1#1), ∀ a x, ((![v72] : Fin 1 → IVec S16 32) a x).toNat < S65536.size a)
theorem k1_idx46_inb : ∀ (v28 : BitVec 32) (v33 : BitVec 32) (v72 : IVec S16 32) (k1_hw30 : k1_chk30 v28 v33 v72), ∀ (k1_h1 : k1_cond1 v28 v33 = 1#1), ∀ a x, ((![v72] : Fin 1 → IVec S16 32) a x).toNat < S65536.size a := fun v28 v33 v72 k1_hw30 k1_h1 => k1_hw30 k1_h1
@[reducible] def k1_t35_loop (v28 : BitVec 32) (v33 : BitVec 32) : Scf.Loop 32 :=
  let c0_i32_32 : BitVec 32 := 0#32
  let c_m8_i32 : BitVec 32 := 4294967288#32
  let v34 : BitVec 32 := Scalar.andi v28 c_m8_i32
  let v35 : BitVec 32 := v34
  let v36 : BitVec 32 := Scalar.subi v33 v35
  let c511_i32 : BitVec 32 := 511#32
  let v41 : BitVec 32 := Scalar.addi v36 c511_i32
  let c9_i32 : BitVec 32 := 9#32
  let v42 : BitVec 32 := Scalar.shrsi v41 c9_i32
  let v43 : BitVec 32 := Scalar.subi v42 c0_i32_32
  let c1_i32_33 : BitVec 32 := 1#32
  let v45 : BitVec 32 := Scalar.divsi v43 c1_i32_33
  let v46 : BitVec 32 := Scalar.muli v45 c1_i32_33
  let v47 : BitVec 32 := Scalar.addi c0_i32_32 v46
  let c1_i32_34 : BitVec 32 := 1#32
  ⟨c0_i32_32, v47, c1_i32_34⟩
def k1_off53 (i : grid1.Coords) (v28 : BitVec 32) (v33 : BitVec 32) (k1_t35 : Fin (k1_t35_loop v28 v33).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8295424_i32 : BitVec 32 := 8295424#32
  let v4 : BitVec 32 := Scalar.muli v1 c8295424_i32
  let c_m8_i32 : BitVec 32 := 4294967288#32
  let v34 : BitVec 32 := Scalar.andi v28 c_m8_i32
  let v35 : BitVec 32 := v34
  let v58 : BitVec 32 := Scalar.addi v4 v35
  let c0_i32_32 : BitVec 32 := 0#32
  let c1_i32_34 : BitVec 32 := 1#32
  let arg18 : BitVec 32 := Scf.iv c0_i32_32 c1_i32_34 k1_t35
  let c512_i32_47 : BitVec 32 := 512#32
  let v59 : BitVec 32 := Scalar.muli arg18 c512_i32_47
  let v60 : BitVec 32 := Scalar.addi v58 v59
  ![v60.toNat]
@[reducible] def k1_t36_loop : Scf.Loop 32 :=
  let c0_i32_49 : BitVec 32 := 0#32
  let c32_i32_50 : BitVec 32 := 32#32
  let v61 : BitVec 32 := Scalar.addi c0_i32_49 c32_i32_50
  let c1_i32_51 : BitVec 32 := 1#32
  ⟨c0_i32_49, v61, c1_i32_51⟩
def k1_off54 (k1_t36 : Fin k1_t36_loop.trips) : Fin 1 → Nat :=
  let c0_i32_49 : BitVec 32 := 0#32
  let c1_i32_51 : BitVec 32 := 1#32
  let arg19 : BitVec 32 := Scf.iv c0_i32_49 c1_i32_51 k1_t36
  let c16_i32_53 : BitVec 32 := 16#32
  let v62 : BitVec 32 := Scalar.muli arg19 c16_i32_53
  let v63 : Index := Scalar.indexCast v62
  ![v63.toNat]

def k1_chk31 (v28 : BitVec 32) (v33 : BitVec 32) (v77 : IVec S16 32) : Prop :=
  (∀ (k1_h1 : ¬(k1_cond1 v28 v33 = 1#1)), ∀ a x, ((![v77] : Fin 1 → IVec S16 32) a x).toNat < S65536.size a) ∧
  (∀ (k1_h1 : ¬(k1_cond1 v28 v33 = 1#1)), ∀ a x, ((![v77] : Fin 1 → IVec S16 32) a x).toNat < S65536.size a)
theorem k1_idx47_inb : ∀ (v28 : BitVec 32) (v33 : BitVec 32) (v77 : IVec S16 32) (k1_hw31 : k1_chk31 v28 v33 v77), ∀ (k1_h1 : ¬(k1_cond1 v28 v33 = 1#1)), ∀ a x, ((![v77] : Fin 1 → IVec S16 32) a x).toNat < S65536.size a := fun v28 v33 v77 k1_hw31 k1_h1 => k1_hw31.1 k1_h1
theorem k1_idx48_inb : ∀ (v28 : BitVec 32) (v33 : BitVec 32) (v77 : IVec S16 32) (k1_hw31 : k1_chk31 v28 v33 v77), ∀ (k1_h1 : ¬(k1_cond1 v28 v33 = 1#1)), ∀ a x, ((![v77] : Fin 1 → IVec S16 32) a x).toNat < S65536.size a := fun v28 v33 v77 k1_hw31 k1_h1 => k1_hw31.2 k1_h1
@[reducible] def k1_t37_loop (v28 : BitVec 32) (v33 : BitVec 32) : Scf.Loop 32 :=
  let c0_i32_32 : BitVec 32 := 0#32
  let c_m8_i32 : BitVec 32 := 4294967288#32
  let v34 : BitVec 32 := Scalar.andi v28 c_m8_i32
  let v35 : BitVec 32 := v34
  let v36 : BitVec 32 := Scalar.subi v33 v35
  let c511_i32 : BitVec 32 := 511#32
  let v41 : BitVec 32 := Scalar.addi v36 c511_i32
  let c9_i32 : BitVec 32 := 9#32
  let v42 : BitVec 32 := Scalar.shrsi v41 c9_i32
  let v43 : BitVec 32 := Scalar.subi v42 c0_i32_32
  let c1_i32_33 : BitVec 32 := 1#32
  let v45 : BitVec 32 := Scalar.divsi v43 c1_i32_33
  let v46 : BitVec 32 := Scalar.muli v45 c1_i32_33
  let v47 : BitVec 32 := Scalar.addi c0_i32_32 v46
  let v44 : BitVec 32 := Scalar.addi c0_i32_32 v43
  let c1_i32_35 : BitVec 32 := 1#32
  ⟨v47, v44, c1_i32_35⟩
def k1_off55 (i : grid1.Coords) (v28 : BitVec 32) (v33 : BitVec 32) (k1_t37 : Fin (k1_t37_loop v28 v33).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8295424_i32 : BitVec 32 := 8295424#32
  let v4 : BitVec 32 := Scalar.muli v1 c8295424_i32
  let c_m8_i32 : BitVec 32 := 4294967288#32
  let v34 : BitVec 32 := Scalar.andi v28 c_m8_i32
  let v35 : BitVec 32 := v34
  let v58 : BitVec 32 := Scalar.addi v4 v35
  let c0_i32_32 : BitVec 32 := 0#32
  let v36 : BitVec 32 := Scalar.subi v33 v35
  let c511_i32 : BitVec 32 := 511#32
  let v41 : BitVec 32 := Scalar.addi v36 c511_i32
  let c9_i32 : BitVec 32 := 9#32
  let v42 : BitVec 32 := Scalar.shrsi v41 c9_i32
  let v43 : BitVec 32 := Scalar.subi v42 c0_i32_32
  let c1_i32_33 : BitVec 32 := 1#32
  let v45 : BitVec 32 := Scalar.divsi v43 c1_i32_33
  let v46 : BitVec 32 := Scalar.muli v45 c1_i32_33
  let v47 : BitVec 32 := Scalar.addi c0_i32_32 v46
  let c1_i32_35 : BitVec 32 := 1#32
  let arg18 : BitVec 32 := Scf.iv v47 c1_i32_35 k1_t37
  let c512_i32_47 : BitVec 32 := 512#32
  let v59 : BitVec 32 := Scalar.muli arg18 c512_i32_47
  let v60 : BitVec 32 := Scalar.addi v58 v59
  ![v60.toNat]
@[reducible] def k1_t38_loop : Scf.Loop 32 :=
  let c0_i32_49 : BitVec 32 := 0#32
  let c32_i32_50 : BitVec 32 := 32#32
  let v61 : BitVec 32 := Scalar.addi c0_i32_49 c32_i32_50
  let c1_i32_51 : BitVec 32 := 1#32
  ⟨c0_i32_49, v61, c1_i32_51⟩
def k1_off56 (k1_t38 : Fin k1_t38_loop.trips) : Fin 1 → Nat :=
  let c0_i32_49 : BitVec 32 := 0#32
  let c1_i32_51 : BitVec 32 := 1#32
  let arg19 : BitVec 32 := Scf.iv c0_i32_49 c1_i32_51 k1_t38
  let c16_i32_53 : BitVec 32 := 16#32
  let v62 : BitVec 32 := Scalar.muli arg19 c16_i32_53
  let v63 : Index := Scalar.indexCast v62
  ![v63.toNat]

def k1_chk32 (v28 : BitVec 32) (v33 : BitVec 32) (v77 : IVec S16 32) : Prop :=
  (∀ (k1_h1 : ¬(k1_cond1 v28 v33 = 1#1)), ∀ a x, ((![v77] : Fin 1 → IVec S16 32) a x).toNat < S65536.size a) ∧
  (∀ (k1_h1 : ¬(k1_cond1 v28 v33 = 1#1)), ∀ a x, ((![v77] : Fin 1 → IVec S16 32) a x).toNat < S65536.size a)
theorem k1_idx49_inb : ∀ (v28 : BitVec 32) (v33 : BitVec 32) (v77 : IVec S16 32) (k1_hw32 : k1_chk32 v28 v33 v77), ∀ (k1_h1 : ¬(k1_cond1 v28 v33 = 1#1)), ∀ a x, ((![v77] : Fin 1 → IVec S16 32) a x).toNat < S65536.size a := fun v28 v33 v77 k1_hw32 k1_h1 => k1_hw32.1 k1_h1
theorem k1_idx50_inb : ∀ (v28 : BitVec 32) (v33 : BitVec 32) (v77 : IVec S16 32) (k1_hw32 : k1_chk32 v28 v33 v77), ∀ (k1_h1 : ¬(k1_cond1 v28 v33 = 1#1)), ∀ a x, ((![v77] : Fin 1 → IVec S16 32) a x).toNat < S65536.size a := fun v28 v33 v77 k1_hw32 k1_h1 => k1_hw32.2 k1_h1
@[reducible] def k1_t39_loop (v28 : BitVec 32) (v33 : BitVec 32) : Scf.Loop 32 :=
  let c0_i32_37 : BitVec 32 := 0#32
  let c_m8_i32 : BitVec 32 := 4294967288#32
  let v34 : BitVec 32 := Scalar.andi v28 c_m8_i32
  let v35 : BitVec 32 := v34
  let v36 : BitVec 32 := Scalar.subi v33 v35
  let c511_i32 : BitVec 32 := 511#32
  let v41 : BitVec 32 := Scalar.addi v36 c511_i32
  let c9_i32 : BitVec 32 := 9#32
  let v42 : BitVec 32 := Scalar.shrsi v41 c9_i32
  let v48 : BitVec 32 := Scalar.subi v42 c0_i32_37
  let c1_i32_38 : BitVec 32 := 1#32
  let v50 : BitVec 32 := Scalar.divsi v48 c1_i32_38
  let v51 : BitVec 32 := Scalar.muli v50 c1_i32_38
  let v52 : BitVec 32 := Scalar.addi c0_i32_37 v51
  let c1_i32_39 : BitVec 32 := 1#32
  ⟨c0_i32_37, v52, c1_i32_39⟩
def k1_off57 (i : grid1.Coords) (v28 : BitVec 32) (v33 : BitVec 32) (k1_t39 : Fin (k1_t39_loop v28 v33).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8295424_i32 : BitVec 32 := 8295424#32
  let v4 : BitVec 32 := Scalar.muli v1 c8295424_i32
  let c_m8_i32 : BitVec 32 := 4294967288#32
  let v34 : BitVec 32 := Scalar.andi v28 c_m8_i32
  let v35 : BitVec 32 := v34
  let v58 : BitVec 32 := Scalar.addi v4 v35
  let c0_i32_37 : BitVec 32 := 0#32
  let c1_i32_39 : BitVec 32 := 1#32
  let arg18 : BitVec 32 := Scf.iv c0_i32_37 c1_i32_39 k1_t39
  let c512_i32_47 : BitVec 32 := 512#32
  let v59 : BitVec 32 := Scalar.muli arg18 c512_i32_47
  let v60 : BitVec 32 := Scalar.addi v58 v59
  ![v60.toNat]
@[reducible] def k1_t40_loop : Scf.Loop 32 :=
  let c0_i32_49 : BitVec 32 := 0#32
  let c32_i32_50 : BitVec 32 := 32#32
  let v61 : BitVec 32 := Scalar.addi c0_i32_49 c32_i32_50
  let c1_i32_51 : BitVec 32 := 1#32
  ⟨c0_i32_49, v61, c1_i32_51⟩
def k1_off58 (k1_t40 : Fin k1_t40_loop.trips) : Fin 1 → Nat :=
  let c0_i32_49 : BitVec 32 := 0#32
  let c1_i32_51 : BitVec 32 := 1#32
  let arg19 : BitVec 32 := Scf.iv c0_i32_49 c1_i32_51 k1_t40
  let c16_i32_53 : BitVec 32 := 16#32
  let v62 : BitVec 32 := Scalar.muli arg19 c16_i32_53
  let v63 : Index := Scalar.indexCast v62
  ![v63.toNat]

def k1_chk33 (v28 : BitVec 32) (v33 : BitVec 32) (v77 : IVec S16 32) : Prop :=
  (∀ (k1_h1 : ¬(k1_cond1 v28 v33 = 1#1)), ∀ a x, ((![v77] : Fin 1 → IVec S16 32) a x).toNat < S65536.size a)
theorem k1_idx51_inb : ∀ (v28 : BitVec 32) (v33 : BitVec 32) (v77 : IVec S16 32) (k1_hw33 : k1_chk33 v28 v33 v77), ∀ (k1_h1 : ¬(k1_cond1 v28 v33 = 1#1)), ∀ a x, ((![v77] : Fin 1 → IVec S16 32) a x).toNat < S65536.size a := fun v28 v33 v77 k1_hw33 k1_h1 => k1_hw33 k1_h1
@[reducible] def k1_t41_loop (v28 : BitVec 32) (v33 : BitVec 32) : Scf.Loop 32 :=
  let c0_i32_37 : BitVec 32 := 0#32
  let c_m8_i32 : BitVec 32 := 4294967288#32
  let v34 : BitVec 32 := Scalar.andi v28 c_m8_i32
  let v35 : BitVec 32 := v34
  let v36 : BitVec 32 := Scalar.subi v33 v35
  let c511_i32 : BitVec 32 := 511#32
  let v41 : BitVec 32 := Scalar.addi v36 c511_i32
  let c9_i32 : BitVec 32 := 9#32
  let v42 : BitVec 32 := Scalar.shrsi v41 c9_i32
  let v48 : BitVec 32 := Scalar.subi v42 c0_i32_37
  let c1_i32_38 : BitVec 32 := 1#32
  let v50 : BitVec 32 := Scalar.divsi v48 c1_i32_38
  let v51 : BitVec 32 := Scalar.muli v50 c1_i32_38
  let v52 : BitVec 32 := Scalar.addi c0_i32_37 v51
  let v49 : BitVec 32 := Scalar.addi c0_i32_37 v48
  let c1_i32_40 : BitVec 32 := 1#32
  ⟨v52, v49, c1_i32_40⟩
def k1_off59 (i : grid1.Coords) (v28 : BitVec 32) (v33 : BitVec 32) (k1_t41 : Fin (k1_t41_loop v28 v33).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8295424_i32 : BitVec 32 := 8295424#32
  let v4 : BitVec 32 := Scalar.muli v1 c8295424_i32
  let c_m8_i32 : BitVec 32 := 4294967288#32
  let v34 : BitVec 32 := Scalar.andi v28 c_m8_i32
  let v35 : BitVec 32 := v34
  let v58 : BitVec 32 := Scalar.addi v4 v35
  let c0_i32_37 : BitVec 32 := 0#32
  let v36 : BitVec 32 := Scalar.subi v33 v35
  let c511_i32 : BitVec 32 := 511#32
  let v41 : BitVec 32 := Scalar.addi v36 c511_i32
  let c9_i32 : BitVec 32 := 9#32
  let v42 : BitVec 32 := Scalar.shrsi v41 c9_i32
  let v48 : BitVec 32 := Scalar.subi v42 c0_i32_37
  let c1_i32_38 : BitVec 32 := 1#32
  let v50 : BitVec 32 := Scalar.divsi v48 c1_i32_38
  let v51 : BitVec 32 := Scalar.muli v50 c1_i32_38
  let v52 : BitVec 32 := Scalar.addi c0_i32_37 v51
  let c1_i32_40 : BitVec 32 := 1#32
  let arg18 : BitVec 32 := Scf.iv v52 c1_i32_40 k1_t41
  let c512_i32_47 : BitVec 32 := 512#32
  let v59 : BitVec 32 := Scalar.muli arg18 c512_i32_47
  let v60 : BitVec 32 := Scalar.addi v58 v59
  ![v60.toNat]
@[reducible] def k1_t42_loop : Scf.Loop 32 :=
  let c0_i32_49 : BitVec 32 := 0#32
  let c32_i32_50 : BitVec 32 := 32#32
  let v61 : BitVec 32 := Scalar.addi c0_i32_49 c32_i32_50
  let c1_i32_51 : BitVec 32 := 1#32
  ⟨c0_i32_49, v61, c1_i32_51⟩
def k1_off60 (k1_t42 : Fin k1_t42_loop.trips) : Fin 1 → Nat :=
  let c0_i32_49 : BitVec 32 := 0#32
  let c1_i32_51 : BitVec 32 := 1#32
  let arg19 : BitVec 32 := Scf.iv c0_i32_49 c1_i32_51 k1_t42
  let c16_i32_53 : BitVec 32 := 16#32
  let v62 : BitVec 32 := Scalar.muli arg19 c16_i32_53
  let v63 : Index := Scalar.indexCast v62
  ![v63.toNat]

def k1_chk34 (v28 : BitVec 32) (v33 : BitVec 32) (v77 : IVec S16 32) : Prop :=
  (∀ (k1_h1 : ¬(k1_cond1 v28 v33 = 1#1)), ∀ a x, ((![v77] : Fin 1 → IVec S16 32) a x).toNat < S65536.size a)
theorem k1_idx52_inb : ∀ (v28 : BitVec 32) (v33 : BitVec 32) (v77 : IVec S16 32) (k1_hw34 : k1_chk34 v28 v33 v77), ∀ (k1_h1 : ¬(k1_cond1 v28 v33 = 1#1)), ∀ a x, ((![v77] : Fin 1 → IVec S16 32) a x).toNat < S65536.size a := fun v28 v33 v77 k1_hw34 k1_h1 => k1_hw34 k1_h1
@[reducible] def k1_t43_loop (v28 : BitVec 32) (v33 : BitVec 32) : Scf.Loop 32 :=
  let c0_i32_42 : BitVec 32 := 0#32
  let c_m8_i32 : BitVec 32 := 4294967288#32
  let v34 : BitVec 32 := Scalar.andi v28 c_m8_i32
  let v35 : BitVec 32 := v34
  let v36 : BitVec 32 := Scalar.subi v33 v35
  let c511_i32 : BitVec 32 := 511#32
  let v41 : BitVec 32 := Scalar.addi v36 c511_i32
  let c9_i32 : BitVec 32 := 9#32
  let v42 : BitVec 32 := Scalar.shrsi v41 c9_i32
  let v53 : BitVec 32 := Scalar.subi v42 c0_i32_42
  let c1_i32_43 : BitVec 32 := 1#32
  let v55 : BitVec 32 := Scalar.divsi v53 c1_i32_43
  let v56 : BitVec 32 := Scalar.muli v55 c1_i32_43
  let v57 : BitVec 32 := Scalar.addi c0_i32_42 v56
  let c1_i32_44 : BitVec 32 := 1#32
  ⟨c0_i32_42, v57, c1_i32_44⟩
def k1_off61 (i : grid1.Coords) (v28 : BitVec 32) (v33 : BitVec 32) (k1_t43 : Fin (k1_t43_loop v28 v33).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8295424_i32 : BitVec 32 := 8295424#32
  let v4 : BitVec 32 := Scalar.muli v1 c8295424_i32
  let c_m8_i32 : BitVec 32 := 4294967288#32
  let v34 : BitVec 32 := Scalar.andi v28 c_m8_i32
  let v35 : BitVec 32 := v34
  let v58 : BitVec 32 := Scalar.addi v4 v35
  let c0_i32_42 : BitVec 32 := 0#32
  let c1_i32_44 : BitVec 32 := 1#32
  let arg18 : BitVec 32 := Scf.iv c0_i32_42 c1_i32_44 k1_t43
  let c512_i32_47 : BitVec 32 := 512#32
  let v59 : BitVec 32 := Scalar.muli arg18 c512_i32_47
  let v60 : BitVec 32 := Scalar.addi v58 v59
  ![v60.toNat]
@[reducible] def k1_t44_loop : Scf.Loop 32 :=
  let c0_i32_49 : BitVec 32 := 0#32
  let c32_i32_50 : BitVec 32 := 32#32
  let v61 : BitVec 32 := Scalar.addi c0_i32_49 c32_i32_50
  let c1_i32_51 : BitVec 32 := 1#32
  ⟨c0_i32_49, v61, c1_i32_51⟩
def k1_off62 (k1_t44 : Fin k1_t44_loop.trips) : Fin 1 → Nat :=
  let c0_i32_49 : BitVec 32 := 0#32
  let c1_i32_51 : BitVec 32 := 1#32
  let arg19 : BitVec 32 := Scf.iv c0_i32_49 c1_i32_51 k1_t44
  let c16_i32_53 : BitVec 32 := 16#32
  let v62 : BitVec 32 := Scalar.muli arg19 c16_i32_53
  let v63 : Index := Scalar.indexCast v62
  ![v63.toNat]

def k1_chk35 (v28 : BitVec 32) (v33 : BitVec 32) (v77 : IVec S16 32) : Prop :=
  (∀ (k1_h1 : ¬(k1_cond1 v28 v33 = 1#1)), ∀ a x, ((![v77] : Fin 1 → IVec S16 32) a x).toNat < S65536.size a)
theorem k1_idx53_inb : ∀ (v28 : BitVec 32) (v33 : BitVec 32) (v77 : IVec S16 32) (k1_hw35 : k1_chk35 v28 v33 v77), ∀ (k1_h1 : ¬(k1_cond1 v28 v33 = 1#1)), ∀ a x, ((![v77] : Fin 1 → IVec S16 32) a x).toNat < S65536.size a := fun v28 v33 v77 k1_hw35 k1_h1 => k1_hw35 k1_h1
@[reducible] def k1_t45_loop (v28 : BitVec 32) (v33 : BitVec 32) : Scf.Loop 32 :=
  let c0_i32_42 : BitVec 32 := 0#32
  let c_m8_i32 : BitVec 32 := 4294967288#32
  let v34 : BitVec 32 := Scalar.andi v28 c_m8_i32
  let v35 : BitVec 32 := v34
  let v36 : BitVec 32 := Scalar.subi v33 v35
  let c511_i32 : BitVec 32 := 511#32
  let v41 : BitVec 32 := Scalar.addi v36 c511_i32
  let c9_i32 : BitVec 32 := 9#32
  let v42 : BitVec 32 := Scalar.shrsi v41 c9_i32
  let v53 : BitVec 32 := Scalar.subi v42 c0_i32_42
  let c1_i32_43 : BitVec 32 := 1#32
  let v55 : BitVec 32 := Scalar.divsi v53 c1_i32_43
  let v56 : BitVec 32 := Scalar.muli v55 c1_i32_43
  let v57 : BitVec 32 := Scalar.addi c0_i32_42 v56
  let v54 : BitVec 32 := Scalar.addi c0_i32_42 v53
  let c1_i32_45 : BitVec 32 := 1#32
  ⟨v57, v54, c1_i32_45⟩
def k1_off63 (i : grid1.Coords) (v28 : BitVec 32) (v33 : BitVec 32) (k1_t45 : Fin (k1_t45_loop v28 v33).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8295424_i32 : BitVec 32 := 8295424#32
  let v4 : BitVec 32 := Scalar.muli v1 c8295424_i32
  let c_m8_i32 : BitVec 32 := 4294967288#32
  let v34 : BitVec 32 := Scalar.andi v28 c_m8_i32
  let v35 : BitVec 32 := v34
  let v58 : BitVec 32 := Scalar.addi v4 v35
  let c0_i32_42 : BitVec 32 := 0#32
  let v36 : BitVec 32 := Scalar.subi v33 v35
  let c511_i32 : BitVec 32 := 511#32
  let v41 : BitVec 32 := Scalar.addi v36 c511_i32
  let c9_i32 : BitVec 32 := 9#32
  let v42 : BitVec 32 := Scalar.shrsi v41 c9_i32
  let v53 : BitVec 32 := Scalar.subi v42 c0_i32_42
  let c1_i32_43 : BitVec 32 := 1#32
  let v55 : BitVec 32 := Scalar.divsi v53 c1_i32_43
  let v56 : BitVec 32 := Scalar.muli v55 c1_i32_43
  let v57 : BitVec 32 := Scalar.addi c0_i32_42 v56
  let c1_i32_45 : BitVec 32 := 1#32
  let arg18 : BitVec 32 := Scf.iv v57 c1_i32_45 k1_t45
  let c512_i32_47 : BitVec 32 := 512#32
  let v59 : BitVec 32 := Scalar.muli arg18 c512_i32_47
  let v60 : BitVec 32 := Scalar.addi v58 v59
  ![v60.toNat]

def k1_chk24 (i : grid1.Coords) (v28 : BitVec 32) (v33 : BitVec 32) : Prop :=
  (∀ (k1_h1 : k1_cond1 v28 v33 = 1#1), ∀ a, (k1_off46 i v28) a + S512.size a ≤ S265453568.size a) ∧
  (∀ (k1_h1 : k1_cond1 v28 v33 = 1#1), (k1_t29_loop v28 v33).OK) ∧
  (∀ k1_t29 : Fin (k1_t29_loop v28 v33).trips, ∀ (k1_h1 : k1_cond1 v28 v33 = 1#1), ∀ a, (k1_off47 v28 v33 k1_t29) a + S16.size a ≤ S512.size a) ∧
  (∀ (k1_h1 : k1_cond1 v28 v33 = 1#1), (k1_t30_loop v28 v33).OK) ∧
  (∀ k1_t30 : Fin (k1_t30_loop v28 v33).trips, ∀ (k1_h1 : k1_cond1 v28 v33 = 1#1), ∀ a, (k1_off48 v28 v33 k1_t30) a + S16.size a ≤ S512.size a) ∧
  (∀ (k1_h1 : k1_cond1 v28 v33 = 1#1), (k1_t31_loop v28 v33).OK) ∧
  (∀ k1_t31 : Fin (k1_t31_loop v28 v33).trips, ∀ (k1_h1 : k1_cond1 v28 v33 = 1#1), ∀ a, (k1_off49 v28 v33 k1_t31) a + S16.size a ≤ S512.size a) ∧
  (∀ (k1_h1 : k1_cond1 v28 v33 = 1#1), (k1_t32_loop v28 v33).OK) ∧
  (∀ k1_t32 : Fin (k1_t32_loop v28 v33).trips, ∀ (k1_h1 : k1_cond1 v28 v33 = 1#1), ∀ a, (k1_off50 v28 v33 k1_t32) a + S16.size a ≤ S512.size a) ∧
  (∀ (k1_h1 : k1_cond1 v28 v33 = 1#1), (k1_t33_loop v28 v33).OK) ∧
  (∀ k1_t33 : Fin (k1_t33_loop v28 v33).trips, ∀ (k1_h1 : k1_cond1 v28 v33 = 1#1), ∀ a, (k1_off51 v28 v33 k1_t33) a + S16.size a ≤ S512.size a) ∧
  (∀ (k1_h1 : k1_cond1 v28 v33 = 1#1), (k1_t34_loop v28 v33).OK) ∧
  (∀ k1_t34 : Fin (k1_t34_loop v28 v33).trips, ∀ (k1_h1 : k1_cond1 v28 v33 = 1#1), ∀ a, (k1_off52 v28 v33 k1_t34) a + S16.size a ≤ S512.size a) ∧
  (∀ (k1_h1 : ¬(k1_cond1 v28 v33 = 1#1)), (k1_t35_loop v28 v33).OK) ∧
  (∀ k1_t35 : Fin (k1_t35_loop v28 v33).trips, ∀ (k1_h1 : ¬(k1_cond1 v28 v33 = 1#1)), ∀ a, (k1_off53 i v28 v33 k1_t35) a + S512.size a ≤ S265453568.size a) ∧
  (∀ (k1_h1 : ¬(k1_cond1 v28 v33 = 1#1)), (k1_t37_loop v28 v33).OK) ∧
  (∀ k1_t37 : Fin (k1_t37_loop v28 v33).trips, ∀ (k1_h1 : ¬(k1_cond1 v28 v33 = 1#1)), ∀ a, (k1_off55 i v28 v33 k1_t37) a + S512.size a ≤ S265453568.size a) ∧
  (∀ (k1_h1 : ¬(k1_cond1 v28 v33 = 1#1)), (k1_t39_loop v28 v33).OK) ∧
  (∀ k1_t39 : Fin (k1_t39_loop v28 v33).trips, ∀ (k1_h1 : ¬(k1_cond1 v28 v33 = 1#1)), ∀ a, (k1_off57 i v28 v33 k1_t39) a + S512.size a ≤ S265453568.size a) ∧
  (∀ (k1_h1 : ¬(k1_cond1 v28 v33 = 1#1)), (k1_t41_loop v28 v33).OK) ∧
  (∀ k1_t41 : Fin (k1_t41_loop v28 v33).trips, ∀ (k1_h1 : ¬(k1_cond1 v28 v33 = 1#1)), ∀ a, (k1_off59 i v28 v33 k1_t41) a + S512.size a ≤ S265453568.size a) ∧
  (∀ (k1_h1 : ¬(k1_cond1 v28 v33 = 1#1)), (k1_t43_loop v28 v33).OK) ∧
  (∀ k1_t43 : Fin (k1_t43_loop v28 v33).trips, ∀ (k1_h1 : ¬(k1_cond1 v28 v33 = 1#1)), ∀ a, (k1_off61 i v28 v33 k1_t43) a + S512.size a ≤ S265453568.size a) ∧
  (∀ (k1_h1 : ¬(k1_cond1 v28 v33 = 1#1)), (k1_t45_loop v28 v33).OK) ∧
  (∀ k1_t45 : Fin (k1_t45_loop v28 v33).trips, ∀ (k1_h1 : ¬(k1_cond1 v28 v33 = 1#1)), ∀ a, (k1_off63 i v28 v33 k1_t45) a + S512.size a ≤ S265453568.size a)
theorem k1_off46_inb : ∀ (i : grid1.Coords) (v28 : BitVec 32) (v33 : BitVec 32) (k1_hw24 : k1_chk24 i v28 v33), ∀ (k1_h1 : k1_cond1 v28 v33 = 1#1), ∀ a, (k1_off46 i v28) a + S512.size a ≤ S265453568.size a := fun i v28 v33 k1_hw24 k1_h1 => k1_hw24.1 k1_h1
theorem k1_t29_ok : ∀ (i : grid1.Coords) (v28 : BitVec 32) (v33 : BitVec 32) (k1_hw24 : k1_chk24 i v28 v33), ∀ (k1_h1 : k1_cond1 v28 v33 = 1#1), (k1_t29_loop v28 v33).OK := fun i v28 v33 k1_hw24 k1_h1 => k1_hw24.2.1 k1_h1
theorem k1_off47_inb : ∀ (i : grid1.Coords) (v28 : BitVec 32) (v33 : BitVec 32) (k1_hw24 : k1_chk24 i v28 v33) (k1_t29 : Fin (k1_t29_loop v28 v33).trips), ∀ (k1_h1 : k1_cond1 v28 v33 = 1#1), ∀ a, (k1_off47 v28 v33 k1_t29) a + S16.size a ≤ S512.size a := fun i v28 v33 k1_hw24 k1_t29 k1_h1 => k1_hw24.2.2.1 k1_t29 k1_h1
theorem k1_t30_ok : ∀ (i : grid1.Coords) (v28 : BitVec 32) (v33 : BitVec 32) (k1_hw24 : k1_chk24 i v28 v33), ∀ (k1_h1 : k1_cond1 v28 v33 = 1#1), (k1_t30_loop v28 v33).OK := fun i v28 v33 k1_hw24 k1_h1 => k1_hw24.2.2.2.1 k1_h1
theorem k1_off48_inb : ∀ (i : grid1.Coords) (v28 : BitVec 32) (v33 : BitVec 32) (k1_hw24 : k1_chk24 i v28 v33) (k1_t30 : Fin (k1_t30_loop v28 v33).trips), ∀ (k1_h1 : k1_cond1 v28 v33 = 1#1), ∀ a, (k1_off48 v28 v33 k1_t30) a + S16.size a ≤ S512.size a := fun i v28 v33 k1_hw24 k1_t30 k1_h1 => k1_hw24.2.2.2.2.1 k1_t30 k1_h1
theorem k1_t31_ok : ∀ (i : grid1.Coords) (v28 : BitVec 32) (v33 : BitVec 32) (k1_hw24 : k1_chk24 i v28 v33), ∀ (k1_h1 : k1_cond1 v28 v33 = 1#1), (k1_t31_loop v28 v33).OK := fun i v28 v33 k1_hw24 k1_h1 => k1_hw24.2.2.2.2.2.1 k1_h1
theorem k1_off49_inb : ∀ (i : grid1.Coords) (v28 : BitVec 32) (v33 : BitVec 32) (k1_hw24 : k1_chk24 i v28 v33) (k1_t31 : Fin (k1_t31_loop v28 v33).trips), ∀ (k1_h1 : k1_cond1 v28 v33 = 1#1), ∀ a, (k1_off49 v28 v33 k1_t31) a + S16.size a ≤ S512.size a := fun i v28 v33 k1_hw24 k1_t31 k1_h1 => k1_hw24.2.2.2.2.2.2.1 k1_t31 k1_h1
theorem k1_t32_ok : ∀ (i : grid1.Coords) (v28 : BitVec 32) (v33 : BitVec 32) (k1_hw24 : k1_chk24 i v28 v33), ∀ (k1_h1 : k1_cond1 v28 v33 = 1#1), (k1_t32_loop v28 v33).OK := fun i v28 v33 k1_hw24 k1_h1 => k1_hw24.2.2.2.2.2.2.2.1 k1_h1
theorem k1_off50_inb : ∀ (i : grid1.Coords) (v28 : BitVec 32) (v33 : BitVec 32) (k1_hw24 : k1_chk24 i v28 v33) (k1_t32 : Fin (k1_t32_loop v28 v33).trips), ∀ (k1_h1 : k1_cond1 v28 v33 = 1#1), ∀ a, (k1_off50 v28 v33 k1_t32) a + S16.size a ≤ S512.size a := fun i v28 v33 k1_hw24 k1_t32 k1_h1 => k1_hw24.2.2.2.2.2.2.2.2.1 k1_t32 k1_h1
theorem k1_t33_ok : ∀ (i : grid1.Coords) (v28 : BitVec 32) (v33 : BitVec 32) (k1_hw24 : k1_chk24 i v28 v33), ∀ (k1_h1 : k1_cond1 v28 v33 = 1#1), (k1_t33_loop v28 v33).OK := fun i v28 v33 k1_hw24 k1_h1 => k1_hw24.2.2.2.2.2.2.2.2.2.1 k1_h1
theorem k1_off51_inb : ∀ (i : grid1.Coords) (v28 : BitVec 32) (v33 : BitVec 32) (k1_hw24 : k1_chk24 i v28 v33) (k1_t33 : Fin (k1_t33_loop v28 v33).trips), ∀ (k1_h1 : k1_cond1 v28 v33 = 1#1), ∀ a, (k1_off51 v28 v33 k1_t33) a + S16.size a ≤ S512.size a := fun i v28 v33 k1_hw24 k1_t33 k1_h1 => k1_hw24.2.2.2.2.2.2.2.2.2.2.1 k1_t33 k1_h1
theorem k1_t34_ok : ∀ (i : grid1.Coords) (v28 : BitVec 32) (v33 : BitVec 32) (k1_hw24 : k1_chk24 i v28 v33), ∀ (k1_h1 : k1_cond1 v28 v33 = 1#1), (k1_t34_loop v28 v33).OK := fun i v28 v33 k1_hw24 k1_h1 => k1_hw24.2.2.2.2.2.2.2.2.2.2.2.1 k1_h1
theorem k1_off52_inb : ∀ (i : grid1.Coords) (v28 : BitVec 32) (v33 : BitVec 32) (k1_hw24 : k1_chk24 i v28 v33) (k1_t34 : Fin (k1_t34_loop v28 v33).trips), ∀ (k1_h1 : k1_cond1 v28 v33 = 1#1), ∀ a, (k1_off52 v28 v33 k1_t34) a + S16.size a ≤ S512.size a := fun i v28 v33 k1_hw24 k1_t34 k1_h1 => k1_hw24.2.2.2.2.2.2.2.2.2.2.2.2.1 k1_t34 k1_h1
theorem k1_t35_ok : ∀ (i : grid1.Coords) (v28 : BitVec 32) (v33 : BitVec 32) (k1_hw24 : k1_chk24 i v28 v33), ∀ (k1_h1 : ¬(k1_cond1 v28 v33 = 1#1)), (k1_t35_loop v28 v33).OK := fun i v28 v33 k1_hw24 k1_h1 => k1_hw24.2.2.2.2.2.2.2.2.2.2.2.2.2.1 k1_h1
theorem k1_off53_inb : ∀ (i : grid1.Coords) (v28 : BitVec 32) (v33 : BitVec 32) (k1_hw24 : k1_chk24 i v28 v33) (k1_t35 : Fin (k1_t35_loop v28 v33).trips), ∀ (k1_h1 : ¬(k1_cond1 v28 v33 = 1#1)), ∀ a, (k1_off53 i v28 v33 k1_t35) a + S512.size a ≤ S265453568.size a := fun i v28 v33 k1_hw24 k1_t35 k1_h1 => k1_hw24.2.2.2.2.2.2.2.2.2.2.2.2.2.2.1 k1_t35 k1_h1
theorem k1_t37_ok : ∀ (i : grid1.Coords) (v28 : BitVec 32) (v33 : BitVec 32) (k1_hw24 : k1_chk24 i v28 v33), ∀ (k1_h1 : ¬(k1_cond1 v28 v33 = 1#1)), (k1_t37_loop v28 v33).OK := fun i v28 v33 k1_hw24 k1_h1 => k1_hw24.2.2.2.2.2.2.2.2.2.2.2.2.2.2.2.1 k1_h1
theorem k1_off55_inb : ∀ (i : grid1.Coords) (v28 : BitVec 32) (v33 : BitVec 32) (k1_hw24 : k1_chk24 i v28 v33) (k1_t37 : Fin (k1_t37_loop v28 v33).trips), ∀ (k1_h1 : ¬(k1_cond1 v28 v33 = 1#1)), ∀ a, (k1_off55 i v28 v33 k1_t37) a + S512.size a ≤ S265453568.size a := fun i v28 v33 k1_hw24 k1_t37 k1_h1 => k1_hw24.2.2.2.2.2.2.2.2.2.2.2.2.2.2.2.2.1 k1_t37 k1_h1
theorem k1_t39_ok : ∀ (i : grid1.Coords) (v28 : BitVec 32) (v33 : BitVec 32) (k1_hw24 : k1_chk24 i v28 v33), ∀ (k1_h1 : ¬(k1_cond1 v28 v33 = 1#1)), (k1_t39_loop v28 v33).OK := fun i v28 v33 k1_hw24 k1_h1 => k1_hw24.2.2.2.2.2.2.2.2.2.2.2.2.2.2.2.2.2.1 k1_h1
theorem k1_off57_inb : ∀ (i : grid1.Coords) (v28 : BitVec 32) (v33 : BitVec 32) (k1_hw24 : k1_chk24 i v28 v33) (k1_t39 : Fin (k1_t39_loop v28 v33).trips), ∀ (k1_h1 : ¬(k1_cond1 v28 v33 = 1#1)), ∀ a, (k1_off57 i v28 v33 k1_t39) a + S512.size a ≤ S265453568.size a := fun i v28 v33 k1_hw24 k1_t39 k1_h1 => k1_hw24.2.2.2.2.2.2.2.2.2.2.2.2.2.2.2.2.2.2.1 k1_t39 k1_h1
theorem k1_t41_ok : ∀ (i : grid1.Coords) (v28 : BitVec 32) (v33 : BitVec 32) (k1_hw24 : k1_chk24 i v28 v33), ∀ (k1_h1 : ¬(k1_cond1 v28 v33 = 1#1)), (k1_t41_loop v28 v33).OK := fun i v28 v33 k1_hw24 k1_h1 => k1_hw24.2.2.2.2.2.2.2.2.2.2.2.2.2.2.2.2.2.2.2.1 k1_h1
theorem k1_off59_inb : ∀ (i : grid1.Coords) (v28 : BitVec 32) (v33 : BitVec 32) (k1_hw24 : k1_chk24 i v28 v33) (k1_t41 : Fin (k1_t41_loop v28 v33).trips), ∀ (k1_h1 : ¬(k1_cond1 v28 v33 = 1#1)), ∀ a, (k1_off59 i v28 v33 k1_t41) a + S512.size a ≤ S265453568.size a := fun i v28 v33 k1_hw24 k1_t41 k1_h1 => k1_hw24.2.2.2.2.2.2.2.2.2.2.2.2.2.2.2.2.2.2.2.2.1 k1_t41 k1_h1
theorem k1_t43_ok : ∀ (i : grid1.Coords) (v28 : BitVec 32) (v33 : BitVec 32) (k1_hw24 : k1_chk24 i v28 v33), ∀ (k1_h1 : ¬(k1_cond1 v28 v33 = 1#1)), (k1_t43_loop v28 v33).OK := fun i v28 v33 k1_hw24 k1_h1 => k1_hw24.2.2.2.2.2.2.2.2.2.2.2.2.2.2.2.2.2.2.2.2.2.1 k1_h1
theorem k1_off61_inb : ∀ (i : grid1.Coords) (v28 : BitVec 32) (v33 : BitVec 32) (k1_hw24 : k1_chk24 i v28 v33) (k1_t43 : Fin (k1_t43_loop v28 v33).trips), ∀ (k1_h1 : ¬(k1_cond1 v28 v33 = 1#1)), ∀ a, (k1_off61 i v28 v33 k1_t43) a + S512.size a ≤ S265453568.size a := fun i v28 v33 k1_hw24 k1_t43 k1_h1 => k1_hw24.2.2.2.2.2.2.2.2.2.2.2.2.2.2.2.2.2.2.2.2.2.2.1 k1_t43 k1_h1
theorem k1_t45_ok : ∀ (i : grid1.Coords) (v28 : BitVec 32) (v33 : BitVec 32) (k1_hw24 : k1_chk24 i v28 v33), ∀ (k1_h1 : ¬(k1_cond1 v28 v33 = 1#1)), (k1_t45_loop v28 v33).OK := fun i v28 v33 k1_hw24 k1_h1 => k1_hw24.2.2.2.2.2.2.2.2.2.2.2.2.2.2.2.2.2.2.2.2.2.2.2.1 k1_h1
theorem k1_off63_inb : ∀ (i : grid1.Coords) (v28 : BitVec 32) (v33 : BitVec 32) (k1_hw24 : k1_chk24 i v28 v33) (k1_t45 : Fin (k1_t45_loop v28 v33).trips), ∀ (k1_h1 : ¬(k1_cond1 v28 v33 = 1#1)), ∀ a, (k1_off63 i v28 v33 k1_t45) a + S512.size a ≤ S265453568.size a := fun i v28 v33 k1_hw24 k1_t45 k1_h1 => k1_hw24.2.2.2.2.2.2.2.2.2.2.2.2.2.2.2.2.2.2.2.2.2.2.2.2 k1_t45 k1_h1

@[reducible] def k1_t46_loop : Scf.Loop 32 :=
  let c0_i32_49 : BitVec 32 := 0#32
  let c32_i32_50 : BitVec 32 := 32#32
  let v61 : BitVec 32 := Scalar.addi c0_i32_49 c32_i32_50
  let c1_i32_51 : BitVec 32 := 1#32
  ⟨c0_i32_49, v61, c1_i32_51⟩
def k1_off64 (k1_t46 : Fin k1_t46_loop.trips) : Fin 1 → Nat :=
  let c0_i32_49 : BitVec 32 := 0#32
  let c1_i32_51 : BitVec 32 := 1#32
  let arg19 : BitVec 32 := Scf.iv c0_i32_49 c1_i32_51 k1_t46
  let c16_i32_53 : BitVec 32 := 16#32
  let v62 : BitVec 32 := Scalar.muli arg19 c16_i32_53
  let v63 : Index := Scalar.indexCast v62
  ![v63.toNat]

def k1_chk36 (v28 : BitVec 32) (v33 : BitVec 32) (v77 : IVec S16 32) : Prop :=
  (∀ (k1_h1 : ¬(k1_cond1 v28 v33 = 1#1)), ∀ a x, ((![v77] : Fin 1 → IVec S16 32) a x).toNat < S65536.size a)
theorem k1_idx54_inb : ∀ (v28 : BitVec 32) (v33 : BitVec 32) (v77 : IVec S16 32) (k1_hw36 : k1_chk36 v28 v33 v77), ∀ (k1_h1 : ¬(k1_cond1 v28 v33 = 1#1)), ∀ a x, ((![v77] : Fin 1 → IVec S16 32) a x).toNat < S65536.size a := fun v28 v33 v77 k1_hw36 k1_h1 => k1_hw36 k1_h1
def k1_off65 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_28_r12 : BitVec 32 := 0#32
  ![v1.toNat, 0]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8294400 : Shape := ⟨1, ![8294400]⟩
abbrev S1639972864 : Shape := ⟨1, ![1639972864]⟩
abbrev S1x8294400 : Shape := ⟨2, ![1, 8294400]⟩
abbrev S1639972864x1 : Shape := ⟨2, ![1639972864, 1]⟩
abbrev S1639972864x8294400 : Shape := ⟨2, ![1639972864, 8294400]⟩
abbrev S_ : Shape := ⟨0, ![]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S8294400, .i32⟩
  | .hbm, ⟨1, _⟩ => ⟨S1639972864, .i32⟩
  | .hbm, ⟨2, _⟩ => ⟨S1x8294400, .i32⟩
  | .hbm, ⟨3, _⟩ => ⟨S1639972864x1, .i32⟩
  | .hbm, ⟨4, _⟩ => ⟨S1639972864x8294400, .i32⟩
  | .hbm, ⟨5, _⟩ => ⟨S1639972864x8294400, .i32⟩
  | .hbm, ⟨6, _⟩ => ⟨S1639972864x8294400, .i1⟩
  | .hbm, ⟨7, _⟩ => ⟨S1639972864x8294400, .i32⟩
  | .hbm, ⟨8, _⟩ => ⟨S_, .i32⟩
  | .hbm, ⟨9, _⟩ => ⟨S1639972864, .i32⟩
  | .hbm, ⟨10, _⟩ => ⟨S1639972864, .f32⟩
  | .hbm, ⟨11, _⟩ => ⟨S_, .f32⟩
  | .hbm, ⟨12, _⟩ => ⟨S1639972864, .f32⟩
  | .hbm, ⟨13, _⟩ => ⟨S1639972864, .f32⟩
  | .hbm, ⟨14, _⟩ => ⟨S_, .f32⟩
  | .hbm, ⟨15, _⟩ => ⟨S1639972864, .f32⟩
  | .hbm, ⟨16, _⟩ => ⟨S1639972864, .i1⟩
  | .hbm, ⟨17, _⟩ => ⟨S_, .f32⟩
  | .hbm, ⟨18, _⟩ => ⟨S_, .f32⟩
  | .hbm, ⟨19, _⟩ => ⟨S1639972864, .f32⟩
  | .hbm, ⟨20, _⟩ => ⟨S1639972864, .f32⟩
  | .hbm, ⟨21, _⟩ => ⟨S1639972864, .f32⟩
  | .hbm, ⟨22, _⟩ => ⟨S_, .f32⟩
  | .hbm, ⟨23, _⟩ => ⟨S1639972864, .f32⟩
  | .hbm, ⟨24, _⟩ => ⟨S1639972864, .f32⟩
  | .hbm, ⟨25, _⟩ => ⟨S1639972864, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x1, .f32⟩
  | _, _ => ⟨S8294400, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Proof.Has.lean ====
/-
  A memory reference held outright, BY WHAT IT READS.

  `has c m g`: thread `c` holds the elements of `m` outright and reading it gives `g`. The rules say what loads,
  stores, a vector's gathers and scatters and local copies do to `g`, so that a proof about a body is about functions
  of indices and never about views.
-/
module

public import Idealize.ShloMosaic.Lib.SparseCore.Ops
public import Idealize.ShloMosaic.Lib.Transfers
public import Idealize.ShloMosaic.Lib.Tactic

@[expose] public section

noncomputable section

namespace Cert.Has

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {sp : Space} {s : Shape} {e : EltTy} {α : Type} {Q : α → sProp (MT nD τ sig Ix (Elt F) Name U Lvl)}

local notation "𝕄" => MT nD τ sig Ix (Elt F) Name U Lvl

/-- The elements of `m` held outright, reading `g`. -/
def has (m : Memref sig c.2.kind sp s e) (g : s.Idx → Elt F e) : sProp 𝕄 :=
  iprop(∃ f : Buf (Elt F) (m.view.loc c), ⌜∀ x, m.view.read (Elt F) f x = g x⌝ ∗ (m.view.loc c ↦[m.view.set]{fullShare} f))

omit [Preorder Lvl] in
theorem has_intro (m : Memref sig c.2.kind sp s e) (f : Buf (Elt F) (m.view.loc c)) (g : s.Idx → Elt F e)
    (h : ∀ x, m.view.read (Elt F) f x = g x) : (m.view.loc c ↦[m.view.set]{fullShare} f : sProp 𝕄) ⊢ has c m g := by
  unfold has
  iintro H
  iexists f
  isplitr
  · ipureintro; exact h
  · iexact H

omit [Preorder Lvl] in
theorem has_congr {m : Memref sig c.2.kind sp s e} {g g' : s.Idx → Elt F e} (h : ∀ x, g x = g' x) :
    (has c m g : sProp 𝕄) ⊢ has c m g' := by
  rw [funext h]

/-- A load through a rectangle. -/
theorem wp_load {cs : CoreSpace} {m : Memref sig c.2.kind cs s e} {g : s.Idx → Elt F e} {r : Rect s} {hl : m.view.LoadsAt r}
    {k : (r.shape.Idx → Elt F e) → Prog (TpuEff nD τ sig (Elt F) Λ c.2) α} :
    (has c m g : sProp 𝕄)
      ⊢ iprop((has c m g -∗ wp frame (wpE defs 𝒱 c bd) Set.univ (k fun x => g (r.emb x)) Q)
        -∗ wp frame (wpE defs 𝒱 c bd) Set.univ (.op (.load m r hl) k) Q) := by
  unfold has
  iintro ⟨%f, %hf, H⟩ Hk
  iapply (wp_load_rect 𝒱 c bd Set.univ (Q := Q) (hl := hl) (q := fullShare) (f := f) (S := m.view.set) (View.set_slice_subset _ _)) $$ H
  iintro H
  have : (m.access r).read (Elt F) f = fun x => g (r.emb x) := funext fun x => hf _
  rw [this]
  iapply Hk
  iexists f
  isplitr
  · ipureintro; exact hf
  · iexact H

/-- An unmasked store through a rectangle. -/
theorem wp_store {cs : CoreSpace} {m : Memref sig c.2.kind cs s e} {g : s.Idx → Elt F e} (g' : s.Idx → Elt F e) {r : Rect s}
    {w : r.shape.Idx → Elt F e} {hx : (m.access r).Stores Finset.univ} {hm : Finset.univ = Finset.univ ∨ ∀ a, r.stride a = 1}
    {k : PUnit → Prog (TpuEff nD τ sig (Elt F) Λ c.2) α}
    (hin : ∀ x, g' (r.emb x) = w x) (hout : ∀ y, y ∉ r.set → g' y = g y) :
    (has c m g : sProp 𝕄)
      ⊢ iprop((has c m g' -∗ wp frame (wpE defs 𝒱 c bd) Set.univ (k ⟨⟩) Q)
        -∗ wp frame (wpE defs 𝒱 c bd) Set.univ (.op (.store m r w Finset.univ hx hm) k) Q) := by
  unfold has
  iintro ⟨%f, %hf, H⟩ Hk
  iapply (Idealize.ShloMosaic.wp_store 𝒱 c bd Set.univ (Q := Q) (hx := hx) (hm := hm) (f := f) (S := m.view.set)
    (by rw [View.setOn_univ]; exact View.set_slice_subset _ _)) $$ H
  iintro H
  iapply Hk
  iexists ((m.access r).write (Elt F) f w Finset.univ)
  isplitr
  · ipureintro
    intro y
    by_cases hy : y ∈ r.set
    · obtain ⟨x, rfl⟩ := r.exists_idx_of_mem hy
      refine Eq.trans ?_ (hin x).symm
      exact View.read_slice_write_emb (v := m.view) r f w (Finset.mem_univ x)
    · rw [hout y hy, ← hf y]
      exact View.read_slice_write_of_not_mem (v := m.view) r f w Finset.univ (by rw [Rect.map_emb_univ]; exact hy)
  · iexact H

variable [FloatOps F]

/-- A vector's gather from `m`. -/
theorem wp_loadIdx {t : Shape} {m : Memref sig c.2.kind .vmem s e} {g : s.Idx → Elt F e} {idxs : Fin s.rank → IVec t 32}
    {h : ∀ a x, (idxs a x).toNat < s.size a} {hl : m.view.Loads} {k : Vec F t e → Prog (TpuEff nD τ sig (Elt F) Λ c.2) α} :
    (has c m g : sProp 𝕄)
      ⊢ iprop((has c m g -∗ wp frame (wpE defs 𝒱 c bd) Set.univ (k (loadIdx g idxs h)) Q)
        -∗ wp frame (wpE defs 𝒱 c bd) Set.univ (vectorLoadIdx m idxs h hl >>= k) Q) := by
  rw [vectorLoadIdx_bind]
  have hw : (fun x => g ((Rect.whole s).emb x)) = g := funext fun x => congrArg g (funext fun a => Fin.ext (by simp))
  have := wp_load (defs := defs) 𝒱 c bd (Q := Q) (m := m) (g := g) (r := Rect.whole s) (hl := View.loadsAt_whole hl)
    (k := fun f => k (loadIdx f idxs h))
  rw [hw] at this
  exact this

/-- A vector's masked scatter into `m`. -/
theorem wp_storeIdx {d : Fin 1 → Nat} {m : Memref sig c.2.kind .vmem s e} {g : s.Idx → Elt F e} {idxs : Fin s.rank → IVec ⟨1, d⟩ 32}
    {v : Vec F ⟨1, d⟩ e} {mask : IVec ⟨1, d⟩ 1} {add : Bool} {h : ∀ a x, (idxs a x).toNat < s.size a}
    {hs : (m.access (.whole s)).Stores Finset.univ} {k : PUnit → Prog (TpuEff nD τ sig (Elt F) Λ c.2) α} :
    (has c m g : sProp 𝕄)
      ⊢ iprop((has c m (storeIdx g idxs v mask add h) -∗ wp frame (wpE defs 𝒱 c bd) Set.univ (k ⟨⟩) Q)
        -∗ wp frame (wpE defs 𝒱 c bd) Set.univ (vectorStoreIdx m idxs v mask add h hs >>= k) Q) := by
  have hw : ∀ x, (Rect.whole s).emb x = x := fun x => funext fun a => Fin.ext (by simp)
  rw [vectorStoreIdx_bind]
  iintro H Hk
  iapply (wp_load (defs := defs) 𝒱 c bd (Q := Q) (m := m) (g := g) (r := Rect.whole s) (hl := View.loadsAt_rect hs.loads)
    (k := fun f' => .op (.store m (.whole s) (storeIdx f' idxs v mask add h) Finset.univ hs (.inl rfl)) k)) $$ H
  iintro H
  have : (fun x => g ((Rect.whole s).emb x)) = g := funext fun x => congrArg g (hw x)
  rw [this]
  iapply (wp_store (defs := defs) 𝒱 c bd (Q := Q) (m := m) (g := g) (storeIdx g idxs v mask add h) (r := Rect.whole s) (hx := hs) (hm := .inl rfl)
    (w := storeIdx g idxs v mask add h) (k := k) (fun x => by rw [hw x])
    (fun y hy => absurd (by
      refine (Rect.whole s).mem_set.mpr fun a => ⟨(y a).val, (y a).isLt, ?_⟩
      change (y a).val = 0 + 1 * (y a).val
      omega) hy)) $$ H
  iintro H
  iapply Hk
  iexact H

variable (EC : UEmb Counters (MT nD τ sig Ix (Elt F) Name U Lvl))

/-- A local copy into `m`, in flight. -/
theorem wp_copyIn [Infinite Name] [EC.LandsIn (upEmb : UEmb _ 𝕄)] {sp' : Space}
    {src : Memref sig c.2.kind sp s e} {m : Memref sig c.2.kind sp' s e} {sm : SemLoc sig}
    {hsrc : src.view.WordExact} {hdst : m.view.WordExact} {hsem : DmaTarget.Typed (nD := nD) sp sm (.here m)}
    {k : PUnit → Prog (TpuEff nD τ sig (Elt F) Λ c.2) α} {q : PosShare TreeShare} {fs : Buf (Elt F) (src.view.loc c)}
    {g : s.Idx → Elt F e} (ι : Ix) (N : ℕ) (hN : m.view.amount sm = N) (hN0 : 0 < N) :
    iprop((src.view.loc c ↦[src.view.set]{q} fs) ∗ has c m g ∗ semVal (c, sm) 0)
      ⊢ iprop((Transfers.Flight EC c sm ι N iprop(has c m (src.view.read (Elt F) fs) ∗ (src.view.loc c ↦[src.view.set]{q} fs))
              -∗ wp frame (wpE defs 𝒱 c bd) Set.univ (k ⟨⟩) Q)
          -∗ wp frame (wpE defs 𝒱 c bd) Set.univ (.op (.enqueueDmaAs src (.here m) .same sm hsrc hdst hsem) k) Q) := by
  iintro ⟨Hs, Hm, Hv⟩ Hk
  unfold has
  icases Hm with ⟨%f, %hf, Hm⟩
  iapply (Transfers.wp_dmaLocal EC 𝒱 c bd (Q := Q) (Sd := m.view.set) ι N hN hN0 subset_rfl) $$ [Hs Hm Hv]
  · isplitl [Hs]; · iexact Hs
    isplitl [Hm] <;> iassumption
  iintro HF
  iapply Hk
  refine Transfers.Flight_mono EC c ?_
  iintro ⟨Hm, Hs⟩
  isplitl [Hm]
  · iexists _
    isplitr
    · ipureintro
      intro x
      rw [View.read_write_univ]
    · iexact Hm
  · iexact Hs

end Cert.Has

end
-- ==== Proof.Hist.lean ====
/-
  Counting sixteen lanes at a time.

  The kernels keep a table `f` of counts and, for a vector of sixteen words `v`, read the old counts of the
  lanes' values, take `scan_count`'s running occurrence counts of the vector, and store old + running count back
  at each value's last occurrence. This file proves what one such step does, with the lanes described by a family
  `P b j` — "element number `j` counts into cell `b`" — and the table by `Nat.count (P b) n`, the number of
  elements before `n` that count into cell `b`.
-/
module

public import Idealize.ShloMosaic.Lib.ValueIdx
public import Idealize.ShloMosaic.Lib.ValueIdxRank1
public import Mathlib.Order.Interval.Finset.Nat

@[expose] public section

namespace Cert.Hist

open Idealize.ShloMosaic Idealize.ShloMosaic.ValueIdx

variable {F : FTy → Type} [FloatOps F]

/-- A vector of sixteen lanes. -/
abbrev L16 : Shape := ⟨1, ![16]⟩

/-! ## The masked store -/

/-- A fold of conditional overwrites at one place: untouched if no step hits it, else the common value the hitting
    steps write. -/
theorem foldl_overwrite {α β ι : Type} (l : List ι) (hit : ι → Prop) [DecidablePred hit] (step : (β → α) → ι → (β → α))
    (j : β) (y : α) (hstep : ∀ g k, step g k j = if hit k then y else g j) (f : β → α) :
    l.foldl step f j = if ∃ k ∈ l, hit k then y else f j := by
  induction l generalizing f with
  | nil => simp
  | cons k l ih =>
    rw [List.foldl_cons, ih, hstep]
    by_cases h1 : ∃ k ∈ l, hit k
    · rw [if_pos h1, if_pos]
      obtain ⟨k', hk', h⟩ := h1
      exact ⟨k', List.mem_cons_of_mem _ hk', h⟩
    · rw [if_neg h1]
      by_cases h2 : hit k
      · rw [if_pos h2, if_pos ⟨k, List.mem_cons_self .., h2⟩]
      · rw [if_neg h2, if_neg]
        rintro ⟨k', hk', h⟩
        rcases List.mem_cons.mp hk' with rfl | hk'
        · exact h2 h
        · exact h1 ⟨k', hk', h⟩

section Store

variable {m : ℕ} {e : EltTy} (f : Vec F ⟨1, ![m]⟩ e) (v : IVec L16 32) (w : Vec F L16 e) (mask : IVec L16 1)
  (h : ∀ a x, ((![v] : Fin 1 → IVec L16 32) a x).toNat < (⟨1, ![m]⟩ : Shape).size a)

/-- What the masked scatter of one vector leaves at a cell that every masked lane naming it gives the same word. -/
theorem storeIdx_cell (j : Fin m) (y : Elt F e)
    (hy : ∀ l : Fin 16, mask (ix1 l) = 1 → (v (ix1 l)).toNat = j.val → w (ix1 l) = y) :
    storeIdx f ![v] w mask false h (ix1 j)
      = if ∃ l : Fin 16, mask (ix1 l) = 1 ∧ (v (ix1 l)).toNat = j.val then y else f (ix1 j) := by
  unfold storeIdx
  refine (foldl_overwrite (List.finRange 16) (fun k : Fin 16 => mask (ix1 k) = 1 ∧ (v (ix1 k)).toNat = j.val) _ (ix1 j) y
    ?_ f).trans ?_
  rotate_left
  · have : (∃ k ∈ List.finRange 16, mask (ix1 k) = 1 ∧ (v (ix1 k)).toNat = j.val)
        ↔ ∃ l : Fin 16, mask (ix1 l) = 1 ∧ (v (ix1 l)).toNat = j.val :=
      ⟨fun ⟨k, _, h⟩ => ⟨k, h⟩, fun ⟨k, h⟩ => ⟨k, List.mem_finRange _, h⟩⟩
    by_cases hh : ∃ l : Fin 16, mask (ix1 l) = 1 ∧ (v (ix1 l)).toNat = j.val
    · rw [if_pos hh, if_pos (this.mpr hh)]
    · rw [if_neg hh, if_neg (fun hc => hh (this.mp hc))]
  · intro g k
    have hx : (Shape.ofLane k : L16.Idx) = ix1 k := by
      funext a; match a with | ⟨0, _⟩ => rfl
    dsimp only
    rw [hx]
    by_cases hm : mask (ix1 k) = 1
    · rw [if_pos hm]
      change (if ∀ a : Fin 1, ((ix1 j : (⟨1, ![m]⟩ : Shape).Idx) a).val = (idxAt (s := ⟨1, ![m]⟩) ![v] h (ix1 k) a).val then w (ix1 k) else g (ix1 j)) = _
      have hi : (∀ a : Fin 1, ((ix1 j : (⟨1, ![m]⟩ : Shape).Idx) a).val = (idxAt (s := ⟨1, ![m]⟩) ![v] h (ix1 k) a).val) ↔ (v (ix1 k)).toNat = j.val := by
        constructor
        · intro ha; exact (ha 0).symm
        · intro ha a; match a with | ⟨0, _⟩ => exact ha.symm
      by_cases hj : (v (ix1 k)).toNat = j.val
      · exact (if_pos (hi.mpr hj)).trans ((hy k hm hj).trans (if_pos (And.intro hm hj)).symm)
      · exact (if_neg (fun hh => hj (hi.mp hh))).trans (if_neg (fun hh => hj (And.right hh))).symm
    · rw [if_neg hm, if_neg (fun hh => hm hh.1)]

end Store

/-! ## `scan_count` -/

section Scan

variable (P : ℕ → ℕ → Prop) [∀ b, DecidablePred (P b)] {n : ℕ} {v : IVec L16 32} {mask : IVec L16 1}

/-- The lanes of the vector `v` under `mask` are the elements `n .. n + 15` of the family. -/
def Lanes (n : ℕ) (v : IVec L16 32) (mask : IVec L16 1) : Prop :=
  ∀ (l : Fin 16) (b : ℕ), P b (n + l.val) ↔ (mask (ix1 l) = 1 ∧ (v (ix1 l)).toNat = b)

variable {P}

/-- The running occurrence count of a masked lane: the elements of its cell among the vector's lanes up to it. -/
theorem scanCount_count (hL : Lanes P n v mask) (l : Fin 16) (hm : mask (ix1 l) = 1) :
    (scanCount mask v).2 (ix1 l)
      = BitVec.ofNat 32 (Nat.count (P (v (ix1 l)).toNat) (n + l.val + 1) - Nat.count (P (v (ix1 l)).toNat) n) := by
  unfold scanCount
  dsimp only
  rw [if_pos hm]
  congr 1
  rw [Nat.add_assoc, Nat.count_add, Nat.add_sub_cancel_left, Nat.count_eq_card_filter_range]
  refine Finset.card_nbij' (fun j => (j 0).val) (fun k => ix1 (Fin.ofNat 16 k)) ?_ ?_ ?_ ?_
  · intro j hj
    obtain ⟨-, hle, hmj, hvj⟩ := Finset.mem_filter.mp hj
    rw [Shape.rowMajor_val_one, Shape.rowMajor_val_one] at hle
    refine Finset.mem_filter.mpr ⟨Finset.mem_range.mpr (Nat.lt_succ_of_le hle), ?_⟩
    rw [eq_ix1 j] at hmj hvj
    exact (hL (j 0) _).mpr ⟨hmj, congrArg BitVec.toNat hvj⟩
  · intro k hk
    obtain ⟨hk, hP⟩ := Finset.mem_filter.mp hk
    have hk' : k < 16 := lt_of_lt_of_le (Finset.mem_range.mp hk) l.isLt
    have hkk : (Fin.ofNat 16 k).val = k := Nat.mod_eq_of_lt hk'
    have := (hL (Fin.ofNat 16 k) (v (ix1 l)).toNat).mp (by rw [hkk]; exact hP)
    refine Finset.mem_filter.mpr ⟨Finset.mem_univ _, ?_, this.1, BitVec.eq_of_toNat_eq this.2⟩
    rw [Shape.rowMajor_val_one, Shape.rowMajor_val_one]
    change (Fin.ofNat 16 k).val ≤ l.val
    rw [hkk]; exact Nat.lt_succ_iff.mp (Finset.mem_range.mp hk)
  · intro j hj
    have : (j 0).val < 16 := (j 0).isLt
    refine Eq.trans (congrArg ix1 ?_) (eq_ix1 j).symm
    exact Fin.ext (Nat.mod_eq_of_lt this)
  · intro k hk
    obtain ⟨hk, -⟩ := Finset.mem_filter.mp hk
    exact Nat.mod_eq_of_lt (lt_of_lt_of_le (Finset.mem_range.mp hk) l.isLt)

/-- A lane marked as the last occurrence of its value is masked in and no later lane counts into its cell. -/
theorem scanCount_last (hL : Lanes P n v mask) (l : Fin 16) :
    (scanCount mask v).1 (ix1 l) = 1
      ↔ mask (ix1 l) = 1 ∧ ∀ k : Fin 16, l < k → ¬ P (v (ix1 l)).toNat (n + k.val) := by
  unfold scanCount
  dsimp only
  have key : (mask (ix1 l) = 1 ∧ ∀ j : L16.Idx, (L16.rowMajor (ix1 l)).val < (L16.rowMajor j).val → ¬(mask j = 1 ∧ v j = v (ix1 l)))
      ↔ mask (ix1 l) = 1 ∧ ∀ k : Fin 16, l < k → ¬ P (v (ix1 l)).toNat (n + k.val) := by
    refine and_congr_right fun _ => ⟨fun h k hk hP => ?_, fun h j hj hh => ?_⟩
    · have := (hL k _).mp hP
      refine h (ix1 k) ?_ ⟨this.1, BitVec.eq_of_toNat_eq this.2⟩
      rw [Shape.rowMajor_val_one, Shape.rowMajor_val_one]; exact hk
    · rw [Shape.rowMajor_val_one, Shape.rowMajor_val_one] at hj
      rw [eq_ix1 j] at hh
      exact h (j 0) hj ((hL (j 0) _).mpr ⟨hh.1, congrArg BitVec.toNat hh.2⟩)
  constructor
  · intro h
    by_contra hc
    rw [if_neg (fun hh => hc (key.mp hh))] at h
    exact absurd h (by decide)
  · intro h
    rw [if_pos (key.mpr h)]

/-! ## One step of the histogram -/

/-- The place of a masked lane among the elements of its cell: the old count and the running count less one. -/
theorem place (hL : Lanes P n v mask) {old : IVec L16 32}
    (hold : ∀ l : Fin 16, mask (ix1 l) = 1 → old (ix1 l) = BitVec.ofNat 32 (Nat.count (P (v (ix1 l)).toNat) n))
    (l : Fin 16) (hm : mask (ix1 l) = 1) :
    old (ix1 l) + (scanCount mask v).2 (ix1 l) = BitVec.ofNat 32 (Nat.count (P (v (ix1 l)).toNat) (n + l.val) + 1) := by
  rw [hold l hm, scanCount_count hL l hm, ← BitVec.ofNat_add]
  congr 1
  have h1 : P (v (ix1 l)).toNat (n + l.val) := (hL l _).mpr ⟨hm, rfl⟩
  rw [Nat.count_succ, if_pos h1]
  have := Nat.count_monotone (P (v (ix1 l)).toNat) (Nat.le_add_right n l.val)
  omega

/-- Nothing of a cell after its last occurrence in the vector. -/
theorem count_last (hL : Lanes P n v mask) (l : Fin 16) (b : ℕ) (hP : P b (n + l.val))
    (hlast : ∀ k : Fin 16, l < k → ¬ P b (n + k.val)) : Nat.count (P b) (n + l.val) + 1 = Nat.count (P b) (n + 16) := by
  have hsucc : Nat.count (P b) (n + l.val + 1) = Nat.count (P b) (n + l.val) + 1 := by
    rw [Nat.count_succ, if_pos hP]
  rw [← hsucc, show n + 16 = (n + l.val + 1) + (15 - l.val) by have := l.isLt; omega, Nat.count_add (P b) (n + l.val + 1)]
  have h0 : Nat.count (fun k => P b (n + l.val + 1 + k)) (15 - l.val) = 0 := by
    rw [Nat.count_eq_card_filter_range, Finset.card_eq_zero, Finset.filter_eq_empty_iff]
    intro k hk hP'
    have hk := Finset.mem_range.mp hk
    refine hlast ⟨l.val + 1 + k, by omega⟩ (by simp only [Fin.lt_def]; omega) ?_
    simpa [Nat.add_assoc] using hP'
  omega

/-- A cell no lane counts into keeps its count. -/
theorem count_none (b : ℕ) (hno : ∀ k : Fin 16, ¬ P b (n + k.val)) : Nat.count (P b) (n + 16) = Nat.count (P b) n := by
  rw [Nat.count_add]
  have h0 : Nat.count (fun k => P b (n + k)) 16 = 0 := by
    rw [Nat.count_eq_card_filter_range, Finset.card_eq_zero, Finset.filter_eq_empty_iff]
    intro k hk hP'
    exact hno ⟨k, Finset.mem_range.mp hk⟩ hP'
  omega

/-- Among the lanes of a cell there is a last. -/
theorem exists_last (b : ℕ) (hex : ∃ k : Fin 16, P b (n + k.val)) :
    ∃ l : Fin 16, P b (n + l.val) ∧ ∀ k : Fin 16, l < k → ¬ P b (n + k.val) := by
  classical
  let s : Finset (Fin 16) := Finset.univ.filter fun k => P b (n + k.val)
  have hs : s.Nonempty := by
    obtain ⟨k, hk⟩ := hex
    exact ⟨k, Finset.mem_filter.mpr ⟨Finset.mem_univ _, hk⟩⟩
  refine ⟨s.max' hs, (Finset.mem_filter.mp (s.max'_mem hs)).2, fun k hk hP => ?_⟩
  exact absurd (s.le_max' k (Finset.mem_filter.mpr ⟨Finset.mem_univ _, hP⟩)) (not_le.mpr hk)

/-- ONE STEP: a table holding, per cell, a base word and the count before `n` holds it before `n + 16` after the
    masked store of old + running count at the last occurrences. -/
theorem step {m : ℕ} (f : Vec F ⟨1, ![m]⟩ .i32) (c : ℕ → ℕ)
    (h : ∀ a x, ((![v] : Fin 1 → IVec L16 32) a x).toNat < (⟨1, ![m]⟩ : Shape).size a)
    (h' : ∀ a x, ((![v] : Fin 1 → IVec L16 32) a x).toNat < (⟨1, ![m]⟩ : Shape).size a)
    (hL : Lanes P n v mask)
    (hf : ∀ b : Fin m, f (ix1 b) = BitVec.ofNat 32 (c b.val + Nat.count (P b.val) n)) (b : Fin m) :
    storeIdx f ![v] (fun x => ((loadIdx f ![v] h x : BitVec 32) + (scanCount mask v).2 x : BitVec 32)) (scanCount mask v).1 false h' (ix1 b)
      = BitVec.ofNat 32 (c b.val + Nat.count (P b.val) (n + 16)) := by
  have hload : ∀ l : Fin 16, loadIdx f ![v] h (ix1 l) = BitVec.ofNat 32 (c (v (ix1 l)).toNat + Nat.count (P (v (ix1 l)).toNat) n) := by
    intro l
    have := hf ⟨(v (ix1 l)).toNat, h 0 (ix1 l)⟩
    unfold loadIdx
    rw [← this]
    congr 1
    funext a; match a with | ⟨0, _⟩ => rfl
  rw [storeIdx_cell (y := BitVec.ofNat 32 (c b.val + Nat.count (P b.val) (n + 16)))]
  · by_cases hex : ∃ k : Fin 16, P b.val (n + k.val)
    · obtain ⟨l, hP, hl⟩ := exists_last b.val hex
      have hmv := (hL l b.val).mp hP
      rw [if_pos]
      refine ⟨l, (scanCount_last hL l).mpr ⟨hmv.1, ?_⟩, hmv.2⟩
      rw [hmv.2]; exact hl
    · rw [if_neg]
      · rw [hf b, count_none b.val fun k hk => hex ⟨k, hk⟩]
      · rintro ⟨l, hl, hv⟩
        exact hex ⟨l, (hL l b.val).mpr ⟨((scanCount_last hL l).mp hl).1, hv⟩⟩
  · intro l hl hv
    have hlast := (scanCount_last hL l).mp hl
    have hc := scanCount_count hL l hlast.1
    have hP : P b.val (n + l.val) := (hL l b.val).mpr ⟨hlast.1, hv⟩
    rw [hv] at hc hlast
    rw [hload l, hc, hv, ← BitVec.ofNat_add]
    congr 1
    have h1 := count_last hL l b.val hP hlast.2
    have h2 : Nat.count (P b.val) (n + l.val + 1) = Nat.count (P b.val) (n + l.val) + 1 := by
      rw [Nat.count_succ, if_pos hP]
    have := Nat.count_monotone (P b.val) (Nat.le_add_right n (l.val + 1))
    rw [← Nat.add_assoc] at this
    omega

/-- The place a step gives a masked lane, over the same table. -/
theorem step_place {m : ℕ} (f : Vec F ⟨1, ![m]⟩ .i32) (c : ℕ → ℕ)
    (h : ∀ a x, ((![v] : Fin 1 → IVec L16 32) a x).toNat < (⟨1, ![m]⟩ : Shape).size a)
    (hL : Lanes P n v mask)
    (hf : ∀ b : Fin m, f (ix1 b) = BitVec.ofNat 32 (c b.val + Nat.count (P b.val) n)) (l : Fin 16) (hm : mask (ix1 l) = 1) :
    ((loadIdx f ![v] h (ix1 l) : BitVec 32) + (scanCount mask v).2 (ix1 l) : BitVec 32)
      = BitVec.ofNat 32 (c (v (ix1 l)).toNat + Nat.count (P (v (ix1 l)).toNat) (n + l.val) + 1) := by
  have hload : loadIdx f ![v] h (ix1 l) = BitVec.ofNat 32 (c (v (ix1 l)).toNat + Nat.count (P (v (ix1 l)).toNat) n) := by
    have := hf ⟨(v (ix1 l)).toNat, h 0 (ix1 l)⟩
    unfold loadIdx
    rw [← this]
    congr 1
    funext a; match a with | ⟨0, _⟩ => rfl
  rw [hload, scanCount_count hL l hm, ← BitVec.ofNat_add]
  congr 1
  have hP : P (v (ix1 l)).toNat (n + l.val) := (hL l _).mpr ⟨hm, rfl⟩
  have h2 : Nat.count (P (v (ix1 l)).toNat) (n + l.val + 1) = Nat.count (P (v (ix1 l)).toNat) (n + l.val) + 1 := by
    rw [Nat.count_succ, if_pos hP]
  have := Nat.count_monotone (P (v (ix1 l)).toNat) (Nat.le_add_right n l.val)
  omega

end Scan

end Cert.Hist
-- ==== Proof.VecLoop.lean ====
/-
  The partition's vector loops.

  A tile reads its keys in batches; sixteen keys at a time it computes each key's bin, reads the tile's counts so far,
  stores the keys' target positions into the staging table and advances the counts. `VInv n₀ m` is the state after
  `m` keys of the batch that starts at key number `n₀`: it is stated with `Nat.count` alone.
-/
module

public import proofs.«01_k».proof.Proof.Has
public import proofs.«01_k».proof.Proof.Hist
public import Idealize.ShloMosaic.Lib.Scf
public import Idealize.ShloMosaic.Lib.Pipeline.Value

@[expose] public section

noncomputable section

namespace Cert.Partition

open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)

/-! ## Bins and positions -/

/-- The bin of a key: five bits above the low sixteen. -/
def bin (k : BitVec 32) : ℕ := ((k.sshiftRight 16) &&& 31#32).toNat

theorem bin_lt (k : BitVec 32) : bin k < 32 := by
  unfold bin
  rw [BitVec.toNat_and]
  exact Nat.lt_succ_of_le Nat.and_le_right

/-- The number of keys of bin `b` among the first `n`. -/
abbrev cnt (key : ℕ → BitVec 32) (b n : ℕ) : ℕ := Nat.count (fun j => bin (key j) = b) n

/-- Where key number `i` goes: its bin's slice of the tile's part, at the number of keys of its bin before it. -/
def pos (base : ℕ) (key : ℕ → BitVec 32) (i : ℕ) : ℕ := base + bin (key i) * 259200 + cnt key (bin (key i)) i

theorem cnt_lt (key : ℕ → BitVec 32) {i : ℕ} (hi : i < 259200) : cnt key (bin (key i)) i < 259200 :=
  lt_of_le_of_lt (Nat.count_le _) hi

theorem pos_lt (base : ℕ) (key : ℕ → BitVec 32) {i : ℕ} (hi : i < 259200) : pos base key i < base + 8294400 := by
  have := cnt_lt key hi
  have := bin_lt (key i)
  unfold pos
  omega

theorem le_pos (base : ℕ) (key : ℕ → BitVec 32) (i : ℕ) : base ≤ pos base key i := by unfold pos; omega

/-- Two keys of a tile go to two places. -/
theorem pos_injOn (base : ℕ) (key : ℕ → BitVec 32) {i j : ℕ} (hi : i < 259200) (hj : j < 259200)
    (h : pos base key i = pos base key j) : i = j := by
  have hci := cnt_lt key hi
  have hcj := cnt_lt key hj
  unfold pos at h
  have hb : bin (key i) = bin (key j) := by omega
  have hc : cnt key (bin (key i)) i = cnt key (bin (key j)) j := by rw [hb] at h ⊢; omega
  rw [← hb] at hc
  exact Nat.count_injective (p := fun x => bin (key x) = bin (key i)) rfl hb.symm hc

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)
variable {α : Type} {Q : α → sProp (MT nD τ sig Ix (Elt F) Name U Lvl)}

local notation "𝕄" => MT nD τ sig Ix (Elt F) Name U Lvl

/-! ## The sixteen lanes of a load -/

/-- The bins of sixteen consecutive keys, as the vector the body computes. -/
def binVec (w : IVec Hist.L16 32) : IVec Hist.L16 32 := andi (shrsi w (broadcast Hist.L16 16#32)) (broadcast Hist.L16 31#32)

theorem binVec_toNat (w : IVec Hist.L16 32) (x : Hist.L16.Idx) : (binVec w x).toNat = bin (w x) := rfl

theorem lanes (key : ℕ → BitVec 32) (n : ℕ) (w : IVec Hist.L16 32) (hw : ∀ l : Fin 16, w (ix1 l) = key (n + l.val)) :
    Hist.Lanes (fun b j => bin (key j) = b) n (binVec w) (broadcast Hist.L16 1#1) := by
  intro l b
  rw [binVec_toNat, hw l]
  exact ⟨fun h => ⟨rfl, h⟩, fun h => h.2⟩

/-- The positions the body computes for the sixteen lanes. -/
theorem posVec (base : ℕ) (key : ℕ → BitVec 32) (n : ℕ) (w : IVec Hist.L16 32) (hw : ∀ l : Fin 16, w (ix1 l) = key (n + l.val))
    (g : Vec F ⟨1, ![32]⟩ .i32) (hg : ∀ b : Fin 32, g (ix1 b) = BitVec.ofNat 32 (cnt key b.val n))
    (h : ∀ a x, ((![binVec w] : Fin 1 → IVec Hist.L16 32) a x).toNat < (⟨1, ![32]⟩ : Shape).size a) (l : Fin 16) :
    (BitVec.ofNat 32 base + binVec w (ix1 l) * 259200#32 + loadIdx g ![binVec w] h (ix1 l)
        + (scanCount (broadcast Hist.L16 1#1) (binVec w)).2 (ix1 l) - 1#32 : BitVec 32)
      = BitVec.ofNat 32 (pos base key (n + l.val)) := by
  have hs := Hist.step_place (P := fun b j => bin (key j) = b) (n := n) g (fun _ => 0) h (lanes key n w hw)
    (fun b => by rw [hg b, Nat.zero_add]) l rfl
  have hb : binVec w (ix1 l) = BitVec.ofNat 32 (bin (key (n + l.val))) := by
    refine BitVec.eq_of_toNat_eq ?_
    rw [binVec_toNat, hw l, BitVec.toNat_ofNat]
    have := bin_lt (key (n + l.val))
    rw [Nat.mod_eq_of_lt (by omega)]
  have hbn : (binVec w (ix1 l)).toNat = bin (key (n + l.val)) := by rw [binVec_toNat, hw l]
  rw [hbn, Nat.zero_add] at hs
  rw [BitVec.add_assoc (BitVec.ofNat 32 base + _), hs, hb]
  rw [show (259200#32) = BitVec.ofNat 32 259200 from rfl, ← BitVec.ofNat_mul, ← BitVec.ofNat_add, ← BitVec.ofNat_add]
  unfold pos
  rw [← Nat.add_assoc, BitVec.ofNat_add, BitVec.add_sub_cancel]

/-! ## The state between vectors -/

variable (m5 : Memref sig c.2.kind .vmem ⟨1, ![3200]⟩ .i32) (m6 : Memref sig c.2.kind .vmem ⟨2, ![25, 128]⟩ .i32)
  (m7 : Memref sig c.2.kind .vmem ⟨1, ![32]⟩ .i32)

/-- After `m` keys of the batch that starts at key `n₀`: the batch's keys, the positions staged for the first `m`, the
    counts over the first `n₀ + m`. -/
def VInv (base : ℕ) (key : ℕ → BitVec 32) (n₀ m : ℕ) : sProp 𝕄 :=
  iprop(has c m5 (fun x => (key (n₀ + (x 0).val) : Elt F .i32))
    ∗ (∃ st, has c m6 st ∗ ⌜∀ x, 128 * (x 0).val + (x 1).val < m → st x = (BitVec.ofNat 32 (pos base key (n₀ + (128 * (x 0).val + (x 1).val))) : Elt F .i32)⌝)
    ∗ (∃ ct, has c m7 ct ∗ ⌜∀ b : Fin 32, ct (ix1 b) = (BitVec.ofNat 32 (cnt key b.val (n₀ + m)) : Elt F .i32)⌝))

/-- The region of one trip of a vector loop. -/
def vecBody (v2 : BitVec 32) (off2 : Fin 1 → ℕ) (h2 : ∀ a, off2 a + (![16] : Fin 1 → ℕ) a ≤ (⟨1, ![3200]⟩ : Shape).size a)
    (off3 : Fin 2 → ℕ) (h3 : ∀ a, off3 a + (![1, 16] : Fin 2 → ℕ) a ≤ (⟨2, ![25, 128]⟩ : Shape).size a)
    (hl5 : m5.view.LoadsAt (Rect.unit (s := ⟨1, ![3200]⟩) off2 ![16] h2).toLoadRect)
    (hl6 : m6.view.LoadsAt (Rect.unit (s := ⟨2, ![25, 128]⟩) off3 ![1, 16] h3).toLoadRect)
    (hs6 : (m6.access (Rect.unit (s := ⟨2, ![25, 128]⟩) off3 ![1, 16] h3)).Stores Finset.univ)
    (hl7 : m7.view.Loads) (hs7 : (m7.access (.whole ⟨1, ![32]⟩)).Stores Finset.univ) (hc : Hist.L16.ShapeCasts ⟨2, ![1, 16]⟩)
    (chk : IVec Hist.L16 32 → Prop) (dec : ∀ v, Decidable (chk v))
    (i1 i2 : ∀ v, chk v → ∀ a x, ((![v] : Fin 1 → IVec Hist.L16 32) a x).toNat < (⟨1, ![32]⟩ : Shape).size a) :
    Prog (TpuEff nD τ sig (Elt F) Λ c.2) Unit := do
  let w : Vec F Hist.L16 .i32 ← Prog.lift (.load m5 (Rect.unit (s := ⟨1, ![3200]⟩) off2 ![16] h2).toLoadRect hl5)
  have v : IVec Hist.L16 32 := binVec w
  have hw : chk v := (← Prog.lift (TpuEff.assume (chk v) (dec v))).down
  let old : Vec F Hist.L16 .i32 ← vectorLoadIdx m7 ![v] (i1 v hw) hl7
  let _st : Vec F ⟨2, ![1, 16]⟩ .i32 ← Prog.lift (.load m6 (Rect.unit (s := ⟨2, ![25, 128]⟩) off3 ![1, 16] h3).toLoadRect hl6)
  Prog.lift (.store m6 (Rect.unit (s := ⟨2, ![25, 128]⟩) off3 ![1, 16] h3)
    (shapeCast ⟨2, ![1, 16]⟩ (subi (addi (addi (addi (broadcast Hist.L16 v2) (muli v (broadcast Hist.L16 259200#32))) old)
      (scanCount (broadcast Hist.L16 1#1) v).2) (broadcast Hist.L16 1#32)) hc) Finset.univ hs6 (.inl rfl))
  vectorStoreIdx m7 ![v] (addi old (scanCount (broadcast Hist.L16 1#1) v).2) (scanCount (broadcast Hist.L16 1#1) v).1 false (i2 v hw) hs7
  pure ⟨⟩

/-- One trip: sixteen more keys. -/
theorem wp_vecBody {base : ℕ} {key : ℕ → BitVec 32} {n₀ : ℕ} {v2 : BitVec 32} (hv2 : v2 = BitVec.ofNat 32 base) {r t : ℕ} (hr : r < 25) (ht : t < 8)
    {off2 : Fin 1 → ℕ} (ho2 : off2 = ![128 * r + 16 * t]) {h2}
    {off3 : Fin 2 → ℕ} (ho3 : off3 = ![r, 16 * t]) {h3} {hl5 hl6 hs6 hl7 hs7 hc}
    {chk : IVec Hist.L16 32 → Prop} {dec : ∀ v, Decidable (chk v)} {i1 i2}
    (hchk : ∀ v : IVec Hist.L16 32, (∀ x, (v x).toNat < 32) → chk v) :
    (VInv c m5 m6 m7 base key n₀ (128 * r + 16 * t) : sProp 𝕄)
      ⊢ wp frame (wpE defs 𝒱 c bd) Set.univ
          (vecBody (F := F) c m5 m6 m7 v2 off2 h2 off3 h3 hl5 hl6 hs6 hl7 hs7 hc chk dec i1 i2)
          (fun _ => VInv c m5 m6 m7 base key n₀ (128 * r + 16 * (t + 1))) := by
  subst ho2 ho3 hv2
  unfold VInv vecBody
  simp only [Prog.bind_lift]
  iintro ⟨H5, ⟨%st, H6, %hst⟩, ⟨%ct, H7, %hct⟩⟩
  iapply (Has.wp_load 𝒱 c bd) $$ H5
  iintro H5
  have hw : ∀ l : Fin 16, (fun x => (key (n₀ + (((Rect.unit (s := ⟨1, ![3200]⟩) ![128 * r + 16 * t] ![16] h2).emb x) 0).val) : Elt F .i32)) (ix1 l)
      = key (n₀ + (128 * r + 16 * t) + l.val) := by
    intro l
    change key (n₀ + (128 * r + 16 * t + 1 * l.val)) = _
    congr 1; omega
  generalize (fun x => (key (n₀ + (((Rect.unit (s := ⟨1, ![3200]⟩) ![128 * r + 16 * t] ![16] h2).emb x) 0).val) : Elt F .i32)) = w at hw ⊢
  have hc' : chk (binVec w) := hchk _ fun x => by rw [binVec_toNat]; exact bin_lt _
  iapply (wp_assume (Val := Elt F) (defs := defs) 𝒱 c bd Set.univ hc')
  iapply (Has.wp_loadIdx 𝒱 c bd) $$ H7
  iintro H7
  iapply (Has.wp_load 𝒱 c bd) $$ H6
  iintro H6
  iapply (Has.wp_store 𝒱 c bd (fun x => if 128 * r + 16 * t ≤ 128 * (x 0).val + (x 1).val ∧ 128 * (x 0).val + (x 1).val < 128 * r + 16 * (t + 1)
      then (BitVec.ofNat 32 (pos base key (n₀ + (128 * (x 0).val + (x 1).val))) : Elt F .i32) else st x) ?_ ?_) $$ H6
  · intro x
    have hx0 : (x 0).val = 0 := Nat.lt_one_iff.mp (x 0).isLt
    have hx1 : (x 1).val < 16 := (x 1).isLt
    refine (if_pos ?_).trans ?_
    · change 128 * r + 16 * t ≤ 128 * (r + 1 * (x 0).val) + (16 * t + 1 * (x 1).val) ∧ 128 * (r + 1 * (x 0).val) + (16 * t + 1 * (x 1).val) < _
      omega
    · change BitVec.ofNat 32 (pos base key (n₀ + (128 * (r + 1 * (x 0).val) + (16 * t + 1 * (x 1).val)))) = _
      refine Eq.trans ?_ (shapeCast_addUnit_apply ![16] _ hc x).symm
      have he : (fun a : Fin 1 => x a.succ) = (ix1 ⟨(x 1).val, hx1⟩ : Hist.L16.Idx) := by
        funext a; fin_cases a; rfl
      refine Eq.trans ?_ (congrArg _ he).symm
      refine Eq.trans ?_ (posVec base key (n₀ + (128 * r + 16 * t)) w hw ct hct (i1 _ hc') ⟨(x 1).val, hx1⟩).symm
      congr 2
      change n₀ + (128 * (r + 1 * (x 0).val) + (16 * t + 1 * (x 1).val)) = n₀ + (128 * r + 16 * t) + (x 1).val
      omega
  · intro y hy
    refine if_neg fun hc => hy ?_
    have h1 : (y 1).val < 128 := (y 1).isLt
    rw [LoadRect.mem_set]
    intro a
    fin_cases a
    · refine ⟨0, Nat.one_pos, ?_⟩
      change (y 0).val = r + 1 * 0
      omega
    · refine ⟨(y 1).val - 16 * t, ?_, ?_⟩
      · change (y 1).val - 16 * t < 16
        omega
      · change (y 1).val = 16 * t + 1 * ((y 1).val - 16 * t)
        omega
  iintro H6
  iapply (Has.wp_storeIdx 𝒱 c bd) $$ H7
  iintro H7
  simp only [Prog.pure_eq_ret, wp_ret]
  imodintro
  isplitl [H5]
  · iexact H5
  isplitl [H6]
  · iexists _
    isplitl [H6]
    · iexact H6
    ipureintro
    intro x hx
    by_cases hlt : 128 * (x 0).val + (x 1).val < 128 * r + 16 * t
    · exact (if_neg fun hc => absurd hlt (not_lt.mpr hc.1)).trans (hst x hlt)
    · exact if_pos ⟨not_lt.mp hlt, hx⟩
  · iexists _
    isplitl [H7]
    · iexact H7
    ipureintro
    intro b
    have := Hist.step (P := fun b j => bin (key j) = b) (n := n₀ + (128 * r + 16 * t)) ct (fun _ => 0) (i1 _ hc') (i2 _ hc')
      (lanes key _ w hw) (fun b => by rw [hct b, Nat.zero_add]) b
    refine this.trans ?_
    rw [Nat.zero_add]
    congr 2

/-- A vector loop: the 128 keys of one row of the table. -/
theorem wp_row {base : ℕ} {key : ℕ → BitVec 32} {n₀ m : ℕ} {v2 : BitVec 32} (hv2 : v2 = BitVec.ofNat 32 base) {L : Scf.Loop 32} {ok : L.OK}
    {body : Fin L.trips → Unit → Prog (TpuEff nD τ sig (Elt F) Λ c.2) Unit}
    {off2 : Fin L.trips → Fin 1 → ℕ} {h2 : ∀ t, ∀ a, off2 t a + (![16] : Fin 1 → ℕ) a ≤ (⟨1, ![3200]⟩ : Shape).size a}
    {off3 : Fin L.trips → Fin 2 → ℕ} {h3 : ∀ t, ∀ a, off3 t a + (![1, 16] : Fin 2 → ℕ) a ≤ (⟨2, ![25, 128]⟩ : Shape).size a}
    {hl5 : ∀ t, m5.view.LoadsAt (Rect.unit (s := ⟨1, ![3200]⟩) (off2 t) ![16] (h2 t)).toLoadRect}
    {hl6 : ∀ t, m6.view.LoadsAt (Rect.unit (s := ⟨2, ![25, 128]⟩) (off3 t) ![1, 16] (h3 t)).toLoadRect}
    {hs6 : ∀ t, (m6.access (Rect.unit (s := ⟨2, ![25, 128]⟩) (off3 t) ![1, 16] (h3 t))).Stores Finset.univ} {hl7 hs7 hc}
    {chk : IVec Hist.L16 32 → Prop} {dec : ∀ v, Decidable (chk v)} {i1 i2}
    (hbody : body = fun t _ => vecBody (F := F) c m5 m6 m7 v2 (off2 t) (h2 t) (off3 t) (h3 t) (hl5 t) (hl6 t) (hs6 t) hl7 hs7 hc chk dec i1 i2)
    (h8 : L.trips = 8) (hm : m / 128 < 25) (hd : 128 * (m / 128) = m)
    (ho2 : ∀ t, off2 t = ![16 * t.val + m]) (ho3 : ∀ t, off3 t = ![m / 128, 16 * t.val])
    (hchk : ∀ v : IVec Hist.L16 32, (∀ x, (v x).toNat < 32) → chk v)
    {α : Type} {kk : Unit → Prog (TpuEff nD τ sig (Elt F) Λ c.2) α} {Q : α → sProp (MT nD τ sig Ix (Elt F) Name U Lvl)} :
    (VInv c m5 m6 m7 base key n₀ m : sProp 𝕄)
      ⊢ iprop((VInv c m5 m6 m7 base key n₀ (m + 128) -∗ wp frame (wpE defs 𝒱 c bd) Set.univ (kk ⟨⟩) Q)
        -∗ wp frame (wpE defs 𝒱 c bd) Set.univ (Scf.Loop.for L ok ⟨⟩ body >>= kk) Q) := by
  subst hbody
  have hloop := Scf.wp_for_bind (M := MT nD τ sig Ix (Elt F) Name U Lvl) (Fr := frame) (wpE := wpE defs 𝒱 c bd) (Es := Set.univ) L.lb L.ub L.st ok (⟨⟩ : Unit)
    (fun t _ => vecBody (F := F) c m5 m6 m7 v2 (off2 t) (h2 t) (off3 t) (h3 t) (hl5 t) (hl6 t) (hs6 t) hl7 hs7 hc chk dec i1 i2)
    (fun t _ => VInv c m5 m6 m7 base key n₀ (128 * (m / 128) + 16 * t))
    (fun t _ => wp_vecBody 𝒱 c bd m5 m6 m7 hv2 hm (lt_of_lt_of_eq t.isLt h8) (by rw [ho2 t, Nat.add_comm, hd]) (ho3 t) hchk) (kk := kk) (Q := Q)
  rw [hd] at hloop
  iintro HV Hk
  iapply hloop $$ HV
  iintro %_ HV
  iapply Hk
  iapply (Entails.of_eq (congrArg (fun k => VInv c m5 m6 m7 base key n₀ (m + 16 * k)) h8)) $$ HV

end Cert.Partition

end
-- ==== Proof.ScatterBatch.lean ====
/-
  Several indirect scatters in flight on one DMA semaphore.

  A tile issues scatter after scatter on one semaphore and only then waits for them. Each scatter is a stream of row
  transfers of one amount, so all of them together are ONE batch of row transfers (`Transfers.Batch`), of which a
  scatter issues the next `o`, and whose deliveries come back together once every wait has been taken. What row `t`
  needs is a resource `Φ t` stated before the first issue, what it delivers is `D t`.
-/
module

public import Idealize.ShloMosaic.Lib.SparseCore.Scatter
public import Idealize.ShloMosaic.Lib.Batch

@[expose] public section

noncomputable section

namespace Cert.ScatterBatch

open Idealize.ShloMosaic Idealize.ShloMosaic.SparseCore
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending batchBody batch_creditUpdate)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## The next `o` of a family -/

/-- Number `k + j` of a family of `n`. -/
abbrev nth {n : ℕ} (k o : ℕ) (h : k + o ≤ n) (j : Fin o) : Fin n := ⟨k + j.val, by have := j.isLt; omega⟩

omit [Preorder Lvl] in
/-- The resources of the family from `k` on are those of the next `o` and those from `k + o` on. -/
theorem bigSep_pending_add {n : ℕ} (Φ : Fin n → sProp 𝕄) (k o : ℕ) (h : k + o ≤ n) :
    bigSep (pending k) Φ = iprop(bigSep (Finset.univ : Finset (Fin o)) (fun j => Φ (nth k o h j)) ∗ bigSep (pending (k + o)) Φ) := by
  have hinj : Function.Injective (nth k o h) := fun i j hij => by
    have := congrArg Fin.val hij
    exact Fin.ext (by simpa [nth] using this)
  have hsub : (Finset.univ.map ⟨nth k o h, hinj⟩ : Finset (Fin n)) ⊆ pending k := by
    intro t ht
    obtain ⟨j, -, rfl⟩ := Finset.mem_map.mp ht
    exact Finset.mem_filter.mpr ⟨Finset.mem_univ _, Nat.le_add_right _ _⟩
  have hsd : pending (n := n) k \ Finset.univ.map ⟨nth k o h, hinj⟩ = pending (k + o) := by
    ext t
    simp only [pending, Finset.mem_sdiff, Finset.mem_filter, Finset.mem_univ, _root_.true_and, Finset.mem_map, Function.Embedding.coeFn_mk, not_exists]
    constructor
    · rintro ⟨h1, h2⟩
      by_contra hc
      exact h2 ⟨t.val - k, by omega⟩ (Fin.ext (by simp only [nth]; omega))
    · intro h1
      refine ⟨by omega, fun j hj => ?_⟩
      have := congrArg Fin.val hj
      have := j.isLt
      simp only [nth] at *
      omega
  rw [BI.bigSep_sdiff_split hsub, bigSep_map, hsd]
  rfl

/-! ## The issue -/

/-- ONE SCATTER OF THE BATCH: from what its `o` rows need — each its entry of the offset list, its source row and the
    means (`writeUpdate`) to write the target row its word names — it issues the batch's next `o` transfers. -/
theorem wp_scatter [EC.LandsIn (upEmb : UEmb _ 𝕄)] {n : ℕ} {D Φ : Fin n → sProp 𝕄}
    {src : Memref sig c.2.kind .vmem s e} {dst : Memref sig c.2.kind sp s₀ e} {hg : s₀.Gathers a s}
    {offs : Memref sig c.2.kind .vmem si .i32} {hn : si.numel = s.size hg.axis'} {sem : DmaSem sig}
    {hp : c.2.kind = .scVector} {he : e.bits = 32} {hsp : sp = .hbm ∨ sp = .shared} {hr : s₀.StreamRows a}
    {k : PUnit → Prog (TpuEff nD τ sig (Elt F) Λ c.2) α}
    {q qo : PosShare TreeShare} (fs : Buf (Elt F) (src.view.loc c)) (fo : Buf (Elt F) (offs.view.loc c))
    (ι : Ix) (N k₀ u : ℕ) (hk : k₀ + s.size hg.axis' ≤ n) (hu : u ≤ k₀ * N)
    (hin : ∀ x, (offs.view.read (Elt F) fo x).toNat < s₀.size hg.axis)
    (hN : ∀ i, (dst.slice (s₀.rowRect hg.axis i) (s₀.stride_rowRect hg.axis _)).view.dmaCredit = N)
    (R : Fin (s.size hg.axis') → sProp 𝕄)
    (hΦ : ∀ j, Φ (nth k₀ _ hk j) ⊢ iprop((offs.view.loc c ↦[{offs.view.emb (si.rowMajor.symm (Fin.cast hn.symm j))}]{qo} fo)
        ∗ (src.view.loc c ↦[(src.view.slice (s.rowRect hg.axis' j)).set]{q} fs)
        ∗ writeUpdate c (dst.view.slice (s₀.rowRect hg.axis (rows (offs.view.read (Elt F) fo) hn hin j))) (scatterRowPayload c src hg fs j) (R j)))
    (hD : ∀ j, iprop((R j ∗ (offs.view.loc c ↦[{offs.view.emb (si.rowMajor.symm (Fin.cast hn.symm j))}]{qo} fo))
        ∗ (src.view.loc c ↦[(src.view.slice (s.rowRect hg.axis' j)).set]{q} fs)) ⊢ D (nth k₀ _ hk j)) :
    iprop(bigSep (pending k₀) Φ ∗ Batch EC c (.dma sem) ι N D k₀ u)
      ⊢ iprop((iprop(bigSep (pending (k₀ + s.size hg.axis')) Φ ∗ Batch EC c (.dma sem) ι N D (k₀ + s.size hg.axis') u)
              -∗ wp frame (wpE defs 𝒱 c bd) Set.univ (k ⟨⟩) Q)
          -∗ wp frame (wpE defs 𝒱 c bd) Set.univ (enqueueIndirectScatter hp src dst hg offs hn sem he hsp hr >>= k) Q) := by
  classical
  rw [enqueueIndirectScatter_bind]
  let S : Stream nD τ sig (Elt F) :=
    Stream.issued c offs.view hn sem (fun j w => (rowOf (s₀.size hg.axis) w).map (scatterRow c src dst hg sem he hsp hr j)) 0
  let r : Fin (s.size hg.axis') → Fin (s₀.size hg.axis) := rows (offs.view.read (Elt F) fo) hn hin
  let rd : Fin (s.size hg.axis') → RowDma τ sig (Elt F) c.2 sem := fun j => scatterRow c src dst hg sem he hsp hr j (r j)
  have hA : S.RowsAgree := by
    intro j x x' ρ ρ' h h'
    obtain ⟨_, _, rfl⟩ := Option.map_eq_some_iff.mp h
    obtain ⟨_, _, rfl⟩ := Option.map_eq_some_iff.mp h'
    rfl
  have hrd : ∀ j, S.row j (S.word fo j) = some (rd j) := fun j => by
    change (rowOf (s₀.size hg.axis) (offs.view.read (Elt F) fo (S.entry j))).map _ = _
    rw [rowOf_of_lt (hin _)]; rfl
  have hsrcset : ∀ j, (src.view.slice (s.rowRect hg.axis' j)).set = (rd j).src.view.set := fun j =>
    (View.set_cast (v := src.view.slice (s.rowRect hg.axis' j)) _ _).symm
  have hsum : ∑ j, (rd j).dst.view.dmaCredit = s.size hg.axis' * N := by
    rw [show (∑ j, (rd j).dst.view.dmaCredit) = ∑ _j : Fin (s.size hg.axis'), N from Finset.sum_congr rfl fun j _ => hN (r j),
      Finset.sum_const, Finset.card_univ, Fintype.card_fin, smul_eq_mul]
  unfold Batch
  iintro ⟨HΦ, ⟨%γ, %γ₀, %κ, #Hinv, HI, H0, Hcred⟩⟩ Hk
  ihave HΦ' := (Entails.of_eq (bigSep_pending_add Φ k₀ _ hk)) $$ HΦ
  icases HΦ' with ⟨Hnow, Hrest⟩
  ihave HI' := (Entails.of_eq (bigSep_pending_add (fun t => count EC (γ t) 0) k₀ _ hk)) $$ HI
  icases HI' with ⟨Hγ, HI⟩
  iapply (wp_enqueueIndirectDma 𝒱 c bd Set.univ (qo := qo) (fo := fo) (rd := rd) ι (s.size hg.axis' * N) hA hrd hsum) $$ [Hnow Hγ]
  · have hrow : ∀ j, iprop(inv κ (batchBody EC (c, SemLoc.dma sem) N D γ γ₀)
          ∗ (Φ (nth k₀ _ hk j) ∗ count EC (γ (nth k₀ _ hk j)) 0))
        ⊢ iprop(S.heldEntry qo fo j ∗ (S.heldEntry qo fo j -∗ rowRes c (rd j))) := fun j => by
      iintro ⟨#Hinv, HΦj, Hγj⟩
      ihave H := (hΦ j) $$ HΦj
      icases H with ⟨He, Hsq, Hw⟩
      isplitl [He]; · iexact He
      iintro He
      unfold rowRes
      iexists q, fs, iprop(R j ∗ S.heldEntry qo fo j)
      isplitl [Hsq]; · iapply (Entails.of_eq (congrArg (fun I => (src.view.loc c ↦[I]{q} fs : sProp 𝕄)) (hsrcset j))) $$ Hsq
      isplitl [Hw He]
      · iapply writeUpdate_frame
        isplitl [Hw]
        · iexact Hw
        · iexact He
      · have hres : iprop((R j ∗ S.heldEntry qo fo j) ∗ ((rd j).src.view.loc c ↦[(rd j).src.view.set]{q} fs)) ⊢ D (nth k₀ _ hk j) := by
          rw [← hsrcset j]; exact hD j
        have ham : (rd j).dst.view.amount (.dma sem) = N := hN (r j)
        rw [ham]
        iapply (batch_creditUpdate EC (nth k₀ _ hk j) hres)
        isplitr; · iexact Hinv
        iexact Hγj
    unfold Stream.res
    ihave H3 := Transfers.bigSep_sep_in _ _ _ $$ [Hnow Hγ]; · isplitl [Hnow] <;> iassumption
    iapply (Transfers.bigSep_mono_pers Finset.univ _ _ _ fun j _ => hrow j)
    isplitr; · iexact Hinv
    iexact H3
  iintro Hcred'
  iapply Hk
  isplitl [Hrest]; · iexact Hrest
  iexists γ, γ₀, κ
  isplitr; · iexact Hinv
  isplitl [HI]; · iexact HI
  isplitl [H0]; · iexact H0
  rw [show (k₀ + s.size hg.axis') * N - u = (k₀ * N - u) + s.size hg.axis' * N by rw [Nat.add_mul]; omega, ← tallyAt_add]
  icombine Hcred Hcred' as H
  iexact H

end Cert.ScatterBatch

end
-- ==== Proof.ScatterRows.lean ====
/-
  One indirect scatter of a batch, in cells.

  The tile's words lie in a line `m5`, the positions they go to in the rows (of 128) of a table `m6`, the target is a
  line `m3` in HBM. Scatter number `r` sends words `128 r … 128 r + 127`. A transfer of the batch needs its position's
  cell, its word's cell and the means to write the target's cell.
-/
module

public import proofs.«01_k».proof.Proof.ScatterBatch
public import Idealize.ShloMosaic.Lib.Pipeline.Value
public import Idealize.ShloMosaic.Lib.ValueIdx
public import Idealize.ShloMosaic.Lib.ValueIdxRank1

@[expose] public section

noncomputable section

namespace Cert.ScatterRows

open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending)
open Cert.ScatterBatch (nth)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {α : Type} {Q : α → sProp (MT nD τ sig Ix (Elt F) Name U Lvl)}

local notation "𝕄" => MT nD τ sig Ix (Elt F) Name U Lvl

/-! ## Views of one element -/

theorem set_eq_singleton {κ : Kind} {sp : Space} {s : Shape} {e : EltTy} (v : View sig κ sp s e) (x₀ : s.Idx) (y : v.ty.Idx)
    (h : ∀ x, v.emb x = y) : v.set = {y} := by
  ext z
  unfold View.set
  rw [Finset.mem_map, Finset.mem_singleton]
  exact ⟨fun ⟨x, _, hx⟩ => hx.symm.trans (h x), fun hz => ⟨x₀, Finset.mem_univ _, (h x₀).trans hz.symm⟩⟩

/-- The row of a one-axis shape has one index. -/
def row0 {n : ℕ} (ax : Fin (⟨1, ![n]⟩ : Shape).rank) : ((⟨1, ![n]⟩ : Shape).rowShape ax).Idx := fun b =>
  ⟨0, by
    have hb : b = ax := Subsingleton.elim (α := Fin 1) b ax
    exact lt_of_lt_of_eq Nat.one_pos (if_pos hb).symm⟩

/-- A row of a line placed in it: its one element. -/
theorem rowRect_emb {n : ℕ} (ax : Fin (⟨1, ![n]⟩ : Shape).rank) (k : Fin ((⟨1, ![n]⟩ : Shape).size ax)) (x : ((⟨1, ![n]⟩ : Shape).rowRect ax k).shape.Idx) :
    ((⟨1, ![n]⟩ : Shape).rowRect ax k).emb x = (ix1 (⟨k.val, by have h0 : ax = 0 := Subsingleton.elim (α := Fin 1) _ _; subst h0; exact k.isLt⟩ : Fin n)) := by
  have h0 : ax = 0 := Subsingleton.elim (α := Fin 1) _ _
  subst h0
  funext b
  have hb : b = 0 := Subsingleton.elim (α := Fin 1) _ _
  subst hb
  refine Fin.ext ?_
  have hx : (x 0).val < 1 := (x 0).isLt
  change (if (0 : Fin 1) = 0 then k.val else 0) + 1 * (x 0).val = k.val
  rw [if_pos rfl]; omega

variable {n3 n5 B : ℕ} (m3 : Memref sig c.2.kind .hbm ⟨1, ![n3]⟩ .i32) (m5 : Memref sig c.2.kind .vmem ⟨1, ![n5]⟩ .i32)
  (m6 : Memref sig c.2.kind .vmem ⟨2, ![B, 128]⟩ .i32)

/-- The target's cell number `p` as the program names it: a row of the whole slice. -/
abbrev cellView (h0 : ∀ a, (![0] : Fin 1 → ℕ) a + (![n3] : Fin 1 → ℕ) a ≤ (⟨1, ![n3]⟩ : Shape).size a)
    (ax : Fin (⟨1, ![n3]⟩ : Shape).rank) (p : Fin ((⟨1, ![n3]⟩ : Shape).size ax)) : View sig c.2.kind .hbm ((⟨1, ![n3]⟩ : Shape).rowShape ax) .i32 :=
  (m3.slice (Rect.unit (s := ⟨1, ![n3]⟩) ![0] ![n3] h0) (fun _ => rfl)).view.slice ((⟨1, ![n3]⟩ : Shape).rowRect ax p)

theorem cellView_emb (h0) (ax) (p : Fin ((⟨1, ![n3]⟩ : Shape).size ax)) (p' : Fin n3) (hp : p.val = p'.val) (x) :
    (cellView c m3 h0 ax p).emb x = m3.view.emb (ix1 p') := by
  change m3.view.emb ((Rect.unit (s := ⟨1, ![n3]⟩) ![0] ![n3] h0).emb (((⟨1, ![n3]⟩ : Shape).rowRect ax p).emb x)) = _
  congr 1
  refine (congrArg _ (rowRect_emb ax p x)).trans ?_
  funext b
  have hb : b = 0 := Subsingleton.elim (α := Fin 1) _ _
  subst hb
  refine Fin.ext ?_
  change 0 + 1 * p.val = p'.val
  omega

theorem cellView_set (h0) (ax) (p : Fin ((⟨1, ![n3]⟩ : Shape).size ax)) (p' : Fin n3) (hp : p.val = p'.val) :
    (cellView c m3 h0 ax p).set = {m3.view.emb (ix1 p')} :=
  set_eq_singleton _ (row0 ax) _ (cellView_emb c m3 h0 ax p p' hp)

/-! ## One scatter -/

theorem offs_emb {r : ℕ} {hr : r < B} {off6 : Fin 2 → ℕ} (ho6 : off6 = ![r, 0])
    (h6 : ∀ a, off6 a + (![1, 128] : Fin 2 → ℕ) a ≤ (⟨2, ![B, 128]⟩ : Shape).size a)
    (hs : Shape.Squeezes ⟨2, ![1, 128]⟩ ⟨1, ![128]⟩) (j : Fin (⟨1, ![128]⟩ : Shape).numel) (j' : Fin 128) (hj : j.val = j'.val) :
    (((m6.slice (Rect.unit (s := ⟨2, ![B, 128]⟩) off6 ![1, 128] h6) (fun _ => rfl)).squeeze ⟨1, ![128]⟩ hs).view.emb
      ((⟨1, ![128]⟩ : Shape).rowMajor.symm j)) = m6.view.emb (ix2 ⟨r, hr⟩ j') := by
  subst ho6
  change m6.view.emb ((Rect.unit (s := ⟨2, ![B, 128]⟩) ![r, 0] ![1, 128] h6).emb (Shape.reshapeEquiv hs.numel_eq ((⟨1, ![128]⟩ : Shape).rowMajor.symm j))) = _
  congr 1
  have he : Shape.reshapeEquiv hs.numel_eq ((⟨1, ![128]⟩ : Shape).rowMajor.symm j) = (ix2 (0 : Fin 1) j' : (⟨2, ![1, 128]⟩ : Shape).Idx) := by
    apply Shape.reshapeEquiv_eq_of_rowMajor
    rw [Equiv.apply_symm_apply, hj]
    change (Shape.rowMajorPi ![1, 128] (ix2 (0 : Fin 1) j')).val = j'.val
    rw [Shape.rowMajorPi_succ_val, Shape.rowMajorPi_succ_val]
    change 0 * _ + (j'.val * 1 + 0) = j'.val
    omega
  refine (congrArg _ he).trans ?_
  funext b
  refine Fin.ext ?_
  fin_cases b
  · change r + 1 * 0 = r; omega
  · change 0 + 1 * j'.val = j'.val; omega

/-- ONE SCATTER of the batch: 128 transfers more. -/
theorem wp_scatterRow [EC.LandsIn (upEmb : UEmb _ 𝕄)] {n : ℕ} (hn5 : n ≤ n5) (hnB : n ≤ B * 128) {D W R : Fin n → sProp 𝕄} {q5 q6 : PosShare TreeShare}
    (f5 : Buf (Elt F) (m5.view.loc c)) (f6 : Buf (Elt F) (m6.view.loc c)) (p : Fin n → Fin n3) (w : Fin n → BitVec 32)
    {sem : DmaSem sig} (ι : Ix) {r : ℕ} (hr : 128 * r + 128 ≤ n)
    {off5 : Fin 1 → ℕ} (ho5 : off5 = ![128 * r]) {h5} {off6 : Fin 2 → ℕ} (ho6 : off6 = ![r, 0]) {h6 h0} {hsq : Shape.Squeezes ⟨2, ![1, 128]⟩ ⟨1, ![128]⟩}
    {hg : Shape.Gathers (⟨1, ![n3]⟩ : Shape) 0 ⟨1, ![128]⟩} {hn : (⟨1, ![128]⟩ : Shape).numel = (⟨1, ![128]⟩ : Shape).size hg.axis'}
    {hp : c.2.kind = .scVector} {he : (EltTy.i32).bits = 32} {hsp : Space.hbm = .hbm ∨ Space.hbm = .shared} {hst : Shape.StreamRows (⟨1, ![n3]⟩ : Shape) 0}
    {k : PUnit → Prog (TpuEff nD τ sig (Elt F) Λ c.2) α} (N : ℕ)
    (hN : ∀ i, (cellView c m3 h0 hg.axis i).dmaCredit = N)
    (hw : ∀ t : Fin n, m5.view.read (Elt F) f5 (ix1 ⟨t.val, by have := t.isLt; omega⟩) = (w t : Elt F .i32))
    (hpos : ∀ t : Fin n, m6.view.read (Elt F) f6 (ix2 ⟨t.val / 128, by have := t.isLt; omega⟩ ⟨t.val % 128, Nat.mod_lt _ (by decide)⟩) = (BitVec.ofNat 32 (p t).val : Elt F .i32))
    (hn3 : n3 ≤ 2 ^ 32)
    (hW : ∀ t (i : Fin ((⟨1, ![n3]⟩ : Shape).size hg.axis)), i.val = (p t).val → W t ⊢ writeUpdate c (cellView c m3 h0 hg.axis i) (fun _ => (w t : Elt F .i32)) (R t))
    (hD : ∀ t, iprop((R t ∗ (m6.view.loc c ↦[{m6.view.emb (ix2 ⟨t.val / 128, by have := t.isLt; omega⟩ ⟨t.val % 128, Nat.mod_lt _ (by decide)⟩)}]{q6} f6))
        ∗ (m5.view.loc c ↦[{m5.view.emb (ix1 ⟨t.val, by have := t.isLt; omega⟩)}]{q5} f5)) ⊢ D t) :
    iprop(bigSep (pending (128 * r)) (fun t : Fin n => iprop((m6.view.loc c ↦[{m6.view.emb (ix2 ⟨t.val / 128, by have := t.isLt; omega⟩ ⟨t.val % 128, Nat.mod_lt _ (by decide)⟩)}]{q6} f6)
          ∗ (m5.view.loc c ↦[{m5.view.emb (ix1 ⟨t.val, by have := t.isLt; omega⟩)}]{q5} f5) ∗ W t)) ∗ Batch EC c (.dma sem) ι N D (128 * r) 0)
      ⊢ iprop((iprop(bigSep (pending (128 * r + 128)) (fun t : Fin n => iprop((m6.view.loc c ↦[{m6.view.emb (ix2 ⟨t.val / 128, by have := t.isLt; omega⟩ ⟨t.val % 128, Nat.mod_lt _ (by decide)⟩)}]{q6} f6)
          ∗ (m5.view.loc c ↦[{m5.view.emb (ix1 ⟨t.val, by have := t.isLt; omega⟩)}]{q5} f5) ∗ W t)) ∗ Batch EC c (.dma sem) ι N D (128 * r + 128) 0)
              -∗ wp frame (wpE defs 𝒱 c bd) Set.univ (k ⟨⟩) Q)
          -∗ wp frame (wpE defs 𝒱 c bd) Set.univ (enqueueIndirectScatter hp (m5.slice (Rect.unit (s := ⟨1, ![n5]⟩) off5 ![128] h5) (fun _ => rfl))
              (m3.slice (Rect.unit (s := ⟨1, ![n3]⟩) ![0] ![n3] h0) (fun _ => rfl)) hg
              ((m6.slice (Rect.unit (s := ⟨2, ![B, 128]⟩) off6 ![1, 128] h6) (fun _ => rfl)).squeeze ⟨1, ![128]⟩ hsq) hn sem he hsp hst >>= k) Q) := by
  have hax : hg.axis' = (0 : Fin 1) := Subsingleton.elim (α := Fin 1) _ _
  have h128 : (⟨1, ![128]⟩ : Shape).size hg.axis' = 128 := by rw [hax]; rfl
  have hnum : (⟨1, ![128]⟩ : Shape).numel = 128 := hn.trans h128
  have ht : ∀ j : Fin ((⟨1, ![128]⟩ : Shape).size hg.axis'), j.val < 128 := fun j => lt_of_lt_of_eq j.isLt h128
  have hk : 128 * r + (⟨1, ![128]⟩ : Shape).size hg.axis' ≤ n := by rw [h128]; exact hr
  -- the entry, the word, and the target of each lane
  have hent : ∀ (j : Fin ((⟨1, ![128]⟩ : Shape).size hg.axis')), (((m6.slice (Rect.unit (s := ⟨2, ![B, 128]⟩) off6 ![1, 128] h6) (fun _ => rfl)).squeeze ⟨1, ![128]⟩ hsq).view.emb
      ((⟨1, ![128]⟩ : Shape).rowMajor.symm (Fin.cast hn.symm j)))
      = m6.view.emb (ix2 ⟨(nth (128 * r) _ hk j).val / 128, by have := (nth (128 * r) _ hk j).isLt; omega⟩ ⟨(nth (128 * r) _ hk j).val % 128, Nat.mod_lt _ (by decide)⟩) := by
    intro j
    have hj := ht j
    have hrB : r < B := by omega
    refine (offs_emb c m6 (hr := hrB) ho6 h6 hsq (Fin.cast hn.symm j) ⟨j.val, hj⟩ rfl).trans ?_
    congr 2
    · refine Fin.ext ?_
      change r = (128 * r + j.val) / 128
      omega
    · refine Fin.ext ?_
      change j.val = (128 * r + j.val) % 128
      omega
  have hsrc : ∀ (j : Fin ((⟨1, ![128]⟩ : Shape).size hg.axis')) x, ((m5.slice (Rect.unit (s := ⟨1, ![n5]⟩) off5 ![128] h5) (fun _ => rfl)).view.slice ((⟨1, ![128]⟩ : Shape).rowRect hg.axis' j)).emb x
      = m5.view.emb (ix1 ⟨(nth (128 * r) _ hk j).val, by have := (nth (128 * r) _ hk j).isLt; omega⟩) := by
    intro j x
    change m5.view.emb ((Rect.unit (s := ⟨1, ![n5]⟩) off5 ![128] h5).emb (((⟨1, ![128]⟩ : Shape).rowRect hg.axis' j).emb x)) = _
    congr 1
    refine (congrArg _ (rowRect_emb hg.axis' j x)).trans ?_
    funext b
    have hb : b = 0 := Subsingleton.elim (α := Fin 1) _ _
    subst hb ho5
    refine Fin.ext ?_
    change 128 * r + 1 * j.val = 128 * r + j.val
    omega
  have hread : ∀ j : Fin ((⟨1, ![128]⟩ : Shape).size hg.axis'), ((m6.slice (Rect.unit (s := ⟨2, ![B, 128]⟩) off6 ![1, 128] h6) (fun _ => rfl)).squeeze ⟨1, ![128]⟩ hsq).view.read (Elt F) f6
      ((⟨1, ![128]⟩ : Shape).rowMajor.symm (Fin.cast hn.symm j)) = (BitVec.ofNat 32 (p (nth (128 * r) _ hk j)).val : Elt F .i32) := by
    intro j
    refine Eq.trans ?_ (hpos (nth (128 * r) _ hk j))
    rw [View.read_apply, View.read_apply]
    exact congrArg _ (congrArg f6 (hent j))
  have hval : ∀ j : Fin ((⟨1, ![128]⟩ : Shape).size hg.axis'), (((m6.slice (Rect.unit (s := ⟨2, ![B, 128]⟩) off6 ![1, 128] h6) (fun _ => rfl)).squeeze ⟨1, ![128]⟩ hsq).view.read (Elt F) f6
      ((⟨1, ![128]⟩ : Shape).rowMajor.symm (Fin.cast hn.symm j)) : BitVec 32).toNat = (p (nth (128 * r) _ hk j)).val := by
    intro j
    refine (congrArg BitVec.toNat (hread j)).trans ?_
    rw [BitVec.toNat_ofNat]
    exact Nat.mod_eq_of_lt (lt_of_lt_of_le (p _).isLt hn3)
  have hin : ∀ x, (((m6.slice (Rect.unit (s := ⟨2, ![B, 128]⟩) off6 ![1, 128] h6) (fun _ => rfl)).squeeze ⟨1, ![128]⟩ hsq).view.read (Elt F) f6 x : BitVec 32).toNat
      < (⟨1, ![n3]⟩ : Shape).size hg.axis := by
    intro x
    obtain ⟨j0, rfl⟩ := (⟨1, ![128]⟩ : Shape).rowMajor.symm.surjective x
    obtain ⟨j, rfl⟩ : ∃ j, j0 = Fin.cast hn.symm j := ⟨Fin.cast hn j0, rfl⟩
    have hsz : (⟨1, ![n3]⟩ : Shape).size hg.axis = n3 := by
      have : hg.axis = (0 : Fin 1) := Subsingleton.elim (α := Fin 1) _ _
      rw [this]; rfl
    rw [hval j, hsz]
    exact (p _).isLt
  have hkey := ScatterBatch.wp_scatter (defs := defs) EC 𝒱 c bd (Q := Q) (D := D) (Φ := fun t : Fin n => iprop((m6.view.loc c ↦[{m6.view.emb (ix2 ⟨t.val / 128, by have := t.isLt; omega⟩ ⟨t.val % 128, Nat.mod_lt _ (by decide)⟩)}]{q6} f6)
          ∗ (m5.view.loc c ↦[{m5.view.emb (ix1 ⟨t.val, by have := t.isLt; omega⟩)}]{q5} f5) ∗ W t))
    (src := m5.slice (Rect.unit (s := ⟨1, ![n5]⟩) off5 ![128] h5) (fun _ => rfl)) (dst := m3.slice (Rect.unit (s := ⟨1, ![n3]⟩) ![0] ![n3] h0) (fun _ => rfl))
    (hg := hg) (offs := (m6.slice (Rect.unit (s := ⟨2, ![B, 128]⟩) off6 ![1, 128] h6) (fun _ => rfl)).squeeze ⟨1, ![128]⟩ hsq) (hn := hn) (sem := sem) (hp := hp) (he := he) (hsp := hsp) (hr := hst) (k := k)
    (q := q5) (qo := q6) f5 f6 ι N (128 * r) 0 hk (Nat.zero_le _) hin hN (fun j => R (nth (128 * r) _ hk j)) ?_ ?_
  · have e128 : 128 * r + (Rect.unit (s := ⟨1, ![n5]⟩) off5 ![128] h5).shape.size hg.axis' = 128 * r + 128 := congrArg (128 * r + ·) h128
    rw [e128] at hkey
    exact hkey
  · intro j
    iintro ⟨H6, H5, HW⟩
    isplitl [H6]
    · iapply (Entails.of_eq (congrArg (fun y => (m6.view.loc c ↦[{y}]{q6} f6 : sProp 𝕄)) (hent j).symm)) $$ H6
    isplitl [H5]
    · iapply (Entails.of_eq (congrArg (fun I => (m5.view.loc c ↦[I]{q5} f5 : sProp 𝕄)) (set_eq_singleton _ (row0 hg.axis') _ (hsrc j)).symm)) $$ H5
    · have hpay : scatterRowPayload c (m5.slice (Rect.unit (s := ⟨1, ![n5]⟩) off5 ![128] h5) (fun _ => rfl)) hg f5 j = fun _ => (w (nth (128 * r) _ hk j) : Elt F .i32) := by
        funext x
        refine Eq.trans ?_ (hw (nth (128 * r) _ hk j))
        unfold scatterRowPayload
        rw [View.read_apply, View.read_apply]
        exact congrArg _ (congrArg f5 (hsrc j _))
      rw [hpay]
      iapply (hW (nth (128 * r) _ hk j) _ (hval j)) $$ HW
  · intro j
    refine Entails.trans ?_ (hD (nth (128 * r) _ hk j))
    iintro ⟨⟨HR, H6⟩, H5⟩
    isplitl [HR H6]
    · isplitl [HR]
      · iexact HR
      · iapply (Entails.of_eq (congrArg (fun y => (m6.view.loc c ↦[{y}]{q6} f6 : sProp 𝕄)) (hent j))) $$ H6
    · iapply (Entails.of_eq (show ((m5.slice (Rect.unit (s := ⟨1, ![n5]⟩) off5 ![128] h5) (fun _ => rfl)).view.loc c
          ↦[((m5.slice (Rect.unit (s := ⟨1, ![n5]⟩) off5 ![128] h5) (fun _ => rfl)).view.slice ((⟨1, ![128]⟩ : Shape).rowRect hg.axis' j)).set]{q5} f5 : sProp 𝕄)
          = (m5.view.loc c ↦[{m5.view.emb (ix1 ⟨(nth (128 * r) _ hk j).val, _⟩)}]{q5} f5)
        from congrArg (fun I => (m5.view.loc c ↦[I]{q5} f5 : sProp 𝕄)) (set_eq_singleton _ (row0 hg.axis') _ (hsrc j)))) $$ H5

end Cert.ScatterRows

end
-- ==== Proof.Phase.lean ====
/-
  A batch of scatters from issue to collection.

  Word `t` of the line `m5` goes to cell `p t` of the target `m3`, its position being entry `t` of the table `m6`, read
  row by row. The words with `V t` go to pairwise different cells held outright; the others go wherever the persistent
  `Dump` lets them be written, and nothing is kept of them.
-/
module

public import proofs.«01_k».proof.Proof.ScatterRows
public import proofs.«01_k».proof.Proof.Has
public import Idealize.ShloMosaic.Lib.SparseCore.Stream

@[expose] public section

noncomputable section

namespace Cert.Phase

open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending)
open Cert.Has (has)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {α : Type} {Q : α → sProp (MT nD τ sig Ix (Elt F) Name U Lvl)}

local notation "𝕄" => MT nD τ sig Ix (Elt F) Name U Lvl

variable {n3 n B : ℕ} (m3 : Memref sig c.2.kind .hbm ⟨1, ![n3]⟩ .i32) (m5 : Memref sig c.2.kind .vmem ⟨1, ![n]⟩ .i32)
  (m6 : Memref sig c.2.kind .vmem ⟨2, ![B, 128]⟩ .i32)

/-! ## What a transfer takes and what it leaves -/

/-- Word `t`'s cell of the line. -/
def cell5 (f5 : Buf (Elt F) (m5.view.loc c)) (t : Fin n) : sProp 𝕄 := m5.view.loc c ↦[{m5.view.emb (ix1 t)}]{fullShare} f5

/-- The table's entry number `t`. -/
def entry (hB : n = B * 128) (t : Fin n) : (⟨2, ![B, 128]⟩ : Shape).Idx :=
  ix2 ⟨t.val / 128, by have := t.isLt; omega⟩ ⟨t.val % 128, Nat.mod_lt _ (by decide)⟩

/-- Word `t`'s cell of the table. -/
def cell6 (hB : n = B * 128) (f6 : Buf (Elt F) (m6.view.loc c)) (t : Fin n) : sProp 𝕄 :=
  m6.view.loc c ↦[{m6.view.emb (entry hB t)}]{fullShare} f6

/-- The target's cell number `p`. -/
def cell3 (f3 : Buf (Elt F) (m3.view.loc c)) (p : Fin n3) : sProp 𝕄 := m3.view.loc c ↦[{m3.view.emb (ix1 p)}]{fullShare} f3

variable (hB : n = B * 128) (p : Fin n → Fin n3) (V : Fin n → Prop) [DecidablePred V] (w : Fin n → BitVec 32)

/-- The means to write word `t`'s target. -/
def means (Dump : sProp 𝕄) (fd : Buf (Elt F) (m3.view.loc c)) (t : Fin n) : sProp 𝕄 := if V t then cell3 c m3 fd (p t) else Dump

/-- What transfer `t` takes. -/
def takes (Dump : sProp 𝕄) (f5 : Buf (Elt F) (m5.view.loc c)) (f6 : Buf (Elt F) (m6.view.loc c)) (fd : Buf (Elt F) (m3.view.loc c)) (t : Fin n) : sProp 𝕄 :=
  iprop(cell6 c m6 hB f6 t ∗ cell5 c m5 f5 t ∗ means c m3 p V Dump fd t)

/-- Word `t`'s target, written. -/
def written (fd' : Buf (Elt F) (m3.view.loc c)) (t : Fin n) : sProp 𝕄 := if V t then cell3 c m3 fd' (p t) else emp

/-- What transfer `t` leaves. -/
def leaves (f5 : Buf (Elt F) (m5.view.loc c)) (f6 : Buf (Elt F) (m6.view.loc c)) (fd' : Buf (Elt F) (m3.view.loc c)) (t : Fin n) : sProp 𝕄 :=
  iprop((written c m3 p V fd' t ∗ cell6 c m6 hB f6 t) ∗ cell5 c m5 f5 t)

instance storable_leaves (f5 : Buf (Elt F) (m5.view.loc c)) (f6 : Buf (Elt F) (m6.view.loc c)) (fd' : Buf (Elt F) (m3.view.loc c)) (t : Fin n) :
    Storable (upEmb : UEmb _ 𝕄) (leaves c m3 m5 m6 hB p V f5 f6 fd' t) := by
  unfold leaves written cell3 cell5 cell6
  by_cases h : V t
  · rw [if_pos h]; infer_instance
  · rw [if_neg h]; infer_instance

/-- The target's contents after the batch, as a line. -/
def lineAfter (fd : Buf (Elt F) (m3.view.loc c)) : (⟨1, ![n3]⟩ : Shape).Idx → Elt F .i32 := fun x =>
  open scoped Classical in if h : ∃ t, V t ∧ x = ix1 (p t) then w h.choose else m3.view.read (Elt F) fd x

/-- The target's contents after the batch. -/
def after (fd : Buf (Elt F) (m3.view.loc c)) : Buf (Elt F) (m3.view.loc c) := m3.view.write (Elt F) fd (lineAfter c m3 p V w fd) Finset.univ

variable {p V w} {Dump : sProp (MT nD τ sig Ix (Elt F) Name U Lvl)}

theorem ix1_inj {m : ℕ} {a b : Fin m} (h : (ix1 a : (⟨1, ![m]⟩ : Shape).Idx) = ix1 b) : a = b := congrFun h 0

theorem lineAfter_at (hinj : ∀ t t', V t → V t' → p t = p t' → t = t') (fd : Buf (Elt F) (m3.view.loc c)) {t : Fin n} (ht : V t) :
    lineAfter c m3 p V w fd (ix1 (p t)) = w t := by
  unfold lineAfter
  have h : ∃ t', V t' ∧ (ix1 (p t) : (⟨1, ![n3]⟩ : Shape).Idx) = ix1 (p t') := ⟨t, ht, rfl⟩
  rw [dif_pos h]
  congr 1
  exact hinj _ _ h.choose_spec.1 ht (ix1_inj h.choose_spec.2).symm

theorem lineAfter_off (fd : Buf (Elt F) (m3.view.loc c)) {x : (⟨1, ![n3]⟩ : Shape).Idx} (hx : ∀ t, V t → x ≠ ix1 (p t)) :
    lineAfter c m3 p V w fd x = m3.view.read (Elt F) fd x := by
  unfold lineAfter
  rw [dif_neg]
  rintro ⟨t, ht, h⟩
  exact hx t ht h

theorem read_after (fd : Buf (Elt F) (m3.view.loc c)) : m3.view.read (Elt F) (after c m3 p V w fd) = lineAfter c m3 p V w fd := View.read_write_univ _ _

/-! ## Opening and closing -/

theorem entry_bijective : Function.Bijective (entry (n := n) hB) := by
  constructor
  · intro t t' h
    have h0 : t.val / 128 = t'.val / 128 := congrArg Fin.val (congrFun h 0)
    have h1 : t.val % 128 = t'.val % 128 := congrArg Fin.val (congrFun h 1)
    exact Fin.ext (by omega)
  · intro y
    have h0 : (y 0).val < B := (y 0).isLt
    have h1 : (y 1).val < 128 := (y 1).isLt
    refine ⟨⟨128 * (y 0).val + (y 1).val, by omega⟩, ?_⟩
    funext a
    refine Fin.ext ?_
    fin_cases a
    · change (128 * (y 0).val + (y 1).val) / 128 = (y 0).val; omega
    · change (128 * (y 0).val + (y 1).val) % 128 = (y 1).val; omega

theorem ix1_bijective : Function.Bijective (fun t : Fin n => (ix1 t : (⟨1, ![n]⟩ : Shape).Idx)) :=
  ⟨fun _ _ h => ix1_inj h, fun y => ⟨y 0, (eq_ix1 y).symm⟩⟩

/-- The cells the batch writes for good. -/
def image (p : Fin n → Fin n3) (V : Fin n → Prop) [DecidablePred V] : Finset (Idx (m3.view.loc c)) :=
  (Finset.univ.filter V).biUnion fun t => {m3.view.emb (ix1 (p t))}

theorem image_disjoint (hinj : ∀ t t', V t → V t' → p t = p t' → t = t') :
    ∀ t ∈ Finset.univ.filter V, ∀ t' ∈ Finset.univ.filter V, t ≠ t' →
      Disjoint ({m3.view.emb (ix1 (p t))} : Finset (Idx (m3.view.loc c))) {m3.view.emb (ix1 (p t'))} := by
  intro t ht t' ht' hne
  rw [Finset.disjoint_singleton]
  intro h
  exact hne (hinj t t' (Finset.mem_filter.mp ht).2 (Finset.mem_filter.mp ht').2 (ix1_inj (m3.view.emb.injective h)))

omit [Preorder Lvl] in
/-- The written cells, one by one. -/
theorem pointsTo_image (hinj : ∀ t t', V t → V t' → p t = p t' → t = t') (f : Buf (Elt F) (m3.view.loc c)) :
    (m3.view.loc c ↦[image c m3 p V]{fullShare} f : sProp 𝕄) = bigSep Finset.univ (written c m3 p V f) :=
  (pointsTo_biUnion _ _ (image_disjoint c m3 hinj)).trans
    (BI.bigSep_filter Finset.univ V (fun t => (m3.view.loc c ↦[{m3.view.emb (ix1 (p t))}]{fullShare} f : sProp 𝕄)))

omit [Preorder Lvl] in
/-- The line's cells, one by one. -/
theorem pointsTo_line (f : Buf (Elt F) (m5.view.loc c)) : (m5.view.loc c ↦[m5.view.set]{fullShare} f : sProp 𝕄) = bigSep Finset.univ (cell5 c m5 f) :=
  pointsTo_entries c m5.view _ ix1_bijective fullShare f

omit [Preorder Lvl] in
/-- The table's cells, one by one. -/
theorem pointsTo_table (f : Buf (Elt F) (m6.view.loc c)) : (m6.view.loc c ↦[m6.view.set]{fullShare} f : sProp 𝕄) = bigSep Finset.univ (cell6 c m6 hB f) :=
  pointsTo_entries c m6.view _ (entry_bijective hB) fullShare f

omit [Preorder Lvl] in
/-- The words, the table and a region holding the target's cells are what the transfers take, and the rest of the region. -/
theorem open_rows [BI.Persistent Dump] (hinj : ∀ t t', V t → V t' → p t = p t' → t = t') {Rg : Finset (Idx (m3.view.loc c))}
    (hR : ∀ t, V t → m3.view.emb (ix1 (p t)) ∈ Rg) {g5 g6} {fd : Buf (Elt F) (m3.view.loc c)} :
    iprop(Dump ∗ has c m5 g5 ∗ has c m6 g6 ∗ (m3.view.loc c ↦[Rg]{fullShare} fd))
      ⊢ (iprop(∃ f5 f6, ⌜(∀ x, m5.view.read (Elt F) f5 x = g5 x) ∧ ∀ x, m6.view.read (Elt F) f6 x = g6 x⌝
          ∗ bigSep Finset.univ (takes c m3 m5 m6 hB p V Dump f5 f6 fd) ∗ (m3.view.loc c ↦[Rg \ image c m3 p V]{fullShare} fd)) : sProp 𝕄) := by
  unfold has
  iintro ⟨#HD, ⟨%f5, %h5, H5⟩, ⟨%f6, %h6, H6⟩, H3⟩
  have hsub : image c m3 p V ⊆ Rg := by
    intro i hi
    obtain ⟨t, ht, hi⟩ := Finset.mem_biUnion.mp hi
    rw [Finset.mem_singleton] at hi
    rw [hi]; exact hR t (Finset.mem_filter.mp ht).2
  ihave H3' := (pointsTo_split_subset (q := fullShare) (f := fd) hsub).1 $$ H3
  icases H3' with ⟨Hi, Hr⟩
  ihave Hi := (Entails.of_eq (pointsTo_image c m3 hinj fd)) $$ Hi
  ihave H5 := (Entails.of_eq (pointsTo_line c m5 f5)) $$ H5
  ihave H6 := (Entails.of_eq (pointsTo_table c m6 hB f6)) $$ H6
  iexists f5, f6
  isplitr
  · ipureintro; exact ⟨h5, h6⟩
  isplitr [Hr]
  · unfold takes
    iapply (Transfers.bigSep_sep_in _ _ _)
    isplitl [H6]
    · iexact H6
    iapply (Transfers.bigSep_sep_in _ _ _)
    isplitl [H5]
    · iexact H5
    iapply (Transfers.bigSep_mono_pers Finset.univ Dump _ _ fun t _ => ?_) $$ [Hi]
    rotate_left
    · isplitr
      · iexact HD
      · iexact Hi
    unfold means written cell3
    by_cases h : V t
    · rw [if_pos h, if_pos h]
      iintro ⟨-, H⟩
      iexact H
    · rw [if_neg h, if_neg h]
      iintro ⟨H, -⟩
      iexact H
  · iexact Hr

omit [Preorder Lvl] in
/-- What the transfers leave and the rest of the region are the words, the table and the region with the words written. -/
theorem close_rows (hinj : ∀ t t', V t → V t' → p t = p t' → t = t') {Rg : Finset (Idx (m3.view.loc c))}
    (hR : ∀ t, V t → m3.view.emb (ix1 (p t)) ∈ Rg) {g5 g6} {f5 : Buf (Elt F) (m5.view.loc c)} {f6 : Buf (Elt F) (m6.view.loc c)} {fd : Buf (Elt F) (m3.view.loc c)}
    (h5 : ∀ x, m5.view.read (Elt F) f5 x = g5 x) (h6 : ∀ x, m6.view.read (Elt F) f6 x = g6 x) :
    iprop(bigSep Finset.univ (leaves c m3 m5 m6 hB p V f5 f6 (after c m3 p V w fd)) ∗ (m3.view.loc c ↦[Rg \ image c m3 p V]{fullShare} fd))
      ⊢ (iprop(has c m5 g5 ∗ has c m6 g6 ∗ (m3.view.loc c ↦[Rg]{fullShare} after c m3 p V w fd)) : sProp 𝕄) := by
  have hsub : image c m3 p V ⊆ Rg := by
    intro i hi
    obtain ⟨t, ht, hi⟩ := Finset.mem_biUnion.mp hi
    rw [Finset.mem_singleton] at hi
    rw [hi]; exact hR t (Finset.mem_filter.mp ht).2
  have hrest : (m3.view.loc c ↦[Rg \ image c m3 p V]{fullShare} fd : sProp 𝕄) = (m3.view.loc c ↦[Rg \ image c m3 p V]{fullShare} after c m3 p V w fd) := by
    refine pointsTo_congr fun i hi => ?_
    have hi' := (Finset.mem_sdiff.mp hi).2
    unfold after
    by_cases hm : i ∈ m3.view.set
    · obtain ⟨x, -, rfl⟩ := Finset.mem_map.mp hm
      refine Eq.trans ?_ (View.write_emb_of_mem (v := m3.view) fd _ (Finset.mem_univ x)).symm
      rw [lineAfter_off c m3 fd (x := x) fun t ht hx => hi' (Finset.mem_biUnion.mpr ⟨t, Finset.mem_filter.mpr ⟨Finset.mem_univ _, ht⟩, by rw [Finset.mem_singleton, hx]⟩),
        View.read_apply]
      simp
    · exact (View.write_of_not_mem _ _ _ (by rwa [View.setOn_univ])).symm
  rw [hrest]
  unfold has leaves
  iintro ⟨H, Hr⟩
  ihave H := (show bigSep Finset.univ (fun t => iprop((written c m3 p V (after c m3 p V w fd) t ∗ cell6 c m6 hB f6 t) ∗ cell5 c m5 f5 t))
      ⊢ (iprop((bigSep Finset.univ (written c m3 p V (after c m3 p V w fd)) ∗ bigSep Finset.univ (cell6 c m6 hB f6)) ∗ bigSep Finset.univ (cell5 c m5 f5)) : sProp 𝕄) from
    (Transfers.bigSep_sep_out _ _ _).trans (BI.sep_mono_l (Transfers.bigSep_sep_out _ _ _))) $$ H
  icases H with ⟨⟨Hw, H6⟩, H5⟩
  isplitl [H5]
  · iexists f5
    isplitr
    · ipureintro; exact h5
    · iapply (Entails.of_eq (pointsTo_line c m5 f5).symm) $$ H5
  isplitl [H6]
  · iexists f6
    isplitr
    · ipureintro; exact h6
    · iapply (Entails.of_eq (pointsTo_table c m6 hB f6).symm) $$ H6
  iapply (pointsTo_split_subset (q := fullShare) hsub).2
  isplitl [Hw]
  · iapply (Entails.of_eq (pointsTo_image c m3 hinj _).symm) $$ Hw
  · iexact Hr

/-! ## The issue -/

/-- The batch's scatter of the 128 words from number `u`. -/
theorem wp_issue [EC.LandsIn (upEmb : UEmb _ 𝕄)] (hinj : ∀ t t', V t → V t' → p t = p t' → t = t') {g5 : (⟨1, ![n]⟩ : Shape).Idx → Elt F .i32} {g6 : (⟨2, ![B, 128]⟩ : Shape).Idx → Elt F .i32}
    {f5 : Buf (Elt F) (m5.view.loc c)} {f6 : Buf (Elt F) (m6.view.loc c)} {fd : Buf (Elt F) (m3.view.loc c)}
    (h5 : ∀ x, m5.view.read (Elt F) f5 x = g5 x) (h6 : ∀ x, m6.view.read (Elt F) f6 x = g6 x)
    {sem : DmaSem sig} (ι : Ix) {u : ℕ} (hd : 128 * (u / 128) = u) (hr : u + 128 ≤ n)
    {off5 : Fin 1 → ℕ} (ho5 : off5 = ![u]) {hb5} {off6 : Fin 2 → ℕ} (ho6 : off6 = ![u / 128, 0]) {hb6 h0} {hsq : Shape.Squeezes ⟨2, ![1, 128]⟩ ⟨1, ![128]⟩}
    {hg : Shape.Gathers (⟨1, ![n3]⟩ : Shape) 0 ⟨1, ![128]⟩} {hn : (⟨1, ![128]⟩ : Shape).numel = (⟨1, ![128]⟩ : Shape).size hg.axis'}
    {hp : c.2.kind = .scVector} {he : (EltTy.i32).bits = 32} {hsp : Space.hbm = .hbm ∨ Space.hbm = .shared} {hst : Shape.StreamRows (⟨1, ![n3]⟩ : Shape) 0}
    {k : PUnit → Prog (TpuEff nD τ sig (Elt F) Λ c.2) α} {N : ℕ}
    (hN : ∀ i, (ScatterRows.cellView c m3 h0 hg.axis i).dmaCredit = N)
    (hw : ∀ t : Fin n, g5 (ix1 t) = (w t : Elt F .i32))
    (hpos : ∀ t : Fin n, g6 (entry hB t) = (BitVec.ofNat 32 (p t).val : Elt F .i32))
    (hn3 : n3 ≤ 2 ^ 32)
    (hDump : ∀ t (i : Fin ((⟨1, ![n3]⟩ : Shape).size hg.axis)), ¬ V t → i.val = (p t).val →
      Dump ⊢ writeUpdate c (ScatterRows.cellView c m3 h0 hg.axis i) (fun _ => (w t : Elt F .i32)) emp) :
    iprop(bigSep (pending (u)) (takes c m3 m5 m6 hB p V Dump f5 f6 fd)
        ∗ Batch EC c (.dma sem) ι N (leaves c m3 m5 m6 hB p V f5 f6 (after c m3 p V w fd)) (u) 0)
      ⊢ iprop((iprop(bigSep (pending (u + 128)) (takes c m3 m5 m6 hB p V Dump f5 f6 fd)
            ∗ Batch EC c (.dma sem) ι N (leaves c m3 m5 m6 hB p V f5 f6 (after c m3 p V w fd)) (u + 128) 0)
              -∗ wp frame (wpE defs 𝒱 c bd) Set.univ (k ⟨⟩) Q)
          -∗ wp frame (wpE defs 𝒱 c bd) Set.univ (enqueueIndirectScatter hp (m5.slice (Rect.unit (s := ⟨1, ![n]⟩) off5 ![128] hb5) (fun _ => rfl))
              (m3.slice (Rect.unit (s := ⟨1, ![n3]⟩) ![0] ![n3] h0) (fun _ => rfl)) hg
              ((m6.slice (Rect.unit (s := ⟨2, ![B, 128]⟩) off6 ![1, 128] hb6) (fun _ => rfl)).squeeze ⟨1, ![128]⟩ hsq) hn sem he hsp hst >>= k) Q) := by
  obtain ⟨r, rfl⟩ : ∃ r, 128 * r = u := ⟨_, hd⟩
  rw [Nat.mul_div_cancel_left r (by decide)] at ho6
  refine ScatterRows.wp_scatterRow EC 𝒱 c bd m3 m5 m6 le_rfl (le_of_eq hB) f5 f6 p w ι hr ho5 ho6 N hN
    (fun t => (h5 _).trans (hw t)) (fun t => (h6 _).trans (hpos t)) hn3
    (W := means c m3 p V Dump fd) (R := written c m3 p V (after c m3 p V w fd)) (q5 := fullShare) (q6 := fullShare) ?_ ?_
  · intro t i hi
    unfold means written cell3
    by_cases h : V t
    · rw [if_pos h, if_pos h]
      refine (pointsTo_writeUpdate c (v := ScatterRows.cellView c m3 h0 hg.axis i) (fd := fd) (w := fun _ => (w t : Elt F .i32))
        (S := {m3.view.emb (ix1 (p t))}) (le_of_eq (ScatterRows.cellView_set c m3 h0 hg.axis i (p t) hi))).trans (Entails.of_eq ?_)
      congr 1
      refine pointsTo_congr fun y hy => ?_
      rw [Finset.mem_singleton] at hy
      subst hy
      unfold after
      refine Eq.trans ?_ (View.write_emb_of_mem (v := m3.view) fd _ (Finset.mem_univ (ix1 (p t)))).symm
      rw [lineAfter_at c m3 hinj fd h]
      rw [← ScatterRows.cellView_emb c m3 h0 hg.axis i (p t) hi (ScatterRows.row0 hg.axis)]
      exact View.write_emb_of_mem (v := ScatterRows.cellView c m3 h0 hg.axis i) fd _ (Finset.mem_univ _)
    · rw [if_neg h, if_neg h]
      exact hDump t i h hi
  · intro t
    exact .rfl

/-! ## The wait -/

variable {Ix' : Type} [DecidableEq Ix']

local notation "𝕄'" => MT nD τ sig (Option Ix') (Elt F) Name U Lvl

/-- The thread's debts unchanged, its waits those it had and waits of its own. -/
def Debts (O : CellTallies nD τ sig (Option Ix')) (W₀ : Waits sig (Option Ix')) : sProp 𝕄' :=
  iprop(∃ W, ⌜∀ p ∈ W, p ∈ W₀ ∨ p.2 = none⌝ ∗ owes c O W)

theorem debts_insert {O : CellTallies nD τ sig (Option Ix')} {W₀ W : Waits sig (Option Ix')} (hW : ∀ p ∈ W, p ∈ W₀ ∨ p.2 = none) (sm : SemLoc sig) :
    (owes c O (insert (sm, none) W) : sProp 𝕄') ⊢ Debts c O W₀ := by
  unfold Debts
  iintro H
  iexists _
  isplitr
  rotate_left
  · iexact H
  ipureintro
  intro p hp
  rcases Finset.mem_insert.mp hp with rfl | hp
  · exact .inr rfl
  · exact hW p hp

variable {Qw : α → sProp (MT nD τ sig (Option Ix') (Elt F) Name U Lvl)}

/-- One wait of a batch whose transfers are all issued. -/
theorem wp_wait (EC : UEmb Counters 𝕄') [EC.LandsIn (upEmb : UEmb _ 𝕄')] {sem : DmaSem sig} {s' : Shape} {src : Memref sig c.2.kind .vmem ⟨1, ![128]⟩ .i32} {sp' : Space} {dst : Memref sig c.2.kind sp' s' .i32}
    {hsrc : src.view.WordExact} {hdst : dst.view.WordExact} {D : Fin n → sProp 𝕄'} {N : ℕ} (hJ : src.view.dmaCredit = 128 * N)
    {k : PUnit → Prog (TpuEff nD τ sig (Elt F) Λ c.2) α} {u : ℕ} (hu : u + 128 * N ≤ N * n) {O : CellTallies nD τ sig (Option Ix')} {W₀ : Waits sig (Option Ix')} :
    iprop(Batch EC c (.dma sem) none N D n u ∗ Debts c O W₀ ∗ Transfers.MayWaits c none O)
      ⊢ iprop((iprop(Batch EC c (.dma sem) none N D n (u + 128 * N) ∗ Debts c O W₀) -∗ wp frame (wpE defs 𝒱 c bd) Set.univ (k ⟨⟩) Qw)
        -∗ wp frame (wpE defs 𝒱 c bd) Set.univ (waitIndirectScatter sem src dst hsrc hdst >>= k) Qw) := by
  rw [waitIndirectScatter_bind]
  unfold Debts
  iintro ⟨HB, ⟨%W, %hW, HO⟩, #Hmw⟩ Hk
  iapply (Transfers.wp_waitBatchMulO EC 𝒱 c bd none 128 hJ hu) $$ [HB HO]
  · isplitl [HB]; · iexact HB
    isplitl [HO]; · iexact HO
    iapply (Transfers.MayWaits.elim (SemLoc.dma sem)) $$ Hmw
  iintro ⟨HB, HO⟩
  iapply Hk
  isplitl [HB]; · iexact HB
  iapply (show (owes c O (insert (.dma sem, none) W) : sProp 𝕄') ⊢ iprop(∃ W, ⌜∀ p ∈ W, p ∈ W₀ ∨ p.2 = none⌝ ∗ owes c O W) from debts_insert c hW (.dma sem)) $$ HO

end Cert.Phase

end
-- ==== Proof.Tile.lean ====
/-
  A tile of the partition: its batches of 3200 keys, and its counts written out.
-/
module

public import proofs.«01_k».proof.Defs
public import proofs.«01_k».proof.Proof.VecLoop
public import proofs.«01_k».proof.Proof.Phase
public import Idealize.ShloMosaic.Lib.SparseCore.Quiescent
public import proofs.«01_k».proof.Proof.Gen.KernelIdeal
public import proofs.«01_k».proof.Proof.Gen.KernelIdeal.Skeleton

@[expose] public section

noncomputable section

namespace Cert.Tile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending batch_alloc' batch_collect' pending_zero)
open Cert.Has (has)
open Cert.Phase (Debts)
open Cert.Partition

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid0.Coords)

/-- The tile's thread. -/
abbrev thr : Thread nD τ := V d ((i 0).castLE hcore0) ((i 1).castLE hsub0)

/-- The tile's number. -/
abbrev wid : ℕ := 2 * (i 1).val + (i 0).val

theorem wid_lt : wid i < 32 := by
  have h0 : (i 0).val < 2 := (i 0).isLt
  have h1 : (i 1).val < 16 := (i 1).isLt
  unfold wid; omega

/-- Where the tile's part begins. -/
abbrev base : ℕ := wid i * 8294400

variable (arg2 : Memref sig .scVector .hbm S8294400 .i32) (harg2 : arg2.IsWhole) (arg3 : Memref sig .scVector .hbm S265420800 .i32) (harg3 : arg3.IsWhole)
  (arg4 : Memref sig .scVector .hbm S32x32 .i32) (harg4 : arg4.IsWhole) (arg5 : Memref sig .scVector .vmem S3200 .i32) (harg5 : arg5.IsWhole)
  (arg6 : Memref sig .scVector .vmem S25x128 .i32) (harg6 : arg6.IsWhole) (arg7 : Memref sig .scVector .vmem S32 .i32) (harg7 : arg7.IsWhole)
  (arg8 v236_r0 v8_r1 : DmaSems sig S_)

/-- The tile's keys among all. -/
def keyOf (fk : Buf (Elt F) (arg2.view.loc (thr d i))) (n : ℕ) : BitVec 32 :=
  if h : 259200 * wid i + n < 8294400 then arg2.view.read (Elt F) fk (ix1 ⟨259200 * wid i + n, h⟩) else 0#32

/-- The state between batches: the keys, the tile's part holding the keys already placed, the counts of the first
    `3200 · n` keys, and everything idle. -/
def BInv (Rk : Finset (Idx (arg2.view.loc (thr d i)))) (Rg : Finset (Idx (arg3.view.loc (thr d i)))) (q : PosShare TreeShare) (fk : Buf (Elt F) (arg2.view.loc (thr d i)))
    (O : CellTallies nD τ sig (Option Ix)) (W₀ : Waits sig (Option Ix)) (n : ℕ) : sProp 𝕄 :=
  iprop((arg2.view.loc (thr d i) ↦[Rk]{q} fk)
    ∗ (∃ g, has (thr d i) arg5 g) ∗ (∃ g, has (thr d i) arg6 g)
    ∗ (∃ ct, has (thr d i) arg7 ct ∗ ⌜∀ b : Fin 32, ct (ix1 b) = (BitVec.ofNat 32 (cnt (keyOf d i arg2 fk) b.val (3200 * n)) : Elt F .i32)⌝)
    ∗ (∃ g, (arg3.view.loc (thr d i) ↦[Rg]{fullShare} g)
        ∗ ⌜∀ t < 3200 * n, ∀ p : Fin 265420800, p.val = pos (base i) (keyOf d i arg2 fk) t → arg3.view.read (Elt F) g (ix1 p) = (keyOf d i arg2 fk t : Elt F .i32)⌝)
    ∗ semVal (thr d i, .dma arg8.sem) 0 ∗ semVal (thr d i, .dma v236_r0.sem) 0
    ∗ Debts (thr d i) O W₀ ∗ Transfers.MayWaits (thr d i) none O)

variable {arg2 arg3 arg4 arg5 arg6 arg7 arg8 v236_r0 v8_r1}

/-- Sixteen bins below 32 are indices of the counts. -/
theorem inb_of_lt (v : IVec S16 32) (h : ∀ x, (v x).toNat < 32) (a : Fin 1) (x : S16.Idx) : ((![v] : Fin 1 → IVec S16 32) a x).toNat < S32.size a := by
  have ha : a = 0 := Subsingleton.elim _ _
  subst ha
  exact h x

/-- The batch's keys, as the copy addresses them. -/
theorem keys_slice {Rk : Finset (Idx (arg2.view.loc (thr d i)))}
    (hRk : ∀ n (h : n < 8294400), 259200 * wid i ≤ n → n < 259200 * wid i + 259200 → arg2.view.emb (ix1 ⟨n, h⟩) ∈ Rk)
    (fk : Buf (Elt F) (arg2.view.loc (thr d i))) (t : Fin k0_t1_loop.trips) :
    (arg2.slice (Rect.unit (s := S8294400) (k0_off1 i t) S3200.size (k0_off1_inb i t)) (fun _ => rfl)).view.set ⊆ Rk
      ∧ ∀ x, (arg2.slice (Rect.unit (s := S8294400) (k0_off1 i t) S3200.size (k0_off1_inb i t)) (fun _ => rfl)).view.read (Elt F) fk x
          = keyOf d i arg2 fk (3200 * t.val + (x 0).val) := by
  have ht : t.val < 81 := t.isLt
  have hw := wid_lt i
  have he : ∀ x : S3200.Idx, ∃ h : 259200 * wid i + (3200 * t.val + (x 0).val) < 8294400,
      (Rect.unit (s := S8294400) (k0_off1 i t) S3200.size (k0_off1_inb i t)).emb x = (ix1 ⟨259200 * wid i + (3200 * t.val + (x 0).val), h⟩ : S8294400.Idx) := by
    intro x
    have hx : (x 0).val < 3200 := (x 0).isLt
    refine ⟨by omega, ?_⟩
    funext a
    have ha : a = 0 := Subsingleton.elim (α := Fin 1) _ _
    subst ha
    refine Fin.ext ?_
    change k0_off1 i t 0 + 1 * (x 0).val = 259200 * (2 * (i 1).val + (i 0).val) + (3200 * t.val + (x 0).val)
    rw [k0_off1_eq]
    change 518400 * (i 1).val + 259200 * (i 0).val + 3200 * t.val + 1 * (x 0).val = _
    omega
  constructor
  · intro y hy
    obtain ⟨x, -, rfl⟩ := Finset.mem_map.mp hy
    obtain ⟨h, hx⟩ := he x
    have hx0 : (x 0).val < 3200 := (x 0).isLt
    change arg2.view.emb _ ∈ Rk
    rw [hx]
    exact hRk _ h (by omega) (by omega)
  · intro x
    obtain ⟨h, hx⟩ := he x
    unfold keyOf
    rw [dif_pos h]
    change arg2.view.read (Elt F) fk _ = _
    rw [hx]

set_option maxHeartbeats 4000000 in
/-- Where the batch's keys go. -/
def place (arg2 : Memref sig .scVector .hbm S8294400 .i32) (fk : Buf (Elt F) (arg2.view.loc (thr d i))) (t : Fin k0_t1_loop.trips) (j : Fin 3200) : Fin 265420800 :=
  ⟨pos (base i) (keyOf d i arg2 fk) (3200 * t.val + j.val), by
    have ht : t.val < 81 := t.isLt
    have := pos_lt (base i) (keyOf d i arg2 fk) (i := 3200 * t.val + j.val) (by have := j.isLt; omega)
    have hw := wid_lt i
    unfold base at this ⊢
    omega⟩

theorem place_inj (fk : Buf (Elt F) (arg2.view.loc (thr d i))) (t : Fin k0_t1_loop.trips) (j j' : Fin 3200) (_ : True) (_ : True)
    (h : place d i arg2 fk t j = place d i arg2 fk t j') : j = j' := by
  have ht : t.val < 81 := t.isLt
  have := pos_injOn (base i) (keyOf d i arg2 fk) (by have := j.isLt; omega) (by have := j'.isLt; omega) (congrArg Fin.val h)
  exact Fin.ext (by omega)

theorem place_mem {Rg : Finset (Idx (arg3.view.loc (thr d i)))} (hRg : ∀ n (h : n < 265420800), base i ≤ n → n < base i + 8294400 → arg3.view.emb (ix1 ⟨n, h⟩) ∈ Rg)
    (fk : Buf (Elt F) (arg2.view.loc (thr d i))) (t : Fin k0_t1_loop.trips) (j : Fin 3200) (_ : True) : arg3.view.emb (ix1 (place d i arg2 fk t j)) ∈ Rg := by
  have ht : t.val < 81 := t.isLt
  exact hRg _ _ (le_pos _ _ _) (pos_lt _ _ (by have := j.isLt; omega))

theorem place_entry (fk : Buf (Elt F) (arg2.view.loc (thr d i))) (t : Fin k0_t1_loop.trips) {st : S25x128.Idx → Elt F .i32}
    (hst : ∀ x, 128 * (x 0).val + (x 1).val < 3200 → st x = (BitVec.ofNat 32 (pos (base i) (keyOf d i arg2 fk) (3200 * t.val + (128 * (x 0).val + (x 1).val))) : Elt F .i32))
    (j : Fin 3200) : st (Phase.entry (n := 3200) (B := 25) rfl j) = (BitVec.ofNat 32 (place d i arg2 fk t j).val : Elt F .i32) := by
  have h : 128 * (j.val / 128) + j.val % 128 = j.val := Nat.div_add_mod _ _
  refine (hst (Phase.entry (n := 3200) (B := 25) rfl j) (lt_of_eq_of_lt h j.isLt)).trans ?_
  change BitVec.ofNat 32 (pos _ _ (3200 * t.val + (128 * (j.val / 128) + j.val % 128))) = BitVec.ofNat 32 (pos _ _ (3200 * t.val + j.val))
  rw [h]

/-- After a batch the keys placed are the batch's and those placed before. -/
theorem placed (fk : Buf (Elt F) (arg2.view.loc (thr d i))) (t : Fin k0_t1_loop.trips) {g : Buf (Elt F) (arg3.view.loc (thr d i))}
    (hg : ∀ n < 3200 * t.val, ∀ p : Fin 265420800, p.val = pos (base i) (keyOf d i arg2 fk) n → arg3.view.read (Elt F) g (ix1 p) = (keyOf d i arg2 fk n : Elt F .i32))
    (n : ℕ) (hn : n < 3200 * (t.val + 1)) (p : Fin 265420800) (hp : p.val = pos (base i) (keyOf d i arg2 fk) n) :
    Phase.lineAfter (thr d i) arg3 (place d i arg2 fk t) (fun _ => True) (fun j => keyOf d i arg2 fk (3200 * t.val + j.val)) g (ix1 p) = (keyOf d i arg2 fk n : Elt F .i32) := by
  have ht : t.val < 81 := t.isLt
  by_cases hlt : n < 3200 * t.val
  · rw [Phase.lineAfter_off]
    · exact hg n hlt p hp
    · intro j _ hj
      have := pos_injOn (base i) (keyOf d i arg2 fk) (i := n) (j := 3200 * t.val + j.val) (by omega) (by have := j.isLt; omega)
        (hp.symm.trans (congrArg Fin.val (Phase.ix1_inj hj)))
      omega
  · have hj : n - 3200 * t.val < 3200 := by omega
    have hpj : p = place d i arg2 fk t ⟨n - 3200 * t.val, hj⟩ := by
      refine Fin.ext (hp.trans ?_)
      change _ = pos _ _ (3200 * t.val + (n - 3200 * t.val))
      congr 1; omega
    rw [hpj, Phase.lineAfter_at (thr d i) arg3 (place_inj d i fk t) g trivial]
    change keyOf d i arg2 fk (3200 * t.val + (n - 3200 * t.val)) = _
    congr 1; omega

include EC in
/-- One batch. -/
theorem wp_batch {Rk : Finset (Idx (arg2.view.loc (thr d i)))} {Rg : Finset (Idx (arg3.view.loc (thr d i)))} {q : PosShare TreeShare} {fk : Buf (Elt F) (arg2.view.loc (thr d i))}
    {O : CellTallies nD τ sig (Option Ix)} {W₀ : Waits sig (Option Ix)} {v1 v2 : BitVec 32} (hv2 : v2 = BitVec.ofNat 32 (base i))
    (hRk : ∀ n (h : n < 8294400), 259200 * wid i ≤ n → n < 259200 * wid i + 259200 → arg2.view.emb (ix1 ⟨n, h⟩) ∈ Rk)
    (hRg : ∀ n (h : n < 265420800), base i ≤ n → n < base i + 8294400 → arg3.view.emb (ix1 ⟨n, h⟩) ∈ Rg)
    (hcr3 : ∀ h0 ax p, (ScatterRows.cellView (thr d i) arg3 h0 ax p).dmaCredit = 32)
    (hcr5 : ∀ off h h', (arg5.slice (Rect.unit (s := S3200) off ![128] h) h').view.dmaCredit = 128 * 32)
    (t : Fin k0_t1_loop.trips) :
    (BInv d i arg2 arg3 arg5 arg6 arg7 arg8 v236_r0 Rk Rg q fk O W₀ t.val : sProp 𝕄)
      ⊢ wp frame (wpE (defs₀ (F := F)) Variants.none (thr d i) none) Set.univ
          (k0_t1_body i arg2 harg2 arg3 harg3 arg4 harg4 arg5 harg5 arg6 harg6 arg7 harg7 arg8 v236_r0 v8_r1 v1 v2 t ⟨⟩)
          (fun _ => BInv d i arg2 arg3 arg5 arg6 arg7 arg8 v236_r0 Rk Rg q fk O W₀ (t.val + 1)) := by
  unfold k0_t1_body
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [Prog.bind_assoc, Prog.bind_lift, Prog.pure_eq_ret, Prog.bind_ret, Prog.bind_op]
  have ht81 : t.val < 81 := t.isLt
  have hw32 := wid_lt i
  unfold BInv
  iintro ⟨Hk, ⟨%g5, H5⟩, ⟨%g6, H6⟩, ⟨%ct, H7, %hct⟩, ⟨%g3, H3, %hg3⟩, Hs, Hr, HO, #Hmw⟩
  -- the batch's keys arrive
  obtain ⟨hsub, hread⟩ := keys_slice d i hRk fk t
  ihave Hk' := (pointsTo_split_subset (q := q) (f := fk) hsub).1 $$ Hk
  icases Hk' with ⟨Hks, Hkr⟩
  iapply (Has.wp_copyIn Variants.none (thr d i) none EC none _ rfl (View.dmaCredit_pos _ (by decide))) $$ [Hks H5 Hr]
  · isplitl [Hks]; · iexact Hks
    isplitl [H5] <;> iassumption
  iintro HF
  unfold Debts
  icases HO with ⟨%W, %hW, HO⟩
  iapply (Transfers.wp_waitLocalO EC Variants.none (thr d i) none none rfl) $$ [HF HO]
  · isplitl [HF]; · iexact HF
    isplitl [HO]; · iexact HO
    iapply (Transfers.MayWaits.elim (SemLoc.dma v236_r0.sem)) $$ Hmw
  iintro ⟨⟨H5, Hks⟩, Hr, HO⟩
  ihave Hk := (pointsTo_split_subset (q := q) (f := fk) hsub).2 $$ [Hks Hkr]
  · isplitl [Hks] <;> iassumption
  ihave H5 := (Has.has_congr (thr d i) hread) $$ H5
  ihave HV := (show iprop(has (thr d i) arg5 (fun x => (keyOf d i arg2 fk (3200 * t.val + (x 0).val) : Elt F .i32)) ∗ has (thr d i) arg6 g6 ∗ has (thr d i) arg7 ct)
      ⊢ (VInv (thr d i) arg5 arg6 arg7 (base i) (keyOf d i arg2 fk) (3200 * t.val) 0 : sProp 𝕄) from by
    unfold VInv
    iintro ⟨H5, H6, H7⟩
    isplitl [H5]; · iexact H5
    isplitl [H6]
    · iexists _; isplitl [H6]; · iexact H6
      ipureintro; exact fun x hx => absurd hx (Nat.not_lt_zero _)
    · iexists _; isplitl [H7]; · iexact H7
      ipureintro; exact hct) $$ [H5 H6 H7]
  · isplitl [H5]; · iexact H5
    isplitl [H6] <;> iassumption
  -- their places are computed
  iterate 25
    iapply (wp_row Variants.none (thr d i) none arg5 arg6 arg7 hv2 rfl rfl (by decide) (by decide) (fun _ => ClosedOff.eq) (fun _ => ClosedOff.eq)
      (fun v h => ⟨inb_of_lt v h, inb_of_lt v h⟩)) $$ HV
    iintro HV
  ihave HV' := (show VInv (thr d i) arg5 arg6 arg7 (base i) (keyOf d i arg2 fk) (3200 * t.val) 3200
      ⊢ (iprop(has (thr d i) arg5 (fun x => (keyOf d i arg2 fk (3200 * t.val + (x 0).val) : Elt F .i32))
        ∗ (∃ st, has (thr d i) arg6 st ∗ ⌜∀ x, 128 * (x 0).val + (x 1).val < 3200 → st x = (BitVec.ofNat 32 (pos (base i) (keyOf d i arg2 fk) (3200 * t.val + (128 * (x 0).val + (x 1).val))) : Elt F .i32)⌝)
        ∗ (∃ ct, has (thr d i) arg7 ct ∗ ⌜∀ b : Fin 32, ct (ix1 b) = (BitVec.ofNat 32 (cnt (keyOf d i arg2 fk) b.val (3200 * t.val + 3200)) : Elt F .i32)⌝)) : sProp 𝕄) from .rfl) $$ HV
  icases HV' with ⟨H5, ⟨%st, H6, %hst⟩, ⟨%ct', H7, %hct'⟩⟩
  -- the scatters are issued
  ihave Hop := (Phase.open_rows (thr d i) arg3 arg5 arg6 (n := 3200) (B := 25) rfl (p := place d i arg2 fk t) (V := fun _ => True) (Dump := iprop(emp))
      (place_inj d i fk t) (place_mem d i hRg fk t)) $$ [H5 H6 H3]
  · isplitr; · iempintro
    isplitl [H5]; · iexact H5
    isplitl [H6] <;> iassumption
  icases Hop with ⟨%f5, %f6, %hf, HT, H3⟩
  imod (batch_alloc' EC (thr d i) (sm := .dma arg8.sem) none 32
    (Phase.leaves (thr d i) arg3 arg5 arg6 (n := 3200) (B := 25) rfl (place d i arg2 fk t) (fun _ => True) f5 f6
      (Phase.after (thr d i) arg3 (place d i arg2 fk t) (fun _ => True) (fun j => keyOf d i arg2 fk (3200 * t.val + j.val)) g3)) (E := Set.univ)) $$ Hs with HB
  ihave HT := (Entails.of_eq (congrArg (fun s => bigSep s (Phase.takes (thr d i) arg3 arg5 arg6 (n := 3200) (B := 25) rfl (place d i arg2 fk t) (fun _ => True) iprop(emp) f5 f6 g3)) pending_zero.symm)) $$ HT
  iterate 25
    iapply (Phase.wp_issue EC Variants.none (thr d i) none arg3 arg5 arg6 rfl (place_inj d i fk t) hf.1 hf.2 none (by decide) (by decide) rfl rfl (hcr3 _ _)
      (fun _ => rfl) (fun j => place_entry d i fk t hst j) (by decide) (fun _ _ h _ => absurd trivial h)) $$ [HT HB]
    · isplitl [HT] <;> iassumption
    iintro ⟨HT, HB⟩
  -- and awaited
  ihave HO := (Phase.debts_insert (thr d i) hW (.dma v236_r0.sem)) $$ HO
  iterate 25
    iapply (Phase.wp_wait Variants.none (thr d i) none EC (hcr5 _ _ _) ?_) $$ [HB HO]
    pick_goal 2
    · isplitl [HB]; · iexact HB
      isplitl [HO]; · iexact HO
      iexact Hmw
    · decide
    iintro ⟨HB, HO⟩
  rw [wp_ret]
  imod (batch_collect' EC (thr d i) (sm := .dma arg8.sem) (N := 32) (by decide)) $$ HB with ⟨HD, Hs⟩
  ihave Hcl := (Phase.close_rows (thr d i) arg3 arg5 arg6 (n := 3200) (B := 25) rfl (p := place d i arg2 fk t) (V := fun _ => True)
    (place_inj d i fk t) (place_mem d i hRg fk t) hf.1 hf.2) $$ [HD H3]
  · isplitl [HD] <;> iassumption
  icases Hcl with ⟨H5, H6, H3⟩
  imodintro
  isplitl [Hk]; · iexact Hk
  isplitl [H5]; · iexists _; iexact H5
  isplitl [H6]; · iexists _; iexact H6
  isplitl [H7]
  · iexists _; isplitl [H7]; · iexact H7
    ipureintro; exact hct'
  isplitl [H3]
  · iexists _; isplitl [H3]; · iexact H3
    ipureintro
    intro n hn p hp
    refine (congrFun (Phase.read_after (thr d i) arg3 g3) (ix1 p)).trans ?_
    exact placed d i fk t hg3 n hn p hp
  isplitl [Hs]; · iexact Hs
  isplitl [Hr]; · iexact Hr
  isplitl [HO]
  · iapply (show Debts (thr d i) O W₀ ⊢ (iprop(∃ W, ⌜∀ p ∈ W, p ∈ W₀ ∨ p.2 = none⌝ ∗ owes (thr d i) O W) : sProp 𝕄) from .rfl) $$ HO
  iexact Hmw

end Cert.Tile

end
-- ==== Proof.TileBody.lean ====
/- A tile of the partition, whole: the counts cleared, the batches, the counts written to the tile's row. -/
module

public import proofs.«01_k».proof.Proof.Tile

@[expose] public section

noncomputable section

namespace Cert.Tile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.Transfers (Batch pending batch_alloc' batch_collect' pending_zero)
open Cert.Has (has)
open Cert.Phase (Debts)
open Cert.Partition

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid0.Coords)

variable {arg2 : Memref sig .scVector .hbm S8294400 .i32} (harg2 : arg2.IsWhole) {arg3 : Memref sig .scVector .hbm S265420800 .i32} (harg3 : arg3.IsWhole)
  {arg4 : Memref sig .scVector .hbm S32x32 .i32} (harg4 : arg4.IsWhole) {arg5 : Memref sig .scVector .vmem S3200 .i32} (harg5 : arg5.IsWhole)
  {arg6 : Memref sig .scVector .vmem S25x128 .i32} (harg6 : arg6.IsWhole) {arg7 : Memref sig .scVector .vmem S32 .i32} (harg7 : arg7.IsWhole)
  {arg8 v236_r0 v8_r1 : DmaSems sig S_}

theorem scale_eq (a b k : ℕ) : (BitVec.ofNat 32 b * BitVec.ofNat 32 2 + BitVec.ofNat 32 a) * BitVec.ofNat 32 k = BitVec.ofNat 32 ((2 * b + a) * k) := by
  rw [← BitVec.ofNat_mul, ← BitVec.ofNat_add, ← BitVec.ofNat_mul, Nat.mul_comm b 2]

theorem tile_base : Scalar.muli (Scalar.addi (Scalar.muli (BitVec.ofNat 32 (i 1).val) 2#32) (BitVec.ofNat 32 (i 0).val)) 8294400#32 = BitVec.ofNat 32 (base i) :=
  scale_eq (i 0).val (i 1).val 8294400

/-- The tile's row of the table of counts. -/
abbrev row (arg4 : Memref sig .scVector .hbm S32x32 .i32) : Memref sig .scVector .hbm S32 .i32 :=
  (arg4.slice (Rect.unit (s := S32x32) (k0_off52 i) S1x32.size (k0_off52_inb i)) (fun _ => rfl)).squeeze S32 squeezes_S1x32_S32

include EC in
/-- The tile: its keys placed, its counts written to its row. -/
theorem wp_tile {Rk : Finset (Idx (arg2.view.loc (thr d i)))} {Rg : Finset (Idx (arg3.view.loc (thr d i)))} {q : PosShare TreeShare} {fk : Buf (Elt F) (arg2.view.loc (thr d i))}
    {O : CellTallies nD τ sig (Option Ix)} {W₀ : Waits sig (Option Ix)}
    (hRk : ∀ n (h : n < 8294400), 259200 * wid i ≤ n → n < 259200 * wid i + 259200 → arg2.view.emb (ix1 ⟨n, h⟩) ∈ Rk)
    (hRg : ∀ n (h : n < 265420800), base i ≤ n → n < base i + 8294400 → arg3.view.emb (ix1 ⟨n, h⟩) ∈ Rg)
    (hcr3 : ∀ h0 ax p, (ScatterRows.cellView (thr d i) arg3 h0 ax p).dmaCredit = 32)
    (hcr5 : ∀ off h h', (arg5.slice (Rect.unit (s := S3200) off ![128] h) h').view.dmaCredit = 128 * 32) :
    (iprop((arg2.view.loc (thr d i) ↦[Rk]{q} fk)
        ∗ (∃ g, has (thr d i) arg5 g) ∗ (∃ g, has (thr d i) arg6 g) ∗ (∃ g, has (thr d i) arg7 g)
        ∗ (∃ g, arg3.view.loc (thr d i) ↦[Rg]{fullShare} g) ∗ (∃ g, has (thr d i) (row i arg4) g)
        ∗ semVal (thr d i, .dma arg8.sem) 0 ∗ semVal (thr d i, .dma v236_r0.sem) 0 ∗ semVal (thr d i, .dma v8_r1.sem) 0
        ∗ Debts (thr d i) O W₀ ∗ Transfers.MayWaits (thr d i) none O) : sProp 𝕄)
      ⊢ wp frame (wpE (defs₀ (F := F)) Variants.none (thr d i) none) Set.univ
          (cc0__partition_body i arg2 harg2 arg3 harg3 arg4 harg4 arg5 harg5 arg6 harg6 arg7 harg7 arg8 v236_r0 v8_r1)
          (fun _ => iprop((arg2.view.loc (thr d i) ↦[Rk]{q} fk)
            ∗ (∃ g, has (thr d i) arg5 g) ∗ (∃ g, has (thr d i) arg6 g) ∗ (∃ g, has (thr d i) arg7 g)
            ∗ (∃ g, (arg3.view.loc (thr d i) ↦[Rg]{fullShare} g)
              ∗ ⌜∀ t < 259200, ∀ p : Fin 265420800, p.val = pos (base i) (keyOf d i arg2 fk) t → arg3.view.read (Elt F) g (ix1 p) = (keyOf d i arg2 fk t : Elt F .i32)⌝)
            ∗ has (thr d i) (row i arg4) (fun x => (BitVec.ofNat 32 (cnt (keyOf d i arg2 fk) (x 0).val 259200) : Elt F .i32))
            ∗ semVal (thr d i, .dma arg8.sem) 0 ∗ semVal (thr d i, .dma v236_r0.sem) 0 ∗ semVal (thr d i, .dma v8_r1.sem) 0
            ∗ Debts (thr d i) O W₀)) := by
  simp only [cc0__partition_body_eq_skeleton]; unfold cc0__partition_body_skel
  simp only [Prog.bind_lift, Prog.pure_eq_ret]
  have hw := wid_lt i
  iintro ⟨Hk, H5, H6, ⟨%g7, H7⟩, ⟨%g3, H3⟩, ⟨%g4, H4⟩, Hs, Hr, Hv, HO, #Hmw⟩
  -- the counts are cleared
  iapply (Has.wp_load Variants.none (thr d i) none) $$ H7
  iintro H7
  iapply (Has.wp_store Variants.none (thr d i) none (fun x => if (x 0).val < 16 then (0#32 : Elt F .i32) else g7 x) ?_ ?_) $$ H7
  · intro x
    have hx : (x 0).val < 16 := (x 0).isLt
    refine (if_pos ?_).trans rfl
    change 0 + 1 * (x 0).val < 16
    omega
  · intro y hy
    refine if_neg fun hlt => hy ?_
    rw [LoadRect.mem_set]
    intro a
    have ha : a = 0 := Subsingleton.elim (α := Fin 1) _ _
    subst ha
    refine ⟨(y 0).val, hlt, ?_⟩
    change (y 0).val = 0 + 1 * (y 0).val
    omega
  iintro H7
  iapply (Has.wp_load Variants.none (thr d i) none) $$ H7
  iintro H7
  iapply (Has.wp_store Variants.none (thr d i) none (fun _ => (0#32 : Elt F .i32)) ?_ ?_) $$ H7
  · intro x; rfl
  · intro y hy
    refine (if_pos ?_).symm
    by_contra hlt
    refine hy ?_
    have hy32 : (y 0).val < 32 := (y 0).isLt
    rw [LoadRect.mem_set]
    intro a
    have ha : a = 0 := Subsingleton.elim (α := Fin 1) _ _
    subst ha
    refine ⟨(y 0).val - 16, ?_, ?_⟩
    · change (y 0).val - 16 < 16; omega
    · change (y 0).val = 16 + 1 * ((y 0).val - 16); omega
  iintro H7
  -- the batches
  ihave HB := (show iprop((arg2.view.loc (thr d i) ↦[Rk]{q} fk) ∗ (∃ g, has (thr d i) arg5 g) ∗ (∃ g, has (thr d i) arg6 g)
        ∗ has (thr d i) arg7 (fun _ => (0#32 : Elt F .i32)) ∗ (arg3.view.loc (thr d i) ↦[Rg]{fullShare} g3)
        ∗ semVal (thr d i, .dma arg8.sem) 0 ∗ semVal (thr d i, .dma v236_r0.sem) 0 ∗ Debts (thr d i) O W₀ ∗ Transfers.MayWaits (thr d i) none O)
      ⊢ (BInv d i arg2 arg3 arg5 arg6 arg7 arg8 v236_r0 Rk Rg q fk O W₀ 0 : sProp 𝕄) from by
    unfold BInv
    iintro ⟨Hk, H5, H6, H7, H3, Hs, Hr, HO, Hmw⟩
    isplitl [Hk]; · iexact Hk
    isplitl [H5]; · iexact H5
    isplitl [H6]; · iexact H6
    isplitl [H7]
    · iexists _; isplitl [H7]; · iexact H7
      ipureintro; intro b
      change _ = BitVec.ofNat 32 (Nat.count _ 0)
      rw [Nat.count_zero]
    isplitl [H3]
    · iexists _; isplitl [H3]; · iexact H3
      ipureintro; exact fun t ht => absurd ht (Nat.not_lt_zero _)
    isplitl [Hs]; · iexact Hs
    isplitl [Hr]; · iexact Hr
    isplitl [HO] <;> iassumption) $$ [Hk H5 H6 H7 H3 Hs Hr HO]
  · isplitl [Hk]; · iexact Hk
    isplitl [H5]; · iexact H5
    isplitl [H6]; · iexact H6
    isplitl [H7]; · iexact H7
    isplitl [H3]; · iexact H3
    isplitl [Hs]; · iexact Hs
    isplitl [Hr]; · iexact Hr
    isplitl [HO]; · iexact HO
    iexact Hmw
  iapply (Scf.wp_for_bind frame (wpE (defs₀ (F := F)) Variants.none (thr d i) none) Set.univ _ _ _ _ _ _
    (fun n _ => BInv d i arg2 arg3 arg5 arg6 arg7 arg8 v236_r0 Rk Rg q fk O W₀ n)
    (fun t _ => wp_batch EC d i harg2 harg3 harg4 harg5 harg6 harg7 (tile_base i) hRk hRg hcr3 hcr5 t)) $$ HB
  iintro %_ HB
  ihave HB := (Entails.of_eq (congrArg (BInv d i arg2 arg3 arg5 arg6 arg7 arg8 v236_r0 Rk Rg q fk O W₀) (show Scf.trips k0_t1_loop.lb k0_t1_loop.ub k0_t1_loop.st = 81 from by decide))) $$ HB
  ihave HB' := (show BInv d i arg2 arg3 arg5 arg6 arg7 arg8 v236_r0 Rk Rg q fk O W₀ 81
      ⊢ (iprop((arg2.view.loc (thr d i) ↦[Rk]{q} fk) ∗ (∃ g, has (thr d i) arg5 g) ∗ (∃ g, has (thr d i) arg6 g)
        ∗ (∃ ct, has (thr d i) arg7 ct ∗ ⌜∀ b : Fin 32, ct (ix1 b) = (BitVec.ofNat 32 (cnt (keyOf d i arg2 fk) b.val 259200) : Elt F .i32)⌝)
        ∗ (∃ g, (arg3.view.loc (thr d i) ↦[Rg]{fullShare} g)
          ∗ ⌜∀ t < 259200, ∀ p : Fin 265420800, p.val = pos (base i) (keyOf d i arg2 fk) t → arg3.view.read (Elt F) g (ix1 p) = (keyOf d i arg2 fk t : Elt F .i32)⌝)
        ∗ semVal (thr d i, .dma arg8.sem) 0 ∗ semVal (thr d i, .dma v236_r0.sem) 0
        ∗ Debts (thr d i) O W₀ ∗ Transfers.MayWaits (thr d i) none O) : sProp 𝕄) from .rfl) $$ HB
  icases HB' with ⟨Hk, H5, H6, ⟨%ct, H7, %hct⟩, H3, Hs, Hr, HO, _⟩
  -- the counts leave
  unfold has
  icases H7 with ⟨%f7, %hf7, H7⟩
  iapply (Has.wp_copyIn Variants.none (thr d i) none EC none _ rfl (View.dmaCredit_pos _ (by decide))) $$ [H7 H4 Hv]
  · isplitl [H7]; · iexact H7
    isplitl [H4]
    · unfold has; iexact H4
    · iexact Hv
  iintro HF
  unfold Debts
  icases HO with ⟨%W, %hW, HO⟩
  iapply (Transfers.wp_waitLocalO EC Variants.none (thr d i) none none rfl) $$ [HF HO]
  · isplitl [HF]; · iexact HF
    isplitl [HO]; · iexact HO
    iapply (Transfers.MayWaits.elim (SemLoc.dma v8_r1.sem)) $$ Hmw
  iintro ⟨⟨H4, H7⟩, Hv, HO⟩
  rw [wp_ret]
  imodintro
  isplitl [Hk]; · iexact Hk
  isplitl [H5]; · iexact H5
  isplitl [H6]; · iexact H6
  isplitl [H7]
  · iexists ct, f7
    isplitr
    · ipureintro; exact hf7
    · iexact H7
  isplitl [H3]; · iexact H3
  isplitl [H4]
  · ihave H4 := (Has.has_congr (thr d i) (g' := fun x => (BitVec.ofNat 32 (cnt (keyOf d i arg2 fk) (x 0).val 259200) : Elt F .i32)) (fun x => by
      rw [hf7, eq_ix1 x]; exact hct (x 0))) $$ H4
    unfold has
    iexact H4
  isplitl [Hs]; · iexact Hs
  isplitl [Hr]; · iexact Hr
  isplitl [Hv]; · iexact Hv
  ihave HO := (Phase.debts_insert (thr d i) hW (.dma v8_r1.sem)) $$ HO
  unfold Debts
  iexact HO

end Cert.Tile

end
-- ==== Proof.Regions.lean ====
/- An array cut into numbered regions, one per tile: the array whole is its regions at once. -/
module

public import Idealize.ShloMosaic.Lib.SparseCore.Quiescent

@[expose] public section

noncomputable section

namespace Cert.Regions

open Idealize.ShloMosaic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Ix : Type} [DecidableEq Ix] {Val : EltTy → Type} {Name : Type} [DecidableEq Name]
variable {U : Type} [URA U] {Lvl : Type} [Preorder Lvl]

local notation "𝕄" => MT nD τ sig Ix Val Name U Lvl

/-- The indices of class `w`. -/
def region {ℓ : Loc nD τ sig} (cl : Idx ℓ → ℕ) (w : ℕ) : Finset (Idx ℓ) := Finset.univ.filter fun x => cl x = w

theorem mem_region {ℓ : Loc nD τ sig} {cl : Idx ℓ → ℕ} {w : ℕ} {x : Idx ℓ} : x ∈ region cl w ↔ cl x = w :=
  ⟨fun h => (Finset.mem_filter.mp h).2, fun h => Finset.mem_filter.mpr ⟨Finset.mem_univ x, h⟩⟩

theorem region_disjoint {ℓ : Loc nD τ sig} (cl : Idx ℓ → ℕ) {n : ℕ} (w w' : Fin n) (h : w ≠ w') : Disjoint (region cl w.val) (region cl w'.val) :=
  Finset.disjoint_left.mpr fun _ hx hx' => h (Fin.ext ((mem_region.mp hx).symm.trans (mem_region.mp hx')))

theorem region_cover {ℓ : Loc nD τ sig} (cl : Idx ℓ → ℕ) {n : ℕ} (hcl : ∀ x, cl x < n) :
    (Finset.univ : Finset (Fin n)).biUnion (fun w => region cl w.val) = Finset.univ :=
  Finset.eq_univ_of_forall fun x => Finset.mem_biUnion.mpr ⟨⟨cl x, hcl x⟩, Finset.mem_univ _, mem_region.mpr rfl⟩

/-- The array whole is its regions. -/
theorem split {ℓ : Loc nD τ sig} (cl : Idx ℓ → ℕ) {n : ℕ} (hcl : ∀ x, cl x < n) (q : PosShare TreeShare) (f : Buf Val ℓ) :
    (ℓ ↦{q} f : sProp 𝕄) = bigSep Finset.univ fun w : Fin n => ℓ ↦[region cl w.val]{q} f := by
  rw [← pointsTo_biUnion Finset.univ (ℓ := ℓ) (fun w : Fin n => region cl w.val) (fun w _ w' _ h => region_disjoint cl w w' h), region_cover cl hcl]

/-- Regions each holding what `R` says are the array, of which `R` says it everywhere. -/
theorem join {ℓ : Loc nD τ sig} (cl : Idx ℓ → ℕ) {n : ℕ} (hn : 0 < n) (hcl : ∀ x, cl x < n) (R : ℕ → Buf Val ℓ → Prop)
    (hR : ∀ w f g, (∀ x ∈ region cl w, g x = f x) → R w f → R w g) :
    (bigSep Finset.univ fun w : Fin n => iprop(∃ f, (ℓ ↦[region cl w.val]{fullShare} f) ∗ ⌜R w.val f⌝))
      ⊢ (iprop(∃ f, (ℓ ↦{fullShare} f) ∗ ⌜∀ w : Fin n, R w.val f⌝) : sProp 𝕄) := by
  have h0 : ∀ w : Fin n, iprop(∃ f, (ℓ ↦[region cl w.val]{fullShare} f) ∗ ⌜R w.val f⌝)
      ⊢ (iprop(∃ f : {f : Buf Val ℓ // R w.val f}, ℓ ↦[region cl w.val]{fullShare} f.1) : sProp 𝕄) := fun w => by
    iintro ⟨%f, H, %hf⟩
    iexists ⟨f, hf⟩; iexact H
  by_cases hne : ∀ w : Fin n, ∃ f, R w.val f
  swap
  · obtain ⟨w, hw⟩ := not_forall.mp hne
    refine (bigSep_elim (Φ := fun w : Fin n => iprop(∃ f, (ℓ ↦[region cl w.val]{fullShare} f) ∗ ⌜R w.val f⌝)) (Finset.mem_univ w)).trans ?_
    show iprop(∃ f, (ℓ ↦[region cl w.val]{fullShare} f) ∗ ⌜R w.val f⌝) ⊢ _
    iintro ⟨%f, -, %hf⟩
    exact absurd ⟨f, hf⟩ hw
  have : ∀ w : Fin n, Nonempty {f : Buf Val ℓ // R w.val f} := fun w => (hne w).elim fun f hf => ⟨⟨f, hf⟩⟩
  refine (bigSep_mono fun w _ => h0 w).trans ?_
  refine (bigSep_exists_pi Finset.univ (fun (w : Fin n) (f : {f : Buf Val ℓ // R w.val f}) => (ℓ ↦[region cl w.val]{fullShare} f.1 : sProp 𝕄))).trans ?_
  iintro ⟨%fs, H⟩
  ihave H' := (pointsTo_biUnion_join (ℓ := ℓ) (q := fullShare) (Val := Val) Finset.univ (fun w : Fin n => region cl w.val) (fun w => (fs w).1) ((fs ⟨0, hn⟩).1)
    (fun w _ w' _ h => region_disjoint cl w w' h)) $$ H
  icases H' with ⟨%g, %hg, Hg⟩
  rw [region_cover cl hcl]
  iexists g
  isplitl [Hg]; · iexact Hg
  ipureintro
  exact fun w => hR w.val (fs w).1 g (hg w (Finset.mem_univ w)) (fs w).2

/-- The tiles in the order of their numbers: number `2 · s + c` is tile `s` of SparseCore `c`. -/
def tiles : Fin 2 × Fin 16 ≃ Fin 32 where
  toFun p := ⟨2 * p.2.val + p.1.val, by omega⟩
  invFun w := (⟨w.val % 2, by omega⟩, ⟨w.val / 2, by omega⟩)
  left_inv p := by
    refine Prod.ext (Fin.ext ?_) (Fin.ext ?_)
    · change (2 * p.2.val + p.1.val) % 2 = p.1.val; omega
    · change (2 * p.2.val + p.1.val) / 2 = p.2.val; omega
  right_inv w := Fin.ext (by change 2 * (w.val / 2) + w.val % 2 = w.val; omega)

theorem bigSep_tiles (Φ : ℕ → sProp 𝕄) :
    (bigSep Finset.univ fun c : Fin 2 => bigSep Finset.univ fun s : Fin 16 => Φ (2 * s.val + c.val)) = bigSep Finset.univ fun w : Fin 32 => Φ w.val := by
  rw [bigSep_univ_equiv tiles (fun w : Fin 32 => Φ w.val)]
  exact (bigSep_univ_prod (fun p : Fin 2 × Fin 16 => Φ (2 * p.2.val + p.1.val))).symm

end Cert.Regions

end
-- ==== Proof.CountVec.lean ====
/-
  The counting tile's vector steps: sixteen consecutive words are loaded and a table is brought up to date with them.

  Each step is written once, over the words' cells, the masked lanes and the memory references, and its rule says what
  it does to the tables as functions of natural numbers; the loops of the printed body are instances of them.
-/
module

public import proofs.«01_k».proof.Proof.VecLoop

@[expose] public section

noncomputable section

namespace Cert.Count

open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}
variable {defs : Defs nD τ sig (Elt F) Λ} (𝒱 : Variants) (c : Thread nD τ) (bd : Option 𝒱.V)

local notation "𝕄" => MT nD τ sig Ix (Elt F) Name U Lvl

variable {nb mt : ℕ} (ms : Memref sig c.2.kind .vmem ⟨1, ![nb]⟩ .i32) (mtab : Memref sig c.2.kind .vmem ⟨1, ![mt]⟩ .i32)

/-- Sixteen indices inside a table of `m` cells. -/
abbrev InB (m : ℕ) (v : IVec L16 32) : Prop := ∀ (a : Fin 1) x, ((![v] : Fin 1 → IVec L16 32) a x).toNat < (⟨1, ![m]⟩ : Shape).size a

/-- A buffer of words: cell `j` holds `val j`. -/
def Words (val : ℕ → BitVec 32) : sProp 𝕄 := has c ms (fun x => (val (x 0).val : Elt F .i32))

/-- A table of numbers: cell `b` holds `f b`. -/
def Tab (f : ℕ → ℕ) : sProp 𝕄 :=
  iprop(∃ ct, has c mtab ct ∗ ⌜∀ b : Fin mt, ct (ix1 b) = (BitVec.ofNat 32 (f b.val) : Elt F .i32)⌝)

omit [FloatOps F] [Preorder Lvl] in
theorem tab_congr {f g : ℕ → ℕ} (h : ∀ b < mt, f b = g b) : (Tab c mtab f : sProp 𝕄) ⊢ Tab c mtab g := by
  unfold Tab
  iintro ⟨%ct, H, %hct⟩
  iexists ct
  isplitl [H]; · iexact H
  ipureintro
  intro b
  rw [hct b, h b.val b.isLt]

/-- What a load of sixteen words reads. -/
theorem load_lane {o : ℕ} (val : ℕ → BitVec 32) (h : ∀ a, (![o] : Fin 1 → ℕ) a + (![16] : Fin 1 → ℕ) a ≤ (⟨1, ![nb]⟩ : Shape).size a) (l : Fin 16) :
    (fun x => val (((Rect.unit (s := ⟨1, ![nb]⟩) ![o] ![16] h).emb x) 0).val) (ix1 l) = val (o + l.val) := by
  change val (o + 1 * l.val) = _
  congr 1; omega

/-! ## Counting -/

/-- The region of one trip of a counting loop. -/
def cntBody (off : Fin 1 → ℕ) (h : ∀ a, off a + (![16] : Fin 1 → ℕ) a ≤ (⟨1, ![nb]⟩ : Shape).size a)
    (hl : ms.view.LoadsAt (Rect.unit (s := ⟨1, ![nb]⟩) off ![16] h).toLoadRect)
    (hl7 : mtab.view.Loads) (hs7 : (mtab.access (.whole ⟨1, ![mt]⟩)).Stores Finset.univ)
    (vec : IVec L16 32 → IVec L16 32) (mask : IVec L16 1) (chk : IVec L16 32 → Prop) (dec : ∀ v, Decidable (chk v))
    (i1 i2 : ∀ v, chk v → InB mt v) : Prog (TpuEff nD τ sig (Elt F) Λ c.2) Unit := do
  let w : Vec F L16 .i32 ← Prog.lift (.load ms (Rect.unit (s := ⟨1, ![nb]⟩) off ![16] h).toLoadRect hl)
  have v : IVec L16 32 := vec w
  have hw : chk v := (← Prog.lift (TpuEff.assume (chk v) (dec v))).down
  let old : Vec F L16 .i32 ← vectorLoadIdx mtab ![v] (i1 v hw) hl7
  vectorStoreIdx mtab ![v] (addi old (scanCount mask v).2) (scanCount mask v).1 false (i2 v hw) hs7
  pure ⟨⟩

variable {P : ℕ → ℕ → Prop} [∀ b, DecidablePred (P b)]

theorem wp_cntBody {val : ℕ → BitVec 32} {co : ℕ → ℕ} {n o : ℕ} {off : Fin 1 → ℕ} (ho : off = ![o]) {h hl hl7 hs7}
    {vec : IVec L16 32 → IVec L16 32} {mask : IVec L16 1} {chk : IVec L16 32 → Prop} {dec : ∀ v, Decidable (chk v)} {i1 i2}
    (hL : ∀ w : IVec L16 32, (∀ l : Fin 16, w (ix1 l) = val (o + l.val)) → Lanes P n (vec w) mask ∧ chk (vec w)) :
    iprop(Words c ms val ∗ Tab c mtab (fun b => co b + Nat.count (P b) n))
      ⊢ wp frame (wpE defs 𝒱 c bd) Set.univ
          (cntBody (F := F) c ms mtab off h hl hl7 hs7 vec mask chk dec i1 i2)
          (fun _ => (iprop(Words c ms val ∗ Tab c mtab (fun b => co b + Nat.count (P b) (n + 16))) : sProp 𝕄)) := by
  subst ho
  unfold Words Tab cntBody
  simp only [Prog.bind_lift]
  iintro ⟨H5, ⟨%ct, H7, %hct⟩⟩
  iapply (Has.wp_load 𝒱 c bd) $$ H5
  iintro H5
  have hw := load_lane val h
  generalize (fun x => val (((Rect.unit (s := ⟨1, ![nb]⟩) ![o] ![16] h).emb x) 0).val) = w at hw ⊢
  obtain ⟨hLn, hc'⟩ := hL w hw
  iapply (wp_assume (Val := Elt F) (defs := defs) 𝒱 c bd Set.univ hc')
  iapply (Has.wp_loadIdx 𝒱 c bd) $$ H7
  iintro H7
  iapply (Has.wp_storeIdx 𝒱 c bd) $$ H7
  iintro H7
  simp only [Prog.pure_eq_ret, wp_ret]
  imodintro
  isplitl [H5]
  · iexact H5
  iexists _
  isplitl [H7]
  · iexact H7
  ipureintro
  intro b
  exact Hist.step ct co (i1 _ hc') (i2 _ hc') hLn hct b

/-- A counting loop. -/
theorem wp_cntLoop {val : ℕ → BitVec 32} {co : ℕ → ℕ} {n₀ : ℕ} {L : Scf.Loop 32} {ok : L.OK}
    {body : Fin L.trips → Unit → Prog (TpuEff nD τ sig (Elt F) Λ c.2) Unit}
    {off : Fin L.trips → Fin 1 → ℕ} {h : ∀ t, ∀ a, off t a + (![16] : Fin 1 → ℕ) a ≤ (⟨1, ![nb]⟩ : Shape).size a}
    {hl : ∀ t, ms.view.LoadsAt (Rect.unit (s := ⟨1, ![nb]⟩) (off t) ![16] (h t)).toLoadRect} {hl7 hs7}
    {vec : Fin L.trips → IVec L16 32 → IVec L16 32} {mask : Fin L.trips → IVec L16 1}
    {chk : IVec L16 32 → Prop} {dec : ∀ v, Decidable (chk v)} {i1 i2}
    (hbody : body = fun t _ => cntBody (F := F) c ms mtab (off t) (h t) (hl t) hl7 hs7 (vec t) (mask t) chk dec i1 i2)
    (ho : ∀ t, off t = ![16 * t.val])
    (hL : ∀ t, ∀ w : IVec L16 32, (∀ l : Fin 16, w (ix1 l) = val (16 * t.val + l.val)) →
      Lanes P (n₀ + 16 * t.val) (vec t w) (mask t) ∧ chk (vec t w))
    {α : Type} {kk : Unit → Prog (TpuEff nD τ sig (Elt F) Λ c.2) α} {Q : α → sProp (MT nD τ sig Ix (Elt F) Name U Lvl)} :
    iprop(Words c ms val ∗ Tab c mtab (fun b => co b + Nat.count (P b) n₀))
      ⊢ iprop((iprop(Words c ms val ∗ Tab c mtab (fun b => co b + Nat.count (P b) (n₀ + 16 * L.trips))) -∗ wp frame (wpE defs 𝒱 c bd) Set.univ (kk ⟨⟩) Q)
        -∗ wp frame (wpE defs 𝒱 c bd) Set.univ (Scf.Loop.for L ok ⟨⟩ body >>= kk) Q) := by
  subst hbody
  have hloop := Scf.wp_for_bind (M := MT nD τ sig Ix (Elt F) Name U Lvl) (Fr := frame) (wpE := wpE defs 𝒱 c bd) (Es := Set.univ) L.lb L.ub L.st ok (⟨⟩ : Unit)
    (fun t _ => cntBody (F := F) c ms mtab (off t) (h t) (hl t) hl7 hs7 (vec t) (mask t) chk dec i1 i2)
    (fun t _ => iprop(Words c ms val ∗ Tab c mtab (fun b => co b + Nat.count (P b) (n₀ + 16 * t))))
    (fun t _ => wp_cntBody 𝒱 c bd ms mtab (ho t) (hL t)) (kk := kk) (Q := Q)
  iintro HV Hk
  iapply hloop $$ HV
  iintro %_ HV
  iapply Hk
  iexact HV

/-! ## Counting, each word's place staged -/

variable (mst : Memref sig c.2.kind .vmem ⟨2, ![8, 128]⟩ .i32)

/-- The numbers staged: entry `j` is `gi j`, for the first `m` entries. -/
def Staged (gi : ℕ → BitVec 32) (m : ℕ) : sProp 𝕄 :=
  iprop(∃ st, has c mst st ∗ ⌜∀ x, 128 * (x 0).val + (x 1).val < m → st x = (gi (128 * (x 0).val + (x 1).val) : Elt F .i32)⌝)

/-- The region of one trip of a placing loop. -/
def stgBody (off : Fin 1 → ℕ) (h : ∀ a, off a + (![16] : Fin 1 → ℕ) a ≤ (⟨1, ![nb]⟩ : Shape).size a)
    (off3 : Fin 2 → ℕ) (h3 : ∀ a, off3 a + (![1, 16] : Fin 2 → ℕ) a ≤ (⟨2, ![8, 128]⟩ : Shape).size a)
    (hl : ms.view.LoadsAt (Rect.unit (s := ⟨1, ![nb]⟩) off ![16] h).toLoadRect)
    (hl6 : mst.view.LoadsAt (Rect.unit (s := ⟨2, ![8, 128]⟩) off3 ![1, 16] h3).toLoadRect)
    (hs6 : (mst.access (Rect.unit (s := ⟨2, ![8, 128]⟩) off3 ![1, 16] h3)).Stores Finset.univ)
    (hl7 : mtab.view.Loads) (hs7 : (mtab.access (.whole ⟨1, ![mt]⟩)).Stores Finset.univ) (hc : L16.ShapeCasts ⟨2, ![1, 16]⟩)
    (vec : IVec L16 32 → IVec L16 32) (mask : IVec L16 1) (v4 : BitVec 32) (v2 : IVec L16 32)
    (chk : IVec L16 32 → Prop) (dec : ∀ v, Decidable (chk v))
    (i1 i2 : ∀ v, chk v → InB mt v) : Prog (TpuEff nD τ sig (Elt F) Λ c.2) Unit := do
  let w : Vec F L16 .i32 ← Prog.lift (.load ms (Rect.unit (s := ⟨1, ![nb]⟩) off ![16] h).toLoadRect hl)
  have v : IVec L16 32 := vec w
  have hw : chk v := (← Prog.lift (TpuEff.assume (chk v) (dec v))).down
  let old : Vec F L16 .i32 ← vectorLoadIdx mtab ![v] (i1 v hw) hl7
  let _st : Vec F ⟨2, ![1, 16]⟩ .i32 ← Prog.lift (.load mst (Rect.unit (s := ⟨2, ![8, 128]⟩) off3 ![1, 16] h3).toLoadRect hl6)
  Prog.lift (.store mst (Rect.unit (s := ⟨2, ![8, 128]⟩) off3 ![1, 16] h3)
    (shapeCast ⟨2, ![1, 16]⟩ (select mask (subi (addi (addi (broadcast L16 v4) old) (scanCount mask v).2) (broadcast L16 1#32))
      (addi (broadcast L16 (Scalar.addi v4 8295168#32)) v2)) hc) Finset.univ hs6 (.inl rfl))
  vectorStoreIdx mtab ![v] (addi old (scanCount mask v).2) (scanCount mask v).1 false (i2 v hw) hs7
  pure ⟨⟩

theorem wp_stgBody {val gi : ℕ → BitVec 32} {co : ℕ → ℕ} {n r t : ℕ} (hr : r < 8) (ht : t < 8) {v4 : BitVec 32} {v2 : IVec L16 32}
    {off : Fin 1 → ℕ} (ho : off = ![128 * r + 16 * t]) {h} {off3 : Fin 2 → ℕ} (ho3 : off3 = ![r, 16 * t]) {h3 hl hl6 hs6 hl7 hs7 hc}
    {vec : IVec L16 32 → IVec L16 32} {mask : IVec L16 1} {chk : IVec L16 32 → Prop} {dec : ∀ v, Decidable (chk v)} {i1 i2}
    (hL : ∀ w : IVec L16 32, (∀ l : Fin 16, w (ix1 l) = val (128 * r + 16 * t + l.val)) → Lanes P n (vec w) mask ∧ chk (vec w)
      ∧ ∀ l : Fin 16, (mask (ix1 l) = 1 → gi (128 * r + 16 * t + l.val)
            = v4 + BitVec.ofNat 32 (co (vec w (ix1 l)).toNat + Nat.count (P (vec w (ix1 l)).toNat) (n + l.val)))
          ∧ (mask (ix1 l) ≠ 1 → gi (128 * r + 16 * t + l.val) = v4 + 8295168#32 + v2 (ix1 l))) :
    iprop(Words c ms val ∗ Staged c mst gi (128 * r + 16 * t) ∗ Tab c mtab (fun b => co b + Nat.count (P b) n))
      ⊢ wp frame (wpE defs 𝒱 c bd) Set.univ
          (stgBody (F := F) c ms mtab mst off h off3 h3 hl hl6 hs6 hl7 hs7 hc vec mask v4 v2 chk dec i1 i2)
          (fun _ => (iprop(Words c ms val ∗ Staged c mst gi (128 * r + 16 * (t + 1)) ∗ Tab c mtab (fun b => co b + Nat.count (P b) (n + 16))) : sProp 𝕄)) := by
  subst ho ho3
  unfold Words Tab Staged stgBody
  simp only [Prog.bind_lift]
  iintro ⟨H5, ⟨%st, H6, %hst⟩, ⟨%ct, H7, %hct⟩⟩
  iapply (Has.wp_load 𝒱 c bd) $$ H5
  iintro H5
  have hw := load_lane val h
  generalize (fun x => val (((Rect.unit (s := ⟨1, ![nb]⟩) ![128 * r + 16 * t] ![16] h).emb x) 0).val) = w at hw ⊢
  obtain ⟨hLn, hc', hgi⟩ := hL w hw
  iapply (wp_assume (Val := Elt F) (defs := defs) 𝒱 c bd Set.univ hc')
  iapply (Has.wp_loadIdx 𝒱 c bd) $$ H7
  iintro H7
  iapply (Has.wp_load 𝒱 c bd) $$ H6
  iintro H6
  iapply (Has.wp_store 𝒱 c bd (fun x => if 128 * r + 16 * t ≤ 128 * (x 0).val + (x 1).val ∧ 128 * (x 0).val + (x 1).val < 128 * r + 16 * (t + 1)
      then (gi (128 * (x 0).val + (x 1).val) : Elt F .i32) else st x) ?_ ?_) $$ H6
  · intro x
    have hx0 : (x 0).val = 0 := Nat.lt_one_iff.mp (x 0).isLt
    have hx1 : (x 1).val < 16 := (x 1).isLt
    refine (if_pos ?_).trans ?_
    · change 128 * r + 16 * t ≤ 128 * (r + 1 * (x 0).val) + (16 * t + 1 * (x 1).val) ∧ 128 * (r + 1 * (x 0).val) + (16 * t + 1 * (x 1).val) < _
      omega
    · change gi (128 * (r + 1 * (x 0).val) + (16 * t + 1 * (x 1).val)) = _
      refine Eq.trans ?_ (shapeCast_addUnit_apply ![16] _ hc x).symm
      have he : (fun a : Fin 1 => x a.succ) = (ix1 ⟨(x 1).val, hx1⟩ : L16.Idx) := by
        funext a; fin_cases a; rfl
      refine Eq.trans ?_ (congrArg _ he).symm
      obtain ⟨hg1, hg2⟩ := hgi ⟨(x 1).val, hx1⟩
      rw [show 128 * (r + 1 * (x 0).val) + (16 * t + 1 * (x 1).val) = 128 * r + 16 * t + (x 1).val by omega]
      by_cases hm : mask (ix1 ⟨(x 1).val, hx1⟩) = 1
      · refine (hg1 hm).trans ?_
        refine Eq.trans ?_ (show _ = select mask _ _ (ix1 ⟨(x 1).val, hx1⟩) from (if_pos hm).symm)
        have hs := Hist.step_place ct co (i1 _ hc') hLn hct ⟨(x 1).val, hx1⟩ hm
        change _ = (v4 + _ + _ - 1#32 : BitVec 32)
        rw [BitVec.add_assoc]
        refine Eq.trans ?_ (congrArg (fun z : BitVec 32 => v4 + z - 1#32) hs.symm)
        rw [BitVec.ofNat_add _ 1]
        change _ = (v4 + (_ + 1#32) - 1#32 : BitVec 32)
        rw [← BitVec.add_assoc, BitVec.add_sub_cancel]
      · refine (hg2 hm).trans ?_
        exact (show _ = select mask _ _ (ix1 ⟨(x 1).val, hx1⟩) from (if_neg hm).symm)
  · intro y hy
    refine if_neg fun hc => hy ?_
    have h1 : (y 1).val < 128 := (y 1).isLt
    rw [LoadRect.mem_set]
    intro a
    fin_cases a
    · refine ⟨0, Nat.one_pos, ?_⟩
      change (y 0).val = r + 1 * 0
      omega
    · refine ⟨(y 1).val - 16 * t, ?_, ?_⟩
      · change (y 1).val - 16 * t < 16
        omega
      · change (y 1).val = 16 * t + 1 * ((y 1).val - 16 * t)
        omega
  iintro H6
  iapply (Has.wp_storeIdx 𝒱 c bd) $$ H7
  iintro H7
  simp only [Prog.pure_eq_ret, wp_ret]
  imodintro
  isplitl [H5]
  · iexact H5
  isplitl [H6]
  · iexists _
    isplitl [H6]
    · iexact H6
    ipureintro
    intro x hx
    by_cases hlt : 128 * (x 0).val + (x 1).val < 128 * r + 16 * t
    · exact (if_neg fun hc => absurd hlt (not_lt.mpr hc.1)).trans (hst x hlt)
    · exact if_pos ⟨not_lt.mp hlt, hx⟩
  · iexists _
    isplitl [H7]
    · iexact H7
    ipureintro
    intro b
    exact Hist.step ct co (i1 _ hc') (i2 _ hc') hLn hct b

/-- A placing loop: one row of the staging table, `n₀` the number of its first word. -/
theorem wp_stgLoop {val gi : ℕ → BitVec 32} {co : ℕ → ℕ} {n₀ m : ℕ} {v4 : BitVec 32} {v2 : IVec L16 32} {L : Scf.Loop 32} {ok : L.OK}
    {body : Fin L.trips → Unit → Prog (TpuEff nD τ sig (Elt F) Λ c.2) Unit}
    {off : Fin L.trips → Fin 1 → ℕ} {h : ∀ t, ∀ a, off t a + (![16] : Fin 1 → ℕ) a ≤ (⟨1, ![nb]⟩ : Shape).size a}
    {off3 : Fin L.trips → Fin 2 → ℕ} {h3 : ∀ t, ∀ a, off3 t a + (![1, 16] : Fin 2 → ℕ) a ≤ (⟨2, ![8, 128]⟩ : Shape).size a}
    {hl : ∀ t, ms.view.LoadsAt (Rect.unit (s := ⟨1, ![nb]⟩) (off t) ![16] (h t)).toLoadRect}
    {hl6 : ∀ t, mst.view.LoadsAt (Rect.unit (s := ⟨2, ![8, 128]⟩) (off3 t) ![1, 16] (h3 t)).toLoadRect}
    {hs6 : ∀ t, (mst.access (Rect.unit (s := ⟨2, ![8, 128]⟩) (off3 t) ![1, 16] (h3 t))).Stores Finset.univ} {hl7 hs7 hc}
    {vec : Fin L.trips → IVec L16 32 → IVec L16 32} {mask : Fin L.trips → IVec L16 1}
    {chk : IVec L16 32 → Prop} {dec : ∀ v, Decidable (chk v)} {i1 i2}
    (hbody : body = fun t _ => stgBody (F := F) c ms mtab mst (off t) (h t) (off3 t) (h3 t) (hl t) (hl6 t) (hs6 t) hl7 hs7 hc (vec t) (mask t) v4 v2 chk dec i1 i2)
    (h8 : L.trips = 8) (hm : m / 128 < 8) (hd : 128 * (m / 128) = m)
    (ho : ∀ t, off t = ![16 * t.val + m]) (ho3 : ∀ t, off3 t = ![m / 128, 16 * t.val])
    (hL : ∀ t, ∀ w : IVec L16 32, (∀ l : Fin 16, w (ix1 l) = val (m + 16 * t.val + l.val)) →
      Lanes P (n₀ + m + 16 * t.val) (vec t w) (mask t) ∧ chk (vec t w)
      ∧ ∀ l : Fin 16, (mask t (ix1 l) = 1 → gi (m + 16 * t.val + l.val)
            = v4 + BitVec.ofNat 32 (co (vec t w (ix1 l)).toNat + Nat.count (P (vec t w (ix1 l)).toNat) (n₀ + m + 16 * t.val + l.val)))
          ∧ (mask t (ix1 l) ≠ 1 → gi (m + 16 * t.val + l.val) = v4 + 8295168#32 + v2 (ix1 l)))
    {α : Type} {kk : Unit → Prog (TpuEff nD τ sig (Elt F) Λ c.2) α} {Q : α → sProp (MT nD τ sig Ix (Elt F) Name U Lvl)} :
    iprop(Words c ms val ∗ Staged c mst gi m ∗ Tab c mtab (fun b => co b + Nat.count (P b) (n₀ + m)))
      ⊢ iprop((iprop(Words c ms val ∗ Staged c mst gi (m + 128) ∗ Tab c mtab (fun b => co b + Nat.count (P b) (n₀ + (m + 128)))) -∗ wp frame (wpE defs 𝒱 c bd) Set.univ (kk ⟨⟩) Q)
        -∗ wp frame (wpE defs 𝒱 c bd) Set.univ (Scf.Loop.for L ok ⟨⟩ body >>= kk) Q) := by
  subst hbody
  have hloop := Scf.wp_for_bind (M := MT nD τ sig Ix (Elt F) Name U Lvl) (Fr := frame) (wpE := wpE defs 𝒱 c bd) (Es := Set.univ) L.lb L.ub L.st ok (⟨⟩ : Unit)
    (fun t _ => stgBody (F := F) c ms mtab mst (off t) (h t) (off3 t) (h3 t) (hl t) (hl6 t) (hs6 t) hl7 hs7 hc (vec t) (mask t) v4 v2 chk dec i1 i2)
    (fun t _ => iprop(Words c ms val ∗ Staged c mst gi (128 * (m / 128) + 16 * t) ∗ Tab c mtab (fun b => co b + Nat.count (P b) (n₀ + m + 16 * t))))
    (fun t _ => wp_stgBody 𝒱 c bd ms mtab mst hm (lt_of_lt_of_eq t.isLt h8) (by rw [ho t, Nat.add_comm, hd]) (ho3 t)
      (by rw [hd]; exact hL t)) (kk := kk) (Q := Q)
  rw [hd] at hloop
  iintro HV Hk
  iapply hloop $$ HV
  iintro %_ HV
  iapply Hk
  iapply (Entails.of_eq (show (iprop(Words c ms val ∗ Staged c mst gi (m + 16 * L.trips) ∗ Tab c mtab (fun b => co b + Nat.count (P b) (n₀ + m + 16 * L.trips))) : sProp 𝕄)
    = iprop(Words c ms val ∗ Staged c mst gi (m + 128) ∗ Tab c mtab (fun b => co b + Nat.count (P b) (n₀ + (m + 128)))) from by
      rw [h8, Nat.add_assoc n₀ m])) $$ HV

/-! ## Adding up logarithms of counts -/

/-- What sixteen lanes add: the logarithm of the count, where it is more than one. -/
def termVec (mask : IVec L16 1) (old : IVec L16 32) : FVec F L16 .f32 :=
  select (andi mask (cmpi .sgt old (broadcast L16 1#32)))
    (mulf (log (sitofp .f32 old)) (broadcast L16 (Scalar.ofBits .f32 0x3FB8AA3B#32))) (broadcast L16 (Scalar.ofBits .f32 0x00000000#32))

/-- What an accumulator holds after the counts of a list were added: `0` in the list adds nothing. -/
inductive Acc : List ℕ → FVec F L16 .f32 → Prop
  | zero : Acc [] (broadcast L16 (Scalar.ofBits .f32 0x00000000#32))
  | step {L : List ℕ} {a : FVec F L16 .f32} (mask : IVec L16 1) (old : IVec L16 32) (u : Fin 16 → ℕ)
      (h1 : ∀ l, mask (ix1 l) = 1 → old (ix1 l) = BitVec.ofNat 32 (u l)) (h0 : ∀ l, mask (ix1 l) ≠ 1 → u l = 0)
      (hlt : ∀ l, u l < 2 ^ 31) (ha : Acc L a) : Acc (List.ofFn u ++ L) (addf a (termVec mask old))

variable (mac : Memref sig c.2.kind .vmem ⟨1, ![16]⟩ .f32)

/-- The accumulator: the counts added weigh `S`. -/
def AccI (S : (ℕ → ℝ) → ℝ) : sProp 𝕄 :=
  iprop(∃ a, has c mac a ∗ ⌜∃ L, Acc (F := F) L a ∧ ∀ wt : ℕ → ℝ, wt 0 = 0 → (L.map wt).sum = S wt⌝)

/-- The region of one trip of an adding loop. -/
def addBody (off : Fin 1 → ℕ) (h : ∀ a, off a + (![16] : Fin 1 → ℕ) a ≤ (⟨1, ![nb]⟩ : Shape).size a)
    (hl : ms.view.LoadsAt (Rect.unit (s := ⟨1, ![nb]⟩) off ![16] h).toLoadRect)
    (hl7 : mtab.view.Loads) (ha : ∀ a, (![0] : Fin 1 → ℕ) a + (![16] : Fin 1 → ℕ) a ≤ (⟨1, ![16]⟩ : Shape).size a)
    (hl8 hl9 : mac.view.LoadsAt (Rect.unit (s := ⟨1, ![16]⟩) ![0] ![16] ha).toLoadRect)
    (hs8 : (mac.access (Rect.unit (s := ⟨1, ![16]⟩) ![0] ![16] ha)).Stores Finset.univ)
    (vec : IVec L16 32 → IVec L16 32) (acc : IVec L16 32 → FVec F L16 .f32 → FVec F L16 .f32) (chk : IVec L16 32 → Prop) (dec : ∀ v, Decidable (chk v))
    (i1 : ∀ v, chk v → InB mt v) : Prog (TpuEff nD τ sig (Elt F) Λ c.2) Unit := do
  let w : Vec F L16 .i32 ← Prog.lift (.load ms (Rect.unit (s := ⟨1, ![nb]⟩) off ![16] h).toLoadRect hl)
  have v : IVec L16 32 := vec w
  have hw : chk v := (← Prog.lift (TpuEff.assume (chk v) (dec v))).down
  let old : Vec F L16 .i32 ← vectorLoadIdx mtab ![v] (i1 v hw) hl7
  let a : Vec F L16 .f32 ← Prog.lift (.load mac (Rect.unit (s := ⟨1, ![16]⟩) ![0] ![16] ha).toLoadRect hl8)
  let _a' : Vec F L16 .f32 ← Prog.lift (.load mac (Rect.unit (s := ⟨1, ![16]⟩) ![0] ![16] ha).toLoadRect hl9)
  Prog.lift (.store mac (Rect.unit (s := ⟨1, ![16]⟩) ![0] ![16] ha) (acc old a) Finset.univ hs8 (.inl rfl))
  pure ⟨⟩

theorem emb_all (ha : ∀ a, (![0] : Fin 1 → ℕ) a + (![16] : Fin 1 → ℕ) a ≤ (⟨1, ![16]⟩ : Shape).size a) (x : L16.Idx) :
    (Rect.unit (s := ⟨1, ![16]⟩) ![0] ![16] ha).emb x = x := by
  funext a
  have : a = 0 := Subsingleton.elim (α := Fin 1) _ _
  subst this
  refine Fin.ext ?_
  change 0 + 1 * (x 0).val = _
  omega

theorem wp_addBody {val : ℕ → BitVec 32} {f g : ℕ → ℕ} {n o : ℕ} {S : (ℕ → ℝ) → ℝ} {off : Fin 1 → ℕ} (ho : off = ![o]) {h hl hl7 ha hl8 hl9 hs8}
    {vec : IVec L16 32 → IVec L16 32} {mask : IVec L16 1} {acc : IVec L16 32 → FVec F L16 .f32 → FVec F L16 .f32} {chk : IVec L16 32 → Prop} {dec : ∀ v, Decidable (chk v)} {i1}
    (hacc : ∀ old a, acc old a = addf a (termVec mask old)) (hg : ∀ p, g p < 2 ^ 31)
    (hL : ∀ w : IVec L16 32, (∀ l : Fin 16, w (ix1 l) = val (o + l.val)) → chk (vec w) ∧
      ∀ l : Fin 16, (mask (ix1 l) = 1 → f (vec w (ix1 l)).toNat = g (n + l.val)) ∧ (mask (ix1 l) ≠ 1 → g (n + l.val) = 0)) :
    iprop(Words c ms val ∗ Tab c mtab f ∗ AccI c mac (fun wt => S wt + ∑ p ∈ Finset.range n, wt (g p)))
      ⊢ wp frame (wpE defs 𝒱 c bd) Set.univ
          (addBody (F := F) c ms mtab mac off h hl hl7 ha hl8 hl9 hs8 vec acc chk dec i1)
          (fun _ => (iprop(Words c ms val ∗ Tab c mtab f ∗ AccI c mac (fun wt => S wt + ∑ p ∈ Finset.range (n + 16), wt (g p))) : sProp 𝕄)) := by
  subst ho
  obtain rfl : acc = fun old a => addf a (termVec mask old) := funext fun old => funext fun a => hacc old a
  unfold Words Tab AccI addBody
  simp only [Prog.bind_lift]
  iintro ⟨H5, ⟨%ct, H7, %hct⟩, ⟨%a, H8, %hA⟩⟩
  iapply (Has.wp_load 𝒱 c bd) $$ H5
  iintro H5
  have hw := load_lane val h
  generalize (fun x => val (((Rect.unit (s := ⟨1, ![nb]⟩) ![o] ![16] h).emb x) 0).val) = w at hw ⊢
  obtain ⟨hc', hlane⟩ := hL w hw
  iapply (wp_assume (Val := Elt F) (defs := defs) 𝒱 c bd Set.univ hc')
  iapply (Has.wp_loadIdx 𝒱 c bd) $$ H7
  iintro H7
  iapply (Has.wp_load 𝒱 c bd) $$ H8
  iintro H8
  iapply (Has.wp_load 𝒱 c bd) $$ H8
  iintro H8
  have hae : (fun x => a ((Rect.unit (s := ⟨1, ![16]⟩) ![0] ![16] ha).emb x)) = a := funext fun x => congrArg a (emb_all ha x)
  rw [hae]
  iapply (Has.wp_store 𝒱 c bd (addf a (termVec mask (loadIdx ct ![vec w] (i1 _ hc')))) ?_ ?_) $$ H8
  · intro x; rw [emb_all ha x]
  · intro y hy
    refine absurd ?_ hy
    rw [LoadRect.mem_set]
    intro a
    have : a = 0 := Subsingleton.elim (α := Fin 1) _ _
    subst this
    refine ⟨(y 0).val, (y 0).isLt, ?_⟩
    change (y 0).val = 0 + 1 * (y 0).val
    omega
  iintro H8
  simp only [Prog.pure_eq_ret, wp_ret]
  imodintro
  isplitl [H5]
  · iexact H5
  isplitl [H7]
  · iexists ct
    isplitl [H7]
    · iexact H7
    ipureintro; exact hct
  iexists _
  isplitl [H8]
  · iexact H8
  ipureintro
  obtain ⟨L, hacc, hsum⟩ := hA
  refine ⟨_, Acc.step mask _ (fun l => g (n + l.val)) (fun l hm => ?_) (fun l hm => (hlane l).2 hm) (fun l => hg _) hacc, fun wt h0 => ?_⟩
  · have hb : (vec w (ix1 l)).toNat < mt := i1 _ hc' 0 (ix1 l)
    refine (show loadIdx ct ![vec w] (i1 _ hc') (ix1 l) = ct (ix1 ⟨(vec w (ix1 l)).toNat, hb⟩) from congrArg ct (by
      funext a
      have : a = 0 := Subsingleton.elim (α := Fin 1) _ _
      subst this; rfl)).trans ?_
    rw [hct, ← (hlane l).1 hm]
  · rw [List.map_append, List.sum_append, hsum wt h0, List.map_ofFn, List.sum_ofFn, Finset.sum_range_add, Finset.sum_range (fun x => wt (g (n + x)))]
    simp only [Function.comp]
    rw [add_comm, add_assoc]

/-- An adding loop. -/
theorem wp_addLoop {val : ℕ → BitVec 32} {f g : ℕ → ℕ} {n₀ : ℕ} {S : (ℕ → ℝ) → ℝ} {L : Scf.Loop 32} {ok : L.OK}
    {body : Fin L.trips → Unit → Prog (TpuEff nD τ sig (Elt F) Λ c.2) Unit}
    {off : Fin L.trips → Fin 1 → ℕ} {h : ∀ t, ∀ a, off t a + (![16] : Fin 1 → ℕ) a ≤ (⟨1, ![nb]⟩ : Shape).size a}
    {hl : ∀ t, ms.view.LoadsAt (Rect.unit (s := ⟨1, ![nb]⟩) (off t) ![16] (h t)).toLoadRect} {hl7 ha hl8 hl9 hs8}
    {vec : Fin L.trips → IVec L16 32 → IVec L16 32} {mask : Fin L.trips → IVec L16 1} {acc : Fin L.trips → IVec L16 32 → FVec F L16 .f32 → FVec F L16 .f32}
    {chk : IVec L16 32 → Prop} {dec : ∀ v, Decidable (chk v)} {i1}
    (hbody : body = fun t _ => addBody (F := F) c ms mtab mac (off t) (h t) (hl t) hl7 ha hl8 hl9 hs8 (vec t) (acc t) chk dec i1)
    (hacc : ∀ t old a, acc t old a = addf a (termVec (mask t) old)) (ho : ∀ t, off t = ![16 * t.val]) (hg : ∀ p, g p < 2 ^ 31)
    (hL : ∀ t, ∀ w : IVec L16 32, (∀ l : Fin 16, w (ix1 l) = val (16 * t.val + l.val)) → chk (vec t w) ∧
      ∀ l : Fin 16, (mask t (ix1 l) = 1 → f (vec t w (ix1 l)).toNat = g (n₀ + 16 * t.val + l.val)) ∧ (mask t (ix1 l) ≠ 1 → g (n₀ + 16 * t.val + l.val) = 0))
    {α : Type} {kk : Unit → Prog (TpuEff nD τ sig (Elt F) Λ c.2) α} {Q : α → sProp (MT nD τ sig Ix (Elt F) Name U Lvl)} :
    iprop(Words c ms val ∗ Tab c mtab f ∗ AccI c mac (fun wt => S wt + ∑ p ∈ Finset.range n₀, wt (g p)))
      ⊢ iprop((iprop(Words c ms val ∗ Tab c mtab f ∗ AccI c mac (fun wt => S wt + ∑ p ∈ Finset.range (n₀ + 16 * L.trips), wt (g p))) -∗ wp frame (wpE defs 𝒱 c bd) Set.univ (kk ⟨⟩) Q)
        -∗ wp frame (wpE defs 𝒱 c bd) Set.univ (Scf.Loop.for L ok ⟨⟩ body >>= kk) Q) := by
  subst hbody
  have hloop := Scf.wp_for_bind (M := MT nD τ sig Ix (Elt F) Name U Lvl) (Fr := frame) (wpE := wpE defs 𝒱 c bd) (Es := Set.univ) L.lb L.ub L.st ok (⟨⟩ : Unit)
    (fun t _ => addBody (F := F) c ms mtab mac (off t) (h t) (hl t) hl7 ha hl8 hl9 hs8 (vec t) (acc t) chk dec i1)
    (fun t _ => iprop(Words c ms val ∗ Tab c mtab f ∗ AccI c mac (fun wt => S wt + ∑ p ∈ Finset.range (n₀ + 16 * t), wt (g p))))
    (fun t _ => wp_addBody 𝒱 c bd ms mtab mac (ho t) (hacc t) hg (hL t)) (kk := kk) (Q := Q)
  iintro HV Hk
  iapply hloop $$ HV
  iintro %_ HV
  iapply Hk
  iexact HV

/-! ## Clearing -/

/-- The region of one trip of a clearing loop. -/
def clrBody (off : Fin 1 → ℕ) (h : ∀ a, off a + (![16] : Fin 1 → ℕ) a ≤ (⟨1, ![nb]⟩ : Shape).size a)
    (hl : ms.view.LoadsAt (Rect.unit (s := ⟨1, ![nb]⟩) off ![16] h).toLoadRect)
    (hs7 : (mtab.access (.whole ⟨1, ![mt]⟩)).Stores Finset.univ)
    (vec : IVec L16 32 → IVec L16 32) (om : IVec L16 32 → IVec L16 1) (v3 : IVec L16 32) (chk : IVec L16 32 → Prop) (dec : ∀ v, Decidable (chk v))
    (i2 : ∀ v, chk v → InB mt v) : Prog (TpuEff nD τ sig (Elt F) Λ c.2) Unit := do
  let w : Vec F L16 .i32 ← Prog.lift (.load ms (Rect.unit (s := ⟨1, ![nb]⟩) off ![16] h).toLoadRect hl)
  have v : IVec L16 32 := vec w
  have hw : chk v := (← Prog.lift (TpuEff.assume (chk v) (dec v))).down
  vectorStoreIdx (F := F) (e := .i32) mtab ![v] v3 (om v) false (i2 v hw) hs7
  pure ⟨⟩

theorem clear_step {n : ℕ} {v : IVec L16 32} {mask : IVec L16 1} {f : ℕ → ℕ} (ct : Vec F ⟨1, ![mt]⟩ .i32) {v3 : IVec L16 32} (hv3 : ∀ x, v3 x = 0#32)
    (h : InB mt v) (hL : Lanes P n v mask)
    (hct : ∀ b : Fin mt, ct (ix1 b) = (BitVec.ofNat 32 (if Nat.count (P b.val) n = 0 then f b.val else 0) : Elt F .i32)) (b : Fin mt) :
    storeIdx (F := F) (e := .i32) ct ![v] v3 (scanCount mask v).1 false h (ix1 b)
      = (BitVec.ofNat 32 (if Nat.count (P b.val) (n + 16) = 0 then f b.val else 0) : Elt F .i32) := by
  refine (Hist.storeIdx_cell (F := F) (e := .i32) ct v v3 (scanCount mask v).1 h b (0#32 : BitVec 32) (fun l _ _ => hv3 _)).trans ?_
  by_cases hex : ∃ k : Fin 16, P b.val (n + k.val)
  · obtain ⟨l, hl, hlast⟩ := Hist.exists_last b.val hex
    have hm := (hL l b.val).mp hl
    rw [if_pos ⟨l, (Hist.scanCount_last hL l).mpr ⟨hm.1, fun k hk => by rw [hm.2]; exact hlast k hk⟩, hm.2⟩]
    have := Hist.count_last hL l b.val hl hlast
    rw [if_neg (by omega)]
  · have hno : ∀ k : Fin 16, ¬ P b.val (n + k.val) := fun k hk => hex ⟨k, hk⟩
    rw [if_neg, hct, Hist.count_none b.val hno]
    rintro ⟨l, hl, hb⟩
    have := ((Hist.scanCount_last hL l).mp hl).1
    exact hno l ((hL l b.val).mpr ⟨this, hb⟩)

theorem wp_clrBody {val : ℕ → BitVec 32} {f : ℕ → ℕ} {n o : ℕ} {off : Fin 1 → ℕ} (ho : off = ![o]) {h hl hs7}
    {vec : IVec L16 32 → IVec L16 32} {mask : IVec L16 1} {om : IVec L16 32 → IVec L16 1} (hom : ∀ v, om v = (scanCount mask v).1) {v3 : IVec L16 32} (hv3 : ∀ x, v3 x = 0#32) {chk : IVec L16 32 → Prop} {dec : ∀ v, Decidable (chk v)} {i2}
    (hL : ∀ w : IVec L16 32, (∀ l : Fin 16, w (ix1 l) = val (o + l.val)) → Lanes P n (vec w) mask ∧ chk (vec w)) :
    iprop(Words c ms val ∗ Tab c mtab (fun b => if Nat.count (P b) n = 0 then f b else 0))
      ⊢ wp frame (wpE defs 𝒱 c bd) Set.univ
          (clrBody (F := F) c ms mtab off h hl hs7 vec om v3 chk dec i2)
          (fun _ => (iprop(Words c ms val ∗ Tab c mtab (fun b => if Nat.count (P b) (n + 16) = 0 then f b else 0)) : sProp 𝕄)) := by
  subst ho
  obtain rfl : om = fun v => (scanCount mask v).1 := funext hom
  unfold Words Tab clrBody
  simp only [Prog.bind_lift]
  iintro ⟨H5, ⟨%ct, H7, %hct⟩⟩
  iapply (Has.wp_load 𝒱 c bd) $$ H5
  iintro H5
  have hw := load_lane val h
  generalize (fun x => val (((Rect.unit (s := ⟨1, ![nb]⟩) ![o] ![16] h).emb x) 0).val) = w at hw ⊢
  obtain ⟨hLn, hc'⟩ := hL w hw
  iapply (wp_assume (Val := Elt F) (defs := defs) 𝒱 c bd Set.univ hc')
  iapply (Has.wp_storeIdx 𝒱 c bd) $$ H7
  iintro H7
  simp only [Prog.pure_eq_ret, wp_ret]
  imodintro
  isplitl [H5]
  · iexact H5
  iexists _
  isplitl [H7]
  · iexact H7
  ipureintro
  intro b
  exact clear_step ct hv3 (i2 _ hc') hLn hct b

/-- A clearing loop. -/
theorem wp_clrLoop {val : ℕ → BitVec 32} {f : ℕ → ℕ} {n₀ : ℕ} {L : Scf.Loop 32} {ok : L.OK}
    {body : Fin L.trips → Unit → Prog (TpuEff nD τ sig (Elt F) Λ c.2) Unit}
    {off : Fin L.trips → Fin 1 → ℕ} {h : ∀ t, ∀ a, off t a + (![16] : Fin 1 → ℕ) a ≤ (⟨1, ![nb]⟩ : Shape).size a}
    {hl : ∀ t, ms.view.LoadsAt (Rect.unit (s := ⟨1, ![nb]⟩) (off t) ![16] (h t)).toLoadRect} {hs7}
    {vec : Fin L.trips → IVec L16 32 → IVec L16 32} {mask : Fin L.trips → IVec L16 1} {om : Fin L.trips → IVec L16 32 → IVec L16 1} {v3 : IVec L16 32} (hv3 : ∀ x, v3 x = 0#32)
    {chk : IVec L16 32 → Prop} {dec : ∀ v, Decidable (chk v)} {i2}
    (hbody : body = fun t _ => clrBody (F := F) c ms mtab (off t) (h t) (hl t) hs7 (vec t) (om t) v3 chk dec i2)
    (hom : ∀ t v, om t v = (scanCount (mask t) v).1) (ho : ∀ t, off t = ![16 * t.val])
    (hL : ∀ t, ∀ w : IVec L16 32, (∀ l : Fin 16, w (ix1 l) = val (16 * t.val + l.val)) →
      Lanes P (n₀ + 16 * t.val) (vec t w) (mask t) ∧ chk (vec t w))
    {α : Type} {kk : Unit → Prog (TpuEff nD τ sig (Elt F) Λ c.2) α} {Q : α → sProp (MT nD τ sig Ix (Elt F) Name U Lvl)} :
    iprop(Words c ms val ∗ Tab c mtab (fun b => if Nat.count (P b) n₀ = 0 then f b else 0))
      ⊢ iprop((iprop(Words c ms val ∗ Tab c mtab (fun b => if Nat.count (P b) (n₀ + 16 * L.trips) = 0 then f b else 0)) -∗ wp frame (wpE defs 𝒱 c bd) Set.univ (kk ⟨⟩) Q)
        -∗ wp frame (wpE defs 𝒱 c bd) Set.univ (Scf.Loop.for L ok ⟨⟩ body >>= kk) Q) := by
  subst hbody
  have hloop := Scf.wp_for_bind (M := MT nD τ sig Ix (Elt F) Name U Lvl) (Fr := frame) (wpE := wpE defs 𝒱 c bd) (Es := Set.univ) L.lb L.ub L.st ok (⟨⟩ : Unit)
    (fun t _ => clrBody (F := F) c ms mtab (off t) (h t) (hl t) hs7 (vec t) (om t) v3 chk dec i2)
    (fun t _ => iprop(Words c ms val ∗ Tab c mtab (fun b => if Nat.count (P b) (n₀ + 16 * t) = 0 then f b else 0)))
    (fun t _ => wp_clrBody 𝒱 c bd ms mtab (ho t) (hom t) hv3 (hL t)) (kk := kk) (Q := Q)
  iintro HV Hk
  iapply hloop $$ HV
  iintro %_ HV
  iapply Hk
  iexact HV

/-- A loop with no trip. -/
theorem wp_noLoop {L : Scf.Loop 32} {ok : L.OK} (h0 : L.trips = 0) {body : Fin L.trips → Unit → Prog (TpuEff nD τ sig (Elt F) Λ c.2) Unit}
    {α : Type} {kk : Unit → Prog (TpuEff nD τ sig (Elt F) Λ c.2) α} {Q : α → sProp (MT nD τ sig Ix (Elt F) Name U Lvl)} :
    (wp frame (wpE defs 𝒱 c bd) Set.univ (kk ⟨⟩) Q : sProp 𝕄)
      ⊢ wp frame (wpE defs 𝒱 c bd) Set.univ (Scf.Loop.for L ok ⟨⟩ body >>= kk) Q := by
  have hloop := Scf.wp_for_bind (M := MT nD τ sig Ix (Elt F) Name U Lvl) (Fr := frame) (wpE := wpE defs 𝒱 c bd) (Es := Set.univ) L.lb L.ub L.st ok (⟨⟩ : Unit)
    body (fun t _ => iprop(emp)) (fun t _ => absurd t.isLt (by have : t.val < L.trips := t.isLt; omega)) (kk := kk) (Q := Q)
  iintro HV
  iapply hloop $$ []
  · iempintro
  iintro %acc _
  iexact HV

end Cert.Count

end
-- ==== Proof.CountSeq.lean ====
/-
  The order the counting tile puts its keys in, as arithmetic.

  A tile reads 32 runs of keys. Element `e` stands for word `e % 2^18` of run `e / 2^18`; it is there if that word is
  below the run's length. Elements are put in order by the chunk of 2^21 codes they lie in, equal chunks in the order
  read: `gp e` is the place of element `e`. Every chunk is then a segment of places.
-/
module

public import proofs.«01_k».proof.Proof.VecLoop

@[expose] public section

noncomputable section

namespace Cert.Seq

open Cert.Partition (bin cnt)

/-- The `r`-th element of a family. -/
theorem exists_count {p : ℕ → Prop} [DecidablePred p] : ∀ (n r : ℕ), r < Nat.count p n → ∃ e < n, p e ∧ Nat.count p e = r
  | 0, r, h => by simp at h
  | n + 1, r, h => by
      rw [Nat.count_succ] at h
      by_cases hr : r < Nat.count p n
      · obtain ⟨e, he, hp⟩ := exists_count n r hr
        exact ⟨e, by omega, hp⟩
      · by_cases hp : p n
        · rw [if_pos hp] at h
          exact ⟨n, Nat.lt_succ_self n, hp, by omega⟩
        · rw [if_neg hp] at h; omega

/-! ## Words -/

theorem sshift_toNat {k : BitVec 32} (h : k.toNat < 2147483648) (m : ℕ) : (k.sshiftRight m).toNat = k.toNat / 2 ^ m := by
  have hm : k.msb = false := by rw [BitVec.msb_eq_decide, decide_eq_false_iff_not]; omega
  rw [BitVec.sshiftRight_eq_of_msb_false hm, BitVec.toNat_ushiftRight, Nat.shiftRight_eq_div_pow]

/-- A code's place among the codes of its chunk and bin. -/
def low (k : BitVec 32) : ℕ := (k &&& 65535#32).toNat

theorem low_eq (k : BitVec 32) : low k = k.toNat % 65536 := by
  unfold low
  rw [BitVec.toNat_and]
  exact Nat.and_two_pow_sub_one_eq_mod k.toNat 16

theorem low_lt (k : BitVec 32) : low k < 65536 := by rw [low_eq]; exact Nat.mod_lt _ (by decide)

theorem bin_eq {k : BitVec 32} (h : k.toNat < 2147483648) : bin k = k.toNat / 65536 % 32 := by
  unfold bin
  rw [BitVec.toNat_and, sshift_toNat h]
  exact Nat.and_two_pow_sub_one_eq_mod (k.toNat / 65536) 5

/-- Chunk, bin and the low word make the code. -/
theorem code_ext {k k' : BitVec 32} (h : k.toNat < 2147483648) (h' : k'.toNat < 2147483648)
    (hc : (k.sshiftRight 21).toNat = (k'.sshiftRight 21).toNat) (hb : bin k = bin k') (hl : low k = low k') : k = k' := by
  rw [sshift_toNat h, sshift_toNat h'] at hc
  rw [bin_eq h, bin_eq h'] at hb
  rw [low_eq, low_eq] at hl
  refine BitVec.eq_of_toNat_eq ?_
  omega

/-! ## The order -/

variable (cw : ℕ → ℕ) (kk : ℕ → BitVec 32)

/-- The chunk of element `e`. -/
def chunk (e : ℕ) : ℕ := ((kk e).sshiftRight 21).toNat

/-- Element `e` is there. -/
def Valid (e : ℕ) : Prop := e % 262144 < cw (e / 262144)

instance : DecidablePred (Valid cw) := fun e => inferInstanceAs (Decidable (_ < _))

/-- Element `e` is there and in chunk `b`. -/
def Fam (b e : ℕ) : Prop := Valid cw e ∧ chunk kk e = b

instance (b : ℕ) : DecidablePred (Fam cw kk b) := fun e => inferInstanceAs (Decidable (_ ∧ _))

/-- How many elements numbers there are. -/
def M : ℕ := 8388608

/-- How many elements chunk `b` has. -/
def tot (b : ℕ) : ℕ := Nat.count (Fam cw kk b) M

/-- Where chunk `b` begins. -/
def off (b : ℕ) : ℕ := ∑ b' ∈ Finset.range b, tot cw kk b'

/-- The place of element `e`. -/
def gp (e : ℕ) : ℕ := off cw kk (chunk kk e) + Nat.count (Fam cw kk (chunk kk e)) e

variable {cw kk}

theorem off_succ (b : ℕ) : off cw kk (b + 1) = off cw kk b + tot cw kk b := Finset.sum_range_succ _ _

theorem off_mono : Monotone (off cw kk) := monotone_nat_of_le_succ fun b => by rw [off_succ]; omega

theorem gp_seg {e : ℕ} (he : e < M) (hv : Valid cw e) : off cw kk (chunk kk e) ≤ gp cw kk e ∧ gp cw kk e < off cw kk (chunk kk e + 1) := by
  unfold gp
  refine ⟨Nat.le_add_right _ _, ?_⟩
  rw [off_succ]
  exact Nat.add_lt_add_left (Nat.count_strict_mono (p := Fam cw kk (chunk kk e)) ⟨hv, rfl⟩ he) _

theorem gp_seg_iff {e : ℕ} (he : e < M) (hv : Valid cw e) (c : ℕ) : (off cw kk c ≤ gp cw kk e ∧ gp cw kk e < off cw kk (c + 1)) ↔ chunk kk e = c := by
  obtain ⟨h1, h2⟩ := gp_seg (kk := kk) he hv
  constructor
  · rintro ⟨h3, h4⟩
    rcases lt_trichotomy (chunk kk e) c with h | h | h
    · exact absurd (off_mono (cw := cw) (kk := kk) (show chunk kk e + 1 ≤ c from h)) (by omega)
    · exact h
    · exact absurd (off_mono (cw := cw) (kk := kk) (show c + 1 ≤ chunk kk e from h)) (by omega)
  · rintro rfl; exact ⟨h1, h2⟩

theorem gp_inj {e e' : ℕ} (he : e < M) (hv : Valid cw e) (he' : e' < M) (hv' : Valid cw e') (h : gp cw kk e = gp cw kk e') : e = e' := by
  have hc : chunk kk e' = chunk kk e := by
    have := gp_seg (kk := kk) he hv
    rw [h] at this
    exact (gp_seg_iff he' hv' _).mp this
  unfold gp at h
  rw [hc] at h
  exact Nat.count_injective (p := Fam cw kk (chunk kk e)) ⟨hv, rfl⟩ ⟨hv', hc⟩ (by omega)

theorem gp_surj : ∀ (C p : ℕ), p < off cw kk C → ∃ e < M, Valid cw e ∧ gp cw kk e = p
  | 0, p, h => by simp [off] at h
  | C + 1, p, h => by
      by_cases hp : p < off cw kk C
      · exact gp_surj C p hp
      · rw [off_succ] at h
        obtain ⟨e, he, hf, hc⟩ := exists_count (p := Fam cw kk C) M (p - off cw kk C) (by unfold tot at h; omega)
        refine ⟨e, he, hf.1, ?_⟩
        unfold gp
        rw [hf.2, hc]; omega

theorem off_le (hcw : ∀ w < 32, cw w ≤ 259200) (C : ℕ) : off cw kk C ≤ 8294400 := by
  have h : off cw kk C = ((Finset.range M).filter fun e => Valid cw e ∧ chunk kk e < C).card := by
    rw [Finset.card_eq_sum_card_fiberwise (f := chunk kk) (t := Finset.range C)
      (fun e he => by simpa using (Finset.mem_filter.mp he).2.2)]
    refine Finset.sum_congr rfl fun b hb => ?_
    unfold tot
    rw [Nat.count_eq_card_filter_range, Finset.filter_filter]
    refine congrArg Finset.card ?_
    refine Finset.filter_congr fun e _ => ?_
    unfold Fam
    rw [Finset.mem_range] at hb
    constructor
    · rintro ⟨hv, rfl⟩; exact ⟨⟨hv, hb⟩, rfl⟩
    · rintro ⟨⟨hv, -⟩, h⟩; exact ⟨hv, h⟩
  rw [h, ← Finset.card_range 8294400]
  have hval : ∀ e ∈ ((Finset.range M).filter fun e => Valid cw e ∧ chunk kk e < C), e / 262144 < 32 ∧ e % 262144 < 259200 := by
    intro e he
    obtain ⟨hm, hv, -⟩ := Finset.mem_filter.mp he
    rw [Finset.mem_range] at hm
    unfold M at hm
    have h1 : e / 262144 < 32 := by omega
    have := hcw _ h1
    unfold Valid at hv
    exact ⟨h1, by omega⟩
  refine Finset.card_le_card_of_injOn (fun e => e / 262144 * 259200 + e % 262144) ?_ ?_
  · intro e he
    have := hval e he
    rw [Finset.mem_coe, Finset.mem_range]
    dsimp only
    omega
  · intro e he e' he' h
    have := hval e he
    have := hval e' he'
    dsimp only at h
    omega

/-! ## The ordered keys -/

variable {K2 : ℕ → BitVec 32} {T : ℕ}

/-- Place `p` is in segment `c` and its key's low word is `h`. -/
def Seg (cw : ℕ → ℕ) (kk K2 : ℕ → BitVec 32) (c h p : ℕ) : Prop := (off cw kk c ≤ p ∧ p < off cw kk (c + 1)) ∧ low (K2 p) = h

instance (c h : ℕ) : DecidablePred (Seg cw kk K2 c h) := fun p => inferInstanceAs (Decidable (_ ∧ _))

/-- How many of the ordered keys equal the one at place `p`. -/
def mult (cw : ℕ → ℕ) (kk K2 : ℕ → BitVec 32) (p : ℕ) : ℕ := ((Finset.range (off cw kk 782)).filter fun q => K2 q = K2 p).card

/-- The same inside segment `c`, and zero outside. -/
def segMult (cw : ℕ → ℕ) (kk K2 : ℕ → BitVec 32) (c p : ℕ) : ℕ := if off cw kk c ≤ p ∧ p < off cw kk (c + 1) then mult cw kk K2 p else 0

theorem mult_le (hcw : ∀ w < 32, cw w ≤ 259200) (p : ℕ) : mult cw kk K2 p ≤ 8294400 :=
  (Finset.card_filter_le _ _).trans (by rw [Finset.card_range]; exact off_le hcw _)

theorem segMult_lt (hcw : ∀ w < 32, cw w ≤ 259200) (c p : ℕ) : segMult cw kk K2 c p < 2 ^ 31 := by
  unfold segMult
  split
  · exact lt_of_le_of_lt (mult_le hcw p) (by decide)
  · decide

/-- What the order is about: the elements' keys, all of one bin, and the ordered keys. -/
structure Ordered (cw : ℕ → ℕ) (kk K2 : ℕ → BitVec 32) (T : ℕ) : Prop where
  hK : ∀ e < M, Valid cw e → K2 (gp cw kk e) = kk e
  hlt : ∀ e < M, Valid cw e → (kk e).toNat < 1639972864
  hbin : ∀ e < M, Valid cw e → bin (kk e) = T

theorem Ordered.seg (H : Ordered cw kk K2 T) {c p q : ℕ} (hc : c < 782) (hp : off cw kk c ≤ p ∧ p < off cw kk (c + 1)) (hq : q < off cw kk 782) :
    ((off cw kk c ≤ q ∧ q < off cw kk (c + 1)) ∧ low (K2 q) = low (K2 p)) ↔ K2 q = K2 p := by
  have hp' : p < off cw kk 782 := lt_of_lt_of_le hp.2 (off_mono (show c + 1 ≤ 782 by omega))
  obtain ⟨e, he, hv, rfl⟩ := gp_surj _ _ hp'
  obtain ⟨e', he', hv', rfl⟩ := gp_surj _ _ hq
  have h1 := H.hlt e he hv
  have h2 := H.hlt e' he' hv'
  rw [gp_seg_iff he' hv', H.hK e he hv, H.hK e' he' hv']
  have hce := (gp_seg_iff he hv c).mp hp
  constructor
  · rintro ⟨hc', hl⟩
    refine code_ext (by omega) (by omega) (hc'.trans hce.symm) ?_ hl
    rw [H.hbin e he hv, H.hbin e' he' hv']
  · intro h
    refine ⟨?_, by rw [h]⟩
    unfold chunk at hce ⊢
    rw [h]; exact hce

/-- The count of a key's low word in its segment is how many keys equal it. -/
theorem Ordered.count_seg (H : Ordered cw kk K2 T) {c p n : ℕ} (hc : c < 782) (hp : off cw kk c ≤ p ∧ p < off cw kk (c + 1)) (hn : off cw kk (c + 1) ≤ n) :
    Nat.count (Seg cw kk K2 c (low (K2 p))) n = mult cw kk K2 p := by
  have hle : off cw kk (c + 1) ≤ off cw kk 782 := off_mono (show c + 1 ≤ 782 by omega)
  rw [Nat.count_eq_card_filter_range]
  unfold mult
  refine congrArg Finset.card ?_
  ext q
  simp only [Finset.mem_filter, Finset.mem_range]
  constructor
  · rintro ⟨-, hs⟩
    have hq : q < off cw kk 782 := lt_of_lt_of_le hs.1.2 hle
    exact ⟨hq, (H.seg hc hp hq).mp hs⟩
  · rintro ⟨hq, h⟩
    have hs := (H.seg hc hp hq).mpr h
    exact ⟨lt_of_lt_of_le hs.1.2 hn, hs⟩

theorem count_seg_zero {c h n : ℕ} (hn : n ≤ off cw kk c) : Nat.count (Seg cw kk K2 c h) n = 0 := by
  rw [Nat.count_eq_card_filter_range, Finset.card_eq_zero, Finset.filter_eq_empty_iff]
  intro p hp hs
  rw [Finset.mem_range] at hp
  have := hs.1.1
  omega

theorem sum_seg_zero {c n : ℕ} (hn : n ≤ off cw kk c) (wt : ℕ → ℝ) (h0 : wt 0 = 0) :
    ∑ p ∈ Finset.range n, wt (segMult cw kk K2 c p) = 0 := by
  refine Finset.sum_eq_zero fun p hp => ?_
  rw [Finset.mem_range] at hp
  unfold segMult
  rw [if_neg (by omega), h0]

theorem sum_seg {c n : ℕ} (hn : off cw kk (c + 1) ≤ n) (wt : ℕ → ℝ) (h0 : wt 0 = 0) :
    ∑ p ∈ Finset.range (off cw kk c), wt (mult cw kk K2 p) + ∑ p ∈ Finset.range n, wt (segMult cw kk K2 c p)
      = ∑ p ∈ Finset.range (off cw kk (c + 1)), wt (mult cw kk K2 p) := by
  rw [← Finset.sum_range_add_sum_Ico _ (off_mono (cw := cw) (kk := kk) (Nat.le_succ c))]
  refine congrArg (fun z => _ + z) ?_
  have hs : Finset.Ico (off cw kk c) (off cw kk (c + 1)) ⊆ Finset.range n := fun p hp => by
    rw [Finset.mem_Ico] at hp; rw [Finset.mem_range]; omega
  rw [← Finset.sum_subset hs (f := fun p => wt (segMult cw kk K2 c p))]
  · refine Finset.sum_congr rfl fun p hp => ?_
    rw [Finset.mem_Ico] at hp
    unfold segMult
    rw [if_pos hp]
  · intro p _ hp
    rw [Finset.mem_Ico] at hp
    unfold segMult
    rw [if_neg hp, h0]

/-- The elements there are. -/
def elems (cw : ℕ → ℕ) : Finset ℕ := (Finset.range M).filter (Valid cw)

theorem mem_elems {e : ℕ} : e ∈ elems cw ↔ e < M ∧ Valid cw e := by simp [elems]

theorem Ordered.gp_lt (H : Ordered cw kk K2 T) {e : ℕ} (he : e ∈ elems cw) : gp cw kk e < off cw kk 782 := by
  obtain ⟨he, hv⟩ := mem_elems.mp he
  refine lt_of_lt_of_le (gp_seg he hv).2 (off_mono ?_)
  have h1 := H.hlt e he hv
  unfold chunk
  rw [sshift_toNat (by omega)]
  omega

theorem Ordered.sum_places (H : Ordered cw kk K2 T) (f : BitVec 32 → ℝ) :
    ∑ p ∈ Finset.range (off cw kk 782), f (K2 p) = ∑ e ∈ elems cw, f (kk e) := by
  symm
  refine Finset.sum_bij (fun e _ => gp cw kk e) ?_ ?_ ?_ ?_
  · intro e he
    rw [Finset.mem_range]; exact H.gp_lt he
  · intro e he e' he' h
    obtain ⟨he, hv⟩ := mem_elems.mp he
    obtain ⟨he', hv'⟩ := mem_elems.mp he'
    exact gp_inj he hv he' hv' h
  · intro p hp
    rw [Finset.mem_range] at hp
    obtain ⟨e, he, hv, h⟩ := gp_surj _ _ hp
    exact ⟨e, mem_elems.mpr ⟨he, hv⟩, h⟩
  · intro e he
    obtain ⟨he, hv⟩ := mem_elems.mp he
    rw [H.hK e he hv]

/-! ## The keys the runs were made of -/

/-- What the runs hold: run `w` holds the keys of bin `T` of slice `w`, in order. -/
structure Runs (cw : ℕ → ℕ) (kk key : ℕ → BitVec 32) (T : ℕ) : Prop where
  hcw : ∀ w < 32, cw w = cnt (fun j => key (w * 259200 + j)) T 259200
  hkk : ∀ w < 32, ∀ j < 259200, bin (key (w * 259200 + j)) = T → kk (w * 262144 + cnt (fun j => key (w * 259200 + j)) T j) = key (w * 259200 + j)

variable {key : ℕ → BitVec 32}

/-- The keys of bin `T`. -/
def mine (key : ℕ → BitVec 32) (T : ℕ) : Finset ℕ := (Finset.range 8294400).filter fun n => bin (key n) = T

theorem mem_mine {n : ℕ} : n ∈ mine key T ↔ n < 8294400 ∧ bin (key n) = T := by simp [mine]

theorem Runs.cw_le (H : Runs cw kk key T) (w : ℕ) (hw : w < 32) : cw w ≤ 259200 := by
  rw [H.hcw w hw]
  exact Nat.count_le _

/-- The element of key `n`. -/
def elt (key : ℕ → BitVec 32) (T n : ℕ) : ℕ := n / 259200 * 262144 + cnt (fun j => key (n / 259200 * 259200 + j)) T (n % 259200)

theorem slice_eq (n : ℕ) : n / 259200 * 259200 + n % 259200 = n := by omega

theorem Runs.elt_mem (H : Runs cw kk key T) {n : ℕ} (hn : n ∈ mine key T) : elt key T n ∈ elems cw := by
  obtain ⟨hn, hb⟩ := mem_mine.mp hn
  have hw : n / 259200 < 32 := by omega
  have hlt : cnt (fun j => key (n / 259200 * 259200 + j)) T (n % 259200) < cw (n / 259200) := by
    rw [H.hcw _ hw]
    exact Nat.count_strict_mono (p := fun i => bin (key (n / 259200 * 259200 + i)) = T) (by rw [slice_eq]; exact hb) (Nat.mod_lt _ (by decide))
  have hle := H.cw_le _ hw
  rw [mem_elems]
  unfold Valid elt M
  generalize cnt (fun j => key (n / 259200 * 259200 + j)) T (n % 259200) = x at hlt ⊢
  have h1 : (n / 259200 * 262144 + x) / 262144 = n / 259200 := by omega
  have h2 : (n / 259200 * 262144 + x) % 262144 = x := by omega
  rw [h1, h2]
  exact ⟨by omega, hlt⟩

theorem Runs.kk_elt (H : Runs cw kk key T) {n : ℕ} (hn : n ∈ mine key T) : kk (elt key T n) = key n := by
  obtain ⟨hn, hb⟩ := mem_mine.mp hn
  have h := H.hkk (n / 259200) (by omega) (n % 259200) (Nat.mod_lt _ (by decide)) (by rw [slice_eq]; exact hb)
  rw [slice_eq] at h
  exact h

theorem Runs.elt_inj (H : Runs cw kk key T) {n n' : ℕ} (hn : n ∈ mine key T) (hn' : n' ∈ mine key T) (h : elt key T n = elt key T n') : n = n' := by
  have hl : ∀ {n}, n ∈ mine key T → n < 8294400 ∧ cnt (fun j => key (n / 259200 * 259200 + j)) T (n % 259200) ≤ 259200 := by
    intro n hn
    refine ⟨(mem_mine.mp hn).1, ?_⟩
    exact (Nat.count_le _).trans (by omega)
  have h1 := hl hn
  have h2 := hl hn'
  unfold elt at h
  have hw : n / 259200 = n' / 259200 := by omega
  rw [← hw] at h h2
  have hc : cnt (fun j => key (n / 259200 * 259200 + j)) T (n % 259200) = cnt (fun j => key (n / 259200 * 259200 + j)) T (n' % 259200) := by omega
  have := Nat.count_injective (p := fun i => bin (key (n / 259200 * 259200 + i)) = T) (by rw [slice_eq]; exact (mem_mine.mp hn).2)
    (by rw [hw, slice_eq]; exact (mem_mine.mp hn').2) hc
  omega

theorem Runs.elt_surj (H : Runs cw kk key T) {e : ℕ} (he : e ∈ elems cw) : ∃ n ∈ mine key T, elt key T n = e := by
  obtain ⟨he, hv⟩ := mem_elems.mp he
  unfold M at he
  have hw : e / 262144 < 32 := by omega
  unfold Valid at hv
  rw [H.hcw _ hw] at hv
  obtain ⟨j, hj, hb, hc⟩ := exists_count (p := fun i => bin (key (e / 262144 * 259200 + i)) = T) _ _ hv
  have h1 : (e / 262144 * 259200 + j) / 259200 = e / 262144 := by omega
  have h2 : (e / 262144 * 259200 + j) % 259200 = j := by omega
  refine ⟨e / 262144 * 259200 + j, mem_mine.mpr ⟨by omega, hb⟩, ?_⟩
  unfold elt
  rw [h1, h2]
  have hc' : cnt (fun j => key (e / 262144 * 259200 + j)) T j = e % 262144 := hc
  rw [hc']
  omega

theorem Runs.sum_elems (H : Runs cw kk key T) (f : BitVec 32 → ℝ) : ∑ e ∈ elems cw, f (kk e) = ∑ n ∈ mine key T, f (key n) := by
  symm
  refine Finset.sum_bij (fun n _ => elt key T n) (fun n hn => H.elt_mem hn) (fun n hn n' hn' h => H.elt_inj hn hn' h) ?_ ?_
  · intro e he
    obtain ⟨n, hn, h⟩ := H.elt_surj he
    exact ⟨n, hn, h⟩
  · intro n hn
    rw [H.kk_elt hn]

/-- How many keys are the code `k`. -/
def times (key : ℕ → BitVec 32) (k : BitVec 32) : ℕ := ((Finset.range 8294400).filter fun n => key n = k).card

/-- The runs give the order's elements. -/
theorem Runs.ordered (H : Runs cw kk key T) (hlt : ∀ n < 8294400, (key n).toNat < 1639972864)
    (hK : ∀ e < M, Valid cw e → K2 (gp cw kk e) = kk e) : Ordered cw kk K2 T := by
  refine ⟨hK, fun e he hv => ?_, fun e he hv => ?_⟩
  all_goals
    obtain ⟨n, hn, rfl⟩ := H.elt_surj (mem_elems.mpr ⟨he, hv⟩)
    rw [H.kk_elt hn]
  · exact hlt n (mem_mine.mp hn).1
  · exact (mem_mine.mp hn).2

/-- Summed over the places, a weight of how often the key occurs is summed over the keys of the bin. -/
theorem Runs.sum_mult (H : Runs cw kk key T) (HO : Ordered cw kk K2 T) (wt : ℕ → ℝ) :
    ∑ p ∈ Finset.range (off cw kk 782), wt (mult cw kk K2 p) = ∑ n ∈ mine key T, wt (times key (key n)) := by
  have hcount : ∀ k : BitVec 32, bin k = T → ((Finset.range (off cw kk 782)).filter fun q => K2 q = k).card = times key k := by
    intro k hk
    have h1 := HO.sum_places fun x => if x = k then 1 else 0
    have h2 := H.sum_elems fun x => if x = k then 1 else 0
    rw [h2] at h1
    rw [← Finset.sum_filter, ← Finset.sum_filter, Finset.sum_const, Finset.sum_const, nsmul_eq_mul, nsmul_eq_mul, mul_one, mul_one] at h1
    rw [Nat.cast_injective h1]
    unfold times mine
    rw [Finset.filter_filter]
    refine congrArg Finset.card ?_
    refine Finset.filter_congr fun n _ => ?_
    constructor
    · rintro ⟨-, h⟩; exact h
    · rintro rfl; exact ⟨hk, rfl⟩
  have h1 := HO.sum_places fun k => wt ((Finset.range (off cw kk 782)).filter fun q => K2 q = k).card
  have h2 := H.sum_elems fun k => wt ((Finset.range (off cw kk 782)).filter fun q => K2 q = k).card
  rw [h2] at h1
  unfold mult
  rw [h1]
  refine Finset.sum_congr rfl fun n hn => ?_
  rw [hcount _ (mem_mine.mp hn).2]

/-- An element past the blocks of a run is not there. -/
theorem count_gap (hcw : ∀ w < 32, cw w ≤ 259200) {w : ℕ} (hw : w < 32) (b n : ℕ) (hn : cw w ≤ n) (hn' : n ≤ 262144) :
    Nat.count (Fam cw kk b) (w * 262144 + n) = Nat.count (Fam cw kk b) ((w + 1) * 262144) := by
  have h : ∀ d, n + d ≤ 262144 → Nat.count (Fam cw kk b) (w * 262144 + n) = Nat.count (Fam cw kk b) (w * 262144 + (n + d)) := by
    intro d
    induction d with
    | zero => intro; rfl
    | succ d ih =>
      intro hd
      rw [ih (by omega), show w * 262144 + (n + (d + 1)) = (w * 262144 + (n + d)) + 1 by omega, Nat.count_succ, if_neg, add_zero]
      rintro ⟨hv, -⟩
      unfold Valid at hv
      rw [show (w * 262144 + (n + d)) / 262144 = w by omega] at hv
      omega
  rw [h (262144 - n) (by omega)]
  exact congrArg (Nat.count _) (by omega)

end Cert.Seq

end
-- ==== Proof.CountBits.lean ====
/-
  The counting tile's word arithmetic: trip counts, addresses, lane masks and the vectors they select.
-/
module

public import proofs.«01_k».proof.Proof.CountSeq
public import proofs.«01_k».proof.Proof.Tile

@[expose] public section

noncomputable section

namespace Cert.CountBits

open Idealize.ShloMosaic Idealize.ShloMosaic.SparseCore Idealize.ShloMosaic.ValueIdx
open Cert.Partition (bin cnt)
open Cert.Hist (L16 Lanes)
open Cert.Seq

/-! ### Loops -/

theorem divsi_one (x : BitVec 32) : Scalar.divsi x 1#32 = x := by
  unfold Scalar.divsi IntOp.divsi
  rw [if_neg]
  swap
  · rintro (h | h)
    · exact absurd h (by decide)
    · exact absurd h.2 (by decide)
  exact BitVec.sdiv_one

theorem ub_eq (x : BitVec 32) :
    Scalar.addi 0#32 (Scalar.muli (Scalar.divsi (Scalar.subi x 0#32) 1#32) 1#32) = x := by
  rw [divsi_one]
  simp [Scalar.addi, Scalar.muli, Scalar.subi, IntOp.addi, IntOp.muli, IntOp.subi]

theorem lb_eq (x : BitVec 32) : Scalar.addi 0#32 (Scalar.subi x 0#32) = x := by
  simp [Scalar.addi, Scalar.subi, IntOp.addi, IntOp.subi]

theorem iv_eq (k : ℕ) : Scf.iv 0#32 1#32 k = BitVec.ofNat 32 k := by
  simp [Scf.iv]

theorem toInt_ofNat {n : ℕ} (h : n < 2147483648) : (BitVec.ofNat 32 n).toInt = (n : ℤ) := by
  rw [BitVec.toInt_eq_toNat_of_lt (by rw [BitVec.toNat_ofNat]; omega), BitVec.toNat_ofNat, Nat.mod_eq_of_lt (by omega)]

theorem trips_eq {n : ℕ} (h : n < 2147483648) : Scf.trips 0#32 (BitVec.ofNat 32 n) 1#32 = n := by
  unfold Scf.trips
  rw [toInt_ofNat h]
  simp

theorem ok_eq {n : ℕ} (h : n < 2147483648) : Scf.OK 0#32 (BitVec.ofNat 32 n) 1#32 := by
  unfold Scf.OK
  rw [trips_eq h]
  refine ⟨by decide, ?_⟩
  simp
  omega

theorem trips_self (x : BitVec 32) : Scf.trips x x 1#32 = 0 := by
  unfold Scf.trips
  simp

theorem ok_self (x : BitVec 32) : Scf.OK x x 1#32 := by
  unfold Scf.OK
  rw [trips_self]
  refine ⟨by decide, ?_⟩
  have := BitVec.toInt_lt (x := x)
  simpa using this

/-- A counted loop as printed: the main part's trips, -/
theorem main_trips {x : BitVec 32} {n : ℕ} (hx : x = BitVec.ofNat 32 n) (h : n < 2147483648) :
    Scf.trips 0#32 (Scalar.addi 0#32 (Scalar.muli (Scalar.divsi (Scalar.subi x 0#32) 1#32) 1#32)) 1#32 = n := by
  rw [ub_eq, hx, trips_eq h]

theorem main_ok {x : BitVec 32} {n : ℕ} (hx : x = BitVec.ofNat 32 n) (h : n < 2147483648) :
    Scf.OK 0#32 (Scalar.addi 0#32 (Scalar.muli (Scalar.divsi (Scalar.subi x 0#32) 1#32) 1#32)) 1#32 := by
  rw [ub_eq, hx]; exact ok_eq h

/-- and the remainder's, which has none. -/
theorem rest_trips (x : BitVec 32) :
    Scf.trips (Scalar.addi 0#32 (Scalar.muli (Scalar.divsi (Scalar.subi x 0#32) 1#32) 1#32)) (Scalar.addi 0#32 (Scalar.subi x 0#32)) 1#32 = 0 := by
  rw [ub_eq, lb_eq, trips_self]

theorem rest_ok (x : BitVec 32) :
    Scf.OK (Scalar.addi 0#32 (Scalar.muli (Scalar.divsi (Scalar.subi x 0#32) 1#32) 1#32)) (Scalar.addi 0#32 (Scalar.subi x 0#32)) 1#32 := by
  rw [ub_eq, lb_eq]; exact ok_self x

theorem shr_eq {x k n m : ℕ} (hk : k < 32) (hx : x < 2147483648) (hn : n = x / 2 ^ k) (hm : m = k) :
    Scalar.shrsi (BitVec.ofNat 32 x) (BitVec.ofNat 32 m) = BitVec.ofNat 32 n := by
  subst hm
  have h1 : (BitVec.ofNat 32 m).toNat = m := by rw [BitVec.toNat_ofNat]; omega
  have h2 : (BitVec.ofNat 32 x).toNat = x := by rw [BitVec.toNat_ofNat]; omega
  unfold Scalar.shrsi IntOp.shrsi
  rw [if_pos (by rw [h1]; exact hk)]
  refine BitVec.eq_of_toNat_eq ?_
  show ((BitVec.ofNat 32 x).sshiftRight (BitVec.ofNat 32 m).toNat).toNat = _
  rw [h1, sshift_toNat (by rw [h2]; exact hx), h2, BitVec.toNat_ofNat, hn]
  refine (Nat.mod_eq_of_lt ?_).symm
  exact lt_of_le_of_lt (Nat.div_le_self _ _) (by omega)

theorem add_eq (x y : ℕ) : Scalar.addi (BitVec.ofNat 32 x) (BitVec.ofNat 32 y) = BitVec.ofNat 32 (x + y) := (BitVec.ofNat_add ..).symm
theorem mul_eq (x y : ℕ) : Scalar.muli (BitVec.ofNat 32 x) (BitVec.ofNat 32 y) = BitVec.ofNat 32 (x * y) := (BitVec.ofNat_mul ..).symm

theorem sub_eq {x y : ℕ} (h : y ≤ x) (hx : x < 4294967296) : Scalar.subi (BitVec.ofNat 32 x) (BitVec.ofNat 32 y) = BitVec.ofNat 32 (x - y) := by
  refine BitVec.eq_of_toNat_eq ?_
  show (BitVec.ofNat 32 x - BitVec.ofNat 32 y).toNat = _
  rw [BitVec.toNat_sub, BitVec.toNat_ofNat, BitVec.toNat_ofNat, BitVec.toNat_ofNat]
  omega

theorem and_eq {x : ℕ} (h : x < 2147483648) : Scalar.andi (BitVec.ofNat 32 x) 4294967288#32 = BitVec.ofNat 32 (x / 8 * 8) := by
  have h8 : (BitVec.ofNat 32 x &&& 4294967288#32) = (BitVec.ofNat 32 x >>> 3) <<< 3 := by
    refine BitVec.eq_of_getLsbD_eq fun i hi => ?_
    have hm : ∀ j : Fin 32, (4294967288#32).getLsbD j.val = decide (3 ≤ j.val) := by decide
    rw [BitVec.getLsbD_and, hm ⟨i, hi⟩, BitVec.getLsbD_shiftLeft, BitVec.getLsbD_ushiftRight]
    by_cases h3 : i < 3
    · simp [h3]
    · have e : 3 + (i - 3) = i := by omega
      simp [h3, hi, e, Nat.le_of_not_lt h3]
  refine BitVec.eq_of_toNat_eq ?_
  show (BitVec.ofNat 32 x &&& 4294967288#32).toNat = _
  rw [h8, BitVec.toNat_shiftLeft, BitVec.toNat_ushiftRight, BitVec.toNat_ofNat, BitVec.toNat_ofNat, Nat.shiftRight_eq_div_pow, Nat.shiftLeft_eq]
  omega

theorem nat_eq {x : ℕ} (h : x < 4294967296) : (BitVec.ofNat 32 x).toNat = x := by rw [BitVec.toNat_ofNat]; omega

/-! ### Lanes -/

theorem cmp_bool (b : Bool) : BitVec.ofBool b = 1 ↔ b = true := by cases b <;> decide

/-- The lanes below `n`, the vector starting at `s`. -/
def below (s : BitVec 32) (v2 : IVec L16 32) (n : BitVec 32) : IVec L16 1 := cmpi .slt (addi (broadcast L16 s) v2) (broadcast L16 n)

/-- The lanes from `lo` on and below `hi`. -/
def within (s : BitVec 32) (v2 : IVec L16 32) (lo hi : BitVec 32) : IVec L16 1 :=
  andi (cmpi .sge (addi (broadcast L16 s) v2) (broadcast L16 lo)) (cmpi .slt (addi (broadcast L16 s) v2) (broadcast L16 hi))

/-- The lane numbers. -/
def IsIota (v2 : IVec L16 32) : Prop := ∀ l : Fin 16, v2 (ix1 l) = BitVec.ofNat 32 l.val

theorem pos_toInt {v2 : IVec L16 32} (hv : IsIota v2) {a : ℕ} (ha : a + 16 < 2147483648) (l : Fin 16) :
    (addi (broadcast L16 (BitVec.ofNat 32 a)) v2 (ix1 l)).toInt = ((a + l.val : ℕ) : ℤ) := by
  have e : addi (broadcast L16 (BitVec.ofNat 32 a)) v2 (ix1 l) = BitVec.ofNat 32 (a + l.val) := by
    show BitVec.ofNat 32 a + v2 (ix1 l) = _
    rw [hv l, BitVec.ofNat_add]
  rw [e, toInt_ofNat (by omega)]

theorem below_iff {v2 : IVec L16 32} (hv : IsIota v2) {a n : ℕ} (ha : a + 16 < 2147483648) (hn : n < 2147483648) (l : Fin 16) :
    below (BitVec.ofNat 32 a) v2 (BitVec.ofNat 32 n) (ix1 l) = 1 ↔ a + l.val < n := by
  show BitVec.ofBool (BitVec.slt (addi (broadcast L16 (BitVec.ofNat 32 a)) v2 (ix1 l)) (BitVec.ofNat 32 n)) = 1 ↔ _
  rw [cmp_bool, BitVec.slt_iff_toInt_lt, pos_toInt hv ha, toInt_ofNat hn]
  omega

theorem within_iff {v2 : IVec L16 32} (hv : IsIota v2) {a lo hi : ℕ} (ha : a + 16 < 2147483648) (hl : lo < 2147483648) (hh : hi < 2147483648) (l : Fin 16) :
    within (BitVec.ofNat 32 a) v2 (BitVec.ofNat 32 lo) (BitVec.ofNat 32 hi) (ix1 l) = 1 ↔ lo ≤ a + l.val ∧ a + l.val < hi := by
  have h1 : cmpi .sge (addi (broadcast L16 (BitVec.ofNat 32 a)) v2) (broadcast L16 (BitVec.ofNat 32 lo)) (ix1 l) = 1 ↔ lo ≤ a + l.val := by
    show BitVec.ofBool (BitVec.sle (BitVec.ofNat 32 lo) (addi (broadcast L16 (BitVec.ofNat 32 a)) v2 (ix1 l))) = 1 ↔ _
    rw [cmp_bool, BitVec.sle_iff_toInt_le, pos_toInt hv ha, toInt_ofNat hl]
    omega
  have h2 := below_iff hv ha hh l
  have h3 : ∀ x y : BitVec 1, x &&& y = 1 ↔ x = 1 ∧ y = 1 := by decide
  rw [← h1, ← h2]
  exact h3 _ _

/-- The chunk numbers of the words under the mask. -/
def chunks (mask : IVec L16 1) (w : IVec L16 32) : IVec L16 32 := select mask (shrsi w (broadcast L16 21#32)) (broadcast L16 0#32)

theorem chunks_on {mask : IVec L16 1} {w : IVec L16 32} {l : Fin 16} (h : mask (ix1 l) = 1) : chunks mask w (ix1 l) = (w (ix1 l)).sshiftRight 21 := by
  show (if mask (ix1 l) = 1 then IntOp.shrsi .vector (w (ix1 l)) 21#32 else 0#32) = _
  rw [if_pos h]
  rfl

theorem chunks_off {mask : IVec L16 1} {w : IVec L16 32} {l : Fin 16} (h : ¬mask (ix1 l) = 1) : chunks mask w (ix1 l) = 0#32 := by
  show (if mask (ix1 l) = 1 then IntOp.shrsi .vector (w (ix1 l)) 21#32 else 0#32) = _
  rw [if_neg h]

variable {cw : ℕ → ℕ} {kk : ℕ → BitVec 32}

/-- What a vector of a run's words is of the families of chunks. -/
theorem lanes_fam {v2 : IVec L16 32} (hv : IsIota v2) {w a : ℕ} (hcw : cw w ≤ 262144) (ha : a + 16 ≤ 262144)
    (hlt : ∀ e < Seq.M, Valid cw e → (kk e).toNat < 1639972864) (hw : w < 32)
    {word : IVec L16 32} (hword : ∀ l : Fin 16, word (ix1 l) = kk (w * 262144 + a + l.val)) :
    Lanes (Fam cw kk) (w * 262144 + a) (chunks (below (BitVec.ofNat 32 a) v2 (BitVec.ofNat 32 (cw w))) word) (below (BitVec.ofNat 32 a) v2 (BitVec.ofNat 32 (cw w)))
      ∧ ∀ l : Fin 16, (chunks (below (BitVec.ofNat 32 a) v2 (BitVec.ofNat 32 (cw w))) word (ix1 l)).toNat < 782 := by
  have hb : ∀ l, below (BitVec.ofNat 32 a) v2 (BitVec.ofNat 32 (cw w)) (ix1 l) = 1 ↔ Valid cw (w * 262144 + a + l.val) := by
    intro l
    rw [below_iff hv (by omega) (by omega)]
    unfold Valid
    have h1 : (w * 262144 + a + l.val) % 262144 = a + l.val := by omega
    have h2 : (w * 262144 + a + l.val) / 262144 = w := by omega
    rw [h1, h2]
  constructor
  · intro l b
    unfold Fam
    rw [hb l]
    refine and_congr_right fun h => ?_
    rw [chunks_on ((hb l).2 h), hword l]
    exact Iff.rfl
  · intro l
    by_cases h : below (BitVec.ofNat 32 a) v2 (BitVec.ofNat 32 (cw w)) (ix1 l) = 1
    · have hk := hlt _ (by unfold Seq.M; omega) ((hb l).1 h)
      rw [chunks_on h, hword l, sshift_toNat (by omega)]
      omega
    · rw [chunks_off h]; decide

/-- The low words. -/
def lows (w : IVec L16 32) : IVec L16 32 := andi w (broadcast L16 65535#32)

theorem lows_toNat (w : IVec L16 32) (l : Fin 16) : (lows w (ix1 l)).toNat = low (w (ix1 l)) := rfl

/-- What a vector of ordered keys is of the families of low words of a segment. -/
theorem lanes_seg {v2 : IVec L16 32} (hv : IsIota v2) {K2 : ℕ → BitVec 32} {c a : ℕ} (ha : a + 16 < 2147483648)
    (hl : off cw kk c < 2147483648) (hh : off cw kk (c + 1) < 2147483648)
    {word : IVec L16 32} (hword : ∀ l : Fin 16, word (ix1 l) = K2 (a + l.val)) :
    Lanes (Seg cw kk K2 c) a (lows word) (within (BitVec.ofNat 32 a) v2 (BitVec.ofNat 32 (off cw kk c)) (BitVec.ofNat 32 (off cw kk (c + 1)))) := by
  intro l h
  rw [within_iff hv ha hl hh, lows_toNat, hword l]
  exact Iff.rfl

end Cert.CountBits
-- ==== Proof.Moves.lean ====
/-
  A copy awaited at once, and cells anyone may write.
-/
module

public import proofs.«01_k».proof.Proof.Phase

@[expose] public section

noncomputable section

namespace Cert.Moves

open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Phase (Debts)

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig (Option Ix) (Elt F) Name U Lvl)) (𝒱 : Variants) (c : Thread nD τ) (bd : Option 𝒱.V)
variable {α : Type} {Q : α → sProp (MT nD τ sig (Option Ix) (Elt F) Name U Lvl)}

local notation "𝕄" => MT nD τ sig (Option Ix) (Elt F) Name U Lvl

/-- A local copy out of cells held, awaited at once. -/
theorem wp_copyWait [FloatOps F] [Infinite Name] [EC.LandsIn (upEmb : UEmb _ 𝕄)] {sp sp' : Space} {s : Shape} {e : EltTy}
    {src : Memref sig c.2.kind sp s e} {m : Memref sig c.2.kind sp' s e} {sem : DmaSem sig}
    {hsrc hsrc' : src.view.WordExact} {hdst hdst' : m.view.WordExact} {hsem : DmaTarget.Typed (nD := nD) sp (.dma sem) (.here m)}
    {k : PUnit → Prog (TpuEff nD τ sig (Elt F) Λ c.2) α} {q : PosShare TreeShare} {R : Finset (Idx (src.view.loc c))} {fs : Buf (Elt F) (src.view.loc c)}
    {g g' : s.Idx → Elt F e} (hsub : src.view.set ⊆ R) (hread : ∀ x, src.view.read (Elt F) fs x = g' x)
    (hpos : 0 < m.view.dmaCredit) {O : CellTallies nD τ sig (Option Ix)} {W₀ : Waits sig (Option Ix)} :
    iprop((src.view.loc c ↦[R]{q} fs) ∗ has c m g ∗ semVal (c, .dma sem) 0 ∗ Debts c O W₀ ∗ Transfers.MayWaits c none O)
      ⊢ iprop((iprop((src.view.loc c ↦[R]{q} fs) ∗ has c m g' ∗ semVal (c, .dma sem) 0 ∗ Debts c O W₀)
              -∗ wp frame (wpE defs 𝒱 c bd) Set.univ (k ⟨⟩) Q)
          -∗ wp frame (wpE defs 𝒱 c bd) Set.univ (.op (.enqueueDmaAs src (.here m) .same (.dma sem) hsrc hdst hsem)
              fun _ => .op (.waitDma2 sem src m hsrc' hdst') k) Q) := by
  iintro ⟨Hk, H5, Hr, HO, #Hmw⟩ Hcont
  ihave Hk' := (pointsTo_split_subset (q := q) (f := fs) hsub).1 $$ Hk
  icases Hk' with ⟨Hks, Hkr⟩
  iapply (Has.wp_copyIn 𝒱 c bd EC (m := m) (sm := .dma sem) none m.view.dmaCredit rfl hpos) $$ [Hks H5 Hr]
  · isplitl [Hks]; · iexact Hks
    isplitl [H5] <;> iassumption
  iintro HF
  unfold Debts
  icases HO with ⟨%W, %hW, HO⟩
  iapply (Transfers.wp_waitLocalO EC 𝒱 c bd none rfl) $$ [HF HO]
  · isplitl [HF]; · iexact HF
    isplitl [HO]; · iexact HO
    iapply (Transfers.MayWaits.elim (SemLoc.dma sem)) $$ Hmw
  iintro ⟨⟨H5, Hks⟩, Hr, HO⟩
  ihave Hk := (pointsTo_split_subset (q := q) (f := fs) hsub).2 $$ [Hks Hkr]
  · isplitl [Hks] <;> iassumption
  ihave H5 := (Has.has_congr c hread) $$ H5
  ihave HO := (Phase.debts_insert c hW (.dma sem)) $$ HO
  iapply Hcont
  isplitl [Hk]; · iexact Hk
  isplitl [H5]; · iexact H5
  isplitl [Hr]; · iexact Hr
  unfold Debts
  iexact HO

/-- A local copy into cells held, awaited at once. -/
theorem wp_copyOut [FloatOps F] [Infinite Name] [EC.LandsIn (upEmb : UEmb _ 𝕄)] {sp sp' : Space} {s : Shape} {e : EltTy}
    {src : Memref sig c.2.kind sp s e} {m : Memref sig c.2.kind sp' s e} {sem : DmaSem sig}
    {hsrc hsrc' : src.view.WordExact} {hdst hdst' : m.view.WordExact} {hsem : DmaTarget.Typed (nD := nD) sp (.dma sem) (.here m)}
    {k : PUnit → Prog (TpuEff nD τ sig (Elt F) Λ c.2) α}
    {g g' : s.Idx → Elt F e}
    (hpos : 0 < m.view.dmaCredit) {O : CellTallies nD τ sig (Option Ix)} {W₀ : Waits sig (Option Ix)} :
    iprop(has c src g' ∗ has c m g ∗ semVal (c, .dma sem) 0 ∗ Debts c O W₀ ∗ Transfers.MayWaits c none O)
      ⊢ iprop((iprop(has c src g' ∗ has c m g' ∗ semVal (c, .dma sem) 0 ∗ Debts c O W₀)
              -∗ wp frame (wpE defs 𝒱 c bd) Set.univ (k ⟨⟩) Q)
          -∗ wp frame (wpE defs 𝒱 c bd) Set.univ (.op (.enqueueDmaAs src (.here m) .same (.dma sem) hsrc hdst hsem)
              fun _ => .op (.waitDma2 sem src m hsrc' hdst') k) Q) := by
  iintro ⟨Hs, H5, Hr, HO, #Hmw⟩ Hcont
  ihave Hs := (show has c src g' ⊢ (iprop(∃ f : Buf (Elt F) (src.view.loc c), ⌜∀ x, src.view.read (Elt F) f x = g' x⌝ ∗ (src.view.loc c ↦[src.view.set]{fullShare} f)) : sProp 𝕄) from .rfl) $$ Hs
  icases Hs with ⟨%f, %hf, Hs⟩
  iapply (wp_copyWait EC 𝒱 c bd (hsrc' := hsrc') (hdst' := hdst') (q := fullShare) (subset_refl _) hf hpos) $$ [Hs H5 Hr HO]
  · isplitl [Hs]; · iexact Hs
    isplitl [H5]; · iexact H5
    isplitl [Hr]; · iexact Hr
    isplitl [HO]; · iexact HO
    iexact Hmw
  iintro ⟨Hs, H⟩
  iapply Hcont
  isplitl [Hs]
  · iapply (Has.has_intro c src f g' hf) $$ Hs
  iexact H

/-- Cells anyone may write: no one knows what they hold. -/
def Dump (ℓ : Loc nD τ sig) (S : Finset (Idx ℓ)) : sProp 𝕄 := iprop(∃ ι, inv ι iprop(∃ f : Buf (Elt F) ℓ, ℓ ↦[S]{fullShare} f))

instance (ℓ : Loc nD τ sig) (S : Finset (Idx ℓ)) : BI.Persistent (Dump (Ix := Ix) (F := F) (Name := Name) (U := U) (Lvl := Lvl) ℓ S) := by
  unfold Dump; infer_instance

theorem dump_alloc [Infinite Name] (ℓ : Loc nD τ sig) (S : Finset (Idx ℓ)) (f : Buf (Elt F) ℓ) {E : Set Name} :
    (ℓ ↦[S]{fullShare} f : sProp 𝕄) ⊢ iprop(|={E}=> Dump ℓ S) := by
  unfold Dump
  iintro H
  iapply inv_alloc
  iexists f
  iexact H

theorem dump_write {sp : Space} {s : Shape} {e : EltTy} (v : View sig c.2.kind sp s e) (w : s.Idx → Elt F e)
    (S : Finset (Idx (v.loc c))) (hS : v.set ⊆ S) : (Dump (v.loc c) S : sProp 𝕄) ⊢ writeUpdate c v w emp := by
  unfold Dump
  iintro ⟨%ι, #Hinv⟩
  rw [writeUpdate, writeUpdateFrom_def]
  iexists (fun _ => iprop(emp))
  isplitr
  · iempintro
  isplitl
  · rw [writeSteps_def]
    imodintro
    iintro %M %M' _
    imod (inv_acc (Set.mem_univ ι)) $$ Hinv with ⟨⟨%f, H⟩, Hclose⟩
    imodintro
    rw [storeSpec_apply]
    iexists S, f
    isplitl [H]; · iexact H
    isplitr; · ipureintro; exact fun i hi => hS (v.setOn_subset_set _ hi)
    iintro H
    iapply Hclose
    iexists _
    iexact H
  · iintro _
    iempintro

end Cert.Moves

end
-- ==== Proof.CountBase.lean ====
/- The counting tile: its thread, its buffers, what it is handed. -/
module

public import proofs.«01_k».proof.Proof.CountVec
public import proofs.«01_k».proof.Proof.CountBits
public import proofs.«01_k».proof.Proof.Moves
public import proofs.«01_k».proof.Proof.Tile

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

/-- The tile's thread. -/
abbrev thr : Thread nD τ := V d ((i 0).castLE hcore1) ((i 1).castLE hsub1)

/-- The numbers of keys in the runs, as the buffer of sizes holds them. -/
def Sizes (g7 : S64.Idx → Elt F .i32) (cw : ℕ → ℕ) : Prop := ∀ w : Fin 64, w.val < 32 → g7 (ix1 w) = (BitVec.ofNat 32 (cw w.val) : Elt F .i32)

/-- The runs are no longer than a slice, and the very last one leaves room for whole blocks. -/
def Fits (cw : ℕ → ℕ) : Prop := ∀ w < 32, cw w ≤ 259200 ∧ (wid i = 31 → w = 31 → cw w ≤ 259072)

/-- The words of the runs. -/
def Reads (arg2 : Memref sig .scVector .hbm S265420800 .i32) (fk : Buf (Elt F) (arg2.view.loc (thr d i))) (kk : ℕ → BitVec 32) : Prop :=
  ∀ w < 32, ∀ x < 262144, ∀ h : (w * 32 + wid i) * 259200 + x < 265420800,
    arg2.view.read (Elt F) fk (ix1 ⟨(w * 32 + wid i) * 259200 + x, h⟩) = (kk (w * 262144 + x) : Elt F .i32)

/-- The first lane of a vector. -/
theorem first_lane {off : Fin 1 → ℕ} (ho : off = ![0]) {h h'} (v : Vec F S16 .i32) :
    extractAt (s := S1) ![0] (extractStridedSlice S1 off v h) h' = v (ix1 0) := by
  subst ho
  refine congrArg v ?_
  funext a
  have ha : a = 0 := Subsingleton.elim (α := Fin 1) _ _
  subst ha
  rfl

theorem toNat_addr (w b a t : ℕ) (h : ((w * 32 + (2 * b + a)) * 259200 + 1024 * t) < 4294967296) :
    (Scalar.addi (Scalar.muli (Scalar.addi (Scalar.muli (Scf.iv 0#32 1#32 w) 32#32) (Scalar.addi (Scalar.muli (BitVec.ofNat 32 b) 2#32) (BitVec.ofNat 32 a))) 259200#32)
      (Scalar.muli (Scf.iv 0#32 1#32 t) 1024#32)).toNat = (w * 32 + (2 * b + a)) * 259200 + 1024 * t := by
  have hy : (w * 32 + (b * 2 + a)) * 259200 + t * 1024 = (w * 32 + (2 * b + a)) * 259200 + 1024 * t := by omega
  have hx : (w * 32 + (b * 2 + a)) * 259200 + t * 1024 < 4294967296 := lt_of_eq_of_lt hy h
  have e : Scalar.addi (Scalar.muli (Scalar.addi (Scalar.muli (Scf.iv 0#32 1#32 w) 32#32) (Scalar.addi (Scalar.muli (BitVec.ofNat 32 b) 2#32) (BitVec.ofNat 32 a))) 259200#32)
      (Scalar.muli (Scf.iv 0#32 1#32 t) 1024#32) = BitVec.ofNat 32 ((w * 32 + (b * 2 + a)) * 259200 + t * 1024) := by
    rw [iv_eq, iv_eq, mul_eq w 32, mul_eq b 2, add_eq (b * 2) a, add_eq (w * 32) (b * 2 + a), mul_eq (w * 32 + (b * 2 + a)) 259200, mul_eq t 1024, add_eq]
  rw [e, nat_eq hx, hy]

/-- The number of blocks of a run. -/
theorem blocks_eq {n : ℕ} (h : n ≤ 259200) : Scalar.shrsi (Scalar.addi (BitVec.ofNat 32 n) 1023#32) 10#32 = BitVec.ofNat 32 ((n + 1023) / 1024) := by
  rw [add_eq n 1023]
  exact shr_eq (k := 10) (by decide) (by omega) (by norm_num) rfl

theorem iota_isIota : IsIota (iota .scVector S16 32 [0] iota_S16_d0_w32_scVector) := by
  intro l
  change BitVec.ofNat 32 (0 * _ + l.val) = _
  rw [Nat.zero_mul, Nat.zero_add]

/-- Sixteen indices below 782 are cells of a table of 800. -/
theorem inb800 {v : IVec S16 32} (h : ∀ l : Fin 16, (v (ix1 l)).toNat < 782) (a : Fin 1) (x : S16.Idx) : ((![v] : Fin 1 → IVec S16 32) a x).toNat < S800.size a := by
  have ha : a = 0 := Subsingleton.elim _ _
  subst ha
  have := h (x 0)
  rw [eq_ix1 x]
  change (v (ix1 (x 0))).toNat < 800
  omega

/-- A block of the runs, as a copy addresses it. -/
theorem block_read {arg2 : Memref sig .scVector .hbm S265420800 .i32} {fk : Buf (Elt F) (arg2.view.loc (thr d i))} {kk : ℕ → BitVec 32} (hR : Reads d i arg2 fk kk)
    {w t : ℕ} (hw : w < 32) (ht : t < 256) {off : Fin 1 → ℕ} (ho : off = ![(w * 32 + wid i) * 259200 + 1024 * t]) (hb : ∀ a, off a + S1024.size a ≤ S265420800.size a) (x : S1024.Idx) :
    (arg2.slice (Rect.unit (s := S265420800) off S1024.size hb) (fun _ => rfl)).view.read (Elt F) fk x = (kk (w * 262144 + 1024 * t + (x 0).val) : Elt F .i32) := by
  subst ho
  have hx : (x 0).val < 1024 := (x 0).isLt
  have hb0 : (w * 32 + wid i) * 259200 + 1024 * t + 1024 ≤ 265420800 := hb 0
  have h : (w * 32 + wid i) * 259200 + (1024 * t + (x 0).val) < 265420800 := by omega
  have he : (Rect.unit (s := S265420800) (![(w * 32 + wid i) * 259200 + 1024 * t]) S1024.size hb).emb x = (ix1 ⟨_, h⟩ : S265420800.Idx) := by
    funext a
    have ha : a = 0 := Subsingleton.elim (α := Fin 1) _ _
    subst ha
    refine Fin.ext ?_
    change (w * 32 + wid i) * 259200 + 1024 * t + 1 * (x 0).val = (w * 32 + wid i) * 259200 + (1024 * t + (x 0).val)
    omega
  change arg2.view.read (Elt F) fk _ = _
  rw [he, hR w hw (1024 * t + (x 0).val) (by omega) h, Nat.add_assoc]

end Cert.CountTile

end
-- ==== Proof.CountB.lean ====
/- The second sweep over the runs: every key put into its chunk. -/
module

public import proofs.«01_k».proof.Proof.CountBase

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits
open Idealize.ShloMosaic.Transfers (Batch pending batch_alloc' batch_collect' pending_zero)

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

theorem t10_trips {n : ℕ} (h : n ≤ 259200) : (k1_t10_loop (BitVec.ofNat 32 n)).trips = (n + 1023) / 1024 := main_trips (blocks_eq h) (by omega)

theorem t19_trips (v : BitVec 32) : (k1_t19_loop v).trips = 0 := rest_trips _

theorem off10_eq (t9 : Fin k1_t9_loop.trips) (v28 : BitVec 32) (t10 : Fin (k1_t10_loop v28).trips) (h : t10.val < 256) :
    k1_off10 i t9 v28 t10 = ![(t9.val * 32 + wid i) * 259200 + 1024 * t10.val] := by
  have hw := wid_lt i
  have h3 : t9.val < 32 := t9.isLt
  exact congrArg (fun n : ℕ => ![n]) (toNat_addr t9.val (i 1).val (i 0).val t10.val (by change (t9.val * 32 + wid i) * 259200 + 1024 * t10.val < _; omega))

theorem chk6 (t9 : Fin k1_t9_loop.trips) {n : ℕ} (hn : n ≤ 259200 ∧ (wid i = 31 → t9.val = 31 → n ≤ 259072)) : k1_chk6 i t9 (BitVec.ofNat 32 n) := by
  have hw := wid_lt i
  have h3 : t9.val < 32 := t9.isLt
  refine ⟨main_ok (blocks_eq hn.1) (by omega), ?_, rest_ok _, ?_⟩
  · intro t10 a
    have h4 : t10.val < (n + 1023) / 1024 := lt_of_lt_of_eq t10.isLt (t10_trips hn.1)
    have ha : a = 0 := Subsingleton.elim (α := Fin 1) _ _
    subst ha
    rw [off10_eq i t9 _ t10 (by omega)]
    change (t9.val * 32 + wid i) * 259200 + 1024 * t10.val + 1024 ≤ 265420800
    omega
  · intro t19
    exact absurd (lt_of_lt_of_eq t19.isLt (t19_trips _)) (Nat.not_lt_zero _)

/-- Where the tile's region begins. -/
abbrev tb : ℕ := wid i * 8295424

/-- Where element `j` of a block goes: its place in the tile's region, or, if it is not there, beyond all places. -/
def placeN (cw : ℕ → ℕ) (kk : ℕ → BitVec 32) (e0 j : ℕ) : ℕ :=
  if Valid cw (e0 + j) then tb i + Seq.gp cw kk (e0 + j) else tb i + 8295168 + j % 16

variable {cw : ℕ → ℕ} {kk : ℕ → BitVec 32}

theorem gp_bound (hcw : ∀ w < 32, cw w ≤ 259200) {e : ℕ} (he : e < Seq.M) (hv : Valid cw e) : Seq.gp cw kk e < 8294400 :=
  lt_of_lt_of_le (Seq.gp_seg he hv).2 (Seq.off_le hcw _)

theorem placeN_lt (hcw : ∀ w < 32, cw w ≤ 259200) {e0 j : ℕ} (he : e0 + j < Seq.M) : placeN i cw kk e0 j < 265453568 := by
  have hw := wid_lt i
  unfold placeN tb
  split
  · next h => have := gp_bound (kk := kk) hcw he h; omega
  · omega

/-- What sixteen words of a block are to the staging loop. -/
theorem stg_facts (hcw : ∀ w < 32, cw w ≤ 259200) (hlt : ∀ e < Seq.M, Valid cw e → (kk e).toNat < 1639972864) {v2 : IVec S16 32} (hv2 : IsIota v2)
    {w t10 m t : ℕ} (hw : w < 32) (h4 : t10 < 254) (hm : m ≤ 896) (hm' : m % 128 = 0) (ht : t < 8) {word : IVec S16 32}
    (hword : ∀ l : Fin 16, word (ix1 l) = kk (w * 262144 + 1024 * t10 + (m + 16 * t + l.val)))
    {mask : IVec S16 1} {vec : IVec S16 32} {n v4 : BitVec 32} (hn : n = BitVec.ofNat 32 (cw w)) (h4v : v4 = BitVec.ofNat 32 (tb i))
    (hmask : mask = below (Scalar.addi (Scalar.addi (Scalar.muli (Scf.iv 0#32 1#32 t10) 1024#32) (BitVec.ofNat 32 m)) (Scalar.muli (Scf.iv 0#32 1#32 t) 16#32)) v2 n)
    (hvec : vec = chunks mask word) :
    Lanes (Fam cw kk) (w * 262144 + 1024 * t10 + m + 16 * t) vec mask ∧ (∀ l : Fin 16, (vec (ix1 l)).toNat < 782)
      ∧ ∀ l : Fin 16, (mask (ix1 l) = 1 → BitVec.ofNat 32 (placeN i cw kk (w * 262144 + 1024 * t10) (m + 16 * t + l.val))
            = v4 + BitVec.ofNat 32 (Seq.off cw kk (vec (ix1 l)).toNat + Nat.count (Fam cw kk (vec (ix1 l)).toNat) (w * 262144 + 1024 * t10 + m + 16 * t + l.val)))
          ∧ (mask (ix1 l) ≠ 1 → BitVec.ofNat 32 (placeN i cw kk (w * 262144 + 1024 * t10) (m + 16 * t + l.val)) = v4 + 8295168#32 + v2 (ix1 l)) := by
  have hs : Scalar.addi (Scalar.addi (Scalar.muli (Scf.iv 0#32 1#32 t10) 1024#32) (BitVec.ofNat 32 m)) (Scalar.muli (Scf.iv 0#32 1#32 t) 16#32)
      = BitVec.ofNat 32 (1024 * t10 + m + 16 * t) := by
    rw [iv_eq, iv_eq, mul_eq t10 1024, mul_eq t 16, add_eq, add_eq, Nat.mul_comm t10, Nat.mul_comm t]
  rw [hs, hn] at hmask
  have hl := lanes_fam (cw := cw) (kk := kk) hv2 (w := w) (a := 1024 * t10 + m + 16 * t) (by have := hcw w hw; omega) (by omega) hlt hw (word := word)
    (fun l => by rw [hword l]; exact congrArg kk (by omega))
  have hval : ∀ l : Fin 16, mask (ix1 l) = 1 ↔ Valid cw (w * 262144 + 1024 * t10 + (m + 16 * t + l.val)) := by
    intro l
    rw [hmask, below_iff hv2 (by omega) (by have := hcw w hw; omega)]
    unfold Valid
    have h1 : (w * 262144 + 1024 * t10 + (m + 16 * t + l.val)) % 262144 = 1024 * t10 + m + 16 * t + l.val := by omega
    have h2 : (w * 262144 + 1024 * t10 + (m + 16 * t + l.val)) / 262144 = w := by omega
    rw [h1, h2]
  rw [← hmask, ← hvec] at hl
  have ha : w * 262144 + (1024 * t10 + m + 16 * t) = w * 262144 + 1024 * t10 + m + 16 * t := by omega
  rw [ha] at hl
  refine ⟨hl.1, hl.2, fun l => ⟨fun h => ?_, fun h => ?_⟩⟩
  · have hv := (hval l).1 h
    have hb : (vec (ix1 l)).toNat = Seq.chunk kk (w * 262144 + 1024 * t10 + (m + 16 * t + l.val)) := by
      rw [hvec, chunks_on h, hword l]; rfl
    rw [hb, h4v, ← BitVec.ofNat_add]
    unfold placeN
    rw [if_pos hv]
    refine congrArg (BitVec.ofNat 32) ?_
    unfold Seq.gp
    have he : w * 262144 + 1024 * t10 + m + 16 * t + l.val = w * 262144 + 1024 * t10 + (m + 16 * t + l.val) := by simp only [Nat.add_assoc]
    rw [he]
  · have hv : ¬Valid cw (w * 262144 + 1024 * t10 + (m + 16 * t + l.val)) := fun hv => h ((hval l).2 hv)
    unfold placeN
    rw [if_neg hv, h4v, hv2 l, BitVec.ofNat_add, BitVec.ofNat_add]
    have hmod : (m + 16 * t + l.val) % 16 = l.val := by omega
    rw [hmod]

theorem next_eq (a b : ℕ) : a + 1024 * b + 1024 = a + 1024 * (b + 1) := by omega

/-- A word written to a cell that nobody reads. -/
theorem dump_cell (c : Thread nD τ) {n3 : ℕ} (m3 : Memref sig c.2.kind .hbm ⟨1, ![n3]⟩ .i32) (S : Finset (Idx (m3.view.loc c))) (h0) (ax)
    (p : Fin ((⟨1, ![n3]⟩ : Shape).size ax)) (p' : Fin n3) (hp : p.val = p'.val) (h : m3.view.emb (ix1 p') ∈ S) (w : Shape.Idx _ → Elt F .i32) :
    (Moves.Dump (m3.view.loc c) S : sProp 𝕄) ⊢ writeUpdate c (ScatterRows.cellView c m3 h0 ax p) w emp :=
  Moves.dump_write c (ScatterRows.cellView c m3 h0 ax p) w S ((ScatterRows.cellView_set c m3 h0 ax p p' hp).subset.trans (Finset.singleton_subset_iff.mpr h))

variable {arg2 : Memref sig .scVector .hbm S265420800 .i32} (harg2 : arg2.IsWhole)
  {arg3 : Memref sig .scVector .hbm S32x32 .i32} (harg3 : arg3.IsWhole)
  {arg4 : Memref sig .scVector .hbm S32x16 .f32} (harg4 : arg4.IsWhole)
  {arg5 : Memref sig .scVector .hbm S265453568 .i32} (harg5 : arg5.IsWhole)
  {arg6 : Memref sig .scVector .vmem S32x32 .i32} (harg6 : arg6.IsWhole)
  {arg7 : Memref sig .scVector .vmem S64 .i32} (harg7 : arg7.IsWhole)
  {arg8 : Memref sig .scVector .vmem S800 .i32} (harg8 : arg8.IsWhole)
  {arg9 : Memref sig .scVector .vmem S800 .i32} (harg9 : arg9.IsWhole)
  {arg10 : Memref sig .scVector .vmem S800 .i32} (harg10 : arg10.IsWhole)
  {arg11 : Memref sig .scVector .vmem S1024 .i32} (harg11 : arg11.IsWhole)
  {arg12 : Memref sig .scVector .vmem S8x128 .i32} (harg12 : arg12.IsWhole)
  {arg13 : Memref sig .scVector .vmem S512 .i32} (harg13 : arg13.IsWhole)
  {arg14 : Memref sig .scVector .vmem S65536 .i32} (harg14 : arg14.IsWhole)
  {arg15 : Memref sig .scVector .vmem S16 .f32} (harg15 : arg15.IsWhole)
  {arg16 v25_r0 v42_r1 v42_r2 v113_r3 v113_r4 v59_r5 v62_r6 v62_r7 v62_r8 v62_r9 v62_r10 v62_r11 v25_r12 : DmaSems sig S_}

variable {fk : Buf (Elt F) (arg2.view.loc (thr d i))} {q : PosShare TreeShare} {Rg Sd : Finset (Idx (arg5.view.loc (thr d i)))}
  {O : CellTallies nD τ sig (Option Ix)} {W₀ : Waits sig (Option Ix)}

/-- The keys of the first `n` elements are at their places. -/
def Put (arg5 : Memref sig .scVector .hbm S265453568 .i32) (g : Buf (Elt F) (arg5.view.loc (thr d i))) (cw : ℕ → ℕ) (kk : ℕ → BitVec 32) (n : ℕ) : Prop :=
  ∀ e < n, Valid cw e → ∀ p : Fin 265453568, p.val = tb i + Seq.gp cw kk e → arg5.view.read (Elt F) g (ix1 p) = (kk e : Elt F .i32)

/-- The state of the second sweep after `n` elements. -/
def BInv (arg2 : Memref sig .scVector .hbm S265420800 .i32) (arg5 : Memref sig .scVector .hbm S265453568 .i32) (arg10 : Memref sig .scVector .vmem S800 .i32) (arg11 : Memref sig .scVector .vmem S1024 .i32)
    (arg12 : Memref sig .scVector .vmem S8x128 .i32) (arg16 v113_r3 : DmaSems sig S_)
    (cw : ℕ → ℕ) (kk : ℕ → BitVec 32) (fk : Buf (Elt F) (arg2.view.loc (thr d i))) (q : PosShare TreeShare) (Rg Sd : Finset (Idx (arg5.view.loc (thr d i))))
    (O : CellTallies nD τ sig (Option Ix)) (W₀ : Waits sig (Option Ix)) (n : ℕ) : sProp 𝕄 :=
  iprop((arg2.view.loc (thr d i) ↦[Finset.univ]{q} fk) ∗ (∃ g, has (thr d i) arg11 g) ∗ (∃ g, has (thr d i) arg12 g)
    ∗ Tab (thr d i) arg10 (fun b => Seq.off cw kk b + Nat.count (Fam cw kk b) n)
    ∗ (∃ g, (arg5.view.loc (thr d i) ↦[Rg]{fullShare} g) ∗ ⌜Put d i arg5 g cw kk n⌝) ∗ Moves.Dump (arg5.view.loc (thr d i)) Sd
    ∗ semVal (thr d i, .dma arg16.sem) 0 ∗ semVal (thr d i, .dma v113_r3.sem) 0 ∗ Debts (thr d i) O W₀ ∗ Transfers.MayWaits (thr d i) none O)

/-- Where the words of a block go. -/
def place (hcw : ∀ w < 32, cw w ≤ 259200) (kk : ℕ → BitVec 32) {e0 : ℕ} (he : e0 + 1024 ≤ Seq.M) (j : Fin 1024) : Fin 265453568 :=
  ⟨placeN i cw kk e0 j.val, placeN_lt i hcw (by have := j.isLt; omega)⟩

theorem place_val (hcw : ∀ w < 32, cw w ≤ 259200) {e0 : ℕ} (he : e0 + 1024 ≤ Seq.M) (j : Fin 1024) (hv : Valid cw (e0 + j.val)) :
    (place i hcw kk he j).val = tb i + Seq.gp cw kk (e0 + j.val) := if_pos hv

theorem place_inj (hcw : ∀ w < 32, cw w ≤ 259200) {e0 : ℕ} (he : e0 + 1024 ≤ Seq.M) (j j' : Fin 1024) (hv : Valid cw (e0 + j.val)) (hv' : Valid cw (e0 + j'.val))
    (h : place i hcw kk he j = place i hcw kk he j') : j = j' := by
  have h1 := congrArg Fin.val h
  rw [place_val i hcw he j hv, place_val i hcw he j' hv'] at h1
  have := Seq.gp_inj (kk := kk) (by have := j.isLt; omega) hv (by have := j'.isLt; omega) hv' (by omega : Seq.gp cw kk (e0 + j.val) = Seq.gp cw kk (e0 + j'.val))
  exact Fin.ext (by omega)

theorem place_mem (hcw : ∀ w < 32, cw w ≤ 259200) (hRg : ∀ n (h : n < 265453568), tb i ≤ n → n < tb i + 8295168 → arg5.view.emb (ix1 ⟨n, h⟩) ∈ Rg)
    {e0 : ℕ} (he : e0 + 1024 ≤ Seq.M) (j : Fin 1024) (hv : Valid cw (e0 + j.val)) : arg5.view.emb (ix1 (place i hcw kk he j)) ∈ Rg := by
  have h1 := place_val i (kk := kk) hcw he j hv
  have h2 := gp_bound (kk := kk) hcw (by have := j.isLt; omega) hv
  exact hRg _ (place i hcw kk he j).isLt (by omega) (by omega)

theorem place_entry (hcw : ∀ w < 32, cw w ≤ 259200) {e0 : ℕ} (he : e0 + 1024 ≤ Seq.M) {st : S8x128.Idx → Elt F .i32}
    (hst : ∀ x, 128 * (x 0).val + (x 1).val < 1024 → st x = (BitVec.ofNat 32 (placeN i cw kk e0 (128 * (x 0).val + (x 1).val)) : Elt F .i32))
    (j : Fin 1024) : st (Phase.entry (n := 1024) (B := 8) rfl j) = (BitVec.ofNat 32 (place i hcw kk he j).val : Elt F .i32) := by
  have h : 128 * (j.val / 128) + j.val % 128 = j.val := Nat.div_add_mod _ _
  refine (hst (Phase.entry (n := 1024) (B := 8) rfl j) (lt_of_eq_of_lt h j.isLt)).trans ?_
  change BitVec.ofNat 32 (placeN i cw kk e0 (128 * (j.val / 128) + j.val % 128)) = BitVec.ofNat 32 (placeN i cw kk e0 j.val)
  rw [h]

theorem put_next (hcw : ∀ w < 32, cw w ≤ 259200) {e0 : ℕ} (he : e0 + 1024 ≤ Seq.M) {g : Buf (Elt F) (arg5.view.loc (thr d i))} (hg : Put d i arg5 g cw kk e0) :
    Put d i arg5 (Phase.after (thr d i) arg5 (place i hcw kk he) (fun j => Valid cw (e0 + j.val)) (fun j => kk (e0 + j.val)) g) cw kk (e0 + 1024) := by
  intro e hlt hv p hp
  refine (congrFun (Phase.read_after (thr d i) arg5 g) (ix1 p)).trans ?_
  by_cases h0 : e < e0
  · rw [Phase.lineAfter_off]
    · exact hg e h0 hv p hp
    · intro j hj hpj
      have h1 := congrArg Fin.val (Phase.ix1_inj hpj)
      rw [place_val i hcw he j hj, hp] at h1
      have := Seq.gp_inj (kk := kk) (by omega) hv (by have := j.isLt; omega) hj (by omega : Seq.gp cw kk e = Seq.gp cw kk (e0 + j.val))
      omega
  · obtain ⟨j, rfl⟩ : ∃ j, e = e0 + j := ⟨e - e0, by omega⟩
    have hj : j < 1024 := by omega
    have hpj : p = place i hcw kk he ⟨j, hj⟩ := Fin.ext (hp.trans (place_val i hcw he ⟨j, hj⟩ hv).symm)
    rw [hpj]
    exact Phase.lineAfter_at (thr d i) arg5 (place_inj i hcw he) g (t := ⟨j, hj⟩) hv

theorem dump_mem (hcw : ∀ w < 32, cw w ≤ 259200) (hSd : ∀ n (h : n < 265453568), tb i + 8295168 ≤ n → n < tb i + 8295424 → arg5.view.emb (ix1 ⟨n, h⟩) ∈ Sd)
    {e0 : ℕ} (he : e0 + 1024 ≤ Seq.M) (t : Fin 1024) (p : Fin 265453568) (hv : ¬Valid cw (e0 + t.val)) (hp : p.val = (place i hcw kk he t).val) :
    arg5.view.emb (ix1 p) ∈ Sd := by
  have h1 : p.val = tb i + 8295168 + t.val % 16 := hp.trans (if_neg hv)
  have h2 : t.val % 16 < 16 := Nat.mod_lt _ (by decide)
  clear hp
  generalize t.val % 16 = r at h1 h2
  obtain ⟨p, hpl⟩ := p
  exact hSd p hpl (by change p = _ at h1; rw [h1]; exact Nat.le_add_right _ _) (by change p = _ at h1; rw [h1]; clear * - h2; omega)

set_option maxHeartbeats 4000000 in
include EC in
/-- One block. -/
theorem wp_t10 (hR : Reads d i arg2 fk kk) (hcw : ∀ w < 32, cw w ≤ 259200) (hlt : ∀ e < Seq.M, Valid cw e → (kk e).toNat < 1639972864)
    (hRg : ∀ n (h : n < 265453568), tb i ≤ n → n < tb i + 8295168 → arg5.view.emb (ix1 ⟨n, h⟩) ∈ Rg)
    (hSd : ∀ n (h : n < 265453568), tb i + 8295168 ≤ n → n < tb i + 8295424 → arg5.view.emb (ix1 ⟨n, h⟩) ∈ Sd)
    (hcr3 : ∀ h0 ax p, (ScatterRows.cellView (thr d i) arg5 h0 ax p).dmaCredit = 32)
    (hcr5 : ∀ off h h', (arg11.slice (Rect.unit (s := S1024) off ![128] h) h').view.dmaCredit = 128 * 32)
    (t9 : Fin k1_t9_loop.trips) {v2 : IVec S16 32} (hv2 : IsIota v2) {v4 v28 v31 : BitVec 32} (h28 : v28 = BitVec.ofNat 32 (cw t9.val)) (h4v : v4 = BitVec.ofNat 32 (tb i))
    (hw6 : k1_chk6 i t9 v28) (t10 : Fin (k1_t10_loop v28).trips) :
    (BInv d i arg2 arg5 arg10 arg11 arg12 arg16 v113_r3 cw kk fk q Rg Sd O W₀ (t9.val * 262144 + 1024 * t10.val) : sProp 𝕄)
      ⊢ wp frame (wpE (defs₀ (F := F)) Variants.none (thr d i) none) Set.univ
          (k1_t10_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v4 t9 v28 hw6 v31 t10 ⟨⟩)
          (fun _ => BInv d i arg2 arg5 arg10 arg11 arg12 arg16 v113_r3 cw kk fk q Rg Sd O W₀ (t9.val * 262144 + 1024 * (t10.val + 1))) := by
  have h9 : t9.val < 32 := t9.isLt
  have h4 : t10.val < 254 := by
    have := t10.isLt; subst h28
    have h := lt_of_lt_of_eq this (t10_trips (hcw _ h9))
    have := hcw _ h9
    omega
  have he : t9.val * 262144 + 1024 * t10.val + 1024 ≤ Seq.M := by unfold Seq.M; omega
  unfold k1_t10_body
  simp only [k1_part1_eq_skeleton, k1_part2_eq_skeleton, k1_part3_eq_skeleton]
  unfold k1_part1_skel k1_part2_skel k1_part3_skel
  simp only [Prog.bind_assoc, Prog.bind_lift, Prog.pure_eq_ret, Prog.bind_ret, Prog.bind_op]
  unfold BInv
  iintro ⟨Hk, ⟨%g11, H11⟩, ⟨%g12, H12⟩, H10, ⟨%g5, H5, %hg5⟩, #HD, Hs, Hr, HO, #Hmw⟩
  iapply (Moves.wp_copyWait EC Variants.none (thr d i) none (Finset.subset_univ _)
    (block_read d i hR h9 (by omega) (off10_eq i t9 v28 t10 (by omega)) _) (View.dmaCredit_pos _ (by decide))) $$ [Hk H11 Hr HO]
  · isplitl [Hk]; · iexact Hk
    isplitl [H11]; · iexact H11
    isplitl [Hr]; · iexact Hr
    isplitl [HO]; · iexact HO
    iexact Hmw
  iintro ⟨Hk, H11, Hr, HO⟩
  ihave H11 := (show has (F := F) (thr d i) arg11 (fun x => (kk (t9.val * 262144 + 1024 * t10.val + (x 0).val) : Elt F .i32))
      ⊢ (Words (F := F) (thr d i) arg11 (fun x => kk (t9.val * 262144 + 1024 * t10.val + x)) : sProp 𝕄) from .rfl) $$ H11
  ihave H12 := (show has (thr d i) arg12 g12
      ⊢ (Staged (F := F) (thr d i) arg12 (fun j => BitVec.ofNat 32 (placeN i cw kk (t9.val * 262144 + 1024 * t10.val) j)) 0 : sProp 𝕄) from by
    unfold Staged
    iintro H
    iexists _
    isplitl [H]; · iexact H
    ipureintro
    exact fun x hx => absurd hx (Nat.not_lt_zero _)) $$ H12
  ihave H10 := (show (Tab (F := F) (thr d i) arg10 (fun b => Seq.off cw kk b + Nat.count (Fam cw kk b) (t9.val * 262144 + 1024 * t10.val)) : sProp 𝕄)
      ⊢ Tab (F := F) (thr d i) arg10 (fun b => Seq.off cw kk b + Nat.count (Fam cw kk b) (t9.val * 262144 + 1024 * t10.val + 0)) from
    Entails.of_eq (congrArg (fun n : ℕ => (Tab (F := F) (thr d i) arg10 (fun b => Seq.off cw kk b + Nat.count (Fam cw kk b) n) : sProp 𝕄)) (Nat.add_zero _).symm)) $$ H10
  iapply (wp_stgLoop Variants.none (thr d i) none arg11 arg10 arg12 (P := Fam cw kk) (co := Seq.off cw kk) (n₀ := t9.val * 262144 + 1024 * t10.val) (m := 0)
    (val := fun x => kk (t9.val * 262144 + 1024 * t10.val + x)) (gi := fun j => BitVec.ofNat 32 (placeN i cw kk (t9.val * 262144 + 1024 * t10.val) j)) (v4 := v4) (v2 := v2)
    (vec := fun t w => k1_pay39 (F := F) v2 v28 0#32 1#32 t10 t w) (mask := fun t => k1_pay38 v2 v28 0#32 1#32 t10 t) (chk := k1_chk7)
    rfl (by decide) (by decide) (by decide) (fun _ => ClosedOff.eq) (fun _ => ClosedOff.eq) ?_) $$ [H11 H12 H10]
  · intro t w hw
    have h := stg_facts i hcw hlt hv2 h9 h4 (m := 0) (t := t.val) (by decide) (by decide) t.isLt hw (mask := k1_pay38 v2 v28 0#32 1#32 t10 t) (vec := k1_pay39 (F := F) v2 v28 0#32 1#32 t10 t w) (n := v28) h28 (v4 := v4) h4v rfl rfl
    exact ⟨h.1, ⟨inb800 h.2.1, inb800 h.2.1⟩, h.2.2⟩
  · isplitl [H11]; · iexact H11
    isplitl [H12] <;> iassumption
  iintro ⟨H11, H12, H10⟩
  iapply (wp_stgLoop Variants.none (thr d i) none arg11 arg10 arg12 (P := Fam cw kk) (co := Seq.off cw kk) (n₀ := t9.val * 262144 + 1024 * t10.val) (m := 128)
    (val := fun x => kk (t9.val * 262144 + 1024 * t10.val + x)) (gi := fun j => BitVec.ofNat 32 (placeN i cw kk (t9.val * 262144 + 1024 * t10.val) j)) (v4 := v4) (v2 := v2)
    (vec := fun t w => k1_pay45 (F := F) v2 v28 0#32 1#32 t10 t w) (mask := fun t => k1_pay44 v2 v28 0#32 1#32 t10 t) (chk := k1_chk8)
    rfl (by decide) (by decide) (by decide) (fun _ => ClosedOff.eq) (fun _ => ClosedOff.eq) ?_) $$ [H11 H12 H10]
  · intro t w hw
    have h := stg_facts i hcw hlt hv2 h9 h4 (m := 128) (t := t.val) (by decide) (by decide) t.isLt hw (mask := k1_pay44 v2 v28 0#32 1#32 t10 t) (vec := k1_pay45 (F := F) v2 v28 0#32 1#32 t10 t w) (n := v28) h28 (v4 := v4) h4v rfl rfl
    exact ⟨h.1, ⟨inb800 h.2.1, inb800 h.2.1⟩, h.2.2⟩
  · isplitl [H11]; · iexact H11
    isplitl [H12] <;> iassumption
  iintro ⟨H11, H12, H10⟩
  iapply (wp_stgLoop Variants.none (thr d i) none arg11 arg10 arg12 (P := Fam cw kk) (co := Seq.off cw kk) (n₀ := t9.val * 262144 + 1024 * t10.val) (m := 256)
    (val := fun x => kk (t9.val * 262144 + 1024 * t10.val + x)) (gi := fun j => BitVec.ofNat 32 (placeN i cw kk (t9.val * 262144 + 1024 * t10.val) j)) (v4 := v4) (v2 := v2)
    (vec := fun t w => k1_pay51 (F := F) v2 v28 0#32 1#32 t10 t w) (mask := fun t => k1_pay50 v2 v28 0#32 1#32 t10 t) (chk := k1_chk9)
    rfl (by decide) (by decide) (by decide) (fun _ => ClosedOff.eq) (fun _ => ClosedOff.eq) ?_) $$ [H11 H12 H10]
  · intro t w hw
    have h := stg_facts i hcw hlt hv2 h9 h4 (m := 256) (t := t.val) (by decide) (by decide) t.isLt hw (mask := k1_pay50 v2 v28 0#32 1#32 t10 t) (vec := k1_pay51 (F := F) v2 v28 0#32 1#32 t10 t w) (n := v28) h28 (v4 := v4) h4v rfl rfl
    exact ⟨h.1, ⟨inb800 h.2.1, inb800 h.2.1⟩, h.2.2⟩
  · isplitl [H11]; · iexact H11
    isplitl [H12] <;> iassumption
  iintro ⟨H11, H12, H10⟩
  iapply (wp_stgLoop Variants.none (thr d i) none arg11 arg10 arg12 (P := Fam cw kk) (co := Seq.off cw kk) (n₀ := t9.val * 262144 + 1024 * t10.val) (m := 384)
    (val := fun x => kk (t9.val * 262144 + 1024 * t10.val + x)) (gi := fun j => BitVec.ofNat 32 (placeN i cw kk (t9.val * 262144 + 1024 * t10.val) j)) (v4 := v4) (v2 := v2)
    (vec := fun t w => k1_pay57 (F := F) v2 v28 0#32 1#32 t10 t w) (mask := fun t => k1_pay56 v2 v28 0#32 1#32 t10 t) (chk := k1_chk10)
    rfl (by decide) (by decide) (by decide) (fun _ => ClosedOff.eq) (fun _ => ClosedOff.eq) ?_) $$ [H11 H12 H10]
  · intro t w hw
    have h := stg_facts i hcw hlt hv2 h9 h4 (m := 384) (t := t.val) (by decide) (by decide) t.isLt hw (mask := k1_pay56 v2 v28 0#32 1#32 t10 t) (vec := k1_pay57 (F := F) v2 v28 0#32 1#32 t10 t w) (n := v28) h28 (v4 := v4) h4v rfl rfl
    exact ⟨h.1, ⟨inb800 h.2.1, inb800 h.2.1⟩, h.2.2⟩
  · isplitl [H11]; · iexact H11
    isplitl [H12] <;> iassumption
  iintro ⟨H11, H12, H10⟩
  iapply (wp_stgLoop Variants.none (thr d i) none arg11 arg10 arg12 (P := Fam cw kk) (co := Seq.off cw kk) (n₀ := t9.val * 262144 + 1024 * t10.val) (m := 512)
    (val := fun x => kk (t9.val * 262144 + 1024 * t10.val + x)) (gi := fun j => BitVec.ofNat 32 (placeN i cw kk (t9.val * 262144 + 1024 * t10.val) j)) (v4 := v4) (v2 := v2)
    (vec := fun t w => k1_pay63 (F := F) v2 v28 0#32 1#32 t10 t w) (mask := fun t => k1_pay62 v2 v28 0#32 1#32 t10 t) (chk := k1_chk11)
    rfl (by decide) (by decide) (by decide) (fun _ => ClosedOff.eq) (fun _ => ClosedOff.eq) ?_) $$ [H11 H12 H10]
  · intro t w hw
    have h := stg_facts i hcw hlt hv2 h9 h4 (m := 512) (t := t.val) (by decide) (by decide) t.isLt hw (mask := k1_pay62 v2 v28 0#32 1#32 t10 t) (vec := k1_pay63 (F := F) v2 v28 0#32 1#32 t10 t w) (n := v28) h28 (v4 := v4) h4v rfl rfl
    exact ⟨h.1, ⟨inb800 h.2.1, inb800 h.2.1⟩, h.2.2⟩
  · isplitl [H11]; · iexact H11
    isplitl [H12] <;> iassumption
  iintro ⟨H11, H12, H10⟩
  iapply (wp_stgLoop Variants.none (thr d i) none arg11 arg10 arg12 (P := Fam cw kk) (co := Seq.off cw kk) (n₀ := t9.val * 262144 + 1024 * t10.val) (m := 640)
    (val := fun x => kk (t9.val * 262144 + 1024 * t10.val + x)) (gi := fun j => BitVec.ofNat 32 (placeN i cw kk (t9.val * 262144 + 1024 * t10.val) j)) (v4 := v4) (v2 := v2)
    (vec := fun t w => k1_pay69 (F := F) v2 v28 0#32 1#32 t10 t w) (mask := fun t => k1_pay68 v2 v28 0#32 1#32 t10 t) (chk := k1_chk12)
    rfl (by decide) (by decide) (by decide) (fun _ => ClosedOff.eq) (fun _ => ClosedOff.eq) ?_) $$ [H11 H12 H10]
  · intro t w hw
    have h := stg_facts i hcw hlt hv2 h9 h4 (m := 640) (t := t.val) (by decide) (by decide) t.isLt hw (mask := k1_pay68 v2 v28 0#32 1#32 t10 t) (vec := k1_pay69 (F := F) v2 v28 0#32 1#32 t10 t w) (n := v28) h28 (v4 := v4) h4v rfl rfl
    exact ⟨h.1, ⟨inb800 h.2.1, inb800 h.2.1⟩, h.2.2⟩
  · isplitl [H11]; · iexact H11
    isplitl [H12] <;> iassumption
  iintro ⟨H11, H12, H10⟩
  iapply (wp_stgLoop Variants.none (thr d i) none arg11 arg10 arg12 (P := Fam cw kk) (co := Seq.off cw kk) (n₀ := t9.val * 262144 + 1024 * t10.val) (m := 768)
    (val := fun x => kk (t9.val * 262144 + 1024 * t10.val + x)) (gi := fun j => BitVec.ofNat 32 (placeN i cw kk (t9.val * 262144 + 1024 * t10.val) j)) (v4 := v4) (v2 := v2)
    (vec := fun t w => k1_pay75 (F := F) v2 v28 0#32 1#32 t10 t w) (mask := fun t => k1_pay74 v2 v28 0#32 1#32 t10 t) (chk := k1_chk13)
    rfl (by decide) (by decide) (by decide) (fun _ => ClosedOff.eq) (fun _ => ClosedOff.eq) ?_) $$ [H11 H12 H10]
  · intro t w hw
    have h := stg_facts i hcw hlt hv2 h9 h4 (m := 768) (t := t.val) (by decide) (by decide) t.isLt hw (mask := k1_pay74 v2 v28 0#32 1#32 t10 t) (vec := k1_pay75 (F := F) v2 v28 0#32 1#32 t10 t w) (n := v28) h28 (v4 := v4) h4v rfl rfl
    exact ⟨h.1, ⟨inb800 h.2.1, inb800 h.2.1⟩, h.2.2⟩
  · isplitl [H11]; · iexact H11
    isplitl [H12] <;> iassumption
  iintro ⟨H11, H12, H10⟩
  iapply (wp_stgLoop Variants.none (thr d i) none arg11 arg10 arg12 (P := Fam cw kk) (co := Seq.off cw kk) (n₀ := t9.val * 262144 + 1024 * t10.val) (m := 896)
    (val := fun x => kk (t9.val * 262144 + 1024 * t10.val + x)) (gi := fun j => BitVec.ofNat 32 (placeN i cw kk (t9.val * 262144 + 1024 * t10.val) j)) (v4 := v4) (v2 := v2)
    (vec := fun t w => k1_pay81 (F := F) v2 v28 (Scf.iv 0#32 1#32 t10.val) t w) (mask := fun t => k1_pay80 v2 v28 (Scf.iv 0#32 1#32 t10.val) t) (chk := k1_chk14)
    rfl (by decide) (by decide) (by decide) (fun _ => ClosedOff.eq) (fun _ => ClosedOff.eq) ?_) $$ [H11 H12 H10]
  · intro t w hw
    have h := stg_facts i hcw hlt hv2 h9 h4 (m := 896) (t := t.val) (by decide) (by decide) t.isLt hw (mask := k1_pay80 v2 v28 (Scf.iv 0#32 1#32 t10.val) t) (vec := k1_pay81 (F := F) v2 v28 (Scf.iv 0#32 1#32 t10.val) t w) (n := v28) h28 (v4 := v4) h4v rfl rfl
    exact ⟨h.1, ⟨inb800 h.2.1, inb800 h.2.1⟩, h.2.2⟩
  · isplitl [H11]; · iexact H11
    isplitl [H12] <;> iassumption
  iintro ⟨H11, H12, H10⟩
  ihave H11 := (show (Words (F := F) (thr d i) arg11 (fun x => kk (t9.val * 262144 + 1024 * t10.val + x)) : sProp 𝕄) ⊢
      has (F := F) (thr d i) arg11 (fun x => (kk (t9.val * 262144 + 1024 * t10.val + (x 0).val) : Elt F .i32)) from .rfl) $$ H11
  ihave H12 := (show (Staged (F := F) (thr d i) arg12 (fun j => BitVec.ofNat 32 (placeN i cw kk (t9.val * 262144 + 1024 * t10.val) j)) 1024 : sProp 𝕄) ⊢
      iprop(∃ st, has (F := F) (thr d i) arg12 st ∗ ⌜∀ x, 128 * (x 0).val + (x 1).val < 1024 → st x = (BitVec.ofNat 32 (placeN i cw kk (t9.val * 262144 + 1024 * t10.val) (128 * (x 0).val + (x 1).val)) : Elt F .i32)⌝) from .rfl) $$ H12
  icases H12 with ⟨%st, H12, %hst⟩
  ihave Hop := (Phase.open_rows (thr d i) arg5 arg11 arg12 (n := 1024) (B := 8) rfl (p := place i hcw kk he) (V := fun j => Valid cw (t9.val * 262144 + 1024 * t10.val + j.val))
      (Dump := Moves.Dump (arg5.view.loc (thr d i)) Sd) (place_inj i hcw he) (place_mem d i hcw hRg he)) $$ [H11 H12 H5]
  · isplitr; · iexact HD
    isplitl [H11]; · iexact H11
    isplitl [H12] <;> iassumption
  icases Hop with ⟨%f5, %f6, %hf, HT, H3⟩
  imod (batch_alloc' EC (thr d i) (sm := .dma arg16.sem) none 32
    (Phase.leaves (thr d i) arg5 arg11 arg12 (n := 1024) (B := 8) rfl (place i hcw kk he) (fun j => Valid cw (t9.val * 262144 + 1024 * t10.val + j.val)) f5 f6
      (Phase.after (thr d i) arg5 (place i hcw kk he) (fun j => Valid cw (t9.val * 262144 + 1024 * t10.val + j.val)) (fun j => kk (t9.val * 262144 + 1024 * t10.val + j.val)) g5)) (E := Set.univ)) $$ Hs with HB
  ihave HT := (Entails.of_eq (congrArg (fun s => bigSep s (Phase.takes (thr d i) arg5 arg11 arg12 (n := 1024) (B := 8) rfl (place i hcw kk he) (fun j => Valid cw (t9.val * 262144 + 1024 * t10.val + j.val))
    (Moves.Dump (arg5.view.loc (thr d i)) Sd) f5 f6 g5)) pending_zero.symm)) $$ HT
  iterate 8
    iapply (Phase.wp_issue EC Variants.none (thr d i) none arg5 arg11 arg12 rfl (place_inj i hcw he) hf.1 hf.2 none (by decide) (by decide) rfl rfl (hcr3 _ _)
      (fun _ => rfl) (fun j => place_entry i hcw he hst j) (by decide) (fun t p hv hp => dump_cell (thr d i) arg5 Sd _ _ p (place i hcw kk he t) hp (dump_mem d i hcw hSd he t _ hv rfl) _)) $$ [HT HB]
    · isplitl [HT] <;> iassumption
    iintro ⟨HT, HB⟩
  iterate 8
    iapply (Phase.wp_wait Variants.none (thr d i) none EC (hcr5 _ _ _) ?_) $$ [HB HO]
    pick_goal 2
    · isplitl [HB]; · iexact HB
      isplitl [HO]; · iexact HO
      iexact Hmw
    · decide
    iintro ⟨HB, HO⟩
  rw [wp_ret]
  imod (batch_collect' EC (thr d i) (sm := .dma arg16.sem) (N := 32) (by decide)) $$ HB with ⟨HL, Hs⟩
  ihave Hcl := (Phase.close_rows (thr d i) arg5 arg11 arg12 (n := 1024) (B := 8) rfl (p := place i hcw kk he) (V := fun j => Valid cw (t9.val * 262144 + 1024 * t10.val + j.val))
    (place_inj i hcw he) (place_mem d i hcw hRg he) hf.1 hf.2) $$ [HL H3]
  · isplitl [HL] <;> iassumption
  icases Hcl with ⟨H11, H12, H5⟩
  imodintro
  isplitl [Hk]; · iexact Hk
  isplitl [H11]; · iexists _; iexact H11
  isplitl [H12]; · iexists _; iexact H12
  isplitl [H10]
  · iapply (Entails.of_eq (congrArg (fun n : ℕ => (Tab (F := F) (thr d i) arg10 (fun b => Seq.off cw kk b + Nat.count (Fam cw kk b) n) : sProp 𝕄)) (next_eq (t9.val * 262144) t10.val))) $$ H10
  isplitl [H5]
  · iexists _; isplitl [H5]; · iexact H5
    ipureintro
    exact (next_eq (t9.val * 262144) t10.val) ▸ put_next d i hcw he hg5
  isplitr; · iexact HD
  isplitl [Hs]; · iexact Hs
  isplitl [Hr]; · iexact Hr
  isplitl [HO]; · iexact HO
  iexact Hmw

end Cert.CountTile

end
-- ==== Proof.CountPfx.lean ====
/- The running sums of the chunks, and the second sweep over all runs. -/
module

public import proofs.«01_k».proof.Proof.CountB

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

/-- The places of the lanes that a running sum adds up. -/
theorem lanes_upto : ∀ l : Fin 16, ((List.finRange 16).filter fun k => decide (0 < k.val ∧ k.val ≤ l.val)) = ((List.finRange 16).drop 1).take l.val := by decide

variable {s f : ℕ → ℕ}

theorem foldl_upto (hs : ∀ b, s (b + 1) = s b + f b) {u : Fin 16 → BitVec 32} {n : ℕ} (hv : ∀ l : Fin 16, u l = BitVec.ofNat 32 (f (n + l.val))) :
    ∀ m ≤ 15, BitVec.ofNat 32 (s n) + (((List.finRange 16).drop 1).take m).foldl (fun r k => r + u k) (u 0) = BitVec.ofNat 32 (s (n + m + 1)) := by
  intro m
  induction m with
  | zero =>
      intro _
      change BitVec.ofNat 32 (s n) + u 0 = _
      rw [hv 0, hs, ← BitVec.ofNat_add]; rfl
  | succ m ih =>
      intro hm
      have hl : m < ((List.finRange 16).drop 1).length := by simp; omega
      rw [List.take_succ_eq_append_getElem hl, List.foldl_append]
      have he : ((List.finRange 16).drop 1)[m] = (⟨m + 1, by omega⟩ : Fin 16) := by
        rw [List.getElem_drop]; apply Fin.ext; simp; omega
      rw [he]
      change _ + (_ + u ⟨m + 1, by omega⟩) = _
      rw [← BitVec.add_assoc, ih (by omega), hv, ← BitVec.ofNat_add, hs (n + (m + 1))]
      rfl

theorem lane_ix (k : Fin 16) : (Shape.ofLane k : S16.Idx) = ix1 k := by
  funext a
  have ha : a = 0 := Subsingleton.elim (α := Fin 1) _ _
  subst ha
  rfl

theorem scan_eq (hs : ∀ b, s (b + 1) = s b + f b) {v : IVec S16 32} {n : ℕ} (hv : ∀ l : Fin 16, v (ix1 l) = BitVec.ofNat 32 (f (n + l.val))) (l : Fin 16) :
    BitVec.ofNat 32 (s n) + scan .sum v (ix1 l) = BitVec.ofNat 32 (s (n + l.val + 1)) := by
  refine Eq.trans ?_ (foldl_upto hs (u := fun k => v (ix1 k)) hv l.val (by omega))
  rw [← lanes_upto l]
  refine congrArg (fun z => BitVec.ofNat 32 (s n) + z) ?_
  change List.foldl (fun r k => r + v (Shape.ofLane k)) (v (Shape.ofLane (0 : Fin 16))) _ = _
  have e : (fun k : Fin 16 => v (Shape.ofLane k)) = fun k : Fin 16 => v (ix1 k) := funext fun k => congrArg v (lane_ix k)
  exact congrArg (fun u : Fin 16 → BitVec 32 => List.foldl (fun r k => r + u k) (u 0) ((List.finRange 16).filter fun k => decide (0 < k.val ∧ k.val ≤ l.val))) e

theorem pay1_eq (hs : ∀ b, s (b + 1) = s b + f b) {v : Vec F S16 .i32} {n : ℕ} (hv : ∀ l : Fin 16, v (ix1 l) = (BitVec.ofNat 32 (f (n + l.val)) : Elt F .i32)) {c : BitVec 32}
    (hc : c = BitVec.ofNat 32 (s n)) (l : Fin 16) : k1_pay1 c v (ix1 l) = BitVec.ofNat 32 (s (n + l.val)) := by
  have h := scan_eq hs (v := v) hv l
  change scan .sum (v : IVec S16 32) (ix1 l) - v (ix1 l) + c = _
  have h2 : BitVec.ofNat 32 (s (n + l.val + 1)) = BitVec.ofNat 32 (s (n + l.val)) + v (ix1 l) := by
    rw [hv l, hs]; exact BitVec.ofNat_add _ _
  rw [h2] at h
  rw [← hc] at h
  generalize scan .sum (v : IVec S16 32) (ix1 l) = S at h ⊢
  generalize (v (ix1 l) : BitVec 32) = x at h ⊢
  generalize BitVec.ofNat 32 (s (n + l.val)) = y at h ⊢
  clear * - h
  bv_omega

theorem store_in (hs : ∀ b, s (b + 1) = s b + f b) {c : BitVec 32} {t : ℕ} (hc : c = BitVec.ofNat 32 (s (16 * t))) (v : Vec F S16 .i32)
    (hv : ∀ l : Fin 16, v (ix1 l) = (BitVec.ofNat 32 (f (16 * t + l.val)) : Elt F .i32)) (g : S800.Idx → Elt F .i32) {off : Fin 1 → ℕ} (ho : off = ![16 * t])
    (hb : ∀ a, off a + S16.size a ≤ S800.size a) (x : S16.Idx) :
    (fun y : S800.Idx => if 16 * t ≤ (y 0).val ∧ (y 0).val < 16 * (t + 1) then (BitVec.ofNat 32 (s (y 0).val) : Elt F .i32) else g y)
      ((Rect.unit (s := S800) off S16.size hb).emb x) = (k1_pay1 c v : S16.Idx → Elt F .i32) x := by
  subst ho
  have hx : (x 0).val < 16 := (x 0).isLt
  have h0 : ((Rect.unit (s := S800) ![16 * t] S16.size hb).emb x 0).val = 16 * t + (x 0).val := by
    change 16 * t + 1 * (x 0).val = _; omega
  change (if 16 * t ≤ ((Rect.unit (s := S800) ![16 * t] S16.size hb).emb x 0).val ∧ ((Rect.unit (s := S800) ![16 * t] S16.size hb).emb x 0).val < 16 * (t + 1) then
    BitVec.ofNat 32 (s ((Rect.unit (s := S800) ![16 * t] S16.size hb).emb x 0).val) else _) = _
  rw [h0, if_pos (by omega)]
  refine Eq.trans (pay1_eq hs hv hc (x 0)).symm ?_
  exact congrArg (k1_pay1 c v) (eq_ix1 (x : (⟨1, ![16]⟩ : Shape).Idx)).symm

theorem store_out {t : ℕ} (g : S800.Idx → Elt F .i32) {off : Fin 1 → ℕ} (ho : off = ![16 * t])
    (hb : ∀ a, off a + S16.size a ≤ S800.size a) (y : S800.Idx) (hy : y ∉ (Rect.unit (s := S800) off S16.size hb).set) :
    (fun y : S800.Idx => if 16 * t ≤ (y 0).val ∧ (y 0).val < 16 * (t + 1) then (BitVec.ofNat 32 (s (y 0).val) : Elt F .i32) else g y) y = g y := by
  subst ho
  refine if_neg fun h => hy ?_
  rw [LoadRect.mem_set]
  intro a
  have ha : a = 0 := Subsingleton.elim (α := Fin 1) _ _
  subst ha
  refine ⟨(y 0).val - 16 * t, ?_, ?_⟩
  · change (y 0).val - 16 * t < 16; omega
  · change (y 0).val = 16 * t + 1 * ((y 0).val - 16 * t); omega

variable {arg2 : Memref sig .scVector .hbm S265420800 .i32} (harg2 : arg2.IsWhole)
  {arg3 : Memref sig .scVector .hbm S32x32 .i32} (harg3 : arg3.IsWhole)
  {arg4 : Memref sig .scVector .hbm S32x16 .f32} (harg4 : arg4.IsWhole)
  {arg5 : Memref sig .scVector .hbm S265453568 .i32} (harg5 : arg5.IsWhole)
  {arg6 : Memref sig .scVector .vmem S32x32 .i32} (harg6 : arg6.IsWhole)
  {arg7 : Memref sig .scVector .vmem S64 .i32} (harg7 : arg7.IsWhole)
  {arg8 : Memref sig .scVector .vmem S800 .i32} (harg8 : arg8.IsWhole)
  {arg9 : Memref sig .scVector .vmem S800 .i32} (harg9 : arg9.IsWhole)
  {arg10 : Memref sig .scVector .vmem S800 .i32} (harg10 : arg10.IsWhole)
  {arg11 : Memref sig .scVector .vmem S1024 .i32} (harg11 : arg11.IsWhole)
  {arg12 : Memref sig .scVector .vmem S8x128 .i32} (harg12 : arg12.IsWhole)
  {arg13 : Memref sig .scVector .vmem S512 .i32} (harg13 : arg13.IsWhole)
  {arg14 : Memref sig .scVector .vmem S65536 .i32} (harg14 : arg14.IsWhole)
  {arg15 : Memref sig .scVector .vmem S16 .f32} (harg15 : arg15.IsWhole)
  {arg16 v25_r0 v42_r1 v42_r2 v113_r3 v113_r4 v59_r5 v62_r6 v62_r7 v62_r8 v62_r9 v62_r10 v62_r11 v25_r12 : DmaSems sig S_}

/-- A table filled up to cell `n`. -/
def Upto (c : Thread nD τ) (m : Memref sig c.2.kind .vmem S800 .i32) (s : ℕ → ℕ) (n : ℕ) : sProp 𝕄 :=
  iprop(∃ g, has c m g ∗ ⌜∀ b : Fin 800, b.val < n → g (ix1 b) = (BitVec.ofNat 32 (s b.val) : Elt F .i32)⌝)

/-- The state of the running sums after `k` vectors. -/
def PInv (arg8 arg9 arg10 : Memref sig .scVector .vmem S800 .i32) (s f : ℕ → ℕ) (k : ℕ) (c : BitVec 32) : sProp 𝕄 :=
  iprop(⌜c = BitVec.ofNat 32 (s (16 * k))⌝ ∗ Tab (F := F) (thr d i) arg8 f ∗ Upto (F := F) (thr d i) arg9 s (16 * k) ∗ Upto (F := F) (thr d i) arg10 s (16 * k))

theorem upto_next {g : S800.Idx → Elt F .i32} {t : ℕ} (h : ∀ b : Fin 800, b.val < 16 * t → g (ix1 b) = (BitVec.ofNat 32 (s b.val) : Elt F .i32)) (b : Fin 800) (hb : b.val < 16 * (t + 1)) :
    (fun y : S800.Idx => if 16 * t ≤ (y 0).val ∧ (y 0).val < 16 * (t + 1) then (BitVec.ofNat 32 (s (y 0).val) : Elt F .i32) else g y) (ix1 b) = (BitVec.ofNat 32 (s b.val) : Elt F .i32) := by
  change (if 16 * t ≤ b.val ∧ b.val < 16 * (t + 1) then _ else _) = _
  by_cases h0 : 16 * t ≤ b.val
  · rw [if_pos ⟨h0, hb⟩]
  · rw [if_neg fun hc => h0 hc.1]; exact h b (not_le.1 h0)

set_option maxHeartbeats 1000000 in
theorem wp_t8 (hs : ∀ b, s (b + 1) = s b + f b) (t : Fin k1_t8_loop.trips) (c : BitVec 32) :
    (PInv (F := F) d i arg8 arg9 arg10 s f t.val c : sProp 𝕄)
      ⊢ wp frame (wpE (defs₀ (F := F)) Variants.none (thr d i) none) Set.univ
          (k1_t8_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 t c)
          (fun c' => PInv (F := F) d i arg8 arg9 arg10 s f (t.val + 1) c') := by
  unfold k1_t8_body
  simp only [Prog.bind_assoc, Prog.bind_lift, Prog.pure_eq_ret, Prog.bind_ret, Prog.bind_op]
  unfold PInv Tab Upto
  iintro ⟨%hc, ⟨%g8, H8, %h8⟩, ⟨%g9, H9, %h9⟩, ⟨%g10, H10, %h10⟩⟩
  iapply (Has.wp_load Variants.none (thr d i) none) $$ H8
  iintro H8
  generalize hg : (fun x => g8 ((Rect.unit (s := S800) (k1_off8 t) ![16] _).emb x)) = v27
  have ht : t.val < 50 := t.isLt
  have hv : ∀ l : Fin 16, v27 (ix1 l) = (BitVec.ofNat 32 (f (16 * t.val + l.val)) : Elt F .i32) := by
    intro l
    rw [← hg]
    have he : (Rect.unit (s := S800) (k1_off8 t) S16.size (k1_off8_inb t)).emb (ix1 l) = (ix1 ⟨16 * t.val + l.val, by omega⟩ : S800.Idx) := by
      funext a
      have ha : a = 0 := Subsingleton.elim (α := Fin 1) _ _
      subst ha
      refine Fin.ext ?_
      change k1_off8 t 0 + 1 * l.val = 16 * t.val + l.val
      rw [show k1_off8 t = ![16 * t.val] from ClosedOff.eq, Nat.one_mul]
      rfl
    exact (congrArg g8 he).trans (h8 ⟨16 * t.val + l.val, by omega⟩)
  iapply (Has.wp_load Variants.none (thr d i) none) $$ H9
  iintro H9
  iapply (Has.wp_store Variants.none (thr d i) none (fun y => if 16 * t.val ≤ (y 0).val ∧ (y 0).val < 16 * (t.val + 1) then (BitVec.ofNat 32 (s (y 0).val) : Elt F .i32) else g9 y) ?_ ?_) $$ H9
  · intro x
    exact store_in hs hc _ hv _ (show k1_off8 t = ![16 * t.val] from ClosedOff.eq) _ x
  · intro y hy
    exact store_out _ (show k1_off8 t = ![16 * t.val] from ClosedOff.eq) _ y hy
  iintro H9
  iapply (Has.wp_load Variants.none (thr d i) none) $$ H10
  iintro H10
  iapply (Has.wp_store Variants.none (thr d i) none (fun y => if 16 * t.val ≤ (y 0).val ∧ (y 0).val < 16 * (t.val + 1) then (BitVec.ofNat 32 (s (y 0).val) : Elt F .i32) else g10 y) ?_ ?_) $$ H10
  · intro x
    exact store_in hs hc _ hv _ (show k1_off8 t = ![16 * t.val] from ClosedOff.eq) _ x
  · intro y hy
    exact store_out _ (show k1_off8 t = ![16 * t.val] from ClosedOff.eq) _ y hy
  iintro H10
  rw [wp_ret]
  imodintro
  isplitr
  · ipureintro
    refine Eq.trans ?_ (scan_eq hs (v := v27) (n := 16 * t.val) hv 15)
    rw [← hc]
    refine congrArg (c + ·) ?_
    refine Eq.trans ?_ (rfl : k1_pay2 v27 (ix1 15) = scan .sum v27 (ix1 15))
    refine congrArg (k1_pay2 v27) ?_
    funext a
    have ha : a = 0 := Subsingleton.elim (α := Fin 1) _ _
    subst ha
    rfl
  isplitl [H8]
  · iexists g8
    isplitl [H8]; · iexact H8
    ipureintro; exact h8
  isplitl [H9]
  · iexists _
    isplitl [H9]; · iexact H9
    ipureintro; exact upto_next h9
  · iexists _
    isplitl [H10]; · iexact H10
    ipureintro; exact upto_next h10

variable {fk : Buf (Elt F) (arg2.view.loc (thr d i))} {q : PosShare TreeShare} {Rg Sd : Finset (Idx (arg5.view.loc (thr d i)))}
  {O : CellTallies nD τ sig (Option Ix)} {W₀ : Waits sig (Option Ix)} {cw : ℕ → ℕ} {kk : ℕ → BitVec 32}

theorem put_gap {g : Buf (Elt F) (arg5.view.loc (thr d i))} {w n : ℕ} (hn : cw w ≤ n) (hg : Put d i arg5 g cw kk (w * 262144 + n)) : Put d i arg5 g cw kk ((w + 1) * 262144) := by
  intro e he hv
  refine hg e ?_ hv
  unfold Valid at hv
  by_contra hc
  have h1 : e / 262144 = w := by omega
  rw [h1] at hv
  omega

theorem blocks_le (c : ℕ) : c ≤ 1024 * ((c + 1023) / 1024) := by omega

set_option maxHeartbeats 1000000 in
include EC in
/-- One run of the second sweep. -/
theorem wp_t9 (hR : Reads d i arg2 fk kk) (hF : Fits i cw) (hlt : ∀ e < Seq.M, Valid cw e → (kk e).toNat < 1639972864)
    (hRg : ∀ n (h : n < 265453568), tb i ≤ n → n < tb i + 8295168 → arg5.view.emb (ix1 ⟨n, h⟩) ∈ Rg)
    (hSd : ∀ n (h : n < 265453568), tb i + 8295168 ≤ n → n < tb i + 8295424 → arg5.view.emb (ix1 ⟨n, h⟩) ∈ Sd)
    (hcr3 : ∀ h0 ax p, (ScatterRows.cellView (thr d i) arg5 h0 ax p).dmaCredit = 32)
    (hcr5 : ∀ off h h', (arg11.slice (Rect.unit (s := S1024) off ![128] h) h').view.dmaCredit = 128 * 32)
    {g7 : S64.Idx → Elt F .i32} (h7 : Sizes g7 cw)
    (t9 : Fin k1_t9_loop.trips) {v2 : IVec S16 32} (hv2 : IsIota v2) {v1 v4 : BitVec 32} (h4v : v4 = BitVec.ofNat 32 (tb i)) :
    (iprop(has (thr d i) arg7 g7 ∗ BInv d i arg2 arg5 arg10 arg11 arg12 arg16 v113_r3 cw kk fk q Rg Sd O W₀ (t9.val * 262144)) : sProp 𝕄)
      ⊢ wp frame (wpE (defs₀ (F := F)) Variants.none (thr d i) none) Set.univ
          (k1_t9_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v1 v2 v4 t9 ⟨⟩)
          (fun _ => iprop(has (thr d i) arg7 g7 ∗ BInv d i arg2 arg5 arg10 arg11 arg12 arg16 v113_r3 cw kk fk q Rg Sd O W₀ ((t9.val + 1) * 262144))) := by
  have h3 : t9.val < 32 := t9.isLt
  have hn := hF t9.val h3
  unfold k1_t9_body
  simp only [Prog.bind_assoc, Prog.bind_lift, Prog.pure_eq_ret, Prog.bind_ret, Prog.bind_op]
  iintro ⟨H7, HA⟩
  iapply (Has.wp_load Variants.none (thr d i) none) $$ H7
  iintro H7
  generalize hg : (fun x => g7 ((Rect.unit (s := S64) (k1_off9 t9) ![16] _).emb x)) = v26
  have hv : extractAt (s := S1) ![0] (k1_pay3 v26) inpos_S1_p0 = BitVec.ofNat 32 (cw t9.val) := by
    refine (first_lane (F := F) (off := ![0]) (h := slices_S16_o0_S1) rfl v26).trans ?_
    rw [← hg]
    have he : (Rect.unit (s := S64) (k1_off9 t9) S16.size (k1_off9_inb t9)).emb (ix1 0) = (ix1 ⟨t9.val, by omega⟩ : S64.Idx) := by
      funext a
      have ha : a = 0 := Subsingleton.elim (α := Fin 1) _ _
      subst ha
      refine Fin.ext ?_
      change k1_off9 t9 0 + 1 * 0 = t9.val
      rw [show k1_off9 t9 = ![t9.val] from ClosedOff.eq]
      rfl
    exact (congrArg g7 he).trans (h7 ⟨t9.val, by omega⟩ h3)
  iapply (wp_assume (Val := Elt F) (defs := defs₀ (F := F)) Variants.none (thr d i) none Set.univ (by rw [hv]; exact chk6 i t9 hn))
  iapply (Scf.wp_for_bind (M := MT nD τ sig (Option Ix) (Elt F) Name U Lvl) (Fr := frame) (wpE := wpE (defs₀ (F := F)) Variants.none (thr d i) none) (Es := Set.univ) _ _ _ _ _ _
    (fun n _ => BInv d i arg2 arg5 arg10 arg11 arg12 arg16 v113_r3 cw kk fk q Rg Sd O W₀ (t9.val * 262144 + 1024 * n))
    (fun t _ => wp_t10 EC d i harg2 harg3 harg4 harg5 harg6 harg7 harg8 harg9 harg10 harg11 harg12 harg13 harg14 harg15 hR (fun w hw => (hF w hw).1) hlt hRg hSd hcr3 hcr5 t9 hv2 hv h4v _ t)) $$ [HA]
  · rw [Nat.mul_zero, Nat.add_zero]; iexact HA
  iintro %_ HA
  iapply (wp_noLoop Variants.none (thr d i) none (t19_trips _))
  rw [wp_ret]
  imodintro
  isplitl [H7]; · iexact H7
  have hk : (k1_t10_loop (extractAt (s := S1) ![0] (k1_pay3 v26) inpos_S1_p0)).trips = (cw t9.val + 1023) / 1024 := by
    rw [hv]; exact t10_trips hn.1
  ihave HA := (Entails.of_eq (congrArg (fun k => BInv d i arg2 arg5 arg10 arg11 arg12 arg16 v113_r3 cw kk fk q Rg Sd O W₀ (t9.val * 262144 + 1024 * k)) hk)) $$ HA
  unfold BInv
  icases HA with ⟨Hk, H11, H12, HT, ⟨%g5, H5, %hg5⟩, HD, Hs, Hr, HO, Hmw⟩
  isplitl [Hk]; · iexact Hk
  isplitl [H11]; · iexact H11
  isplitl [H12]; · iexact H12
  isplitl [HT]
  · iapply (show (Tab (thr d i) arg10 (fun b => Seq.off cw kk b + Nat.count (Fam cw kk b) (t9.val * 262144 + 1024 * ((cw t9.val + 1023) / 1024))) : sProp 𝕄)
        ⊢ Tab (thr d i) arg10 (fun b => Seq.off cw kk b + Nat.count (Fam cw kk b) ((t9.val + 1) * 262144)) from
      tab_congr (thr d i) arg10 (fun b _ => by rw [Seq.count_gap (fun w hw => (hF w hw).1) h3 b _ (by omega) (by omega)])) $$ HT
  isplitl [H5]
  · iexists g5; isplitl [H5]; · iexact H5
    ipureintro
    exact put_gap d i (blocks_le _) hg5
  isplitl [HD]; · iexact HD
  isplitl [Hs]; · iexact Hs
  isplitl [Hr]; · iexact Hr
  isplitl [HO] <;> iassumption

end Cert.CountTile

end
-- ==== Proof.CountC.lean ====
/- The numbers of a chunk, and what its words are to the three passes. -/
module

public import proofs.«01_k».proof.Proof.CountPfx

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

/-! ## The numbers of a chunk -/

section Arith

variable {lo hi : ℕ}

theorem span_eq (h : lo ≤ hi) (hh : hi ≤ 8294400) : Scalar.subi (BitVec.ofNat 32 hi) (Scalar.andi (BitVec.ofNat 32 lo) 4294967288#32) = BitVec.ofNat 32 (hi - lo / 8 * 8) := by
  rw [and_eq (by omega), sub_eq (by omega) (by omega)]

theorem vecs_eq (h : lo ≤ hi) (hh : hi ≤ 8294400) :
    Scalar.shrsi (Scalar.addi (Scalar.subi (BitVec.ofNat 32 hi) (Scalar.andi (BitVec.ofNat 32 lo) 4294967288#32)) 15#32) 4#32 = BitVec.ofNat 32 ((hi - lo / 8 * 8 + 15) / 16) := by
  rw [span_eq h hh, add_eq _ 15]
  exact shr_eq (k := 4) (by decide) (by omega) (by norm_num) rfl

theorem blks_eq (h : lo ≤ hi) (hh : hi ≤ 8294400) :
    Scalar.shrsi (Scalar.addi (Scalar.subi (BitVec.ofNat 32 hi) (Scalar.andi (BitVec.ofNat 32 lo) 4294967288#32)) 511#32) 9#32 = BitVec.ofNat 32 ((hi - lo / 8 * 8 + 511) / 512) := by
  rw [span_eq h hh, add_eq _ 511]
  exact shr_eq (k := 9) (by decide) (by omega) (by norm_num) rfl

theorem small_of_cond (h : lo ≤ hi) (hh : hi ≤ 8294400) (hc : k1_cond1 (BitVec.ofNat 32 lo) (BitVec.ofNat 32 hi) = 1#1) : hi - lo / 8 * 8 ≤ 512 := by
  by_contra hn
  have h1 : k1_cond1 (BitVec.ofNat 32 lo) (BitVec.ofNat 32 hi) = Scalar.cmpi .ne (Scalar.extui (BitVec.ofBool (BitVec.sle (BitVec.ofNat 32 (hi - lo / 8 * 8)) (BitVec.ofNat 32 512)))) 0#32 :=
    congrArg (fun x => Scalar.cmpi .ne (Scalar.extui (Scalar.cmpi .sle x 512#32)) 0#32) (span_eq h hh)
  have h2 : BitVec.sle (BitVec.ofNat 32 (hi - lo / 8 * 8)) (BitVec.ofNat 32 512) = false := by
    rw [Bool.eq_false_iff, Ne, BitVec.sle_iff_toInt_le, toInt_ofNat (by omega), toInt_ofNat (by omega)]
    omega
  rw [h2] at h1
  rw [h1] at hc
  exact absurd hc (by decide)

theorem vec_off (t : ℕ) (h : t < 64) : (![(Scalar.indexCast (Scalar.muli (Scf.iv 0#32 1#32 t) 16#32)).toNat] : Fin 1 → ℕ) = ![16 * t] := by
  refine congrArg (fun n : ℕ => (![n] : Fin 1 → ℕ)) ?_
  change (Scalar.muli (Scf.iv 0#32 1#32 t) 16#32).toNat = _
  rw [iv_eq, mul_eq t 16, nat_eq (by omega), Nat.mul_comm]

theorem seg_off {a b v : ℕ} (hb : b < 16) (ha : a < 2) (hv : v ≤ 8294400) :
    (Scalar.addi (Scalar.muli (Scalar.addi (Scalar.muli (BitVec.ofNat 32 b) 2#32) (BitVec.ofNat 32 a)) 8295424#32) (Scalar.andi (BitVec.ofNat 32 v) 4294967288#32)).toNat
      = (2 * b + a) * 8295424 + v / 8 * 8 := by
  rw [mul_eq b 2, add_eq, mul_eq _ 8295424, and_eq (by omega), add_eq, nat_eq (by omega), Nat.mul_comm b 2]

theorem blk_off {a b v j : ℕ} (hb : b < 16) (ha : a < 2) (hv : v ≤ 8294400) (hj : j < 16384) :
    (Scalar.addi (Scalar.addi (Scalar.muli (Scalar.addi (Scalar.muli (BitVec.ofNat 32 b) 2#32) (BitVec.ofNat 32 a)) 8295424#32) (Scalar.andi (BitVec.ofNat 32 v) 4294967288#32))
      (Scalar.muli (Scf.iv 0#32 1#32 j) 512#32)).toNat = (2 * b + a) * 8295424 + (v / 8 * 8 + 512 * j) := by
  rw [mul_eq b 2, add_eq, mul_eq _ 8295424, and_eq (by omega), add_eq, iv_eq, mul_eq j 512, add_eq, nat_eq (by omega), Nat.mul_comm b 2, Nat.mul_comm j 512, Nat.add_assoc]

end Arith
theorem t29_trips {lo hi : ℕ} (h : lo ≤ hi) (hh : hi ≤ 8294400) : (k1_t29_loop (BitVec.ofNat 32 lo) (BitVec.ofNat 32 hi)).trips = (hi - lo / 8 * 8 + 15) / 16 := main_trips (vecs_eq h hh) (by omega)

theorem t31_trips {lo hi : ℕ} (h : lo ≤ hi) (hh : hi ≤ 8294400) : (k1_t31_loop (BitVec.ofNat 32 lo) (BitVec.ofNat 32 hi)).trips = (hi - lo / 8 * 8 + 15) / 16 := main_trips (vecs_eq h hh) (by omega)

theorem t33_trips {lo hi : ℕ} (h : lo ≤ hi) (hh : hi ≤ 8294400) : (k1_t33_loop (BitVec.ofNat 32 lo) (BitVec.ofNat 32 hi)).trips = (hi - lo / 8 * 8 + 15) / 16 := main_trips (vecs_eq h hh) (by omega)

theorem t35_trips {lo hi : ℕ} (h : lo ≤ hi) (hh : hi ≤ 8294400) : (k1_t35_loop (BitVec.ofNat 32 lo) (BitVec.ofNat 32 hi)).trips = (hi - lo / 8 * 8 + 511) / 512 := main_trips (blks_eq h hh) (by omega)

theorem t39_trips {lo hi : ℕ} (h : lo ≤ hi) (hh : hi ≤ 8294400) : (k1_t39_loop (BitVec.ofNat 32 lo) (BitVec.ofNat 32 hi)).trips = (hi - lo / 8 * 8 + 511) / 512 := main_trips (blks_eq h hh) (by omega)

theorem t43_trips {lo hi : ℕ} (h : lo ≤ hi) (hh : hi ≤ 8294400) : (k1_t43_loop (BitVec.ofNat 32 lo) (BitVec.ofNat 32 hi)).trips = (hi - lo / 8 * 8 + 511) / 512 := main_trips (blks_eq h hh) (by omega)

theorem t30_trips (v w : BitVec 32) : (k1_t30_loop v w).trips = 0 := rest_trips _

theorem t32_trips (v w : BitVec 32) : (k1_t32_loop v w).trips = 0 := rest_trips _

theorem t34_trips (v w : BitVec 32) : (k1_t34_loop v w).trips = 0 := rest_trips _

theorem t37_trips (v w : BitVec 32) : (k1_t37_loop v w).trips = 0 := rest_trips _

theorem t41_trips (v w : BitVec 32) : (k1_t41_loop v w).trips = 0 := rest_trips _

theorem t45_trips (v w : BitVec 32) : (k1_t45_loop v w).trips = 0 := rest_trips _

theorem off47_eq {v w : BitVec 32} (t : Fin (k1_t29_loop v w).trips) (h : t.val < 64) : k1_off47 v w t = ![16 * t.val] := vec_off t.val h

theorem off49_eq {v w : BitVec 32} (t : Fin (k1_t31_loop v w).trips) (h : t.val < 64) : k1_off49 v w t = ![16 * t.val] := vec_off t.val h

theorem off51_eq {v w : BitVec 32} (t : Fin (k1_t33_loop v w).trips) (h : t.val < 64) : k1_off51 v w t = ![16 * t.val] := vec_off t.val h

theorem off46_eq {lo : ℕ} (h : lo ≤ 8294400) : k1_off46 i (BitVec.ofNat 32 lo) = ![tb i + lo / 8 * 8] :=
  congrArg (fun n : ℕ => (![n] : Fin 1 → ℕ)) (seg_off (i 1).isLt (i 0).isLt h)

theorem off53_eq {lo : ℕ} {w : BitVec 32} (h : lo ≤ 8294400) (t : Fin (k1_t35_loop (BitVec.ofNat 32 lo) w).trips) (ht : t.val < 16384) :
    k1_off53 i (BitVec.ofNat 32 lo) w t = ![tb i + (lo / 8 * 8 + 512 * t.val)] :=
  congrArg (fun n : ℕ => (![n] : Fin 1 → ℕ)) (blk_off (i 1).isLt (i 0).isLt h ht)

theorem off57_eq {lo : ℕ} {w : BitVec 32} (h : lo ≤ 8294400) (t : Fin (k1_t39_loop (BitVec.ofNat 32 lo) w).trips) (ht : t.val < 16384) :
    k1_off57 i (BitVec.ofNat 32 lo) w t = ![tb i + (lo / 8 * 8 + 512 * t.val)] :=
  congrArg (fun n : ℕ => (![n] : Fin 1 → ℕ)) (blk_off (i 1).isLt (i 0).isLt h ht)

theorem off61_eq {lo : ℕ} {w : BitVec 32} (h : lo ≤ 8294400) (t : Fin (k1_t43_loop (BitVec.ofNat 32 lo) w).trips) (ht : t.val < 16384) :
    k1_off61 i (BitVec.ofNat 32 lo) w t = ![tb i + (lo / 8 * 8 + 512 * t.val)] :=
  congrArg (fun n : ℕ => (![n] : Fin 1 → ℕ)) (blk_off (i 1).isLt (i 0).isLt h ht)

theorem chk24 {lo hi : ℕ} (h : lo ≤ hi) (hh : hi ≤ 8294400) : k1_chk24 i (BitVec.ofNat 32 lo) (BitVec.ofNat 32 hi) := by
  have hw := wid_lt i
  have hlo : lo ≤ 8294400 := h.trans hh
  have htb : tb i + 8295424 ≤ 265453568 := by unfold tb; omega
  refine ⟨fun _ a => ?_, fun _ => main_ok (vecs_eq h hh) (by omega),
    fun t hc a => ?_,
    fun _ => rest_ok _,
    fun t _ => absurd (lt_of_lt_of_eq t.isLt (t30_trips _ _)) (Nat.not_lt_zero _),
    fun _ => main_ok (vecs_eq h hh) (by omega),
    fun t hc a => ?_,
    fun _ => rest_ok _,
    fun t _ => absurd (lt_of_lt_of_eq t.isLt (t32_trips _ _)) (Nat.not_lt_zero _),
    fun _ => main_ok (vecs_eq h hh) (by omega),
    fun t hc a => ?_,
    fun _ => rest_ok _,
    fun t _ => absurd (lt_of_lt_of_eq t.isLt (t34_trips _ _)) (Nat.not_lt_zero _),
    fun _ => main_ok (blks_eq h hh) (by omega),
    fun t _ a => ?_,
    fun _ => rest_ok _,
    fun t _ => absurd (lt_of_lt_of_eq t.isLt (t37_trips _ _)) (Nat.not_lt_zero _),
    fun _ => main_ok (blks_eq h hh) (by omega),
    fun t _ a => ?_,
    fun _ => rest_ok _,
    fun t _ => absurd (lt_of_lt_of_eq t.isLt (t41_trips _ _)) (Nat.not_lt_zero _),
    fun _ => main_ok (blks_eq h hh) (by omega),
    fun t _ a => ?_,
    fun _ => rest_ok _,
    fun t _ => absurd (lt_of_lt_of_eq t.isLt (t45_trips _ _)) (Nat.not_lt_zero _)⟩
  · have ha : a = 0 := Subsingleton.elim (α := Fin 1) _ _
    subst ha
    rw [off46_eq i hlo]
    change tb i + lo / 8 * 8 + 512 ≤ 265453568
    omega
  · have hn := small_of_cond h hh hc
    have ht : t.val < (hi - lo / 8 * 8 + 15) / 16 := lt_of_lt_of_eq t.isLt (t29_trips h hh)
    have ha : a = 0 := Subsingleton.elim (α := Fin 1) _ _
    subst ha
    rw [off47_eq t (by omega)]
    change 16 * t.val + 16 ≤ 512
    omega
  · have hn := small_of_cond h hh hc
    have ht : t.val < (hi - lo / 8 * 8 + 15) / 16 := lt_of_lt_of_eq t.isLt (t31_trips h hh)
    have ha : a = 0 := Subsingleton.elim (α := Fin 1) _ _
    subst ha
    rw [off49_eq t (by omega)]
    change 16 * t.val + 16 ≤ 512
    omega
  · have hn := small_of_cond h hh hc
    have ht : t.val < (hi - lo / 8 * 8 + 15) / 16 := lt_of_lt_of_eq t.isLt (t33_trips h hh)
    have ha : a = 0 := Subsingleton.elim (α := Fin 1) _ _
    subst ha
    rw [off51_eq t (by omega)]
    change 16 * t.val + 16 ≤ 512
    omega
  · have ht : t.val < (hi - lo / 8 * 8 + 511) / 512 := lt_of_lt_of_eq t.isLt (t35_trips h hh)
    have ha : a = 0 := Subsingleton.elim (α := Fin 1) _ _
    subst ha
    rw [off53_eq i hlo t (by omega)]
    change tb i + (lo / 8 * 8 + 512 * t.val) + 512 ≤ 265453568
    omega
  · have ht : t.val < (hi - lo / 8 * 8 + 511) / 512 := lt_of_lt_of_eq t.isLt (t39_trips h hh)
    have ha : a = 0 := Subsingleton.elim (α := Fin 1) _ _
    subst ha
    rw [off57_eq i hlo t (by omega)]
    change tb i + (lo / 8 * 8 + 512 * t.val) + 512 ≤ 265453568
    omega
  · have ht : t.val < (hi - lo / 8 * 8 + 511) / 512 := lt_of_lt_of_eq t.isLt (t43_trips h hh)
    have ha : a = 0 := Subsingleton.elim (α := Fin 1) _ _
    subst ha
    rw [off61_eq i hlo t (by omega)]
    change tb i + (lo / 8 * 8 + 512 * t.val) + 512 ≤ 265453568
    omega

theorem chk23 (lo : ℕ) (h : lo ≤ 8294400) : k1_chk23 (BitVec.ofNat 32 lo) := by
  have e : k1_mult1 (BitVec.ofNat 32 lo) = BitVec.ofNat 32 (lo / 8 * 8) := and_eq (by omega)
  show 8 ∣ (k1_mult1 (BitVec.ofNat 32 lo)).toNat
  rw [e, nat_eq (by omega)]
  exact Nat.dvd_mul_left _ _

theorem pos_small {s : BitVec 32} {lo : ℕ} (hs : s = BitVec.ofNat 32 lo) (h : lo ≤ 8294400) (t : ℕ) :
    Scalar.addi (Scalar.andi s 4294967288#32) (Scalar.muli (Scf.iv 0#32 1#32 t) 16#32) = BitVec.ofNat 32 (lo / 8 * 8 + 16 * t) := by
  rw [hs, and_eq (by omega), iv_eq, mul_eq t 16, add_eq, Nat.mul_comm t]

theorem pos_big {s : BitVec 32} {lo : ℕ} (hs : s = BitVec.ofNat 32 lo) (h : lo ≤ 8294400) (j t : ℕ) :
    Scalar.addi (Scalar.addi (Scalar.andi s 4294967288#32) (Scalar.muli (Scf.iv 0#32 1#32 j) 512#32)) (Scalar.muli (Scf.iv 0#32 1#32 t) 16#32)
      = BitVec.ofNat 32 (lo / 8 * 8 + 512 * j + 16 * t) := by
  rw [hs, and_eq (by omega), iv_eq, iv_eq, mul_eq t 16, mul_eq j 512, add_eq, add_eq, Nat.mul_comm t, Nat.mul_comm j]

theorem inb65536 (w : IVec S16 32) (a : Fin 1) (x : S16.Idx) : ((![lows w] : Fin 1 → IVec S16 32) a x).toNat < S65536.size a := by
  have ha : a = 0 := Subsingleton.elim _ _
  subst ha
  exact Seq.low_lt (w x)

variable {cw : ℕ → ℕ} {kk K2 : ℕ → BitVec 32} {c : ℕ}

/-- What sixteen words of a segment are to the three passes. -/
theorem seg_facts (hcw : ∀ w < 32, cw w ≤ 259200) {v2 : IVec S16 32} (hv2 : IsIota v2) {p s e : BitVec 32} {n₀ t : ℕ} (hp : p = BitVec.ofNat 32 (n₀ + 16 * t)) (hn : n₀ + 16 * t < 8300000)
    (hs : s = BitVec.ofNat 32 (Seq.off cw kk c)) (he : e = BitVec.ofNat 32 (Seq.off cw kk (c + 1))) {w : IVec S16 32} (hw : ∀ l : Fin 16, w (ix1 l) = K2 (n₀ + (16 * t + l.val))) :
    Lanes (Seg cw kk K2 c) (n₀ + 16 * t) (lows w) (within p v2 s e) := by
  rw [hp, hs, he]
  have h1 := Seq.off_le (kk := kk) hcw c
  have h2 := Seq.off_le (kk := kk) hcw (c + 1)
  exact lanes_seg hv2 (by omega) (by omega) (by omega) fun l => by rw [hw l, Nat.add_assoc]

theorem add_facts {T : ℕ} (H : Seq.Ordered cw kk K2 T) (hcc : c < 782) (hcw : ∀ w < 32, cw w ≤ 259200) {v2 : IVec S16 32} (hv2 : IsIota v2) {p s e : BitVec 32} {n₀ t N : ℕ} (hN : Seq.off cw kk (c + 1) ≤ N)
    (hp : p = BitVec.ofNat 32 (n₀ + 16 * t)) (hn : n₀ + 16 * t < 8300000)
    (hs : s = BitVec.ofNat 32 (Seq.off cw kk c)) (he : e = BitVec.ofNat 32 (Seq.off cw kk (c + 1))) {w : IVec S16 32} (hw : ∀ l : Fin 16, w (ix1 l) = K2 (n₀ + (16 * t + l.val))) (l : Fin 16) :
    (within p v2 s e (ix1 l) = 1 → 0 + Nat.count (Seg cw kk K2 c (lows w (ix1 l)).toNat) N = Seq.segMult cw kk K2 c (n₀ + 16 * t + l.val))
      ∧ (within p v2 s e (ix1 l) ≠ 1 → Seq.segMult cw kk K2 c (n₀ + 16 * t + l.val) = 0) := by
  have h1 := Seq.off_le (kk := kk) hcw c
  have h2 := Seq.off_le (kk := kk) hcw (c + 1)
  have hi := within_iff (v2 := v2) hv2 (a := n₀ + 16 * t) (lo := Seq.off cw kk c) (hi := Seq.off cw kk (c + 1)) (by omega) (by omega) (by omega) l
  rw [hp, hs, he, lows_toNat, hw l, ← Nat.add_assoc]
  unfold Seq.segMult
  refine ⟨fun h => ?_, fun h => if_neg fun hc => h (hi.2 hc)⟩
  rw [if_pos (hi.1 h), Nat.zero_add]
  exact H.count_seg hcc (hi.1 h) hN

theorem seg_sub {arg5 : Memref sig .scVector .hbm S265453568 .i32} {Rg : Finset (Idx (arg5.view.loc (thr d i)))}
    (hRg : ∀ n (h : n < 265453568), tb i ≤ n → n < tb i + 8295168 → arg5.view.emb (ix1 ⟨n, h⟩) ∈ Rg)
    {a : ℕ} (ha : a + 512 ≤ 8295168) {off : Fin 1 → ℕ} (ho : off = ![tb i + a]) (hb : ∀ x, off x + S512.size x ≤ S265453568.size x) :
    (arg5.slice (Rect.unit (s := S265453568) off S512.size hb) (fun _ => rfl)).view.set ⊆ Rg := by
  subst ho
  intro y hy
  obtain ⟨x, -, rfl⟩ := Finset.mem_map.1 hy
  have hx : (x 0).val < 512 := (x 0).isLt
  have hax : a + (x 0).val < 8295168 := by omega
  have hb0 : tb i + a + 512 ≤ 265453568 := hb 0
  have he : (Rect.unit (s := S265453568) (![tb i + a]) S512.size hb).emb x = (ix1 ⟨tb i + a + (x 0).val, by omega⟩ : S265453568.Idx) := by
    funext b
    have hb : b = 0 := Subsingleton.elim (α := Fin 1) _ _
    subst hb
    refine Fin.ext ?_
    change tb i + a + 1 * (x 0).val = tb i + a + (x 0).val
    omega
  change arg5.view.emb ((Rect.unit (s := S265453568) (![tb i + a]) S512.size hb).emb x) ∈ Rg
  rw [he]
  exact hRg _ _ (by rw [Nat.add_assoc]; exact Nat.le_add_right _ _) (by rw [Nat.add_assoc]; exact Nat.add_lt_add_left hax _)

/-- The ordered keys. -/
def Keys2 (arg5 : Memref sig .scVector .hbm S265453568 .i32) (g : Buf (Elt F) (arg5.view.loc (thr d i))) (K2 : ℕ → BitVec 32) : Prop :=
  ∀ p < 8295168, ∀ h : tb i + p < 265453568, arg5.view.read (Elt F) g (ix1 ⟨tb i + p, h⟩) = (K2 p : Elt F .i32)

theorem seg_read {arg5 : Memref sig .scVector .hbm S265453568 .i32} {g : Buf (Elt F) (arg5.view.loc (thr d i))} (hg : Keys2 d i arg5 g K2)
    {a : ℕ} (ha : a + 512 ≤ 8295168) {off : Fin 1 → ℕ} (ho : off = ![tb i + a]) (hb : ∀ x, off x + S512.size x ≤ S265453568.size x) (x : S512.Idx) :
    (arg5.slice (Rect.unit (s := S265453568) off S512.size hb) (fun _ => rfl)).view.read (Elt F) g x = (K2 (a + (x 0).val) : Elt F .i32) := by
  subst ho
  have hx : (x 0).val < 512 := (x 0).isLt
  have hb0 : tb i + a + 512 ≤ 265453568 := hb 0
  have he : (Rect.unit (s := S265453568) (![tb i + a]) S512.size hb).emb x = (ix1 ⟨tb i + (a + (x 0).val), by omega⟩ : S265453568.Idx) := by
    funext b
    have hb : b = 0 := Subsingleton.elim (α := Fin 1) _ _
    subst hb
    refine Fin.ext ?_
    change tb i + a + 1 * (x 0).val = tb i + (a + (x 0).val)
    omega
  change arg5.view.read (Elt F) g ((Rect.unit (s := S265453568) (![tb i + a]) S512.size hb).emb x) = _
  rw [he]
  exact hg _ (by omega) _

theorem accI_congr {arg15 : Memref sig .scVector .vmem S16 .f32} {S S' : (ℕ → ℝ) → ℝ} (h : ∀ wt : ℕ → ℝ, wt 0 = 0 → S wt = S' wt) :
    (AccI (F := F) (thr d i) arg15 S : sProp 𝕄) ⊢ AccI (F := F) (thr d i) arg15 S' := by
  unfold AccI
  iintro ⟨%a, H, %ha⟩
  iexists a
  isplitl [H]; · iexact H
  ipureintro
  obtain ⟨L, hL, hs⟩ := ha
  exact ⟨L, hL, fun wt h0 => (hs wt h0).trans (h wt h0)⟩

/-- The first word of a vector read, where a chunk starts. -/
abbrev first (v26 : Vec F S16 .i32) : BitVec 32 := extractAt ![0] (k1_pay4 v26) inpos_S1_p0

/-- The first word of a vector read, where a chunk ends. -/
abbrev last (v31 : Vec F S16 .i32) : BitVec 32 := extractAt ![0] (k1_pay5 v31) inpos_S1_p0

/-- Where a vector of a block starts. -/
abbrev bigPos (v26 : Vec F S16 .i32) (t t' : ℕ) : BitVec 32 :=
  Scalar.addi (Scalar.addi (Scalar.andi (first v26) 4294967288#32) (Scalar.muli (Scf.iv 0#32 1#32 t) 512#32)) (Scalar.muli (Scf.iv 0#32 1#32 t') 16#32)

/-- Where a vector of a chunk of one copy starts. -/
abbrev smallPos (v26 : Vec F S16 .i32) (t : ℕ) : BitVec 32 :=
  Scalar.addi (Scalar.andi (first v26) 4294967288#32) (Scalar.muli (Scf.iv 0#32 1#32 t) 16#32)

variable {v2 : IVec S16 32} {v26 v31 : Vec F S16 .i32} {v28 v33 : BitVec 32}

theorem mask6 (t : Fin (k1_t29_loop v28 v33).trips) :
    k1_pay6 v2 v26 v28 v31 v33 t = within (smallPos v26 t.val) v2 (first v26) (last v31) := by
  unfold k1_pay6 within; rfl

theorem acc15 (t : Fin (k1_t31_loop v28 v33).trips) (old : IVec L16 32) (a : FVec F L16 .f32) :
    k1_pay15 v2 v26 v28 v31 v33 t old a = addf a (termVec (within (smallPos v26 t.val) v2 (first v26) (last v31)) old) := by
  unfold k1_pay15 within termVec; rfl

theorem clr19 (t : Fin (k1_t33_loop v28 v33).trips) (v : IVec L16 32) :
    k1_pay19 v2 v26 v28 v31 v33 t v = (scanCount (within (smallPos v26 t.val) v2 (first v26) (last v31)) v).1 := by
  unfold k1_pay19 within; rfl

theorem mask22 (t : Fin (k1_t35_loop v28 v33).trips) (t' : Fin k1_t36_loop.trips) :
    k1_pay22 v2 v26 v28 v31 v33 t t' = within (bigPos v26 t.val t'.val) v2 (first v26) (last v31) := by
  unfold k1_pay22 within; rfl

theorem acc31 (t : Fin (k1_t39_loop v28 v33).trips) (t' : Fin k1_t40_loop.trips) (old : IVec L16 32) (a : FVec F L16 .f32) :
    k1_pay31 v2 v26 v28 v31 v33 t t' old a = addf a (termVec (within (bigPos v26 t.val t'.val) v2 (first v26) (last v31)) old) := by
  unfold k1_pay31 within termVec; rfl

theorem clr35 (t : Fin (k1_t43_loop v28 v33).trips) (t' : Fin k1_t44_loop.trips) (v : IVec L16 32) :
    k1_pay35 v2 v26 v28 v31 v33 t t' v = (scanCount (within (bigPos v26 t.val t'.val) v2 (first v26) (last v31)) v).1 := by
  unfold k1_pay35 within; rfl

end Cert.CountTile

end
-- ==== Proof.CountBody.lean ====
/- The vector loops of a chunk are the loops of the library of vector steps. -/
module

public import proofs.«01_k».proof.Proof.CountC

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

variable {arg2 : Memref sig .scVector .hbm S265420800 .i32} (harg2 : arg2.IsWhole)
  {arg3 : Memref sig .scVector .hbm S32x32 .i32} (harg3 : arg3.IsWhole)
  {arg4 : Memref sig .scVector .hbm S32x16 .f32} (harg4 : arg4.IsWhole)
  {arg5 : Memref sig .scVector .hbm S265453568 .i32} (harg5 : arg5.IsWhole)
  {arg6 : Memref sig .scVector .vmem S32x32 .i32} (harg6 : arg6.IsWhole)
  {arg7 : Memref sig .scVector .vmem S64 .i32} (harg7 : arg7.IsWhole)
  {arg8 : Memref sig .scVector .vmem S800 .i32} (harg8 : arg8.IsWhole)
  {arg9 : Memref sig .scVector .vmem S800 .i32} (harg9 : arg9.IsWhole)
  {arg10 : Memref sig .scVector .vmem S800 .i32} (harg10 : arg10.IsWhole)
  {arg11 : Memref sig .scVector .vmem S1024 .i32} (harg11 : arg11.IsWhole)
  {arg12 : Memref sig .scVector .vmem S8x128 .i32} (harg12 : arg12.IsWhole)
  {arg13 : Memref sig .scVector .vmem S512 .i32} (harg13 : arg13.IsWhole)
  {arg14 : Memref sig .scVector .vmem S65536 .i32} (harg14 : arg14.IsWhole)
  {arg15 : Memref sig .scVector .vmem S16 .f32} (harg15 : arg15.IsWhole)
  {arg16 v25_r0 v42_r1 v42_r2 v113_r3 v113_r4 v59_r5 v62_r6 v62_r7 v62_r8 v62_r9 v62_r10 v62_r11 v25_r12 : DmaSems sig S_}

variable {v2 v3 : IVec S16 32} {v26 v31 : Vec F S16 .i32} {v28 v33 : BitVec 32} (hw24 : k1_chk24 i v28 v33)

theorem body29 (h1 : k1_cond1 v28 v33 = 1#1) :
    k1_t29_body (F := F) i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 v28 v31 v33 hw24 h1
      = fun t' _ => cntBody (F := F) (thr d i) arg13 arg14 (k1_off47 v28 v33 t') (k1_off47_inb i v28 v33 hw24 t' h1) (View.loadsAt_vmem h_S16) (View.loads_vmem h_S65536) (View.stores_vmem_bits_univ h_S65536 rfl) (fun w => k1_pay7 (F := F) w) (k1_pay6 v2 v26 v28 v31 v33 t') (k1_chk25 v28 v33) (k1_chk25.dec v28 v33) (fun v h => k1_idx39_inb v28 v33 v h h1) (fun v h => k1_idx40_inb v28 v33 v h h1) := rfl

theorem body31 (h1 : k1_cond1 v28 v33 = 1#1) :
    k1_t31_body (F := F) i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 v28 v31 v33 hw24 h1
      = fun t' _ => addBody (F := F) (thr d i) arg13 arg14 arg15 (k1_off49 v28 v33 t') (k1_off49_inb i v28 v33 hw24 t' h1) (View.loadsAt_vmem h_S16) (View.loads_vmem h_S65536) inb_S16_S16_0 (View.loadsAt_vmem h_S16) (View.loadsAt_vmem h_S16) (View.stores_vmem_bits_univ h_S16 rfl) (fun w => k1_pay14 (F := F) w) (fun old a => k1_pay15 v2 v26 v28 v31 v33 t' old a) (k1_chk27 v28 v33) (k1_chk27.dec v28 v33) (fun v h => k1_idx43_inb v28 v33 v h h1) := rfl

theorem body33 (h1 : k1_cond1 v28 v33 = 1#1) :
    k1_t33_body (F := F) i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 v26 v28 v31 v33 hw24 h1
      = fun t' _ => clrBody (F := F) (thr d i) arg13 arg14 (k1_off51 v28 v33 t') (k1_off51_inb i v28 v33 hw24 t' h1) (View.loadsAt_vmem h_S16) (View.stores_vmem_bits_univ h_S65536 rfl) (fun w => k1_pay18 (F := F) w) (fun v => k1_pay19 v2 v26 v28 v31 v33 t' v) v3 (k1_chk29 v28 v33) (k1_chk29.dec v28 v33) (fun v h => k1_idx45_inb v28 v33 v h h1) := rfl

theorem body36 (h1 : ¬k1_cond1 v28 v33 = 1#1) (t : Fin (k1_t35_loop v28 v33).trips) :
    k1_t36_body (F := F) i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 v28 v31 v33 h1 t
      = fun t' _ => cntBody (F := F) (thr d i) arg13 arg14 (k1_off54 t') (k1_off54_inb t') (View.loadsAt_vmem h_S16) (View.loads_vmem h_S65536) (View.stores_vmem_bits_univ h_S65536 rfl) (fun w => k1_pay23 (F := F) w) (k1_pay22 v2 v26 v28 v31 v33 t t') (k1_chk31 v28 v33) (k1_chk31.dec v28 v33) (fun v h => k1_idx47_inb v28 v33 v h h1) (fun v h => k1_idx48_inb v28 v33 v h h1) := rfl

theorem body40 (h1 : ¬k1_cond1 v28 v33 = 1#1) (t : Fin (k1_t39_loop v28 v33).trips) :
    k1_t40_body (F := F) i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 v28 v31 v33 h1 t
      = fun t' _ => addBody (F := F) (thr d i) arg13 arg14 arg15 (k1_off58 t') (k1_off58_inb t') (View.loadsAt_vmem h_S16) (View.loads_vmem h_S65536) inb_S16_S16_0 (View.loadsAt_vmem h_S16) (View.loadsAt_vmem h_S16) (View.stores_vmem_bits_univ h_S16 rfl) (fun w => k1_pay30 (F := F) w) (fun old a => k1_pay31 v2 v26 v28 v31 v33 t t' old a) (k1_chk33 v28 v33) (k1_chk33.dec v28 v33) (fun v h => k1_idx51_inb v28 v33 v h h1) := rfl

theorem body44 (h1 : ¬k1_cond1 v28 v33 = 1#1) (t : Fin (k1_t43_loop v28 v33).trips) :
    k1_t44_body (F := F) i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 v26 v28 v31 v33 h1 t
      = fun t' _ => clrBody (F := F) (thr d i) arg13 arg14 (k1_off62 t') (k1_off62_inb t') (View.loadsAt_vmem h_S16) (View.stores_vmem_bits_univ h_S65536 rfl) (fun w => k1_pay34 (F := F) w) (fun v => k1_pay35 v2 v26 v28 v31 v33 t t' v) v3 (k1_chk35 v28 v33) (k1_chk35.dec v28 v33) (fun v h => k1_idx53_inb v28 v33 v h h1) := rfl

end Cert.CountTile

end
-- ==== Proof.CountD.lean ====
/- A chunk longer than one copy: the three passes, block by block. -/
module

public import proofs.«01_k».proof.Proof.CountBody

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

variable {arg2 : Memref sig .scVector .hbm S265420800 .i32} (harg2 : arg2.IsWhole)
  {arg3 : Memref sig .scVector .hbm S32x32 .i32} (harg3 : arg3.IsWhole)
  {arg4 : Memref sig .scVector .hbm S32x16 .f32} (harg4 : arg4.IsWhole)
  {arg5 : Memref sig .scVector .hbm S265453568 .i32} (harg5 : arg5.IsWhole)
  {arg6 : Memref sig .scVector .vmem S32x32 .i32} (harg6 : arg6.IsWhole)
  {arg7 : Memref sig .scVector .vmem S64 .i32} (harg7 : arg7.IsWhole)
  {arg8 : Memref sig .scVector .vmem S800 .i32} (harg8 : arg8.IsWhole)
  {arg9 : Memref sig .scVector .vmem S800 .i32} (harg9 : arg9.IsWhole)
  {arg10 : Memref sig .scVector .vmem S800 .i32} (harg10 : arg10.IsWhole)
  {arg11 : Memref sig .scVector .vmem S1024 .i32} (harg11 : arg11.IsWhole)
  {arg12 : Memref sig .scVector .vmem S8x128 .i32} (harg12 : arg12.IsWhole)
  {arg13 : Memref sig .scVector .vmem S512 .i32} (harg13 : arg13.IsWhole)
  {arg14 : Memref sig .scVector .vmem S65536 .i32} (harg14 : arg14.IsWhole)
  {arg15 : Memref sig .scVector .vmem S16 .f32} (harg15 : arg15.IsWhole)
  {arg16 v25_r0 v42_r1 v42_r2 v113_r3 v113_r4 v59_r5 v62_r6 v62_r7 v62_r8 v62_r9 v62_r10 v62_r11 v25_r12 : DmaSems sig S_}

variable {g5 : Buf (Elt F) (arg5.view.loc (thr d i))} {Rg : Finset (Idx (arg5.view.loc (thr d i)))}
  {O : CellTallies nD τ sig (Option Ix)} {W₀ : Waits sig (Option Ix)} {cw : ℕ → ℕ} {kk K2 : ℕ → BitVec 32} {c : ℕ}

/-- What every pass holds, beside what it changes. -/
def BigI (arg5 : Memref sig .scVector .hbm S265453568 .i32) (arg13 : Memref sig .scVector .vmem S512 .i32) (s : DmaSems sig S_) (g5 : Buf (Elt F) (arg5.view.loc (thr d i)))
    (Rg : Finset (Idx (arg5.view.loc (thr d i)))) (O : CellTallies nD τ sig (Option Ix)) (W₀ : Waits sig (Option Ix)) (P : sProp 𝕄) : sProp 𝕄 :=
  iprop((arg5.view.loc (thr d i) ↦[Rg]{fullShare} g5) ∗ (∃ g, has (F := F) (thr d i) arg13 g) ∗ semVal (thr d i, .dma s.sem) 0 ∗ Debts (thr d i) O W₀ ∗ Transfers.MayWaits (thr d i) none O ∗ P)

theorem words_has (c : Thread nD τ) (m : Memref sig c.2.kind .vmem S512 .i32) {val : ℕ → BitVec 32} : (Words (F := F) c m val : sProp 𝕄) ⊢ iprop(∃ g, has (F := F) c m g) := by
  unfold Words
  iintro H; iexists _; iexact H

theorem blk_next (a b : ℕ) : a + 512 * b + 16 * k1_t36_loop.trips = a + 512 * (b + 1) := by
  rw [show k1_t36_loop.trips = 32 from by decide]; omega

set_option maxHeartbeats 1000000 in
include EC in
theorem wp_t35 (hcw : ∀ w < 32, cw w ≤ 259200) (hg : Keys2 d i arg5 g5 K2) (hRg : ∀ n (h : n < 265453568), tb i ≤ n → n < tb i + 8295168 → arg5.view.emb (ix1 ⟨n, h⟩) ∈ Rg)
    {v2 : IVec S16 32} (hv2 : IsIota v2)
    {v26 v31 : Vec F S16 .i32} {v28 v33 : BitVec 32} (hs : extractAt ![0] (k1_pay4 v26) inpos_S1_p0 = v28) (he : extractAt ![0] (k1_pay5 v31) inpos_S1_p0 = v33)
    (h28 : v28 = BitVec.ofNat 32 (Seq.off cw kk c)) (h33 : v33 = BitVec.ofNat 32 (Seq.off cw kk (c + 1)))
    (hw24 : k1_chk24 i v28 v33) (hc : ¬k1_cond1 v28 v33 = 1#1) (t : Fin (k1_t35_loop v28 v33).trips) :
    (BigI d i arg5 arg13 v62_r6 g5 Rg O W₀ (Tab (F := F) (thr d i) arg14 (fun b => 0 + Nat.count (Seg cw kk K2 c b) (Seq.off cw kk c / 8 * 8 + 512 * t.val))) : sProp 𝕄)
      ⊢ wp frame (wpE (defs₀ (F := F)) Variants.none (thr d i) none) Set.univ
          (k1_t35_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 v28 v31 v33 hw24 hc t ⟨⟩)
          (fun _ => BigI d i arg5 arg13 v62_r6 g5 Rg O W₀ (Tab (F := F) (thr d i) arg14 (fun b => 0 + Nat.count (Seg cw kk K2 c b) (Seq.off cw kk c / 8 * 8 + 512 * (t.val + 1))))) := by
  have hlh := Seq.off_mono (cw := cw) (kk := kk) (Nat.le_succ c)
  have hhi := Seq.off_le (kk := kk) hcw (c + 1)
  have hlo := hlh.trans hhi
  have ht : t.val < (Seq.off cw kk (c + 1) - Seq.off cw kk c / 8 * 8 + 511) / 512 := by
    have := t.isLt; subst h28; subst h33; exact lt_of_lt_of_eq this (t35_trips hlh hhi)
  have ho : k1_off53 i v28 v33 t = ![tb i + (Seq.off cw kk c / 8 * 8 + 512 * t.val)] := by
    subst h28; exact off53_eq i hlo t (by omega)
  have hA : Seq.off cw kk c / 8 * 8 + 512 * t.val + 512 ≤ 8295168 := by omega
  have hsub := seg_sub d i hRg hA ho (k1_off53_inb i v28 v33 hw24 t hc)
  have hread := seg_read d i hg hA ho (k1_off53_inb i v28 v33 hw24 t hc)
  unfold k1_t35_body
  simp only [Prog.bind_assoc, Prog.bind_lift, Prog.pure_eq_ret, Prog.bind_ret, Prog.bind_op]
  unfold BigI
  iintro ⟨H5, ⟨%g13, H13⟩, Hr, HO, #Hmw, HT⟩
  iapply (Moves.wp_copyWait EC Variants.none (thr d i) none (s := S512) (m := arg13) (g' := fun x : S512.Idx => (K2 (Seq.off cw kk c / 8 * 8 + 512 * t.val + (x 0).val) : Elt F .i32))
    hsub hread (View.dmaCredit_pos arg13.view (show 0 < S512.numel by decide))) $$ [H5 H13 Hr HO]
  · isplitl [H5]; · iexact H5
    isplitl [H13]; · iexact H13
    isplitl [Hr]; · iexact Hr
    isplitl [HO]; · iexact HO
    iexact Hmw
  iintro ⟨H5, H13, Hr, HO⟩
  ihave H13 := (show has (F := F) (thr d i) arg13 (fun x => (K2 (Seq.off cw kk c / 8 * 8 + 512 * t.val + (x 0).val) : Elt F .i32))
      ⊢ (Words (F := F) (thr d i) arg13 (fun x => K2 (Seq.off cw kk c / 8 * 8 + 512 * t.val + x)) : sProp 𝕄) from .rfl) $$ H13
  iapply (wp_cntLoop Variants.none (thr d i) none arg13 arg14 (P := Seg cw kk K2 c) (co := fun _ => 0) (n₀ := Seq.off cw kk c / 8 * 8 + 512 * t.val) (val := fun x => K2 (Seq.off cw kk c / 8 * 8 + 512 * t.val + x)) (vec := fun _ w => k1_pay23 (F := F) w)
    (mask := fun t' => k1_pay22 v2 v26 v28 v31 v33 t t') (chk := k1_chk31 v28 v33) (body36 d i harg2 harg3 harg4 harg5 harg6 harg7 harg8 harg9 harg10 harg11 harg12 harg13 harg14 harg15 hc t) (fun _ => ClosedOff.eq) ?_) $$ [H13 HT]
  · intro t' w hw
    have ht' : t'.val < 32 := t'.isLt
    refine ⟨?_, ⟨fun _ => inb65536 w, fun _ => inb65536 w⟩⟩
    rw [mask22]
    exact seg_facts hcw hv2 (pos_big (hs.trans h28) hlo t.val t'.val) (by omega) (hs.trans h28) (he.trans h33) hw
  · isplitl [H13] <;> iassumption
  iintro ⟨H13, HT⟩
  rw [wp_ret]
  imodintro
  isplitl [H5]; · iexact H5
  isplitl [H13]; · iapply (words_has (F := F) (thr d i) arg13) $$ H13
  isplitl [Hr]; · iexact Hr
  isplitl [HO]; · iexact HO
  isplitr; · iexact Hmw
  · iapply (Entails.of_eq (congrArg (fun n : ℕ => (Tab (F := F) (thr d i) arg14 (fun b => 0 + Nat.count (Seg cw kk K2 c b) n) : sProp 𝕄)) (blk_next (Seq.off cw kk c / 8 * 8) t.val))) $$ HT

set_option maxHeartbeats 1000000 in
include EC in
theorem wp_t39 (hcw : ∀ w < 32, cw w ≤ 259200) (hg : Keys2 d i arg5 g5 K2) (hRg : ∀ n (h : n < 265453568), tb i ≤ n → n < tb i + 8295168 → arg5.view.emb (ix1 ⟨n, h⟩) ∈ Rg)
    {v2 : IVec S16 32} (hv2 : IsIota v2) {S : (ℕ → ℝ) → ℝ} {N : ℕ} (hN : Seq.off cw kk (c + 1) ≤ N) {T : ℕ} (H : Seq.Ordered cw kk K2 T) (hcc : c < 782)
    {v26 v31 : Vec F S16 .i32} {v28 v33 : BitVec 32} (hs : extractAt ![0] (k1_pay4 v26) inpos_S1_p0 = v28) (he : extractAt ![0] (k1_pay5 v31) inpos_S1_p0 = v33)
    (h28 : v28 = BitVec.ofNat 32 (Seq.off cw kk c)) (h33 : v33 = BitVec.ofNat 32 (Seq.off cw kk (c + 1)))
    (hw24 : k1_chk24 i v28 v33) (hc : ¬k1_cond1 v28 v33 = 1#1) (t : Fin (k1_t39_loop v28 v33).trips) :
    (BigI d i arg5 arg13 v62_r8 g5 Rg O W₀ (iprop(Tab (F := F) (thr d i) arg14 (fun b => 0 + Nat.count (Seg cw kk K2 c b) N) ∗ AccI (F := F) (thr d i) arg15 (fun wt => S wt + ∑ p ∈ Finset.range (Seq.off cw kk c / 8 * 8 + 512 * t.val), wt (Seq.segMult cw kk K2 c p)))) : sProp 𝕄)
      ⊢ wp frame (wpE (defs₀ (F := F)) Variants.none (thr d i) none) Set.univ
          (k1_t39_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 v28 v31 v33 hw24 hc t ⟨⟩)
          (fun _ => BigI d i arg5 arg13 v62_r8 g5 Rg O W₀ (iprop(Tab (F := F) (thr d i) arg14 (fun b => 0 + Nat.count (Seg cw kk K2 c b) N) ∗ AccI (F := F) (thr d i) arg15 (fun wt => S wt + ∑ p ∈ Finset.range (Seq.off cw kk c / 8 * 8 + 512 * (t.val + 1)), wt (Seq.segMult cw kk K2 c p))))) := by
  have hlh := Seq.off_mono (cw := cw) (kk := kk) (Nat.le_succ c)
  have hhi := Seq.off_le (kk := kk) hcw (c + 1)
  have hlo := hlh.trans hhi
  have ht : t.val < (Seq.off cw kk (c + 1) - Seq.off cw kk c / 8 * 8 + 511) / 512 := by
    have := t.isLt; subst h28; subst h33; exact lt_of_lt_of_eq this (t39_trips hlh hhi)
  have ho : k1_off57 i v28 v33 t = ![tb i + (Seq.off cw kk c / 8 * 8 + 512 * t.val)] := by
    subst h28; exact off57_eq i hlo t (by omega)
  have hA : Seq.off cw kk c / 8 * 8 + 512 * t.val + 512 ≤ 8295168 := by omega
  have hsub := seg_sub d i hRg hA ho (k1_off57_inb i v28 v33 hw24 t hc)
  have hread := seg_read d i hg hA ho (k1_off57_inb i v28 v33 hw24 t hc)
  unfold k1_t39_body
  simp only [Prog.bind_assoc, Prog.bind_lift, Prog.pure_eq_ret, Prog.bind_ret, Prog.bind_op]
  unfold BigI
  iintro ⟨H5, ⟨%g13, H13⟩, Hr, HO, #Hmw, HT⟩
  iapply (Moves.wp_copyWait EC Variants.none (thr d i) none (s := S512) (m := arg13) (g' := fun x : S512.Idx => (K2 (Seq.off cw kk c / 8 * 8 + 512 * t.val + (x 0).val) : Elt F .i32))
    hsub hread (View.dmaCredit_pos arg13.view (show 0 < S512.numel by decide))) $$ [H5 H13 Hr HO]
  · isplitl [H5]; · iexact H5
    isplitl [H13]; · iexact H13
    isplitl [Hr]; · iexact Hr
    isplitl [HO]; · iexact HO
    iexact Hmw
  iintro ⟨H5, H13, Hr, HO⟩
  ihave H13 := (show has (F := F) (thr d i) arg13 (fun x => (K2 (Seq.off cw kk c / 8 * 8 + 512 * t.val + (x 0).val) : Elt F .i32))
      ⊢ (Words (F := F) (thr d i) arg13 (fun x => K2 (Seq.off cw kk c / 8 * 8 + 512 * t.val + x)) : sProp 𝕄) from .rfl) $$ H13
  icases HT with ⟨H14, H15⟩
  iapply (wp_addLoop Variants.none (thr d i) none arg13 arg14 arg15 (f := fun b => 0 + Nat.count (Seg cw kk K2 c b) N) (g := Seq.segMult cw kk K2 c) (S := S) (n₀ := Seq.off cw kk c / 8 * 8 + 512 * t.val) (val := fun x => K2 (Seq.off cw kk c / 8 * 8 + 512 * t.val + x)) (vec := fun _ w => k1_pay30 (F := F) w)
    (mask := fun t' => within (bigPos v26 t.val t'.val) v2 (first v26) (last v31)) (acc := fun t' old a => k1_pay31 v2 v26 v28 v31 v33 t t' old a) (chk := k1_chk33 v28 v33) (body40 d i harg2 harg3 harg4 harg5 harg6 harg7 harg8 harg9 harg10 harg11 harg12 harg13 harg14 harg15 hc t) (acc31 t) (fun _ => ClosedOff.eq) (Seq.segMult_lt hcw c) ?_) $$ [H13 H14 H15]
  · intro t' w hw
    have ht' : t'.val < 32 := t'.isLt
    exact ⟨fun _ => inb65536 w, add_facts H hcc hcw hv2 hN (pos_big (hs.trans h28) hlo t.val t'.val) (by omega) (hs.trans h28) (he.trans h33) hw⟩
  · isplitl [H13]; · iexact H13
    isplitl [H14] <;> iassumption
  iintro ⟨H13, H14, H15⟩
  rw [wp_ret]
  imodintro
  isplitl [H5]; · iexact H5
  isplitl [H13]; · iapply (words_has (F := F) (thr d i) arg13) $$ H13
  isplitl [Hr]; · iexact Hr
  isplitl [HO]; · iexact HO
  isplitr; · iexact Hmw
  · isplitl [H14]; · iexact H14
    iapply (Entails.of_eq (congrArg (fun n : ℕ => (AccI (F := F) (thr d i) arg15 (fun wt => S wt + ∑ p ∈ Finset.range n, wt (Seq.segMult cw kk K2 c p)) : sProp 𝕄)) (blk_next (Seq.off cw kk c / 8 * 8) t.val))) $$ H15

set_option maxHeartbeats 1000000 in
include EC in
theorem wp_t43 (hcw : ∀ w < 32, cw w ≤ 259200) (hg : Keys2 d i arg5 g5 K2) (hRg : ∀ n (h : n < 265453568), tb i ≤ n → n < tb i + 8295168 → arg5.view.emb (ix1 ⟨n, h⟩) ∈ Rg)
    {v2 : IVec S16 32} (hv2 : IsIota v2) {f : ℕ → ℕ} {v3 : IVec S16 32} (hv3 : ∀ x, v3 x = 0#32)
    {v26 v31 : Vec F S16 .i32} {v28 v33 : BitVec 32} (hs : extractAt ![0] (k1_pay4 v26) inpos_S1_p0 = v28) (he : extractAt ![0] (k1_pay5 v31) inpos_S1_p0 = v33)
    (h28 : v28 = BitVec.ofNat 32 (Seq.off cw kk c)) (h33 : v33 = BitVec.ofNat 32 (Seq.off cw kk (c + 1)))
    (hw24 : k1_chk24 i v28 v33) (hc : ¬k1_cond1 v28 v33 = 1#1) (t : Fin (k1_t43_loop v28 v33).trips) :
    (BigI d i arg5 arg13 v62_r10 g5 Rg O W₀ (Tab (F := F) (thr d i) arg14 (fun b => if Nat.count (Seg cw kk K2 c b) (Seq.off cw kk c / 8 * 8 + 512 * t.val) = 0 then f b else 0)) : sProp 𝕄)
      ⊢ wp frame (wpE (defs₀ (F := F)) Variants.none (thr d i) none) Set.univ
          (k1_t43_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 v26 v28 v31 v33 hw24 hc t ⟨⟩)
          (fun _ => BigI d i arg5 arg13 v62_r10 g5 Rg O W₀ (Tab (F := F) (thr d i) arg14 (fun b => if Nat.count (Seg cw kk K2 c b) (Seq.off cw kk c / 8 * 8 + 512 * (t.val + 1)) = 0 then f b else 0))) := by
  have hlh := Seq.off_mono (cw := cw) (kk := kk) (Nat.le_succ c)
  have hhi := Seq.off_le (kk := kk) hcw (c + 1)
  have hlo := hlh.trans hhi
  have ht : t.val < (Seq.off cw kk (c + 1) - Seq.off cw kk c / 8 * 8 + 511) / 512 := by
    have := t.isLt; subst h28; subst h33; exact lt_of_lt_of_eq this (t43_trips hlh hhi)
  have ho : k1_off61 i v28 v33 t = ![tb i + (Seq.off cw kk c / 8 * 8 + 512 * t.val)] := by
    subst h28; exact off61_eq i hlo t (by omega)
  have hA : Seq.off cw kk c / 8 * 8 + 512 * t.val + 512 ≤ 8295168 := by omega
  have hsub := seg_sub d i hRg hA ho (k1_off61_inb i v28 v33 hw24 t hc)
  have hread := seg_read d i hg hA ho (k1_off61_inb i v28 v33 hw24 t hc)
  unfold k1_t43_body
  simp only [Prog.bind_assoc, Prog.bind_lift, Prog.pure_eq_ret, Prog.bind_ret, Prog.bind_op]
  unfold BigI
  iintro ⟨H5, ⟨%g13, H13⟩, Hr, HO, #Hmw, HT⟩
  iapply (Moves.wp_copyWait EC Variants.none (thr d i) none (s := S512) (m := arg13) (g' := fun x : S512.Idx => (K2 (Seq.off cw kk c / 8 * 8 + 512 * t.val + (x 0).val) : Elt F .i32))
    hsub hread (View.dmaCredit_pos arg13.view (show 0 < S512.numel by decide))) $$ [H5 H13 Hr HO]
  · isplitl [H5]; · iexact H5
    isplitl [H13]; · iexact H13
    isplitl [Hr]; · iexact Hr
    isplitl [HO]; · iexact HO
    iexact Hmw
  iintro ⟨H5, H13, Hr, HO⟩
  ihave H13 := (show has (F := F) (thr d i) arg13 (fun x => (K2 (Seq.off cw kk c / 8 * 8 + 512 * t.val + (x 0).val) : Elt F .i32))
      ⊢ (Words (F := F) (thr d i) arg13 (fun x => K2 (Seq.off cw kk c / 8 * 8 + 512 * t.val + x)) : sProp 𝕄) from .rfl) $$ H13
  iapply (wp_clrLoop Variants.none (thr d i) none arg13 arg14 (P := Seg cw kk K2 c) (f := f) (n₀ := Seq.off cw kk c / 8 * 8 + 512 * t.val) (val := fun x => K2 (Seq.off cw kk c / 8 * 8 + 512 * t.val + x)) (vec := fun _ w => k1_pay34 (F := F) w)
    (mask := fun t' => within (bigPos v26 t.val t'.val) v2 (first v26) (last v31)) (om := fun t' v => k1_pay35 v2 v26 v28 v31 v33 t t' v) (chk := k1_chk35 v28 v33) hv3 (body44 d i harg2 harg3 harg4 harg5 harg6 harg7 harg8 harg9 harg10 harg11 harg12 harg13 harg14 harg15 hc t) (clr35 t) (fun _ => ClosedOff.eq) ?_) $$ [H13 HT]
  · intro t' w hw
    have ht' : t'.val < 32 := t'.isLt
    exact ⟨seg_facts hcw hv2 (pos_big (hs.trans h28) hlo t.val t'.val) (by omega) (hs.trans h28) (he.trans h33) hw, fun _ => inb65536 w⟩
  · isplitl [H13] <;> iassumption
  iintro ⟨H13, HT⟩
  rw [wp_ret]
  imodintro
  isplitl [H5]; · iexact H5
  isplitl [H13]; · iapply (words_has (F := F) (thr d i) arg13) $$ H13
  isplitl [Hr]; · iexact Hr
  isplitl [HO]; · iexact HO
  isplitr; · iexact Hmw
  · iapply (Entails.of_eq (congrArg (fun n : ℕ => (Tab (F := F) (thr d i) arg14 (fun b => if Nat.count (Seg cw kk K2 c b) n = 0 then f b else 0) : sProp 𝕄)) (blk_next (Seq.off cw kk c / 8 * 8) t.val))) $$ HT

end Cert.CountTile

end
-- ==== Proof.CountE.lean ====
/- A chunk: the tables between its passes, and a chunk of one copy. -/
module

public import proofs.«01_k».proof.Proof.CountD

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

variable {O : CellTallies nD τ sig (Option Ix)} {W₀ : Waits sig (Option Ix)} {cw : ℕ → ℕ} {kk K2 : ℕ → BitVec 32} {c : ℕ}

theorem tab_start {arg14 : Memref sig .scVector .vmem S65536 .i32} {n : ℕ} (hn : n ≤ Seq.off cw kk c) :
    (Tab (F := F) (thr d i) arg14 (fun _ => 0) : sProp 𝕄) ⊢ Tab (F := F) (thr d i) arg14 (fun b => 0 + Nat.count (Seg cw kk K2 c b) n) :=
  tab_congr (thr d i) arg14 fun b _ => by rw [Seq.count_seg_zero hn]

theorem tab_at {arg14 : Memref sig .scVector .vmem S65536 .i32} {n N : ℕ} (h : n = N) :
    (Tab (F := F) (thr d i) arg14 (fun b => 0 + Nat.count (Seg cw kk K2 c b) n) : sProp 𝕄) ⊢ Tab (F := F) (thr d i) arg14 (fun b => 0 + Nat.count (Seg cw kk K2 c b) N) :=
  Entails.of_eq (congrArg (fun n : ℕ => (Tab (F := F) (thr d i) arg14 (fun b => 0 + Nat.count (Seg cw kk K2 c b) n) : sProp 𝕄)) h)

theorem tab_clear {arg14 : Memref sig .scVector .vmem S65536 .i32} {n N : ℕ} (hn : n ≤ Seq.off cw kk c) :
    (Tab (F := F) (thr d i) arg14 (fun b => 0 + Nat.count (Seg cw kk K2 c b) N) : sProp 𝕄) ⊢ Tab (F := F) (thr d i) arg14 (fun b => if Nat.count (Seg cw kk K2 c b) n = 0 then 0 + Nat.count (Seg cw kk K2 c b) N else 0) :=
  tab_congr (thr d i) arg14 fun b _ => by rw [if_pos (Seq.count_seg_zero hn)]

theorem tab_end {arg14 : Memref sig .scVector .vmem S65536 .i32} {n N : ℕ} (h : n = N) :
    (Tab (F := F) (thr d i) arg14 (fun b => if Nat.count (Seg cw kk K2 c b) n = 0 then 0 + Nat.count (Seg cw kk K2 c b) N else 0) : sProp 𝕄) ⊢ Tab (F := F) (thr d i) arg14 (fun _ => 0) :=
  tab_congr (thr d i) arg14 fun b _ => by
    subst h
    split
    · next h0 => rw [h0]
    · rfl

theorem acc_start {arg15 : Memref sig .scVector .vmem S16 .f32} {n : ℕ} (hn : n ≤ Seq.off cw kk c) :
    (AccI (F := F) (thr d i) arg15 (fun wt => ∑ p ∈ Finset.range (Seq.off cw kk c), wt (Seq.mult cw kk K2 p)) : sProp 𝕄) ⊢ AccI (F := F) (thr d i) arg15 (fun wt => ∑ p ∈ Finset.range (Seq.off cw kk c), wt (Seq.mult cw kk K2 p) + ∑ p ∈ Finset.range n, wt (Seq.segMult cw kk K2 c p)) :=
  accI_congr d i fun wt h0 => by rw [Seq.sum_seg_zero hn wt h0, add_zero]

theorem acc_end {arg15 : Memref sig .scVector .vmem S16 .f32} {n : ℕ} (hn : Seq.off cw kk (c + 1) ≤ n) :
    (AccI (F := F) (thr d i) arg15 (fun wt => ∑ p ∈ Finset.range (Seq.off cw kk c), wt (Seq.mult cw kk K2 p) + ∑ p ∈ Finset.range n, wt (Seq.segMult cw kk K2 c p)) : sProp 𝕄) ⊢ AccI (F := F) (thr d i) arg15 (fun wt => ∑ p ∈ Finset.range (Seq.off cw kk (c + 1)), wt (Seq.mult cw kk K2 p)) :=
  accI_congr d i fun wt h0 => Seq.sum_seg hn wt h0

/-- What the loop over the chunks holds. -/
def CInv (arg5 : Memref sig .scVector .hbm S265453568 .i32) (arg9 : Memref sig .scVector .vmem S800 .i32) (arg13 : Memref sig .scVector .vmem S512 .i32) (arg14 : Memref sig .scVector .vmem S65536 .i32)
    (arg15 : Memref sig .scVector .vmem S16 .f32) (s5 s6 s8 s10 : DmaSems sig S_) (g5 : Buf (Elt F) (arg5.view.loc (thr d i)))
    (Rg : Finset (Idx (arg5.view.loc (thr d i)))) (O : CellTallies nD τ sig (Option Ix)) (W₀ : Waits sig (Option Ix)) (cw : ℕ → ℕ) (kk K2 : ℕ → BitVec 32) (c : ℕ) : sProp 𝕄 :=
  iprop(Tab (F := F) (thr d i) arg9 (Seq.off cw kk) ∗ (arg5.view.loc (thr d i) ↦[Rg]{fullShare} g5) ∗ (∃ g, has (F := F) (thr d i) arg13 g)
    ∗ Tab (F := F) (thr d i) arg14 (fun _ => 0) ∗ AccI (F := F) (thr d i) arg15 (fun wt => ∑ p ∈ Finset.range (Seq.off cw kk c), wt (Seq.mult cw kk K2 p))
    ∗ semVal (thr d i, .dma s5.sem) 0 ∗ semVal (thr d i, .dma s6.sem) 0 ∗ semVal (thr d i, .dma s8.sem) 0 ∗ semVal (thr d i, .dma s10.sem) 0
    ∗ Debts (thr d i) O W₀ ∗ Transfers.MayWaits (thr d i) none O)

theorem big_intro {arg5 : Memref sig .scVector .hbm S265453568 .i32} {arg13 : Memref sig .scVector .vmem S512 .i32} {s : DmaSems sig S_} {g5 : Buf (Elt F) (arg5.view.loc (thr d i))}
    {Rg : Finset (Idx (arg5.view.loc (thr d i)))} {P : sProp 𝕄} :
    iprop((arg5.view.loc (thr d i) ↦[Rg]{fullShare} g5) ∗ (∃ g, has (F := F) (thr d i) arg13 g) ∗ semVal (thr d i, .dma s.sem) 0 ∗ Debts (thr d i) O W₀ ∗ Transfers.MayWaits (thr d i) none O ∗ P)
      ⊢ BigI d i arg5 arg13 s g5 Rg O W₀ P := .rfl

theorem big_elim {arg5 : Memref sig .scVector .hbm S265453568 .i32} {arg13 : Memref sig .scVector .vmem S512 .i32} {s : DmaSems sig S_} {g5 : Buf (Elt F) (arg5.view.loc (thr d i))}
    {Rg : Finset (Idx (arg5.view.loc (thr d i)))} {P : sProp 𝕄} :
    BigI d i arg5 arg13 s g5 Rg O W₀ P
      ⊢ iprop((arg5.view.loc (thr d i) ↦[Rg]{fullShare} g5) ∗ (∃ g, has (F := F) (thr d i) arg13 g) ∗ semVal (thr d i, .dma s.sem) 0 ∗ Debts (thr d i) O W₀ ∗ Transfers.MayWaits (thr d i) none O ∗ P) := .rfl

theorem tab_cases (c : Thread nD τ) (m : Memref sig c.2.kind .vmem S800 .i32) {f : ℕ → ℕ} :
    (Tab (F := F) c m f : sProp 𝕄) ⊢ iprop(∃ ct, has c m ct ∗ ⌜∀ b : Fin 800, ct (ix1 b) = (BitVec.ofNat 32 (f b.val) : Elt F .i32)⌝) := .rfl

theorem tab_cases' (c : Thread nD τ) (m : Memref sig c.2.kind .vmem S800 .i32) {f : ℕ → ℕ} :
    iprop(∃ ct, has c m ct ∗ ⌜∀ b : Fin 800, ct (ix1 b) = (BitVec.ofNat 32 (f b.val) : Elt F .i32)⌝) ⊢ (Tab (F := F) c m f : sProp 𝕄) := .rfl

/-- A load of a table of 800 cells: lane 0 is the cell the load starts at. -/
theorem tab_lane {f : ℕ → ℕ} {ct : S800.Idx → Elt F .i32} (hct : ∀ b : Fin 800, ct (ix1 b) = (BitVec.ofNat 32 (f b.val) : Elt F .i32)) {off : Fin 1 → ℕ} {a : ℕ} (ho : off = ![a]) (ha : a < 800)
    (hb : ∀ x, off x + (![16] : Fin 1 → ℕ) x ≤ S800.size x) {off' : Fin 1 → ℕ} (ho' : off' = ![0]) {h h'} :
    extractAt (s := S1) ![0] (extractStridedSlice S1 off' (fun x : S16.Idx => ct ((Rect.unit (s := S800) off ![16] hb).emb x)) h) h' = BitVec.ofNat 32 (f a) := by
  refine (first_lane (F := F) (off := off') (h := h) ho' _).trans ?_
  subst ho
  have he : (Rect.unit (s := S800) ![a] ![16] hb).emb (ix1 0) = (ix1 ⟨a, ha⟩ : S800.Idx) := by
    funext x
    have hx : x = 0 := Subsingleton.elim (α := Fin 1) _ _
    subst hx
    exact Fin.ext (show a + 1 * 0 = a by omega)
  exact (congrArg ct he).trans (hct ⟨a, ha⟩)

section

/-- A chunk of one copy. -/
def smallProg (i : grid1.Coords) (arg2 : Memref sig .scVector .hbm S265420800 .i32) (harg2 : arg2.IsWhole)
  (arg3 : Memref sig .scVector .hbm S32x32 .i32) (harg3 : arg3.IsWhole)
  (arg4 : Memref sig .scVector .hbm S32x16 .f32) (harg4 : arg4.IsWhole)
  (arg5 : Memref sig .scVector .hbm S265453568 .i32) (harg5 : arg5.IsWhole)
  (arg6 : Memref sig .scVector .vmem S32x32 .i32) (harg6 : arg6.IsWhole)
  (arg7 : Memref sig .scVector .vmem S64 .i32) (harg7 : arg7.IsWhole)
  (arg8 : Memref sig .scVector .vmem S800 .i32) (harg8 : arg8.IsWhole)
  (arg9 : Memref sig .scVector .vmem S800 .i32) (harg9 : arg9.IsWhole)
  (arg10 : Memref sig .scVector .vmem S800 .i32) (harg10 : arg10.IsWhole)
  (arg11 : Memref sig .scVector .vmem S1024 .i32) (harg11 : arg11.IsWhole)
  (arg12 : Memref sig .scVector .vmem S8x128 .i32) (harg12 : arg12.IsWhole)
  (arg13 : Memref sig .scVector .vmem S512 .i32) (harg13 : arg13.IsWhole)
  (arg14 : Memref sig .scVector .vmem S65536 .i32) (harg14 : arg14.IsWhole)
  (arg15 : Memref sig .scVector .vmem S16 .f32) (harg15 : arg15.IsWhole)
  (arg16 v25_r0 v42_r1 v42_r2 v113_r3 v113_r4 v59_r5 v62_r6 v62_r7 v62_r8 v62_r9 v62_r10 v62_r11 v25_r12 : DmaSems sig S_)
    (v2 v3 : IVec S16 32) (v26 v31 : Vec F S16 .i32) (k1_hw24 : k1_chk24 i (first v26) (last v31)) (k1_h1 : k1_cond1 (first v26) (last v31) = 1#1) :
    Prog (TpuEff nD τ sig (Elt F) Λ₀ (.scVector ((i 0).castLE hcore1) ((i 1).castLE hsub1))) Unit := do
  Prog.lift (.enqueueDma (arg5.slice (Rect.unit (s := S265453568) (k1_off46 i (first v26)) S512.size (k1_off46_inb i (first v26) (last v31) k1_hw24 k1_h1)) (fun _ => rfl)) (.here arg13) (.dma v59_r5.sem) (View.wordExact_bits rfl) harg13.wordExact ⟨Or.inl rfl, trivial⟩)
  Prog.lift (.waitDma2 v59_r5.sem (arg5.slice (Rect.unit (s := S265453568) (k1_off46 i (first v26)) S512.size (k1_off46_inb i (first v26) (last v31) k1_hw24 k1_h1)) (fun _ => rfl)) arg13 (View.wordExact_bits rfl) harg13.wordExact)
  Scf.Loop.for (k1_t29_loop (first v26) (last v31)) (k1_t29_ok i (first v26) (last v31) k1_hw24 k1_h1) ⟨⟩ (k1_t29_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 (first v26) v31 (last v31) k1_hw24 k1_h1)
  Scf.Loop.for (k1_t30_loop (first v26) (last v31)) (k1_t30_ok i (first v26) (last v31) k1_hw24 k1_h1) ⟨⟩ (k1_t30_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 (first v26) v31 (last v31) k1_hw24 k1_h1)
  Scf.Loop.for (k1_t31_loop (first v26) (last v31)) (k1_t31_ok i (first v26) (last v31) k1_hw24 k1_h1) ⟨⟩ (k1_t31_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 (first v26) v31 (last v31) k1_hw24 k1_h1)
  Scf.Loop.for (k1_t32_loop (first v26) (last v31)) (k1_t32_ok i (first v26) (last v31) k1_hw24 k1_h1) ⟨⟩ (k1_t32_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 (first v26) v31 (last v31) k1_hw24 k1_h1)
  Scf.Loop.for (k1_t33_loop (first v26) (last v31)) (k1_t33_ok i (first v26) (last v31) k1_hw24 k1_h1) ⟨⟩ (k1_t33_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 v26 (first v26) v31 (last v31) k1_hw24 k1_h1)
  Scf.Loop.for (k1_t34_loop (first v26) (last v31)) (k1_t34_ok i (first v26) (last v31) k1_hw24 k1_h1) ⟨⟩ (k1_t34_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 v26 (first v26) v31 (last v31) k1_hw24 k1_h1)
  pure ⟨⟩

/-- A chunk of several copies. -/
def bigProg (i : grid1.Coords) (arg2 : Memref sig .scVector .hbm S265420800 .i32) (harg2 : arg2.IsWhole)
  (arg3 : Memref sig .scVector .hbm S32x32 .i32) (harg3 : arg3.IsWhole)
  (arg4 : Memref sig .scVector .hbm S32x16 .f32) (harg4 : arg4.IsWhole)
  (arg5 : Memref sig .scVector .hbm S265453568 .i32) (harg5 : arg5.IsWhole)
  (arg6 : Memref sig .scVector .vmem S32x32 .i32) (harg6 : arg6.IsWhole)
  (arg7 : Memref sig .scVector .vmem S64 .i32) (harg7 : arg7.IsWhole)
  (arg8 : Memref sig .scVector .vmem S800 .i32) (harg8 : arg8.IsWhole)
  (arg9 : Memref sig .scVector .vmem S800 .i32) (harg9 : arg9.IsWhole)
  (arg10 : Memref sig .scVector .vmem S800 .i32) (harg10 : arg10.IsWhole)
  (arg11 : Memref sig .scVector .vmem S1024 .i32) (harg11 : arg11.IsWhole)
  (arg12 : Memref sig .scVector .vmem S8x128 .i32) (harg12 : arg12.IsWhole)
  (arg13 : Memref sig .scVector .vmem S512 .i32) (harg13 : arg13.IsWhole)
  (arg14 : Memref sig .scVector .vmem S65536 .i32) (harg14 : arg14.IsWhole)
  (arg15 : Memref sig .scVector .vmem S16 .f32) (harg15 : arg15.IsWhole)
  (arg16 v25_r0 v42_r1 v42_r2 v113_r3 v113_r4 v59_r5 v62_r6 v62_r7 v62_r8 v62_r9 v62_r10 v62_r11 v25_r12 : DmaSems sig S_)
    (v2 v3 : IVec S16 32) (v26 v31 : Vec F S16 .i32) (k1_hw24 : k1_chk24 i (first v26) (last v31)) (k1_h1 : ¬k1_cond1 (first v26) (last v31) = 1#1) :
    Prog (TpuEff nD τ sig (Elt F) Λ₀ (.scVector ((i 0).castLE hcore1) ((i 1).castLE hsub1))) Unit := do
  Scf.Loop.for (k1_t35_loop (first v26) (last v31)) (k1_t35_ok i (first v26) (last v31) k1_hw24 k1_h1) ⟨⟩ (k1_t35_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 (first v26) v31 (last v31) k1_hw24 k1_h1)
  Scf.Loop.for (k1_t37_loop (first v26) (last v31)) (k1_t37_ok i (first v26) (last v31) k1_hw24 k1_h1) ⟨⟩ (k1_t37_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 (first v26) v31 (last v31) k1_hw24 k1_h1)
  Scf.Loop.for (k1_t39_loop (first v26) (last v31)) (k1_t39_ok i (first v26) (last v31) k1_hw24 k1_h1) ⟨⟩ (k1_t39_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 (first v26) v31 (last v31) k1_hw24 k1_h1)
  Scf.Loop.for (k1_t41_loop (first v26) (last v31)) (k1_t41_ok i (first v26) (last v31) k1_hw24 k1_h1) ⟨⟩ (k1_t41_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v26 (first v26) v31 (last v31) k1_hw24 k1_h1)
  Scf.Loop.for (k1_t43_loop (first v26) (last v31)) (k1_t43_ok i (first v26) (last v31) k1_hw24 k1_h1) ⟨⟩ (k1_t43_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 v26 (first v26) v31 (last v31) k1_hw24 k1_h1)
  Scf.Loop.for (k1_t45_loop (first v26) (last v31)) (k1_t45_ok i (first v26) (last v31) k1_hw24 k1_h1) ⟨⟩ (k1_t45_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 v26 (first v26) v31 (last v31) k1_hw24 k1_h1)
  pure ⟨⟩

end

variable {arg2 : Memref sig .scVector .hbm S265420800 .i32} (harg2 : arg2.IsWhole)
  {arg3 : Memref sig .scVector .hbm S32x32 .i32} (harg3 : arg3.IsWhole)
  {arg4 : Memref sig .scVector .hbm S32x16 .f32} (harg4 : arg4.IsWhole)
  {arg5 : Memref sig .scVector .hbm S265453568 .i32} (harg5 : arg5.IsWhole)
  {arg6 : Memref sig .scVector .vmem S32x32 .i32} (harg6 : arg6.IsWhole)
  {arg7 : Memref sig .scVector .vmem S64 .i32} (harg7 : arg7.IsWhole)
  {arg8 : Memref sig .scVector .vmem S800 .i32} (harg8 : arg8.IsWhole)
  {arg9 : Memref sig .scVector .vmem S800 .i32} (harg9 : arg9.IsWhole)
  {arg10 : Memref sig .scVector .vmem S800 .i32} (harg10 : arg10.IsWhole)
  {arg11 : Memref sig .scVector .vmem S1024 .i32} (harg11 : arg11.IsWhole)
  {arg12 : Memref sig .scVector .vmem S8x128 .i32} (harg12 : arg12.IsWhole)
  {arg13 : Memref sig .scVector .vmem S512 .i32} (harg13 : arg13.IsWhole)
  {arg14 : Memref sig .scVector .vmem S65536 .i32} (harg14 : arg14.IsWhole)
  {arg15 : Memref sig .scVector .vmem S16 .f32} (harg15 : arg15.IsWhole)
  {arg16 v25_r0 v42_r1 v42_r2 v113_r3 v113_r4 v59_r5 v62_r6 v62_r7 v62_r8 v62_r9 v62_r10 v62_r11 v25_r12 : DmaSems sig S_}

variable {g5 : Buf (Elt F) (arg5.view.loc (thr d i))} {Rg : Finset (Idx (arg5.view.loc (thr d i)))}

set_option maxHeartbeats 1000000 in
include EC in
/-- A chunk of one copy. -/
theorem wp_small (hcw : ∀ w < 32, cw w ≤ 259200) (hg : Keys2 d i arg5 g5 K2) (hRg : ∀ n (h : n < 265453568), tb i ≤ n → n < tb i + 8295168 → arg5.view.emb (ix1 ⟨n, h⟩) ∈ Rg)
    {v2 : IVec S16 32} (hv2 : IsIota v2) {v3 : IVec S16 32} (hv3 : ∀ x, v3 x = 0#32) {T : ℕ} (HO : Seq.Ordered cw kk K2 T) (hc782 : c < 782)
    {v26 v31 : Vec F S16 .i32} (h28 : first v26 = BitVec.ofNat 32 (Seq.off cw kk c)) (h33 : last v31 = BitVec.ofNat 32 (Seq.off cw kk (c + 1)))
    (k1_hw24 : k1_chk24 i (first v26) (last v31)) (k1_h1 : k1_cond1 (first v26) (last v31) = 1#1) :
    (CInv d i arg5 arg9 arg13 arg14 arg15 v59_r5 v62_r6 v62_r8 v62_r10 g5 Rg O W₀ cw kk K2 c : sProp 𝕄)
      ⊢ wp frame (wpE (defs₀ (F := F)) Variants.none (thr d i) none) Set.univ
          (smallProg i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 v26 v31 k1_hw24 k1_h1)
          (fun _ => CInv d i arg5 arg9 arg13 arg14 arg15 v59_r5 v62_r6 v62_r8 v62_r10 g5 Rg O W₀ cw kk K2 (c + 1)) := by
  have hlh := Seq.off_mono (cw := cw) (kk := kk) (Nat.le_succ c)
  have hhi := Seq.off_le (kk := kk) hcw (c + 1)
  have hlo := hlh.trans hhi
  have hsm : Seq.off cw kk (c + 1) - (Seq.off cw kk c / 8 * 8) ≤ 512 :=
    small_of_cond hlh hhi (by have h := k1_h1; rw [h28, h33] at h; exact h)
  have ho : k1_off46 i (first v26) = ![tb i + (Seq.off cw kk c / 8 * 8)] := (congrArg (k1_off46 i) h28).trans (off46_eq i hlo)
  have hA : (Seq.off cw kk c / 8 * 8) + 512 ≤ 8295168 := by omega
  have hsub := seg_sub d i hRg hA ho (k1_off46_inb i (first v26) (last v31) k1_hw24 k1_h1)
  have hread := seg_read d i hg hA ho (k1_off46_inb i (first v26) (last v31) k1_hw24 k1_h1)
  have hk29 : (k1_t29_loop (first v26) (last v31)).trips = (Seq.off cw kk (c + 1) - (Seq.off cw kk c / 8 * 8) + 15) / 16 := (congrArg₂ (fun a b => (k1_t29_loop a b).trips) h28 h33).trans (t29_trips hlh hhi)
  have hk31 : (k1_t31_loop (first v26) (last v31)).trips = (Seq.off cw kk (c + 1) - (Seq.off cw kk c / 8 * 8) + 15) / 16 := (congrArg₂ (fun a b => (k1_t31_loop a b).trips) h28 h33).trans (t31_trips hlh hhi)
  have hk33 : (k1_t33_loop (first v26) (last v31)).trips = (Seq.off cw kk (c + 1) - (Seq.off cw kk c / 8 * 8) + 15) / 16 := (congrArg₂ (fun a b => (k1_t33_loop a b).trips) h28 h33).trans (t33_trips hlh hhi)
  have hnv : ∀ n, n < (Seq.off cw kk (c + 1) - (Seq.off cw kk c / 8 * 8) + 15) / 16 → n < 64 := by omega
  have hNge : Seq.off cw kk (c + 1) ≤ (Seq.off cw kk c / 8 * 8) + 16 * ((Seq.off cw kk (c + 1) - (Seq.off cw kk c / 8 * 8) + 15) / 16) := by omega
  have hb0 : (Seq.off cw kk c / 8 * 8) ≤ Seq.off cw kk c := by omega
  have hpn : ∀ n, n < 64 → (Seq.off cw kk c / 8 * 8) + 16 * n < 8300000 := by omega
  generalize hN : (Seq.off cw kk c / 8 * 8) + 16 * ((Seq.off cw kk (c + 1) - (Seq.off cw kk c / 8 * 8) + 15) / 16) = N at hNge
  have e29 : (Seq.off cw kk c / 8 * 8) + 16 * (k1_t29_loop (first v26) (last v31)).trips = N := by rw [hk29]; exact hN
  have e31 : (Seq.off cw kk c / 8 * 8) + 16 * (k1_t31_loop (first v26) (last v31)).trips = N := by rw [hk31]; exact hN
  have e33 : (Seq.off cw kk c / 8 * 8) + 16 * (k1_t33_loop (first v26) (last v31)).trips = N := by rw [hk33]; exact hN
  have l29 : ∀ t' : Fin (k1_t29_loop (first v26) (last v31)).trips, t'.val < 64 := fun t' => hnv _ (lt_of_lt_of_eq t'.isLt hk29)
  have l31 : ∀ t' : Fin (k1_t31_loop (first v26) (last v31)).trips, t'.val < 64 := fun t' => hnv _ (lt_of_lt_of_eq t'.isLt hk31)
  have l33 : ∀ t' : Fin (k1_t33_loop (first v26) (last v31)).trips, t'.val < 64 := fun t' => hnv _ (lt_of_lt_of_eq t'.isLt hk33)
  clear hnv hN
  unfold smallProg
  simp only [Prog.bind_assoc, Prog.bind_lift, Prog.pure_eq_ret, Prog.bind_ret, Prog.bind_op]
  unfold CInv
  iintro ⟨H9, H5, ⟨%g13, H13⟩, H14, H15, Hr5, Hr6, Hr8, Hr10, HD, #Hmw⟩
  iapply (Moves.wp_copyWait EC Variants.none (thr d i) none (s := S512) (m := arg13) (g' := fun x : S512.Idx => (K2 ((Seq.off cw kk c / 8 * 8) + (x 0).val) : Elt F .i32))
    hsub hread (View.dmaCredit_pos arg13.view (show 0 < S512.numel by decide))) $$ [H5 H13 Hr5 HD]
  · isplitl [H5]; · iexact H5
    isplitl [H13]; · iexact H13
    isplitl [Hr5]; · iexact Hr5
    isplitl [HD]; · iexact HD
    iexact Hmw
  iintro ⟨H5, H13, Hr5, HD⟩
  ihave H13 := (show has (F := F) (thr d i) arg13 (fun x => (K2 ((Seq.off cw kk c / 8 * 8) + (x 0).val) : Elt F .i32))
      ⊢ (Words (F := F) (thr d i) arg13 (fun x => K2 ((Seq.off cw kk c / 8 * 8) + x)) : sProp 𝕄) from .rfl) $$ H13
  ihave H14 := (tab_start (F := F) d i (arg14 := arg14) (cw := cw) (kk := kk) (K2 := K2) hb0) $$ H14
  iapply (wp_cntLoop Variants.none (thr d i) none arg13 arg14 (P := Seg cw kk K2 c) (co := fun _ => 0) (n₀ := (Seq.off cw kk c / 8 * 8)) (val := fun x => K2 ((Seq.off cw kk c / 8 * 8) + x)) (vec := fun _ w => k1_pay7 (F := F) w)
    (mask := fun t' => k1_pay6 v2 v26 (first v26) v31 (last v31) t') (chk := k1_chk25 (first v26) (last v31)) (body29 d i harg2 harg3 harg4 harg5 harg6 harg7 harg8 harg9 harg10 harg11 harg12 harg13 harg14 harg15 k1_hw24 k1_h1) (fun t' => off47_eq t' (l29 t')) ?_) $$ [H13 H14]
  · intro t' w hw
    refine ⟨?_, ⟨fun _ => inb65536 w, fun _ => inb65536 w⟩⟩
    rw [mask6]
    exact seg_facts hcw hv2 (pos_small h28 hlo t'.val) (hpn _ (l29 t')) h28 h33 hw
  · isplitl [H13] <;> iassumption
  iintro ⟨H13, H14⟩
  ihave H14 := (tab_at (F := F) d i (arg14 := arg14) (cw := cw) (kk := kk) (K2 := K2) e29) $$ H14
  iapply (wp_noLoop Variants.none (thr d i) none (t30_trips _ _))
  ihave H15 := (acc_start (F := F) d i (arg15 := arg15) (cw := cw) (kk := kk) (K2 := K2) hb0) $$ H15
  iapply (wp_addLoop Variants.none (thr d i) none arg13 arg14 arg15 (f := fun b => 0 + Nat.count (Seg cw kk K2 c b) N) (g := Seq.segMult cw kk K2 c) (S := fun wt => ∑ p ∈ Finset.range (Seq.off cw kk c), wt (Seq.mult cw kk K2 p))
    (n₀ := (Seq.off cw kk c / 8 * 8)) (val := fun x => K2 ((Seq.off cw kk c / 8 * 8) + x)) (vec := fun _ w => k1_pay14 (F := F) w)
    (mask := fun t' => within (smallPos v26 t'.val) v2 (first v26) (last v31)) (acc := fun t' old a => k1_pay15 v2 v26 (first v26) v31 (last v31) t' old a) (chk := k1_chk27 (first v26) (last v31))
    (body31 d i harg2 harg3 harg4 harg5 harg6 harg7 harg8 harg9 harg10 harg11 harg12 harg13 harg14 harg15 k1_hw24 k1_h1) acc15 (fun t' => off49_eq t' (l31 t')) (Seq.segMult_lt hcw c) ?_) $$ [H13 H14 H15]
  · intro t' w hw
    exact ⟨fun _ => inb65536 w, add_facts HO hc782 hcw hv2 hNge (pos_small h28 hlo t'.val) (hpn _ (l31 t')) h28 h33 hw⟩
  · isplitl [H13]; · iexact H13
    isplitl [H14] <;> iassumption
  iintro ⟨H13, H14, H15⟩
  ihave H15 := (acc_end (F := F) d i (arg15 := arg15) (cw := cw) (kk := kk) (K2 := K2) (hNge.trans_eq e31.symm)) $$ H15
  iapply (wp_noLoop Variants.none (thr d i) none (t32_trips _ _))
  ihave H14 := (tab_clear (F := F) d i (arg14 := arg14) (cw := cw) (kk := kk) (K2 := K2) hb0) $$ H14
  iapply (wp_clrLoop Variants.none (thr d i) none arg13 arg14 (P := Seg cw kk K2 c) (f := fun b => 0 + Nat.count (Seg cw kk K2 c b) N)
    (n₀ := (Seq.off cw kk c / 8 * 8)) (val := fun x => K2 ((Seq.off cw kk c / 8 * 8) + x)) (vec := fun _ w => k1_pay18 (F := F) w)
    (mask := fun t' => within (smallPos v26 t'.val) v2 (first v26) (last v31)) (om := fun t' v => k1_pay19 v2 v26 (first v26) v31 (last v31) t' v) (chk := k1_chk29 (first v26) (last v31))
    hv3 (body33 d i harg2 harg3 harg4 harg5 harg6 harg7 harg8 harg9 harg10 harg11 harg12 harg13 harg14 harg15 k1_hw24 k1_h1) clr19 (fun t' => off51_eq t' (l33 t')) ?_) $$ [H13 H14]
  · intro t' w hw
    exact ⟨seg_facts hcw hv2 (pos_small h28 hlo t'.val) (hpn _ (l33 t')) h28 h33 hw, fun _ => inb65536 w⟩
  · isplitl [H13] <;> iassumption
  iintro ⟨H13, H14⟩
  ihave H14 := (tab_end (F := F) d i (arg14 := arg14) (cw := cw) (kk := kk) (K2 := K2) e33) $$ H14
  iapply (wp_noLoop Variants.none (thr d i) none (t34_trips _ _))
  rw [wp_ret]
  imodintro
  isplitl [H9]; · iexact H9
  isplitl [H5]; · iexact H5
  isplitl [H13]; · iapply (words_has (F := F) (thr d i) arg13) $$ H13
  isplitl [H14]; · iexact H14
  isplitl [H15]; · iexact H15
  isplitl [Hr5]; · iexact Hr5
  isplitl [Hr6]; · iexact Hr6
  isplitl [Hr8]; · iexact Hr8
  isplitl [Hr10]; · iexact Hr10
  isplitl [HD]; · iexact HD
  iexact Hmw

end Cert.CountTile

end
-- ==== Proof.CountF.lean ====
/- A chunk of several copies, and the loop over the chunks. -/
module

public import proofs.«01_k».proof.Proof.CountE

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

variable {arg2 : Memref sig .scVector .hbm S265420800 .i32} (harg2 : arg2.IsWhole)
  {arg3 : Memref sig .scVector .hbm S32x32 .i32} (harg3 : arg3.IsWhole)
  {arg4 : Memref sig .scVector .hbm S32x16 .f32} (harg4 : arg4.IsWhole)
  {arg5 : Memref sig .scVector .hbm S265453568 .i32} (harg5 : arg5.IsWhole)
  {arg6 : Memref sig .scVector .vmem S32x32 .i32} (harg6 : arg6.IsWhole)
  {arg7 : Memref sig .scVector .vmem S64 .i32} (harg7 : arg7.IsWhole)
  {arg8 : Memref sig .scVector .vmem S800 .i32} (harg8 : arg8.IsWhole)
  {arg9 : Memref sig .scVector .vmem S800 .i32} (harg9 : arg9.IsWhole)
  {arg10 : Memref sig .scVector .vmem S800 .i32} (harg10 : arg10.IsWhole)
  {arg11 : Memref sig .scVector .vmem S1024 .i32} (harg11 : arg11.IsWhole)
  {arg12 : Memref sig .scVector .vmem S8x128 .i32} (harg12 : arg12.IsWhole)
  {arg13 : Memref sig .scVector .vmem S512 .i32} (harg13 : arg13.IsWhole)
  {arg14 : Memref sig .scVector .vmem S65536 .i32} (harg14 : arg14.IsWhole)
  {arg15 : Memref sig .scVector .vmem S16 .f32} (harg15 : arg15.IsWhole)
  {arg16 v25_r0 v42_r1 v42_r2 v113_r3 v113_r4 v59_r5 v62_r6 v62_r7 v62_r8 v62_r9 v62_r10 v62_r11 v25_r12 : DmaSems sig S_}

variable {g5 : Buf (Elt F) (arg5.view.loc (thr d i))} {Rg : Finset (Idx (arg5.view.loc (thr d i)))}
  {O : CellTallies nD τ sig (Option Ix)} {W₀ : Waits sig (Option Ix)} {cw : ℕ → ℕ} {kk K2 : ℕ → BitVec 32} {c : ℕ}

set_option maxHeartbeats 1000000 in
include EC in
/-- A chunk of several copies. -/
theorem wp_big (hcw : ∀ w < 32, cw w ≤ 259200) (hg : Keys2 d i arg5 g5 K2) (hRg : ∀ n (h : n < 265453568), tb i ≤ n → n < tb i + 8295168 → arg5.view.emb (ix1 ⟨n, h⟩) ∈ Rg)
    {v2 : IVec S16 32} (hv2 : IsIota v2) {v3 : IVec S16 32} (hv3 : ∀ x, v3 x = 0#32) {T : ℕ} (HO : Seq.Ordered cw kk K2 T) (hc782 : c < 782)
    {v26 v31 : Vec F S16 .i32} (h28 : first v26 = BitVec.ofNat 32 (Seq.off cw kk c)) (h33 : last v31 = BitVec.ofNat 32 (Seq.off cw kk (c + 1)))
    (k1_hw24 : k1_chk24 i (first v26) (last v31)) (k1_h1 : ¬k1_cond1 (first v26) (last v31) = 1#1) :
    (CInv d i arg5 arg9 arg13 arg14 arg15 v59_r5 v62_r6 v62_r8 v62_r10 g5 Rg O W₀ cw kk K2 c : sProp 𝕄)
      ⊢ wp frame (wpE (defs₀ (F := F)) Variants.none (thr d i) none) Set.univ
          (bigProg i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 v26 v31 k1_hw24 k1_h1)
          (fun _ => CInv d i arg5 arg9 arg13 arg14 arg15 v59_r5 v62_r6 v62_r8 v62_r10 g5 Rg O W₀ cw kk K2 (c + 1)) := by
  have hlh := Seq.off_mono (cw := cw) (kk := kk) (Nat.le_succ c)
  have hhi := Seq.off_le (kk := kk) hcw (c + 1)
  have hlo := hlh.trans hhi
  have hk35 : (k1_t35_loop (first v26) (last v31)).trips = (Seq.off cw kk (c + 1) - (Seq.off cw kk c / 8 * 8) + 511) / 512 := (congrArg₂ (fun a b => (k1_t35_loop a b).trips) h28 h33).trans (t35_trips hlh hhi)
  have hk39 : (k1_t39_loop (first v26) (last v31)).trips = (Seq.off cw kk (c + 1) - (Seq.off cw kk c / 8 * 8) + 511) / 512 := (congrArg₂ (fun a b => (k1_t39_loop a b).trips) h28 h33).trans (t39_trips hlh hhi)
  have hk43 : (k1_t43_loop (first v26) (last v31)).trips = (Seq.off cw kk (c + 1) - (Seq.off cw kk c / 8 * 8) + 511) / 512 := (congrArg₂ (fun a b => (k1_t43_loop a b).trips) h28 h33).trans (t43_trips hlh hhi)
  have hNge : Seq.off cw kk (c + 1) ≤ (Seq.off cw kk c / 8 * 8) + 512 * ((Seq.off cw kk (c + 1) - (Seq.off cw kk c / 8 * 8) + 511) / 512) := by omega
  have hb0 : (Seq.off cw kk c / 8 * 8) + 512 * 0 ≤ Seq.off cw kk c := by omega
  generalize hN : (Seq.off cw kk c / 8 * 8) + 512 * ((Seq.off cw kk (c + 1) - (Seq.off cw kk c / 8 * 8) + 511) / 512) = N at hNge
  have e35 : (Seq.off cw kk c / 8 * 8) + 512 * (k1_t35_loop (first v26) (last v31)).trips = N := by rw [hk35]; exact hN
  have e39 : (Seq.off cw kk c / 8 * 8) + 512 * (k1_t39_loop (first v26) (last v31)).trips = N := by rw [hk39]; exact hN
  have e43 : (Seq.off cw kk c / 8 * 8) + 512 * (k1_t43_loop (first v26) (last v31)).trips = N := by rw [hk43]; exact hN
  clear hN
  unfold bigProg
  simp only [Prog.bind_assoc, Prog.bind_lift, Prog.pure_eq_ret, Prog.bind_ret, Prog.bind_op]
  unfold CInv
  iintro ⟨H9, H5, H13, H14, H15, Hr5, Hr6, Hr8, Hr10, HD, #Hmw⟩
  iapply (Scf.wp_for_bind (M := MT nD τ sig (Option Ix) (Elt F) Name U Lvl) (Fr := frame) (wpE := wpE (defs₀ (F := F)) Variants.none (thr d i) none) (Es := Set.univ) _ _ _ _ _ _
    (fun n _ => BigI d i arg5 arg13 v62_r6 g5 Rg O W₀ (Tab (F := F) (thr d i) arg14 (fun b => 0 + Nat.count (Seg cw kk K2 c b) ((Seq.off cw kk c / 8 * 8) + 512 * n))))
    (fun t' _ => wp_t35 EC d i harg2 harg3 harg4 harg5 harg6 harg7 harg8 harg9 harg10 harg11 harg12 harg13 harg14 harg15 hcw hg hRg hv2 rfl rfl h28 h33 k1_hw24 k1_h1 t')) $$ [H5 H13 Hr6 HD H14]
  · iapply (big_intro (F := F) d i)
    isplitl [H5]; · iexact H5
    isplitl [H13]; · iexact H13
    isplitl [Hr6]; · iexact Hr6
    isplitl [HD]; · iexact HD
    isplitr; · iexact Hmw
    iapply (tab_start (F := F) d i (arg14 := arg14) (cw := cw) (kk := kk) (K2 := K2) hb0) $$ H14
  iintro %_ HB
  ihave HB := (big_elim (F := F) d i) $$ HB
  icases HB with ⟨H5, H13, Hr6, HD, -, H14⟩
  ihave H14 := (tab_at (F := F) d i (arg14 := arg14) (cw := cw) (kk := kk) (K2 := K2) e35) $$ H14
  iapply (wp_noLoop Variants.none (thr d i) none (t37_trips _ _))
  iapply (Scf.wp_for_bind (M := MT nD τ sig (Option Ix) (Elt F) Name U Lvl) (Fr := frame) (wpE := wpE (defs₀ (F := F)) Variants.none (thr d i) none) (Es := Set.univ) _ _ _ _ _ _
    (fun n _ => BigI d i arg5 arg13 v62_r8 g5 Rg O W₀ (iprop(Tab (F := F) (thr d i) arg14 (fun b => 0 + Nat.count (Seg cw kk K2 c b) N) ∗ AccI (F := F) (thr d i) arg15 (fun wt => ∑ p ∈ Finset.range (Seq.off cw kk c), wt (Seq.mult cw kk K2 p) + ∑ p ∈ Finset.range ((Seq.off cw kk c / 8 * 8) + 512 * n), wt (Seq.segMult cw kk K2 c p)))))
    (fun t' _ => wp_t39 EC d i harg2 harg3 harg4 harg5 harg6 harg7 harg8 harg9 harg10 harg11 harg12 harg13 harg14 harg15 hcw hg hRg hv2 (S := fun wt => ∑ p ∈ Finset.range (Seq.off cw kk c), wt (Seq.mult cw kk K2 p)) hNge HO hc782 rfl rfl h28 h33 k1_hw24 k1_h1 t')) $$ [H5 H13 Hr8 HD H14 H15]
  · iapply (big_intro (F := F) d i)
    isplitl [H5]; · iexact H5
    isplitl [H13]; · iexact H13
    isplitl [Hr8]; · iexact Hr8
    isplitl [HD]; · iexact HD
    isplitr; · iexact Hmw
    isplitl [H14]; · iexact H14
    iapply (acc_start (F := F) d i (arg15 := arg15) (cw := cw) (kk := kk) (K2 := K2) hb0) $$ H15
  iintro %_ HB
  ihave HB := (big_elim (F := F) d i) $$ HB
  icases HB with ⟨H5, H13, Hr8, HD, -, H14, H15⟩
  ihave H15 := (acc_end (F := F) d i (arg15 := arg15) (cw := cw) (kk := kk) (K2 := K2) (hNge.trans_eq e39.symm)) $$ H15
  iapply (wp_noLoop Variants.none (thr d i) none (t41_trips _ _))
  iapply (Scf.wp_for_bind (M := MT nD τ sig (Option Ix) (Elt F) Name U Lvl) (Fr := frame) (wpE := wpE (defs₀ (F := F)) Variants.none (thr d i) none) (Es := Set.univ) _ _ _ _ _ _
    (fun n _ => BigI d i arg5 arg13 v62_r10 g5 Rg O W₀ (Tab (F := F) (thr d i) arg14 (fun b => if Nat.count (Seg cw kk K2 c b) ((Seq.off cw kk c / 8 * 8) + 512 * n) = 0 then 0 + Nat.count (Seg cw kk K2 c b) N else 0)))
    (fun t' _ => wp_t43 EC d i harg2 harg3 harg4 harg5 harg6 harg7 harg8 harg9 harg10 harg11 harg12 harg13 harg14 harg15 hcw hg hRg hv2 (f := fun b => 0 + Nat.count (Seg cw kk K2 c b) N) hv3 rfl rfl h28 h33 k1_hw24 k1_h1 t')) $$ [H5 H13 Hr10 HD H14]
  · iapply (big_intro (F := F) d i)
    isplitl [H5]; · iexact H5
    isplitl [H13]; · iexact H13
    isplitl [Hr10]; · iexact Hr10
    isplitl [HD]; · iexact HD
    isplitr; · iexact Hmw
    iapply (tab_clear (F := F) d i (arg14 := arg14) (cw := cw) (kk := kk) (K2 := K2) hb0) $$ H14
  iintro %_ HB
  ihave HB := (big_elim (F := F) d i) $$ HB
  icases HB with ⟨H5, H13, Hr10, HD, -, H14⟩
  ihave H14 := (tab_end (F := F) d i (arg14 := arg14) (cw := cw) (kk := kk) (K2 := K2) e43) $$ H14
  iapply (wp_noLoop Variants.none (thr d i) none (t45_trips _ _))
  rw [wp_ret]
  imodintro
  isplitl [H9]; · iexact H9
  isplitl [H5]; · iexact H5
  isplitl [H13]; · iexact H13
  isplitl [H14]; · iexact H14
  isplitl [H15]; · iexact H15
  isplitl [Hr5]; · iexact Hr5
  isplitl [Hr6]; · iexact Hr6
  isplitl [Hr8]; · iexact Hr8
  isplitl [Hr10]; · iexact Hr10
  isplitl [HD]; · iexact HD
  iexact Hmw

set_option maxHeartbeats 2000000 in
include EC in
/-- One chunk. -/
theorem wp_t28 (hcw : ∀ w < 32, cw w ≤ 259200) (hg : Keys2 d i arg5 g5 K2) (hRg : ∀ n (h : n < 265453568), tb i ≤ n → n < tb i + 8295168 → arg5.view.emb (ix1 ⟨n, h⟩) ∈ Rg)
    {v2 : IVec S16 32} (hv2 : IsIota v2) {v3 : IVec S16 32} (hv3 : ∀ x, v3 x = 0#32) {T : ℕ} (HO : Seq.Ordered cw kk K2 T) (t : Fin k1_t28_loop.trips) :
    (CInv d i arg5 arg9 arg13 arg14 arg15 v59_r5 v62_r6 v62_r8 v62_r10 g5 Rg O W₀ cw kk K2 t.val : sProp 𝕄)
      ⊢ wp frame (wpE (defs₀ (F := F)) Variants.none (thr d i) none) Set.univ
          (k1_t28_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 v2 v3 t ⟨⟩)
          (fun _ => CInv d i arg5 arg9 arg13 arg14 arg15 v59_r5 v62_r6 v62_r8 v62_r10 g5 Rg O W₀ cw kk K2 (t.val + 1)) := by
  have hc782 : t.val < 782 := lt_of_lt_of_eq t.isLt (by decide)
  generalize hc : t.val = c at hc782 ⊢
  have hlh := Seq.off_mono (cw := cw) (kk := kk) (Nat.le_succ c)
  have hhi := Seq.off_le (kk := kk) hcw (c + 1)
  have hlo := hlh.trans hhi
  have o44 : k1_off44 t = ![c] := by rw [← hc]; exact ClosedOff.eq
  have o45 : k1_off45 t = ![c + 1] := by rw [← hc]; exact ClosedOff.eq
  unfold k1_t28_body
  simp only [Prog.bind_assoc, Prog.bind_lift, Prog.pure_eq_ret, Prog.bind_ret, Prog.bind_op]
  unfold CInv
  iintro ⟨H9, H5, H13, H14, H15, Hr5, Hr6, Hr8, Hr10, HD, #Hmw⟩
  ihave H9 := (tab_cases (F := F) (thr d i) arg9) $$ H9
  icases H9 with ⟨%ct, H9, %hct⟩
  iapply (Has.wp_load Variants.none (thr d i) none) $$ H9
  iintro H9
  generalize hg44 : (fun x => ct ((Rect.unit (s := S800) (k1_off44 t) ![16] _).emb x)) = v26
  have h28 : first v26 = BitVec.ofNat 32 (Seq.off cw kk c) := by
    rw [← hg44]
    exact tab_lane (F := F) hct o44 (by omega) (k1_off44_inb t) (off' := ![0]) (h := slices_S16_o0_S1) (h' := inpos_S1_p0) rfl
  iapply (wp_assume (Val := Elt F) (defs := defs₀ (F := F)) Variants.none (thr d i) none Set.univ (show k1_chk23 (first v26) by rw [h28]; exact chk23 _ hlo))
  iapply (Has.wp_load Variants.none (thr d i) none) $$ H9
  iintro H9
  generalize hg45 : (fun x => ct ((Rect.unit (s := S800) (k1_off45 t) ![16] _).emb x)) = v31
  have h33 : last v31 = BitVec.ofNat 32 (Seq.off cw kk (c + 1)) := by
    rw [← hg45]
    exact tab_lane (F := F) hct o45 (by omega) (k1_off45_inb t) (off' := ![0]) (h := slices_S16_o0_S1) (h' := inpos_S1_p0) rfl
  have h24 : k1_chk24 i (first v26) (last v31) := by rw [h28, h33]; exact chk24 i hlh hhi
  iapply (wp_assume (Val := Elt F) (defs := defs₀ (F := F)) Variants.none (thr d i) none Set.univ h24)
  by_cases k1_h1 : k1_cond1 (first v26) (last v31) = 1#1
  · rw [dif_pos k1_h1]
    simp only [Prog.bind_assoc, Prog.bind_lift, Prog.pure_eq_ret, Prog.bind_ret, Prog.bind_op]
    have hW := wp_small EC d i (O := O) (W₀ := W₀) harg2 harg3 harg4 harg5 harg6 harg7 harg8 harg9 harg10 harg11 harg12 harg13 harg14 harg15 hcw hg hRg hv2 hv3 HO hc782 h28 h33 h24 k1_h1 (arg9 := arg9) (arg14 := arg14) (arg15 := arg15) (v62_r6 := v62_r6) (v62_r8 := v62_r8) (v62_r10 := v62_r10) (v59_r5 := v59_r5)
       (arg16 := arg16) (v25_r0 := v25_r0) (v42_r1 := v42_r1) (v42_r2 := v42_r2) (v113_r3 := v113_r3) (v113_r4 := v113_r4) (v62_r7 := v62_r7) (v62_r9 := v62_r9) (v62_r11 := v62_r11) (v25_r12 := v25_r12)
    unfold smallProg at hW
    simp only [Prog.bind_assoc, Prog.bind_lift, Prog.pure_eq_ret, Prog.bind_ret, Prog.bind_op] at hW
    unfold CInv at hW
    iapply hW
    isplitl [H9]
    · iapply (tab_cases' (F := F) (thr d i) arg9)
      iexists ct; isplitl [H9]; · iexact H9
      ipureintro; exact hct
    isplitl [H5]; · iexact H5
    isplitl [H13]; · iexact H13
    isplitl [H14]; · iexact H14
    isplitl [H15]; · iexact H15
    isplitl [Hr5]; · iexact Hr5
    isplitl [Hr6]; · iexact Hr6
    isplitl [Hr8]; · iexact Hr8
    isplitl [Hr10]; · iexact Hr10
    isplitl [HD]; · iexact HD
    iexact Hmw
  · rw [dif_neg k1_h1]
    simp only [Prog.bind_assoc, Prog.bind_lift, Prog.pure_eq_ret, Prog.bind_ret, Prog.bind_op]
    have hW := wp_big EC d i (O := O) (W₀ := W₀) harg2 harg3 harg4 harg5 harg6 harg7 harg8 harg9 harg10 harg11 harg12 harg13 harg14 harg15 hcw hg hRg hv2 hv3 HO hc782 h28 h33 h24 k1_h1 (arg9 := arg9) (arg14 := arg14) (arg15 := arg15) (v62_r6 := v62_r6) (v62_r8 := v62_r8) (v62_r10 := v62_r10) (v59_r5 := v59_r5)
       (arg16 := arg16) (v25_r0 := v25_r0) (v42_r1 := v42_r1) (v42_r2 := v42_r2) (v113_r3 := v113_r3) (v113_r4 := v113_r4) (v62_r7 := v62_r7) (v62_r9 := v62_r9) (v62_r11 := v62_r11) (v25_r12 := v25_r12)
    unfold bigProg at hW
    simp only [Prog.bind_assoc, Prog.bind_lift, Prog.pure_eq_ret, Prog.bind_ret, Prog.bind_op] at hW
    unfold CInv at hW
    iapply hW
    isplitl [H9]
    · iapply (tab_cases' (F := F) (thr d i) arg9)
      iexists ct; isplitl [H9]; · iexact H9
      ipureintro; exact hct
    isplitl [H5]; · iexact H5
    isplitl [H13]; · iexact H13
    isplitl [H14]; · iexact H14
    isplitl [H15]; · iexact H15
    isplitl [Hr5]; · iexact Hr5
    isplitl [Hr6]; · iexact Hr6
    isplitl [Hr8]; · iexact Hr8
    isplitl [Hr10]; · iexact Hr10
    isplitl [HD]; · iexact HD
    iexact Hmw

end Cert.CountTile

end
-- ==== Proof.CountA.lean ====
/- The first sweep over the runs: how many keys each chunk has. -/
module

public import proofs.«01_k».proof.Proof.CountBase

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

theorem t4_trips {n : ℕ} (h : n ≤ 259200) : (k1_t4_loop (BitVec.ofNat 32 n)).trips = (n + 1023) / 1024 := main_trips (blocks_eq h) (by omega)

theorem t6_trips (v : BitVec 32) : (k1_t6_loop v).trips = 0 := rest_trips _

theorem off4_eq (t3 : Fin k1_t3_loop.trips) (v28 : BitVec 32) (t4 : Fin (k1_t4_loop v28).trips) (h : t4.val < 256) :
    k1_off4 i t3 v28 t4 = ![(t3.val * 32 + wid i) * 259200 + 1024 * t4.val] := by
  have hw := wid_lt i
  have h3 : t3.val < 32 := t3.isLt
  exact congrArg (fun n : ℕ => ![n]) (toNat_addr t3.val (i 1).val (i 0).val t4.val (by change (t3.val * 32 + wid i) * 259200 + 1024 * t4.val < _; omega))

theorem chk3 (t3 : Fin k1_t3_loop.trips) {n : ℕ} (hn : n ≤ 259200 ∧ (wid i = 31 → t3.val = 31 → n ≤ 259072)) : k1_chk3 i t3 (BitVec.ofNat 32 n) := by
  have hw := wid_lt i
  have h3 : t3.val < 32 := t3.isLt
  refine ⟨main_ok (blocks_eq hn.1) (by omega), ?_, rest_ok _, ?_⟩
  · intro t4 a
    have h4 : t4.val < (n + 1023) / 1024 := lt_of_lt_of_eq t4.isLt (t4_trips hn.1)
    have ha : a = 0 := Subsingleton.elim (α := Fin 1) _ _
    subst ha
    rw [off4_eq i t3 _ t4 (by omega)]
    change (t3.val * 32 + wid i) * 259200 + 1024 * t4.val + 1024 ≤ 265420800
    omega
  · intro t6
    exact absurd (lt_of_lt_of_eq t6.isLt (t6_trips _)) (Nat.not_lt_zero _)

variable {arg2 : Memref sig .scVector .hbm S265420800 .i32} (harg2 : arg2.IsWhole)
  {arg3 : Memref sig .scVector .hbm S32x32 .i32} (harg3 : arg3.IsWhole)
  {arg4 : Memref sig .scVector .hbm S32x16 .f32} (harg4 : arg4.IsWhole)
  {arg5 : Memref sig .scVector .hbm S265453568 .i32} (harg5 : arg5.IsWhole)
  {arg6 : Memref sig .scVector .vmem S32x32 .i32} (harg6 : arg6.IsWhole)
  {arg7 : Memref sig .scVector .vmem S64 .i32} (harg7 : arg7.IsWhole)
  {arg8 : Memref sig .scVector .vmem S800 .i32} (harg8 : arg8.IsWhole)
  {arg9 : Memref sig .scVector .vmem S800 .i32} (harg9 : arg9.IsWhole)
  {arg10 : Memref sig .scVector .vmem S800 .i32} (harg10 : arg10.IsWhole)
  {arg11 : Memref sig .scVector .vmem S1024 .i32} (harg11 : arg11.IsWhole)
  {arg12 : Memref sig .scVector .vmem S8x128 .i32} (harg12 : arg12.IsWhole)
  {arg13 : Memref sig .scVector .vmem S512 .i32} (harg13 : arg13.IsWhole)
  {arg14 : Memref sig .scVector .vmem S65536 .i32} (harg14 : arg14.IsWhole)
  {arg15 : Memref sig .scVector .vmem S16 .f32} (harg15 : arg15.IsWhole)
  {arg16 v25_r0 v42_r1 v42_r2 v113_r3 v113_r4 v59_r5 v62_r6 v62_r7 v62_r8 v62_r9 v62_r10 v62_r11 v25_r12 : DmaSems sig S_}

variable {cw : ℕ → ℕ} {kk : ℕ → BitVec 32} {fk : Buf (Elt F) (arg2.view.loc (thr d i))} {q : PosShare TreeShare}
  {O : CellTallies nD τ sig (Option Ix)} {W₀ : Waits sig (Option Ix)}

/-- The state of the first sweep after `n` elements. -/
def AInv (arg2 : Memref sig .scVector .hbm S265420800 .i32) (arg8 : Memref sig .scVector .vmem S800 .i32) (arg11 : Memref sig .scVector .vmem S1024 .i32) (v42_r1 : DmaSems sig S_)
    (cw : ℕ → ℕ) (kk : ℕ → BitVec 32) (fk : Buf (Elt F) (arg2.view.loc (thr d i))) (q : PosShare TreeShare) (O : CellTallies nD τ sig (Option Ix)) (W₀ : Waits sig (Option Ix)) (n : ℕ) : sProp 𝕄 :=
  iprop((arg2.view.loc (thr d i) ↦[Finset.univ]{q} fk) ∗ (∃ g, has (thr d i) arg11 g)
    ∗ Tab (thr d i) arg8 (fun b => 0 + Nat.count (Fam cw kk b) n)
    ∗ semVal (thr d i, .dma v42_r1.sem) 0 ∗ Debts (thr d i) O W₀ ∗ Transfers.MayWaits (thr d i) none O)

set_option maxHeartbeats 2000000 in
include EC in
/-- One block. -/
theorem wp_t4 (hR : Reads d i arg2 fk kk) (hlt : ∀ e < Seq.M, Valid cw e → (kk e).toNat < 1639972864) (t3 : Fin k1_t3_loop.trips)
    (hn : cw t3.val ≤ 259200 ∧ (wid i = 31 → t3.val = 31 → cw t3.val ≤ 259072)) {v26 : Vec F S16 .i32} {v28 : BitVec 32}
    (h26 : extractAt (s := S1) ![0] (k1_pay139 v26) inpos_S1_p0 = v28) (h28 : v28 = BitVec.ofNat 32 (cw t3.val)) (hw3 : k1_chk3 i t3 v28) (t4 : Fin (k1_t4_loop v28).trips) :
    (AInv d i arg2 arg8 arg11 v42_r1 cw kk fk q O W₀ (t3.val * 262144 + 1024 * t4.val) : sProp 𝕄)
      ⊢ wp frame (wpE (defs₀ (F := F)) Variants.none (thr d i) none) Set.univ
          (k1_t4_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 t3 v26 v28 hw3 t4 ⟨⟩)
          (fun _ => AInv d i arg2 arg8 arg11 v42_r1 cw kk fk q O W₀ (t3.val * 262144 + 1024 * (t4.val + 1))) := by
  have h3 : t3.val < 32 := t3.isLt
  have h4 : t4.val < (cw t3.val + 1023) / 1024 := by
    have := t4.isLt; subst h28; exact lt_of_lt_of_eq this (t4_trips hn.1)
  unfold k1_t4_body
  simp only [Prog.bind_assoc, Prog.bind_lift, Prog.pure_eq_ret, Prog.bind_ret, Prog.bind_op]
  unfold AInv
  iintro ⟨Hk, ⟨%g11, H11⟩, HT, Hr, HO, #Hmw⟩
  iapply (Moves.wp_copyWait EC Variants.none (thr d i) none (Finset.subset_univ _)
    (block_read d i hR h3 (by omega) (off4_eq i t3 v28 t4 (by omega)) _) (View.dmaCredit_pos _ (by decide))) $$ [Hk H11 Hr HO]
  · isplitl [Hk]; · iexact Hk
    isplitl [H11]; · iexact H11
    isplitl [Hr]; · iexact Hr
    isplitl [HO]; · iexact HO
    iexact Hmw
  iintro ⟨Hk, H11, Hr, HO⟩
  iapply (wp_cntLoop Variants.none (thr d i) none arg11 arg8 (P := Fam cw kk) (co := fun _ => 0) (n₀ := t3.val * 262144 + 1024 * t4.val)
    (val := fun x => kk (t3.val * 262144 + 1024 * t4.val + x)) (vec := fun t w => k1_pay141 v26 v28 t4 t w) (mask := fun t => k1_pay140 v26 v28 t4 t)
    (chk := k1_chk4) rfl (fun _ => ClosedOff.eq) ?_) $$ [H11 HT]
  · intro t w hw
    have ht : t.val < 64 := t.isLt
    have hs : Scalar.addi (Scalar.muli (Scf.iv 0#32 1#32 t4.val) 1024#32) (Scalar.muli (Scf.iv 0#32 1#32 t.val) 16#32) = BitVec.ofNat 32 (1024 * t4.val + 16 * t.val) := by
      rw [iv_eq, iv_eq, mul_eq t4.val 1024, mul_eq t.val 16, add_eq, Nat.mul_comm 1024, Nat.mul_comm 16]
    have hm : k1_pay140 v26 v28 t4 t = below (BitVec.ofNat 32 (1024 * t4.val + 16 * t.val)) (iota .scVector S16 32 [0] iota_S16_d0_w32_scVector) (BitVec.ofNat 32 (cw t3.val)) :=
      (show k1_pay140 v26 v28 t4 t = below (Scalar.addi (Scalar.muli (Scf.iv 0#32 1#32 t4.val) 1024#32) (Scalar.muli (Scf.iv 0#32 1#32 t.val) 16#32))
          (iota .scVector S16 32 [0] iota_S16_d0_w32_scVector) (extractAt (s := S1) ![0] (k1_pay139 v26) inpos_S1_p0) from rfl).trans
        (congrArg₂ (fun s n => below s (iota .scVector S16 32 [0] iota_S16_d0_w32_scVector) n) hs (h26.trans h28))
    have hv : k1_pay141 v26 v28 t4 t w = chunks (k1_pay140 v26 v28 t4 t) w := rfl
    have := lanes_fam (cw := cw) (kk := kk) iota_isIota (w := t3.val) (a := 1024 * t4.val + 16 * t.val) (by omega) (by omega) hlt h3 (word := w)
      (fun l => by rw [hw l]; congr 1; omega)
    rw [← hm] at this
    rw [← Nat.add_assoc] at this
    refine ⟨?_, ?_⟩
    · rw [hv]; exact this.1
    · rw [hv]; exact ⟨inb800 this.2, inb800 this.2⟩
  · isplitl [H11]
    · unfold Words; iexact H11
    · iexact HT
  iintro ⟨H11, HT⟩
  rw [wp_ret]
  imodintro
  isplitl [Hk]; · iexact Hk
  isplitl [H11]
  · unfold Words; iexists _; iexact H11
  isplitl [HT]
  · iapply (show (Tab (thr d i) arg8 (fun b => 0 + Nat.count (Fam cw kk b) (t3.val * 262144 + 1024 * t4.val + 16 * k1_t5_loop.trips)) : sProp 𝕄)
        ⊢ Tab (thr d i) arg8 (fun b => 0 + Nat.count (Fam cw kk b) (t3.val * 262144 + 1024 * (t4.val + 1))) from
      tab_congr (thr d i) arg8 (fun b _ => congrArg (fun n => 0 + Nat.count (Fam cw kk b) n) (by rw [show k1_t5_loop.trips = 64 from by decide]; omega))) $$ HT
  isplitl [Hr]; · iexact Hr
  isplitl [HO]; · iexact HO
  iexact Hmw

include EC in
/-- One run. -/
theorem wp_t3 (hR : Reads d i arg2 fk kk) (hlt : ∀ e < Seq.M, Valid cw e → (kk e).toNat < 1639972864) (hF : Fits i cw) {g7 : S64.Idx → Elt F .i32} (h7 : Sizes g7 cw)
    (t3 : Fin k1_t3_loop.trips) :
    (iprop(has (thr d i) arg7 g7 ∗ AInv d i arg2 arg8 arg11 v42_r1 cw kk fk q O W₀ (t3.val * 262144)) : sProp 𝕄)
      ⊢ wp frame (wpE (defs₀ (F := F)) Variants.none (thr d i) none) Set.univ
          (k1_t3_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 t3 ⟨⟩)
          (fun _ => iprop(has (thr d i) arg7 g7 ∗ AInv d i arg2 arg8 arg11 v42_r1 cw kk fk q O W₀ ((t3.val + 1) * 262144))) := by
  have h3 : t3.val < 32 := t3.isLt
  have hn := hF t3.val h3
  unfold k1_t3_body
  simp only [Prog.bind_assoc, Prog.bind_lift, Prog.pure_eq_ret, Prog.bind_ret, Prog.bind_op]
  iintro ⟨H7, HA⟩
  iapply (Has.wp_load Variants.none (thr d i) none) $$ H7
  iintro H7
  generalize hg : (fun x => g7 ((Rect.unit (s := S64) (k1_off3 t3) ![16] _).emb x)) = v26
  have hv : extractAt (s := S1) ![0] (k1_pay139 v26) inpos_S1_p0 = BitVec.ofNat 32 (cw t3.val) := by
    refine (first_lane (F := F) (off := ![0]) (h := slices_S16_o0_S1) rfl v26).trans ?_
    rw [← hg]
    have he : (Rect.unit (s := S64) (k1_off3 t3) S16.size (k1_off3_inb t3)).emb (ix1 0) = (ix1 ⟨t3.val, by omega⟩ : S64.Idx) := by
      funext a
      have ha : a = 0 := Subsingleton.elim (α := Fin 1) _ _
      subst ha
      refine Fin.ext ?_
      change k1_off3 t3 0 + 1 * 0 = t3.val
      rw [show k1_off3 t3 = ![t3.val] from ClosedOff.eq]
      rfl
    exact (congrArg g7 he).trans (h7 ⟨t3.val, by omega⟩ h3)
  iapply (wp_assume (Val := Elt F) (defs := defs₀ (F := F)) Variants.none (thr d i) none Set.univ (by rw [hv]; exact chk3 i t3 hn))
  iapply (Scf.wp_for_bind (M := MT nD τ sig (Option Ix) (Elt F) Name U Lvl) (Fr := frame) (wpE := wpE (defs₀ (F := F)) Variants.none (thr d i) none) (Es := Set.univ) _ _ _ _ _ _
    (fun n _ => AInv d i arg2 arg8 arg11 v42_r1 cw kk fk q O W₀ (t3.val * 262144 + 1024 * n))
    (fun t _ => wp_t4 EC d i harg2 harg3 harg4 harg5 harg6 harg7 harg8 harg9 harg10 harg11 harg12 harg13 harg14 harg15 hR hlt t3 hn rfl hv _ t)) $$ [HA]
  · rw [Nat.mul_zero, Nat.add_zero]; iexact HA
  iintro %_ HA
  iapply (wp_noLoop Variants.none (thr d i) none (t6_trips _))
  rw [wp_ret]
  imodintro
  isplitl [H7]; · iexact H7
  have hk : (k1_t4_loop (extractAt (s := S1) ![0] (k1_pay139 v26) inpos_S1_p0)).trips = (cw t3.val + 1023) / 1024 := by
    rw [hv]; exact t4_trips hn.1
  ihave HA := (Entails.of_eq (congrArg (fun k => AInv d i arg2 arg8 arg11 v42_r1 cw kk fk q O W₀ (t3.val * 262144 + 1024 * k)) hk)) $$ HA
  unfold AInv
  icases HA with ⟨Hk, H11, HT, Hr, HO, Hmw⟩
  isplitl [Hk]; · iexact Hk
  isplitl [H11]; · iexact H11
  isplitl [HT]
  · iapply (show (Tab (thr d i) arg8 (fun b => 0 + Nat.count (Fam cw kk b) (t3.val * 262144 + 1024 * ((cw t3.val + 1023) / 1024))) : sProp 𝕄)
        ⊢ Tab (thr d i) arg8 (fun b => 0 + Nat.count (Fam cw kk b) ((t3.val + 1) * 262144)) from
      tab_congr (thr d i) arg8 (fun b _ => by rw [Seq.count_gap (fun w hw => (hF w hw).1) h3 b _ (by omega) (by omega)])) $$ HT
  isplitl [Hr]; · iexact Hr
  isplitl [HO] <;> iassumption

end Cert.CountTile

end
-- ==== Proof.CountG.lean ====
/- The counting call on one tile: its whole run. -/
module

public import proofs.«01_k».proof.Proof.CountF
public import proofs.«01_k».proof.Proof.CountA
public import proofs.«01_k».proof.Proof.CountPfx
public import proofs.«01_k».proof.Proof.TileBody

@[expose] public section

noncomputable section

namespace Cert.CountTile

open Cert.KernelIdeal Cert.KernelIdeal.Gen
open Idealize.ShloMosaic Idealize.ShloMosaic.SparseCore Idealize.ShloMosaic.ValueIdx
open Idealize.SL
open Idealize.SL.BI (sProp Storable bigSep)
open scoped Idealize.SL.BI
open Idealize.SL.BI.BIBase Idealize.SL.BI.Laws Idealize.SL.Sem Idealize.SL.ProofMode
open Idealize.SL.RA
open Cert.Has (has)
open Cert.Hist (L16 Lanes)
open Cert.Phase (Debts)
open Cert.Tile (wid wid_lt)
open Cert.Count
open Cert.Seq (Fam Valid Seg)
open Cert.CountBits

variable {F : FTy → Type} [FloatOps F] {Ix : Type} [DecidableEq Ix] {Name : Type} [DecidableEq Name] [Infinite Name]
variable {U : Type} [URA U] {Lvl : Type} [Preorder Lvl]
variable (EC : UEmb Counters (MT nD τ sig (Option Ix) (Elt F) Name U Lvl)) [EC.LandsIn (upEmb : UEmb _ (MT nD τ sig (Option Ix) (Elt F) Name U Lvl))]

local notation "𝕄" => MT nD τ sig (Option Ix) (Elt F) Name U Lvl

variable (d : Dev nD) (i : grid1.Coords)

section

variable {mt : ℕ} (m : Memref sig .scVector .vmem ⟨1, ![mt]⟩ .i32)

/-- The first `16 n` words are zero. -/
def Zeroed (n : ℕ) : sProp 𝕄 := iprop(∃ g, has (thr d i) m g ∗ ⌜∀ b : Fin mt, b.val < 16 * n → g (ix1 b) = (0#32 : Elt F .i32)⌝)

theorem wp_zero {n : ℕ} {off : Fin 1 → ℕ} (ho : off = ![16 * n]) (hb : ∀ a, off a + (![16] : Fin 1 → ℕ) a ≤ (⟨1, ![mt]⟩ : Shape).size a)
    {hl : m.view.LoadsAt (Rect.unit (s := ⟨1, ![mt]⟩) off ![16] hb).toLoadRect} {w : (⟨1, ![16]⟩ : Shape).Idx → Elt F .i32} (hw : ∀ x, w x = (0#32 : Elt F .i32))
    {hx : (m.access (Rect.unit (s := ⟨1, ![mt]⟩) off ![16] hb)).Stores Finset.univ} {hm : Finset.univ = Finset.univ ∨ ∀ a, (Rect.unit (s := ⟨1, ![mt]⟩) off ![16] hb).stride a = 1}
    {α : Type} {k : PUnit → Prog (TpuEff nD τ sig (Elt F) Λ₀ (thr d i).2) α} {Q : α → sProp 𝕄} :
    (Zeroed (F := F) d i m n : sProp 𝕄)
      ⊢ iprop((Zeroed (F := F) d i m (n + 1) -∗ wp frame (wpE (defs₀ (F := F)) Variants.none (thr d i) none) Set.univ (k ⟨⟩) Q)
        -∗ wp frame (wpE (defs₀ (F := F)) Variants.none (thr d i) none) Set.univ
            (.op (.load m (Rect.unit (s := ⟨1, ![mt]⟩) off ![16] hb).toLoadRect hl) fun _ => .op (.store m (Rect.unit (s := ⟨1, ![mt]⟩) off ![16] hb) w Finset.univ hx hm) k) Q) := by
  subst ho
  unfold Zeroed
  iintro ⟨%g, H, %hg⟩ Hk
  iapply (Has.wp_load Variants.none (thr d i) none) $$ H
  iintro H
  iapply (Has.wp_store Variants.none (thr d i) none (fun y => if 16 * n ≤ (y 0).val ∧ (y 0).val < 16 * (n + 1) then (0#32 : Elt F .i32) else g y) ?_ ?_) $$ H
  · intro x
    rw [hw]
    refine if_pos ?_
    have hx : (x 0).val < 16 := (x 0).isLt
    change 16 * n ≤ 16 * n + 1 * (x 0).val ∧ 16 * n + 1 * (x 0).val < 16 * (n + 1)
    omega
  · intro y hy
    refine if_neg fun hlt => hy ?_
    rw [LoadRect.mem_set]
    intro a
    have ha : a = 0 := Subsingleton.elim (α := Fin 1) _ _
    subst ha
    obtain ⟨h1, h2⟩ := hlt
    refine ⟨(y 0).val - 16 * n, ?_, ?_⟩
    · change (y 0).val - 16 * n < 16; omega
    · change (y 0).val = 16 * n + 1 * ((y 0).val - 16 * n); omega
  iintro H
  iapply Hk
  iexists _
  isplitl [H]; · iexact H
  ipureintro
  intro b hb
  by_cases h : 16 * n ≤ b.val
  · exact if_pos ⟨h, hb⟩
  · exact (if_neg fun hc => h hc.1).trans (hg b (not_le.1 h))

theorem zeroed_tab {n : ℕ} (hn : mt ≤ 16 * n) {f : ℕ → ℕ} (hf : ∀ b, f b = 0) : (Zeroed (F := F) d i m n : sProp 𝕄) ⊢ Tab (F := F) (thr d i) m f := by
  unfold Zeroed Tab
  iintro ⟨%g, H, %hg⟩
  iexists g
  isplitl [H]; · iexact H
  ipureintro
  intro b
  rw [hg b (by have := b.isLt; omega), hf]

theorem zeroed_start : (iprop(∃ g, has (F := F) (thr d i) m g) : sProp 𝕄) ⊢ Zeroed (F := F) d i m 0 := by
  unfold Zeroed
  iintro ⟨%g, H⟩
  iexists g
  isplitl [H]; · iexact H
  ipureintro
  intro b hb; exact absurd hb (Nat.not_lt_zero _)
end

section
variable {arg2 : Memref sig .scVector .hbm S265420800 .i32} (harg2 : arg2.IsWhole)
  {arg3 : Memref sig .scVector .hbm S32x32 .i32} (harg3 : arg3.IsWhole)
  {arg4 : Memref sig .scVector .hbm S32x16 .f32} (harg4 : arg4.IsWhole)
  {arg5 : Memref sig .scVector .hbm S265453568 .i32} (harg5 : arg5.IsWhole)
  {arg6 : Memref sig .scVector .vmem S32x32 .i32} (harg6 : arg6.IsWhole)
  {arg7 : Memref sig .scVector .vmem S64 .i32} (harg7 : arg7.IsWhole)
  {arg8 : Memref sig .scVector .vmem S800 .i32} (harg8 : arg8.IsWhole)
  {arg9 : Memref sig .scVector .vmem S800 .i32} (harg9 : arg9.IsWhole)
  {arg10 : Memref sig .scVector .vmem S800 .i32} (harg10 : arg10.IsWhole)
  {arg11 : Memref sig .scVector .vmem S1024 .i32} (harg11 : arg11.IsWhole)
  {arg12 : Memref sig .scVector .vmem S8x128 .i32} (harg12 : arg12.IsWhole)
  {arg13 : Memref sig .scVector .vmem S512 .i32} (harg13 : arg13.IsWhole)
  {arg14 : Memref sig .scVector .vmem S65536 .i32} (harg14 : arg14.IsWhole)
  {arg15 : Memref sig .scVector .vmem S16 .f32} (harg15 : arg15.IsWhole)
  {arg16 v25_r0 v42_r1 v42_r2 v113_r3 v113_r4 v59_r5 v62_r6 v62_r7 v62_r8 v62_r9 v62_r10 v62_r11 v25_r12 : DmaSems sig S_}

theorem wp_t1 (t : Fin k1_t1_loop.trips) :
    (Zeroed (F := F) d i arg8 t.val : sProp 𝕄)
      ⊢ wp frame (wpE (defs₀ (F := F)) Variants.none (thr d i) none) Set.univ (k1_t1_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 t ⟨⟩) (fun _ => Zeroed (F := F) d i arg8 (t.val + 1)) := by
  unfold k1_t1_body
  simp only [Prog.bind_assoc, Prog.bind_lift, Prog.pure_eq_ret, Prog.bind_ret, Prog.bind_op]
  iintro H
  iapply (wp_zero d i arg8 (show k1_off1 t = ![16 * t.val] from ClosedOff.eq) _ (fun _ => rfl)) $$ H
  iintro H
  rw [wp_ret]
  imodintro
  iexact H

theorem wp_t2 (t : Fin k1_t2_loop.trips) :
    (Zeroed (F := F) d i arg14 t.val : sProp 𝕄)
      ⊢ wp frame (wpE (defs₀ (F := F)) Variants.none (thr d i) none) Set.univ (k1_t2_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12 t ⟨⟩) (fun _ => Zeroed (F := F) d i arg14 (t.val + 1)) := by
  unfold k1_t2_body
  simp only [Prog.bind_assoc, Prog.bind_lift, Prog.pure_eq_ret, Prog.bind_ret, Prog.bind_op]
  iintro H
  iapply (wp_zero d i arg14 (show k1_off2 t = ![16 * t.val] from ClosedOff.eq) _ (fun _ => rfl)) $$ H
  iintro H
  rw [wp_ret]
  imodintro
  iexact H
end

/-- The tile's number, as the program computes it. -/
theorem tile_col (x : S16.Idx) : k1_pay136 i x = BitVec.ofNat 32 (wid i) := by
  change (0#32 + (BitVec.ofNat 32 (i 1).val * BitVec.ofNat 32 2 + BitVec.ofNat 32 (i 0).val) : BitVec 32) = _
  rw [← BitVec.ofNat_mul, ← BitVec.ofNat_add, BitVec.zero_add, Nat.mul_comm]

theorem tile_start : Scalar.muli (Scalar.addi (Scalar.muli (BitVec.ofNat 32 (i 1).val) 2#32) (BitVec.ofNat 32 (i 0).val)) 8295424#32 = BitVec.ofNat 32 (tb i) :=
  Tile.scale_eq (i 0).val (i 1).val 8295424

theorem row_lo (l : Fin 16) : k1_pay137 (ix1 l) = BitVec.ofNat 32 (0 + l.val) := by
  refine (congrArg (· + 0#32) (iota_isIota l)).trans ?_
  rw [BitVec.add_zero, Nat.zero_add]

theorem row_hi (l : Fin 16) : k1_pay138 (ix1 l) = BitVec.ofNat 32 (16 + l.val) := by
  refine (congrArg (· + 16#32) (iota_isIota l)).trans ?_
  rw [Nat.add_comm, BitVec.ofNat_add]

theorem pick_ok {v : IVec S16 32} {r : ℕ} (hr : r + 16 ≤ 32) (hv : ∀ l : Fin 16, v (ix1 l) = BitVec.ofNat 32 (r + l.val)) :
    ∀ a x, ((![v, k1_pay136 i] : Fin 2 → IVec S16 32) a x).toNat < S32x32.size a := by
  have hw := wid_lt i
  intro a x
  have h0 : (v x).toNat < 32 := by
    have hl : (x 0).val < 16 := (x 0).isLt
    rw [show v x = BitVec.ofNat 32 (r + (x 0).val) from (congrArg v (eq_ix1 x)).trans (hv (x 0)), BitVec.toNat_ofNat]; omega
  have h1 : (k1_pay136 i x).toNat < 32 := by
    rw [tile_col, BitVec.toNat_ofNat]; omega
  refine Fin.cases ?_ (fun a => ?_) a
  · exact h0
  · have ha : a = 0 := Subsingleton.elim (α := Fin 1) _ _
    subst ha
    exact h1

theorem pick_eq {g6 : S32x32.Idx → Elt F .i32} {cw : ℕ → ℕ} (h6 : ∀ (w : Fin 32) (t : Fin 32), t.val = wid i → g6 (ix2 w t) = (BitVec.ofNat 32 (cw w.val) : Elt F .i32))
    {v : IVec S16 32} {r : ℕ} (hr : r + 16 ≤ 32) (hv : ∀ l : Fin 16, v (ix1 l) = BitVec.ofNat 32 (r + l.val))
    (h : ∀ a x, ((![v, k1_pay136 i] : Fin 2 → IVec S16 32) a x).toNat < S32x32.size a) (x : S16.Idx) :
    loadIdx (F := F) g6 ![v, k1_pay136 i] h x = (BitVec.ofNat 32 (cw (r + (x 0).val)) : Elt F .i32) := by
  have hw := wid_lt i
  have hl : (x 0).val < 16 := (x 0).isLt
  refine Eq.trans (congrArg g6 ?_) (h6 ⟨r + (x 0).val, by omega⟩ ⟨wid i, hw⟩ rfl)
  funext a
  refine Fin.ext ?_
  refine Fin.cases ?_ (fun a => ?_) a
  · change (v x).toNat = r + (x 0).val
    rw [show v x = BitVec.ofNat 32 (r + (x 0).val) from (congrArg v (eq_ix1 x)).trans (hv (x 0)), BitVec.toNat_ofNat]
    omega
  · have ha : a = 0 := Subsingleton.elim (α := Fin 1) _ _
    subst ha
    change (k1_pay136 i x).toNat = wid i
    rw [tile_col, BitVec.toNat_ofNat]
    omega

theorem sizes_of {g7 : S64.Idx → Elt F .i32} {cw : ℕ → ℕ} :
    Sizes (fun y => if 16 ≤ (y 0).val ∧ (y 0).val < 32 then (BitVec.ofNat 32 (cw (y 0).val) : Elt F .i32) else if (y 0).val < 16 then (BitVec.ofNat 32 (cw (y 0).val) : Elt F .i32) else g7 y) cw := by
  intro w hw
  by_cases h : 16 ≤ w.val
  · exact if_pos ⟨h, hw⟩
  · exact (if_neg fun hc => h hc.1).trans (if_pos (not_le.1 h))

section
variable {g7 : S64.Idx → Elt F .i32} {cw : ℕ → ℕ} {v : S16.Idx → Elt F .i32}

theorem store_lo (hv : ∀ x, v x = (BitVec.ofNat 32 (cw (0 + (x 0).val)) : Elt F .i32)) (x : S16.Idx) :
    (fun y => if (y 0).val < 16 then (BitVec.ofNat 32 (cw (y 0).val) : Elt F .i32) else g7 y) ((Rect.unit (s := S64) ![0] S16.size inb_S64_S16_0).emb x) = v x := by
  have hx : (x 0).val < 16 := (x 0).isLt
  have he : (((Rect.unit (s := S64) ![0] S16.size inb_S64_S16_0).emb x) 0).val = 0 + (x 0).val := by
    change 0 + 1 * (x 0).val = 0 + (x 0).val; omega
  rw [hv]
  change (if (((Rect.unit (s := S64) ![0] S16.size inb_S64_S16_0).emb x) 0).val < 16 then _ else _) = _
  rw [he, if_pos (by omega)]

theorem store_lo_out (y : S64.Idx) (hy : y ∉ (Rect.unit (s := S64) ![0] S16.size inb_S64_S16_0).set) : (fun y => if (y 0).val < 16 then (BitVec.ofNat 32 (cw (y 0).val) : Elt F .i32) else g7 y) y = g7 y := by
  refine if_neg fun hlt => hy ?_
  rw [LoadRect.mem_set]
  intro a
  have ha : a = 0 := Subsingleton.elim (α := Fin 1) _ _
  subst ha
  refine ⟨(y 0).val, hlt, ?_⟩
  change (y 0).val = 0 + 1 * (y 0).val
  omega

theorem store_hi (hv : ∀ x, v x = (BitVec.ofNat 32 (cw (16 + (x 0).val)) : Elt F .i32)) (x : S16.Idx) :
    (fun y => if 16 ≤ (y 0).val ∧ (y 0).val < 32 then (BitVec.ofNat 32 (cw (y 0).val) : Elt F .i32) else if (y 0).val < 16 then (BitVec.ofNat 32 (cw (y 0).val) : Elt F .i32) else g7 y) ((Rect.unit (s := S64) ![16] S16.size inb_S64_S16_16).emb x) = v x := by
  have hx : (x 0).val < 16 := (x 0).isLt
  have he : (((Rect.unit (s := S64) ![16] S16.size inb_S64_S16_16).emb x) 0).val = 16 + (x 0).val := by
    change 16 + 1 * (x 0).val = 16 + (x 0).val; omega
  rw [hv]
  change (if 16 ≤ (((Rect.unit (s := S64) ![16] S16.size inb_S64_S16_16).emb x) 0).val ∧ (((Rect.unit (s := S64) ![16] S16.size inb_S64_S16_16).emb x) 0).val < 32 then _ else _) = _
  rw [he, if_pos (by omega)]

theorem store_hi_out (y : S64.Idx) (hy : y ∉ (Rect.unit (s := S64) ![16] S16.size inb_S64_S16_16).set) : (fun y => if 16 ≤ (y 0).val ∧ (y 0).val < 32 then (BitVec.ofNat 32 (cw (y 0).val) : Elt F .i32) else if (y 0).val < 16 then (BitVec.ofNat 32 (cw (y 0).val) : Elt F .i32) else g7 y) y = (fun y => if (y 0).val < 16 then (BitVec.ofNat 32 (cw (y 0).val) : Elt F .i32) else g7 y) y := by
  refine if_neg fun hlt => hy ?_
  rw [LoadRect.mem_set]
  intro a
  have ha : a = 0 := Subsingleton.elim (α := Fin 1) _ _
  subst ha
  obtain ⟨h1, h2⟩ := hlt
  refine ⟨(y 0).val - 16, ?_, ?_⟩
  · change (y 0).val - 16 < 16; omega
  · change (y 0).val = 16 + 1 * ((y 0).val - 16); omega
end

theorem tot_eq {cw : ℕ → ℕ} {kk : ℕ → BitVec 32} (b : ℕ) : 0 + Nat.count (Fam cw kk b) (32 * 262144) = Seq.tot cw kk b := by
  rw [Nat.zero_add, show 32 * 262144 = Seq.M from rfl]
  exact (rfl : Nat.count (Fam cw kk b) Seq.M = _)

theorem count_start {cw : ℕ → ℕ} {kk : ℕ → BitVec 32} (b : ℕ) : Seq.off cw kk b = Seq.off cw kk b + Nat.count (Fam cw kk b) (0 * 262144) := by
  rw [Nat.zero_mul, Nat.count_zero, Nat.add_zero]

theorem upto_start (m : Memref sig .scVector .vmem S800 .i32) (s : ℕ → ℕ) (g : S800.Idx → Elt F .i32) : (has (F := F) (thr d i) m g : sProp 𝕄) ⊢ Upto (F := F) (thr d i) m s (16 * 0) := by
  unfold Upto
  iintro H
  iexists g
  isplitl [H]; · iexact H
  ipureintro
  intro b hb; exact absurd hb (Nat.not_lt_zero _)

theorem upto_tab (m : Memref sig .scVector .vmem S800 .i32) {s f : ℕ → ℕ} (h : ∀ b, s b = f b) : (Upto (F := F) (thr d i) m s (16 * 50) : sProp 𝕄) ⊢ Tab (F := F) (thr d i) m f := by
  unfold Upto Tab
  iintro ⟨%g, H, %hg⟩
  iexists g
  isplitl [H]; · iexact H
  ipureintro
  intro b; rw [hg b (by have := b.isLt; omega), h]

theorem has_of_tab {mt : ℕ} (m : Memref sig .scVector .vmem ⟨1, ![mt]⟩ .i32) {f : ℕ → ℕ} : (Tab (F := F) (thr d i) m f : sProp 𝕄) ⊢ iprop(∃ g, has (F := F) (thr d i) m g) := by
  unfold Tab
  iintro ⟨%g, H, %hg⟩
  iexists g
  iexact H

theorem acc_zero (m : Memref sig .scVector .vmem S16 .f32) (w : ℕ → ℕ) : (has (F := F) (thr d i) m (k1_pay135 (F := F)) : sProp 𝕄) ⊢ AccI (F := F) (thr d i) m (fun wt => ∑ p ∈ Finset.range 0, wt (w p)) := by
  unfold AccI
  iintro H
  iexists (k1_pay135 (F := F))
  isplitl [H]; · iexact H
  ipureintro
  exact ⟨[], Acc.zero, fun wt _ => rfl⟩

theorem acc_elim (m : Memref sig .scVector .vmem S16 .f32) {S : (ℕ → ℝ) → ℝ} : (AccI (F := F) (thr d i) m S : sProp 𝕄)
    ⊢ iprop(∃ a, has (F := F) (thr d i) m a ∗ ⌜∃ L, Acc (F := F) L a ∧ ∀ wt : ℕ → ℝ, wt 0 = 0 → (L.map wt).sum = S wt⌝) := .rfl

section
variable {arg2 : Memref sig .scVector .hbm S265420800 .i32} {harg2 : arg2.IsWhole}
  {arg3 : Memref sig .scVector .hbm S32x32 .i32} {harg3 : arg3.IsWhole}
  {arg4 : Memref sig .scVector .hbm S32x16 .f32} {harg4 : arg4.IsWhole}
  {arg5 : Memref sig .scVector .hbm S265453568 .i32} {harg5 : arg5.IsWhole}
  {arg6 : Memref sig .scVector .vmem S32x32 .i32} {harg6 : arg6.IsWhole}
  {arg7 : Memref sig .scVector .vmem S64 .i32} {harg7 : arg7.IsWhole}
  {arg8 : Memref sig .scVector .vmem S800 .i32} {harg8 : arg8.IsWhole}
  {arg9 : Memref sig .scVector .vmem S800 .i32} {harg9 : arg9.IsWhole}
  {arg10 : Memref sig .scVector .vmem S800 .i32} {harg10 : arg10.IsWhole}
  {arg11 : Memref sig .scVector .vmem S1024 .i32} {harg11 : arg11.IsWhole}
  {arg12 : Memref sig .scVector .vmem S8x128 .i32} {harg12 : arg12.IsWhole}
  {arg13 : Memref sig .scVector .vmem S512 .i32} {harg13 : arg13.IsWhole}
  {arg14 : Memref sig .scVector .vmem S65536 .i32} {harg14 : arg14.IsWhole}
  {arg15 : Memref sig .scVector .vmem S16 .f32} {harg15 : arg15.IsWhole}
  {arg16 v25_r0 v42_r1 v42_r2 v113_r3 v113_r4 v59_r5 v62_r6 v62_r7 v62_r8 v62_r9 v62_r10 v62_r11 v25_r12 : DmaSems sig S_}
variable {fk : Buf (Elt F) (arg2.view.loc (thr d i))} {q : PosShare TreeShare} {Rg Sd : Finset (Idx (arg5.view.loc (thr d i)))}
  {O : CellTallies nD τ sig (Option Ix)} {W₀ : Waits sig (Option Ix)} {cw : ℕ → ℕ} {kk K2 : ℕ → BitVec 32} {n : ℕ} {g5 : Buf (Elt F) (arg5.view.loc (thr d i))}

theorem ainv_intro : (iprop((arg2.view.loc (thr d i) ↦[Finset.univ]{q} fk) ∗ (∃ g, has (thr d i) arg11 g)
        ∗ Tab (thr d i) arg8 (fun b => 0 + Nat.count (Fam cw kk b) n) ∗ semVal (thr d i, .dma v42_r1.sem) 0 ∗ Debts (thr d i) O W₀ ∗ Transfers.MayWaits (thr d i) none O) : sProp 𝕄) ⊢ (AInv d i arg2 arg8 arg11 v42_r1 cw kk fk q O W₀ n) := .rfl
theorem ainv_elim : ((AInv d i arg2 arg8 arg11 v42_r1 cw kk fk q O W₀ n) : sProp 𝕄) ⊢ iprop((arg2.view.loc (thr d i) ↦[Finset.univ]{q} fk) ∗ (∃ g, has (thr d i) arg11 g)
        ∗ Tab (thr d i) arg8 (fun b => 0 + Nat.count (Fam cw kk b) n) ∗ semVal (thr d i, .dma v42_r1.sem) 0 ∗ Debts (thr d i) O W₀ ∗ Transfers.MayWaits (thr d i) none O) := .rfl
theorem binv_intro : (iprop((arg2.view.loc (thr d i) ↦[Finset.univ]{q} fk) ∗ (∃ g, has (thr d i) arg11 g) ∗ (∃ g, has (thr d i) arg12 g)
    ∗ Tab (thr d i) arg10 (fun b => Seq.off cw kk b + Nat.count (Fam cw kk b) n)
    ∗ (∃ g, (arg5.view.loc (thr d i) ↦[Rg]{fullShare} g) ∗ ⌜Put d i arg5 g cw kk n⌝) ∗ Moves.Dump (arg5.view.loc (thr d i)) Sd
    ∗ semVal (thr d i, .dma arg16.sem) 0 ∗ semVal (thr d i, .dma v113_r3.sem) 0 ∗ Debts (thr d i) O W₀ ∗ Transfers.MayWaits (thr d i) none O) : sProp 𝕄) ⊢ (BInv d i arg2 arg5 arg10 arg11 arg12 arg16 v113_r3 cw kk fk q Rg Sd O W₀ n) := .rfl
theorem binv_elim : ((BInv d i arg2 arg5 arg10 arg11 arg12 arg16 v113_r3 cw kk fk q Rg Sd O W₀ n) : sProp 𝕄) ⊢ iprop((arg2.view.loc (thr d i) ↦[Finset.univ]{q} fk) ∗ (∃ g, has (thr d i) arg11 g) ∗ (∃ g, has (thr d i) arg12 g)
    ∗ Tab (thr d i) arg10 (fun b => Seq.off cw kk b + Nat.count (Fam cw kk b) n)
    ∗ (∃ g, (arg5.view.loc (thr d i) ↦[Rg]{fullShare} g) ∗ ⌜Put d i arg5 g cw kk n⌝) ∗ Moves.Dump (arg5.view.loc (thr d i)) Sd
    ∗ semVal (thr d i, .dma arg16.sem) 0 ∗ semVal (thr d i, .dma v113_r3.sem) 0 ∗ Debts (thr d i) O W₀ ∗ Transfers.MayWaits (thr d i) none O) := .rfl
theorem cinv_intro : (iprop(Tab (F := F) (thr d i) arg9 (Seq.off cw kk) ∗ (arg5.view.loc (thr d i) ↦[Rg]{fullShare} g5) ∗ (∃ g, has (F := F) (thr d i) arg13 g)
    ∗ Tab (F := F) (thr d i) arg14 (fun _ => 0) ∗ AccI (F := F) (thr d i) arg15 (fun wt => ∑ p ∈ Finset.range (Seq.off cw kk n), wt (Seq.mult cw kk K2 p))
    ∗ semVal (thr d i, .dma v59_r5.sem) 0 ∗ semVal (thr d i, .dma v62_r6.sem) 0 ∗ semVal (thr d i, .dma v62_r8.sem) 0 ∗ semVal (thr d i, .dma v62_r10.sem) 0
    ∗ Debts (thr d i) O W₀ ∗ Transfers.MayWaits (thr d i) none O) : sProp 𝕄) ⊢ (CInv d i arg5 arg9 arg13 arg14 arg15 v59_r5 v62_r6 v62_r8 v62_r10 g5 Rg O W₀ cw kk K2 n) := .rfl
theorem cinv_elim : ((CInv d i arg5 arg9 arg13 arg14 arg15 v59_r5 v62_r6 v62_r8 v62_r10 g5 Rg O W₀ cw kk K2 n) : sProp 𝕄) ⊢ iprop(Tab (F := F) (thr d i) arg9 (Seq.off cw kk) ∗ (arg5.view.loc (thr d i) ↦[Rg]{fullShare} g5) ∗ (∃ g, has (F := F) (thr d i) arg13 g)
    ∗ Tab (F := F) (thr d i) arg14 (fun _ => 0) ∗ AccI (F := F) (thr d i) arg15 (fun wt => ∑ p ∈ Finset.range (Seq.off cw kk n), wt (Seq.mult cw kk K2 p))
    ∗ semVal (thr d i, .dma v59_r5.sem) 0 ∗ semVal (thr d i, .dma v62_r6.sem) 0 ∗ semVal (thr d i, .dma v62_r8.sem) 0 ∗ semVal (thr d i, .dma v62_r10.sem) 0
    ∗ Debts (thr d i) O W₀ ∗ Transfers.MayWaits (thr d i) none O) := .rfl
theorem pinv_intro {s f : ℕ → ℕ} {c : BitVec 32} : (iprop(⌜c = BitVec.ofNat 32 (s (16 * n))⌝ ∗ Tab (F := F) (thr d i) arg8 f ∗ Upto (F := F) (thr d i) arg9 s (16 * n) ∗ Upto (F := F) (thr d i) arg10 s (16 * n)) : sProp 𝕄)
    ⊢ PInv (F := F) d i arg8 arg9 arg10 s f n c := .rfl
theorem pinv_elim {s f : ℕ → ℕ} {c : BitVec 32} : (PInv (F := F) d i arg8 arg9 arg10 s f n c : sProp 𝕄)
    ⊢ iprop(⌜c = BitVec.ofNat 32 (s (16 * n))⌝ ∗ Tab (F := F) (thr d i) arg8 f ∗ Upto (F := F) (thr d i) arg9 s (16 * n) ∗ Upto (F := F) (thr d i) arg10 s (16 * n)) := .rfl

theorem put_zero : Put d i arg5 g5 cw kk (0 * 262144) := by
  intro e he
  rw [Nat.zero_mul] at he
  exact absurd he (Nat.not_lt_zero _)

/-- What the second sweep leaves, place by place. -/
theorem keys_of (hcw : ∀ w < 32, cw w ≤ 259200) (hput : Put d i arg5 g5 cw kk (32 * 262144)) :
    ∃ K2, Keys2 d i arg5 g5 K2 ∧ ∀ e < Seq.M, Valid cw e → K2 (Seq.gp cw kk e) = kk e := by
  refine ⟨fun p => if h : tb i + p < 265453568 then arg5.view.read (Elt F) g5 (ix1 ⟨tb i + p, h⟩) else 0#32, fun p _ h => ?_, fun e he hv => ?_⟩
  · exact Eq.symm (dif_pos (c := tb i + p < 265453568) (t := fun h => arg5.view.read (Elt F) g5 (ix1 ⟨tb i + p, h⟩)) (e := fun _ => 0#32) h)
  · have hw := wid_lt i
    have hb := gp_bound (kk := kk) hcw he hv
    have hin : tb i + Seq.gp cw kk e < 265453568 := by
      unfold tb; omega
    refine (dif_pos hin).trans ?_
    exact hput e (lt_of_lt_of_eq he (rfl : Seq.M = 32 * 262144)) hv ⟨_, hin⟩ rfl
end

/-- The tile's row of the sums. -/
abbrev row (arg4 : Memref sig .scVector .hbm S32x16 .f32) : Memref sig .scVector .hbm S16 .f32 :=
  (arg4.slice (Rect.unit (s := S32x16) (k1_off65 i) S1x16.size (k1_off65_inb i)) (fun _ => rfl)).squeeze S16 squeezes_S1x16_S16

theorem off_zero {cw : ℕ → ℕ} {kk : ℕ → BitVec 32} : Seq.off cw kk 0 = 0 := rfl

/-- The tile has its partial sums. -/
def Sums (a : S16.Idx → Elt F .f32) (key : ℕ → BitVec 32) (T : ℕ) : Prop :=
  ∃ L, Acc (F := F) L a ∧ ∀ wt : ℕ → ℝ, wt 0 = 0 → (L.map wt).sum = ∑ n ∈ Seq.mine key T, wt (Seq.times key (key n))

variable {arg2 : Memref sig .scVector .hbm S265420800 .i32} (harg2 : arg2.IsWhole)
  {arg3 : Memref sig .scVector .hbm S32x32 .i32} (harg3 : arg3.IsWhole)
  {arg4 : Memref sig .scVector .hbm S32x16 .f32} (harg4 : arg4.IsWhole)
  {arg5 : Memref sig .scVector .hbm S265453568 .i32} (harg5 : arg5.IsWhole)
  {arg6 : Memref sig .scVector .vmem S32x32 .i32} (harg6 : arg6.IsWhole)
  {arg7 : Memref sig .scVector .vmem S64 .i32} (harg7 : arg7.IsWhole)
  {arg8 : Memref sig .scVector .vmem S800 .i32} (harg8 : arg8.IsWhole)
  {arg9 : Memref sig .scVector .vmem S800 .i32} (harg9 : arg9.IsWhole)
  {arg10 : Memref sig .scVector .vmem S800 .i32} (harg10 : arg10.IsWhole)
  {arg11 : Memref sig .scVector .vmem S1024 .i32} (harg11 : arg11.IsWhole)
  {arg12 : Memref sig .scVector .vmem S8x128 .i32} (harg12 : arg12.IsWhole)
  {arg13 : Memref sig .scVector .vmem S512 .i32} (harg13 : arg13.IsWhole)
  {arg14 : Memref sig .scVector .vmem S65536 .i32} (harg14 : arg14.IsWhole)
  {arg15 : Memref sig .scVector .vmem S16 .f32} (harg15 : arg15.IsWhole)
  {arg16 v25_r0 v42_r1 v42_r2 v113_r3 v113_r4 v59_r5 v62_r6 v62_r7 v62_r8 v62_r9 v62_r10 v62_r11 v25_r12 : DmaSems sig S_}
variable {fk : Buf (Elt F) (arg2.view.loc (thr d i))} {f3 : Buf (Elt F) (arg3.view.loc (thr d i))} {q q3 : PosShare TreeShare} {Rg Sd : Finset (Idx (arg5.view.loc (thr d i)))}
  {O : CellTallies nD τ sig (Option Ix)} {W₀ : Waits sig (Option Ix)} {cw : ℕ → ℕ} {kk key : ℕ → BitVec 32} {T : ℕ}

set_option maxHeartbeats 4000000 in
include EC in
/-- The tile's whole run. -/
theorem wp_count (hR : Reads d i arg2 fk kk) (hF : Fits i cw) (H : Seq.Runs cw kk key T) (hkey : ∀ n < 8294400, (key n).toNat < 1639972864)
    (h3 : ∀ (w : Fin 32) (t : Fin 32), t.val = wid i → arg3.view.read (Elt F) f3 (ix2 w t) = (BitVec.ofNat 32 (cw w.val) : Elt F .i32))
    (hRg : ∀ n (h : n < 265453568), tb i ≤ n → n < tb i + 8295168 → arg5.view.emb (ix1 ⟨n, h⟩) ∈ Rg)
    (hSd : ∀ n (h : n < 265453568), tb i + 8295168 ≤ n → n < tb i + 8295424 → arg5.view.emb (ix1 ⟨n, h⟩) ∈ Sd)
    (hcr3 : ∀ h0 ax p, (ScatterRows.cellView (thr d i) arg5 h0 ax p).dmaCredit = 32)
    (hcr5 : ∀ off h h', (arg11.slice (Rect.unit (s := S1024) off ![128] h) h').view.dmaCredit = 128 * 32) :
    (iprop((arg2.view.loc (thr d i) ↦[Finset.univ]{q} fk) ∗ (arg3.view.loc (thr d i) ↦[Finset.univ]{q3} f3)
        ∗ (∃ g, has (F := F) (thr d i) (row i arg4) g) ∗ (∃ g, arg5.view.loc (thr d i) ↦[Rg]{fullShare} g) ∗ Moves.Dump (arg5.view.loc (thr d i)) Sd
        ∗ (∃ g, has (F := F) (thr d i) arg6 g) ∗ (∃ g, has (F := F) (thr d i) arg7 g) ∗ (∃ g, has (F := F) (thr d i) arg8 g) ∗ (∃ g, has (F := F) (thr d i) arg9 g)
        ∗ (∃ g, has (F := F) (thr d i) arg10 g) ∗ (∃ g, has (F := F) (thr d i) arg11 g) ∗ (∃ g, has (F := F) (thr d i) arg12 g) ∗ (∃ g, has (F := F) (thr d i) arg13 g)
        ∗ (∃ g, has (F := F) (thr d i) arg14 g) ∗ (∃ g, has (F := F) (thr d i) arg15 g)
        ∗ semVal (thr d i, .dma arg16.sem) 0 ∗ semVal (thr d i, .dma v25_r0.sem) 0 ∗ semVal (thr d i, .dma v42_r1.sem) 0 ∗ semVal (thr d i, .dma v113_r3.sem) 0
        ∗ semVal (thr d i, .dma v59_r5.sem) 0 ∗ semVal (thr d i, .dma v62_r6.sem) 0 ∗ semVal (thr d i, .dma v62_r8.sem) 0 ∗ semVal (thr d i, .dma v62_r10.sem) 0 ∗ semVal (thr d i, .dma v25_r12.sem) 0
        ∗ Debts (thr d i) O W₀ ∗ Transfers.MayWaits (thr d i) none O) : sProp 𝕄)
      ⊢ wp frame (wpE (defs₀ (F := F)) Variants.none (thr d i) none) Set.univ
          (cc1__count_body i arg2 harg2 arg3 harg3 arg4 harg4 arg5 harg5 arg6 harg6 arg7 harg7 arg8 harg8 arg9 harg9 arg10 harg10 arg11 harg11 arg12 harg12 arg13 harg13 arg14 harg14 arg15 harg15 arg16 v25_r0 v42_r1 v42_r2 v113_r3 v113_r4 v59_r5 v62_r6 v62_r7 v62_r8 v62_r9 v62_r10 v62_r11 v25_r12)
          (fun _ => iprop((arg2.view.loc (thr d i) ↦[Finset.univ]{q} fk) ∗ (arg3.view.loc (thr d i) ↦[Finset.univ]{q3} f3)
            ∗ (∃ a, has (F := F) (thr d i) (row i arg4) a ∗ ⌜Sums (F := F) a key T⌝) ∗ (∃ g, arg5.view.loc (thr d i) ↦[Rg]{fullShare} g)
            ∗ (∃ g, has (F := F) (thr d i) arg6 g) ∗ (∃ g, has (F := F) (thr d i) arg7 g) ∗ (∃ g, has (F := F) (thr d i) arg8 g) ∗ (∃ g, has (F := F) (thr d i) arg9 g)
            ∗ (∃ g, has (F := F) (thr d i) arg10 g) ∗ (∃ g, has (F := F) (thr d i) arg11 g) ∗ (∃ g, has (F := F) (thr d i) arg12 g) ∗ (∃ g, has (F := F) (thr d i) arg13 g)
            ∗ (∃ g, has (F := F) (thr d i) arg14 g) ∗ (∃ g, has (F := F) (thr d i) arg15 g)
            ∗ semVal (thr d i, .dma arg16.sem) 0 ∗ semVal (thr d i, .dma v25_r0.sem) 0 ∗ semVal (thr d i, .dma v42_r1.sem) 0 ∗ semVal (thr d i, .dma v113_r3.sem) 0
            ∗ semVal (thr d i, .dma v59_r5.sem) 0 ∗ semVal (thr d i, .dma v62_r6.sem) 0 ∗ semVal (thr d i, .dma v62_r8.sem) 0 ∗ semVal (thr d i, .dma v62_r10.sem) 0 ∗ semVal (thr d i, .dma v25_r12.sem) 0
            ∗ Debts (thr d i) O W₀)) := by
  have hcw : ∀ w < 32, cw w ≤ 259200 := fun w hw => (hF w hw).1
  have hlt : ∀ e < Seq.M, Valid cw e → (kk e).toNat < 1639972864 := fun e he hv => by
    obtain ⟨n, hn, rfl⟩ := H.elt_surj (Seq.mem_elems.mpr ⟨he, hv⟩)
    rw [H.kk_elt hn]
    exact hkey n (Seq.mem_mine.mp hn).1
  simp only [cc1__count_body_eq_skeleton]; unfold cc1__count_body_skel
  rw [k1_part7_eq_skeleton]; unfold k1_part7_skel
  simp only [Prog.bind_assoc, Prog.bind_lift, Prog.pure_eq_ret, Prog.bind_ret, Prog.bind_op]
  iintro ⟨H2, H3, ⟨%g4, H4⟩, H5, #Hd, ⟨%g6, H6⟩, ⟨%g7, H7⟩, H8, ⟨%g9, H9⟩, ⟨%g10, H10⟩, H11, H12, H13, H14, ⟨%g15, H15⟩, Hs, Hr0, Hr1, Hr3, Hr5, Hr6, Hr8, Hr10, Hr12, HO, #Hmw⟩
  -- the tables are cleared
  ihave H8 := (zeroed_start (F := F) d i arg8) $$ H8
  iapply (Scf.wp_for_bind (M := MT nD τ sig (Option Ix) (Elt F) Name U Lvl) (Fr := frame) (wpE := wpE (defs₀ (F := F)) Variants.none (thr d i) none) (Es := Set.univ) _ _ _ _ _ _
    (fun n _ => Zeroed (F := F) d i arg8 n) (fun t _ => wp_t1 d i harg2 harg3 harg4 harg5 harg6 harg7 harg8 harg9 harg10 harg11 harg12 harg13 harg14 harg15 t)) $$ H8
  iintro %_ H8
  ihave H8 := (zeroed_tab (F := F) d i arg8 (show 800 ≤ 16 * Scf.trips k1_t1_loop.lb k1_t1_loop.ub k1_t1_loop.st from by decide) (f := fun b => 0 + Nat.count (Fam cw kk b) (0 * 262144)) (fun b => by rw [Nat.zero_mul, Nat.count_zero])) $$ H8
  ihave H14 := (zeroed_start (F := F) d i arg14) $$ H14
  iapply (Scf.wp_for_bind (M := MT nD τ sig (Option Ix) (Elt F) Name U Lvl) (Fr := frame) (wpE := wpE (defs₀ (F := F)) Variants.none (thr d i) none) (Es := Set.univ) _ _ _ _ _ _
    (fun n _ => Zeroed (F := F) d i arg14 n) (fun t _ => wp_t2 d i harg2 harg3 harg4 harg5 harg6 harg7 harg8 harg9 harg10 harg11 harg12 harg13 harg14 harg15 t)) $$ H14
  iintro %_ H14
  ihave H14 := (zeroed_tab (F := F) d i arg14 (show 65536 ≤ 16 * Scf.trips k1_t2_loop.lb k1_t2_loop.ub k1_t2_loop.st from by decide) (f := fun _ => 0) (fun b => rfl)) $$ H14
  iapply (Has.wp_load Variants.none (thr d i) none) $$ H15
  iintro H15
  iapply (Has.wp_store Variants.none (thr d i) none (k1_pay135 (F := F)) ?_ ?_) $$ H15
  · intro x; rfl
  · intro y hy
    refine absurd ?_ hy
    rw [LoadRect.mem_set]
    intro a
    have ha : a = 0 := Subsingleton.elim (α := Fin 1) _ _
    subst ha
    refine ⟨(y 0).val, (y 0).isLt, ?_⟩
    change (y 0).val = 0 + 1 * (y 0).val
    omega
  iintro H15
  -- the counts of the first call arrive
  iapply (Moves.wp_copyWait EC Variants.none (thr d i) none (s := S32x32) (m := arg6) (g' := fun x => arg3.view.read (Elt F) f3 x) (Finset.subset_univ _) (fun _ => rfl)
    (View.dmaCredit_pos arg6.view (show 0 < S32x32.numel by decide))) $$ [H3 H6 Hr0 HO]
  · isplitl [H3]; · iexact H3
    isplitl [H6]; · iexact H6
    isplitl [Hr0]; · iexact Hr0
    isplitl [HO]; · iexact HO
    iexact Hmw
  iintro ⟨H3, H6, Hr0, HO⟩
  iapply (wp_assume (Val := Elt F) (defs := defs₀ (F := F)) Variants.none (thr d i) none Set.univ (pick_ok i (r := 0) (by decide) row_lo))
  iapply (Has.wp_loadIdx Variants.none (thr d i) none) $$ H6
  iintro H6
  iapply (Has.wp_load Variants.none (thr d i) none) $$ H7
  iintro H7
  iapply (Has.wp_store Variants.none (thr d i) none (fun y => if (y 0).val < 16 then (BitVec.ofNat 32 (cw (y 0).val) : Elt F .i32) else g7 y) ?_ ?_) $$ H7
  · intro x
    exact store_lo (fun x => pick_eq i h3 (by decide) row_lo _ x) x
  · intro y hy
    exact store_lo_out y hy
  iintro H7
  iapply (wp_assume (Val := Elt F) (defs := defs₀ (F := F)) Variants.none (thr d i) none Set.univ (pick_ok i (r := 16) (by decide) row_hi))
  iapply (Has.wp_loadIdx Variants.none (thr d i) none) $$ H6
  iintro H6
  iapply (Has.wp_load Variants.none (thr d i) none) $$ H7
  iintro H7
  iapply (Has.wp_store Variants.none (thr d i) none (fun y => if 16 ≤ (y 0).val ∧ (y 0).val < 32 then (BitVec.ofNat 32 (cw (y 0).val) : Elt F .i32) else if (y 0).val < 16 then (BitVec.ofNat 32 (cw (y 0).val) : Elt F .i32) else g7 y) ?_ ?_) $$ H7
  · intro x
    exact store_hi (fun x => pick_eq i h3 (by decide) row_hi _ x) x
  · intro y hy
    exact store_hi_out y hy
  iintro H7
  have h7 := sizes_of (F := F) (g7 := g7) (cw := cw)
  generalize (fun y => if 16 ≤ (y 0).val ∧ (y 0).val < 32 then (BitVec.ofNat 32 (cw (y 0).val) : Elt F .i32) else if (y 0).val < 16 then (BitVec.ofNat 32 (cw (y 0).val) : Elt F .i32) else g7 y) = gs at h7
  -- the first sweep
  iapply (Scf.wp_for_bind (M := MT nD τ sig (Option Ix) (Elt F) Name U Lvl) (Fr := frame) (wpE := wpE (defs₀ (F := F)) Variants.none (thr d i) none) (Es := Set.univ) _ _ _ _ _ _
    (fun n _ => iprop(has (thr d i) arg7 gs ∗ (AInv d i arg2 arg8 arg11 v42_r1 cw kk fk q O W₀ (n * 262144))))
    (fun t _ => wp_t3 EC d i harg2 harg3 harg4 harg5 harg6 harg7 harg8 harg9 harg10 harg11 harg12 harg13 harg14 harg15 hR hlt hF h7 t)) $$ [H7 H2 H11 H8 Hr1 HO]
  · isplitl [H7]; · iexact H7
    iapply (ainv_intro (F := F) d i)
    isplitl [H2]; · iexact H2
    isplitl [H11]; · iexact H11
    isplitl [H8]; · iexact H8
    isplitl [Hr1]; · iexact Hr1
    isplitl [HO]; · iexact HO
    iexact Hmw
  iintro %_ HB
  ihave HB := (Entails.of_eq (congrArg (fun n : ℕ => (iprop(has (thr d i) arg7 gs ∗ (AInv d i arg2 arg8 arg11 v42_r1 cw kk fk q O W₀ (n * 262144))) : sProp 𝕄)) (show Scf.trips k1_t3_loop.lb k1_t3_loop.ub k1_t3_loop.st = 32 from by decide))) $$ HB
  icases HB with ⟨H7, HB⟩
  ihave HB := (ainv_elim (F := F) d i) $$ HB
  icases HB with ⟨H2, H11, H8, Hr1, HO, _⟩
  ihave H8 := (tab_congr (F := F) (thr d i) arg8 (g := Seq.tot cw kk) (fun b _ => tot_eq b)) $$ H8
  -- the running sums
  iapply (Scf.wp_for_bind (M := MT nD τ sig (Option Ix) (Elt F) Name U Lvl) (Fr := frame) (wpE := wpE (defs₀ (F := F)) Variants.none (thr d i) none) (Es := Set.univ) _ _ _ _ _ _
    (fun n c => PInv (F := F) d i arg8 arg9 arg10 (Seq.off cw kk) (Seq.tot cw kk) n c)
    (fun t c => wp_t8 d i harg2 harg3 harg4 harg5 harg6 harg7 harg8 harg9 harg10 harg11 harg12 harg13 harg14 harg15 (Seq.off_succ (cw := cw) (kk := kk)) t c)) $$ [H8 H9 H10]
  · iapply (pinv_intro (F := F) d i)
    isplitr
    · ipureintro; rfl
    isplitl [H8]; · iexact H8
    isplitl [H9]
    · iapply (upto_start (F := F) d i arg9) $$ H9
    · iapply (upto_start (F := F) d i arg10) $$ H10
  iintro %c8 HP
  ihave HP := (Entails.of_eq (congrArg (fun n : ℕ => (PInv (F := F) d i arg8 arg9 arg10 (Seq.off cw kk) (Seq.tot cw kk) n c8 : sProp 𝕄)) (show Scf.trips k1_t8_loop.lb k1_t8_loop.ub k1_t8_loop.st = 50 from by decide))) $$ HP
  ihave HP := (pinv_elim (F := F) d i) $$ HP
  icases HP with ⟨%_, H8, H9, H10⟩
  ihave H9 := (upto_tab (F := F) d i arg9 (f := Seq.off cw kk) (fun _ => rfl)) $$ H9
  ihave H10 := (upto_tab (F := F) d i arg10 (count_start (cw := cw) (kk := kk))) $$ H10
  -- the second sweep
  icases H5 with ⟨%g0, H5⟩
  iapply (Scf.wp_for_bind (M := MT nD τ sig (Option Ix) (Elt F) Name U Lvl) (Fr := frame) (wpE := wpE (defs₀ (F := F)) Variants.none (thr d i) none) (Es := Set.univ) _ _ _ _ _ _
    (fun n _ => iprop(has (thr d i) arg7 gs ∗ (BInv d i arg2 arg5 arg10 arg11 arg12 arg16 v113_r3 cw kk fk q Rg Sd O W₀ (n * 262144))))
    (fun t _ => wp_t9 EC d i harg2 harg3 harg4 harg5 harg6 harg7 harg8 harg9 harg10 harg11 harg12 harg13 harg14 harg15 hR hF hlt hRg hSd hcr3 hcr5 h7 t iota_isIota (tile_start i))) $$ [H7 H2 H11 H12 H10 H5 Hs Hr3 HO]
  · isplitl [H7]; · iexact H7
    iapply (binv_intro (F := F) d i)
    isplitl [H2]; · iexact H2
    isplitl [H11]; · iexact H11
    isplitl [H12]; · iexact H12
    isplitl [H10]; · iexact H10
    isplitl [H5]
    · iexists g0
      isplitl [H5]; · iexact H5
      ipureintro; exact put_zero d i
    isplitr; · iexact Hd
    isplitl [Hs]; · iexact Hs
    isplitl [Hr3]; · iexact Hr3
    isplitl [HO]; · iexact HO
    iexact Hmw
  iintro %_ HB
  ihave HB := (Entails.of_eq (congrArg (fun n : ℕ => (iprop(has (thr d i) arg7 gs ∗ (BInv d i arg2 arg5 arg10 arg11 arg12 arg16 v113_r3 cw kk fk q Rg Sd O W₀ (n * 262144))) : sProp 𝕄)) (show Scf.trips k1_t9_loop.lb k1_t9_loop.ub k1_t9_loop.st = 32 from by decide))) $$ HB
  icases HB with ⟨H7, HB⟩
  ihave HB := (binv_elim (F := F) d i) $$ HB
  icases HB with ⟨H2, H11, H12, H10, ⟨%g5, H5, %hput⟩, _, Hs, Hr3, HO, _⟩
  -- the chunks
  obtain ⟨K2, hg, hK⟩ := keys_of d i hcw hput
  have HO' := H.ordered hkey hK
  iapply (Scf.wp_for_bind (M := MT nD τ sig (Option Ix) (Elt F) Name U Lvl) (Fr := frame) (wpE := wpE (defs₀ (F := F)) Variants.none (thr d i) none) (Es := Set.univ) _ _ _ _ _ _
    (fun n _ => (CInv d i arg5 arg9 arg13 arg14 arg15 v59_r5 v62_r6 v62_r8 v62_r10 g5 Rg O W₀ cw kk K2 n))
    (fun t _ => wp_t28 EC d i harg2 harg3 harg4 harg5 harg6 harg7 harg8 harg9 harg10 harg11 harg12 harg13 harg14 harg15 hcw hg hRg iota_isIota (fun _ => rfl) HO' t)) $$ [H9 H5 H13 H14 H15 Hr5 Hr6 Hr8 Hr10 HO]
  · iapply (cinv_intro (F := F) d i)
    isplitl [H9]; · iexact H9
    isplitl [H5]; · iexact H5
    isplitl [H13]; · iexact H13
    isplitl [H14]; · iexact H14
    isplitl [H15]
    · iapply (acc_zero (F := F) d i arg15 (Seq.mult cw kk K2)) $$ H15
    isplitl [Hr5]; · iexact Hr5
    isplitl [Hr6]; · iexact Hr6
    isplitl [Hr8]; · iexact Hr8
    isplitl [Hr10]; · iexact Hr10
    isplitl [HO]; · iexact HO
    iexact Hmw
  iintro %_ HB
  ihave HB := (Entails.of_eq (congrArg (fun n : ℕ => ((CInv d i arg5 arg9 arg13 arg14 arg15 v59_r5 v62_r6 v62_r8 v62_r10 g5 Rg O W₀ cw kk K2 n) : sProp 𝕄)) (show Scf.trips k1_t28_loop.lb k1_t28_loop.ub k1_t28_loop.st = 782 from by decide))) $$ HB
  ihave HB := (cinv_elim (F := F) d i) $$ HB
  icases HB with ⟨H9, H5, H13, H14, H15, Hr5, Hr6, Hr8, Hr10, HO, _⟩
  ihave H15 := (acc_elim (F := F) d i arg15) $$ H15
  icases H15 with ⟨%a, H15, %ha⟩
  have hsum : Sums (F := F) a key T := by
    obtain ⟨L, hL, hs⟩ := ha
    exact ⟨L, hL, fun wt h0 => (hs wt h0).trans (H.sum_mult HO' wt)⟩
  -- the sums leave
  iapply (Moves.wp_copyOut EC Variants.none (thr d i) none (s := S16) (src := arg15) (m := row i arg4) (g' := a)
    (View.dmaCredit_pos (row i arg4).view (show 0 < S16.numel by decide))) $$ [H15 H4 Hr12 HO]
  · isplitl [H15]; · iexact H15
    isplitl [H4]; · iexact H4
    isplitl [Hr12]; · iexact Hr12
    isplitl [HO]; · iexact HO
    iexact Hmw
  iintro ⟨H15, H4, Hr12, HO⟩
  rw [wp_ret]
  imodintro
  isplitl [H2]; · iexact H2
  isplitl [H3]; · iexact H3
  isplitl [H4]
  · iexists a; isplitl [H4]; · iexact H4
    ipureintro; exact hsum
  isplitl [H5]; · iexists g5; iexact H5
  isplitl [H6]; · iexists _; iexact H6
  isplitl [H7]; · iexists _; iexact H7
  isplitl [H8]; · iapply (has_of_tab (F := F) d i arg8) $$ H8
  isplitl [H9]; · iapply (has_of_tab (F := F) d i arg9) $$ H9
  isplitl [H10]; · iapply (has_of_tab (F := F) d i arg10) $$ H10
  isplitl [H11]; · iexact H11
  isplitl [H12]; · iexact H12
  isplitl [H13]; · iexact H13
  isplitl [H14]; · iapply (has_of_tab (F := F) d i arg14) $$ H14
  isplitl [H15]; · iexists _; iexact H15
  isplitl [Hs]; · iexact Hs
  isplitl [Hr0]; · iexact Hr0
  isplitl [Hr1]; · iexact Hr1
  isplitl [Hr3]; · iexact Hr3
  isplitl [Hr5]; · iexact Hr5
  isplitl [Hr6]; · iexact Hr6
  isplitl [Hr8]; · iexact Hr8
  isplitl [Hr10]; · iexact Hr10
  isplitl [Hr12]; · iexact Hr12
  iexact HO

end Cert.CountTile

end
-- ==== Proof.Setup.lean ====
/- The program as the launch sees it: its arrays, their regions, and what the handshakes carry. -/
module

public import proofs.«01_k».proof.Proof.TileBody
public import proofs.«01_k».proof.Proof.Regions
public import proofs.«01_k».proof.Proof.CountG
public import Idealize.ShloMosaic.Lib.ShareLeaves
public import Idealize.ShloMosaic.Lib.SparseCore.Ops
public import Idealize.ShloMosaic.Lib.StableHlo.Run
public import Idealize.ShloMosaic.Lib.Pipeline.Kit

@[expose] public section

noncomputable section

namespace Cert.Launch

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Has (has)
open Cert.Phase (Debts)
open Cert.Partition Cert.Tile Cert.Regions

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## The arrays and their regions -/

variable (m : (ℓ : Loc nD τ sig) → Buf (Elt F) ℓ) (ρ : Dev nD → PrngReg)

abbrev kLoc (d : Dev nD) : Loc nD τ sig := (SparseCore.T d).loc main_arg0
abbrev gLoc (d : Dev nD) : Loc nD τ sig := (SparseCore.T d).loc main_v0_0
abbrev rLoc (d : Dev nD) : Loc nD τ sig := (SparseCore.T d).loc main_v0_1
abbrev pLoc (d : Dev nD) : Loc nD τ sig := (SparseCore.T d).loc main_v1_0
abbrev zLoc (d : Dev nD) : Loc nD τ sig := (SparseCore.T d).loc main_v1_1
abbrev oLoc (d : Dev nD) : Loc nD τ sig := (SparseCore.T d).loc main_v8

/-- The tile a key, a place, a count belongs to. -/
def kCl (x : S8294400.Idx) : ℕ := (x 0).val / 259200
def gCl (x : S265420800.Idx) : ℕ := (x 0).val / 8294400
def rCl (x : S32x32.Idx) : ℕ := (x 0).val
/-- The tile a partial sum, a place of the second scatter belongs to. -/
def pCl (x : S32x16.Idx) : ℕ := (x 0).val
def zCl (x : S265453568.Idx) : ℕ := (x 0).val / 8295424

theorem kCl_lt (x : S8294400.Idx) : kCl x < 32 := by
  have h : (x 0).val < 8294400 := (x 0).isLt
  unfold kCl; omega
theorem gCl_lt (x : S265420800.Idx) : gCl x < 32 := by
  have h : (x 0).val < 265420800 := (x 0).isLt
  unfold gCl; omega
theorem rCl_lt (x : S32x32.Idx) : rCl x < 32 := (x 0).isLt
theorem pCl_lt (x : S32x16.Idx) : pCl x < 32 := (x 0).isLt
theorem zCl_lt (x : S265453568.Idx) : zCl x < 32 := by
  have h : (x 0).val < 265453568 := (x 0).isLt
  unfold zCl; omega

abbrev kReg (d : Dev nD) (w : ℕ) : Finset (Idx (kLoc d)) := region (ℓ := kLoc d) kCl w
abbrev gReg (d : Dev nD) (w : ℕ) : Finset (Idx (gLoc d)) := region (ℓ := gLoc d) gCl w
abbrev rReg (d : Dev nD) (w : ℕ) : Finset (Idx (rLoc d)) := region (ℓ := rLoc d) rCl w
abbrev pReg (d : Dev nD) (w : ℕ) : Finset (Idx (pLoc d)) := region (ℓ := pLoc d) pCl w
abbrev zReg (d : Dev nD) (w : ℕ) : Finset (Idx (zLoc d)) := region (ℓ := zLoc d) zCl w

/-- Tile `w`'s keys. -/
def keyW (fk : S8294400.Idx → BitVec 32) (w n : ℕ) : BitVec 32 := if h : 259200 * w + n < 8294400 then fk (ix1 ⟨259200 * w + n, h⟩) else 0#32

/-- All keys, in order. -/
def keyAt (fk : S8294400.Idx → BitVec 32) (n : ℕ) : BitVec 32 := if h : n < 8294400 then fk (ix1 ⟨n, h⟩) else 0#32

theorem keyW_eq (fk : S8294400.Idx → BitVec 32) (w n : ℕ) : keyW fk w n = keyAt fk (259200 * w + n) := rfl

/-- What the counting call asks of the keys: they are below the table's size, and the last run leaves the room past its end that the last block read from it needs. -/
def Good (fk : S8294400.Idx → BitVec 32) : Prop :=
  (∀ n < 8294400, (keyAt fk n).toNat < 1639972864) ∧ cnt (keyW fk 31) 31 259200 ≤ 259072

/-- What tile `w` leaves in its part: its keys at their places. -/
def Placed (fk : S8294400.Idx → BitVec 32) (w : ℕ) (g : S265420800.Idx → BitVec 32) : Prop :=
  ∀ t < 259200, ∀ p : Fin 265420800, p.val = pos (w * 8294400) (keyW fk w) t → g (ix1 p) = keyW fk w t

/-- What tile `w` leaves in its row: the counts of its keys. -/
def Counted (fk : S8294400.Idx → BitVec 32) (w : ℕ) (g : S32x32.Idx → BitVec 32) : Prop :=
  ∀ (h : w < 32) (b : Fin 32), g (ix2 ⟨w, h⟩ b) = BitVec.ofNat 32 (cnt (keyW fk w) b.val 259200)

theorem placed_congr (fk : S8294400.Idx → BitVec 32) (w : ℕ) (f g : S265420800.Idx → BitVec 32)
    (h : ∀ x, gCl x = w → g x = f x) (hf : Placed fk w f) : Placed fk w g := by
  intro t ht p hp
  rw [h _ ?_]; · exact hf t ht p hp
  have h1 := le_pos (w * 8294400) (keyW fk w) t
  have h2 := pos_lt (w * 8294400) (keyW fk w) (i := t) ht
  change p.val / 8294400 = w
  omega

theorem counted_congr (fk : S8294400.Idx → BitVec 32) (w : ℕ) (f g : S32x32.Idx → BitVec 32)
    (h : ∀ x, rCl x = w → g x = f x) (hf : Counted fk w f) : Counted fk w g := by
  intro hw b
  rw [h _ rfl]; exact hf hw b

variable [FloatOps F]

/-! ## What the handshakes carry -/

/-- What tile `w` is given and what it gives back. -/
def given (d : Dev nD) (w : ℕ) : sProp 𝕄 :=
  iprop((kLoc d ↦[kReg d w]{fullShare} m (kLoc d)) ∗ (∃ g, gLoc d ↦[gReg d w]{fullShare} g) ∗ (∃ g, rLoc d ↦[rReg d w]{fullShare} g))
def returned (d : Dev nD) (w : ℕ) : sProp 𝕄 :=
  iprop((kLoc d ↦[kReg d w]{fullShare} m (kLoc d))
    ∗ (∃ g, (gLoc d ↦[gReg d w]{fullShare} g) ∗ ⌜Placed (m (kLoc d)) w g⌝)
    ∗ (∃ g, (rLoc d ↦[rReg d w]{fullShare} g) ∗ ⌜Counted (m (kLoc d)) w g⌝))

instance given_storable (d : Dev nD) (w : ℕ) : BI.Storable (upEmb : UEmb _ 𝕄) (given m d w) := by unfold given; infer_instance
instance returned_storable (d : Dev nD) (w : ℕ) : BI.Storable (upEmb : UEmb _ 𝕄) (returned m d w) := by unfold returned; infer_instance

/-- The share of a table read by all tiles that tile `w` holds. -/
def lf (w : ℕ) : PosShare TreeShare := if h : w < 2 ^ 5 then ShareLeaves.leaf 5 fullShare ⟨w, h⟩ else fullShare

/-- The sums of tile `w`. -/
def SumsRow (fk : S8294400.Idx → BitVec 32) (w : ℕ) (a : S32x16.Idx → Elt F .f32) : Prop :=
  ∀ h : w < 32, CountTile.Sums (F := F) (fun x => a (ix2 ⟨w, h⟩ (x 0))) (keyAt fk) w

theorem sumsRow_congr (fk : S8294400.Idx → BitVec 32) (w : ℕ) (f g : S32x16.Idx → Elt F .f32)
    (h : ∀ x, pCl x = w → g x = f x) (hf : SumsRow (F := F) fk w f) : SumsRow (F := F) fk w g := by
  intro hw
  have he : (fun x : S16.Idx => g (ix2 ⟨w, hw⟩ (x 0))) = fun x => f (ix2 ⟨w, hw⟩ (x 0)) := funext fun x => h _ rfl
  rw [he]
  exact hf hw

/-- What the second call gives tile `w`: the tables to read, its row of the sums and its part of the scatter. -/
def given1 (d : Dev nD) (w : ℕ) : sProp 𝕄 :=
  iprop((∃ g, (gLoc d ↦{lf w} g) ∗ ⌜∀ v : Fin 32, Placed (m (kLoc d)) v.val g⌝) ∗ (∃ r, (rLoc d ↦{lf w} r) ∗ ⌜∀ v : Fin 32, Counted (m (kLoc d)) v.val r⌝)
    ∗ (∃ f, pLoc d ↦[pReg d w]{fullShare} f) ∗ (∃ f, zLoc d ↦[zReg d w]{fullShare} f))
/-- What tile `w` gives back. -/
def returned1 (d : Dev nD) (w : ℕ) : sProp 𝕄 :=
  iprop(∃ a, (pLoc d ↦[pReg d w]{fullShare} a) ∗ ⌜SumsRow (F := F) (m (kLoc d)) w a⌝)

instance given1_storable (d : Dev nD) (w : ℕ) : BI.Storable (upEmb : UEmb _ 𝕄) (given1 m d w) := by unfold given1; infer_instance
instance returned1_storable (d : Dev nD) (w : ℕ) : BI.Storable (upEmb : UEmb _ 𝕄) (returned1 m d w) := by unfold returned1; infer_instance

/-- What a call gives a tile, and what the tile gives back. -/
def giv (q : Fin 2) (d : Dev nD) (w : ℕ) : sProp 𝕄 := match q with | 0 => given m d w | 1 => given1 m d w
def ret (q : Fin 2) (d : Dev nD) (w : ℕ) : sProp 𝕄 := match q with | 0 => returned m d w | 1 => returned1 m d w

instance giv_storable (q : Fin 2) (d : Dev nD) (w : ℕ) : BI.Storable (upEmb : UEmb _ 𝕄) (giv m q d w) :=
  match q with | 0 => given_storable m d w | 1 => given1_storable m d w
instance ret_storable (q : Fin 2) (d : Dev nD) (w : ℕ) : BI.Storable (upEmb : UEmb _ 𝕄) (ret m q d w) :=
  match q with | 0 => returned_storable m d w | 1 => returned1_storable m d w

def P : (K (F := F)).Pay (nD := nD) (Val := Elt F) (Name := ℕ) (U := UU) where
  st := fun q d c => bigSep Finset.univ fun s : Fin 16 => giv m q d (2 * s.val + c.val)
  dn := fun q d c => bigSep Finset.univ fun s : Fin 16 => ret m q d (2 * s.val + c.val)
  go := fun q d c s => giv m q d (2 * s.val + c.val)
  td := fun q d c s => ret m q d (2 * s.val + c.val)
  x := fun _ _ => iprop(emp)

instance P_storable : (P (F := F) m).IsStorable where
  st q d c := (inferInstance : BI.Storable (upEmb : UEmb _ 𝕄) (bigSep Finset.univ fun s : Fin 16 => giv m q d (2 * s.val + c.val)))
  dn q d c := (inferInstance : BI.Storable (upEmb : UEmb _ 𝕄) (bigSep Finset.univ fun s : Fin 16 => ret m q d (2 * s.val + c.val)))
  go q d c s := giv_storable m q d _
  td q d c s := ret_storable m q d _

omit [FloatOps F] in
/-- Some of many, and the others. -/
theorem bigSep_take {I : Type} [DecidableEq I] {S T : Finset I} (h : T ⊆ S) (Φ : I → sProp 𝕄) :
    bigSep S Φ = iprop(bigSep T Φ ∗ bigSep (S \ T) Φ) := by
  conv_lhs => rw [← Finset.union_sdiff_of_subset h]
  exact SparseCore.bigSep_union' Finset.disjoint_sdiff

omit [FloatOps F] in
/-- A scratch buffer at some contents, as memref. -/
theorem has_whole {c : Thread nD τ} (b : Ref sig c.2.kind) :
    (iprop(∃ f, c.loc b ↦{fullShare} f) : sProp 𝕄) ⊢ iprop(∃ g, has c (Memref.whole b) g) := by
  iintro ⟨%f, H⟩
  iexists _
  iapply (Has.has_intro c (Memref.whole b) f _ (fun _ => rfl))
  rw [show (Memref.whole b).view.set = Finset.univ from View.set_whole _]
  iexact H

omit [FloatOps F] in
theorem whole_has {c : Thread nD τ} (b : Ref sig c.2.kind) :
    (iprop(∃ g, has c (Memref.whole b) g) : sProp 𝕄) ⊢ iprop(∃ f, c.loc b ↦{fullShare} f) := by
  unfold has
  rw [show (Memref.whole b).view.set = Finset.univ from View.set_whole _]
  iintro ⟨%g, %f, -, H⟩
  iexists f; iexact H

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Launch

end
-- ==== Proof.TaskPart.lean ====
/- The first call on a tile: the partition, as the launch runs it. -/
module

public import proofs.«01_k».proof.Proof.Setup

@[expose] public section

noncomputable section

namespace Cert.Launch

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Has (has)
open Cert.Phase (Debts)
open Cert.Partition Cert.Tile Cert.Regions

variable {F : FTy → Type} [FloatOps F]

local notation "𝕄" => MT nD τ sig (HIx 2) (Elt F) ℕ UU ℕ

variable (m : (ℓ : Loc nD τ sig) → Buf (Elt F) ℓ)

local notation "kV" => (Memref.whole Cert.KernelIdeal.main_arg0_scv : Memref Cert.KernelIdeal.sig Kind.scVector Space.hbm Cert.KernelIdeal.S8294400 EltTy.i32)
local notation "gV" => (Memref.whole Cert.KernelIdeal.main_v0_0_scv : Memref Cert.KernelIdeal.sig Kind.scVector Space.hbm Cert.KernelIdeal.S265420800 EltTy.i32)
local notation "rV" => (Memref.whole Cert.KernelIdeal.main_v0_1_scv : Memref Cert.KernelIdeal.sig Kind.scVector Space.hbm Cert.KernelIdeal.S32x32 EltTy.i32)
local notation "bV" => (Memref.whole Cert.KernelIdeal.cc0_scratch0 : Memref Cert.KernelIdeal.sig Kind.scVector Space.vmem Cert.KernelIdeal.S3200 EltTy.i32)
local notation "pV" => (Memref.whole Cert.KernelIdeal.cc0_scratch1 : Memref Cert.KernelIdeal.sig Kind.scVector Space.vmem Cert.KernelIdeal.S25x128 EltTy.i32)
local notation "cV'" => (Memref.whole Cert.KernelIdeal.cc0_scratch2 : Memref Cert.KernelIdeal.sig Kind.scVector Space.vmem Cert.KernelIdeal.S32 EltTy.i32)

variable (d : Dev nD) (L : grid0.Coords)

abbrev cV (L : grid0.Coords) : Fin τ.nSC := (L 0).castLE hcore0
abbrev jV (L : grid0.Coords) : Fin τ.nSub := (L 1).castLE hsub0

abbrev aCell : GSem nD τ sig := (V d (cV L) (jV L), .dma cc0_scratch3.sem)
abbrev bCell : GSem nD τ sig := (V d (cV L) (jV L), .dma cc0_scoped0.sem)
abbrev cCell : GSem nD τ sig := (V d (cV L) (jV L), .dma cc0_scoped1.sem)

omit [FloatOps F] in
theorem ownSems0_V :
    (ownSems0 (V d (cV L) (jV L)) : sProp 𝕄)
      = iprop(semVal (aCell d L) 0 ∗ semVal (bCell d L) 0 ∗ semVal (cCell d L) 0
          ∗ bigSep ((((ownCells (V d (cV L) (jV L))).erase (aCell d L)).erase (bCell d L)).erase (cCell d L)) fun g => semVal g 0) := by
  unfold SparseCore.Cfg.ownSems0
  rw [SparseCore.bigSep_erase' ((mem_ownCells (g := aCell d L)).mpr ⟨rfl, by
      show (SemLoc.dma cc0_scratch3.sem : SemLoc sig).isScoped .scVector = true; decide⟩),
    SparseCore.bigSep_erase' (Finset.mem_erase.mpr ⟨by simp [aCell, bCell]; decide, (mem_ownCells (g := bCell d L)).mpr ⟨rfl, by
      show (SemLoc.dma cc0_scoped0.sem : SemLoc sig).isScoped .scVector = true; decide⟩⟩),
    SparseCore.bigSep_erase' (Finset.mem_erase.mpr ⟨by simp [bCell, cCell]; decide, Finset.mem_erase.mpr ⟨by simp [aCell, cCell]; decide,
      (mem_ownCells (g := cCell d L)).mpr ⟨rfl, by show (SemLoc.dma cc0_scoped1.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The row's elements. -/
theorem row_emb (b : Fin 32) : (row L rV).view.emb (ix1 b) = (ix2 ⟨wid L, wid_lt L⟩ b : S32x32.Idx) := by
  change (Rect.unit (s := S32x32) (k0_off52 L) S1x32.size (k0_off52_inb L)).emb (Shape.reshapeEquiv squeezes_S1x32_S32.numel_eq (ix1 b)) = _
  have he : Shape.reshapeEquiv squeezes_S1x32_S32.numel_eq (ix1 b) = (ix2 (0 : Fin 1) b : S1x32.Idx) := by
    apply Shape.reshapeEquiv_eq_of_rowMajor
    change (Shape.rowMajorPi ![1, 32] (ix2 (0 : Fin 1) b)).val = (Shape.rowMajorPi ![32] (ix1 b)).val
    rw [Shape.rowMajorPi_succ_val, Shape.rowMajorPi_succ_val, Shape.rowMajorPi_succ_val]
    change 0 * _ + (b.val * 1 + 0) = b.val * 1 + 0
    omega
  refine (congrArg _ he).trans ?_
  funext a
  refine Fin.ext ?_
  change k0_off52 L a + 1 * (ix2 (0 : Fin 1) b : S1x32.Idx) a = _
  rw [k0_off52_eq]
  fin_cases a
  · change 2 * (L 1).val + (L 0).val + 1 * 0 = 2 * (L 1).val + (L 0).val; omega
  · change 0 + 1 * b.val = b.val; omega

theorem row_set : (row L rV).view.set = rReg d (wid L) := by
  ext y
  rw [mem_region]
  constructor
  · intro hy
    obtain ⟨x, -, rfl⟩ := Finset.mem_map.mp hy
    rw [eq_ix1 x]
    exact congrArg rCl (row_emb L (x 0))
  · intro hy
    have hy' : (row L rV).view.emb (ix1 ((y : S32x32.Idx) 1 : Fin 32)) = y := by
      refine (row_emb L _).trans (Eq.symm ?_)
      refine (eq_ix2 (y : S32x32.Idx)).trans ?_
      congr 1
      exact Fin.ext hy
    exact hy' ▸ View.emb_mem_set _ _

theorem hRk : ∀ n (h : n < 8294400), 259200 * wid L ≤ n → n < 259200 * wid L + 259200 → (kV).view.emb (ix1 ⟨n, h⟩) ∈ kReg d (wid L) := fun n h h1 h2 =>
  mem_region.mpr (show n / 259200 = wid L by omega)

theorem hRg : ∀ n (h : n < 265420800), base L ≤ n → n < base L + 8294400 → (gV).view.emb (ix1 ⟨n, h⟩) ∈ gReg d (wid L) := fun n h h1 h2 =>
  mem_region.mpr (show n / 8294400 = wid L by unfold base at h1 h2; omega)

theorem cell_credit (h0 : ∀ a : Fin 1, (![0] : Fin 1 → ℕ) a + (![265420800] : Fin 1 → ℕ) a ≤ (⟨1, ![265420800]⟩ : Shape).size a) (ax : Fin (⟨1, ![265420800]⟩ : Shape).rank) (p : Fin ((⟨1, ![265420800]⟩ : Shape).size ax)) :
    (ScatterRows.cellView (thr d L) gV h0 ax p).dmaCredit = 32 := by
  have hax : ax = 0 := Subsingleton.elim (α := Fin 1) _ _
  subst hax
  rfl

theorem keyOf_eq (n : ℕ) : keyOf d L kV (m (kLoc d)) n = keyW (m (kLoc d)) (wid L) n := rfl

/-- The row, as memref and as region. -/
theorem given_row : (iprop(∃ g, rLoc d ↦[rReg d (wid L)]{fullShare} g) : sProp 𝕄) ⊢ iprop(∃ g, has (thr d L) (row L rV) g) := by
  iintro ⟨%f, H⟩
  iexists _
  iapply (Has.has_intro (thr d L) (row L rV) f _ (fun _ => rfl))
  rw [row_set d L]
  iexact H

theorem returned_row :
    (has (thr d L) (row L rV) (fun x => (BitVec.ofNat 32 (cnt (keyOf d L kV (m (kLoc d))) (x 0).val 259200) : Elt F .i32)) : sProp 𝕄)
      ⊢ iprop(∃ g, (rLoc d ↦[rReg d (wid L)]{fullShare} g) ∗ ⌜Counted (m (kLoc d)) (wid L) g⌝) := by
  unfold has
  rw [row_set d L]
  iintro ⟨%f, %hf, H⟩
  iexists f
  isplitl [H]; · iexact H
  ipureintro
  intro h b
  refine Eq.trans ?_ (hf (ix1 b))
  rw [View.read_apply]
  refine (congrArg f (row_emb L b).symm).trans (cast_eq _ _).symm

/-- The task of tile `L`. -/
theorem tile_body (hF : (K (F := F)).Facts) (O : CellTallies nD τ sig (HIx 2)) (W : Waits sig (HIx 2)) (hO : ∀ g, O g none = 0) :
    iprop(levAts (K (F := F)).L (K (F := F)).lev ∗ emp ∗ given m d (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__partition_body L kV (Memref.isWhole_whole _) gV (Memref.isWhole_whole _) rV (Memref.isWhole_whole _)
            bV (Memref.isWhole_whole _) pV (Memref.isWhole_whole _) cV' (Memref.isWhole_whole _) cc0_scratch3 cc0_scoped0 cc0_scoped1)
          fun _ => iprop(returned m d (wid L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold given returned
  iintro ⟨#Hlv, -, ⟨Hk, Hg, Hr⟩, ⟨Hb, Hp, Hc, Hbufs⟩, ⟨Ha, Hsb, Hsc, Hsems⟩, HO⟩
  ihave Hmw := (show levAts (K (F := F)).L (K (F := F)).lev ⊢ Transfers.MayWaits (V d (cV L) (jV L)) (none : HIx 2) O from
    (K (F := F)).mayWaits_none (thr := V d (cV L) (jV L)) hO) $$ Hlv
  ihave Hb := (has_whole (F := F) (c := V d (cV L) (jV L)) cc0_scratch0) $$ Hb
  ihave Hp := (has_whole (F := F) (c := V d (cV L) (jV L)) cc0_scratch1) $$ Hp
  ihave Hc := (has_whole (F := F) (c := V d (cV L) (jV L)) cc0_scratch2) $$ Hc
  iapply ((wp_tile countersEmb d L (arg2 := kV) (arg3 := gV) (arg4 := rV) (arg5 := bV) (arg6 := pV) (arg7 := cV') (arg8 := cc0_scratch3) (v236_r0 := cc0_scoped0) (v8_r1 := cc0_scoped1) (Rk := kReg d (wid L)) (Rg := gReg d (wid L)) (q := fullShare) (fk := m (kLoc d)) (O := O) (W₀ := W)
    (Memref.isWhole_whole _) (Memref.isWhole_whole _) (Memref.isWhole_whole _) (Memref.isWhole_whole _) (Memref.isWhole_whole _) (Memref.isWhole_whole _)
    (hRk d L) (hRg d L) (cell_credit d L) (fun _ _ _ => rfl)).trans (wp_wand _ _ _)) $$ [Hk Hg Hr Hb Hp Hc Ha Hsb Hsc HO]
  · isplitl [Hk]; · iexact Hk
    isplitl [Hb]; · iexact Hb
    isplitl [Hp]; · iexact Hp
    isplitl [Hc]; · iexact Hc
    isplitl [Hg]; · iexact Hg
    isplitl [Hr]
    · iapply (given_row d L) $$ Hr
    isplitl [Ha]; · iexact Ha
    isplitl [Hsb]; · iexact Hsb
    isplitl [Hsc]; · iexact Hsc
    isplitl [HO]
    · unfold Debts
      iexists W
      isplitr
      · ipureintro; exact fun p hp => .inl hp
      · iexact HO
    iexact Hmw
  iintro %_ ⟨Hk, Hb, Hp, Hc, Hg, Hr, Ha, Hsb, Hsc, HO⟩
  ihave Hb := (whole_has (F := F) (c := V d (cV L) (jV L)) cc0_scratch0) $$ Hb
  ihave Hp := (whole_has (F := F) (c := V d (cV L) (jV L)) cc0_scratch1) $$ Hp
  ihave Hc := (whole_has (F := F) (c := V d (cV L) (jV L)) cc0_scratch2) $$ Hc
  isplitl [Hk Hg Hr]
  · isplitl [Hk]; · iexact Hk
    isplitl [Hg]; · iexact Hg
    iapply (returned_row m d L) $$ Hr
  isplitl [Hb Hp Hc Hbufs]
  · isplitl [Hb]; · iexact Hb
    isplitl [Hp]; · iexact Hp
    isplitl [Hc]; · iexact Hc
    iexact Hbufs
  isplitl [Ha Hsb Hsc Hsems]
  · isplitl [Ha]; · iexact Ha
    isplitl [Hsb]; · iexact Hsb
    isplitl [Hsc]; · iexact Hsc
    iexact Hsems
  unfold Debts
  iexact HO

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__partition_body (coordsV c s)
          kV (Memref.isWhole_whole _) gV (Memref.isWhole_whole _) rV (Memref.isWhole_whole _)
          bV (Memref.isWhole_whole _) pV (Memref.isWhole_whole _) cV' (Memref.isWhole_whole _) cc0_scratch3 cc0_scoped0 cc0_scoped1) ⟨⟩ c s := rfl

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Cert.Launch

end
-- ==== Proof.TaskCount.lean ====
/- The second call on a tile: the count, as the launch runs it. -/
module

public import proofs.«01_k».proof.Proof.Setup

@[expose] public section

noncomputable section

namespace Cert.Launch

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Has (has)
open Cert.Phase (Debts)
open Cert.Partition Cert.Tile Cert.Regions

variable {F : FTy → Type} [FloatOps F]

local notation "𝕄" => MT nD τ sig (HIx 2) (Elt F) ℕ UU ℕ

variable (m : (ℓ : Loc nD τ sig) → Buf (Elt F) ℓ)

local notation "gV" => (Memref.whole Cert.KernelIdeal.main_v0_0_scv : Memref Cert.KernelIdeal.sig Kind.scVector Space.hbm Cert.KernelIdeal.S265420800 EltTy.i32)
local notation "rV" => (Memref.whole Cert.KernelIdeal.main_v0_1_scv : Memref Cert.KernelIdeal.sig Kind.scVector Space.hbm Cert.KernelIdeal.S32x32 EltTy.i32)
local notation "sV" => (Memref.whole Cert.KernelIdeal.main_v1_0_scv : Memref Cert.KernelIdeal.sig Kind.scVector Space.hbm Cert.KernelIdeal.S32x16 EltTy.f32)
local notation "zV" => (Memref.whole Cert.KernelIdeal.main_v1_1_scv : Memref Cert.KernelIdeal.sig Kind.scVector Space.hbm Cert.KernelIdeal.S265453568 EltTy.i32)
local notation "b0V" => (Memref.whole Cert.KernelIdeal.cc1_scratch0 : Memref Cert.KernelIdeal.sig Kind.scVector Space.vmem Cert.KernelIdeal.S32x32 EltTy.i32)
local notation "b1V" => (Memref.whole Cert.KernelIdeal.cc1_scratch1 : Memref Cert.KernelIdeal.sig Kind.scVector Space.vmem Cert.KernelIdeal.S64 EltTy.i32)
local notation "b2V" => (Memref.whole Cert.KernelIdeal.cc1_scratch2 : Memref Cert.KernelIdeal.sig Kind.scVector Space.vmem Cert.KernelIdeal.S800 EltTy.i32)
local notation "b3V" => (Memref.whole Cert.KernelIdeal.cc1_scratch3 : Memref Cert.KernelIdeal.sig Kind.scVector Space.vmem Cert.KernelIdeal.S800 EltTy.i32)
local notation "b4V" => (Memref.whole Cert.KernelIdeal.cc1_scratch4 : Memref Cert.KernelIdeal.sig Kind.scVector Space.vmem Cert.KernelIdeal.S800 EltTy.i32)
local notation "b5V" => (Memref.whole Cert.KernelIdeal.cc1_scratch5 : Memref Cert.KernelIdeal.sig Kind.scVector Space.vmem Cert.KernelIdeal.S1024 EltTy.i32)
local notation "b6V" => (Memref.whole Cert.KernelIdeal.cc1_scratch6 : Memref Cert.KernelIdeal.sig Kind.scVector Space.vmem Cert.KernelIdeal.S8x128 EltTy.i32)
local notation "b7V" => (Memref.whole Cert.KernelIdeal.cc1_scratch7 : Memref Cert.KernelIdeal.sig Kind.scVector Space.vmem Cert.KernelIdeal.S512 EltTy.i32)
local notation "b8V" => (Memref.whole Cert.KernelIdeal.cc1_scratch8 : Memref Cert.KernelIdeal.sig Kind.scVector Space.vmem Cert.KernelIdeal.S65536 EltTy.i32)
local notation "b9V" => (Memref.whole Cert.KernelIdeal.cc1_scratch9 : Memref Cert.KernelIdeal.sig Kind.scVector Space.vmem Cert.KernelIdeal.S16 EltTy.f32)

variable (d : Dev nD) (L : grid1.Coords)

abbrev cW (L : grid1.Coords) : Fin τ.nSC := (L 0).castLE hcore1
abbrev jW (L : grid1.Coords) : Fin τ.nSub := (L 1).castLE hsub1

/-- The semaphores the body uses. -/
abbrev semsW : Finset (SemLoc sig) := {.dma cc1_scratch10.sem, .dma cc1_scoped0.sem, .dma cc1_scoped1.sem, .dma cc1_scoped3.sem, .dma cc1_scoped5.sem, .dma cc1_scoped6.sem, .dma cc1_scoped8.sem, .dma cc1_scoped10.sem, .dma cc1_scoped12.sem}

abbrev cellsW : Finset (GSem nD τ sig) := semsW.map ⟨fun s => (V d (cW L) (jW L), s), fun _ _ h => (Prod.mk.inj h).2⟩

omit [FloatOps F] in
theorem ownSems0_W :
    (ownSems0 (V d (cW L) (jW L)) : sProp 𝕄)
      = iprop((semVal (V d (cW L) (jW L), .dma cc1_scratch10.sem) 0 ∗ semVal (V d (cW L) (jW L), .dma cc1_scoped0.sem) 0 ∗ semVal (V d (cW L) (jW L), .dma cc1_scoped1.sem) 0 ∗ semVal (V d (cW L) (jW L), .dma cc1_scoped3.sem) 0 ∗ semVal (V d (cW L) (jW L), .dma cc1_scoped5.sem) 0 ∗ semVal (V d (cW L) (jW L), .dma cc1_scoped6.sem) 0 ∗ semVal (V d (cW L) (jW L), .dma cc1_scoped8.sem) 0 ∗ semVal (V d (cW L) (jW L), .dma cc1_scoped10.sem) 0 ∗ semVal (V d (cW L) (jW L), .dma cc1_scoped12.sem) 0)
          ∗ bigSep (ownCells (V d (cW L) (jW L)) \ cellsW d L) fun g => semVal g 0) := by
  have hsub : cellsW d L ⊆ ownCells (V d (cW L) (jW L)) := fun g hg => by
    obtain ⟨s, hs, rfl⟩ := Finset.mem_map.mp hg
    have hsc : ∀ s ∈ semsW, s.isScoped .scVector = true := by decide
    exact mem_ownCells.mpr ⟨rfl, hsc s hs⟩
  unfold SparseCore.Cfg.ownSems0
  rw [bigSep_take hsub]
  congr 1
  show bigSep (semsW.map _) _ = _
  rw [bigSep_map, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The buffers of the body. -/
abbrev refsW : Finset (Ref sig .scVector) := {cc1_scratch0, cc1_scratch1, cc1_scratch2, cc1_scratch3, cc1_scratch4, cc1_scratch5, cc1_scratch6, cc1_scratch7, cc1_scratch8, cc1_scratch9}

abbrev bufsW : Finset (DevRef τ sig) := refsW.map ⟨(Proc.scVector (cW L) (jW L)).devRef, Proc.devRef_injective _⟩

omit [FloatOps F] in
theorem ownBufs_W :
    (ownBufs (V d (cW L) (jW L)) : sProp 𝕄)
      = iprop(((∃ f, (V d (cW L) (jW L)).loc cc1_scratch0 ↦{fullShare} f) ∗ (∃ f, (V d (cW L) (jW L)).loc cc1_scratch1 ↦{fullShare} f) ∗ (∃ f, (V d (cW L) (jW L)).loc cc1_scratch2 ↦{fullShare} f) ∗ (∃ f, (V d (cW L) (jW L)).loc cc1_scratch3 ↦{fullShare} f) ∗ (∃ f, (V d (cW L) (jW L)).loc cc1_scratch4 ↦{fullShare} f) ∗ (∃ f, (V d (cW L) (jW L)).loc cc1_scratch5 ↦{fullShare} f) ∗ (∃ f, (V d (cW L) (jW L)).loc cc1_scratch6 ↦{fullShare} f) ∗ (∃ f, (V d (cW L) (jW L)).loc cc1_scratch7 ↦{fullShare} f) ∗ (∃ f, (V d (cW L) (jW L)).loc cc1_scratch8 ↦{fullShare} f) ∗ (∃ f, (V d (cW L) (jW L)).loc cc1_scratch9 ↦{fullShare} f))
          ∗ bigSep (ownRefs (τ := τ) (.scVector (cW L) (jW L)) \ bufsW L) fun b => iprop(∃ f, ((d, b) : Loc nD τ sig) ↦{fullShare} f)) := by
  have hsub : bufsW L ⊆ ownRefs (τ := τ) (.scVector (cW L) (jW L)) := fun b hb => by
    obtain ⟨r, hr, rfl⟩ := Finset.mem_map.mp hb
    simp only [Finset.mem_insert, Finset.mem_singleton] at hr
    rcases hr with rfl | rfl | rfl | rfl | rfl | rfl | rfl | rfl | rfl | rfl <;> exact SparseCore.Cfg.mem_ownRefs_of_owner rfl
  unfold SparseCore.Cfg.ownBufs
  rw [bigSep_take hsub]
  congr 1
  show bigSep (refsW.map _) _ = _
  rw [bigSep_map, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The row's elements. -/
theorem rowS_emb (b : Fin 16) : (CountTile.row L sV).view.emb (ix1 b) = (ix2 ⟨wid L, wid_lt L⟩ b : S32x16.Idx) := by
  change (Rect.unit (s := S32x16) (k1_off65 L) S1x16.size (k1_off65_inb L)).emb (Shape.reshapeEquiv squeezes_S1x16_S16.numel_eq (ix1 b)) = _
  have he : Shape.reshapeEquiv squeezes_S1x16_S16.numel_eq (ix1 b) = (ix2 (0 : Fin 1) b : S1x16.Idx) := by
    apply Shape.reshapeEquiv_eq_of_rowMajor
    change (Shape.rowMajorPi ![1, 16] (ix2 (0 : Fin 1) b)).val = (Shape.rowMajorPi ![16] (ix1 b)).val
    rw [Shape.rowMajorPi_succ_val, Shape.rowMajorPi_succ_val, Shape.rowMajorPi_succ_val]
    change 0 * _ + (b.val * 1 + 0) = b.val * 1 + 0
    omega
  refine (congrArg _ he).trans ?_
  funext a
  refine Fin.ext ?_
  change k1_off65 L a + 1 * (ix2 (0 : Fin 1) b : S1x16.Idx) a = _
  rw [k1_off65_eq]
  fin_cases a
  · change 2 * (L 1).val + (L 0).val + 1 * 0 = 2 * (L 1).val + (L 0).val; omega
  · change 0 + 1 * b.val = b.val; omega

theorem rowS_set : (CountTile.row L sV).view.set = pReg d (wid L) := by
  ext y
  rw [mem_region]
  constructor
  · intro hy
    obtain ⟨x, -, rfl⟩ := Finset.mem_map.mp hy
    rw [eq_ix1 x]
    exact congrArg pCl (rowS_emb L (x 0))
  · intro hy
    have hy' : (CountTile.row L sV).view.emb (ix1 ((y : S32x16.Idx) 1 : Fin 16)) = y := by
      refine (rowS_emb L _).trans (Eq.symm ?_)
      refine (eq_ix2 (y : S32x16.Idx)).trans ?_
      congr 1
      exact Fin.ext hy
    exact hy' ▸ View.emb_mem_set _ _

/-- The row, as memref and as region. -/
theorem given_rowS : (iprop(∃ g, pLoc d ↦[pReg d (wid L)]{fullShare} g) : sProp 𝕄) ⊢ iprop(∃ g, has (F := F) (CountTile.thr d L) (CountTile.row L sV) g) := by
  iintro ⟨%f, H⟩
  iexists _
  iapply (Has.has_intro (CountTile.thr d L) (CountTile.row L sV) f _ (fun _ => rfl))
  rw [rowS_set d L]
  iexact H

theorem returned_rowS :
    (iprop(∃ a, has (F := F) (CountTile.thr d L) (CountTile.row L sV) a ∗ ⌜CountTile.Sums (F := F) a (keyAt (m (kLoc d))) (wid L)⌝) : sProp 𝕄)
      ⊢ returned1 m d (wid L) := by
  unfold has returned1
  rw [rowS_set d L]
  iintro ⟨%a, ⟨%f, %hf, H⟩, %ha⟩
  iexists f
  isplitl [H]; · iexact H
  ipureintro
  intro h
  have he : (fun x : S16.Idx => (f : S32x16.Idx → Elt F .f32) (ix2 ⟨wid L, h⟩ (x 0))) = a := funext fun x => by
    refine Eq.trans ?_ (hf x)
    rw [View.read_apply]
    refine (congrArg f ((rowS_emb L (x 0)).symm.trans (congrArg _ (eq_ix1 x).symm))).trans (cast_eq _ _).symm
  rw [he]
  exact ha

/-- The places of the tile's part that are not beyond all places. -/
abbrev zIn (d : Dev nD) (w : ℕ) : Finset (Idx (zLoc d)) := (zReg d w).filter fun x : S265453568.Idx => (x 0).val < w * 8295424 + 8295168

theorem hZg : ∀ n (h : n < 265453568), CountTile.tb L ≤ n → n < CountTile.tb L + 8295168 → (zV).view.emb (ix1 ⟨n, h⟩) ∈ zIn d (wid L) := fun n h h1 h2 =>
  Finset.mem_filter.mpr ⟨mem_region.mpr (show n / 8295424 = wid L by unfold CountTile.tb at h1 h2; omega), h2⟩

theorem hZd : ∀ n (h : n < 265453568), CountTile.tb L + 8295168 ≤ n → n < CountTile.tb L + 8295424 → (zV).view.emb (ix1 ⟨n, h⟩) ∈ zReg d (wid L) \ zIn d (wid L) := fun n h h1 h2 =>
  Finset.mem_sdiff.mpr ⟨mem_region.mpr (show n / 8295424 = wid L by unfold CountTile.tb at h1 h2; omega),
    fun hc => absurd (show n < wid L * 8295424 + 8295168 from (Finset.mem_filter.mp hc).2) (by unfold CountTile.tb at h1; omega)⟩

theorem cellZ_credit (h0 : ∀ a : Fin 1, (![0] : Fin 1 → ℕ) a + (![265453568] : Fin 1 → ℕ) a ≤ (⟨1, ![265453568]⟩ : Shape).size a) (ax : Fin (⟨1, ![265453568]⟩ : Shape).rank) (p : Fin ((⟨1, ![265453568]⟩ : Shape).size ax)) :
    (ScatterRows.cellView (CountTile.thr d L) zV h0 ax p).dmaCredit = 32 := by
  have hax : ax = 0 := Subsingleton.elim (α := Fin 1) _ _
  subst hax
  rfl

/-- The runs of tile `T` as the first call left them. -/
def kkOf (g : S265420800.Idx → BitVec 32) (T e : ℕ) : BitVec 32 :=
  if h : (e / 262144 * 32 + T) * 259200 + e % 262144 < 265420800 then g (ix1 ⟨_, h⟩) else 0#32

omit [FloatOps F] in
theorem keyW_fun (fk : S8294400.Idx → BitVec 32) (w : ℕ) : keyW fk w = fun j => keyAt fk (w * 259200 + j) := funext fun j => by
  rw [keyW_eq, Nat.mul_comm]

omit [FloatOps F] in
theorem kkOf_at (g : S265420800.Idx → BitVec 32) (T w x p : ℕ) (hx : x < 262144) (hp : (w * 32 + T) * 259200 + x = p) (h : p < 265420800) :
    kkOf g T (w * 262144 + x) = g (ix1 ⟨p, h⟩) := by
  subst hp
  have e1 : (w * 262144 + x) / 262144 = w := by omega
  have e2 : (w * 262144 + x) % 262144 = x := by omega
  unfold kkOf
  simp only [e1, e2]
  rw [dif_pos h]

omit [FloatOps F] in
theorem runs (fk : S8294400.Idx → BitVec 32) (g : S265420800.Idx → BitVec 32) (T : ℕ) (hT : T < 32) (hg : ∀ v : Fin 32, Placed fk v.val g) :
    Seq.Runs (fun w => cnt (keyW fk w) T 259200) (kkOf g T) (keyAt fk) T where
  hcw w _ := by rw [keyW_fun]
  hkk w hw j hj hb := by
    rw [← keyW_fun]
    have hb' : bin (keyW fk w j) = T := by rw [keyW_fun]; exact hb
    have hc : cnt (keyW fk w) T j ≤ j := Nat.count_le _
    refine (kkOf_at g T w _ _ (by omega) rfl (by omega)).trans ?_
    rw [hg ⟨w, hw⟩ j hj ⟨_, _⟩ ?_]
    · rw [keyW_fun]
    · show (w * 32 + T) * 259200 + cnt (keyW fk w) T j = w * 8294400 + bin (keyW fk w j) * 259200 + cnt (keyW fk w) (bin (keyW fk w j)) j
      rw [hb']
      omega

omit [FloatOps F] in
theorem fits (fk : S8294400.Idx → BitVec 32) (hgood : Good fk) : CountTile.Fits L (fun w => cnt (keyW fk w) (wid L) 259200) := by
  intro w _
  refine ⟨Nat.count_le _, fun h1 h2 => ?_⟩
  subst h2
  rw [h1]
  exact hgood.2

theorem reads (g : Buf (Elt F) (gLoc d)) : CountTile.Reads (F := F) d L gV g (kkOf g (wid L)) := by
  intro w _ x hx h
  exact (kkOf_at g (wid L) w x _ hx rfl h).symm

set_option maxHeartbeats 2000000 in
/-- The task of tile `L`. -/
theorem count_body (hgood : Good (m (kLoc d))) (hF : (K (F := F)).Facts) (O : CellTallies nD τ sig (HIx 2)) (W : Waits sig (HIx 2)) (hO : ∀ g, O g none = 0) :
    iprop(levAts (K (F := F)).L (K (F := F)).lev ∗ emp ∗ given1 m d (wid L)
        ∗ scopedBufs (V d (cW L) (jW L)) ∗ scopedSems0 (V d (cW L) (jW L)) ∗ owes (V d (cW L) (jW L)) O W)
      ⊢ wp frame (wpE (defs₀ (F := F)) 𝒱₀ (V d (cW L) (jW L)) none) Set.univ
          (cc1__count_body L gV (Memref.isWhole_whole _) rV (Memref.isWhole_whole _) sV (Memref.isWhole_whole _) zV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _) cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12)
          fun _ => iprop(returned1 m d (wid L)
            ∗ scopedBufs (V d (cW L) (jW L)) ∗ scopedSems0 (V d (cW L) (jW L))
            ∗ ∃ W', ⌜∀ p ∈ W', p ∈ W ∨ p.2 = none⌝ ∗ owes (V d (cW L) (jW L)) O W') := by
  rw [(K (F := F)).scopedBufs_V hF d (cW L) (jW L), SparseCore.Cfg.scopedSems0_V (Val := Elt F) d (cW L) (jW L), ownSems0_W, ownBufs_W]
  unfold given1
  iintro ⟨#Hlv, -, ⟨⟨%g, Hg, %hg⟩, ⟨%r, Hr, %hr⟩, Hp, ⟨%z, Hz⟩⟩, ⟨⟨Hb0, Hb1, Hb2, Hb3, Hb4, Hb5, Hb6, Hb7, Hb8, Hb9⟩, Hbufs⟩, ⟨⟨Hs0, Hs1, Hs2, Hs3, Hs4, Hs5, Hs6, Hs7, Hs8⟩, Hsems⟩, HO⟩
  ihave Hmw := (show levAts (K (F := F)).L (K (F := F)).lev ⊢ Transfers.MayWaits (V d (cW L) (jW L)) (none : HIx 2) O from
    (K (F := F)).mayWaits_none (thr := V d (cW L) (jW L)) hO) $$ Hlv
  ihave Hz := (pointsTo_split_subset (ℓ := zLoc d) (q := fullShare) (f := z) (show zIn d (wid L) ⊆ zReg d (wid L) from Finset.filter_subset _ _)).1 $$ Hz
  icases Hz with ⟨Hz, Hzd⟩
  iapply (fupd_wp frame _ _ _)
  ihave Hzd := (Moves.dump_alloc (F := F) (zLoc d) (zReg d (wid L) \ zIn d (wid L)) z (E := Set.univ)) $$ Hzd
  imod Hzd
  imodintro
  ihave Hb0 := (has_whole (F := F) (c := V d (cW L) (jW L)) cc1_scratch0) $$ Hb0
  ihave Hb1 := (has_whole (F := F) (c := V d (cW L) (jW L)) cc1_scratch1) $$ Hb1
  ihave Hb2 := (has_whole (F := F) (c := V d (cW L) (jW L)) cc1_scratch2) $$ Hb2
  ihave Hb3 := (has_whole (F := F) (c := V d (cW L) (jW L)) cc1_scratch3) $$ Hb3
  ihave Hb4 := (has_whole (F := F) (c := V d (cW L) (jW L)) cc1_scratch4) $$ Hb4
  ihave Hb5 := (has_whole (F := F) (c := V d (cW L) (jW L)) cc1_scratch5) $$ Hb5
  ihave Hb6 := (has_whole (F := F) (c := V d (cW L) (jW L)) cc1_scratch6) $$ Hb6
  ihave Hb7 := (has_whole (F := F) (c := V d (cW L) (jW L)) cc1_scratch7) $$ Hb7
  ihave Hb8 := (has_whole (F := F) (c := V d (cW L) (jW L)) cc1_scratch8) $$ Hb8
  ihave Hb9 := (has_whole (F := F) (c := V d (cW L) (jW L)) cc1_scratch9) $$ Hb9
  iapply ((CountTile.wp_count countersEmb d L (arg2 := gV) (arg3 := rV) (arg4 := sV) (arg5 := zV) (arg6 := b0V) (arg7 := b1V) (arg8 := b2V) (arg9 := b3V) (arg10 := b4V) (arg11 := b5V) (arg12 := b6V) (arg13 := b7V) (arg14 := b8V) (arg15 := b9V)
    (arg16 := cc1_scratch10) (v25_r0 := cc1_scoped0) (v42_r1 := cc1_scoped1) (v42_r2 := cc1_scoped2) (v113_r3 := cc1_scoped3) (v113_r4 := cc1_scoped4) (v59_r5 := cc1_scoped5) (v62_r6 := cc1_scoped6) (v62_r7 := cc1_scoped7) (v62_r8 := cc1_scoped8) (v62_r9 := cc1_scoped9) (v62_r10 := cc1_scoped10) (v62_r11 := cc1_scoped11) (v25_r12 := cc1_scoped12)
    (fk := g) (f3 := r) (q := lf (wid L)) (q3 := lf (wid L)) (Rg := zIn d (wid L)) (Sd := zReg d (wid L) \ zIn d (wid L)) (O := O) (W₀ := W)
    (cw := fun w => cnt (keyW (m (kLoc d)) w) (wid L) 259200) (kk := kkOf g (wid L)) (key := keyAt (m (kLoc d))) (T := wid L)
    (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)
    (reads d L g) (fits L _ hgood) (runs _ g (wid L) (wid_lt L) hg) hgood.1 (fun w t ht => by
      have := hr w w.isLt t
      rw [ht] at this
      exact this) (hZg d L) (hZd d L) (cellZ_credit d L) (fun _ _ _ => rfl)).trans (wp_wand _ _ _)) $$ [Hg Hr Hp Hz Hzd Hb0 Hb1 Hb2 Hb3 Hb4 Hb5 Hb6 Hb7 Hb8 Hb9 Hs0 Hs1 Hs2 Hs3 Hs4 Hs5 Hs6 Hs7 Hs8 HO]
  · isplitl [Hg]; · iexact Hg
    isplitl [Hr]; · iexact Hr
    isplitl [Hp]; · iapply (given_rowS d L) $$ Hp
    isplitl [Hz]; · iexists z; iexact Hz
    isplitl [Hzd]; · iexact Hzd
    isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    isplitl [Hb9]; · iexact Hb9
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [HO]
    · unfold Debts
      iexists W
      isplitr
      · ipureintro; exact fun p hp => .inl hp
      · iexact HO
    iexact Hmw
  iintro %_ ⟨-, -, Hp, -, Hb0, Hb1, Hb2, Hb3, Hb4, Hb5, Hb6, Hb7, Hb8, Hb9, Hs0, Hs1, Hs2, Hs3, Hs4, Hs5, Hs6, Hs7, Hs8, HO⟩
  ihave Hb0 := (whole_has (F := F) (c := V d (cW L) (jW L)) cc1_scratch0) $$ Hb0
  ihave Hb1 := (whole_has (F := F) (c := V d (cW L) (jW L)) cc1_scratch1) $$ Hb1
  ihave Hb2 := (whole_has (F := F) (c := V d (cW L) (jW L)) cc1_scratch2) $$ Hb2
  ihave Hb3 := (whole_has (F := F) (c := V d (cW L) (jW L)) cc1_scratch3) $$ Hb3
  ihave Hb4 := (whole_has (F := F) (c := V d (cW L) (jW L)) cc1_scratch4) $$ Hb4
  ihave Hb5 := (whole_has (F := F) (c := V d (cW L) (jW L)) cc1_scratch5) $$ Hb5
  ihave Hb6 := (whole_has (F := F) (c := V d (cW L) (jW L)) cc1_scratch6) $$ Hb6
  ihave Hb7 := (whole_has (F := F) (c := V d (cW L) (jW L)) cc1_scratch7) $$ Hb7
  ihave Hb8 := (whole_has (F := F) (c := V d (cW L) (jW L)) cc1_scratch8) $$ Hb8
  ihave Hb9 := (whole_has (F := F) (c := V d (cW L) (jW L)) cc1_scratch9) $$ Hb9
  isplitl [Hp]
  · iapply (returned_rowS m d L) $$ Hp
  isplitl [Hb0 Hb1 Hb2 Hb3 Hb4 Hb5 Hb6 Hb7 Hb8 Hb9 Hbufs]
  · isplitr [Hbufs]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      isplitl [Hb8]; · iexact Hb8
      iexact Hb9
    iexact Hbufs
  isplitl [Hs0 Hs1 Hs2 Hs3 Hs4 Hs5 Hs6 Hs7 Hs8 Hsems]
  · isplitr [Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexact Hsems
  unfold Debts
  iexact HO

def coordsW (c : Fin (grid1.bound 0)) (s : Fin (grid1.bound 1)) : grid1.Coords :=
  fun | 0 => c | 1 => s | ⟨_ + 2, h⟩ => absurd h (Nat.not_lt.2 (Nat.le_add_left _ _))

theorem defs₀_count (c : Fin τ.nSC) (s : Fin τ.nSub) :
    defs₀ (F := F) (.scVector c s) 1 ()
      = SparseCore.onTile hcore1 hsub1 (fun c s => cc1__count_body (coordsW c s) gV (Memref.isWhole_whole _) rV (Memref.isWhole_whole _) sV (Memref.isWhole_whole _) zV (Memref.isWhole_whole _) b0V (Memref.isWhole_whole _) b1V (Memref.isWhole_whole _) b2V (Memref.isWhole_whole _) b3V (Memref.isWhole_whole _) b4V (Memref.isWhole_whole _) b5V (Memref.isWhole_whole _) b6V (Memref.isWhole_whole _) b7V (Memref.isWhole_whole _) b8V (Memref.isWhole_whole _) b9V (Memref.isWhole_whole _) cc1_scratch10 cc1_scoped0 cc1_scoped1 cc1_scoped2 cc1_scoped3 cc1_scoped4 cc1_scoped5 cc1_scoped6 cc1_scoped7 cc1_scoped8 cc1_scoped9 cc1_scoped10 cc1_scoped11 cc1_scoped12) ⟨⟩ c s := rfl

set_option maxRecDepth 16384 in
theorem countObl (hgood : ∀ d, Good (m (kLoc d))) (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_count]; simp only [SparseCore.onTile, hci, and_self, ↓reduceDIte]
  exact (count_body m d (coordsW ⟨_, hci.1⟩ ⟨_, hci.2⟩) (hgood d) hF O W hO).trans (wp_mono frame _ _ fun _ => obl_post)

end Cert.Launch

end
-- ==== Proof.Deal.lean ====
/- The arrays dealt to the tiles and gathered, and the host's operations. -/
module

public import proofs.«01_k».proof.Proof.TaskPart
public import proofs.«01_k».proof.Proof.TaskCount

@[expose] public section

noncomputable section

namespace Cert.Launch

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Has (has)
open Cert.Phase (Debts)
open Cert.Partition Cert.Tile Cert.Regions

variable {F : FTy → Type} [FloatOps F]

local notation "𝕄" => MT nD τ sig (HIx 2) (Elt F) ℕ UU ℕ

variable (m : (ℓ : Loc nD τ sig) → Buf (Elt F) ℓ) (ρ : Dev nD → PrngReg)

/-! ## The arrays dealt and gathered -/

theorem vecSplit (q : Fin 2) : (K (F := F)).VecSplit' (P m) q := by
  match q with
  | 0 =>
    intro d c
    show (bigSep Finset.univ fun s : Fin 16 => giv m 0 d (2 * s.val + c.val)) ⊢ |={Set.univ}=> iprop(
        (bigSep Finset.univ fun s : Fin 16 => giv m 0 d (2 * s.val + c.val))
        ∗ ((bigSep Finset.univ fun s : Fin 16 => ret m 0 d (2 * s.val + c.val)) -∗ bigSep Finset.univ fun s : Fin 16 => ret m 0 d (2 * s.val + c.val)))
    iintro H; imodintro
    isplitl [H]; · iexact H
    iintro H; iexact H
  | 1 =>
    intro d c
    show (bigSep Finset.univ fun s : Fin 16 => giv m 1 d (2 * s.val + c.val)) ⊢ |={Set.univ}=> iprop(
        (bigSep Finset.univ fun s : Fin 16 => giv m 1 d (2 * s.val + c.val))
        ∗ ((bigSep Finset.univ fun s : Fin 16 => ret m 1 d (2 * s.val + c.val)) -∗ bigSep Finset.univ fun s : Fin 16 => ret m 1 d (2 * s.val + c.val)))
    iintro H; imodintro
    isplitl [H]; · iexact H
    iintro H; iexact H

theorem deal (d : Dev nD) (g : Buf (Elt F) (gLoc d)) (r : Buf (Elt F) (rLoc d)) :
    (iprop((kLoc d ↦{fullShare} m (kLoc d)) ∗ (gLoc d ↦{fullShare} g) ∗ (rLoc d ↦{fullShare} r)) : sProp 𝕄)
      ⊢ bigSep Finset.univ fun c : Fin ((K (F := F)).nCore 0) => (P m).st 0 d c := by
  show _ ⊢ bigSep (Finset.univ : Finset (Fin 2)) fun c => bigSep Finset.univ fun s : Fin 16 => given m d (2 * s.val + c.val)
  rw [bigSep_tiles (given m d), split kCl kCl_lt, split gCl gCl_lt, split rCl rCl_lt]
  unfold given
  rw [bigSep_sep', bigSep_sep']
  refine BIClass.sep_mono (BI.Entails.refl _) (BIClass.sep_mono (bigSep_mono fun w _ => ?_) (bigSep_mono fun w _ => ?_))
  · show (gLoc d ↦[gReg d w.val]{fullShare} g) ⊢ iprop(∃ g, gLoc d ↦[gReg d w.val]{fullShare} g)
    iintro H; iexists g; iexact H
  · show (rLoc d ↦[rReg d w.val]{fullShare} r) ⊢ iprop(∃ g, rLoc d ↦[rReg d w.val]{fullShare} g)
    iintro H; iexists r; iexact H

/-- The tables after the call. -/
def gathered (d : Dev nD) : sProp 𝕄 :=
  iprop((kLoc d ↦{fullShare} m (kLoc d)) ∗ (∃ g, (gLoc d ↦{fullShare} g) ∗ ⌜∀ w : Fin 32, Placed (m (kLoc d)) w.val g⌝)
    ∗ (∃ r, (rLoc d ↦{fullShare} r) ∗ ⌜∀ w : Fin 32, Counted (m (kLoc d)) w.val r⌝))

theorem gather_parts (d : Dev nD) :
    (bigSep Finset.univ fun w : Fin 32 => iprop(∃ g, (gLoc d ↦[gReg d w.val]{fullShare} g) ∗ ⌜Placed (m (kLoc d)) w.val g⌝))
      ⊢ (iprop(∃ g, (gLoc d ↦{fullShare} g) ∗ ⌜∀ w : Fin 32, Placed (m (kLoc d)) w.val g⌝) : sProp 𝕄) := by
  refine join (Val := Elt F) (ℓ := gLoc d) (n := 32) gCl (Nat.succ_pos _) gCl_lt (fun (w : ℕ) (g : Buf (Elt F) (gLoc d)) => Placed (m (kLoc d)) w g) ?_
  intro w f g h hf
  exact placed_congr _ w f g (fun x hx => h x (mem_region.mpr hx)) hf

theorem gather_rows (d : Dev nD) :
    (bigSep Finset.univ fun w : Fin 32 => iprop(∃ g, (rLoc d ↦[rReg d w.val]{fullShare} g) ∗ ⌜Counted (m (kLoc d)) w.val g⌝))
      ⊢ (iprop(∃ g, (rLoc d ↦{fullShare} g) ∗ ⌜∀ w : Fin 32, Counted (m (kLoc d)) w.val g⌝) : sProp 𝕄) := by
  refine join (Val := Elt F) (ℓ := rLoc d) (n := 32) rCl (Nat.succ_pos _) rCl_lt (fun (w : ℕ) (g : Buf (Elt F) (rLoc d)) => Counted (m (kLoc d)) w g) ?_
  intro w f g h hf
  exact counted_congr _ w f g (fun x hx => h x (mem_region.mpr hx)) hf

theorem gather (d : Dev nD) : (bigSep Finset.univ fun c : Fin ((K (F := F)).nCore 0) => (P m).dn 0 d c) ⊢ gathered m d := by
  show (bigSep (Finset.univ : Finset (Fin 2)) fun c => bigSep Finset.univ fun s : Fin 16 => returned m d (2 * s.val + c.val)) ⊢ _
  rw [bigSep_tiles (returned m d)]
  unfold returned gathered
  rw [bigSep_sep', bigSep_sep', split kCl kCl_lt]
  refine BIClass.sep_mono (BI.Entails.refl _) (BIClass.sep_mono ?_ ?_)
  · exact gather_parts m d
  · exact gather_rows m d

theorem deal1 (d : Dev nD) (g : Buf (Elt F) (gLoc d)) (r : Buf (Elt F) (rLoc d)) (p : Buf (Elt F) (pLoc d)) (z : Buf (Elt F) (zLoc d))
    (hg : ∀ v : Fin 32, Placed (m (kLoc d)) v.val g) (hr : ∀ v : Fin 32, Counted (m (kLoc d)) v.val r) :
    (iprop((gLoc d ↦{fullShare} g) ∗ (rLoc d ↦{fullShare} r) ∗ (pLoc d ↦{fullShare} p) ∗ (zLoc d ↦{fullShare} z)) : sProp 𝕄)
      ⊢ bigSep Finset.univ fun c : Fin ((K (F := F)).nCore 1) => (P m).st 1 d c := by
  show _ ⊢ bigSep (Finset.univ : Finset (Fin 2)) fun c => bigSep Finset.univ fun s : Fin 16 => given1 m d (2 * s.val + c.val)
  have leaves : ∀ {ℓ : Loc nD τ sig} (f : Buf (Elt F) ℓ), (ℓ ↦{fullShare} f : sProp 𝕄) = bigSep Finset.univ fun w : Fin 32 => ℓ ↦{lf w.val} f := fun {ℓ} f => by
    refine (ShareLeaves.pointsTo_leaves (ℓ := ℓ) (f := f) Finset.univ 5 fullShare).trans (bigSep_congr fun w _ => ?_)
    unfold lf
    rw [dif_pos (show w.val < 2 ^ 5 from w.isLt)]
  rw [bigSep_tiles (given1 m d), leaves g, leaves r, split pCl pCl_lt, split zCl zCl_lt]
  unfold given1
  rw [bigSep_sep', bigSep_sep', bigSep_sep']
  refine BIClass.sep_mono (bigSep_mono fun w _ => ?_) (BIClass.sep_mono (bigSep_mono fun w _ => ?_) (BIClass.sep_mono (bigSep_mono fun w _ => ?_) (bigSep_mono fun w _ => ?_)))
  · show (gLoc d ↦{lf w.val} g) ⊢ iprop(∃ g, (gLoc d ↦{lf w.val} g) ∗ ⌜∀ v : Fin 32, Placed (m (kLoc d)) v.val g⌝)
    iintro H; iexists g
    isplitl [H]; · iexact H
    ipureintro; exact hg
  · show (rLoc d ↦{lf w.val} r) ⊢ iprop(∃ r, (rLoc d ↦{lf w.val} r) ∗ ⌜∀ v : Fin 32, Counted (m (kLoc d)) v.val r⌝)
    iintro H; iexists r
    isplitl [H]; · iexact H
    ipureintro; exact hr
  · show (pLoc d ↦[pReg d w.val]{fullShare} p) ⊢ iprop(∃ g, pLoc d ↦[pReg d w.val]{fullShare} g)
    iintro H; iexists p; iexact H
  · show (zLoc d ↦[zReg d w.val]{fullShare} z) ⊢ iprop(∃ g, zLoc d ↦[zReg d w.val]{fullShare} g)
    iintro H; iexists z; iexact H

theorem gather1 (d : Dev nD) : (bigSep Finset.univ fun c : Fin ((K (F := F)).nCore 1) => (P m).dn 1 d c)
    ⊢ (iprop(∃ a, (pLoc d ↦{fullShare} a) ∗ ⌜∀ w : Fin 32, SumsRow (F := F) (m (kLoc d)) w.val a⌝) : sProp 𝕄) := by
  show (bigSep (Finset.univ : Finset (Fin 2)) fun c => bigSep Finset.univ fun s : Fin 16 => returned1 m d (2 * s.val + c.val)) ⊢ _
  rw [bigSep_tiles (returned1 m d)]
  refine join (Val := Elt F) (ℓ := pLoc d) (n := 32) pCl (Nat.succ_pos _) pCl_lt (fun (w : ℕ) (g : Buf (Elt F) (pLoc d)) => SumsRow (F := F) (m (kLoc d)) w g) ?_
  intro w f g h hf
  exact sumsRow_congr _ w f g (fun x hx => h x (mem_region.mpr hx)) hf

/-! ## The host's operations -/

/-- The operations after the two calls, in order. -/
def hostOps : List (HloOp τ sig (Elt F)) :=
  [StableHlo.nullary main_cst (constant S_ .f32 0x00000000#32),
   StableHlo.binary main_v1_0 main_cst main_v2 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)),
   StableHlo.nullary main_cst_0 (constant S_ .f32 0x4AFD2000#32),
   StableHlo.unary main_cst_0 main_v3 (Host.log : (⟨S_, .f32⟩ : BufTy).Contents (Elt F) → (⟨S_, .f32⟩ : BufTy).Contents (Elt F)),
   StableHlo.nullary main_cst_1 (constant S_ .f32 0x3FB8AA3B#32),
   StableHlo.unary main_cst_1 main_v4 (broadcastInDim S_ ![] bcast_S_S_ : (⟨S_, .f32⟩ : BufTy).Contents (Elt F) → (⟨S_, .f32⟩ : BufTy).Contents (Elt F)),
   StableHlo.binary main_v3 main_v4 main_v5 (mulf : (⟨S_, .f32⟩ : BufTy).Contents (Elt F) → (⟨S_, .f32⟩ : BufTy).Contents (Elt F) → (⟨S_, .f32⟩ : BufTy).Contents (Elt F)),
   StableHlo.nullary main_cst_2 (constant S_ .f32 0x4AFD2000#32),
   StableHlo.binary main_v2 main_cst_2 main_v6 (Host.divf : (⟨S_, .f32⟩ : BufTy).Contents (Elt F) → (⟨S_, .f32⟩ : BufTy).Contents (Elt F) → (⟨S_, .f32⟩ : BufTy).Contents (Elt F)),
   StableHlo.binary main_v5 main_v6 main_v7 (subf : (⟨S_, .f32⟩ : BufTy).Contents (Elt F) → (⟨S_, .f32⟩ : BufTy).Contents (Elt F) → (⟨S_, .f32⟩ : BufTy).Contents (Elt F)),
   StableHlo.reshape main_v7 main_v8 (rfl : (.f32 : EltTy) = .f32) shapeCasts_S_S1x1]

theorem main_eq (d : Dev nD) : main (F := F) d = (K (F := F)).run d 0 >>= fun _ => (K (F := F)).run d 1 >>= fun _ => StableHlo.seq hostOps := rfl

/-- The entropy from the partial sums. -/
def hostOut (a : S32x16.Idx → Elt F .f32) : S1x1.Idx → Elt F .f32 :=
  shapeCast S1x1 (subf (mulf (Host.log (constant S_ .f32 0x4AFD2000#32)) (broadcastInDim S_ ![] bcast_S_S_ (constant S_ .f32 0x3FB8AA3B#32)))
    (Host.divf (Host.reduceAdd (a : FVec F S32x16 .f32) (constant S_ .f32 0x00000000#32) reducesTo_S32x16_S_d0_1 h_S_) (constant S_ .f32 0x4AFD2000#32))) shapeCasts_S_S1x1

/-- The buffers the host's operations write. -/
def hostR : Finset (Ref sig .tc) := {main_cst, main_v2, main_cst_0, main_v3, main_cst_1, main_v4, main_v5, main_cst_2, main_v6, main_v7, main_v8}
/-- Those and the partial sums. -/
def hostP : Finset (Ref sig .tc) := insert main_v1_0 hostR
abbrev devE : Ref sig .tc ↪ DevRef τ sig := ⟨Proc.devRef (.tc : Proc τ), Proc.devRef_injective _⟩
def hostS : Finset (DevRef τ sig) := hostP.map devE

omit [FloatOps F] in
theorem mem_hostS {b : Ref sig .tc} (h : b ∈ hostP) : Proc.devRef (.tc : Proc τ) b ∈ hostS := Finset.mem_map_of_mem devE h

theorem host_sub : ∀ op ∈ hostOps (F := F), op.bufs ⊆ hostS :=
  List.forall_mem_cons.mpr ⟨Finset.singleton_subset_iff.mpr (mem_hostS (by decide)),
    List.forall_mem_cons.mpr ⟨Finset.insert_subset (mem_hostS (by decide)) (Finset.insert_subset (mem_hostS (by decide)) (Finset.singleton_subset_iff.mpr (mem_hostS (by decide)))),
    List.forall_mem_cons.mpr ⟨Finset.singleton_subset_iff.mpr (mem_hostS (by decide)),
    List.forall_mem_cons.mpr ⟨Finset.insert_subset (mem_hostS (by decide)) (Finset.singleton_subset_iff.mpr (mem_hostS (by decide))),
    List.forall_mem_cons.mpr ⟨Finset.singleton_subset_iff.mpr (mem_hostS (by decide)),
    List.forall_mem_cons.mpr ⟨Finset.insert_subset (mem_hostS (by decide)) (Finset.singleton_subset_iff.mpr (mem_hostS (by decide))),
    List.forall_mem_cons.mpr ⟨Finset.insert_subset (mem_hostS (by decide)) (Finset.insert_subset (mem_hostS (by decide)) (Finset.singleton_subset_iff.mpr (mem_hostS (by decide)))),
    List.forall_mem_cons.mpr ⟨Finset.singleton_subset_iff.mpr (mem_hostS (by decide)),
    List.forall_mem_cons.mpr ⟨Finset.insert_subset (mem_hostS (by decide)) (Finset.insert_subset (mem_hostS (by decide)) (Finset.singleton_subset_iff.mpr (mem_hostS (by decide)))),
    List.forall_mem_cons.mpr ⟨Finset.insert_subset (mem_hostS (by decide)) (Finset.insert_subset (mem_hostS (by decide)) (Finset.singleton_subset_iff.mpr (mem_hostS (by decide)))),
    List.forall_mem_cons.mpr ⟨Finset.insert_subset (mem_hostS (by decide)) (Finset.singleton_subset_iff.mpr (mem_hostS (by decide))),
    List.forall_mem_nil _⟩⟩⟩⟩⟩⟩⟩⟩⟩⟩⟩

theorem host_fresh : ∀ op ∈ hostOps (F := F), op.fresh = ∅ :=
  List.forall_mem_cons.mpr ⟨rfl,
    List.forall_mem_cons.mpr ⟨rfl,
    List.forall_mem_cons.mpr ⟨rfl,
    List.forall_mem_cons.mpr ⟨rfl,
    List.forall_mem_cons.mpr ⟨rfl,
    List.forall_mem_cons.mpr ⟨rfl,
    List.forall_mem_cons.mpr ⟨rfl,
    List.forall_mem_cons.mpr ⟨rfl,
    List.forall_mem_cons.mpr ⟨rfl,
    List.forall_mem_cons.mpr ⟨rfl,
    List.forall_mem_cons.mpr ⟨rfl,
    List.forall_mem_nil _⟩⟩⟩⟩⟩⟩⟩⟩⟩⟩⟩

/-- The buffers before the host's operations. -/
def hostV (d : Dev nD) (a : S32x16.Idx → Elt F .f32) : Idealize.ShloMosaic.Valuation τ sig (Elt F) :=
  Function.update (fun b => m (d, b)) (Proc.devRef .tc main_v1_0) a

theorem hostV_sums (d : Dev nD) (a : S32x16.Idx → Elt F .f32) : hostV m d a (Proc.devRef .tc main_v1_0) = a := Function.update_self ..

theorem hostV_ne (d : Dev nD) (a : S32x16.Idx → Elt F .f32) {b : Ref sig .tc} (h : b ∈ hostR) : hostV m d a (Proc.devRef .tc b) = m ((SparseCore.T d).loc b) := by
  refine Function.update_of_ne (fun e => ?_) _ _
  rw [Proc.devRef_injective _ e] at h
  exact absurd h (by decide)

set_option maxHeartbeats 1000000 in
theorem host_value (V : Idealize.ShloMosaic.Valuation τ sig (Elt F)) : StableHlo.after hostOps V (Proc.devRef .tc main_v8) = hostOut (V (Proc.devRef .tc main_v1_0)) := by
  unfold hostOps
  after_results
  rfl

theorem held_host (d : Dev nD) (a : Buf (Elt F) (pLoc d)) :
    (iprop((pLoc d ↦{fullShare} a) ∗ bigSep hostR fun b => (SparseCore.T d).loc b ↦{fullShare} m ((SparseCore.T d).loc b)) : sProp 𝕄)
      ⊢ StableHlo.held (SparseCore.T d : Thread nD τ) hostS (hostV m d a) := by
  have e : (StableHlo.held (SparseCore.T d : Thread nD τ) hostS (hostV m d a) : sProp 𝕄)
      = iprop((pLoc d ↦{fullShare} hostV m d a (Proc.devRef .tc main_v1_0)) ∗ bigSep hostR fun b => (SparseCore.T d).loc b ↦{fullShare} hostV m d a (Proc.devRef .tc b)) := by
    unfold StableHlo.held hostS
    rw [bigSep_map]
    unfold hostP
    exact SparseCore.bigSep_insert' (by decide)
  rw [e]
  refine BIClass.sep_mono (Entails.of_eq ?_) (Entails.of_eq (bigSep_congr fun b hb => ?_))
  · exact congrArg (fun f => (pLoc d ↦{fullShare} f : sProp 𝕄)) (hostV_sums m d a).symm
  · exact congrArg (fun f => ((SparseCore.T d).loc b ↦{fullShare} f : sProp 𝕄)) (hostV_ne m d a hb).symm

theorem host_out (d : Dev nD) (a : Buf (Elt F) (pLoc d)) :
    (StableHlo.held (SparseCore.T d : Thread nD τ) hostS (StableHlo.after hostOps (hostV m d a)) : sProp 𝕄) ⊢ (oLoc d ↦{fullShare} (hostOut (F := F) a : Buf (Elt F) (oLoc d))) := by
  have e : StableHlo.after hostOps (hostV m d a) (Proc.devRef .tc main_v8) = hostOut (F := F) a := (host_value _).trans (congrArg hostOut (hostV_sums m d a))
  unfold StableHlo.held
  refine (bigSep_elim (mem_hostS (b := main_v8) (by decide))).trans ?_
  exact Entails.of_eq (congrArg (fun f => (oLoc d ↦{fullShare} f : sProp 𝕄)) e)

end Cert.Launch

end
-- ==== Proof.Launch.lean ====
/- The program: its two calls, the host's operations, and what a run leaves. -/
module

public import proofs.«01_k».proof.Proof.Deal

@[expose] public section

noncomputable section

namespace Cert.Launch

open Cert.KernelIdeal Cert.KernelIdeal.Gen
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Has (has)
open Cert.Phase (Debts)
open Cert.Partition Cert.Tile Cert.Regions

variable {F : FTy → Type} [FloatOps F]

local notation "𝕄" => MT nD τ sig (HIx 2) (Elt F) ℕ UU ℕ

variable (m : (ℓ : Loc nD τ sig) → Buf (Elt F) ℓ) (ρ : Dev nD → PrngReg)

/-! ## The launch -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

omit [FloatOps F] in
theorem unscopedBufs_eq (d : Dev nD) (W : (b : Ref sig .tc) → Buf (Elt F) ((d.tc : Thread nD τ).loc b)) :
    (unscopedBufs d W : sProp 𝕄) = iprop((kLoc d ↦{fullShare} W main_arg0) ∗ (gLoc d ↦{fullShare} W main_v0_0) ∗ (rLoc d ↦{fullShare} W main_v0_1)
      ∗ (pLoc d ↦{fullShare} W main_v1_0) ∗ (zLoc d ↦{fullShare} W main_v1_1) ∗ bigSep hostR fun b => (SparseCore.T d).loc b ↦{fullShare} W b) := by
  unfold unscopedBufs
  rw [show (Finset.univ.filter fun b : Ref sig .tc => ¬ b.isScoped) = insert main_arg0 (insert main_v0_0 (insert main_v0_1 (insert main_v1_0 (insert main_v1_1 hostR)))) by decide,
    SparseCore.bigSep_insert' (by decide), SparseCore.bigSep_insert' (by decide), SparseCore.bigSep_insert' (by decide), SparseCore.bigSep_insert' (by decide), SparseCore.bigSep_insert' (by decide)]

/-- What a run leaves: the keys, and the entropy of some partial sums that are the keys'. -/
def final (d : Dev nD) : sProp 𝕄 :=
  iprop((kLoc d ↦{fullShare} m (kLoc d))
    ∗ (∃ a : S32x16.Idx → Elt F .f32, ⌜∀ w : Fin 32, SumsRow (F := F) (m (kLoc d)) w.val a⌝ ∗ (oLoc d ↦{fullShare} (hostOut (F := F) a : Buf (Elt F) (oLoc d)))))

/-- A straight line of operations and nothing after it. -/
theorem wp_line (d : Dev nD) (S : Finset (DevRef τ sig)) (ops : List (HloOp τ sig (Elt F))) (hS : ∀ op ∈ ops, op.bufs ⊆ S) (hf : ∀ op ∈ ops, op.fresh = ∅)
    (V : Idealize.ShloMosaic.Valuation τ sig (Elt F)) {Q : PUnit → sProp 𝕄} :
    (iprop(boundary (SparseCore.T d : Thread nD τ) ∗ StableHlo.held (SparseCore.T d : Thread nD τ) S V
        ∗ ((boundary (SparseCore.T d : Thread nD τ) ∗ StableHlo.held (SparseCore.T d : Thread nD τ) S (StableHlo.after ops V)) -∗ Q ⟨⟩)) : sProp 𝕄)
      ⊢ wp frame (wpE ((K (F := F)).defs (D (F := F))) 𝒱 (SparseCore.T d) none) Set.univ (StableHlo.seq ops) Q := by
  rw [← bind_pure (StableHlo.seq ops)]
  iintro ⟨Hb, Hh, Hk⟩
  iapply (StableHlo.wp_seq 𝒱 none Set.univ d S Pure.pure ops hS hf V) $$ [Hb Hh]
  · isplitl [Hb] <;> iassumption
  iintro H
  rw [wp_pure]
  imodintro
  iapply Hk $$ H

/-- The host's operations. -/
theorem wp_host (d : Dev nD) (a : Buf (Elt F) (pLoc d)) {Q : PUnit → sProp 𝕄} :
    (iprop(boundary (SparseCore.T d : Thread nD τ) ∗ StableHlo.held (SparseCore.T d : Thread nD τ) hostS (hostV m d a)
        ∗ ((boundary (SparseCore.T d : Thread nD τ) ∗ (oLoc d ↦{fullShare} (hostOut (F := F) a : Buf (Elt F) (oLoc d)))) -∗ Q ⟨⟩)) : sProp 𝕄)
      ⊢ wp frame (wpE ((K (F := F)).defs (D (F := F))) 𝒱 (SparseCore.T d) none) Set.univ (StableHlo.seq hostOps) Q := by
  have h := host_out m d a
  have hl := wp_line d hostS hostOps host_sub host_fresh (hostV m d a) (Q := Q)
  generalize StableHlo.after hostOps (hostV m d a) = A at h hl
  iintro ⟨Hb, Hh, Hk⟩
  iapply hl $$ [Hb Hh Hk]
  isplitl [Hb]; · iexact Hb
  isplitl [Hh]; · iexact Hh
  iintro ⟨Hb, Hh⟩
  ihave Hh := h $$ Hh
  iapply Hk $$ [Hb Hh]
  isplitl [Hb] <;> iassumption

attribute [local irreducible] hostOps hostS hostV hostOut

/-- The two calls and the host's operations. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ final m d ∗ (K (F := F)).tcEnd d) := by
  unfold SparseCore.Cfg.tcRes SparseCore.Cfg.tcEnd
  rw [unscopedBufs_eq, main_eq]
  rw [wp_bind]
  iintro ⟨#Hctx, Hst, ⟨Hb, ⟨Hk, Hg, Hr, Hp, Hz, HR⟩, Hts, -⟩, -⟩
  iapply ((K (F := F)).wp_run (D (F := F)) 𝒱 (EH := EH) (P := P m) κ d 0) $$ [Hst Hk Hg Hr Hp Hz HR Hb Hts]
  isplitr; · iexact Hctx
  isplitl [Hst]; · iexact Hst
  isplitl [Hk Hg Hr]
  · iapply (deal m d _ _) $$ [Hk Hg Hr]
    isplitl [Hk]; · iexact Hk
    isplitl [Hg] <;> iassumption
  iintro ⟨Hst, Hdn⟩
  ihave Hdn := ((gather m d).trans (show gathered m d ⊢ iprop((kLoc d ↦{fullShare} m (kLoc d)) ∗ (∃ g, (gLoc d ↦{fullShare} g) ∗ ⌜∀ w : Fin 32, Placed (m (kLoc d)) w.val g⌝)
    ∗ (∃ r, (rLoc d ↦{fullShare} r) ∗ ⌜∀ w : Fin 32, Counted (m (kLoc d)) w.val r⌝)) from .rfl)) $$ Hdn
  icases Hdn with ⟨Hk, ⟨%g, Hg, %hg⟩, ⟨%r, Hr, %hr⟩⟩
  rw [wp_bind]
  iapply ((K (F := F)).wp_run (D (F := F)) 𝒱 (EH := EH) (P := P m) κ d 1) $$ [Hst Hk Hg Hr Hp Hz HR Hb Hts]
  isplitr; · iexact Hctx
  isplitl [Hst]; · iexact Hst
  isplitl [Hg Hr Hp Hz]
  · iapply (deal1 m d g r _ _ hg hr) $$ [Hg Hr Hp Hz]
    isplitl [Hg]; · iexact Hg
    isplitl [Hr]; · iexact Hr
    isplitl [Hp] <;> iassumption
  iintro ⟨Hst, Hdn⟩
  ihave Hdn := (gather1 m d) $$ Hdn
  icases Hdn with ⟨%a, Hp, %ha⟩
  ihave Hh := (held_host m d a) $$ [Hp HR]
  · isplitl [Hp] <;> iassumption
  iapply (wp_host m d a) $$ [Hb Hh Hst Hk Hts]
  isplitl [Hb]; · iexact Hb
  isplitl [Hh]; · iexact Hh
  iintro ⟨Hb, Hh⟩
  isplitl [Hst]; · iexact Hst
  isplitl [Hk Hh]
  · unfold final
    isplitl [Hk]; · iexact Hk
    iexists a
    isplitr
    · ipureintro; exact ha
    iexact Hh
  isplitl [Hb] <;> iassumption

def fq (d : Dev nD) (s' : Phys nD τ sig (Elt F)) : Prop :=
  s'.mem.mem (kLoc d) = m (kLoc d) ∧ ∃ a : S32x16.Idx → Elt F .f32, (∀ w : Fin 32, SumsRow (F := F) (m (kLoc d)) w.val a) ∧ s'.mem.mem (oLoc d) = (hostOut (F := F) a : Buf (Elt F) (oLoc d))

set_option maxRecDepth 16384 in
theorem hfin (d : Dev nD) (s' : Phys nD τ sig (Elt F)) : iprop(final m d ∗ SI s') ⊢ (⌜fq m d s'⌝ : sProp 𝕄) := by
  unfold final
  iintro ⟨⟨Hk, ⟨%a, %ha, Ho⟩⟩, HSI⟩
  ihave H := (persistent_entails_right (SI_pointsTo_agree (st := s') (ℓ := kLoc d) (I := Finset.univ) (q := fullShare) (f := m (kLoc d)))) $$ [HSI Hk]
  · isplitl [HSI] <;> iassumption
  icases H with ⟨%h1, HSI, -⟩
  ihave H := (SI_pointsTo_agree (st := s') (ℓ := oLoc d) (I := Finset.univ) (q := fullShare) (f := (hostOut (F := F) a : Buf (Elt F) (oLoc d)))) $$ [HSI Ho]
  · isplitl [HSI] <;> iassumption
  icases H with %h2
  ipureintro
  exact ⟨funext fun i => h1 i (Finset.mem_univ i), a, ha, funext fun i => h2 i (Finset.mem_univ i)⟩

/-- Every run ends with the keys unchanged, the entropy of partial sums that are the keys', every semaphore at zero. -/
def QC : PUnit × MemSt nD τ sig (Elt F) → Prop := fun r =>
  (∀ c : Dev nD, r.2.mem (kLoc c) = m (kLoc c) ∧ ∃ a : S32x16.Idx → Elt F .f32, (∀ w : Fin 32, SumsRow (F := F) (m (kLoc c)) w.val a) ∧ r.2.mem (oLoc c) = (hostOut (F := F) a : Buf (Elt F) (oLoc c)))
    ∧ r.2.sem = fun _ => 0

theorem run_main [∀ e, Nonempty (Elt F e)] (hgood : ∀ d, Good (m (kLoc d))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl m facts | 1 => countObl m hgood facts)
    (fun q _ => SparseCore.Cfg.VecSplit.of_plain (vecSplit m q))
    m ρ main (fun _ => iprop(emp)) (final m) (u₀ (F := F)) (sep_elim_left.trans (hu₀ m)) (hmain m ρ) (fq m) (hfin m) (QC m) (fun _ h hz => ⟨h, hz⟩)

end Cert.Launch

end
-- ==== Proof.PreValue.lean ====
/- What the precondition's function says of the keys when it is true everywhere. -/
module

public import proofs.«01_k».proof.Proof.Gen.Pre_codes_ok
public import proofs.«01_k».proof.Proof.Setup
public import Idealize.ShloMosaic.Lib.IdealHost
public import Idealize.ShloMosaic.Lib.IndicatorCount
public import Idealize.ShloMosaic.Lib.Pointwise.Reduce
public import Idealize.ShloMosaic.Lib.Pipeline.Value

@[expose] public section

noncomputable section

namespace Cert.PreValue

open Idealize.ShloMosaic
open Cert.Partition Cert.Launch

/-- Counting over the first `n` numbers, as numbers or as elements of `Fin n`. -/
theorem card_fin (P : ℕ → Prop) [DecidablePred P] (n : ℕ) : (Finset.univ.filter fun k : Fin n => P k.val).card = Nat.count P n := by
  rw [Nat.count_eq_card_filter_range, ← Finset.card_map Fin.valEmbedding]
  congr 1
  ext i
  simp only [Finset.mem_map, Finset.mem_filter, Finset.mem_univ, true_and, Fin.valEmbedding_apply, Finset.mem_range]
  constructor
  · rintro ⟨k, hk, rfl⟩; exact ⟨k.isLt, hk⟩
  · rintro ⟨h, hp⟩; exact ⟨⟨i, h⟩, hp, rfl⟩

theorem code_range {k : BitVec 32} (h0 : (0#32 : BitVec 32).toInt ≤ k.toInt) (h1 : k.toInt < (1639972864#32 : BitVec 32).toInt) :
    k.toNat < 1639972864 := by
  have e0 : (0#32 : BitVec 32).toInt = 0 := by decide
  have e1 : (1639972864#32 : BitVec 32).toInt = 1639972864 := by decide
  rw [e0] at h0
  rw [e1] at h1
  rw [BitVec.toInt_eq_toNat_cond] at h0 h1
  split_ifs at h0 h1 <;> omega

theorem room_le {n : ℕ} (hn : n ≤ 259200) (h : (BitVec.ofNat 32 n).toInt ≤ (259072#32 : BitVec 32).toInt) : n ≤ 259072 := by
  have e1 : (259072#32 : BitVec 32).toInt = 259072 := by decide
  rw [e1, BitVec.toInt_eq_toNat_cond, BitVec.toNat_ofNat] at h
  split_ifs at h <;> omega

open Cert.Pre_codes_ok Cert.Pre_codes_ok.Gen

/-- The marks of the last slice's keys of the last bin. -/
def marks (fk : IVec S8294400 32) : IVec S259200 1 :=
  cmpi .eq (andi (Host.shrsi (extractStridedSlice S259200 ![8035200] fk slices_S8294400_S259200_8035200) (broadcastInDim S259200 ![] bcast_S_S259200 (constantI S_ 32 16#32)))
    (broadcastInDim S259200 ![] bcast_S_S259200 (constantI S_ 32 31#32))) (broadcastInDim S259200 ![] bcast_S_S259200 (constantI S_ 32 31#32))

theorem marks_iff (fk : IVec S8294400 32) (k : Fin 259200) : marks fk (ValueIdx.ix1 k) = 1#1 ↔ bin (keyW fk 31 k.val) = 31 := by
  have hk := k.isLt
  have e : keyW fk 31 k.val = fk (ValueIdx.ix1 ⟨8035200 + k.val, by omega⟩) := by
    have h : 259200 * 31 + k.val < 8294400 := by omega
    unfold keyW
    rw [dif_pos h]
  rw [e]
  have hs : extractStridedSlice S259200 ![8035200] fk slices_S8294400_S259200_8035200 (ValueIdx.ix1 k) = fk (ValueIdx.ix1 ⟨8035200 + k.val, by omega⟩) :=
    extractStridedSlice_apply _ _ _ _ _ fun a => by fin_cases a; rfl
  have hm : marks fk (ValueIdx.ix1 k) = IntOp.cmpi .eq (IntOp.andi (IntOp.shrsi .host (extractStridedSlice S259200 ![8035200] fk slices_S8294400_S259200_8035200 (ValueIdx.ix1 k)) 16#32) 31#32) 31#32 := rfl
  rw [hm, hs, IntOp.cmpi_eq]
  generalize fk (ValueIdx.ix1 ⟨8035200 + k.val, by omega⟩) = v
  have hv : IntOp.shrsi .host v 16#32 = v.sshiftRight 16 := by unfold IntOp.shrsi; exact if_pos (by decide)
  rw [hv]
  change v.sshiftRight 16 &&& 31#32 = 31#32 ↔ _
  unfold bin
  constructor
  · intro h; rw [h]; rfl
  · intro h; exact BitVec.eq_of_toNat_eq h

/-- The marks' sum is the count. -/
theorem marks_sum (fk : IVec S8294400 32) (j : S_.Idx) :
    Host.reduce IntOp.addi (extui 32 (marks fk) natLt_1_32) (constantI S_ 32 0#32) reducesTo_S259200_S_d0 h_S_ j
      = BitVec.ofNat 32 (cnt (keyW fk 31) 31 259200) := by
  rw [Host.reduce_eq_fold, Shape.ReducesTo.fold_fiber_r1_a0]
  refine (IndicatorCount.fold_addi_setWidth_eq_card (w := 32) (fun k : Fin 259200 => marks fk (ValueIdx.ix1 k)) Finset.univ).trans ?_
  refine congrArg (BitVec.ofNat 32) (Eq.trans (congrArg Finset.card ?_) (card_fin (fun j => bin (keyW fk 31 j) = 31) 259200))
  exact Finset.filter_congr fun k _ => marks_iff fk k

variable {F : FTy → Type} [FloatOps F]

/-- Whether the last slice's keys of the last bin leave room. -/
def room (fk : IVec S8294400 32) : IVec S_ 1 :=
  cmpi .sle (Host.reduce IntOp.addi (extui 32 (marks fk) natLt_1_32) (constantI S_ 32 0#32) reducesTo_S259200_S_d0 h_S_) (constantI S_ 32 259072#32)

theorem room_iff (fk : IVec S8294400 32) (j : S_.Idx) (h : room fk j = 1#1) : cnt (keyW fk 31) 31 259200 ≤ 259072 := by
  have h' : IntOp.cmpi .sle (Host.reduce IntOp.addi (extui 32 (marks fk) natLt_1_32) (constantI S_ 32 0#32) reducesTo_S259200_S_d0 h_S_ j) 259072#32 = 1#1 := h
  rw [marks_sum] at h'
  exact room_le (Nat.count_le (p := fun j => bin (keyW fk 31 j) = 31) (n := 259200)) (IntOp.cmpi_sle.1 h')

theorem fn_eq (fk : IVec S8294400 32) : Cert.Pre_codes_ok.fn (F := F) fk
    = andi (andi (cmpi .sge fk (broadcastInDim S8294400 ![] bcast_S_S8294400 (constantI S_ 32 0#32)))
        (cmpi .slt fk (broadcastInDim S8294400 ![] bcast_S_S8294400 (constantI S_ 32 1639972864#32))))
      (broadcastInDim S8294400 ![] bcast_S_S8294400 (room fk)) := rfl

/-- One element of such a conjunction. -/
theorem conj_apply (fk : IVec S8294400 32) (r : IVec S_ 1) (a b : IVec S_ 32) (x : S8294400.Idx)
    (h : andi (andi (cmpi .sge fk (broadcastInDim S8294400 ![] bcast_S_S8294400 a)) (cmpi .slt fk (broadcastInDim S8294400 ![] bcast_S_S8294400 b)))
      (broadcastInDim S8294400 ![] bcast_S_S8294400 r) x = 1#1) :
    (IntOp.cmpi .sge (fk x) (a ValueIdx.ix0) = 1#1 ∧ IntOp.cmpi .slt (fk x) (b ValueIdx.ix0) = 1#1) ∧ r ValueIdx.ix0 = 1#1 := by
  have h' : IntOp.andi (IntOp.andi (IntOp.cmpi .sge (fk x) (broadcastInDim S8294400 ![] bcast_S_S8294400 a x))
      (IntOp.cmpi .slt (fk x) (broadcastInDim S8294400 ![] bcast_S_S8294400 b x))) (broadcastInDim S8294400 ![] bcast_S_S8294400 r x) = 1#1 := h
  rw [ValueIdx.broadcastInDim_scalar_apply, ValueIdx.broadcastInDim_scalar_apply, ValueIdx.broadcastInDim_scalar_apply] at h'
  obtain ⟨h1, h2⟩ := IntOp.andi_eq_one.1 h'
  exact ⟨IntOp.andi_eq_one.1 h1, h2⟩

/-- Keys the precondition admits are codes, and leave room in the last run. -/
theorem good (fk : IVec S8294400 32) (h : Cert.Pre_codes_ok.fn (F := F) fk = fun _ => 1#1) : Good fk := by
  rw [fn_eq] at h
  constructor
  · intro n hn
    have h1 := (conj_apply fk (room fk) _ _ (ValueIdx.ix1 ⟨n, hn⟩) (congrFun h _)).1
    have e : keyAt fk n = fk (ValueIdx.ix1 ⟨n, hn⟩) := by unfold keyAt; rw [dif_pos hn]
    rw [e]
    exact code_range (IntOp.cmpi_sge.1 h1.1) (IntOp.cmpi_slt.1 h1.2)
  · have h0 : 0 < 8294400 := by norm_num
    exact room_iff fk _ (conj_apply fk (room fk) _ _ (ValueIdx.ix1 ⟨0, h0⟩) (congrFun h _)).2

end Cert.PreValue

end
-- ==== Proof.Entropy.lean ====
/-
  The two forms of the entropy, over the reals: a sum over the keys, tile by tile, of the logarithm of how often the key
  occurs, and a sum over the codes of `p log p`.
-/
module

public import proofs.«01_k».proof.Proof.CountSeq

@[expose] public section

noncomputable section

namespace Cert.Entropy

open Cert.Partition (bin bin_lt)
open Cert.Seq (mine times mem_mine)

/-- The 32 tiles' keys are all keys. -/
theorem sum_mine (key : ℕ → BitVec 32) (f : ℕ → ℝ) :
    ∑ w : Fin 32, ∑ n ∈ mine key w.val, f n = ∑ n ∈ Finset.range 8294400, f n := by
  rw [Fin.sum_univ_eq_sum_range (fun w => ∑ n ∈ mine key w, f n) 32]
  exact Finset.sum_fiberwise_of_maps_to (g := fun n => bin (key n)) (fun n _ => Finset.mem_range.2 (bin_lt (key n))) f

/-- A sum over the keys of a function of the key's count, code by code. -/
theorem sum_codes (key : ℕ → BitVec 32) (B : ℕ) (hB : B < 2 ^ 32) (hk : ∀ n < 8294400, (key n).toNat < B) (g : ℕ → ℝ) :
    ∑ n ∈ Finset.range 8294400, g (times key (key n))
      = ∑ b : Fin B, (times key (BitVec.ofNat 32 b.val) : ℝ) * g (times key (BitVec.ofNat 32 b.val)) := by
  rw [Fin.sum_univ_eq_sum_range (fun b => (times key (BitVec.ofNat 32 b) : ℝ) * g (times key (BitVec.ofNat 32 b))) B,
    ← Finset.sum_fiberwise_of_maps_to (g := fun n => (key n).toNat) (t := Finset.range B) (fun n hn => Finset.mem_range.2 (hk n (Finset.mem_range.1 hn)))]
  refine Finset.sum_congr rfl fun b hb => ?_
  have hb' : b < 2 ^ 32 := lt_trans (Finset.mem_range.1 hb) hB
  have he : ∀ n, (key n).toNat = b ↔ key n = BitVec.ofNat 32 b := fun n => by
    constructor
    · intro h; refine BitVec.eq_of_toNat_eq ?_; rw [h, BitVec.toNat_ofNat, Nat.mod_eq_of_lt hb']
    · intro h; rw [h, BitVec.toNat_ofNat, Nat.mod_eq_of_lt hb']
  have hc : ∀ n ∈ (Finset.range 8294400).filter (fun n => (key n).toNat = b), g (times key (key n)) = g (times key (BitVec.ofNat 32 b)) := fun n hn => by
    rw [(he n).1 (Finset.mem_filter.1 hn).2]
  have hf : (Finset.range 8294400).filter (fun n => (key n).toNat = b) = (Finset.range 8294400).filter (fun n => key n = BitVec.ofNat 32 b) :=
    Finset.filter_congr fun n _ => he n
  have ht : ((Finset.range 8294400).filter (fun n => (key n).toNat = b)).card = times key (BitVec.ofNat 32 b) := congrArg Finset.card hf
  rw [Finset.sum_congr rfl hc, Finset.sum_const, nsmul_eq_mul, ht]

/-- A code's share of the sum `p log p`, with `log` scaled by `c`. -/
theorem share (c M : ℝ) (hM : 0 < M) (k : ℕ) :
    (k / M : ℝ) * (Real.log (if 0 < (k / M : ℝ) then (k / M : ℝ) else 1) * c) = c / M * ((k : ℝ) * Real.log k) - c * Real.log M / M * ((k : ℝ) * 1) := by
  rcases Nat.eq_zero_or_pos k with rfl | h
  · simp
  · have hk : (0 : ℝ) < k := by exact_mod_cast h
    rw [if_pos (div_pos hk hM), Real.log_div hk.ne' hM.ne']
    field_simp

/-- The two forms agree. -/
theorem entropy_eq (key : ℕ → BitVec 32) (B : ℕ) (hB : B < 2 ^ 32) (hk : ∀ n < 8294400, (key n).toNat < B) (c : ℝ) :
    Real.log 8294400 * c - (∑ w : Fin 32, ∑ n ∈ mine key w.val, Real.log (times key (key n)) * c) / 8294400
      = -∑ b : Fin B, (times key (BitVec.ofNat 32 b.val) / 8294400 : ℝ)
          * (Real.log (if 0 < (times key (BitVec.ofNat 32 b.val) / 8294400 : ℝ) then (times key (BitVec.ofNat 32 b.val) / 8294400 : ℝ) else 1) * c) := by
  have h1 : ∑ b : Fin B, (times key (BitVec.ofNat 32 b.val) : ℝ) * 1 = 8294400 := by
    rw [← sum_codes key B hB hk (fun _ => 1)]; simp
  have h2 := sum_codes key B hB hk (fun k => Real.log k)
  rw [sum_mine key (fun n => Real.log (times key (key n)) * c), ← Finset.sum_mul, h2,
    Finset.sum_congr rfl (fun b _ => share c 8294400 (by norm_num) (times key (BitVec.ofNat 32 (b : Fin B).val))),
    Finset.sum_sub_distrib, ← Finset.mul_sum, ← Finset.mul_sum, h1]
  ring

end Cert.Entropy

end
-- ==== Proof.IdealSums.lean ====
/- The counting kernel's results at the ideal instance: sums over the keys of the logarithms of their counts, and the host's entropy. -/
module

public import proofs.«01_k».proof.Proof.Launch
public import Idealize.ShloMosaic.Lib.IdealHost
public import Idealize.ShloMosaic.Lib.Pointwise.Reduce
public import Idealize.ShloMosaic.Lib.Pipeline.Value

@[expose] public section

noncomputable section

namespace Cert.IdealSums

open Idealize.ShloMosaic
open Cert.Partition Cert.Launch Cert.Count
open Cert.Hist (L16)
open Cert.KernelIdeal Cert.KernelIdeal.Gen

/-- The programs' constant for `1 / log 2`. -/
def scale : ℝ := 12102203 / 8388608

theorem scale_bits : Ideal.ofBits .f32 0x3FB8AA3B#32 = ((scale : ℝ) : EReal) := by
  unfold scale
  simp [Ideal.ofBits, Ideal.ieee, -EReal.coe_mul]; norm_num

theorem keys_bits : Ideal.ofBits .f32 0x4AFD2000#32 = ((8294400 : ℝ) : EReal) := by
  simp [Ideal.ofBits, Ideal.ieee, -EReal.coe_mul]; norm_num

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- What a count adds. -/
def weight (k : ℕ) : ℝ := Real.log k * scale

theorem weight_le_one {k : ℕ} (h : k ≤ 1) : weight k = 0 := by
  unfold weight
  obtain rfl | rfl : k = 0 ∨ k = 1 := by omega
  · simp
  · simp

theorem toInt_ofNat {k : ℕ} (h : k < 2 ^ 31) : (BitVec.ofNat 32 k).toInt = (k : ℤ) := by
  rw [BitVec.toInt_eq_toNat_cond, BitVec.toNat_ofNat]
  split_ifs <;> omega

theorem log_nat {k : ℕ} (h : 1 ≤ k) : Ideal.log (((k : ℤ) : ℝ) : EReal) = ((Real.log k : ℝ) : EReal) := by
  have hk : ¬ (((k : ℤ) : ℝ) ≤ 0) := by
    rw [Int.cast_natCast, not_le]; exact_mod_cast h
  rw [Ideal.log_coe, if_neg hk, Int.cast_natCast]

/-- One lane of what a step adds. -/
theorem term_lane (mask : IVec L16 1) (old : IVec L16 32) (u : ℕ) (x : L16.Idx) (h1 : mask x = 1 → old x = BitVec.ofNat 32 u)
    (h0 : mask x ≠ 1 → u = 0) (hlt : u < 2 ^ 31) : termVec (F := Ideal) mask old x = ((weight u : ℝ) : EReal) := by
  have e : termVec (F := Ideal) mask old x = if IntOp.andi (mask x) (IntOp.cmpi .sgt (old x) 1#32) = 1 then
      Ideal.log (((old x).toInt : ℝ) : EReal) * Ideal.ofBits .f32 0x3FB8AA3B#32 else Ideal.ofBits .f32 0x00000000#32 := rfl
  rw [e]
  by_cases hm : mask x = 1
  · have ho := h1 hm
    rw [ho]
    have h1' : (1#32 : BitVec 32).toInt = 1 := by decide
    by_cases hu : 1 < u
    · have hc : IntOp.andi (mask x) (IntOp.cmpi .sgt (BitVec.ofNat 32 u) 1#32) = 1 := by
        refine IntOp.andi_eq_one.2 ⟨hm, IntOp.cmpi_sgt.2 ?_⟩
        rw [toInt_ofNat hlt, h1']; exact_mod_cast hu
      rw [if_pos hc, toInt_ofNat hlt, log_nat hu.le, scale_bits, ← EReal.coe_mul]
      rfl
    · have hc : ¬ IntOp.andi (mask x) (IntOp.cmpi .sgt (BitVec.ofNat 32 u) 1#32) = 1 := fun h => by
        have h2 := IntOp.cmpi_sgt.1 (IntOp.andi_eq_one.1 h).2
        rw [toInt_ofNat hlt, h1'] at h2
        exact hu (by exact_mod_cast h2)
      rw [if_neg hc, Ideal.ofBits_zero_f32, weight_le_one (by omega)]
      rfl
  · have hc : ¬ IntOp.andi (mask x) (IntOp.cmpi .sgt (old x) 1#32) = 1 := fun h => hm (IntOp.andi_eq_one.1 h).1
    rw [if_neg hc, Ideal.ofBits_zero_f32, h0 hm, weight_le_one (by omega)]
    rfl

/-- The lanes are reals, and add up to the weights of the counts added. -/
theorem acc_sum {L : List ℕ} {a : FVec Ideal L16 .f32} (h : Acc (F := Ideal) L a) :
    ∃ r : Fin 16 → ℝ, (∀ l, a (ValueIdx.ix1 l) = ((r l : ℝ) : EReal)) ∧ ∑ l, r l = (L.map weight).sum := by
  induction h with
  | zero => exact ⟨fun _ => 0, fun l => Ideal.ofBits_zero_f32, by simp⟩
  | step mask old u h1 h0 hlt ha ih =>
    obtain ⟨r, hr, hs⟩ := ih
    refine ⟨fun l => r l + weight (u l), fun l => ?_, ?_⟩
    · rw [EReal.coe_add, ← hr l, ← term_lane mask old (u l) (ValueIdx.ix1 l) (h1 l) (h0 l) (hlt l)]
      rfl
    · rw [Finset.sum_add_distrib, hs, List.map_append, List.sum_append, List.map_ofFn, List.sum_ofFn, add_comm]
      rfl

/-- The host's result from the tiles' rows. -/
theorem host_out (fk : S8294400.Idx → BitVec 32) (a : S32x16.Idx → Elt Ideal .f32) (ha : ∀ w : Fin 32, SumsRow (F := Ideal) fk w.val a) (x : S1x1.Idx) :
    hostOut (F := Ideal) a x = ((Real.log 8294400 * scale
      - (∑ w : Fin 32, ∑ n ∈ Seq.mine (keyAt fk) w.val, weight (Seq.times (keyAt fk) (keyAt fk n))) / 8294400 : ℝ) : EReal) := by
  have hrow : ∀ w : Fin 32, ∃ r : Fin 16 → ℝ, (∀ l, a (ValueIdx.ix2 w l) = ((r l : ℝ) : EReal))
      ∧ ∑ l, r l = ∑ n ∈ Seq.mine (keyAt fk) w.val, weight (Seq.times (keyAt fk) (keyAt fk n)) := fun w => by
    obtain ⟨L, hL, hwt⟩ := ha w w.isLt
    obtain ⟨r, hr, hs⟩ := acc_sum hL
    exact ⟨r, hr, hs.trans (hwt weight (weight_le_one (by omega)))⟩
  choose r hr hs using hrow
  have hsum : Ideal.hostReduceAdd reducesTo_S32x16_S_d0_1 (a : S32x16.Idx → EReal) (Ideal.ofBits .f32 0x00000000#32) ValueIdx.ix0
      = ((∑ w : Fin 32, ∑ n ∈ Seq.mine (keyAt fk) w.val, weight (Seq.times (keyAt fk) (keyAt fk n)) : ℝ) : EReal) := by
    rw [Ideal.hostReduceAdd_r2_a01, Ideal.ofBits_zero_f32, zero_add, coe_sum]
    refine Finset.sum_congr rfl fun w _ => ?_
    rw [← hs w, coe_sum]
    exact Finset.sum_congr rfl fun l _ => hr w l
  have e : ∀ y : S_.Idx, (subf (mulf (Host.log (constant (F := Ideal) S_ .f32 0x4AFD2000#32)) (broadcastInDim S_ ![] bcast_S_S_ (constant (F := Ideal) S_ .f32 0x3FB8AA3B#32)))
      (Host.divf (Host.reduceAdd (a : FVec Ideal S32x16 .f32) (constant S_ .f32 0x00000000#32) reducesTo_S32x16_S_d0_1 h_S_) (constant S_ .f32 0x4AFD2000#32))) y
      = Ideal.log (Ideal.ofBits .f32 0x4AFD2000#32) * Ideal.ofBits .f32 0x3FB8AA3B#32
        - Ideal.div (Ideal.hostReduceAdd reducesTo_S32x16_S_d0_1 (a : S32x16.Idx → EReal) (Ideal.ofBits .f32 0x00000000#32) ValueIdx.ix0) (Ideal.ofBits .f32 0x4AFD2000#32) := fun y => by
    obtain rfl : y = ValueIdx.ix0 := funext fun b => b.elim0
    rfl
  have hx : hostOut (F := Ideal) a x = Ideal.log (Ideal.ofBits .f32 0x4AFD2000#32) * Ideal.ofBits .f32 0x3FB8AA3B#32
        - Ideal.div (Ideal.hostReduceAdd reducesTo_S32x16_S_d0_1 (a : S32x16.Idx → EReal) (Ideal.ofBits .f32 0x00000000#32) ValueIdx.ix0) (Ideal.ofBits .f32 0x4AFD2000#32) := by
    unfold hostOut shapeCast
    exact e _
  have hN : ¬ ((8294400 : ℝ) ≤ 0) := by norm_num
  rw [hx, hsum, keys_bits, scale_bits, Ideal.log_coe, if_neg hN, Ideal.div_coe (by norm_num), ← EReal.coe_mul, ← EReal.coe_mul, ← EReal.coe_sub]
  congr 1
  ring

end Cert.IdealSums

end
-- ==== Proof.RefValue.lean ====
/- The reference's result: the entropy of the keys' counts, code by code. -/
module

public import proofs.«01_k».proof.Proof.Gen.ReferenceIdeal.Run
public import proofs.«01_k».proof.Proof.Entropy
public import proofs.«01_k».proof.Proof.IdealSums
public import proofs.«01_k».proof.Proof.PreValue

@[expose] public section

noncomputable section

namespace Cert.RefValue

open Idealize.ShloMosaic
open Cert.Partition Cert.Launch
open Cert.IdealSums (scale)
open Cert.ReferenceIdeal Cert.ReferenceIdeal.Gen

/-- Whether a key is a code. -/
def same (fk : IVec S8294400 32) : IVec S1639972864x8294400 1 :=
  cmpi .eq (broadcastInDim S1639972864x8294400 ![0, 1] bcast_S1x8294400_S1639972864x8294400_0_1 (broadcastInDim S1x8294400 ![1] bcast_S8294400_S1x8294400_1 fk))
    (broadcastInDim S1639972864x8294400 ![0, 1] bcast_S1639972864x1_S1639972864x8294400_0_1 (broadcastInDim S1639972864x1 ![0] bcast_S1639972864_S1639972864x1_0 (iotaInDim S1639972864 32 0)))

/-- How many keys a code has. -/
def counts (fk : IVec S8294400 32) : IVec S1639972864 32 :=
  Host.reduce IntOp.addi (extui 32 (same fk) natLt_1_32) (constantI S_ 32 0#32) reducesTo_S1639972864x8294400_S1639972864_d1 h_S_

/-- The codes' shares. -/
def prob (fk : IVec S8294400 32) : FVec Ideal S1639972864 .f32 :=
  Host.divf (sitofp .f32 (counts fk)) (broadcastInDim S1639972864 ![] bcast_S_S1639972864 (constant S_ .f32 0x4AFD2000#32))

/-- The codes' summands. -/
def terms (p : FVec Ideal S1639972864 .f32) : FVec Ideal S1639972864 .f32 :=
  mulf p (mulf (Host.log (select (cmpf .ogt p (broadcastInDim S1639972864 ![] bcast_S_S1639972864 (constant S_ .f32 0x00000000#32))) p
    (broadcastInDim S1639972864 ![] bcast_S_S1639972864 (id (constant S_ .f32 0x3F800000#32))))) (broadcastInDim S1639972864 ![] bcast_S_S1639972864 (constant S_ .f32 0x3FB8AA3B#32)))

/-- The reference's result. -/
def refOut (fk : IVec S8294400 32) : FVec Ideal S1x1 .f32 :=
  shapeCast _ (Host.negf (Host.reduceAdd (terms (prob fk)) (constant S_ .f32 0x00000000#32) reducesTo_S1639972864_S_d0 h_S_)) shapeCasts_S_S1x1

theorem same_iff (fk : IVec S8294400 32) (b : Fin 1639972864) (k : Fin 8294400) :
    same fk (ValueIdx.ix2 b k) = 1#1 ↔ keyAt fk k.val = BitVec.ofNat 32 b.val := by
  have e1 : broadcastInDim S1639972864x8294400 ![0, 1] bcast_S1x8294400_S1639972864x8294400_0_1 (broadcastInDim S1x8294400 ![1] bcast_S8294400_S1x8294400_1 fk) (ValueIdx.ix2 b k)
      = fk (ValueIdx.ix1 k) := by
    refine (broadcastInDim_apply (k := ValueIdx.ix2 (0 : Fin 1) k) _ _ _ _ fun a => ?_).trans (broadcastInDim_apply _ _ _ _ _ fun a => ?_)
    · fin_cases a <;> rfl
    · fin_cases a; rfl
  have e2 : broadcastInDim S1639972864x8294400 ![0, 1] bcast_S1639972864x1_S1639972864x8294400_0_1 (broadcastInDim S1639972864x1 ![0] bcast_S1639972864_S1639972864x1_0 (iotaInDim S1639972864 32 0)) (ValueIdx.ix2 b k)
      = iotaInDim S1639972864 32 0 (ValueIdx.ix1 b) := by
    refine (broadcastInDim_apply (k := ValueIdx.ix2 b (0 : Fin 1)) _ _ _ _ fun a => ?_).trans (broadcastInDim_apply _ _ _ _ _ fun a => ?_)
    · fin_cases a <;> rfl
    · fin_cases a; rfl
  have hk : keyAt fk k.val = fk (ValueIdx.ix1 k) := by unfold keyAt; rw [dif_pos k.isLt]
  have hs : same fk (ValueIdx.ix2 b k) = IntOp.cmpi .eq (broadcastInDim S1639972864x8294400 ![0, 1] bcast_S1x8294400_S1639972864x8294400_0_1 (broadcastInDim S1x8294400 ![1] bcast_S8294400_S1x8294400_1 fk) (ValueIdx.ix2 b k))
    (broadcastInDim S1639972864x8294400 ![0, 1] bcast_S1639972864x1_S1639972864x8294400_0_1 (broadcastInDim S1639972864x1 ![0] bcast_S1639972864_S1639972864x1_0 (iotaInDim S1639972864 32 0)) (ValueIdx.ix2 b k)) := rfl
  rw [hs, e1, e2, hk, IntOp.cmpi_eq, ValueIdx.iotaInDim_apply]

/-- The number of keys that are a code. -/
def occ (fk : IVec S8294400 32) (b : ℕ) : ℕ := Seq.times (keyAt fk) (BitVec.ofNat 32 b)

theorem occ_le (fk : IVec S8294400 32) (b : ℕ) : occ fk b ≤ 8294400 := by
  have h := Finset.card_filter_le (Finset.range 8294400) (fun n => keyAt fk n = BitVec.ofNat 32 b)
  rw [Finset.card_range] at h
  unfold occ Seq.times
  exact h

theorem counts_apply (fk : IVec S8294400 32) (b : Fin 1639972864) : counts fk (ValueIdx.ix1 b) = BitVec.ofNat 32 (occ fk b.val) := by
  unfold counts
  rw [Host.reduce_eq_fold, Shape.ReducesTo.fold_fiber_r2_a1]
  refine (IndicatorCount.fold_addi_setWidth_eq_card (w := 32) (fun k : Fin 8294400 => same fk (ValueIdx.ix2 b k)) Finset.univ).trans ?_
  refine congrArg (BitVec.ofNat 32) ((congrArg Finset.card (Finset.filter_congr fun k _ => same_iff fk b k)).trans ?_)
  refine (PreValue.card_fin (fun n => keyAt fk n = BitVec.ofNat 32 b.val) 8294400).trans ?_
  rw [Nat.count_eq_card_filter_range]
  rfl

theorem prob_apply (fk : IVec S8294400 32) (b : Fin 1639972864) : prob fk (ValueIdx.ix1 b) = ((occ fk b.val / 8294400 : ℝ) : EReal) := by
  have e : prob fk (ValueIdx.ix1 b) = Ideal.div (((counts fk (ValueIdx.ix1 b)).toInt : ℝ) : EReal)
      (broadcastInDim S1639972864 ![] bcast_S_S1639972864 (constant (F := Ideal) S_ .f32 0x4AFD2000#32) (ValueIdx.ix1 b)) := rfl
  have ec : constant (F := Ideal) S_ .f32 0x4AFD2000#32 ValueIdx.ix0 = Ideal.ofBits .f32 0x4AFD2000#32 := rfl
  rw [e, ValueIdx.broadcastInDim_scalar_apply, ec, IdealSums.keys_bits, counts_apply,
    IdealSums.toInt_ofNat (lt_of_le_of_lt (occ_le fk b.val) (by norm_num)), Ideal.div_coe (by norm_num), ← EReal.coe_mul, Int.cast_natCast]
  congr 1
  ring

theorem terms_apply (p : FVec Ideal S1639972864 .f32) (x : S1639972864.Idx) (q : ℝ) (hp : p x = ((q : ℝ) : EReal)) (hq : 0 ≤ q) :
    terms p x = ((q * (Real.log (if 0 < q then q else 1) * scale) : ℝ) : EReal) := by
  have e : terms p x = p x * (Ideal.log (if Ideal.cmp .ogt (p x) (broadcastInDim S1639972864 ![] bcast_S_S1639972864 (constant (F := Ideal) S_ .f32 0x00000000#32) x) = 1 then p x
      else broadcastInDim S1639972864 ![] bcast_S_S1639972864 (id (constant (F := Ideal) S_ .f32 0x3F800000#32)) x)
        * broadcastInDim S1639972864 ![] bcast_S_S1639972864 (constant (F := Ideal) S_ .f32 0x3FB8AA3B#32) x) := rfl
  have ez : constant (F := Ideal) S_ .f32 0x00000000#32 ValueIdx.ix0 = Ideal.ofBits .f32 0x00000000#32 := rfl
  have eo : id (constant (F := Ideal) S_ .f32 0x3F800000#32) ValueIdx.ix0 = Ideal.ofBits .f32 0x3F800000#32 := rfl
  have ec : constant (F := Ideal) S_ .f32 0x3FB8AA3B#32 ValueIdx.ix0 = Ideal.ofBits .f32 0x3FB8AA3B#32 := rfl
  rw [e, ValueIdx.broadcastInDim_scalar_apply, ValueIdx.broadcastInDim_scalar_apply, ValueIdx.broadcastInDim_scalar_apply, ez, eo, ec, hp,
    Ideal.ofBits_zero_f32, Ideal.ofBits_one_f32, IdealSums.scale_bits]
  have hc : Ideal.cmp .ogt ((q : ℝ) : EReal) 0 = 1 ↔ 0 < q := by
    have : Ideal.cmp .ogt ((q : ℝ) : EReal) 0 = BitVec.ofBool (decide ((0 : EReal) < (q : EReal))) := rfl
    rw [this]
    by_cases h : 0 < q
    · have h' : (0 : EReal) < (q : EReal) := by exact_mod_cast h
      simp [h, h']
    · have h' : ¬ (0 : EReal) < (q : EReal) := by exact_mod_cast h
      simp [h, h']
  by_cases h : 0 < q
  · rw [if_pos (hc.2 h), if_pos h, Ideal.log_coe, if_neg (not_le.2 h), ← EReal.coe_mul, ← EReal.coe_mul]
  · have h1 : ¬ ((1 : ℝ) ≤ 0) := by norm_num
    rw [if_neg (fun h' => h (hc.1 h')), if_neg h, show (1 : EReal) = ((1 : ℝ) : EReal) from rfl, Ideal.log_coe, if_neg h1, ← EReal.coe_mul, ← EReal.coe_mul]

/-- A negated sum from zero, read at its index. -/
theorem neg_sum {n : ℕ} (h : (⟨1, ![n]⟩ : Shape).ReducesTo [0] S_) (t : FVec Ideal ⟨1, ![n]⟩ .f32) (f : ℕ → ℝ)
    (ht : ∀ b : Fin n, t (ValueIdx.ix1 b) = ((f b.val : ℝ) : EReal)) (y : S_.Idx) :
    Host.negf (Host.reduceAdd t (constant S_ .f32 0x00000000#32) h h_S_) y = ((-∑ b : Fin n, f b.val : ℝ) : EReal) := by
  have e : Host.negf (Host.reduceAdd t (constant S_ .f32 0x00000000#32) h h_S_) y
      = -Ideal.hostReduceAdd h t (Ideal.ofBits .f32 0x00000000#32) y := rfl
  rw [e, Ideal.hostReduceAdd_r1_a0, Ideal.ofBits_zero_f32, zero_add, EReal.coe_neg, IdealSums.coe_sum]
  exact congrArg Neg.neg (Finset.sum_congr rfl fun b _ => ht b)

/-- A code's summand, as a real. -/
def share (fk : IVec S8294400 32) (b : ℕ) : ℝ :=
  (occ fk b / 8294400 : ℝ) * (Real.log (if 0 < (occ fk b / 8294400 : ℝ) then (occ fk b / 8294400 : ℝ) else 1) * scale)

theorem share_eq (fk : IVec S8294400 32) (b : Fin 1639972864) : terms (prob fk) (ValueIdx.ix1 b) = ((share fk b.val : ℝ) : EReal) := by
  unfold share
  exact terms_apply (prob fk) (ValueIdx.ix1 b) (occ fk b.val / 8294400 : ℝ) (prob_apply fk b) (div_nonneg (Nat.cast_nonneg _) (by norm_num))

/-- The reference's result as a real. -/
theorem refOut_eq (fk : IVec S8294400 32) (x : S1x1.Idx) : refOut fk x = ((-∑ b : Fin 1639972864, share fk b.val : ℝ) : EReal) := by
  unfold refOut shapeCast
  exact neg_sum reducesTo_S1639972864_S_d0 (terms (prob fk)) (share fk) (share_eq fk) _

/-- The kernel's result is the reference's. -/
theorem value_eq (fk : IVec S8294400 32) (hg : Good fk) (a : Cert.KernelIdeal.S32x16.Idx → Elt Ideal .f32)
    (ha : ∀ w : Fin 32, SumsRow (F := Ideal) fk w.val a) : (hostOut (F := Ideal) a : S1x1.Idx → EReal) = refOut fk := by
  funext x
  rw [IdealSums.host_out fk a ha x, refOut_eq fk x]
  exact congrArg _ (Entropy.entropy_eq (keyAt fk) 1639972864 (by norm_num) hg.1 scale)

end Cert.RefValue

end
-- ==== Proof.lean ====
/- The certificate's claims: the two-call kernel's frames, the reference's frames, and their agreement over the extended reals. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Pre_codes_ok
public import proofs.«01_k».proof.Proof.Gen.ReferenceIdeal.Run
public import proofs.«01_k».proof.Proof.Launch
public import proofs.«01_k».proof.Proof.PreValue
public import proofs.«01_k».proof.Proof.RefValue
public import Idealize.ShloMosaic.Adequacy
public import Idealize.ShloMosaic.Init

@[expose] public section

noncomputable section

namespace Cert.Proof

open Idealize.ShloMosaic Idealize.SL.Sem Cert.KernelIdeal

/-- The kernel's run read at its argument and at the counters. -/
theorem frame_kernel : Cert.quiescent_Kernel := fun m ρ hpre =>
  (θ_run Cert.KernelIdeal.defs _ _).mono (fun _ h => ⟨fun c => (h.1 c).1, h.2⟩)
    (Cert.Launch.run_main (F := Bits) m ρ fun d => Cert.PreValue.good (F := Bits) _ (hpre d))

/-- The same at the extended reals. -/
theorem frame_kernelIdeal : Cert.quiescent_KernelIdeal := fun m ρ hpre =>
  (θ_run Cert.KernelIdeal.defs _ _).mono (fun _ h => ⟨fun c => (h.1 c).1, h.2⟩)
    (Cert.Launch.run_main (F := Ideal) m ρ fun d => Cert.PreValue.good (F := Ideal) _ (hpre d))

/-- The reference's run read at its argument; it declares no semaphore. -/
theorem frame_reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same under the precondition. -/
theorem frame_reference_pre : Cert.quiescent_ReferenceIdeal_pre_codes_ok := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- Both runs end with the entropy of the keys. -/
theorem algebraic : Cert.algebraic_KernelIdeal_ReferenceIdeal := by
  intro m ρ m' ρ' hpre hagree
  have hgood : ∀ d, Cert.Launch.Good (m (Cert.Launch.kLoc d)) := fun d => Cert.PreValue.good (F := Ideal) _ (hpre d)
  refine ⟨fun c => Cert.RefValue.refOut (m (Cert.Launch.kLoc c)), ?_, ?_⟩
  · refine (θ_run Cert.KernelIdeal.defs _ _).mono (fun r h c => ⟨?_, (h.1 c).1⟩) (Cert.Launch.run_main (F := Ideal) m ρ hgood)
    obtain ⟨a, ha, ho⟩ := (h.1 c).2
    exact ho.trans (Cert.RefValue.value_eq _ (hgood c) a ha)
  · refine (θ_run Cert.ReferenceIdeal.defs _ _).mono (fun r h c => ⟨((h c).1).trans ?_, (h c).2⟩) (Cert.ReferenceIdeal.Value.run (F := Ideal) m' ρ')
    exact congrArg Cert.RefValue.refOut (hagree c)

/-- All the claims. -/
theorem claim : Cert.Claim :=
  ⟨Cert.Kernel.Gen.facts, Cert.KernelIdeal.Gen.facts, Cert.ReferenceIdeal.Gen.facts, Cert.Pre_codes_ok.Gen.facts,
    frame_kernel, frame_kernelIdeal, frame_reference, frame_reference_pre, trivial, algebraic⟩

end Cert.Proof

end
